-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Sg (m : (ℓ : Loc Cert.Sg.nD Cert.Sg.τ Cert.Sg.sig) → Buf (Elt Bits) ℓ) : Prop :=
  True

def Pre_SgIdeal (m : (ℓ : Loc Cert.SgIdeal.nD Cert.SgIdeal.τ Cert.SgIdeal.sig) → Buf (Elt Ideal) ℓ) : Prop :=
  True

def Pre_SgIdeal_sg_finite [hPre_sg_finite : Cert.Pre_sg_finite.Facts] (m : (ℓ : Loc Cert.SgIdeal.nD Cert.SgIdeal.τ Cert.SgIdeal.sig) → Buf (Elt Ideal) ℓ) : Prop :=
  ∀ c : Dev Cert.SgIdeal.nD,
    (Cert.Pre_sg_finite.fn (F := Ideal) (m ((c.tc : Thread Cert.SgIdeal.nD Cert.SgIdeal.τ).loc Cert.SgIdeal.main_arg0)) (m ((c.tc : Thread Cert.SgIdeal.nD Cert.SgIdeal.τ).loc Cert.SgIdeal.main_arg1)) (m ((c.tc : Thread Cert.SgIdeal.nD Cert.SgIdeal.τ).loc Cert.SgIdeal.main_arg2)) (m ((c.tc : Thread Cert.SgIdeal.nD Cert.SgIdeal.τ).loc Cert.SgIdeal.main_arg3)) (m ((c.tc : Thread Cert.SgIdeal.nD Cert.SgIdeal.τ).loc Cert.SgIdeal.main_arg4))).1 = (fun _ => 1#1)
    ∧ (Cert.Pre_sg_finite.fn (F := Ideal) (m ((c.tc : Thread Cert.SgIdeal.nD Cert.SgIdeal.τ).loc Cert.SgIdeal.main_arg0)) (m ((c.tc : Thread Cert.SgIdeal.nD Cert.SgIdeal.τ).loc Cert.SgIdeal.main_arg1)) (m ((c.tc : Thread Cert.SgIdeal.nD Cert.SgIdeal.τ).loc Cert.SgIdeal.main_arg2)) (m ((c.tc : Thread Cert.SgIdeal.nD Cert.SgIdeal.τ).loc Cert.SgIdeal.main_arg3)) (m ((c.tc : Thread Cert.SgIdeal.nD Cert.SgIdeal.τ).loc Cert.SgIdeal.main_arg4))).2.1 = (fun _ => 1#1)
    ∧ (Cert.Pre_sg_finite.fn (F := Ideal) (m ((c.tc : Thread Cert.SgIdeal.nD Cert.SgIdeal.τ).loc Cert.SgIdeal.main_arg0)) (m ((c.tc : Thread Cert.SgIdeal.nD Cert.SgIdeal.τ).loc Cert.SgIdeal.main_arg1)) (m ((c.tc : Thread Cert.SgIdeal.nD Cert.SgIdeal.τ).loc Cert.SgIdeal.main_arg2)) (m ((c.tc : Thread Cert.SgIdeal.nD Cert.SgIdeal.τ).loc Cert.SgIdeal.main_arg3)) (m ((c.tc : Thread Cert.SgIdeal.nD Cert.SgIdeal.τ).loc Cert.SgIdeal.main_arg4))).2.2.1 = (fun _ => 1#1)
    ∧ (Cert.Pre_sg_finite.fn (F := Ideal) (m ((c.tc : Thread Cert.SgIdeal.nD Cert.SgIdeal.τ).loc Cert.SgIdeal.main_arg0)) (m ((c.tc : Thread Cert.SgIdeal.nD Cert.SgIdeal.τ).loc Cert.SgIdeal.main_arg1)) (m ((c.tc : Thread Cert.SgIdeal.nD Cert.SgIdeal.τ).loc Cert.SgIdeal.main_arg2)) (m ((c.tc : Thread Cert.SgIdeal.nD Cert.SgIdeal.τ).loc Cert.SgIdeal.main_arg3)) (m ((c.tc : Thread Cert.SgIdeal.nD Cert.SgIdeal.τ).loc Cert.SgIdeal.main_arg4))).2.2.2.1 = (fun _ => 1#1)
    ∧ (Cert.Pre_sg_finite.fn (F := Ideal) (m ((c.tc : Thread Cert.SgIdeal.nD Cert.SgIdeal.τ).loc Cert.SgIdeal.main_arg0)) (m ((c.tc : Thread Cert.SgIdeal.nD Cert.SgIdeal.τ).loc Cert.SgIdeal.main_arg1)) (m ((c.tc : Thread Cert.SgIdeal.nD Cert.SgIdeal.τ).loc Cert.SgIdeal.main_arg2)) (m ((c.tc : Thread Cert.SgIdeal.nD Cert.SgIdeal.τ).loc Cert.SgIdeal.main_arg3)) (m ((c.tc : Thread Cert.SgIdeal.nD Cert.SgIdeal.τ).loc Cert.SgIdeal.main_arg4))).2.2.2.2 = (fun _ => 1#1)

def Pre_SgRefIdeal (m : (ℓ : Loc Cert.SgRefIdeal.nD Cert.SgRefIdeal.τ Cert.SgRefIdeal.sig) → Buf (Elt Ideal) ℓ) : Prop :=
  True

def Pre_SgRefIdeal_sg_finite [hPre_sg_finite : Cert.Pre_sg_finite.Facts] (m : (ℓ : Loc Cert.SgRefIdeal.nD Cert.SgRefIdeal.τ Cert.SgRefIdeal.sig) → Buf (Elt Ideal) ℓ) : Prop :=
  ∀ c : Dev Cert.SgRefIdeal.nD,
    (Cert.Pre_sg_finite.fn (F := Ideal) (m ((c.tc : Thread Cert.SgRefIdeal.nD Cert.SgRefIdeal.τ).loc Cert.SgRefIdeal.main_arg0)) (m ((c.tc : Thread Cert.SgRefIdeal.nD Cert.SgRefIdeal.τ).loc Cert.SgRefIdeal.main_arg1)) (m ((c.tc : Thread Cert.SgRefIdeal.nD Cert.SgRefIdeal.τ).loc Cert.SgRefIdeal.main_arg2)) (m ((c.tc : Thread Cert.SgRefIdeal.nD Cert.SgRefIdeal.τ).loc Cert.SgRefIdeal.main_arg3)) (m ((c.tc : Thread Cert.SgRefIdeal.nD Cert.SgRefIdeal.τ).loc Cert.SgRefIdeal.main_arg4))).1 = (fun _ => 1#1)
    ∧ (Cert.Pre_sg_finite.fn (F := Ideal) (m ((c.tc : Thread Cert.SgRefIdeal.nD Cert.SgRefIdeal.τ).loc Cert.SgRefIdeal.main_arg0)) (m ((c.tc : Thread Cert.SgRefIdeal.nD Cert.SgRefIdeal.τ).loc Cert.SgRefIdeal.main_arg1)) (m ((c.tc : Thread Cert.SgRefIdeal.nD Cert.SgRefIdeal.τ).loc Cert.SgRefIdeal.main_arg2)) (m ((c.tc : Thread Cert.SgRefIdeal.nD Cert.SgRefIdeal.τ).loc Cert.SgRefIdeal.main_arg3)) (m ((c.tc : Thread Cert.SgRefIdeal.nD Cert.SgRefIdeal.τ).loc Cert.SgRefIdeal.main_arg4))).2.1 = (fun _ => 1#1)
    ∧ (Cert.Pre_sg_finite.fn (F := Ideal) (m ((c.tc : Thread Cert.SgRefIdeal.nD Cert.SgRefIdeal.τ).loc Cert.SgRefIdeal.main_arg0)) (m ((c.tc : Thread Cert.SgRefIdeal.nD Cert.SgRefIdeal.τ).loc Cert.SgRefIdeal.main_arg1)) (m ((c.tc : Thread Cert.SgRefIdeal.nD Cert.SgRefIdeal.τ).loc Cert.SgRefIdeal.main_arg2)) (m ((c.tc : Thread Cert.SgRefIdeal.nD Cert.SgRefIdeal.τ).loc Cert.SgRefIdeal.main_arg3)) (m ((c.tc : Thread Cert.SgRefIdeal.nD Cert.SgRefIdeal.τ).loc Cert.SgRefIdeal.main_arg4))).2.2.1 = (fun _ => 1#1)
    ∧ (Cert.Pre_sg_finite.fn (F := Ideal) (m ((c.tc : Thread Cert.SgRefIdeal.nD Cert.SgRefIdeal.τ).loc Cert.SgRefIdeal.main_arg0)) (m ((c.tc : Thread Cert.SgRefIdeal.nD Cert.SgRefIdeal.τ).loc Cert.SgRefIdeal.main_arg1)) (m ((c.tc : Thread Cert.SgRefIdeal.nD Cert.SgRefIdeal.τ).loc Cert.SgRefIdeal.main_arg2)) (m ((c.tc : Thread Cert.SgRefIdeal.nD Cert.SgRefIdeal.τ).loc Cert.SgRefIdeal.main_arg3)) (m ((c.tc : Thread Cert.SgRefIdeal.nD Cert.SgRefIdeal.τ).loc Cert.SgRefIdeal.main_arg4))).2.2.2.1 = (fun _ => 1#1)
    ∧ (Cert.Pre_sg_finite.fn (F := Ideal) (m ((c.tc : Thread Cert.SgRefIdeal.nD Cert.SgRefIdeal.τ).loc Cert.SgRefIdeal.main_arg0)) (m ((c.tc : Thread Cert.SgRefIdeal.nD Cert.SgRefIdeal.τ).loc Cert.SgRefIdeal.main_arg1)) (m ((c.tc : Thread Cert.SgRefIdeal.nD Cert.SgRefIdeal.τ).loc Cert.SgRefIdeal.main_arg2)) (m ((c.tc : Thread Cert.SgRefIdeal.nD Cert.SgRefIdeal.τ).loc Cert.SgRefIdeal.main_arg3)) (m ((c.tc : Thread Cert.SgRefIdeal.nD Cert.SgRefIdeal.τ).loc Cert.SgRefIdeal.main_arg4))).2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_dh_finite [hPre_dh_finite : Cert.Pre_dh_finite.Facts] (m : (ℓ : Loc Cert.DhIdeal.nD Cert.DhIdeal.τ Cert.DhIdeal.sig) → Buf (Elt Ideal) ℓ) : Prop :=
  ∀ c : Dev Cert.DhIdeal.nD,
    (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5))).1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5))).2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5))).2.2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5))).2.2.2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5))).2.2.2.2 = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_dh_finite [hPre_dh_finite : Cert.Pre_dh_finite.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5))).1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5))).2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5))).2.2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5))).2.2.2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5))).2.2.2.2 = (fun _ => 1#1)

def Pre_Dm (m : (ℓ : Loc Cert.Dm.nD Cert.Dm.τ Cert.Dm.sig) → Buf (Elt Bits) ℓ) : Prop :=
  True

def Pre_DmIdeal (m : (ℓ : Loc Cert.DmIdeal.nD Cert.DmIdeal.τ Cert.DmIdeal.sig) → Buf (Elt Ideal) ℓ) : Prop :=
  True

def Pre_DmIdeal_dhm_finite [hPre_dhm_finite : Cert.Pre_dhm_finite.Facts] (m : (ℓ : Loc Cert.DmIdeal.nD Cert.DmIdeal.τ Cert.DmIdeal.sig) → Buf (Elt Ideal) ℓ) : Prop :=
  ∀ c : Dev Cert.DmIdeal.nD,
    (Cert.Pre_dhm_finite.fn (F := Ideal) (m ((c.tc : Thread Cert.DmIdeal.nD Cert.DmIdeal.τ).loc Cert.DmIdeal.main_arg0)) (m ((c.tc : Thread Cert.DmIdeal.nD Cert.DmIdeal.τ).loc Cert.DmIdeal.main_arg1)) (m ((c.tc : Thread Cert.DmIdeal.nD Cert.DmIdeal.τ).loc Cert.DmIdeal.main_arg2)) (m ((c.tc : Thread Cert.DmIdeal.nD Cert.DmIdeal.τ).loc Cert.DmIdeal.main_arg3)) (m ((c.tc : Thread Cert.DmIdeal.nD Cert.DmIdeal.τ).loc Cert.DmIdeal.main_arg4))).1 = (fun _ => 1#1)
    ∧ (Cert.Pre_dhm_finite.fn (F := Ideal) (m ((c.tc : Thread Cert.DmIdeal.nD Cert.DmIdeal.τ).loc Cert.DmIdeal.main_arg0)) (m ((c.tc : Thread Cert.DmIdeal.nD Cert.DmIdeal.τ).loc Cert.DmIdeal.main_arg1)) (m ((c.tc : Thread Cert.DmIdeal.nD Cert.DmIdeal.τ).loc Cert.DmIdeal.main_arg2)) (m ((c.tc : Thread Cert.DmIdeal.nD Cert.DmIdeal.τ).loc Cert.DmIdeal.main_arg3)) (m ((c.tc : Thread Cert.DmIdeal.nD Cert.DmIdeal.τ).loc Cert.DmIdeal.main_arg4))).2.1 = (fun _ => 1#1)
    ∧ (Cert.Pre_dhm_finite.fn (F := Ideal) (m ((c.tc : Thread Cert.DmIdeal.nD Cert.DmIdeal.τ).loc Cert.DmIdeal.main_arg0)) (m ((c.tc : Thread Cert.DmIdeal.nD Cert.DmIdeal.τ).loc Cert.DmIdeal.main_arg1)) (m ((c.tc : Thread Cert.DmIdeal.nD Cert.DmIdeal.τ).loc Cert.DmIdeal.main_arg2)) (m ((c.tc : Thread Cert.DmIdeal.nD Cert.DmIdeal.τ).loc Cert.DmIdeal.main_arg3)) (m ((c.tc : Thread Cert.DmIdeal.nD Cert.DmIdeal.τ).loc Cert.DmIdeal.main_arg4))).2.2.1 = (fun _ => 1#1)
    ∧ (Cert.Pre_dhm_finite.fn (F := Ideal) (m ((c.tc : Thread Cert.DmIdeal.nD Cert.DmIdeal.τ).loc Cert.DmIdeal.main_arg0)) (m ((c.tc : Thread Cert.DmIdeal.nD Cert.DmIdeal.τ).loc Cert.DmIdeal.main_arg1)) (m ((c.tc : Thread Cert.DmIdeal.nD Cert.DmIdeal.τ).loc Cert.DmIdeal.main_arg2)) (m ((c.tc : Thread Cert.DmIdeal.nD Cert.DmIdeal.τ).loc Cert.DmIdeal.main_arg3)) (m ((c.tc : Thread Cert.DmIdeal.nD Cert.DmIdeal.τ).loc Cert.DmIdeal.main_arg4))).2.2.2 = (fun _ => 1#1)

def Pre_DmRefIdeal (m : (ℓ : Loc Cert.DmRefIdeal.nD Cert.DmRefIdeal.τ Cert.DmRefIdeal.sig) → Buf (Elt Ideal) ℓ) : Prop :=
  True

def Pre_DmRefIdeal_dhm_finite [hPre_dhm_finite : Cert.Pre_dhm_finite.Facts] (m : (ℓ : Loc Cert.DmRefIdeal.nD Cert.DmRefIdeal.τ Cert.DmRefIdeal.sig) → Buf (Elt Ideal) ℓ) : Prop :=
  ∀ c : Dev Cert.DmRefIdeal.nD,
    (Cert.Pre_dhm_finite.fn (F := Ideal) (m ((c.tc : Thread Cert.DmRefIdeal.nD Cert.DmRefIdeal.τ).loc Cert.DmRefIdeal.main_arg0)) (m ((c.tc : Thread Cert.DmRefIdeal.nD Cert.DmRefIdeal.τ).loc Cert.DmRefIdeal.main_arg1)) (m ((c.tc : Thread Cert.DmRefIdeal.nD Cert.DmRefIdeal.τ).loc Cert.DmRefIdeal.main_arg2)) (m ((c.tc : Thread Cert.DmRefIdeal.nD Cert.DmRefIdeal.τ).loc Cert.DmRefIdeal.main_arg3)) (m ((c.tc : Thread Cert.DmRefIdeal.nD Cert.DmRefIdeal.τ).loc Cert.DmRefIdeal.main_arg4))).1 = (fun _ => 1#1)
    ∧ (Cert.Pre_dhm_finite.fn (F := Ideal) (m ((c.tc : Thread Cert.DmRefIdeal.nD Cert.DmRefIdeal.τ).loc Cert.DmRefIdeal.main_arg0)) (m ((c.tc : Thread Cert.DmRefIdeal.nD Cert.DmRefIdeal.τ).loc Cert.DmRefIdeal.main_arg1)) (m ((c.tc : Thread Cert.DmRefIdeal.nD Cert.DmRefIdeal.τ).loc Cert.DmRefIdeal.main_arg2)) (m ((c.tc : Thread Cert.DmRefIdeal.nD Cert.DmRefIdeal.τ).loc Cert.DmRefIdeal.main_arg3)) (m ((c.tc : Thread Cert.DmRefIdeal.nD Cert.DmRefIdeal.τ).loc Cert.DmRefIdeal.main_arg4))).2.1 = (fun _ => 1#1)
    ∧ (Cert.Pre_dhm_finite.fn (F := Ideal) (m ((c.tc : Thread Cert.DmRefIdeal.nD Cert.DmRefIdeal.τ).loc Cert.DmRefIdeal.main_arg0)) (m ((c.tc : Thread Cert.DmRefIdeal.nD Cert.DmRefIdeal.τ).loc Cert.DmRefIdeal.main_arg1)) (m ((c.tc : Thread Cert.DmRefIdeal.nD Cert.DmRefIdeal.τ).loc Cert.DmRefIdeal.main_arg2)) (m ((c.tc : Thread Cert.DmRefIdeal.nD Cert.DmRefIdeal.τ).loc Cert.DmRefIdeal.main_arg3)) (m ((c.tc : Thread Cert.DmRefIdeal.nD Cert.DmRefIdeal.τ).loc Cert.DmRefIdeal.main_arg4))).2.2.1 = (fun _ => 1#1)
    ∧ (Cert.Pre_dhm_finite.fn (F := Ideal) (m ((c.tc : Thread Cert.DmRefIdeal.nD Cert.DmRefIdeal.τ).loc Cert.DmRefIdeal.main_arg0)) (m ((c.tc : Thread Cert.DmRefIdeal.nD Cert.DmRefIdeal.τ).loc Cert.DmRefIdeal.main_arg1)) (m ((c.tc : Thread Cert.DmRefIdeal.nD Cert.DmRefIdeal.τ).loc Cert.DmRefIdeal.main_arg2)) (m ((c.tc : Thread Cert.DmRefIdeal.nD Cert.DmRefIdeal.τ).loc Cert.DmRefIdeal.main_arg3)) (m ((c.tc : Thread Cert.DmRefIdeal.nD Cert.DmRefIdeal.τ).loc Cert.DmRefIdeal.main_arg4))).2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_ffn_finite [hPre_ffn_finite : Cert.Pre_ffn_finite.Facts] (m : (ℓ : Loc Cert.GateIdeal.nD Cert.GateIdeal.τ Cert.GateIdeal.sig) → Buf (Elt Ideal) ℓ) : Prop :=
  ∀ c : Dev Cert.GateIdeal.nD,
    (Cert.Pre_ffn_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).1 = (fun _ => 1#1)
    ∧ (Cert.Pre_ffn_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.1 = (fun _ => 1#1)
    ∧ (Cert.Pre_ffn_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.1 = (fun _ => 1#1)
    ∧ (Cert.Pre_ffn_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2.1 = (fun _ => 1#1)
    ∧ (Cert.Pre_ffn_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_ffn_finite [hPre_ffn_finite : Cert.Pre_ffn_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_ffn_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).1 = (fun _ => 1#1)
    ∧ (Cert.Pre_ffn_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.1 = (fun _ => 1#1)
    ∧ (Cert.Pre_ffn_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.1 = (fun _ => 1#1)
    ∧ (Cert.Pre_ffn_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.1 = (fun _ => 1#1)
    ∧ (Cert.Pre_ffn_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.2 = (fun _ => 1#1)

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_attnf_finite [hPre_attnf_finite : Cert.Pre_attnf_finite.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1))).1 = (fun _ => 1#1)
    ∧ (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1))).2 = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_attnf_finite [hPre_attnf_finite : Cert.Pre_attnf_finite.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1))).1 = (fun _ => 1#1)
    ∧ (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1))).2 = (fun _ => 1#1)

def Pre_SgF (m : (ℓ : Loc Cert.SgF.nD Cert.SgF.τ Cert.SgF.sig) → Buf (Elt Bits) ℓ) : Prop :=
  True

def Pre_SgFIdeal (m : (ℓ : Loc Cert.SgFIdeal.nD Cert.SgFIdeal.τ Cert.SgFIdeal.sig) → Buf (Elt Ideal) ℓ) : Prop :=
  True

def Pre_SgFRefIdeal (m : (ℓ : Loc Cert.SgFRefIdeal.nD Cert.SgFRefIdeal.τ Cert.SgFRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFIdeal_poolf_finite [hPre_poolf_finite : Cert.Pre_poolf_finite.Facts] (m : (ℓ : Loc Cert.PoolFIdeal.nD Cert.PoolFIdeal.τ Cert.PoolFIdeal.sig) → Buf (Elt Ideal) ℓ) : Prop :=
  ∀ c : Dev Cert.PoolFIdeal.nD,
    (Cert.Pre_poolf_finite.fn (F := Ideal) (m ((c.tc : Thread Cert.PoolFIdeal.nD Cert.PoolFIdeal.τ).loc Cert.PoolFIdeal.main_arg0)) (m ((c.tc : Thread Cert.PoolFIdeal.nD Cert.PoolFIdeal.τ).loc Cert.PoolFIdeal.main_arg1)) (m ((c.tc : Thread Cert.PoolFIdeal.nD Cert.PoolFIdeal.τ).loc Cert.PoolFIdeal.main_arg2))) = (fun _ => 1#1)

def Pre_PoolFRefIdeal (m : (ℓ : Loc Cert.PoolFRefIdeal.nD Cert.PoolFRefIdeal.τ Cert.PoolFRefIdeal.sig) → Buf (Elt Ideal) ℓ) : Prop :=
  True

def Pre_PoolFRefIdeal_poolf_finite [hPre_poolf_finite : Cert.Pre_poolf_finite.Facts] (m : (ℓ : Loc Cert.PoolFRefIdeal.nD Cert.PoolFRefIdeal.τ Cert.PoolFRefIdeal.sig) → Buf (Elt Ideal) ℓ) : Prop :=
  ∀ c : Dev Cert.PoolFRefIdeal.nD,
    (Cert.Pre_poolf_finite.fn (F := Ideal) (m ((c.tc : Thread Cert.PoolFRefIdeal.nD Cert.PoolFRefIdeal.τ).loc Cert.PoolFRefIdeal.main_arg0)) (m ((c.tc : Thread Cert.PoolFRefIdeal.nD Cert.PoolFRefIdeal.τ).loc Cert.PoolFRefIdeal.main_arg1)) (m ((c.tc : Thread Cert.PoolFRefIdeal.nD Cert.PoolFRefIdeal.τ).loc Cert.PoolFRefIdeal.main_arg2))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Zp (m : (ℓ : Loc Cert.Zp.nD Cert.Zp.τ Cert.Zp.sig) → Buf (Elt Bits) ℓ) : Prop :=
  True

def Pre_ZpIdeal (m : (ℓ : Loc Cert.ZpIdeal.nD Cert.ZpIdeal.τ Cert.ZpIdeal.sig) → Buf (Elt Ideal) ℓ) : Prop :=
  True

def Pre_ZpRefIdeal (m : (ℓ : Loc Cert.ZpRefIdeal.nD Cert.ZpRefIdeal.τ Cert.ZpRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_SumInto (m : (ℓ : Loc Cert.SumInto.nD Cert.SumInto.τ Cert.SumInto.sig) → Buf (Elt Bits) ℓ) : Prop :=
  True

def Pre_SumIntoIdeal (m : (ℓ : Loc Cert.SumIntoIdeal.nD Cert.SumIntoIdeal.τ Cert.SumIntoIdeal.sig) → Buf (Elt Ideal) ℓ) : Prop :=
  True

def Pre_SumIntoRefIdeal (m : (ℓ : Loc Cert.SumIntoRefIdeal.nD Cert.SumIntoRefIdeal.τ Cert.SumIntoRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Sg [hSg : Cert.Sg.Facts] : Prop :=
  ∀ (m : (ℓ : Loc Cert.Sg.nD Cert.Sg.τ Cert.Sg.sig) → Buf (Elt Bits) ℓ) (g : Dev Cert.Sg.nD → PrngReg), Pre_Sg m →
    θ_run (Cert.Sg.defs (F := Bits)) (onTc (τ := Cert.Sg.τ) (Cert.Sg.main (F := Bits))) ⟨m, fun _ => 0, g⟩ (fun r => (∀ c : Dev Cert.Sg.nD,
      r.2.mem ((c.tc : Thread Cert.Sg.nD Cert.Sg.τ).loc Cert.Sg.main_arg0) = m ((c.tc : Thread Cert.Sg.nD Cert.Sg.τ).loc Cert.Sg.main_arg0)
      ∧ r.2.mem ((c.tc : Thread Cert.Sg.nD Cert.Sg.τ).loc Cert.Sg.main_arg1) = m ((c.tc : Thread Cert.Sg.nD Cert.Sg.τ).loc Cert.Sg.main_arg1)
      ∧ r.2.mem ((c.tc : Thread Cert.Sg.nD Cert.Sg.τ).loc Cert.Sg.main_arg2) = m ((c.tc : Thread Cert.Sg.nD Cert.Sg.τ).loc Cert.Sg.main_arg2)
      ∧ r.2.mem ((c.tc : Thread Cert.Sg.nD Cert.Sg.τ).loc Cert.Sg.main_arg3) = m ((c.tc : Thread Cert.Sg.nD Cert.Sg.τ).loc Cert.Sg.main_arg3)
      ∧ r.2.mem ((c.tc : Thread Cert.Sg.nD Cert.Sg.τ).loc Cert.Sg.main_arg4) = m ((c.tc : Thread Cert.Sg.nD Cert.Sg.τ).loc Cert.Sg.main_arg4))
      ∧ r.2.sem = fun _ => 0)

def quiescent_SgIdeal [hSgIdeal : Cert.SgIdeal.Facts] : Prop :=
  ∀ (m : (ℓ : Loc Cert.SgIdeal.nD Cert.SgIdeal.τ Cert.SgIdeal.sig) → Buf (Elt Ideal) ℓ) (g : Dev Cert.SgIdeal.nD → PrngReg), Pre_SgIdeal m →
    θ_run (Cert.SgIdeal.defs (F := Ideal)) (onTc (τ := Cert.SgIdeal.τ) (Cert.SgIdeal.main (F := Ideal))) ⟨m, fun _ => 0, g⟩ (fun r => (∀ c : Dev Cert.SgIdeal.nD,
      r.2.mem ((c.tc : Thread Cert.SgIdeal.nD Cert.SgIdeal.τ).loc Cert.SgIdeal.main_arg0) = m ((c.tc : Thread Cert.SgIdeal.nD Cert.SgIdeal.τ).loc Cert.SgIdeal.main_arg0)
      ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
      ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
      ∧ r.2.mem ((c.tc : Thread Cert.SgIdeal.nD Cert.SgIdeal.τ).loc Cert.SgIdeal.main_arg3) = m ((c.tc : Thread Cert.SgIdeal.nD Cert.SgIdeal.τ).loc Cert.SgIdeal.main_arg3)
      ∧ r.2.mem ((c.tc : Thread Cert.SgIdeal.nD Cert.SgIdeal.τ).loc Cert.SgIdeal.main_arg4) = m ((c.tc : Thread Cert.SgIdeal.nD Cert.SgIdeal.τ).loc Cert.SgIdeal.main_arg4))
      ∧ r.2.sem = fun _ => 0)

def quiescent_SgIdeal_pre_sg_finite [hSgIdeal : Cert.SgIdeal.Facts] [hPre_sg_finite : Cert.Pre_sg_finite.Facts] : Prop :=
  ∀ (m : (ℓ : Loc Cert.SgIdeal.nD Cert.SgIdeal.τ Cert.SgIdeal.sig) → Buf (Elt Ideal) ℓ) (g : Dev Cert.SgIdeal.nD → PrngReg), Pre_SgIdeal_sg_finite m →
    θ_run (Cert.SgIdeal.defs (F := Ideal)) (onTc (τ := Cert.SgIdeal.τ) (Cert.SgIdeal.main (F := Ideal))) ⟨m, fun _ => 0, g⟩ (fun r => (∀ c : Dev Cert.SgIdeal.nD,
      r.2.mem ((c.tc : Thread Cert.SgIdeal.nD Cert.SgIdeal.τ).loc Cert.SgIdeal.main_arg0) = m ((c.tc : Thread Cert.SgIdeal.nD Cert.SgIdeal.τ).loc Cert.SgIdeal.main_arg0)
      ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
      ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
      ∧ r.2.mem ((c.tc : Thread Cert.SgIdeal.nD Cert.SgIdeal.τ).loc Cert.SgIdeal.main_arg3) = m ((c.tc : Thread Cert.SgIdeal.nD Cert.SgIdeal.τ).loc Cert.SgIdeal.main_arg3)
      ∧ r.2.mem ((c.tc : Thread Cert.SgIdeal.nD Cert.SgIdeal.τ).loc Cert.SgIdeal.main_arg4) = m ((c.tc : Thread Cert.SgIdeal.nD Cert.SgIdeal.τ).loc Cert.SgIdeal.main_arg4))
      ∧ r.2.sem = fun _ => 0)

def quiescent_SgRefIdeal [hSgRefIdeal : Cert.SgRefIdeal.Facts] : Prop :=
  ∀ (m : (ℓ : Loc Cert.SgRefIdeal.nD Cert.SgRefIdeal.τ Cert.SgRefIdeal.sig) → Buf (Elt Ideal) ℓ) (g : Dev Cert.SgRefIdeal.nD → PrngReg), Pre_SgRefIdeal m →
    θ_run (Cert.SgRefIdeal.defs (F := Ideal)) (onTc (τ := Cert.SgRefIdeal.τ) (Cert.SgRefIdeal.main (F := Ideal))) ⟨m, fun _ => 0, g⟩ (fun r => (∀ c : Dev Cert.SgRefIdeal.nD,
      r.2.mem ((c.tc : Thread Cert.SgRefIdeal.nD Cert.SgRefIdeal.τ).loc Cert.SgRefIdeal.main_arg0) = m ((c.tc : Thread Cert.SgRefIdeal.nD Cert.SgRefIdeal.τ).loc Cert.SgRefIdeal.main_arg0)
      ∧ r.2.mem ((c.tc : Thread Cert.SgRefIdeal.nD Cert.SgRefIdeal.τ).loc Cert.SgRefIdeal.main_arg1) = m ((c.tc : Thread Cert.SgRefIdeal.nD Cert.SgRefIdeal.τ).loc Cert.SgRefIdeal.main_arg1)
      ∧ r.2.mem ((c.tc : Thread Cert.SgRefIdeal.nD Cert.SgRefIdeal.τ).loc Cert.SgRefIdeal.main_arg2) = m ((c.tc : Thread Cert.SgRefIdeal.nD Cert.SgRefIdeal.τ).loc Cert.SgRefIdeal.main_arg2)
      ∧ r.2.mem ((c.tc : Thread Cert.SgRefIdeal.nD Cert.SgRefIdeal.τ).loc Cert.SgRefIdeal.main_arg3) = m ((c.tc : Thread Cert.SgRefIdeal.nD Cert.SgRefIdeal.τ).loc Cert.SgRefIdeal.main_arg3)
      ∧ r.2.mem ((c.tc : Thread Cert.SgRefIdeal.nD Cert.SgRefIdeal.τ).loc Cert.SgRefIdeal.main_arg4) = m ((c.tc : Thread Cert.SgRefIdeal.nD Cert.SgRefIdeal.τ).loc Cert.SgRefIdeal.main_arg4))
      ∧ r.2.sem = fun _ => 0)

def quiescent_SgRefIdeal_pre_sg_finite [hSgRefIdeal : Cert.SgRefIdeal.Facts] [hPre_sg_finite : Cert.Pre_sg_finite.Facts] : Prop :=
  ∀ (m : (ℓ : Loc Cert.SgRefIdeal.nD Cert.SgRefIdeal.τ Cert.SgRefIdeal.sig) → Buf (Elt Ideal) ℓ) (g : Dev Cert.SgRefIdeal.nD → PrngReg), Pre_SgRefIdeal_sg_finite m →
    θ_run (Cert.SgRefIdeal.defs (F := Ideal)) (onTc (τ := Cert.SgRefIdeal.τ) (Cert.SgRefIdeal.main (F := Ideal))) ⟨m, fun _ => 0, g⟩ (fun r => (∀ c : Dev Cert.SgRefIdeal.nD,
      r.2.mem ((c.tc : Thread Cert.SgRefIdeal.nD Cert.SgRefIdeal.τ).loc Cert.SgRefIdeal.main_arg0) = m ((c.tc : Thread Cert.SgRefIdeal.nD Cert.SgRefIdeal.τ).loc Cert.SgRefIdeal.main_arg0)
      ∧ r.2.mem ((c.tc : Thread Cert.SgRefIdeal.nD Cert.SgRefIdeal.τ).loc Cert.SgRefIdeal.main_arg1) = m ((c.tc : Thread Cert.SgRefIdeal.nD Cert.SgRefIdeal.τ).loc Cert.SgRefIdeal.main_arg1)
      ∧ r.2.mem ((c.tc : Thread Cert.SgRefIdeal.nD Cert.SgRefIdeal.τ).loc Cert.SgRefIdeal.main_arg2) = m ((c.tc : Thread Cert.SgRefIdeal.nD Cert.SgRefIdeal.τ).loc Cert.SgRefIdeal.main_arg2)
      ∧ r.2.mem ((c.tc : Thread Cert.SgRefIdeal.nD Cert.SgRefIdeal.τ).loc Cert.SgRefIdeal.main_arg3) = m ((c.tc : Thread Cert.SgRefIdeal.nD Cert.SgRefIdeal.τ).loc Cert.SgRefIdeal.main_arg3)
      ∧ r.2.mem ((c.tc : Thread Cert.SgRefIdeal.nD Cert.SgRefIdeal.τ).loc Cert.SgRefIdeal.main_arg4) = m ((c.tc : Thread Cert.SgRefIdeal.nD Cert.SgRefIdeal.τ).loc Cert.SgRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5))
      ∧ r.2.sem = fun _ => 0)

def quiescent_DhIdeal_pre_dh_finite [hDhIdeal : Cert.DhIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg), Pre_DhIdeal_dh_finite m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5))
      ∧ r.2.sem = fun _ => 0)

def quiescent_DhRefIdeal_pre_dh_finite [hDhRefIdeal : Cert.DhRefIdeal.Facts] [hPre_dh_finite : Cert.Pre_dh_finite.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_dh_finite m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5))
      ∧ r.2.sem = fun _ => 0)

def quiescent_Dm [hDm : Cert.Dm.Facts] : Prop :=
  ∀ (m : (ℓ : Loc Cert.Dm.nD Cert.Dm.τ Cert.Dm.sig) → Buf (Elt Bits) ℓ) (g : Dev Cert.Dm.nD → PrngReg), Pre_Dm m →
    θ_run (Cert.Dm.defs (F := Bits)) (onTc (τ := Cert.Dm.τ) (Cert.Dm.main (F := Bits))) ⟨m, fun _ => 0, g⟩ (fun r => (∀ c : Dev Cert.Dm.nD,
      r.2.mem ((c.tc : Thread Cert.Dm.nD Cert.Dm.τ).loc Cert.Dm.main_arg0) = m ((c.tc : Thread Cert.Dm.nD Cert.Dm.τ).loc Cert.Dm.main_arg0)
      ∧ r.2.mem ((c.tc : Thread Cert.Dm.nD Cert.Dm.τ).loc Cert.Dm.main_arg1) = m ((c.tc : Thread Cert.Dm.nD Cert.Dm.τ).loc Cert.Dm.main_arg1)
      ∧ r.2.mem ((c.tc : Thread Cert.Dm.nD Cert.Dm.τ).loc Cert.Dm.main_arg2) = m ((c.tc : Thread Cert.Dm.nD Cert.Dm.τ).loc Cert.Dm.main_arg2)
      ∧ r.2.mem ((c.tc : Thread Cert.Dm.nD Cert.Dm.τ).loc Cert.Dm.main_arg3) = m ((c.tc : Thread Cert.Dm.nD Cert.Dm.τ).loc Cert.Dm.main_arg3)
      ∧ r.2.mem ((c.tc : Thread Cert.Dm.nD Cert.Dm.τ).loc Cert.Dm.main_arg4) = m ((c.tc : Thread Cert.Dm.nD Cert.Dm.τ).loc Cert.Dm.main_arg4))
      ∧ r.2.sem = fun _ => 0)

def quiescent_DmIdeal [hDmIdeal : Cert.DmIdeal.Facts] : Prop :=
  ∀ (m : (ℓ : Loc Cert.DmIdeal.nD Cert.DmIdeal.τ Cert.DmIdeal.sig) → Buf (Elt Ideal) ℓ) (g : Dev Cert.DmIdeal.nD → PrngReg), Pre_DmIdeal m →
    θ_run (Cert.DmIdeal.defs (F := Ideal)) (onTc (τ := Cert.DmIdeal.τ) (Cert.DmIdeal.main (F := Ideal))) ⟨m, fun _ => 0, g⟩ (fun r => (∀ c : Dev Cert.DmIdeal.nD,
      r.2.mem ((c.tc : Thread Cert.DmIdeal.nD Cert.DmIdeal.τ).loc Cert.DmIdeal.main_arg0) = m ((c.tc : Thread Cert.DmIdeal.nD Cert.DmIdeal.τ).loc Cert.DmIdeal.main_arg0)
      ∧ r.2.mem ((c.tc : Thread Cert.DmIdeal.nD Cert.DmIdeal.τ).loc Cert.DmIdeal.main_arg1) = m ((c.tc : Thread Cert.DmIdeal.nD Cert.DmIdeal.τ).loc Cert.DmIdeal.main_arg1)
      ∧ r.2.mem ((c.tc : Thread Cert.DmIdeal.nD Cert.DmIdeal.τ).loc Cert.DmIdeal.main_arg2) = m ((c.tc : Thread Cert.DmIdeal.nD Cert.DmIdeal.τ).loc Cert.DmIdeal.main_arg2)
      ∧ r.2.mem ((c.tc : Thread Cert.DmIdeal.nD Cert.DmIdeal.τ).loc Cert.DmIdeal.main_arg3) = m ((c.tc : Thread Cert.DmIdeal.nD Cert.DmIdeal.τ).loc Cert.DmIdeal.main_arg3)
      ∧ r.2.mem ((c.tc : Thread Cert.DmIdeal.nD Cert.DmIdeal.τ).loc Cert.DmIdeal.main_arg4) = m ((c.tc : Thread Cert.DmIdeal.nD Cert.DmIdeal.τ).loc Cert.DmIdeal.main_arg4))
      ∧ r.2.sem = fun _ => 0)

def quiescent_DmIdeal_pre_dhm_finite [hDmIdeal : Cert.DmIdeal.Facts] [hPre_dhm_finite : Cert.Pre_dhm_finite.Facts] : Prop :=
  ∀ (m : (ℓ : Loc Cert.DmIdeal.nD Cert.DmIdeal.τ Cert.DmIdeal.sig) → Buf (Elt Ideal) ℓ) (g : Dev Cert.DmIdeal.nD → PrngReg), Pre_DmIdeal_dhm_finite m →
    θ_run (Cert.DmIdeal.defs (F := Ideal)) (onTc (τ := Cert.DmIdeal.τ) (Cert.DmIdeal.main (F := Ideal))) ⟨m, fun _ => 0, g⟩ (fun r => (∀ c : Dev Cert.DmIdeal.nD,
      r.2.mem ((c.tc : Thread Cert.DmIdeal.nD Cert.DmIdeal.τ).loc Cert.DmIdeal.main_arg0) = m ((c.tc : Thread Cert.DmIdeal.nD Cert.DmIdeal.τ).loc Cert.DmIdeal.main_arg0)
      ∧ r.2.mem ((c.tc : Thread Cert.DmIdeal.nD Cert.DmIdeal.τ).loc Cert.DmIdeal.main_arg1) = m ((c.tc : Thread Cert.DmIdeal.nD Cert.DmIdeal.τ).loc Cert.DmIdeal.main_arg1)
      ∧ r.2.mem ((c.tc : Thread Cert.DmIdeal.nD Cert.DmIdeal.τ).loc Cert.DmIdeal.main_arg2) = m ((c.tc : Thread Cert.DmIdeal.nD Cert.DmIdeal.τ).loc Cert.DmIdeal.main_arg2)
      ∧ r.2.mem ((c.tc : Thread Cert.DmIdeal.nD Cert.DmIdeal.τ).loc Cert.DmIdeal.main_arg3) = m ((c.tc : Thread Cert.DmIdeal.nD Cert.DmIdeal.τ).loc Cert.DmIdeal.main_arg3)
      ∧ r.2.mem ((c.tc : Thread Cert.DmIdeal.nD Cert.DmIdeal.τ).loc Cert.DmIdeal.main_arg4) = m ((c.tc : Thread Cert.DmIdeal.nD Cert.DmIdeal.τ).loc Cert.DmIdeal.main_arg4))
      ∧ r.2.sem = fun _ => 0)

def quiescent_DmRefIdeal [hDmRefIdeal : Cert.DmRefIdeal.Facts] : Prop :=
  ∀ (m : (ℓ : Loc Cert.DmRefIdeal.nD Cert.DmRefIdeal.τ Cert.DmRefIdeal.sig) → Buf (Elt Ideal) ℓ) (g : Dev Cert.DmRefIdeal.nD → PrngReg), Pre_DmRefIdeal m →
    θ_run (Cert.DmRefIdeal.defs (F := Ideal)) (onTc (τ := Cert.DmRefIdeal.τ) (Cert.DmRefIdeal.main (F := Ideal))) ⟨m, fun _ => 0, g⟩ (fun r => (∀ c : Dev Cert.DmRefIdeal.nD,
      r.2.mem ((c.tc : Thread Cert.DmRefIdeal.nD Cert.DmRefIdeal.τ).loc Cert.DmRefIdeal.main_arg0) = m ((c.tc : Thread Cert.DmRefIdeal.nD Cert.DmRefIdeal.τ).loc Cert.DmRefIdeal.main_arg0)
      ∧ r.2.mem ((c.tc : Thread Cert.DmRefIdeal.nD Cert.DmRefIdeal.τ).loc Cert.DmRefIdeal.main_arg1) = m ((c.tc : Thread Cert.DmRefIdeal.nD Cert.DmRefIdeal.τ).loc Cert.DmRefIdeal.main_arg1)
      ∧ r.2.mem ((c.tc : Thread Cert.DmRefIdeal.nD Cert.DmRefIdeal.τ).loc Cert.DmRefIdeal.main_arg2) = m ((c.tc : Thread Cert.DmRefIdeal.nD Cert.DmRefIdeal.τ).loc Cert.DmRefIdeal.main_arg2)
      ∧ r.2.mem ((c.tc : Thread Cert.DmRefIdeal.nD Cert.DmRefIdeal.τ).loc Cert.DmRefIdeal.main_arg3) = m ((c.tc : Thread Cert.DmRefIdeal.nD Cert.DmRefIdeal.τ).loc Cert.DmRefIdeal.main_arg3)
      ∧ r.2.mem ((c.tc : Thread Cert.DmRefIdeal.nD Cert.DmRefIdeal.τ).loc Cert.DmRefIdeal.main_arg4) = m ((c.tc : Thread Cert.DmRefIdeal.nD Cert.DmRefIdeal.τ).loc Cert.DmRefIdeal.main_arg4))
      ∧ r.2.sem = fun _ => 0)

def quiescent_DmRefIdeal_pre_dhm_finite [hDmRefIdeal : Cert.DmRefIdeal.Facts] [hPre_dhm_finite : Cert.Pre_dhm_finite.Facts] : Prop :=
  ∀ (m : (ℓ : Loc Cert.DmRefIdeal.nD Cert.DmRefIdeal.τ Cert.DmRefIdeal.sig) → Buf (Elt Ideal) ℓ) (g : Dev Cert.DmRefIdeal.nD → PrngReg), Pre_DmRefIdeal_dhm_finite m →
    θ_run (Cert.DmRefIdeal.defs (F := Ideal)) (onTc (τ := Cert.DmRefIdeal.τ) (Cert.DmRefIdeal.main (F := Ideal))) ⟨m, fun _ => 0, g⟩ (fun r => (∀ c : Dev Cert.DmRefIdeal.nD,
      r.2.mem ((c.tc : Thread Cert.DmRefIdeal.nD Cert.DmRefIdeal.τ).loc Cert.DmRefIdeal.main_arg0) = m ((c.tc : Thread Cert.DmRefIdeal.nD Cert.DmRefIdeal.τ).loc Cert.DmRefIdeal.main_arg0)
      ∧ r.2.mem ((c.tc : Thread Cert.DmRefIdeal.nD Cert.DmRefIdeal.τ).loc Cert.DmRefIdeal.main_arg1) = m ((c.tc : Thread Cert.DmRefIdeal.nD Cert.DmRefIdeal.τ).loc Cert.DmRefIdeal.main_arg1)
      ∧ r.2.mem ((c.tc : Thread Cert.DmRefIdeal.nD Cert.DmRefIdeal.τ).loc Cert.DmRefIdeal.main_arg2) = m ((c.tc : Thread Cert.DmRefIdeal.nD Cert.DmRefIdeal.τ).loc Cert.DmRefIdeal.main_arg2)
      ∧ r.2.mem ((c.tc : Thread Cert.DmRefIdeal.nD Cert.DmRefIdeal.τ).loc Cert.DmRefIdeal.main_arg3) = m ((c.tc : Thread Cert.DmRefIdeal.nD Cert.DmRefIdeal.τ).loc Cert.DmRefIdeal.main_arg3)
      ∧ r.2.mem ((c.tc : Thread Cert.DmRefIdeal.nD Cert.DmRefIdeal.τ).loc Cert.DmRefIdeal.main_arg4) = m ((c.tc : Thread Cert.DmRefIdeal.nD Cert.DmRefIdeal.τ).loc Cert.DmRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_ffn_finite [hGateIdeal : Cert.GateIdeal.Facts] [hPre_ffn_finite : Cert.Pre_ffn_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_ffn_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_ffn_finite [hGateRefIdeal : Cert.GateRefIdeal.Facts] [hPre_ffn_finite : Cert.Pre_ffn_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_ffn_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1))
      ∧ r.2.sem = fun _ => 0)

def quiescent_AttnFIdeal_pre_attnf_finite [hAttnFIdeal : Cert.AttnFIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_attnf_finite m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1))
      ∧ r.2.sem = fun _ => 0)

def quiescent_AttnFRefIdeal_pre_attnf_finite [hAttnFRefIdeal : Cert.AttnFRefIdeal.Facts] [hPre_attnf_finite : Cert.Pre_attnf_finite.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_attnf_finite m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1))
      ∧ r.2.sem = fun _ => 0)

def quiescent_SgF [hSgF : Cert.SgF.Facts] : Prop :=
  ∀ (m : (ℓ : Loc Cert.SgF.nD Cert.SgF.τ Cert.SgF.sig) → Buf (Elt Bits) ℓ) (g : Dev Cert.SgF.nD → PrngReg), Pre_SgF m →
    θ_run (Cert.SgF.defs (F := Bits)) (onTc (τ := Cert.SgF.τ) (Cert.SgF.main (F := Bits))) ⟨m, fun _ => 0, g⟩ (fun r => (∀ c : Dev Cert.SgF.nD,
      r.2.mem ((c.tc : Thread Cert.SgF.nD Cert.SgF.τ).loc Cert.SgF.main_arg0) = m ((c.tc : Thread Cert.SgF.nD Cert.SgF.τ).loc Cert.SgF.main_arg0)
      ∧ r.2.mem ((c.tc : Thread Cert.SgF.nD Cert.SgF.τ).loc Cert.SgF.main_arg1) = m ((c.tc : Thread Cert.SgF.nD Cert.SgF.τ).loc Cert.SgF.main_arg1)
      ∧ r.2.mem ((c.tc : Thread Cert.SgF.nD Cert.SgF.τ).loc Cert.SgF.main_arg2) = m ((c.tc : Thread Cert.SgF.nD Cert.SgF.τ).loc Cert.SgF.main_arg2)
      ∧ r.2.mem ((c.tc : Thread Cert.SgF.nD Cert.SgF.τ).loc Cert.SgF.main_arg3) = m ((c.tc : Thread Cert.SgF.nD Cert.SgF.τ).loc Cert.SgF.main_arg3))
      ∧ r.2.sem = fun _ => 0)

def quiescent_SgFIdeal [hSgFIdeal : Cert.SgFIdeal.Facts] : Prop :=
  ∀ (m : (ℓ : Loc Cert.SgFIdeal.nD Cert.SgFIdeal.τ Cert.SgFIdeal.sig) → Buf (Elt Ideal) ℓ) (g : Dev Cert.SgFIdeal.nD → PrngReg), Pre_SgFIdeal m →
    θ_run (Cert.SgFIdeal.defs (F := Ideal)) (onTc (τ := Cert.SgFIdeal.τ) (Cert.SgFIdeal.main (F := Ideal))) ⟨m, fun _ => 0, g⟩ (fun r => (∀ c : Dev Cert.SgFIdeal.nD,
      r.2.mem ((c.tc : Thread Cert.SgFIdeal.nD Cert.SgFIdeal.τ).loc Cert.SgFIdeal.main_arg0) = m ((c.tc : Thread Cert.SgFIdeal.nD Cert.SgFIdeal.τ).loc Cert.SgFIdeal.main_arg0)
      ∧ r.2.mem ((c.tc : Thread Cert.SgFIdeal.nD Cert.SgFIdeal.τ).loc Cert.SgFIdeal.main_arg1) = m ((c.tc : Thread Cert.SgFIdeal.nD Cert.SgFIdeal.τ).loc Cert.SgFIdeal.main_arg1)
      ∧ r.2.mem ((c.tc : Thread Cert.SgFIdeal.nD Cert.SgFIdeal.τ).loc Cert.SgFIdeal.main_arg2) = m ((c.tc : Thread Cert.SgFIdeal.nD Cert.SgFIdeal.τ).loc Cert.SgFIdeal.main_arg2)
      ∧ r.2.mem ((c.tc : Thread Cert.SgFIdeal.nD Cert.SgFIdeal.τ).loc Cert.SgFIdeal.main_arg3) = m ((c.tc : Thread Cert.SgFIdeal.nD Cert.SgFIdeal.τ).loc Cert.SgFIdeal.main_arg3))
      ∧ r.2.sem = fun _ => 0)

def quiescent_SgFRefIdeal [hSgFRefIdeal : Cert.SgFRefIdeal.Facts] : Prop :=
  ∀ (m : (ℓ : Loc Cert.SgFRefIdeal.nD Cert.SgFRefIdeal.τ Cert.SgFRefIdeal.sig) → Buf (Elt Ideal) ℓ) (g : Dev Cert.SgFRefIdeal.nD → PrngReg), Pre_SgFRefIdeal m →
    θ_run (Cert.SgFRefIdeal.defs (F := Ideal)) (onTc (τ := Cert.SgFRefIdeal.τ) (Cert.SgFRefIdeal.main (F := Ideal))) ⟨m, fun _ => 0, g⟩ (fun r => (∀ c : Dev Cert.SgFRefIdeal.nD,
      r.2.mem ((c.tc : Thread Cert.SgFRefIdeal.nD Cert.SgFRefIdeal.τ).loc Cert.SgFRefIdeal.main_arg0) = m ((c.tc : Thread Cert.SgFRefIdeal.nD Cert.SgFRefIdeal.τ).loc Cert.SgFRefIdeal.main_arg0)
      ∧ r.2.mem ((c.tc : Thread Cert.SgFRefIdeal.nD Cert.SgFRefIdeal.τ).loc Cert.SgFRefIdeal.main_arg1) = m ((c.tc : Thread Cert.SgFRefIdeal.nD Cert.SgFRefIdeal.τ).loc Cert.SgFRefIdeal.main_arg1)
      ∧ r.2.mem ((c.tc : Thread Cert.SgFRefIdeal.nD Cert.SgFRefIdeal.τ).loc Cert.SgFRefIdeal.main_arg2) = m ((c.tc : Thread Cert.SgFRefIdeal.nD Cert.SgFRefIdeal.τ).loc Cert.SgFRefIdeal.main_arg2)
      ∧ r.2.mem ((c.tc : Thread Cert.SgFRefIdeal.nD Cert.SgFRefIdeal.τ).loc Cert.SgFRefIdeal.main_arg3) = m ((c.tc : Thread Cert.SgFRefIdeal.nD Cert.SgFRefIdeal.τ).loc Cert.SgFRefIdeal.main_arg3))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0)
      ∧ r.2.mem ((c.tc : Thread Cert.PoolF.nD Cert.PoolF.τ).loc Cert.PoolF.main_arg1) = m ((c.tc : Thread Cert.PoolF.nD Cert.PoolF.τ).loc Cert.PoolF.main_arg1)
      ∧ r.2.mem ((c.tc : Thread Cert.PoolF.nD Cert.PoolF.τ).loc Cert.PoolF.main_arg2) = m ((c.tc : Thread Cert.PoolF.nD Cert.PoolF.τ).loc Cert.PoolF.main_arg2))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFIdeal_pre_poolf_finite [hPoolFIdeal : Cert.PoolFIdeal.Facts] [hPre_poolf_finite : Cert.Pre_poolf_finite.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal_poolf_finite m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_PoolFRefIdeal_pre_poolf_finite [hPoolFRefIdeal : Cert.PoolFRefIdeal.Facts] [hPre_poolf_finite : Cert.Pre_poolf_finite.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal_poolf_finite m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Zp [hZp : Cert.Zp.Facts] : Prop :=
  ∀ (m : (ℓ : Loc Cert.Zp.nD Cert.Zp.τ Cert.Zp.sig) → Buf (Elt Bits) ℓ) (g : Dev Cert.Zp.nD → PrngReg), Pre_Zp m →
    θ_run (Cert.Zp.defs (F := Bits)) (onTc (τ := Cert.Zp.τ) (Cert.Zp.main (F := Bits))) ⟨m, fun _ => 0, g⟩ (fun r => (∀ c : Dev Cert.Zp.nD,
      r.2.mem ((c.tc : Thread Cert.Zp.nD Cert.Zp.τ).loc Cert.Zp.main_arg0) = m ((c.tc : Thread Cert.Zp.nD Cert.Zp.τ).loc Cert.Zp.main_arg0)
      ∧ r.2.mem ((c.tc : Thread Cert.Zp.nD Cert.Zp.τ).loc Cert.Zp.main_arg1) = m ((c.tc : Thread Cert.Zp.nD Cert.Zp.τ).loc Cert.Zp.main_arg1))
      ∧ r.2.sem = fun _ => 0)

def quiescent_ZpIdeal [hZpIdeal : Cert.ZpIdeal.Facts] : Prop :=
  ∀ (m : (ℓ : Loc Cert.ZpIdeal.nD Cert.ZpIdeal.τ Cert.ZpIdeal.sig) → Buf (Elt Ideal) ℓ) (g : Dev Cert.ZpIdeal.nD → PrngReg), Pre_ZpIdeal m →
    θ_run (Cert.ZpIdeal.defs (F := Ideal)) (onTc (τ := Cert.ZpIdeal.τ) (Cert.ZpIdeal.main (F := Ideal))) ⟨m, fun _ => 0, g⟩ (fun r => (∀ c : Dev Cert.ZpIdeal.nD,
      r.2.mem ((c.tc : Thread Cert.ZpIdeal.nD Cert.ZpIdeal.τ).loc Cert.ZpIdeal.main_arg0) = m ((c.tc : Thread Cert.ZpIdeal.nD Cert.ZpIdeal.τ).loc Cert.ZpIdeal.main_arg0)
      ∧ r.2.mem ((c.tc : Thread Cert.ZpIdeal.nD Cert.ZpIdeal.τ).loc Cert.ZpIdeal.main_arg1) = m ((c.tc : Thread Cert.ZpIdeal.nD Cert.ZpIdeal.τ).loc Cert.ZpIdeal.main_arg1))
      ∧ r.2.sem = fun _ => 0)

def quiescent_ZpRefIdeal [hZpRefIdeal : Cert.ZpRefIdeal.Facts] : Prop :=
  ∀ (m : (ℓ : Loc Cert.ZpRefIdeal.nD Cert.ZpRefIdeal.τ Cert.ZpRefIdeal.sig) → Buf (Elt Ideal) ℓ) (g : Dev Cert.ZpRefIdeal.nD → PrngReg), Pre_ZpRefIdeal m →
    θ_run (Cert.ZpRefIdeal.defs (F := Ideal)) (onTc (τ := Cert.ZpRefIdeal.τ) (Cert.ZpRefIdeal.main (F := Ideal))) ⟨m, fun _ => 0, g⟩ (fun r => (∀ c : Dev Cert.ZpRefIdeal.nD,
      r.2.mem ((c.tc : Thread Cert.ZpRefIdeal.nD Cert.ZpRefIdeal.τ).loc Cert.ZpRefIdeal.main_arg0) = m ((c.tc : Thread Cert.ZpRefIdeal.nD Cert.ZpRefIdeal.τ).loc Cert.ZpRefIdeal.main_arg0)
      ∧ r.2.mem ((c.tc : Thread Cert.ZpRefIdeal.nD Cert.ZpRefIdeal.τ).loc Cert.ZpRefIdeal.main_arg1) = m ((c.tc : Thread Cert.ZpRefIdeal.nD Cert.ZpRefIdeal.τ).loc Cert.ZpRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_SumInto [hSumInto : Cert.SumInto.Facts] : Prop :=
  ∀ (m : (ℓ : Loc Cert.SumInto.nD Cert.SumInto.τ Cert.SumInto.sig) → Buf (Elt Bits) ℓ) (g : Dev Cert.SumInto.nD → PrngReg), Pre_SumInto m →
    θ_run (Cert.SumInto.defs (F := Bits)) (onTc (τ := Cert.SumInto.τ) (Cert.SumInto.main (F := Bits))) ⟨m, fun _ => 0, g⟩ (fun r => (∀ c : Dev Cert.SumInto.nD,
      r.2.mem ((c.tc : Thread Cert.SumInto.nD Cert.SumInto.τ).loc Cert.SumInto.main_arg0) = m ((c.tc : Thread Cert.SumInto.nD Cert.SumInto.τ).loc Cert.SumInto.main_arg0)
      ∧ r.2.mem ((c.tc : Thread Cert.SumInto.nD Cert.SumInto.τ).loc Cert.SumInto.main_arg1) = m ((c.tc : Thread Cert.SumInto.nD Cert.SumInto.τ).loc Cert.SumInto.main_arg1))
      ∧ r.2.sem = fun _ => 0)

def quiescent_SumIntoIdeal [hSumIntoIdeal : Cert.SumIntoIdeal.Facts] : Prop :=
  ∀ (m : (ℓ : Loc Cert.SumIntoIdeal.nD Cert.SumIntoIdeal.τ Cert.SumIntoIdeal.sig) → Buf (Elt Ideal) ℓ) (g : Dev Cert.SumIntoIdeal.nD → PrngReg), Pre_SumIntoIdeal m →
    θ_run (Cert.SumIntoIdeal.defs (F := Ideal)) (onTc (τ := Cert.SumIntoIdeal.τ) (Cert.SumIntoIdeal.main (F := Ideal))) ⟨m, fun _ => 0, g⟩ (fun r => (∀ c : Dev Cert.SumIntoIdeal.nD,
      r.2.mem ((c.tc : Thread Cert.SumIntoIdeal.nD Cert.SumIntoIdeal.τ).loc Cert.SumIntoIdeal.main_arg0) = m ((c.tc : Thread Cert.SumIntoIdeal.nD Cert.SumIntoIdeal.τ).loc Cert.SumIntoIdeal.main_arg0)
      ∧ r.2.mem ((c.tc : Thread Cert.SumIntoIdeal.nD Cert.SumIntoIdeal.τ).loc Cert.SumIntoIdeal.main_arg1) = m ((c.tc : Thread Cert.SumIntoIdeal.nD Cert.SumIntoIdeal.τ).loc Cert.SumIntoIdeal.main_arg1))
      ∧ r.2.sem = fun _ => 0)

def quiescent_SumIntoRefIdeal [hSumIntoRefIdeal : Cert.SumIntoRefIdeal.Facts] : Prop :=
  ∀ (m : (ℓ : Loc Cert.SumIntoRefIdeal.nD Cert.SumIntoRefIdeal.τ Cert.SumIntoRefIdeal.sig) → Buf (Elt Ideal) ℓ) (g : Dev Cert.SumIntoRefIdeal.nD → PrngReg), Pre_SumIntoRefIdeal m →
    θ_run (Cert.SumIntoRefIdeal.defs (F := Ideal)) (onTc (τ := Cert.SumIntoRefIdeal.τ) (Cert.SumIntoRefIdeal.main (F := Ideal))) ⟨m, fun _ => 0, g⟩ (fun r => (∀ c : Dev Cert.SumIntoRefIdeal.nD,
      r.2.mem ((c.tc : Thread Cert.SumIntoRefIdeal.nD Cert.SumIntoRefIdeal.τ).loc Cert.SumIntoRefIdeal.main_arg0) = m ((c.tc : Thread Cert.SumIntoRefIdeal.nD Cert.SumIntoRefIdeal.τ).loc Cert.SumIntoRefIdeal.main_arg0)
      ∧ r.2.mem ((c.tc : Thread Cert.SumIntoRefIdeal.nD Cert.SumIntoRefIdeal.τ).loc Cert.SumIntoRefIdeal.main_arg1) = m ((c.tc : Thread Cert.SumIntoRefIdeal.nD Cert.SumIntoRefIdeal.τ).loc Cert.SumIntoRefIdeal.main_arg1))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Sg_SgIdeal : Prop :=
  IdealRules.named_const.Statement Cert.SgIdeal.κ "inv_sqrt2" .f32 0x3F3504F3#32 (((Real.sqrt 2)⁻¹ : ℝ) : EReal)
  ∧ IdealRules.named_const.Statement Cert.SgIdeal.κ "inv_sqrt_2pi" .f32 0x3ECC422A#32 (((Real.sqrt (2 * Real.pi))⁻¹ : ℝ) : EReal)

def algebraic_SgIdeal_SgRefIdeal_pre_sg_finite [hSgIdeal : Cert.SgIdeal.Facts] [hSgRefIdeal : Cert.SgRefIdeal.Facts] [hPre_sg_finite : Cert.Pre_sg_finite.Facts] : Prop :=
  ∀ (m : (ℓ : Loc Cert.SgIdeal.nD Cert.SgIdeal.τ Cert.SgIdeal.sig) → Buf (Elt Ideal) ℓ) (g : Dev Cert.SgIdeal.nD → PrngReg)
    (m' : (ℓ : Loc Cert.SgRefIdeal.nD Cert.SgRefIdeal.τ Cert.SgRefIdeal.sig) → Buf (Elt Ideal) ℓ) (g' : Dev Cert.SgRefIdeal.nD → PrngReg), Pre_SgIdeal_sg_finite m →
    (∀ c : Dev Cert.SgIdeal.nD,
      m' ((c.tc : Thread Cert.SgRefIdeal.nD Cert.SgRefIdeal.τ).loc Cert.SgRefIdeal.main_arg0) = m ((c.tc : Thread Cert.SgIdeal.nD Cert.SgIdeal.τ).loc Cert.SgIdeal.main_arg0)
      ∧ m' ((c.tc : Thread Cert.SgRefIdeal.nD Cert.SgRefIdeal.τ).loc Cert.SgRefIdeal.main_arg1) = m ((c.tc : Thread Cert.SgIdeal.nD Cert.SgIdeal.τ).loc Cert.SgIdeal.main_arg1)
      ∧ m' ((c.tc : Thread Cert.SgRefIdeal.nD Cert.SgRefIdeal.τ).loc Cert.SgRefIdeal.main_arg2) = m ((c.tc : Thread Cert.SgIdeal.nD Cert.SgIdeal.τ).loc Cert.SgIdeal.main_arg2)
      ∧ m' ((c.tc : Thread Cert.SgRefIdeal.nD Cert.SgRefIdeal.τ).loc Cert.SgRefIdeal.main_arg3) = m ((c.tc : Thread Cert.SgIdeal.nD Cert.SgIdeal.τ).loc Cert.SgIdeal.main_arg3)
      ∧ m' ((c.tc : Thread Cert.SgRefIdeal.nD Cert.SgRefIdeal.τ).loc Cert.SgRefIdeal.main_arg4) = m ((c.tc : Thread Cert.SgIdeal.nD Cert.SgIdeal.τ).loc Cert.SgIdeal.main_arg4)) →
    ∃ (v0 : (c : Dev Cert.SgIdeal.nD) → Buf (Elt Ideal) ((c.tc : Thread Cert.SgIdeal.nD Cert.SgIdeal.τ).loc Cert.SgIdeal.main_v6_0)) (v1 : (c : Dev Cert.SgIdeal.nD) → Buf (Elt Ideal) ((c.tc : Thread Cert.SgIdeal.nD Cert.SgIdeal.τ).loc Cert.SgIdeal.main_v6_1)) (v2 : (c : Dev Cert.SgIdeal.nD) → Buf (Elt Ideal) ((c.tc : Thread Cert.SgIdeal.nD Cert.SgIdeal.τ).loc Cert.SgIdeal.main_v6_2)) (v3 : (c : Dev Cert.SgIdeal.nD) → Buf (Elt Ideal) ((c.tc : Thread Cert.SgIdeal.nD Cert.SgIdeal.τ).loc Cert.SgIdeal.main_v6_3)) (v4 : (c : Dev Cert.SgIdeal.nD) → Buf (Elt Ideal) ((c.tc : Thread Cert.SgIdeal.nD Cert.SgIdeal.τ).loc Cert.SgIdeal.main_v6_4)),
      θ_run (Cert.SgIdeal.defs (F := Ideal)) (onTc (τ := Cert.SgIdeal.τ) (Cert.SgIdeal.main (F := Ideal))) ⟨m, fun _ => 0, g⟩ (fun r => ∀ c : Dev Cert.SgIdeal.nD,
          r.2.mem ((c.tc : Thread Cert.SgIdeal.nD Cert.SgIdeal.τ).loc Cert.SgIdeal.main_v6_0) = v0 c
          ∧ r.2.mem ((c.tc : Thread Cert.SgIdeal.nD Cert.SgIdeal.τ).loc Cert.SgIdeal.main_v6_1) = v1 c
          ∧ r.2.mem ((c.tc : Thread Cert.SgIdeal.nD Cert.SgIdeal.τ).loc Cert.SgIdeal.main_v6_2) = v2 c
          ∧ r.2.mem ((c.tc : Thread Cert.SgIdeal.nD Cert.SgIdeal.τ).loc Cert.SgIdeal.main_v6_3) = v3 c
          ∧ r.2.mem ((c.tc : Thread Cert.SgIdeal.nD Cert.SgIdeal.τ).loc Cert.SgIdeal.main_v6_4) = v4 c
          ∧ r.2.mem ((c.tc : Thread Cert.SgIdeal.nD Cert.SgIdeal.τ).loc Cert.SgIdeal.main_arg0) = m ((c.tc : Thread Cert.SgIdeal.nD Cert.SgIdeal.τ).loc Cert.SgIdeal.main_arg0)
          ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
          ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
          ∧ r.2.mem ((c.tc : Thread Cert.SgIdeal.nD Cert.SgIdeal.τ).loc Cert.SgIdeal.main_arg3) = m ((c.tc : Thread Cert.SgIdeal.nD Cert.SgIdeal.τ).loc Cert.SgIdeal.main_arg3)
          ∧ r.2.mem ((c.tc : Thread Cert.SgIdeal.nD Cert.SgIdeal.τ).loc Cert.SgIdeal.main_arg4) = m ((c.tc : Thread Cert.SgIdeal.nD Cert.SgIdeal.τ).loc Cert.SgIdeal.main_arg4))
      ∧ θ_run (Cert.SgRefIdeal.defs (F := Ideal)) (onTc (τ := Cert.SgRefIdeal.τ) (Cert.SgRefIdeal.main (F := Ideal))) ⟨m', fun _ => 0, g'⟩ (fun r => ∀ c : Dev Cert.SgRefIdeal.nD,
          r.2.mem ((c.tc : Thread Cert.SgRefIdeal.nD Cert.SgRefIdeal.τ).loc Cert.SgRefIdeal.main_v118) = v0 c
          ∧ r.2.mem ((c.tc : Thread Cert.SgRefIdeal.nD Cert.SgRefIdeal.τ).loc Cert.SgRefIdeal.main_v120) = v1 c
          ∧ r.2.mem ((c.tc : Thread Cert.SgRefIdeal.nD Cert.SgRefIdeal.τ).loc Cert.SgRefIdeal.main_v75) = v2 c
          ∧ r.2.mem ((c.tc : Thread Cert.SgRefIdeal.nD Cert.SgRefIdeal.τ).loc Cert.SgRefIdeal.main_v122) = v3 c
          ∧ r.2.mem ((c.tc : Thread Cert.SgRefIdeal.nD Cert.SgRefIdeal.τ).loc Cert.SgRefIdeal.main_v123) = v4 c
          ∧ r.2.mem ((c.tc : Thread Cert.SgRefIdeal.nD Cert.SgRefIdeal.τ).loc Cert.SgRefIdeal.main_arg0) = m' ((c.tc : Thread Cert.SgRefIdeal.nD Cert.SgRefIdeal.τ).loc Cert.SgRefIdeal.main_arg0)
          ∧ r.2.mem ((c.tc : Thread Cert.SgRefIdeal.nD Cert.SgRefIdeal.τ).loc Cert.SgRefIdeal.main_arg1) = m' ((c.tc : Thread Cert.SgRefIdeal.nD Cert.SgRefIdeal.τ).loc Cert.SgRefIdeal.main_arg1)
          ∧ r.2.mem ((c.tc : Thread Cert.SgRefIdeal.nD Cert.SgRefIdeal.τ).loc Cert.SgRefIdeal.main_arg2) = m' ((c.tc : Thread Cert.SgRefIdeal.nD Cert.SgRefIdeal.τ).loc Cert.SgRefIdeal.main_arg2)
          ∧ r.2.mem ((c.tc : Thread Cert.SgRefIdeal.nD Cert.SgRefIdeal.τ).loc Cert.SgRefIdeal.main_arg3) = m' ((c.tc : Thread Cert.SgRefIdeal.nD Cert.SgRefIdeal.τ).loc Cert.SgRefIdeal.main_arg3)
          ∧ r.2.mem ((c.tc : Thread Cert.SgRefIdeal.nD Cert.SgRefIdeal.τ).loc Cert.SgRefIdeal.main_arg4) = m' ((c.tc : Thread Cert.SgRefIdeal.nD Cert.SgRefIdeal.τ).loc Cert.SgRefIdeal.main_arg4))

def preserves_Attn_AttnIdeal : Prop :=
  IdealRules.named_const.Statement Cert.AttnIdeal.κ "s" .f32 0x3DB504F3#32 (((Real.sqrt 128)⁻¹ : ℝ) : EReal)
  ∧ IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v47_0)) (v1 : (c : Dev Cert.AttnIdeal.nD) → Buf (Elt Ideal) ((c.tc : Thread Cert.AttnIdeal.nD Cert.AttnIdeal.τ).loc Cert.AttnIdeal.main_v47_1)) (v2 : (c : Dev Cert.AttnIdeal.nD) → Buf (Elt Ideal) ((c.tc : Thread Cert.AttnIdeal.nD Cert.AttnIdeal.τ).loc Cert.AttnIdeal.main_v47_2)) (v3 : (c : Dev Cert.AttnIdeal.nD) → Buf (Elt Ideal) ((c.tc : Thread Cert.AttnIdeal.nD Cert.AttnIdeal.τ).loc Cert.AttnIdeal.main_v92)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v47_0) = v0 c
          ∧ r.2.mem ((c.tc : Thread Cert.AttnIdeal.nD Cert.AttnIdeal.τ).loc Cert.AttnIdeal.main_v47_1) = v1 c
          ∧ r.2.mem ((c.tc : Thread Cert.AttnIdeal.nD Cert.AttnIdeal.τ).loc Cert.AttnIdeal.main_v47_2) = v2 c
          ∧ r.2.mem ((c.tc : Thread Cert.AttnIdeal.nD Cert.AttnIdeal.τ).loc Cert.AttnIdeal.main_v92) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v143) = v0 c
          ∧ r.2.mem ((c.tc : Thread Cert.AttnRefIdeal.nD Cert.AttnRefIdeal.τ).loc Cert.AttnRefIdeal.main_v145) = v1 c
          ∧ r.2.mem ((c.tc : Thread Cert.AttnRefIdeal.nD Cert.AttnRefIdeal.τ).loc Cert.AttnRefIdeal.main_v147) = v2 c
          ∧ r.2.mem ((c.tc : Thread Cert.AttnRefIdeal.nD Cert.AttnRefIdeal.τ).loc Cert.AttnRefIdeal.main_v141) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Dh_DhIdeal : Prop :=
  True

def algebraic_DhIdeal_DhRefIdeal_pre_dh_finite [hDhIdeal : Cert.DhIdeal.Facts] [hDhRefIdeal : Cert.DhRefIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_dh_finite m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)) →
    ∃ (v0 : (c : Dev Cert.DhIdeal.nD) → Buf (Elt Ideal) ((c.tc : Thread Cert.DhIdeal.nD Cert.DhIdeal.τ).loc Cert.DhIdeal.main_v7_0)) (v1 : (c : Dev Cert.DhIdeal.nD) → Buf (Elt Ideal) ((c.tc : Thread Cert.DhIdeal.nD Cert.DhIdeal.τ).loc Cert.DhIdeal.main_v7_1)) (v2 : (c : Dev Cert.DhIdeal.nD) → Buf (Elt Ideal) ((c.tc : Thread Cert.DhIdeal.nD Cert.DhIdeal.τ).loc Cert.DhIdeal.main_v7_2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v7_0) = v0 c
          ∧ r.2.mem ((c.tc : Thread Cert.DhIdeal.nD Cert.DhIdeal.τ).loc Cert.DhIdeal.main_v7_1) = v1 c
          ∧ r.2.mem ((c.tc : Thread Cert.DhIdeal.nD Cert.DhIdeal.τ).loc Cert.DhIdeal.main_v7_2) = v2 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v46) = v0 c
          ∧ r.2.mem ((c.tc : Thread Cert.DhRefIdeal.nD Cert.DhRefIdeal.τ).loc Cert.DhRefIdeal.main_v47) = v1 c
          ∧ r.2.mem ((c.tc : Thread Cert.DhRefIdeal.nD Cert.DhRefIdeal.τ).loc Cert.DhRefIdeal.main_v48) = v2 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5))

def preserves_Dm_DmIdeal : Prop :=
  True

def algebraic_DmIdeal_DmRefIdeal_pre_dhm_finite [hDmIdeal : Cert.DmIdeal.Facts] [hDmRefIdeal : Cert.DmRefIdeal.Facts] [hPre_dhm_finite : Cert.Pre_dhm_finite.Facts] : Prop :=
  ∀ (m : (ℓ : Loc Cert.DmIdeal.nD Cert.DmIdeal.τ Cert.DmIdeal.sig) → Buf (Elt Ideal) ℓ) (g : Dev Cert.DmIdeal.nD → PrngReg)
    (m' : (ℓ : Loc Cert.DmRefIdeal.nD Cert.DmRefIdeal.τ Cert.DmRefIdeal.sig) → Buf (Elt Ideal) ℓ) (g' : Dev Cert.DmRefIdeal.nD → PrngReg), Pre_DmIdeal_dhm_finite m →
    (∀ c : Dev Cert.DmIdeal.nD,
      m' ((c.tc : Thread Cert.DmRefIdeal.nD Cert.DmRefIdeal.τ).loc Cert.DmRefIdeal.main_arg0) = m ((c.tc : Thread Cert.DmIdeal.nD Cert.DmIdeal.τ).loc Cert.DmIdeal.main_arg0)
      ∧ m' ((c.tc : Thread Cert.DmRefIdeal.nD Cert.DmRefIdeal.τ).loc Cert.DmRefIdeal.main_arg1) = m ((c.tc : Thread Cert.DmIdeal.nD Cert.DmIdeal.τ).loc Cert.DmIdeal.main_arg1)
      ∧ m' ((c.tc : Thread Cert.DmRefIdeal.nD Cert.DmRefIdeal.τ).loc Cert.DmRefIdeal.main_arg2) = m ((c.tc : Thread Cert.DmIdeal.nD Cert.DmIdeal.τ).loc Cert.DmIdeal.main_arg2)
      ∧ m' ((c.tc : Thread Cert.DmRefIdeal.nD Cert.DmRefIdeal.τ).loc Cert.DmRefIdeal.main_arg3) = m ((c.tc : Thread Cert.DmIdeal.nD Cert.DmIdeal.τ).loc Cert.DmIdeal.main_arg3)
      ∧ m' ((c.tc : Thread Cert.DmRefIdeal.nD Cert.DmRefIdeal.τ).loc Cert.DmRefIdeal.main_arg4) = m ((c.tc : Thread Cert.DmIdeal.nD Cert.DmIdeal.τ).loc Cert.DmIdeal.main_arg4)) →
    ∃ (v0 : (c : Dev Cert.DmIdeal.nD) → Buf (Elt Ideal) ((c.tc : Thread Cert.DmIdeal.nD Cert.DmIdeal.τ).loc Cert.DmIdeal.main_v5_0)) (v1 : (c : Dev Cert.DmIdeal.nD) → Buf (Elt Ideal) ((c.tc : Thread Cert.DmIdeal.nD Cert.DmIdeal.τ).loc Cert.DmIdeal.main_v5_1)) (v2 : (c : Dev Cert.DmIdeal.nD) → Buf (Elt Ideal) ((c.tc : Thread Cert.DmIdeal.nD Cert.DmIdeal.τ).loc Cert.DmIdeal.main_v5_2)),
      θ_run (Cert.DmIdeal.defs (F := Ideal)) (onTc (τ := Cert.DmIdeal.τ) (Cert.DmIdeal.main (F := Ideal))) ⟨m, fun _ => 0, g⟩ (fun r => ∀ c : Dev Cert.DmIdeal.nD,
          r.2.mem ((c.tc : Thread Cert.DmIdeal.nD Cert.DmIdeal.τ).loc Cert.DmIdeal.main_v5_0) = v0 c
          ∧ r.2.mem ((c.tc : Thread Cert.DmIdeal.nD Cert.DmIdeal.τ).loc Cert.DmIdeal.main_v5_1) = v1 c
          ∧ r.2.mem ((c.tc : Thread Cert.DmIdeal.nD Cert.DmIdeal.τ).loc Cert.DmIdeal.main_v5_2) = v2 c
          ∧ r.2.mem ((c.tc : Thread Cert.DmIdeal.nD Cert.DmIdeal.τ).loc Cert.DmIdeal.main_arg0) = m ((c.tc : Thread Cert.DmIdeal.nD Cert.DmIdeal.τ).loc Cert.DmIdeal.main_arg0)
          ∧ r.2.mem ((c.tc : Thread Cert.DmIdeal.nD Cert.DmIdeal.τ).loc Cert.DmIdeal.main_arg1) = m ((c.tc : Thread Cert.DmIdeal.nD Cert.DmIdeal.τ).loc Cert.DmIdeal.main_arg1)
          ∧ r.2.mem ((c.tc : Thread Cert.DmIdeal.nD Cert.DmIdeal.τ).loc Cert.DmIdeal.main_arg2) = m ((c.tc : Thread Cert.DmIdeal.nD Cert.DmIdeal.τ).loc Cert.DmIdeal.main_arg2)
          ∧ r.2.mem ((c.tc : Thread Cert.DmIdeal.nD Cert.DmIdeal.τ).loc Cert.DmIdeal.main_arg3) = m ((c.tc : Thread Cert.DmIdeal.nD Cert.DmIdeal.τ).loc Cert.DmIdeal.main_arg3)
          ∧ r.2.mem ((c.tc : Thread Cert.DmIdeal.nD Cert.DmIdeal.τ).loc Cert.DmIdeal.main_arg4) = m ((c.tc : Thread Cert.DmIdeal.nD Cert.DmIdeal.τ).loc Cert.DmIdeal.main_arg4))
      ∧ θ_run (Cert.DmRefIdeal.defs (F := Ideal)) (onTc (τ := Cert.DmRefIdeal.τ) (Cert.DmRefIdeal.main (F := Ideal))) ⟨m', fun _ => 0, g'⟩ (fun r => ∀ c : Dev Cert.DmRefIdeal.nD,
          r.2.mem ((c.tc : Thread Cert.DmRefIdeal.nD Cert.DmRefIdeal.τ).loc Cert.DmRefIdeal.main_v39) = v0 c
          ∧ r.2.mem ((c.tc : Thread Cert.DmRefIdeal.nD Cert.DmRefIdeal.τ).loc Cert.DmRefIdeal.main_v40) = v1 c
          ∧ r.2.mem ((c.tc : Thread Cert.DmRefIdeal.nD Cert.DmRefIdeal.τ).loc Cert.DmRefIdeal.main_v41) = v2 c
          ∧ r.2.mem ((c.tc : Thread Cert.DmRefIdeal.nD Cert.DmRefIdeal.τ).loc Cert.DmRefIdeal.main_arg0) = m' ((c.tc : Thread Cert.DmRefIdeal.nD Cert.DmRefIdeal.τ).loc Cert.DmRefIdeal.main_arg0)
          ∧ r.2.mem ((c.tc : Thread Cert.DmRefIdeal.nD Cert.DmRefIdeal.τ).loc Cert.DmRefIdeal.main_arg1) = m' ((c.tc : Thread Cert.DmRefIdeal.nD Cert.DmRefIdeal.τ).loc Cert.DmRefIdeal.main_arg1)
          ∧ r.2.mem ((c.tc : Thread Cert.DmRefIdeal.nD Cert.DmRefIdeal.τ).loc Cert.DmRefIdeal.main_arg2) = m' ((c.tc : Thread Cert.DmRefIdeal.nD Cert.DmRefIdeal.τ).loc Cert.DmRefIdeal.main_arg2)
          ∧ r.2.mem ((c.tc : Thread Cert.DmRefIdeal.nD Cert.DmRefIdeal.τ).loc Cert.DmRefIdeal.main_arg3) = m' ((c.tc : Thread Cert.DmRefIdeal.nD Cert.DmRefIdeal.τ).loc Cert.DmRefIdeal.main_arg3)
          ∧ r.2.mem ((c.tc : Thread Cert.DmRefIdeal.nD Cert.DmRefIdeal.τ).loc Cert.DmRefIdeal.main_arg4) = m' ((c.tc : Thread Cert.DmRefIdeal.nD Cert.DmRefIdeal.τ).loc Cert.DmRefIdeal.main_arg4))

def preserves_Gate_GateIdeal : Prop :=
  True

def algebraic_GateIdeal_GateRefIdeal_pre_ffn_finite [hGateIdeal : Cert.GateIdeal.Facts] [hGateRefIdeal : Cert.GateRefIdeal.Facts] [hPre_ffn_finite : Cert.Pre_ffn_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_ffn_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v8)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v8) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v18) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v2_0)) (v1 : (c : Dev Cert.PoolIdeal.nD) → Buf (Elt Ideal) ((c.tc : Thread Cert.PoolIdeal.nD Cert.PoolIdeal.τ).loc Cert.PoolIdeal.main_v2_1)) (v2 : (c : Dev Cert.PoolIdeal.nD) → Buf (Elt Ideal) ((c.tc : Thread Cert.PoolIdeal.nD Cert.PoolIdeal.τ).loc Cert.PoolIdeal.main_v2_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2_0) = v0 c
          ∧ r.2.mem ((c.tc : Thread Cert.PoolIdeal.nD Cert.PoolIdeal.τ).loc Cert.PoolIdeal.main_v2_1) = v1 c
          ∧ r.2.mem ((c.tc : Thread Cert.PoolIdeal.nD Cert.PoolIdeal.τ).loc Cert.PoolIdeal.main_v2_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v249) = v0 c
          ∧ r.2.mem ((c.tc : Thread Cert.PoolRefIdeal.nD Cert.PoolRefIdeal.τ).loc Cert.PoolRefIdeal.main_v184) = v1 c
          ∧ r.2.mem ((c.tc : Thread Cert.PoolRefIdeal.nD Cert.PoolRefIdeal.τ).loc Cert.PoolRefIdeal.main_v250) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_AttnF_AttnFIdeal : Prop :=
  IdealRules.named_const.Statement Cert.AttnFIdeal.κ "s" .f32 0x3DB504F3#32 (((Real.sqrt 128)⁻¹ : ℝ) : EReal)
  ∧ IdealRules.named_const.Statement Cert.AttnFIdeal.κ "mask" .f32 0xF149F2CA#32 ⊥

def algebraic_AttnFIdeal_AttnFRefIdeal_pre_attnf_finite [hAttnFIdeal : Cert.AttnFIdeal.Facts] [hAttnFRefIdeal : Cert.AttnFRefIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_attnf_finite m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)) →
    ∃ (v0 : (c : Dev Cert.AttnFIdeal.nD) → Buf (Elt Ideal) ((c.tc : Thread Cert.AttnFIdeal.nD Cert.AttnFIdeal.τ).loc Cert.AttnFIdeal.main_v47)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v47) = v0 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v98) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1))

def preserves_SgF_SgFIdeal : Prop :=
  IdealRules.named_const.Statement Cert.SgFIdeal.κ "inv_sqrt2" .f32 0x3F3504F3#32 (((Real.sqrt 2)⁻¹ : ℝ) : EReal)

def algebraic_SgFIdeal_SgFRefIdeal [hSgFIdeal : Cert.SgFIdeal.Facts] [hSgFRefIdeal : Cert.SgFRefIdeal.Facts] : Prop :=
  ∀ (m : (ℓ : Loc Cert.SgFIdeal.nD Cert.SgFIdeal.τ Cert.SgFIdeal.sig) → Buf (Elt Ideal) ℓ) (g : Dev Cert.SgFIdeal.nD → PrngReg)
    (m' : (ℓ : Loc Cert.SgFRefIdeal.nD Cert.SgFRefIdeal.τ Cert.SgFRefIdeal.sig) → Buf (Elt Ideal) ℓ) (g' : Dev Cert.SgFRefIdeal.nD → PrngReg), Pre_SgFIdeal m →
    (∀ c : Dev Cert.SgFIdeal.nD,
      m' ((c.tc : Thread Cert.SgFRefIdeal.nD Cert.SgFRefIdeal.τ).loc Cert.SgFRefIdeal.main_arg0) = m ((c.tc : Thread Cert.SgFIdeal.nD Cert.SgFIdeal.τ).loc Cert.SgFIdeal.main_arg0)
      ∧ m' ((c.tc : Thread Cert.SgFRefIdeal.nD Cert.SgFRefIdeal.τ).loc Cert.SgFRefIdeal.main_arg1) = m ((c.tc : Thread Cert.SgFIdeal.nD Cert.SgFIdeal.τ).loc Cert.SgFIdeal.main_arg1)
      ∧ m' ((c.tc : Thread Cert.SgFRefIdeal.nD Cert.SgFRefIdeal.τ).loc Cert.SgFRefIdeal.main_arg2) = m ((c.tc : Thread Cert.SgFIdeal.nD Cert.SgFIdeal.τ).loc Cert.SgFIdeal.main_arg2)
      ∧ m' ((c.tc : Thread Cert.SgFRefIdeal.nD Cert.SgFRefIdeal.τ).loc Cert.SgFRefIdeal.main_arg3) = m ((c.tc : Thread Cert.SgFIdeal.nD Cert.SgFIdeal.τ).loc Cert.SgFIdeal.main_arg3)) →
    ∃ (v0 : (c : Dev Cert.SgFIdeal.nD) → Buf (Elt Ideal) ((c.tc : Thread Cert.SgFIdeal.nD Cert.SgFIdeal.τ).loc Cert.SgFIdeal.main_v4)),
      θ_run (Cert.SgFIdeal.defs (F := Ideal)) (onTc (τ := Cert.SgFIdeal.τ) (Cert.SgFIdeal.main (F := Ideal))) ⟨m, fun _ => 0, g⟩ (fun r => ∀ c : Dev Cert.SgFIdeal.nD,
          r.2.mem ((c.tc : Thread Cert.SgFIdeal.nD Cert.SgFIdeal.τ).loc Cert.SgFIdeal.main_v4) = v0 c
          ∧ r.2.mem ((c.tc : Thread Cert.SgFIdeal.nD Cert.SgFIdeal.τ).loc Cert.SgFIdeal.main_arg0) = m ((c.tc : Thread Cert.SgFIdeal.nD Cert.SgFIdeal.τ).loc Cert.SgFIdeal.main_arg0)
          ∧ r.2.mem ((c.tc : Thread Cert.SgFIdeal.nD Cert.SgFIdeal.τ).loc Cert.SgFIdeal.main_arg1) = m ((c.tc : Thread Cert.SgFIdeal.nD Cert.SgFIdeal.τ).loc Cert.SgFIdeal.main_arg1)
          ∧ r.2.mem ((c.tc : Thread Cert.SgFIdeal.nD Cert.SgFIdeal.τ).loc Cert.SgFIdeal.main_arg2) = m ((c.tc : Thread Cert.SgFIdeal.nD Cert.SgFIdeal.τ).loc Cert.SgFIdeal.main_arg2)
          ∧ r.2.mem ((c.tc : Thread Cert.SgFIdeal.nD Cert.SgFIdeal.τ).loc Cert.SgFIdeal.main_arg3) = m ((c.tc : Thread Cert.SgFIdeal.nD Cert.SgFIdeal.τ).loc Cert.SgFIdeal.main_arg3))
      ∧ θ_run (Cert.SgFRefIdeal.defs (F := Ideal)) (onTc (τ := Cert.SgFRefIdeal.τ) (Cert.SgFRefIdeal.main (F := Ideal))) ⟨m', fun _ => 0, g'⟩ (fun r => ∀ c : Dev Cert.SgFRefIdeal.nD,
          r.2.mem ((c.tc : Thread Cert.SgFRefIdeal.nD Cert.SgFRefIdeal.τ).loc Cert.SgFRefIdeal.main_v46) = v0 c
          ∧ r.2.mem ((c.tc : Thread Cert.SgFRefIdeal.nD Cert.SgFRefIdeal.τ).loc Cert.SgFRefIdeal.main_arg0) = m' ((c.tc : Thread Cert.SgFRefIdeal.nD Cert.SgFRefIdeal.τ).loc Cert.SgFRefIdeal.main_arg0)
          ∧ r.2.mem ((c.tc : Thread Cert.SgFRefIdeal.nD Cert.SgFRefIdeal.τ).loc Cert.SgFRefIdeal.main_arg1) = m' ((c.tc : Thread Cert.SgFRefIdeal.nD Cert.SgFRefIdeal.τ).loc Cert.SgFRefIdeal.main_arg1)
          ∧ r.2.mem ((c.tc : Thread Cert.SgFRefIdeal.nD Cert.SgFRefIdeal.τ).loc Cert.SgFRefIdeal.main_arg2) = m' ((c.tc : Thread Cert.SgFRefIdeal.nD Cert.SgFRefIdeal.τ).loc Cert.SgFRefIdeal.main_arg2)
          ∧ r.2.mem ((c.tc : Thread Cert.SgFRefIdeal.nD Cert.SgFRefIdeal.τ).loc Cert.SgFRefIdeal.main_arg3) = m' ((c.tc : Thread Cert.SgFRefIdeal.nD Cert.SgFRefIdeal.τ).loc Cert.SgFRefIdeal.main_arg3))

def preserves_PoolF_PoolFIdeal : Prop :=
  True

def algebraic_PoolFIdeal_PoolFRefIdeal_pre_poolf_finite [hPoolFIdeal : Cert.PoolFIdeal.Facts] [hPoolFRefIdeal : Cert.PoolFRefIdeal.Facts] [hPre_poolf_finite : Cert.Pre_poolf_finite.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal_poolf_finite m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)
      ∧ m' ((c.tc : Thread Cert.PoolFRefIdeal.nD Cert.PoolFRefIdeal.τ).loc Cert.PoolFRefIdeal.main_arg1) = m ((c.tc : Thread Cert.PoolFIdeal.nD Cert.PoolFIdeal.τ).loc Cert.PoolFIdeal.main_arg1)
      ∧ m' ((c.tc : Thread Cert.PoolFRefIdeal.nD Cert.PoolFRefIdeal.τ).loc Cert.PoolFRefIdeal.main_arg2) = m ((c.tc : Thread Cert.PoolFIdeal.nD Cert.PoolFIdeal.τ).loc Cert.PoolFIdeal.main_arg2)) →
    ∃ (v0 : (c : Dev Cert.PoolFIdeal.nD) → Buf (Elt Ideal) ((c.tc : Thread Cert.PoolFIdeal.nD Cert.PoolFIdeal.τ).loc Cert.PoolFIdeal.main_v2)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v2) = v0 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
          ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
          ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v169) = v0 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0)
          ∧ r.2.mem ((c.tc : Thread Cert.PoolFRefIdeal.nD Cert.PoolFRefIdeal.τ).loc Cert.PoolFRefIdeal.main_arg1) = m' ((c.tc : Thread Cert.PoolFRefIdeal.nD Cert.PoolFRefIdeal.τ).loc Cert.PoolFRefIdeal.main_arg1)
          ∧ r.2.mem ((c.tc : Thread Cert.PoolFRefIdeal.nD Cert.PoolFRefIdeal.τ).loc Cert.PoolFRefIdeal.main_arg2) = m' ((c.tc : Thread Cert.PoolFRefIdeal.nD Cert.PoolFRefIdeal.τ).loc Cert.PoolFRefIdeal.main_arg2))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v6_0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v6_0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v5) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)) →
    ∃ (v0 : (c : Dev Cert.ResIdeal.nD) → Buf (Elt Ideal) ((c.tc : Thread Cert.ResIdeal.nD Cert.ResIdeal.τ).loc Cert.ResIdeal.main_v2_0)) (v1 : (c : Dev Cert.ResIdeal.nD) → Buf (Elt Ideal) ((c.tc : Thread Cert.ResIdeal.nD Cert.ResIdeal.τ).loc Cert.ResIdeal.main_v2_1)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v2_0) = v0 c
          ∧ r.2.mem ((c.tc : Thread Cert.ResIdeal.nD Cert.ResIdeal.τ).loc Cert.ResIdeal.main_v2_1) = v1 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v4) = v0 c
          ∧ r.2.mem ((c.tc : Thread Cert.ResRefIdeal.nD Cert.ResRefIdeal.τ).loc Cert.ResRefIdeal.main_v18) = v1 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_v16) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v1)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v1) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v4) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v18) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Zp_ZpIdeal : Prop :=
  True

def algebraic_ZpIdeal_ZpRefIdeal [hZpIdeal : Cert.ZpIdeal.Facts] [hZpRefIdeal : Cert.ZpRefIdeal.Facts] : Prop :=
  ∀ (m : (ℓ : Loc Cert.ZpIdeal.nD Cert.ZpIdeal.τ Cert.ZpIdeal.sig) → Buf (Elt Ideal) ℓ) (g : Dev Cert.ZpIdeal.nD → PrngReg)
    (m' : (ℓ : Loc Cert.ZpRefIdeal.nD Cert.ZpRefIdeal.τ Cert.ZpRefIdeal.sig) → Buf (Elt Ideal) ℓ) (g' : Dev Cert.ZpRefIdeal.nD → PrngReg), Pre_ZpIdeal m →
    (∀ c : Dev Cert.ZpIdeal.nD,
      m' ((c.tc : Thread Cert.ZpRefIdeal.nD Cert.ZpRefIdeal.τ).loc Cert.ZpRefIdeal.main_arg0) = m ((c.tc : Thread Cert.ZpIdeal.nD Cert.ZpIdeal.τ).loc Cert.ZpIdeal.main_arg0)
      ∧ m' ((c.tc : Thread Cert.ZpRefIdeal.nD Cert.ZpRefIdeal.τ).loc Cert.ZpRefIdeal.main_arg1) = m ((c.tc : Thread Cert.ZpIdeal.nD Cert.ZpIdeal.τ).loc Cert.ZpIdeal.main_arg1)) →
    ∃ (v0 : (c : Dev Cert.ZpIdeal.nD) → Buf (Elt Ideal) ((c.tc : Thread Cert.ZpIdeal.nD Cert.ZpIdeal.τ).loc Cert.ZpIdeal.main_v2_0)) (v1 : (c : Dev Cert.ZpIdeal.nD) → Buf (Elt Ideal) ((c.tc : Thread Cert.ZpIdeal.nD Cert.ZpIdeal.τ).loc Cert.ZpIdeal.main_v2_1)),
      θ_run (Cert.ZpIdeal.defs (F := Ideal)) (onTc (τ := Cert.ZpIdeal.τ) (Cert.ZpIdeal.main (F := Ideal))) ⟨m, fun _ => 0, g⟩ (fun r => ∀ c : Dev Cert.ZpIdeal.nD,
          r.2.mem ((c.tc : Thread Cert.ZpIdeal.nD Cert.ZpIdeal.τ).loc Cert.ZpIdeal.main_v2_0) = v0 c
          ∧ r.2.mem ((c.tc : Thread Cert.ZpIdeal.nD Cert.ZpIdeal.τ).loc Cert.ZpIdeal.main_v2_1) = v1 c
          ∧ r.2.mem ((c.tc : Thread Cert.ZpIdeal.nD Cert.ZpIdeal.τ).loc Cert.ZpIdeal.main_arg0) = m ((c.tc : Thread Cert.ZpIdeal.nD Cert.ZpIdeal.τ).loc Cert.ZpIdeal.main_arg0)
          ∧ r.2.mem ((c.tc : Thread Cert.ZpIdeal.nD Cert.ZpIdeal.τ).loc Cert.ZpIdeal.main_arg1) = m ((c.tc : Thread Cert.ZpIdeal.nD Cert.ZpIdeal.τ).loc Cert.ZpIdeal.main_arg1))
      ∧ θ_run (Cert.ZpRefIdeal.defs (F := Ideal)) (onTc (τ := Cert.ZpRefIdeal.τ) (Cert.ZpRefIdeal.main (F := Ideal))) ⟨m', fun _ => 0, g'⟩ (fun r => ∀ c : Dev Cert.ZpRefIdeal.nD,
          r.2.mem ((c.tc : Thread Cert.ZpRefIdeal.nD Cert.ZpRefIdeal.τ).loc Cert.ZpRefIdeal.main_v3) = v0 c
          ∧ r.2.mem ((c.tc : Thread Cert.ZpRefIdeal.nD Cert.ZpRefIdeal.τ).loc Cert.ZpRefIdeal.main_v6) = v1 c
          ∧ r.2.mem ((c.tc : Thread Cert.ZpRefIdeal.nD Cert.ZpRefIdeal.τ).loc Cert.ZpRefIdeal.main_arg0) = m' ((c.tc : Thread Cert.ZpRefIdeal.nD Cert.ZpRefIdeal.τ).loc Cert.ZpRefIdeal.main_arg0)
          ∧ r.2.mem ((c.tc : Thread Cert.ZpRefIdeal.nD Cert.ZpRefIdeal.τ).loc Cert.ZpRefIdeal.main_arg1) = m' ((c.tc : Thread Cert.ZpRefIdeal.nD Cert.ZpRefIdeal.τ).loc Cert.ZpRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_SumInto_SumIntoIdeal : Prop :=
  True

def algebraic_SumIntoIdeal_SumIntoRefIdeal [hSumIntoIdeal : Cert.SumIntoIdeal.Facts] [hSumIntoRefIdeal : Cert.SumIntoRefIdeal.Facts] : Prop :=
  ∀ (m : (ℓ : Loc Cert.SumIntoIdeal.nD Cert.SumIntoIdeal.τ Cert.SumIntoIdeal.sig) → Buf (Elt Ideal) ℓ) (g : Dev Cert.SumIntoIdeal.nD → PrngReg)
    (m' : (ℓ : Loc Cert.SumIntoRefIdeal.nD Cert.SumIntoRefIdeal.τ Cert.SumIntoRefIdeal.sig) → Buf (Elt Ideal) ℓ) (g' : Dev Cert.SumIntoRefIdeal.nD → PrngReg), Pre_SumIntoIdeal m →
    (∀ c : Dev Cert.SumIntoIdeal.nD,
      m' ((c.tc : Thread Cert.SumIntoRefIdeal.nD Cert.SumIntoRefIdeal.τ).loc Cert.SumIntoRefIdeal.main_arg0) = m ((c.tc : Thread Cert.SumIntoIdeal.nD Cert.SumIntoIdeal.τ).loc Cert.SumIntoIdeal.main_arg0)
      ∧ m' ((c.tc : Thread Cert.SumIntoRefIdeal.nD Cert.SumIntoRefIdeal.τ).loc Cert.SumIntoRefIdeal.main_arg1) = m ((c.tc : Thread Cert.SumIntoIdeal.nD Cert.SumIntoIdeal.τ).loc Cert.SumIntoIdeal.main_arg1)) →
    ∃ (v0 : (c : Dev Cert.SumIntoIdeal.nD) → Buf (Elt Ideal) ((c.tc : Thread Cert.SumIntoIdeal.nD Cert.SumIntoIdeal.τ).loc Cert.SumIntoIdeal.main_v0)),
      θ_run (Cert.SumIntoIdeal.defs (F := Ideal)) (onTc (τ := Cert.SumIntoIdeal.τ) (Cert.SumIntoIdeal.main (F := Ideal))) ⟨m, fun _ => 0, g⟩ (fun r => ∀ c : Dev Cert.SumIntoIdeal.nD,
          r.2.mem ((c.tc : Thread Cert.SumIntoIdeal.nD Cert.SumIntoIdeal.τ).loc Cert.SumIntoIdeal.main_v0) = v0 c
          ∧ r.2.mem ((c.tc : Thread Cert.SumIntoIdeal.nD Cert.SumIntoIdeal.τ).loc Cert.SumIntoIdeal.main_arg0) = m ((c.tc : Thread Cert.SumIntoIdeal.nD Cert.SumIntoIdeal.τ).loc Cert.SumIntoIdeal.main_arg0)
          ∧ r.2.mem ((c.tc : Thread Cert.SumIntoIdeal.nD Cert.SumIntoIdeal.τ).loc Cert.SumIntoIdeal.main_arg1) = m ((c.tc : Thread Cert.SumIntoIdeal.nD Cert.SumIntoIdeal.τ).loc Cert.SumIntoIdeal.main_arg1))
      ∧ θ_run (Cert.SumIntoRefIdeal.defs (F := Ideal)) (onTc (τ := Cert.SumIntoRefIdeal.τ) (Cert.SumIntoRefIdeal.main (F := Ideal))) ⟨m', fun _ => 0, g'⟩ (fun r => ∀ c : Dev Cert.SumIntoRefIdeal.nD,
          r.2.mem ((c.tc : Thread Cert.SumIntoRefIdeal.nD Cert.SumIntoRefIdeal.τ).loc Cert.SumIntoRefIdeal.main_v5) = v0 c
          ∧ r.2.mem ((c.tc : Thread Cert.SumIntoRefIdeal.nD Cert.SumIntoRefIdeal.τ).loc Cert.SumIntoRefIdeal.main_arg0) = m' ((c.tc : Thread Cert.SumIntoRefIdeal.nD Cert.SumIntoRefIdeal.τ).loc Cert.SumIntoRefIdeal.main_arg0)
          ∧ r.2.mem ((c.tc : Thread Cert.SumIntoRefIdeal.nD Cert.SumIntoRefIdeal.τ).loc Cert.SumIntoRefIdeal.main_arg1) = m' ((c.tc : Thread Cert.SumIntoRefIdeal.nD Cert.SumIntoRefIdeal.τ).loc Cert.SumIntoRefIdeal.main_arg1))

def Claim : Prop :=
  ∃ (hLoss : Cert.Loss.Facts) (hLossIdeal : Cert.LossIdeal.Facts) (hLossRefIdeal : Cert.LossRefIdeal.Facts) (hSg : Cert.Sg.Facts) (hSgIdeal : Cert.SgIdeal.Facts) (hSgRefIdeal : Cert.SgRefIdeal.Facts) (hAttn : Cert.Attn.Facts) (hAttnIdeal : Cert.AttnIdeal.Facts) (hAttnRefIdeal : Cert.AttnRefIdeal.Facts) (hDh : Cert.Dh.Facts) (hDhIdeal : Cert.DhIdeal.Facts) (hDhRefIdeal : Cert.DhRefIdeal.Facts) (hDm : Cert.Dm.Facts) (hDmIdeal : Cert.DmIdeal.Facts) (hDmRefIdeal : Cert.DmRefIdeal.Facts) (hGate : Cert.Gate.Facts) (hGateIdeal : Cert.GateIdeal.Facts) (hGateRefIdeal : Cert.GateRefIdeal.Facts) (hPool : Cert.Pool.Facts) (hPoolIdeal : Cert.PoolIdeal.Facts) (hPoolRefIdeal : Cert.PoolRefIdeal.Facts) (hAttnF : Cert.AttnF.Facts) (hAttnFIdeal : Cert.AttnFIdeal.Facts) (hAttnFRefIdeal : Cert.AttnFRefIdeal.Facts) (hSgF : Cert.SgF.Facts) (hSgFIdeal : Cert.SgFIdeal.Facts) (hSgFRefIdeal : Cert.SgFRefIdeal.Facts) (hPoolF : Cert.PoolF.Facts) (hPoolFIdeal : Cert.PoolFIdeal.Facts) (hPoolFRefIdeal : Cert.PoolFRefIdeal.Facts) (hAct : Cert.Act.Facts) (hActIdeal : Cert.ActIdeal.Facts) (hActRefIdeal : Cert.ActRefIdeal.Facts) (hRms : Cert.Rms.Facts) (hRmsIdeal : Cert.RmsIdeal.Facts) (hRmsRefIdeal : Cert.RmsRefIdeal.Facts) (hRes : Cert.Res.Facts) (hResIdeal : Cert.ResIdeal.Facts) (hResRefIdeal : Cert.ResRefIdeal.Facts) (hMix : Cert.Mix.Facts) (hMixIdeal : Cert.MixIdeal.Facts) (hMixRefIdeal : Cert.MixRefIdeal.Facts) (hDy : Cert.Dy.Facts) (hDyIdeal : Cert.DyIdeal.Facts) (hDyRefIdeal : Cert.DyRefIdeal.Facts) (hDw : Cert.Dw.Facts) (hDwIdeal : Cert.DwIdeal.Facts) (hDwRefIdeal : Cert.DwRefIdeal.Facts) (hZp : Cert.Zp.Facts) (hZpIdeal : Cert.ZpIdeal.Facts) (hZpRefIdeal : Cert.ZpRefIdeal.Facts) (hAdam : Cert.Adam.Facts) (hAdamIdeal : Cert.AdamIdeal.Facts) (hAdamRefIdeal : Cert.AdamRefIdeal.Facts) (hSum : Cert.Sum.Facts) (hSumIdeal : Cert.SumIdeal.Facts) (hSumRefIdeal : Cert.SumRefIdeal.Facts) (hSumInto : Cert.SumInto.Facts) (hSumIntoIdeal : Cert.SumIntoIdeal.Facts) (hSumIntoRefIdeal : Cert.SumIntoRefIdeal.Facts) (hPre_loss_finite : Cert.Pre_loss_finite.Facts) (hPre_sg_finite : Cert.Pre_sg_finite.Facts) (hPre_attn_finite : Cert.Pre_attn_finite.Facts) (hPre_dh_finite : Cert.Pre_dh_finite.Facts) (hPre_dhm_finite : Cert.Pre_dhm_finite.Facts) (hPre_ffn_finite : Cert.Pre_ffn_finite.Facts) (hPre_pool_finite : Cert.Pre_pool_finite.Facts) (hPre_attnf_finite : Cert.Pre_attnf_finite.Facts) (hPre_poolf_finite : Cert.Pre_poolf_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Sg (hSg := hSg)
    ∧ quiescent_SgIdeal (hSgIdeal := hSgIdeal)
    ∧ quiescent_SgIdeal_pre_sg_finite (hSgIdeal := hSgIdeal) (hPre_sg_finite := hPre_sg_finite)
    ∧ quiescent_SgRefIdeal (hSgRefIdeal := hSgRefIdeal)
    ∧ quiescent_SgRefIdeal_pre_sg_finite (hSgRefIdeal := hSgRefIdeal) (hPre_sg_finite := hPre_sg_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Dh (hDh := hDh)
    ∧ quiescent_DhIdeal (hDhIdeal := hDhIdeal)
    ∧ quiescent_DhIdeal_pre_dh_finite (hDhIdeal := hDhIdeal) (hPre_dh_finite := hPre_dh_finite)
    ∧ quiescent_DhRefIdeal (hDhRefIdeal := hDhRefIdeal)
    ∧ quiescent_DhRefIdeal_pre_dh_finite (hDhRefIdeal := hDhRefIdeal) (hPre_dh_finite := hPre_dh_finite)
    ∧ quiescent_Dm (hDm := hDm)
    ∧ quiescent_DmIdeal (hDmIdeal := hDmIdeal)
    ∧ quiescent_DmIdeal_pre_dhm_finite (hDmIdeal := hDmIdeal) (hPre_dhm_finite := hPre_dhm_finite)
    ∧ quiescent_DmRefIdeal (hDmRefIdeal := hDmRefIdeal)
    ∧ quiescent_DmRefIdeal_pre_dhm_finite (hDmRefIdeal := hDmRefIdeal) (hPre_dhm_finite := hPre_dhm_finite)
    ∧ quiescent_Gate (hGate := hGate)
    ∧ quiescent_GateIdeal (hGateIdeal := hGateIdeal)
    ∧ quiescent_GateIdeal_pre_ffn_finite (hGateIdeal := hGateIdeal) (hPre_ffn_finite := hPre_ffn_finite)
    ∧ quiescent_GateRefIdeal (hGateRefIdeal := hGateRefIdeal)
    ∧ quiescent_GateRefIdeal_pre_ffn_finite (hGateRefIdeal := hGateRefIdeal) (hPre_ffn_finite := hPre_ffn_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_AttnF (hAttnF := hAttnF)
    ∧ quiescent_AttnFIdeal (hAttnFIdeal := hAttnFIdeal)
    ∧ quiescent_AttnFIdeal_pre_attnf_finite (hAttnFIdeal := hAttnFIdeal) (hPre_attnf_finite := hPre_attnf_finite)
    ∧ quiescent_AttnFRefIdeal (hAttnFRefIdeal := hAttnFRefIdeal)
    ∧ quiescent_AttnFRefIdeal_pre_attnf_finite (hAttnFRefIdeal := hAttnFRefIdeal) (hPre_attnf_finite := hPre_attnf_finite)
    ∧ quiescent_SgF (hSgF := hSgF)
    ∧ quiescent_SgFIdeal (hSgFIdeal := hSgFIdeal)
    ∧ quiescent_SgFRefIdeal (hSgFRefIdeal := hSgFRefIdeal)
    ∧ quiescent_PoolF (hPoolF := hPoolF)
    ∧ quiescent_PoolFIdeal (hPoolFIdeal := hPoolFIdeal)
    ∧ quiescent_PoolFIdeal_pre_poolf_finite (hPoolFIdeal := hPoolFIdeal) (hPre_poolf_finite := hPre_poolf_finite)
    ∧ quiescent_PoolFRefIdeal (hPoolFRefIdeal := hPoolFRefIdeal)
    ∧ quiescent_PoolFRefIdeal_pre_poolf_finite (hPoolFRefIdeal := hPoolFRefIdeal) (hPre_poolf_finite := hPre_poolf_finite)
    ∧ quiescent_Act (hAct := hAct)
    ∧ quiescent_ActIdeal (hActIdeal := hActIdeal)
    ∧ quiescent_ActRefIdeal (hActRefIdeal := hActRefIdeal)
    ∧ quiescent_Rms (hRms := hRms)
    ∧ quiescent_RmsIdeal (hRmsIdeal := hRmsIdeal)
    ∧ quiescent_RmsRefIdeal (hRmsRefIdeal := hRmsRefIdeal)
    ∧ quiescent_Res (hRes := hRes)
    ∧ quiescent_ResIdeal (hResIdeal := hResIdeal)
    ∧ quiescent_ResRefIdeal (hResRefIdeal := hResRefIdeal)
    ∧ quiescent_Mix (hMix := hMix)
    ∧ quiescent_MixIdeal (hMixIdeal := hMixIdeal)
    ∧ quiescent_MixRefIdeal (hMixRefIdeal := hMixRefIdeal)
    ∧ quiescent_Dy (hDy := hDy)
    ∧ quiescent_DyIdeal (hDyIdeal := hDyIdeal)
    ∧ quiescent_DyRefIdeal (hDyRefIdeal := hDyRefIdeal)
    ∧ quiescent_Dw (hDw := hDw)
    ∧ quiescent_DwIdeal (hDwIdeal := hDwIdeal)
    ∧ quiescent_DwRefIdeal (hDwRefIdeal := hDwRefIdeal)
    ∧ quiescent_Zp (hZp := hZp)
    ∧ quiescent_ZpIdeal (hZpIdeal := hZpIdeal)
    ∧ quiescent_ZpRefIdeal (hZpRefIdeal := hZpRefIdeal)
    ∧ quiescent_Adam (hAdam := hAdam)
    ∧ quiescent_AdamIdeal (hAdamIdeal := hAdamIdeal)
    ∧ quiescent_AdamRefIdeal (hAdamRefIdeal := hAdamRefIdeal)
    ∧ quiescent_Sum (hSum := hSum)
    ∧ quiescent_SumIdeal (hSumIdeal := hSumIdeal)
    ∧ quiescent_SumRefIdeal (hSumRefIdeal := hSumRefIdeal)
    ∧ quiescent_SumInto (hSumInto := hSumInto)
    ∧ quiescent_SumIntoIdeal (hSumIntoIdeal := hSumIntoIdeal)
    ∧ quiescent_SumIntoRefIdeal (hSumIntoRefIdeal := hSumIntoRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Sg_SgIdeal
    ∧ algebraic_SgIdeal_SgRefIdeal_pre_sg_finite (hSgIdeal := hSgIdeal) (hSgRefIdeal := hSgRefIdeal) (hPre_sg_finite := hPre_sg_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Dh_DhIdeal
    ∧ algebraic_DhIdeal_DhRefIdeal_pre_dh_finite (hDhIdeal := hDhIdeal) (hDhRefIdeal := hDhRefIdeal) (hPre_dh_finite := hPre_dh_finite)
    ∧ preserves_Dm_DmIdeal
    ∧ algebraic_DmIdeal_DmRefIdeal_pre_dhm_finite (hDmIdeal := hDmIdeal) (hDmRefIdeal := hDmRefIdeal) (hPre_dhm_finite := hPre_dhm_finite)
    ∧ preserves_Gate_GateIdeal
    ∧ algebraic_GateIdeal_GateRefIdeal_pre_ffn_finite (hGateIdeal := hGateIdeal) (hGateRefIdeal := hGateRefIdeal) (hPre_ffn_finite := hPre_ffn_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_AttnF_AttnFIdeal
    ∧ algebraic_AttnFIdeal_AttnFRefIdeal_pre_attnf_finite (hAttnFIdeal := hAttnFIdeal) (hAttnFRefIdeal := hAttnFRefIdeal) (hPre_attnf_finite := hPre_attnf_finite)
    ∧ preserves_SgF_SgFIdeal
    ∧ algebraic_SgFIdeal_SgFRefIdeal (hSgFIdeal := hSgFIdeal) (hSgFRefIdeal := hSgFRefIdeal)
    ∧ preserves_PoolF_PoolFIdeal
    ∧ algebraic_PoolFIdeal_PoolFRefIdeal_pre_poolf_finite (hPoolFIdeal := hPoolFIdeal) (hPoolFRefIdeal := hPoolFRefIdeal) (hPre_poolf_finite := hPre_poolf_finite)
    ∧ preserves_Act_ActIdeal
    ∧ algebraic_ActIdeal_ActRefIdeal (hActIdeal := hActIdeal) (hActRefIdeal := hActRefIdeal)
    ∧ preserves_Rms_RmsIdeal
    ∧ algebraic_RmsIdeal_RmsRefIdeal (hRmsIdeal := hRmsIdeal) (hRmsRefIdeal := hRmsRefIdeal)
    ∧ preserves_Res_ResIdeal
    ∧ algebraic_ResIdeal_ResRefIdeal (hResIdeal := hResIdeal) (hResRefIdeal := hResRefIdeal)
    ∧ preserves_Mix_MixIdeal
    ∧ algebraic_MixIdeal_MixRefIdeal (hMixIdeal := hMixIdeal) (hMixRefIdeal := hMixRefIdeal)
    ∧ preserves_Dy_DyIdeal
    ∧ algebraic_DyIdeal_DyRefIdeal (hDyIdeal := hDyIdeal) (hDyRefIdeal := hDyRefIdeal)
    ∧ preserves_Dw_DwIdeal
    ∧ algebraic_DwIdeal_DwRefIdeal (hDwIdeal := hDwIdeal) (hDwRefIdeal := hDwRefIdeal)
    ∧ preserves_Zp_ZpIdeal
    ∧ algebraic_ZpIdeal_ZpRefIdeal (hZpIdeal := hZpIdeal) (hZpRefIdeal := hZpRefIdeal)
    ∧ preserves_Adam_AdamIdeal
    ∧ algebraic_AdamIdeal_AdamRefIdeal (hAdamIdeal := hAdamIdeal) (hAdamRefIdeal := hAdamRefIdeal)
    ∧ preserves_Sum_SumIdeal
    ∧ algebraic_SumIdeal_SumRefIdeal (hSumIdeal := hSumIdeal) (hSumRefIdeal := hSumRefIdeal)
    ∧ preserves_SumInto_SumIntoIdeal
    ∧ algebraic_SumIntoIdeal_SumIntoRefIdeal (hSumIntoIdeal := hSumIntoIdeal) (hSumIntoRefIdeal := hSumIntoRefIdeal)
-- ==== Pre_attn_finite.lean ====
abbrev S8192x3072 : Shape := ⟨2, ![8192, 3072]⟩
abbrev S8192x2048 : Shape := ⟨2, ![8192, 2048]⟩
abbrev S8x15x31 : Shape := ⟨3, ![8, 15, 31]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S8192x2048 : S_.BroadcastsInDim S8192x2048 (![] : Fin 0 → Fin S8192x2048.rank)
  bcast_S_S8x15x31 : S_.BroadcastsInDim S8x15x31 (![] : Fin 0 → Fin S8x15x31.rank)

variable [Facts]

def fn {F : FTy → Type} [FloatOps F] (main_arg0 : FVec F S8192x3072 .bf16) (main_arg1 : FVec F S8192x2048 .bf16) (main_arg2 : FVec F S8x15x31 .f32) : IVec S8192x3072 1 × IVec S8192x2048 1 × IVec S8x15x31 1 :=
  let main_v0 : FVec F S8192x3072 .f32 := (extf .f32 · bitsLt_bf16_f32) main_arg0
  let main_v1 : FVec F S8192x2048 .f32 := (extf .f32 · bitsLt_bf16_f32) main_arg1
  let main_v2 : FVec F S8192x3072 .f32 := Host.absf main_v0
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  let main_v5 : FVec F S8192x2048 .f32 := Host.absf main_v1
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S8x15x31 .f32 := Host.absf main_arg2
  let main_cst_1 : FVec F S_ .f32 := constant S_ .f32 0x7F800000#32
  let main_v9 : FVec F S8x15x31 .f32 := broadcastInDim S8x15x31 ![] bcast_S_S8x15x31 main_cst_1
  let main_v10 : IVec S8x15x31 1 := cmpf .olt main_v8 main_v9
  (main_v4, main_v7, main_v10)
-- ==== Pre_attnf_finite.lean ====
abbrev S8192x3072 : Shape := ⟨2, ![8192, 3072]⟩
abbrev S8x15x31 : Shape := ⟨3, ![8, 15, 31]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S8x15x31 : S_.BroadcastsInDim S8x15x31 (![] : Fin 0 → Fin S8x15x31.rank)

variable [Facts]

def fn {F : FTy → Type} [FloatOps F] (main_arg0 : FVec F S8192x3072 .bf16) (main_arg1 : FVec F S8x15x31 .f32) : IVec S8192x3072 1 × IVec S8x15x31 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S8x15x31 .f32 := Host.absf main_arg1
  let main_cst_0 : FVec F S_ .f32 := constant S_ .f32 0x7F800000#32
  let main_v5 : FVec F S8x15x31 .f32 := broadcastInDim S8x15x31 ![] bcast_S_S8x15x31 main_cst_0
  let main_v6 : IVec S8x15x31 1 := cmpf .olt main_v4 main_v5
  (main_v3, main_v6)
-- ==== Pre_dh_finite.lean ====
abbrev S2x8192x5632 : Shape := ⟨3, ![2, 8192, 5632]⟩
abbrev S2048x5632 : Shape := ⟨2, ![2048, 5632]⟩
abbrev S8192x2048 : Shape := ⟨2, ![8192, 2048]⟩
abbrev S2048 : Shape := ⟨1, ![2048]⟩
abbrev S_ : Shape := ⟨0, ![]⟩

class Facts : Prop where
  bitsLt_bf16_f32 : FTy.bits .bf16 < FTy.bits .f32
  bcast_S_S2x8192x5632 : S_.BroadcastsInDim S2x8192x5632 (![] : Fin 0 → Fin S2x8192x5632.rank)
  bcast_S_S2048x5632 : S_.BroadcastsInDim S2048x5632 (![] : Fin 0 → Fin S2048x5632.rank)
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S2x8192x5632 .bf16) (main_arg1 : FVec F S2048x5632 .f32) (main_arg2 : FVec F S2048x5632 .f32) (main_arg3 : FVec F S8192x2048 .f32) (main_arg4 : FVec F S2048 .f32) (main_arg5 : FVec F S8192x2048 .f32) : IVec S2x8192x5632 1 × IVec S2048x5632 1 × IVec S2048x5632 1 × IVec S8192x2048 1 × IVec S2048 1 :=
  let main_v0 : FVec F S2x8192x5632 .f32 := (extf .f32 · bitsLt_bf16_f32) main_arg0
  let main_v1 : FVec F S2x8192x5632 .f32 := Host.absf main_v0
  let main_cst : FVec F S_ .f32 := constant S_ .f32 0x7F800000#32
  let main_v2 : FVec F S2x8192x5632 .f32 := broadcastInDim S2x8192x5632 ![] bcast_S_S2x8192x5632 main_cst
  let main_v3 : IVec S2x8192x5632 1 := cmpf .olt main_v1 main_v2
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_v7 : FVec F S2048x5632 .f32 := Host.absf main_arg2
  let main_cst_1 : FVec F S_ .f32 := constant S_ .f32 0x7F800000#32
  let main_v8 : FVec F S2048x5632 .f32 := broadcastInDim S2048x5632 ![] bcast_S_S2048x5632 main_cst_1
  let main_v9 : IVec S2048x5632 1 := cmpf .olt main_v7 main_v8
  let main_v10 : FVec F S8192x2048 .f32 := Host.absf main_arg3
  let main_cst_2 : FVec F S_ .f32 := constant S_ .f32 0x7F800000#32
  let main_v11 : FVec F S8192x2048 .f32 := broadcastInDim S8192x2048 ![] bcast_S_S8192x2048 main_cst_2
  let main_v12 : IVec S8192x2048 1 := cmpf .olt main_v10 main_v11
  let main_v13 : FVec F S2048 .f32 := Host.absf main_arg4
  let main_cst_3 : FVec F S_ .f32 := constant S_ .f32 0x7F800000#32
  let main_v14 : FVec F S2048 .f32 := broadcastInDim S2048 ![] bcast_S_S2048 main_cst_3
  let main_v15 : IVec S2048 1 := cmpf .olt main_v13 main_v14
  (main_v3, main_v6, main_v9, main_v12, main_v15)
-- ==== Pre_dhm_finite.lean ====
abbrev S8192x4608 : Shape := ⟨2, ![8192, 4608]⟩
abbrev S2048x4608 : Shape := ⟨2, ![2048, 4608]⟩
abbrev S8192x2048 : Shape := ⟨2, ![8192, 2048]⟩
abbrev S2048 : Shape := ⟨1, ![2048]⟩
abbrev S_ : Shape := ⟨0, ![]⟩

class Facts : Prop where
  bitsLt_bf16_f32 : FTy.bits .bf16 < FTy.bits .f32
  bcast_S_S8192x4608 : S_.BroadcastsInDim S8192x4608 (![] : Fin 0 → Fin S8192x4608.rank)
  bcast_S_S2048x4608 : S_.BroadcastsInDim S2048x4608 (![] : Fin 0 → Fin S2048x4608.rank)
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S8192x4608 .bf16) (main_arg1 : FVec F S2048x4608 .f32) (main_arg2 : FVec F S8192x2048 .f32) (main_arg3 : FVec F S2048 .f32) (main_arg4 : FVec F S8192x2048 .f32) : IVec S8192x4608 1 × IVec S2048x4608 1 × IVec S8192x2048 1 × IVec S2048 1 :=
  let main_v0 : FVec F S8192x4608 .f32 := (extf .f32 · bitsLt_bf16_f32) main_arg0
  let main_v1 : FVec F S8192x4608 .f32 := Host.absf main_v0
  let main_cst : FVec F S_ .f32 := constant S_ .f32 0x7F800000#32
  let main_v2 : FVec F S8192x4608 .f32 := broadcastInDim S8192x4608 ![] bcast_S_S8192x4608 main_cst
  let main_v3 : IVec S8192x4608 1 := cmpf .olt main_v1 main_v2
  let main_v4 : FVec F S2048x4608 .f32 := Host.absf main_arg1
  let main_cst_0 : FVec F S_ .f32 := constant S_ .f32 0x7F800000#32
  let main_v5 : FVec F S2048x4608 .f32 := broadcastInDim S2048x4608 ![] bcast_S_S2048x4608 main_cst_0
  let main_v6 : IVec S2048x4608 1 := cmpf .olt main_v4 main_v5
  let main_v7 : FVec F S8192x2048 .f32 := Host.absf main_arg2
  let main_cst_1 : FVec F S_ .f32 := constant S_ .f32 0x7F800000#32
  let main_v8 : FVec F S8192x2048 .f32 := broadcastInDim S8192x2048 ![] bcast_S_S8192x2048 main_cst_1
  let main_v9 : IVec S8192x2048 1 := cmpf .olt main_v7 main_v8
  let main_v10 : FVec F S2048 .f32 := Host.absf main_arg3
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  (main_v3, main_v6, main_v9, main_v12)
-- ==== Pre_ffn_finite.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S8192x2048 .bf16) (main_arg1 : FVec F S2048x5632 .f32) (main_arg2 : FVec F S2048x5632 .f32) (main_arg3 : FVec F S5632x2048 .f32) (main_arg4 : FVec F S8192x2048 .bf16) : IVec S8192x2048 1 × IVec S2048x5632 1 × IVec S2048x5632 1 × IVec S5632x2048 1 × IVec S8192x2048 1 :=
  let main_v0 : FVec F S8192x2048 .f32 := (extf .f32 · bitsLt_bf16_f32) main_arg0
  let main_v1 : FVec F S8192x2048 .f32 := (extf .f32 · bitsLt_bf16_f32) main_arg4
  let main_v2 : FVec F S8192x2048 .f32 := Host.absf main_v0
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S2048x5632 .f32 := Host.absf main_arg1
  let main_cst_0 : FVec F S_ .f32 := constant S_ .f32 0x7F800000#32
  let main_v6 : FVec F S2048x5632 .f32 := broadcastInDim S2048x5632 ![] bcast_S_S2048x5632 main_cst_0
  let main_v7 : IVec S2048x5632 1 := cmpf .olt main_v5 main_v6
  let main_v8 : FVec F S2048x5632 .f32 := Host.absf main_arg2
  let main_cst_1 : FVec F S_ .f32 := constant S_ .f32 0x7F800000#32
  let main_v9 : FVec F S2048x5632 .f32 := broadcastInDim S2048x5632 ![] bcast_S_S2048x5632 main_cst_1
  let main_v10 : IVec S2048x5632 1 := cmpf .olt main_v8 main_v9
  let main_v11 : FVec F S5632x2048 .f32 := Host.absf main_arg3
  let main_cst_2 : FVec F S_ .f32 := constant S_ .f32 0x7F800000#32
  let main_v12 : FVec F S5632x2048 .f32 := broadcastInDim S5632x2048 ![] bcast_S_S5632x2048 main_cst_2
  let main_v13 : IVec S5632x2048 1 := cmpf .olt main_v11 main_v12
  let main_v14 : FVec F S8192x2048 .f32 := Host.absf main_v1
  let main_cst_3 : FVec F S_ .f32 := constant S_ .f32 0x7F800000#32
  let main_v15 : FVec F S8192x2048 .f32 := broadcastInDim S8192x2048 ![] bcast_S_S8192x2048 main_cst_3
  let main_v16 : IVec S8192x2048 1 := cmpf .olt main_v14 main_v15
  (main_v4, main_v7, main_v10, main_v13, main_v16)
-- ==== Pre_loss_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S8192x2048 .f32) (main_arg1 : FVec F S2048 .f32) (main_arg2 : FVec F S8192x2048 .f32) : IVec S8192x2048 1 × IVec S2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Pre_pool_finite.lean ====
abbrev S8192x1536 : Shape := ⟨2, ![8192, 1536]⟩
abbrev S8192x2048 : Shape := ⟨2, ![8192, 2048]⟩
abbrev S4x128x128 : Shape := ⟨3, ![4, 128, 128]⟩
abbrev S512 : Shape := ⟨1, ![512]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  bcast_S_S8192x2048 : S_.BroadcastsInDim S8192x2048 (![] : Fin 0 → Fin S8192x2048.rank)
  bcast_S_S4x128x128 : S_.BroadcastsInDim S4x128x128 (![] : Fin 0 → Fin S4x128x128.rank)
  bcast_S_S512 : S_.BroadcastsInDim S512 (![] : Fin 0 → Fin S512.rank)

variable [Facts]

def fn {F : FTy → Type} [FloatOps F] (main_arg0 : FVec F S8192x1536 .bf16) (main_arg1 : FVec F S8192x2048 .bf16) (main_arg2 : FVec F S4x128x128 .f32) (main_arg3 : FVec F S512 .f32) : IVec S8192x1536 1 × IVec S8192x2048 1 × IVec S4x128x128 1 × IVec S512 1 :=
  let main_v0 : FVec F S8192x1536 .f32 := (extf .f32 · bitsLt_bf16_f32) main_arg0
  let main_v1 : FVec F S8192x2048 .f32 := (extf .f32 · bitsLt_bf16_f32) main_arg1
  let main_v2 : FVec F S8192x1536 .f32 := Host.absf main_v0
  let main_cst : FVec F S_ .f32 := constant S_ .f32 0x7F800000#32
  let main_v3 : FVec F S8192x1536 .f32 := broadcastInDim S8192x1536 ![] bcast_S_S8192x1536 main_cst
  let main_v4 : IVec S8192x1536 1 := cmpf .olt main_v2 main_v3
  let main_v5 : FVec F S8192x2048 .f32 := Host.absf main_v1
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S4x128x128 .f32 := Host.absf main_arg2
  let main_cst_1 : FVec F S_ .f32 := constant S_ .f32 0x7F800000#32
  let main_v9 : FVec F S4x128x128 .f32 := broadcastInDim S4x128x128 ![] bcast_S_S4x128x128 main_cst_1
  let main_v10 : IVec S4x128x128 1 := cmpf .olt main_v8 main_v9
  let main_v11 : FVec F S512 .f32 := Host.absf main_arg3
  let main_cst_2 : FVec F S_ .f32 := constant S_ .f32 0x7F800000#32
  let main_v12 : FVec F S512 .f32 := broadcastInDim S512 ![] bcast_S_S512 main_cst_2
  let main_v13 : IVec S512 1 := cmpf .olt main_v11 main_v12
  (main_v4, main_v7, main_v10, main_v13)
-- ==== Pre_poolf_finite.lean ====
abbrev S8192x1536 : Shape := ⟨2, ![8192, 1536]⟩
abbrev S4x128x128 : Shape := ⟨3, ![4, 128, 128]⟩
abbrev S512 : Shape := ⟨1, ![512]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)

variable [Facts]

def fn {F : FTy → Type} [FloatOps F] (main_arg0 : FVec F S8192x1536 .bf16) (main_arg1 : FVec F S4x128x128 .f32) (main_arg2 : FVec F S512 .f32) : IVec S8192x1536 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  main_v3
-- ==== Pre_sg_finite.lean ====
abbrev S8192x1536 : Shape := ⟨2, ![8192, 1536]⟩
abbrev S8192x2048 : Shape := ⟨2, ![8192, 2048]⟩
abbrev S512 : Shape := ⟨1, ![512]⟩
abbrev S4x128x128 : Shape := ⟨3, ![4, 128, 128]⟩
abbrev S4x128 : Shape := ⟨2, ![4, 128]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  bcast_S_S8192x2048 : S_.BroadcastsInDim S8192x2048 (![] : Fin 0 → Fin S8192x2048.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S8192x1536 .bf16) (main_arg1 : FVec F S8192x2048 .bf16) (main_arg2 : FVec F S512 .f32) (main_arg3 : FVec F S4x128x128 .f32) (main_arg4 : FVec F S4x128 .f32) : IVec S8192x1536 1 × IVec S8192x2048 1 × IVec S512 1 × IVec S4x128x128 1 × IVec S4x128 1 :=
  let main_v0 : FVec F S8192x1536 .f32 := (extf .f32 · bitsLt_bf16_f32) main_arg0
  let main_v1 : FVec F S8192x2048 .f32 := (extf .f32 · bitsLt_bf16_f32) main_arg1
  let main_v2 : FVec F S8192x1536 .f32 := Host.absf main_v0
  let main_cst : FVec F S_ .f32 := constant S_ .f32 0x7F800000#32
  let main_v3 : FVec F S8192x1536 .f32 := broadcastInDim S8192x1536 ![] bcast_S_S8192x1536 main_cst
  let main_v4 : IVec S8192x1536 1 := cmpf .olt main_v2 main_v3
  let main_v5 : FVec F S8192x2048 .f32 := Host.absf main_v1
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S512 .f32 := Host.absf main_arg2
  let main_cst_1 : FVec F S_ .f32 := constant S_ .f32 0x7F800000#32
  let main_v9 : FVec F S512 .f32 := broadcastInDim S512 ![] bcast_S_S512 main_cst_1
  let main_v10 : IVec S512 1 := cmpf .olt main_v8 main_v9
  let main_v11 : FVec F S4x128x128 .f32 := Host.absf main_arg3
  let main_cst_2 : FVec F S_ .f32 := constant S_ .f32 0x7F800000#32
  let main_v12 : FVec F S4x128x128 .f32 := broadcastInDim S4x128x128 ![] bcast_S_S4x128x128 main_cst_2
  let main_v13 : IVec S4x128x128 1 := cmpf .olt main_v11 main_v12
  let main_v14 : FVec F S4x128 .f32 := Host.absf main_arg4
  let main_cst_3 : FVec F S_ .f32 := constant S_ .f32 0x7F800000#32
  let main_v15 : FVec F S4x128 .f32 := broadcastInDim S4x128 ![] bcast_S_S4x128 main_cst_3
  let main_v16 : IVec S4x128 1 := cmpf .olt main_v14 main_v15
  (main_v4, main_v7, main_v10, main_v13, main_v16)
-- ==== Loss.lean ====
abbrev S8192x2048 : Shape := ⟨2, ![8192, 2048]⟩
abbrev S2048 : Shape := ⟨1, ![2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S1x128, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x128, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_21 : BitVec 32 := 0#32
  let v60 : BitVec 1 := Scalar.cmpi .ne v59 c0_i32_21
  v60

def k0_cond2 (i : grid0.Coords) : BitVec 1 :=
  let arg0 : BitVec 32 := BitVec.ofNat 32 (i 0).val
  let c0_i32_22 : BitVec 32 := 0#32
  let v61 : BitVec 1 := Scalar.cmpi .sgt arg0 c0_i32_22
  let v62 : BitVec 32 := Scalar.extui v61
  let c0_i32_23 : BitVec 32 := 0#32
  let v63 : BitVec 1 := Scalar.cmpi .ne v62 c0_i32_23
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x128, .f32⟩
  | .hbm, ⟨72, _⟩ => ⟨S8192x2048, .bf16⟩
  | .hbm, ⟨73, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Sg.lean ====
abbrev S8192x1536 : Shape := ⟨2, ![8192, 1536]⟩
abbrev S8192x2048 : Shape := ⟨2, ![8192, 2048]⟩
abbrev S512 : Shape := ⟨1, ![512]⟩
abbrev S4x128x128 : Shape := ⟨3, ![4, 128, 128]⟩
abbrev S4x128 : Shape := ⟨2, ![4, 128]⟩
abbrev S4x128x1 : Shape := ⟨3, ![4, 128, 1]⟩
abbrev S1x512 : Shape := ⟨2, ![1, 512]⟩
abbrev S8192x512 : Shape := ⟨2, ![8192, 512]⟩
abbrev S128x512 : Shape := ⟨2, ![128, 512]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 16
  | .vmem => 17
  | .smem => 0
  | _ => 0

abbrev bufTy : (tb : Table) → Fin (tcTables nBuf tb) → BufTy
  | .hbm, ⟨0, _⟩ => ⟨S8192x1536, .bf16⟩
  | .hbm, ⟨1, _⟩ => ⟨S8192x2048, .bf16⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S4x128x128, .bf16⟩
  | .hbm, ⟨6, _⟩ => ⟨S4x128x128, .f32⟩
  | .hbm, ⟨7, _⟩ => ⟨S4x128x128, .bf16⟩
  | .hbm, ⟨8, _⟩ => ⟨S4x128x1, .f32⟩
  | .hbm, ⟨9, _⟩ => ⟨S4x128x128, .f32⟩
  | .hbm, ⟨10, _⟩ => ⟨S1x512, .f32⟩
  | .hbm, ⟨11, _⟩ => ⟨S8192x512, .bf16⟩
  | .hbm, ⟨12, _⟩ => ⟨S8192x512, .bf16⟩
  | .hbm, ⟨13, _⟩ => ⟨S4x128x128, .f32⟩
  | .hbm, ⟨14, _⟩ => ⟨S4x128x128, .f32⟩
  | .hbm, ⟨15, _⟩ => ⟨S1x512, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S4x128x128, .bf16⟩
  | .local _ .vmem, ⟨7, _⟩ => ⟨S4x128x128, .bf16⟩
  | .local _ .vmem, ⟨8, _⟩ => ⟨S4x128x128, .f32⟩
  | .local _ .vmem, ⟨9, _⟩ => ⟨S1x512, .f32⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S4x128x128, .f32⟩
  | .local _ .vmem, ⟨15, _⟩ => ⟨S4x128x128, .f32⟩
  | .local _ .vmem, ⟨16, _⟩ => ⟨S1x512, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SgIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== SgRefIdeal.lean ====
abbrev S8192x1536 : Shape := ⟨2, ![8192, 1536]⟩
abbrev S8192x2048 : Shape := ⟨2, ![8192, 2048]⟩
abbrev S512 : Shape := ⟨1, ![512]⟩
abbrev S4x128x128 : Shape := ⟨3, ![4, 128, 128]⟩
abbrev S4x128 : Shape := ⟨2, ![4, 128]⟩
abbrev S1x8192x1536 : Shape := ⟨3, ![1, 8192, 1536]⟩
abbrev S1x8192x512 : Shape := ⟨3, ![1, 8192, 512]⟩
abbrev S8192x512 : Shape := ⟨2, ![8192, 512]⟩
abbrev S_ : Shape := ⟨0, ![]⟩
abbrev S1x64x128x4x128 : Shape := ⟨5, ![1, 64, 128, 4, 128]⟩
abbrev S1x64x128x4 : Shape := ⟨4, ![1, 64, 128, 4]⟩
abbrev S1x64x128x4x1 : Shape := ⟨5, ![1, 64, 128, 4, 1]⟩
abbrev S1x1x1x4x128 : Shape := ⟨5, ![1, 1, 1, 4, 128]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S1x4x128 : Shape := ⟨3, ![1, 4, 128]⟩
abbrev S64x128x4 : Shape := ⟨3, ![64, 128, 4]⟩
abbrev S4x128x1 : Shape := ⟨3, ![4, 128, 1]⟩
abbrev S1x512 : Shape := ⟨2, ![1, 512]⟩

abbrev nBuf : Space → Nat
  | .hbm => 152
  | .vmem => 0
  | .smem => 0
  | _ => 0

abbrev hbmTy0_0 (i : Nat) : BufTy := match i % 128 with
  | 0 => ⟨S8192x1536, .bf16⟩
  | 1 => ⟨S8192x2048, .bf16⟩
  | 2 => ⟨S512, .f32⟩
  | 3 => ⟨S4x128x128, .f32⟩
  | 4 => ⟨S4x128, .f32⟩
  | 5 => ⟨S8192x1536, .f32⟩
  | 6 => ⟨S1x8192x1536, .f32⟩
  | 7 => ⟨S1x8192x512, .f32⟩
  | 8 => ⟨S1x8192x512, .f32⟩
  | 9 => ⟨S8192x2048, .f32⟩
  | 10 => ⟨S8192x512, .f32⟩
  | 11 => ⟨S1x8192x512, .f32⟩
  | 12 => ⟨S_, .f32⟩
  | 13 => ⟨S1x8192x512, .f32⟩
  | 14 => ⟨S1x8192x512, .f32⟩
  | 15 => ⟨S_, .f32⟩
  | 16 => ⟨S_, .f32⟩
  | 17 => ⟨S1x8192x512, .f32⟩
  | 18 => ⟨S1x8192x512, .f32⟩
  | 19 => ⟨S1x8192x512, .f32⟩
  | 20 => ⟨S_, .f32⟩
  | 21 => ⟨S_, .f32⟩
  | 22 => ⟨S_, .f32⟩
  | 23 => ⟨S_, .f32⟩
  | 24 => ⟨S_, .f32⟩
  | 25 => ⟨S1x8192x512, .f32⟩
  | 26 => ⟨S1x8192x512, .f32⟩
  | 27 => ⟨S1x8192x512, .f32⟩
  | 28 => ⟨S1x8192x512, .f32⟩
  | 29 => ⟨S1x8192x512, .f32⟩
  | 30 => ⟨S_, .f32⟩
  | 31 => ⟨S1x8192x512, .f32⟩
  | 32 => ⟨S1x8192x512, .f32⟩
  | 33 => ⟨S1x8192x512, .f32⟩
  | 34 => ⟨S_, .f32⟩
  | 35 => ⟨S1x8192x512, .f32⟩
  | 36 => ⟨S1x8192x512, .f32⟩
  | 37 => ⟨S_, .f32⟩
  | 38 => ⟨S_, .f32⟩
  | 39 => ⟨S1x8192x512, .f32⟩
  | 40 => ⟨S1x8192x512, .f32⟩
  | 41 => ⟨S1x8192x512, .f32⟩
  | 42 => ⟨S_, .f32⟩
  | 43 => ⟨S_, .f32⟩
  | 44 => ⟨S_, .f32⟩
  | 45 => ⟨S_, .f32⟩
  | 46 => ⟨S_, .f32⟩
  | 47 => ⟨S1x8192x512, .f32⟩
  | 48 => ⟨S1x8192x512, .f32⟩
  | 49 => ⟨S1x8192x512, .f32⟩
  | 50 => ⟨S1x8192x512, .f32⟩
  | 51 => ⟨S1x8192x512, .f32⟩
  | 52 => ⟨S_, .f32⟩
  | 53 => ⟨S1x8192x512, .f32⟩
  | 54 => ⟨S1x8192x512, .f32⟩
  | 55 => ⟨S1x8192x512, .f32⟩
  | 56 => ⟨S1x64x128x4x128, .f32⟩
  | 57 => ⟨S4x128, .f32⟩
  | 58 => ⟨S1x64x128x4x128, .f32⟩
  | 59 => ⟨S_, .f32⟩
  | 60 => ⟨S1x64x128x4, .f32⟩
  | 61 => ⟨S1x64x128x4x1, .f32⟩
  | 62 => ⟨S_, .f32⟩
  | 63 => ⟨S1x64x128x4x1, .f32⟩
  | 64 => ⟨S1x64x128x4x1, .f32⟩
  | 65 => ⟨S_, .f32⟩
  | 66 => ⟨S1x64x128x4x1, .f32⟩
  | 67 => ⟨S1x64x128x4x1, .f32⟩
  | 68 => ⟨S1x64x128x4x1, .f32⟩
  | 69 => ⟨S1x64x128x4x1, .f32⟩
  | 70 => ⟨S_, .f32⟩
  | 71 => ⟨S1x64x128x4x1, .f32⟩
  | 72 => ⟨S1x64x128x4x1, .f32⟩
  | 73 => ⟨S1x64x128x4x128, .f32⟩
  | 74 => ⟨S1x64x128x4x128, .f32⟩
  | 75 => ⟨S1x1x1x4x128, .f32⟩
  | 76 => ⟨S1x64x128x4x128, .f32⟩
  | 77 => ⟨S1x64x128x4x128, .f32⟩
  | 78 => ⟨S4x1x64x128x128, .f32⟩
  | 79 => ⟨S1x64x128x4x128, .f32⟩
  | 80 => ⟨S128x4, .f32⟩
  | 81 => ⟨S1x1x128x4x1, .f32⟩
  | 82 => ⟨S1x64x128x4x128, .f32⟩
  | 83 => ⟨S1x64x128x4x128, .f32⟩
  | 84 => ⟨S1x8192x512, .f32⟩
  | 85 => ⟨S1x8192x512, .f32⟩
  | 86 => ⟨S1x8192x512, .f32⟩
  | 87 => ⟨S1x8192x512, .f32⟩
  | 88 => ⟨S1x64x128x4x128, .f32⟩
  | 89 => ⟨S_, .f32⟩
  | 90 => ⟨S1x128x4, .f32⟩
  | 91 => ⟨S1x1x128x4x1, .f32⟩
  | 92 => ⟨S_, .f32⟩
  | 93 => ⟨S128x4, .f32⟩
  | 94 => ⟨S4x128, .f32⟩
  | 95 => ⟨S4x1x64x128x128, .f32⟩
  | 96 => ⟨S4x128x128, .f32⟩
  | 97 => ⟨S4x1x64x128x128, .f32⟩
  | 98 => ⟨S1x64x128x4x128, .f32⟩
  | 99 => ⟨S1x64x128x4x128, .f32⟩
  | 100 => ⟨S_, .f32⟩
  | 101 => ⟨S1x4x128, .f32⟩
  | 102 => ⟨S1x1x1x4x128, .f32⟩
  | 103 => ⟨S1x64x128x4x128, .f32⟩
  | 104 => ⟨S1x64x128x4x128, .f32⟩
  | 105 => ⟨S_, .f32⟩
  | 106 => ⟨S4x128, .f32⟩
  | 107 => ⟨S1x64x128x4x128, .f32⟩
  | 108 => ⟨S_, .f32⟩
  | 109 => ⟨S1x64x128x4, .f32⟩
  | 110 => ⟨S1x64x128x4x1, .f32⟩
  | 111 => ⟨S1x64x128x4x128, .f32⟩
  | 112 => ⟨S1x64x128x4x128, .f32⟩
  | 113 => ⟨S1x64x128x4x1, .f32⟩
  | 114 => ⟨S_, .f32⟩
  | 115 => ⟨S1x64x128x4x1, .f32⟩
  | 116 => ⟨S1x64x128x4x1, .f32⟩
  | 117 => ⟨S_, .f32⟩
  | 118 => ⟨S64x128x4, .f32⟩
  | 119 => ⟨S1x64x128x4, .f32⟩
  | 120 => ⟨S1x64x128x4x128, .f32⟩
  | 121 => ⟨S1x64x128x4x128, .f32⟩
  | 122 => ⟨S1x64x128x4x128, .f32⟩
  | 123 => ⟨S1x64x128x4x128, .f32⟩
  | 124 => ⟨S1x64x128x4x128, .f32⟩
  | 125 => ⟨S512, .f32⟩
  | 126 => ⟨S1x8192x512, .f32⟩
  | 127 => ⟨S1x8192x512, .f32⟩
  | _ => ⟨S8192x1536, .bf16⟩

abbrev hbmTy0_1 (i : Nat) : BufTy := match i % 128 with
  | 0 => ⟨S1x8192x512, .f32⟩
  | 1 => ⟨S1x8192x512, .f32⟩
  | 2 => ⟨S1x8192x512, .f32⟩
  | 3 => ⟨S1x8192x512, .f32⟩
  | 4 => ⟨S_, .f32⟩
  | 5 => ⟨S1x8192x512, .f32⟩
  | 6 => ⟨S1x8192x512, .f32⟩
  | 7 => ⟨S1x8192x512, .f32⟩
  | 8 => ⟨S1x8192x512, .f32⟩
  | 9 => ⟨S1x8192x512, .f32⟩
  | 10 => ⟨S1x8192x512, .f32⟩
  | 11 => ⟨S1x8192x512, .f32⟩
  | 12 => ⟨S1x8192x512, .f32⟩
  | 13 => ⟨S_, .f32⟩
  | 14 => ⟨S1x8192x512, .f32⟩
  | 15 => ⟨S1x8192x512, .f32⟩
  | 16 => ⟨S1x8192x512, .f32⟩
  | 17 => ⟨S8192x512, .f32⟩
  | 18 => ⟨S8192x512, .bf16⟩
  | 19 => ⟨S8192x512, .f32⟩
  | 20 => ⟨S8192x512, .bf16⟩
  | 21 => ⟨S4x128x1, .f32⟩
  | 22 => ⟨S4x128x128, .f32⟩
  | 23 => ⟨S1x512, .f32⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩
abbrev main_v71 : Ref sig .tc := ⟨.hbm, 91, rfl⟩
abbrev main_cst_14 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_15 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_16 : Ref sig .tc := ⟨.hbm, 105, rfl⟩
abbrev main_v83 : Ref sig .tc := ⟨.hbm, 106, rfl⟩
abbrev main_v84 : Ref sig .tc := ⟨.hbm, 107, rfl⟩
abbrev main_cst_17 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_18 : Ref sig .tc := ⟨.hbm, 114, rfl⟩
abbrev main_v90 : Ref sig .tc := ⟨.hbm, 115, rfl⟩
abbrev main_v91 : Ref sig .tc := ⟨.hbm, 116, rfl⟩
abbrev main_cst_19 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_20 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_21 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩

abbrev nD : Nat := 1
abbrev τ : Topo := Topo.v7x

variable {F : FTy → Type} [FloatOps F]
-- ==== Attn.lean ====
abbrev S8192x3072 : Shape := ⟨2, ![8192, 3072]⟩
abbrev S8192x2048 : Shape := ⟨2, ![8192, 2048]⟩
abbrev S8x15x31 : Shape := ⟨3, ![8, 15, 31]⟩
abbrev S8192x24x128 : Shape := ⟨3, ![8192, 24, 128]⟩
abbrev S24x8192x128 : Shape := ⟨3, ![24, 8192, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S_ : Shape := ⟨0, ![]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S8 : Shape := ⟨1, ![8]⟩
abbrev S8x1 : Shape := ⟨2, ![8, 1]⟩
abbrev S1x8 : Shape := ⟨2, ![1, 8]⟩
abbrev S15 : Shape := ⟨1, ![15]⟩
abbrev S15x1x1 : Shape := ⟨3, ![15, 1, 1]⟩
abbrev S8x8 : Shape := ⟨2, ![8, 8]⟩
abbrev S1x8x8 : Shape := ⟨3, ![1, 8, 8]⟩
abbrev S15x8x8 : Shape := ⟨3, ![15, 8, 8]⟩
abbrev S8x15x31x1x1 : Shape := ⟨5, ![8, 15, 31, 1, 1]⟩
abbrev S1x1x31x64x64 : Shape := ⟨5, ![1, 1, 31, 64, 64]⟩
abbrev S8x15x31x64x64 : Shape := ⟨5, ![8, 15, 31, 64, 64]⟩
abbrev S8x15x64x64 : Shape := ⟨4, ![8, 15, 64, 64]⟩
abbrev S8x15x1x64x1x64 : Shape := ⟨6, ![8, 15, 1, 64, 1, 64]⟩
abbrev S1x15x8x1x8x1 : Shape := ⟨6, ![1, 15, 8, 1, 8, 1]⟩
abbrev S8x15x8x64x8x64 : Shape := ⟨6, ![8, 15, 8, 64, 8, 64]⟩
abbrev S8x8x64x8x64 : Shape := ⟨5, ![8, 8, 64, 8, 64]⟩
abbrev S8x8x64x512 : Shape := ⟨4, ![8, 8, 64, 512]⟩
abbrev S8x8192x128 : Shape := ⟨3, ![8, 8192, 128]⟩
abbrev S1x1024x128 : Shape := ⟨3, ![1, 1024, 128]⟩
abbrev S1x8192x128 : Shape := ⟨3, ![1, 8192, 128]⟩
abbrev S1024x128 : Shape := ⟨2, ![1024, 128]⟩
abbrev S1x8x64x512 : Shape := ⟨4, ![1, 8, 64, 512]⟩
abbrev S8192x128 : Shape := ⟨2, ![8192, 128]⟩
abbrev S16x64x512 : Shape := ⟨3, ![16, 64, 512]⟩
abbrev S64x512 : Shape := ⟨2, ![64, 512]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S1x64x512 : Shape := ⟨3, ![1, 64, 512]⟩
abbrev S1x1x64x512 : Shape := ⟨4, ![1, 1, 64, 512]⟩
abbrev S8x1x8x64x8x64 : Shape := ⟨6, ![8, 1, 8, 64, 8, 64]⟩
abbrev S8x15x1x64x64 : Shape := ⟨5, ![8, 15, 1, 64, 64]⟩

abbrev nBuf : Space → Nat
  | .hbm => 121
  | .vmem => 24
  | .smem => 0
  | _ => 0

abbrev bufTy : (tb : Table) → Fin (tcTables nBuf tb) → BufTy
  | .hbm, ⟨0, _⟩ => ⟨S8192x3072, .bf16⟩
  | .hbm, ⟨1, _⟩ => ⟨S8192x2048, .bf16⟩
  | .hbm, ⟨2, _⟩ => ⟨S8x15x31, .f32⟩
  | .hbm, ⟨3, _⟩ => ⟨S8192x24x128, .bf16⟩
  | .hbm, ⟨4, _⟩ => ⟨S24x8192x128, .bf16⟩
  | .hbm, ⟨5, _⟩ => ⟨S64, .i32⟩
  | .hbm, ⟨6, _⟩ => ⟨S1x64, .i32⟩
  | .hbm, ⟨7, _⟩ => ⟨S64x1, .i32⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S64x64, .i32⟩
  | .hbm, ⟨21, _⟩ => ⟨S64x64, .i32⟩
  | .hbm, ⟨22, _⟩ => ⟨S_, .i32⟩
  | .hbm, ⟨23, _⟩ => ⟨S64x64, .i32⟩
  | .hbm, ⟨24, _⟩ => ⟨S64x64, .i32⟩
  | .hbm, ⟨25, _⟩ => ⟨S1x64x64, .i32⟩
  | .hbm, ⟨26, _⟩ => ⟨S31, .i32⟩
  | .hbm, ⟨27, _⟩ => ⟨S31x1x1, .i32⟩
  | .hbm, ⟨28, _⟩ => ⟨S31x64x64, .i32⟩
  | .hbm, ⟨29, _⟩ => ⟨S31x64x64, .i32⟩
  | .hbm, ⟨30, _⟩ => ⟨S31x64x64, .i1⟩
  | .hbm, ⟨31, _⟩ => ⟨S31x64x64, .f32⟩
  | .hbm, ⟨32, _⟩ => ⟨S8, .i32⟩
  | .hbm, ⟨33, _⟩ => ⟨S8x1, .i32⟩
  | .hbm, ⟨34, _⟩ => ⟨S8, .i32⟩
  | .hbm, ⟨35, _⟩ => ⟨S1x8, .i32⟩
  | .hbm, ⟨36, _⟩ => ⟨S15, .i32⟩
  | .hbm, ⟨37, _⟩ => ⟨S15x1x1, .i32⟩
  | .hbm, ⟨38, _⟩ => ⟨S8x8, .i32⟩
  | .hbm, ⟨39, _⟩ => ⟨S8x8, .i32⟩
  | .hbm, ⟨40, _⟩ => ⟨S8x8, .i32⟩
  | .hbm, ⟨41, _⟩ => ⟨S1x8x8, .i32⟩
  | .hbm, ⟨42, _⟩ => ⟨S15x8x8, .i32⟩
  | .hbm, ⟨43, _⟩ => ⟨S15x8x8, .i32⟩
  | .hbm, ⟨44, _⟩ => ⟨S15x8x8, .i1⟩
  | .hbm, ⟨45, _⟩ => ⟨S15x8x8, .f32⟩
  | .hbm, ⟨46, _⟩ => ⟨S8x15x31x1x1, .f32⟩
  | .hbm, ⟨47, _⟩ => ⟨S1x1x31x64x64, .f32⟩
  | .hbm, ⟨48, _⟩ => ⟨S8x15x31x64x64, .f32⟩
  | .hbm, ⟨49, _⟩ => ⟨S8x15x31x64x64, .f32⟩
  | .hbm, ⟨50, _⟩ => ⟨S8x15x31x64x64, .f32⟩
  | .hbm, ⟨51, _⟩ => ⟨S_, .f32⟩
  | .hbm, ⟨52, _⟩ => ⟨S8x15x64x64, .f32⟩
  | .hbm, ⟨53, _⟩ => ⟨S8x15x1x64x1x64, .f32⟩
  | .hbm, ⟨54, _⟩ => ⟨S1x15x8x1x8x1, .f32⟩
  | .hbm, ⟨55, _⟩ => ⟨S8x15x8x64x8x64, .f32⟩
  | .hbm, ⟨56, _⟩ => ⟨S8x15x8x64x8x64, .f32⟩
  | .hbm, ⟨57, _⟩ => ⟨S8x15x8x64x8x64, .f32⟩
  | .hbm, ⟨58, _⟩ => ⟨S_, .f32⟩
  | .hbm, ⟨59, _⟩ => ⟨S8x8x64x8x64, .f32⟩
  | .hbm, ⟨60, _⟩ => ⟨S8x8x64x512, .f32⟩
  | .hbm, ⟨61, _⟩ => ⟨S8x8192x128, .bf16⟩
  | .hbm, ⟨62, _⟩ => ⟨S8x8192x128, .bf16⟩
  | .hbm, ⟨63, _⟩ => ⟨S8x8192x128, .bf16⟩
  | .hbm, ⟨64, _⟩ => ⟨S8x8x64x512, .f32⟩
  | .hbm, ⟨65, _⟩ => ⟨S64, .i32⟩
  | .hbm, ⟨66, _⟩ => ⟨S1x64, .i32⟩
  | .hbm, ⟨67, _⟩ => ⟨S64x1, .i32⟩
  | .hbm, ⟨68, _⟩ => ⟨S64x64, .i32⟩
  | .hbm, ⟨69, _⟩ => ⟨S64x64, .i32⟩
  | .hbm, ⟨70, _⟩ => ⟨S64x64, .i32⟩
  | .hbm, ⟨71, _⟩ => ⟨S_, .i32⟩
  | .hbm, ⟨72, _⟩ => ⟨S64x64, .i32⟩
  | .hbm, ⟨73, _⟩ => ⟨S64x64, .i32⟩
  | .hbm, ⟨74, _⟩ => ⟨S_, .i32⟩
  | .hbm, ⟨75, _⟩ => ⟨S64x64, .i32⟩
  | .hbm, ⟨76, _⟩ => ⟨S64x64, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S64x64, .i32⟩
  | .hbm, ⟨81, _⟩ => ⟨S64x64, .i32⟩
  | .hbm, ⟨82, _⟩ => ⟨S_, .i32⟩
  | .hbm, ⟨83, _⟩ => ⟨S64x64, .i32⟩
  | .hbm, ⟨84, _⟩ => ⟨S64x64, .i32⟩
  | .hbm, ⟨85, _⟩ => ⟨S1x64x64, .i32⟩
  | .hbm, ⟨86, _⟩ => ⟨S31, .i32⟩
  | .hbm, ⟨87, _⟩ => ⟨S31x1x1, .i32⟩
  | .hbm, ⟨88, _⟩ => ⟨S31x64x64, .i32⟩
  | .hbm, ⟨89, _⟩ => ⟨S31x64x64, .i32⟩
  | .hbm, ⟨90, _⟩ => ⟨S31x64x64, .i1⟩
  | .hbm, ⟨91, _⟩ => ⟨S31x64x64, .f32⟩
  | .hbm, ⟨92, _⟩ => ⟨S8, .i32⟩
  | .hbm, ⟨93, _⟩ => ⟨S8x1, .i32⟩
  | .hbm, ⟨94, _⟩ => ⟨S8, .i32⟩
  | .hbm, ⟨95, _⟩ => ⟨S1x8, .i32⟩
  | .hbm, ⟨96, _⟩ => ⟨S15, .i32⟩
  | .hbm, ⟨97, _⟩ => ⟨S15x1x1, .i32⟩
  | .hbm, ⟨98, _⟩ => ⟨S8x8, .i32⟩
  | .hbm, ⟨99, _⟩ => ⟨S8x8, .i32⟩
  | .hbm, ⟨100, _⟩ => ⟨S8x8, .i32⟩
  | .hbm, ⟨101, _⟩ => ⟨S1x8x8, .i32⟩
  | .hbm, ⟨102, _⟩ => ⟨S15x8x8, .i32⟩
  | .hbm, ⟨103, _⟩ => ⟨S15x8x8, .i32⟩
  | .hbm, ⟨104, _⟩ => ⟨S15x8x8, .i1⟩
  | .hbm, ⟨105, _⟩ => ⟨S15x8x8, .f32⟩
  | .hbm, ⟨106, _⟩ => ⟨S8x8x64x8x64, .f32⟩
  | .hbm, ⟨107, _⟩ => ⟨S8x1x8x64x8x64, .f32⟩
  | .hbm, ⟨108, _⟩ => ⟨S1x15x8x1x8x1, .f32⟩
  | .hbm, ⟨109, _⟩ => ⟨S8x15x8x64x8x64, .f32⟩
  | .hbm, ⟨110, _⟩ => ⟨S8x15x8x64x8x64, .f32⟩
  | .hbm, ⟨111, _⟩ => ⟨S8x15x8x64x8x64, .f32⟩
  | .hbm, ⟨112, _⟩ => ⟨S_, .f32⟩
  | .hbm, ⟨113, _⟩ => ⟨S8x15x64x64, .f32⟩
  | .hbm, ⟨114, _⟩ => ⟨S8x15x1x64x64, .f32⟩
  | .hbm, ⟨115, _⟩ => ⟨S1x1x31x64x64, .f32⟩
  | .hbm, ⟨116, _⟩ => ⟨S8x15x31x64x64, .f32⟩
  | .hbm, ⟨117, _⟩ => ⟨S8x15x31x64x64, .f32⟩
  | .hbm, ⟨118, _⟩ => ⟨S8x15x31x64x64, .f32⟩
  | .hbm, ⟨119, _⟩ => ⟨S_, .f32⟩
  | .hbm, ⟨120, _⟩ => ⟨S8x15x31, .f32⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x8x64x512, .f32⟩
  | .local _ .vmem, ⟨9, _⟩ => ⟨S1x8x64x512, .f32⟩
  | .local _ .vmem, ⟨10, _⟩ => ⟨S1x1024x128, .bf16⟩
  | .local _ .vmem, ⟨11, _⟩ => ⟨S1x1024x128, .bf16⟩
  | .local _ .vmem, ⟨12, _⟩ => ⟨S1x8192x128, .bf16⟩
  | .local _ .vmem, ⟨13, _⟩ => ⟨S1x8192x128, .bf16⟩
  | .local _ .vmem, ⟨14, _⟩ => ⟨S1x8192x128, .bf16⟩
  | .local _ .vmem, ⟨15, _⟩ => ⟨S1x8192x128, .bf16⟩
  | .local _ .vmem, ⟨16, _⟩ => ⟨S1x8x64x512, .f32⟩
  | .local _ .vmem, ⟨17, _⟩ => ⟨S1x8x64x512, .f32⟩
  | .local _ .vmem, ⟨18, _⟩ => ⟨S8192x128, .f32⟩
  | .local _ .vmem, ⟨19, _⟩ => ⟨S8192x128, .f32⟩
  | .local _ .vmem, ⟨20, _⟩ => ⟨S16x64x512, .f32⟩
  | .local _ .vmem, ⟨21, _⟩ => ⟨S16x64x512, .f32⟩
  | .local _ .vmem, ⟨22, _⟩ => ⟨S16x64x512, .bf16⟩
  | .local _ .vmem, ⟨23, _⟩ => ⟨S16x64x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47_0 : Ref sig .tc := ⟨.hbm, 61, rfl⟩
abbrev main_v47_1 : Ref sig .tc := ⟨.hbm, 62, rfl⟩
abbrev main_v47_2 : Ref sig .tc := ⟨.hbm, 63, rfl⟩
abbrev main_v47_3 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_4 : Ref sig .tc := ⟨.hbm, 71, rfl⟩
abbrev main_v54 : Ref sig .tc := ⟨.hbm, 72, rfl⟩
abbrev main_v55 : Ref sig .tc := ⟨.hbm, 73, rfl⟩
abbrev main_c_5 : Ref sig .tc := ⟨.hbm, 74, rfl⟩
abbrev main_v56 : Ref sig .tc := ⟨.hbm, 75, rfl⟩
abbrev main_v57 : Ref sig .tc := ⟨.hbm, 76, rfl⟩
abbrev main_c_6 : Ref sig .tc := ⟨.hbm, 77, rfl⟩
abbrev main_c_7 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_8 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_9 : Ref sig .tc := ⟨.hbm, 119, rfl⟩
abbrev main_v92 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c120_i32 : BitVec 32 := 120#32
  let c0_i32_4 : BitVec 32 := 0#32
  let arg1 : BitVec 32 := BitVec.ofNat 32 (i 1).val
  let c16_i32_2 : BitVec 32 := 16#32
  let v18 : BitVec 32 := Scalar.muli arg1 c16_i32_2
  let c0_i32_3 : BitVec 32 := 0#32
  let v19 : BitVec 32 := Scalar.addi v18 c0_i32_3
  let c4_i32 : BitVec 32 := 4#32
  let v20 : BitVec 32 := Scalar.subi v19 c4_i32
  let v21 : BitVec 32 := Scalar.maxsi c0_i32_4 v20
  let v22 : BitVec 32 := Scalar.minsi c120_i32 v21
  let c64_i32 : BitVec 32 := 64#32
  let v23 : BitVec 32 := Scalar.muli v22 c64_i32
  v23
def k0_mult2 (i : grid0.Coords) : BitVec 32 :=
  let c120_i32_10 : BitVec 32 := 120#32
  let c0_i32_9 : BitVec 32 := 0#32
  let arg1 : BitVec 32 := BitVec.ofNat 32 (i 1).val
  let c16_i32_6 : BitVec 32 := 16#32
  let v28 : BitVec 32 := Scalar.muli arg1 c16_i32_6
  let c1_i32_7 : BitVec 32 := 1#32
  let v29 : BitVec 32 := Scalar.addi v28 c1_i32_7
  let c4_i32_8 : BitVec 32 := 4#32
  let v30 : BitVec 32 := Scalar.subi v29 c4_i32_8
  let v31 : BitVec 32 := Scalar.maxsi c0_i32_9 v30
  let v32 : BitVec 32 := Scalar.minsi c120_i32_10 v31
  let c64_i32_11 : BitVec 32 := 64#32
  let v33 : BitVec 32 := Scalar.muli v32 c64_i32_11
  v33
def k0_mult3 (i : grid0.Coords) : BitVec 32 :=
  let c120_i32_17 : BitVec 32 := 120#32
  let c0_i32_16 : BitVec 32 := 0#32
  let arg1 : BitVec 32 := BitVec.ofNat 32 (i 1).val
  let c16_i32_14 : BitVec 32 := 16#32
  let v38 : BitVec 32 := Scalar.muli arg1 c16_i32_14
  let c2_i32 : BitVec 32 := 2#32
  let v39 : BitVec 32 := Scalar.addi v38 c2_i32
  let c4_i32_15 : BitVec 32 := 4#32
  let v40 : BitVec 32 := Scalar.subi v39 c4_i32_15
  let v41 : BitVec 32 := Scalar.maxsi c0_i32_16 v40
  let v42 : BitVec 32 := Scalar.minsi c120_i32_17 v41
  let c64_i32_18 : BitVec 32 := 64#32
  let v43 : BitVec 32 := Scalar.muli v42 c64_i32_18
  v43
def k0_mult4 (i : grid0.Coords) : BitVec 32 :=
  let c120_i32_24 : BitVec 32 := 120#32
  let c0_i32_23 : BitVec 32 := 0#32
  let arg1 : BitVec 32 := BitVec.ofNat 32 (i 1).val
  let c16_i32_21 : BitVec 32 := 16#32
  let v48 : BitVec 32 := Scalar.muli arg1 c16_i32_21
  let c3_i32 : BitVec 32 := 3#32
  let v49 : BitVec 32 := Scalar.addi v48 c3_i32
  let c4_i32_22 : BitVec 32 := 4#32
  let v50 : BitVec 32 := Scalar.subi v49 c4_i32_22
  let v51 : BitVec 32 := Scalar.maxsi c0_i32_23 v50
  let v52 : BitVec 32 := Scalar.minsi c120_i32_24 v51
  let c64_i32_25 : BitVec 32 := 64#32
  let v53 : BitVec 32 := Scalar.muli v52 c64_i32_25
  v53
def k0_mult5 (i : grid0.Coords) : BitVec 32 :=
  let c120_i32_32 : BitVec 32 := 120#32
  let c0_i32_31 : BitVec 32 := 0#32
  let arg1 : BitVec 32 := BitVec.ofNat 32 (i 1).val
  let c16_i32_28 : BitVec 32 := 16#32
  let v58 : BitVec 32 := Scalar.muli arg1 c16_i32_28
  let c4_i32_29 : BitVec 32 := 4#32
  let v59 : BitVec 32 := Scalar.addi v58 c4_i32_29
  let c4_i32_30 : BitVec 32 := 4#32
  let v60 : BitVec 32 := Scalar.subi v59 c4_i32_30
  let v61 : BitVec 32 := Scalar.maxsi c0_i32_31 v60
  let v62 : BitVec 32 := Scalar.minsi c120_i32_32 v61
  let c64_i32_33 : BitVec 32 := 64#32
  let v63 : BitVec 32 := Scalar.muli v62 c64_i32_33
  v63
def k0_mult6 (i : grid0.Coords) : BitVec 32 :=
  let c120_i32_39 : BitVec 32 := 120#32
  let c0_i32_38 : BitVec 32 := 0#32
  let arg1 : BitVec 32 := BitVec.ofNat 32 (i 1).val
  let c16_i32_36 : BitVec 32 := 16#32
  let v68 : BitVec 32 := Scalar.muli arg1 c16_i32_36
  let c5_i32 : BitVec 32 := 5#32
  let v69 : BitVec 32 := Scalar.addi v68 c5_i32
  let c4_i32_37 : BitVec 32 := 4#32
  let v70 : BitVec 32 := Scalar.subi v69 c4_i32_37
  let v71 : BitVec 32 := Scalar.maxsi c0_i32_38 v70
  let v72 : BitVec 32 := Scalar.minsi c120_i32_39 v71
  let c64_i32_40 : BitVec 32 := 64#32
  let v73 : BitVec 32 := Scalar.muli v72 c64_i32_40
  v73
def k0_mult7 (i : grid0.Coords) : BitVec 32 :=
  let c120_i32_46 : BitVec 32 := 120#32
  let c0_i32_45 : BitVec 32 := 0#32
  let arg1 : BitVec 32 := BitVec.ofNat 32 (i 1).val
  let c16_i32_43 : BitVec 32 := 16#32
  let v78 : BitVec 32 := Scalar.muli arg1 c16_i32_43
  let c6_i32 : BitVec 32 := 6#32
  let v79 : BitVec 32 := Scalar.addi v78 c6_i32
  let c4_i32_44 : BitVec 32 := 4#32
  let v80 : BitVec 32 := Scalar.subi v79 c4_i32_44
  let v81 : BitVec 32 := Scalar.maxsi c0_i32_45 v80
  let v82 : BitVec 32 := Scalar.minsi c120_i32_46 v81
  let c64_i32_47 : BitVec 32 := 64#32
  let v83 : BitVec 32 := Scalar.muli v82 c64_i32_47
  v83
def k0_mult8 (i : grid0.Coords) : BitVec 32 :=
  let c120_i32_53 : BitVec 32 := 120#32
  let c0_i32_52 : BitVec 32 := 0#32
  let arg1 : BitVec 32 := BitVec.ofNat 32 (i 1).val
  let c16_i32_50 : BitVec 32 := 16#32
  let v88 : BitVec 32 := Scalar.muli arg1 c16_i32_50
  let c7_i32 : BitVec 32 := 7#32
  let v89 : BitVec 32 := Scalar.addi v88 c7_i32
  let c4_i32_51 : BitVec 32 := 4#32
  let v90 : BitVec 32 := Scalar.subi v89 c4_i32_51
  let v91 : BitVec 32 := Scalar.maxsi c0_i32_52 v90
  let v92 : BitVec 32 := Scalar.minsi c120_i32_53 v91
  let c64_i32_54 : BitVec 32 := 64#32
  let v93 : BitVec 32 := Scalar.muli v92 c64_i32_54
  v93
def k0_mult9 (i : grid0.Coords) : BitVec 32 :=
  let c120_i32_61 : BitVec 32 := 120#32
  let c0_i32_60 : BitVec 32 := 0#32
  let arg1 : BitVec 32 := BitVec.ofNat 32 (i 1).val
  let c16_i32_57 : BitVec 32 := 16#32
  let v98 : BitVec 32 := Scalar.muli arg1 c16_i32_57
  let c8_i32_58 : BitVec 32 := 8#32
  let v99 : BitVec 32 := Scalar.addi v98 c8_i32_58
  let c4_i32_59 : BitVec 32 := 4#32
  let v100 : BitVec 32 := Scalar.subi v99 c4_i32_59
  let v101 : BitVec 32 := Scalar.maxsi c0_i32_60 v100
  let v102 : BitVec 32 := Scalar.minsi c120_i32_61 v101
  let c64_i32_62 : BitVec 32 := 64#32
  let v103 : BitVec 32 := Scalar.muli v102 c64_i32_62
  v103
def k0_mult10 (i : grid0.Coords) : BitVec 32 :=
  let c120_i32_68 : BitVec 32 := 120#32
  let c0_i32_67 : BitVec 32 := 0#32
  let arg1 : BitVec 32 := BitVec.ofNat 32 (i 1).val
  let c16_i32_65 : BitVec 32 := 16#32
  let v108 : BitVec 32 := Scalar.muli arg1 c16_i32_65
  let c9_i32 : BitVec 32 := 9#32
  let v109 : BitVec 32 := Scalar.addi v108 c9_i32
  let c4_i32_66 : BitVec 32 := 4#32
  let v110 : BitVec 32 := Scalar.subi v109 c4_i32_66
  let v111 : BitVec 32 := Scalar.maxsi c0_i32_67 v110
  let v112 : BitVec 32 := Scalar.minsi c120_i32_68 v111
  let c64_i32_69 : BitVec 32 := 64#32
  let v113 : BitVec 32 := Scalar.muli v112 c64_i32_69
  v113
def k0_mult11 (i : grid0.Coords) : BitVec 32 :=
  let c120_i32_75 : BitVec 32 := 120#32
  let c0_i32_74 : BitVec 32 := 0#32
  let arg1 : BitVec 32 := BitVec.ofNat 32 (i 1).val
  let c16_i32_72 : BitVec 32 := 16#32
  let v118 : BitVec 32 := Scalar.muli arg1 c16_i32_72
  let c10_i32 : BitVec 32 := 10#32
  let v119 : BitVec 32 := Scalar.addi v118 c10_i32
  let c4_i32_73 : BitVec 32 := 4#32
  let v120 : BitVec 32 := Scalar.subi v119 c4_i32_73
  let v121 : BitVec 32 := Scalar.maxsi c0_i32_74 v120
  let v122 : BitVec 32 := Scalar.minsi c120_i32_75 v121
  let c64_i32_76 : BitVec 32 := 64#32
  let v123 : BitVec 32 := Scalar.muli v122 c64_i32_76
  v123
def k0_mult12 (i : grid0.Coords) : BitVec 32 :=
  let c120_i32_82 : BitVec 32 := 120#32
  let c0_i32_81 : BitVec 32 := 0#32
  let arg1 : BitVec 32 := BitVec.ofNat 32 (i 1).val
  let c16_i32_79 : BitVec 32 := 16#32
  let v128 : BitVec 32 := Scalar.muli arg1 c16_i32_79
  let c11_i32 : BitVec 32 := 11#32
  let v129 : BitVec 32 := Scalar.addi v128 c11_i32
  let c4_i32_80 : BitVec 32 := 4#32
  let v130 : BitVec 32 := Scalar.subi v129 c4_i32_80
  let v131 : BitVec 32 := Scalar.maxsi c0_i32_81 v130
  let v132 : BitVec 32 := Scalar.minsi c120_i32_82 v131
  let c64_i32_83 : BitVec 32 := 64#32
  let v133 : BitVec 32 := Scalar.muli v132 c64_i32_83
  v133
def k0_mult13 (i : grid0.Coords) : BitVec 32 :=
  let c120_i32_89 : BitVec 32 := 120#32
  let c0_i32_88 : BitVec 32 := 0#32
  let arg1 : BitVec 32 := BitVec.ofNat 32 (i 1).val
  let c16_i32_86 : BitVec 32 := 16#32
  let v138 : BitVec 32 := Scalar.muli arg1 c16_i32_86
  let c12_i32 : BitVec 32 := 12#32
  let v139 : BitVec 32 := Scalar.addi v138 c12_i32
  let c4_i32_87 : BitVec 32 := 4#32
  let v140 : BitVec 32 := Scalar.subi v139 c4_i32_87
  let v141 : BitVec 32 := Scalar.maxsi c0_i32_88 v140
  let v142 : BitVec 32 := Scalar.minsi c120_i32_89 v141
  let c64_i32_90 : BitVec 32 := 64#32
  let v143 : BitVec 32 := Scalar.muli v142 c64_i32_90
  v143
def k0_mult14 (i : grid0.Coords) : BitVec 32 :=
  let c120_i32_96 : BitVec 32 := 120#32
  let c0_i32_95 : BitVec 32 := 0#32
  let arg1 : BitVec 32 := BitVec.ofNat 32 (i 1).val
  let c16_i32_93 : BitVec 32 := 16#32
  let v148 : BitVec 32 := Scalar.muli arg1 c16_i32_93
  let c13_i32 : BitVec 32 := 13#32
  let v149 : BitVec 32 := Scalar.addi v148 c13_i32
  let c4_i32_94 : BitVec 32 := 4#32
  let v150 : BitVec 32 := Scalar.subi v149 c4_i32_94
  let v151 : BitVec 32 := Scalar.maxsi c0_i32_95 v150
  let v152 : BitVec 32 := Scalar.minsi c120_i32_96 v151
  let c64_i32_97 : BitVec 32 := 64#32
  let v153 : BitVec 32 := Scalar.muli v152 c64_i32_97
  v153
def k0_mult15 (i : grid0.Coords) : BitVec 32 :=
  let c120_i32_103 : BitVec 32 := 120#32
  let c0_i32_102 : BitVec 32 := 0#32
  let arg1 : BitVec 32 := BitVec.ofNat 32 (i 1).val
  let c16_i32_100 : BitVec 32 := 16#32
  let v158 : BitVec 32 := Scalar.muli arg1 c16_i32_100
  let c14_i32 : BitVec 32 := 14#32
  let v159 : BitVec 32 := Scalar.addi v158 c14_i32
  let c4_i32_101 : BitVec 32 := 4#32
  let v160 : BitVec 32 := Scalar.subi v159 c4_i32_101
  let v161 : BitVec 32 := Scalar.maxsi c0_i32_102 v160
  let v162 : BitVec 32 := Scalar.minsi c120_i32_103 v161
  let c64_i32_104 : BitVec 32 := 64#32
  let v163 : BitVec 32 := Scalar.muli v162 c64_i32_104
  v163
def k0_mult16 (i : grid0.Coords) : BitVec 32 :=
  let c120_i32_110 : BitVec 32 := 120#32
  let c0_i32_109 : BitVec 32 := 0#32
  let arg1 : BitVec 32 := BitVec.ofNat 32 (i 1).val
  let c16_i32_107 : BitVec 32 := 16#32
  let v168 : BitVec 32 := Scalar.muli arg1 c16_i32_107
  let c15_i32 : BitVec 32 := 15#32
  let v169 : BitVec 32 := Scalar.addi v168 c15_i32
  let c4_i32_108 : BitVec 32 := 4#32
  let v170 : BitVec 32 := Scalar.subi v169 c4_i32_108
  let v171 : BitVec 32 := Scalar.maxsi c0_i32_109 v170
  let v172 : BitVec 32 := Scalar.minsi c120_i32_110 v171
  let c64_i32_111 : BitVec 32 := 64#32
  let v173 : BitVec 32 := Scalar.muli v172 c64_i32_111
  v173
def k0_off1 (i : grid0.Coords) (c0_i32_3 : BitVec 32) : Fin 3 → Nat :=
  let c0_116 : Index := 0#32
  let c120_i32 : BitVec 32 := 120#32
  let c0_i32_4 : BitVec 32 := 0#32
  let arg1 : BitVec 32 := BitVec.ofNat 32 (i 1).val
  let c16_i32_2 : BitVec 32 := 16#32
  let v18 : BitVec 32 := Scalar.muli arg1 c16_i32_2
  let v19 : BitVec 32 := Scalar.addi v18 c0_i32_3
  let c4_i32 : BitVec 32 := 4#32
  let v20 : BitVec 32 := Scalar.subi v19 c4_i32
  let v21 : BitVec 32 := Scalar.maxsi c0_i32_4 v20
  let v22 : BitVec 32 := Scalar.minsi c120_i32 v21
  let c64_i32 : BitVec 32 := 64#32
  let v23 : BitVec 32 := Scalar.muli v22 c64_i32
  let v24 : BitVec 32 := v23
  let v180 : Index := Scalar.indexCast v24
  let c0_117 : Index := 0#32
  ![0, v180.toNat, 0]
def k0_off2 (i : grid0.Coords) (c0_i32_3 : BitVec 32) : Fin 4 → Nat :=
  let c0_357 : Index := 0#32
  let c120_i32 : BitVec 32 := 120#32
  let c0_i32_4 : BitVec 32 := 0#32
  let arg1 : BitVec 32 := BitVec.ofNat 32 (i 1).val
  let c16_i32_2 : BitVec 32 := 16#32
  let v18 : BitVec 32 := Scalar.muli arg1 c16_i32_2
  let v19 : BitVec 32 := Scalar.addi v18 c0_i32_3
  let c4_i32 : BitVec 32 := 4#32
  let v20 : BitVec 32 := Scalar.subi v19 c4_i32
  let v21 : BitVec 32 := Scalar.maxsi c0_i32_4 v20
  let v22 : BitVec 32 := Scalar.minsi c120_i32 v21
  let v25 : BitVec 32 := Scalar.subi v22 v19
  let c8_i32_5 : BitVec 32 := 8#32
  let v26 : BitVec 32 := Scalar.addi v25 c8_i32_5
  let c1_i32 : BitVec 32 := 1#32
  let v27 : BitVec 32 := Scalar.subi v26 c1_i32
  let v452 : Index := Scalar.indexCast v27
  let c0_358 : Index := 0#32
  let c0_359 : Index := 0#32
  ![0, v452.toNat, 0, 0]
def k0_off3 (i : grid0.Coords) (c0_i32_3 : BitVec 32) : Fin 2 → Nat :=
  let c120_i32 : BitVec 32 := 120#32
  let c0_i32_4 : BitVec 32 := 0#32
  let arg1 : BitVec 32 := BitVec.ofNat 32 (i 1).val
  let c16_i32_2 : BitVec 32 := 16#32
  let v18 : BitVec 32 := Scalar.muli arg1 c16_i32_2
  let v19 : BitVec 32 := Scalar.addi v18 c0_i32_3
  let c4_i32 : BitVec 32 := 4#32
  let v20 : BitVec 32 := Scalar.subi v19 c4_i32
  let v21 : BitVec 32 := Scalar.maxsi c0_i32_4 v20
  let v22 : BitVec 32 := Scalar.minsi c120_i32 v21
  let c64_i32 : BitVec 32 := 64#32
  let v23 : BitVec 32 := Scalar.muli v22 c64_i32
  let v24 : BitVec 32 := v23
  let v1180 : Index := Scalar.indexCast v24
  let c0_795 : Index := 0#32
  ![v1180.toNat, 0]
def k0_cond2 (i : grid0.Coords) : BitVec 1 :=
  let arg1 : BitVec 32 := BitVec.ofNat 32 (i 1).val
  let c7_i32_1202 : BitVec 32 := 7#32
  let v1698 : BitVec 1 := Scalar.cmpi .eq arg1 c7_i32_1202
  let v1699 : BitVec 32 := Scalar.extui v1698
  let c0_i32_1203 : BitVec 32 := 0#32
  let v1700 : BitVec 1 := Scalar.cmpi .ne v1699 c0_i32_1203
  v1700

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnIdeal.lean ====
variable {F : FTy → Type} [FloatOps F] [Named F]
def κ : String → Option EReal := fun
  | "mask" => some ⊥
  | "s" => some (((Real.sqrt 128)⁻¹ : ℝ) : EReal)
  | _ => none
-- ==== AttnRefIdeal.lean ====
abbrev S8192x3072 : Shape := ⟨2, ![8192, 3072]⟩
abbrev S8192x2048 : Shape := ⟨2, ![8192, 2048]⟩
abbrev S8x15x31 : Shape := ⟨3, ![8, 15, 31]⟩
abbrev S8192x24x128 : Shape := ⟨3, ![8192, 24, 128]⟩
abbrev S8192x8x128 : Shape := ⟨3, ![8192, 8, 128]⟩
abbrev S8192x1024 : Shape := ⟨2, ![8192, 1024]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8192x8192x1 : Shape := ⟨3, ![8192, 8192, 1]⟩
abbrev S8192x8192x2 : Shape := ⟨3, ![8192, 8192, 2]⟩
abbrev S8x8192x8192 : Shape := ⟨3, ![8, 8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x128 : Shape := ⟨3, ![8, 8192, 128]⟩

abbrev nBuf : Space → Nat
  | .hbm => 215
  | .vmem => 0
  | .smem => 0
  | _ => 0

abbrev hbmTy0_0 (i : Nat) : BufTy := match i % 128 with
  | 0 => ⟨S8192x3072, .bf16⟩
  | 1 => ⟨S8192x2048, .bf16⟩
  | 2 => ⟨S8x15x31, .f32⟩
  | 3 => ⟨S8192x3072, .f32⟩
  | 4 => ⟨S8192x24x128, .f32⟩
  | 5 => ⟨S8192x8x128, .f32⟩
  | 6 => ⟨S8192x8x128, .f32⟩
  | 7 => ⟨S8192x8x128, .f32⟩
  | 8 => ⟨S8192x2048, .f32⟩
  | 9 => ⟨S8192x1024, .f32⟩
  | 10 => ⟨S8192x8x128, .f32⟩
  | 11 => ⟨S8192, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S_, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S_, .i32⟩
  | 33 => ⟨S_, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S1x8192, .i32⟩
  | 41 => ⟨S8192x1, .i32⟩
  | 42 => ⟨S8192x8192, .i32⟩
  | 43 => ⟨S8192x8192, .i32⟩
  | 44 => ⟨S8192x8192, .i1⟩
  | 45 => ⟨S1x8192, .i32⟩
  | 46 => ⟨S8192x1, .i32⟩
  | 47 => ⟨S_, .i32⟩
  | 48 => ⟨S8192x1, .i32⟩
  | 49 => ⟨S8192x1, .i32⟩
  | 50 => ⟨S8192x8192, .i32⟩
  | 51 => ⟨S8192x8192, .i32⟩
  | 52 => ⟨S8192x8192, .i1⟩
  | 53 => ⟨S8192x8192, .i1⟩
  | 54 => ⟨S1x8192, .i32⟩
  | 55 => ⟨S8192x1, .i32⟩
  | 56 => ⟨S8192x8192, .i32⟩
  | 57 => ⟨S8192x8192, .i32⟩
  | 58 => ⟨S8192x8192, .i1⟩
  | 59 => ⟨S8192x8192, .i1⟩
  | 60 => ⟨S1x8192, .i32⟩
  | 61 => ⟨S8192x1, .i32⟩
  | 62 => ⟨S_, .i32⟩
  | 63 => ⟨S8192x1, .i32⟩
  | 64 => ⟨S8192x1, .i32⟩
  | 65 => ⟨S8192x8192, .i32⟩
  | 66 => ⟨S8192x8192, .i32⟩
  | 67 => ⟨S8192x8192, .i1⟩
  | 68 => ⟨S8192x8192, .i1⟩
  | 69 => ⟨S1x8192, .i32⟩
  | 70 => ⟨S8192x1, .i32⟩
  | 71 => ⟨S8192x8192, .i32⟩
  | 72 => ⟨S8192x8192, .i32⟩
  | 73 => ⟨S8192x8192, .i32⟩
  | 74 => ⟨S_, .i32⟩
  | 75 => ⟨S8192x8192, .i32⟩
  | 76 => ⟨S8192x8192, .i32⟩
  | 77 => ⟨S_, .i32⟩
  | 78 => ⟨S8192x8192, .i32⟩
  | 79 => ⟨S8192x8192, .i32⟩
  | 80 => ⟨S_, .i32⟩
  | 81 => ⟨S_, .i32⟩
  | 82 => ⟨S_, .i32⟩
  | 83 => ⟨S8192x8192, .i32⟩
  | 84 => ⟨S8192x8192, .i32⟩
  | 85 => ⟨S_, .i32⟩
  | 86 => ⟨S8192x8192, .i32⟩
  | 87 => ⟨S8192x8192, .i32⟩
  | 88 => ⟨S1x8192, .i32⟩
  | 89 => ⟨S8192x1, .i32⟩
  | 90 => ⟨S8192x8192, .i32⟩
  | 91 => ⟨S8192x8192, .i32⟩
  | 92 => ⟨S8192x8192, .i32⟩
  | 93 => ⟨S_, .i32⟩
  | 94 => ⟨S8192x8192, .i32⟩
  | 95 => ⟨S8192x8192, .i32⟩
  | 96 => ⟨S_, .i32⟩
  | 97 => ⟨S8192x8192, .i32⟩
  | 98 => ⟨S8192x8192, .i32⟩
  | 99 => ⟨S_, .i32⟩
  | 100 => ⟨S_, .i32⟩
  | 101 => ⟨S_, .i32⟩
  | 102 => ⟨S8192x8192, .i32⟩
  | 103 => ⟨S8192x8192, .i32⟩
  | 104 => ⟨S_, .i32⟩
  | 105 => ⟨S8192x8192, .i32⟩
  | 106 => ⟨S8192x8192, .i32⟩
  | 107 => ⟨S_, .i32⟩
  | 108 => ⟨S8192x8192, .i32⟩
  | 109 => ⟨S8192x8192, .i1⟩
  | 110 => ⟨S_, .i32⟩
  | 111 => ⟨S8192x8192, .i32⟩
  | 112 => ⟨S8192x8192, .i32⟩
  | 113 => ⟨S8192x8192, .i32⟩
  | 114 => ⟨S_, .i32⟩
  | 115 => ⟨S8192x8192, .i32⟩
  | 116 => ⟨S8192x8192, .i1⟩
  | 117 => ⟨S_, .i32⟩
  | 118 => ⟨S8192x8192, .i32⟩
  | 119 => ⟨S8192x8192, .i32⟩
  | 120 => ⟨S8192x8192, .i32⟩
  | 121 => ⟨S8192x8192x1, .i32⟩
  | 122 => ⟨S8192x8192x1, .i32⟩
  | 123 => ⟨S8192x8192x2, .i32⟩
  | 124 => ⟨S8x8192x8192, .f32⟩
  | 125 => ⟨S8x8192x8192, .f32⟩
  | 126 => ⟨S_, .f32⟩
  | 127 => ⟨S_, .f32⟩
  | _ => ⟨S8192x3072, .bf16⟩

abbrev hbmTy0_1 (i : Nat) : BufTy := match i % 128 with
  | 0 => ⟨S8x8192x8192, .f32⟩
  | 1 => ⟨S8x8192x8192, .f32⟩
  | 2 => ⟨S8x8192x8192, .f32⟩
  | 3 => ⟨S1x8192x8192, .i1⟩
  | 4 => ⟨S_, .f32⟩
  | 5 => ⟨S_, .f32⟩
  | 6 => ⟨S8x8192x8192, .i1⟩
  | 7 => ⟨S8x8192x8192, .f32⟩
  | 8 => ⟨S8x8192x8192, .f32⟩
  | 9 => ⟨S_, .f32⟩
  | 10 => ⟨S8x8192x8192, .f32⟩
  | 11 => ⟨S_, .f32⟩
  | 12 => ⟨S8x8192, .f32⟩
  | 13 => ⟨S8x8192x1, .f32⟩
  | 14 => ⟨S8x8192x8192, .f32⟩
  | 15 => ⟨S8x8192x8192, .i1⟩
  | 16 => ⟨S8x8192x8192, .f32⟩
  | 17 => ⟨S_, .f32⟩
  | 18 => ⟨S8x8192, .f32⟩
  | 19 => ⟨S_, .f32⟩
  | 20 => ⟨S8x8192, .f32⟩
  | 21 => ⟨S8x8192, .f32⟩
  | 22 => ⟨S_, .f32⟩
  | 23 => ⟨S8x8192, .f32⟩
  | 24 => ⟨S8x8192, .i1⟩
  | 25 => ⟨S_, .f32⟩
  | 26 => ⟨S8x8192, .f32⟩
  | 27 => ⟨S8x8192, .i1⟩
  | 28 => ⟨S_, .f32⟩
  | 29 => ⟨S8x8192, .f32⟩
  | 30 => ⟨S_, .f32⟩
  | 31 => ⟨S8x8192, .f32⟩
  | 32 => ⟨S_, .f32⟩
  | 33 => ⟨S8x8192, .f32⟩
  | 34 => ⟨S8x8192, .f32⟩
  | 35 => ⟨S8x8192, .f32⟩
  | 36 => ⟨S8x8192x1, .f32⟩
  | 37 => ⟨S8x8192x8192, .f32⟩
  | 38 => ⟨S8x8192x8192, .f32⟩
  | 39 => ⟨S8x8192x8192, .f32⟩
  | 40 => ⟨S_, .f32⟩
  | 41 => ⟨S8x8192, .f32⟩
  | 42 => ⟨S8x8192x1, .f32⟩
  | 43 => ⟨S8x8192x8192, .f32⟩
  | 44 => ⟨S8x8192x8192, .f32⟩
  | 45 => ⟨S8x8192x1, .f32⟩
  | 46 => ⟨S_, .f32⟩
  | 47 => ⟨S8x8192x1, .f32⟩
  | 48 => ⟨S8x8192x1, .f32⟩
  | 49 => ⟨S8x128x8192, .f32⟩
  | 50 => ⟨S8192x8x128, .f32⟩
  | 51 => ⟨S8x128x8192, .f32⟩
  | 52 => ⟨S8x8192x8192, .f32⟩
  | 53 => ⟨S8x128x8192, .f32⟩
  | 54 => ⟨S8192x8x128, .f32⟩
  | 55 => ⟨S8x8192x8192, .f32⟩
  | 56 => ⟨S8x8192x8192, .f32⟩
  | 57 => ⟨S8x8192x8192, .f32⟩
  | 58 => ⟨S_, .f32⟩
  | 59 => ⟨S8x8192, .f32⟩
  | 60 => ⟨S8x8192x1, .f32⟩
  | 61 => ⟨S8x8192x1, .f32⟩
  | 62 => ⟨S8x8192x8192, .f32⟩
  | 63 => ⟨S8x8192x8192, .f32⟩
  | 64 => ⟨S_, .f32⟩
  | 65 => ⟨S8x8192, .f32⟩
  | 66 => ⟨S8x8192x8192, .f32⟩
  | 67 => ⟨S8x8192x8192, .f32⟩
  | 68 => ⟨S8x8192x8192, .f32⟩
  | 69 => ⟨S_, .f32⟩
  | 70 => ⟨S8x8192x8192, .f32⟩
  | 71 => ⟨S8x8192x8192, .f32⟩
  | 72 => ⟨S8x8192x8192, .f32⟩
  | 73 => ⟨S8x8192x8192, .f32⟩
  | 74 => ⟨S8x8192x128, .f32⟩
  | 75 => ⟨S8192x8x128, .f32⟩
  | 76 => ⟨S8x8192x128, .f32⟩
  | 77 => ⟨S8192x8x128, .f32⟩
  | 78 => ⟨S_, .f32⟩
  | 79 => ⟨S8x15x31, .f32⟩
  | 80 => ⟨S8x15x31, .f32⟩
  | 81 => ⟨S8x8192x128, .f32⟩
  | 82 => ⟨S8x8192x128, .bf16⟩
  | 83 => ⟨S8x8192x128, .f32⟩
  | 84 => ⟨S8x8192x128, .bf16⟩
  | 85 => ⟨S8x8192x128, .f32⟩
  | 86 => ⟨S8x8192x128, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_c_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_c_12 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_13 : Ref sig .tc := ⟨.hbm, 93, rfl⟩
abbrev main_v61 : Ref sig .tc := ⟨.hbm, 94, rfl⟩
abbrev main_v62 : Ref sig .tc := ⟨.hbm, 95, rfl⟩
abbrev main_c_14 : Ref sig .tc := ⟨.hbm, 96, rfl⟩
abbrev main_v63 : Ref sig .tc := ⟨.hbm, 97, rfl⟩
abbrev main_v64 : Ref sig .tc := ⟨.hbm, 98, rfl⟩
abbrev main_c_15 : Ref sig .tc := ⟨.hbm, 99, rfl⟩
abbrev main_c_16 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v65 : Ref sig .tc := ⟨.hbm, 106, rfl⟩
abbrev main_c_17 : Ref sig .tc := ⟨.hbm, 107, rfl⟩
abbrev main_v66 : Ref sig .tc := ⟨.hbm, 108, rfl⟩
abbrev main_v67 : Ref sig .tc := ⟨.hbm, 109, rfl⟩
abbrev main_c_18 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_19 : Ref sig .tc := ⟨.hbm, 114, rfl⟩
abbrev main_v71 : Ref sig .tc := ⟨.hbm, 115, rfl⟩
abbrev main_v72 : Ref sig .tc := ⟨.hbm, 116, rfl⟩
abbrev main_c_20 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_21 : Ref sig .tc := ⟨.hbm, 132, rfl⟩
abbrev main_call4_v0 : Ref sig .tc := ⟨.hbm, 133, rfl⟩
abbrev main_v86_1 : Ref sig .tc := ⟨.hbm, 134, rfl⟩
abbrev main_call4_v2 : Ref sig .tc := ⟨.hbm, 135, rfl⟩
abbrev main_v86_0 : Ref sig .tc := ⟨.hbm, 136, rfl⟩
abbrev main_call4_cst : Ref sig .tc := ⟨.hbm, 137, rfl⟩
abbrev main_v86_2 : Ref sig .tc := ⟨.hbm, 138, rfl⟩
abbrev main_cst_22 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_23 : Ref sig .tc := ⟨.hbm, 145, rfl⟩
abbrev main_v92 : Ref sig .tc := ⟨.hbm, 146, rfl⟩
abbrev main_cst_24 : Ref sig .tc := ⟨.hbm, 147, rfl⟩
abbrev main_v93 : Ref sig .tc := ⟨.hbm, 148, rfl⟩
abbrev main_v94 : Ref sig .tc := ⟨.hbm, 149, rfl⟩
abbrev main_cst_25 : Ref sig .tc := ⟨.hbm, 150, rfl⟩
abbrev main_v95 : Ref sig .tc := ⟨.hbm, 151, rfl⟩
abbrev main_v96 : Ref sig .tc := ⟨.hbm, 152, rfl⟩
abbrev main_cst_26 : Ref sig .tc := ⟨.hbm, 153, rfl⟩
abbrev main_v97 : Ref sig .tc := ⟨.hbm, 154, rfl⟩
abbrev main_v98 : Ref sig .tc := ⟨.hbm, 155, rfl⟩
abbrev main_cst_27 : Ref sig .tc := ⟨.hbm, 156, rfl⟩
abbrev main_v99 : Ref sig .tc := ⟨.hbm, 157, rfl⟩
abbrev main_cst_28 : Ref sig .tc := ⟨.hbm, 158, rfl⟩
abbrev main_v100 : Ref sig .tc := ⟨.hbm, 159, rfl⟩
abbrev main_cst_29 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_30 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_31 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_cst_32 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_cst_33 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_call5_cst : Ref sig .tc := ⟨.hbm, 197, rfl⟩
abbrev main_call5_v0 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_cst_34 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩

abbrev nD : Nat := 1
abbrev τ : Topo := Topo.v7x

variable {F : FTy → Type} [FloatOps F]
-- ==== Dh.lean ====
abbrev S2x8192x5632 : Shape := ⟨3, ![2, 8192, 5632]⟩
abbrev S2048x5632 : Shape := ⟨2, ![2048, 5632]⟩
abbrev S8192x2048 : Shape := ⟨2, ![8192, 2048]⟩
abbrev S2048 : Shape := ⟨1, ![2048]⟩
abbrev S5632x2048 : Shape := ⟨2, ![5632, 2048]⟩
abbrev S1x5632x2048 : Shape := ⟨3, ![1, 5632, 2048]⟩
abbrev S2x5632x2048 : Shape := ⟨3, ![2, 5632, 2048]⟩
abbrev S1x2048 : Shape := ⟨2, ![1, 2048]⟩
abbrev S1x512x512 : Shape := ⟨3, ![1, 512, 512]⟩
abbrev S1x512x2048 : Shape := ⟨3, ![1, 512, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 19
  | .smem => 0
  | _ => 0

abbrev bufTy : (tb : Table) → Fin (tcTables nBuf tb) → BufTy
  | .hbm, ⟨0, _⟩ => ⟨S2x8192x5632, .bf16⟩
  | .hbm, ⟨1, _⟩ => ⟨S2048x5632, .f32⟩
  | .hbm, ⟨2, _⟩ => ⟨S2048x5632, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S5632x2048, .f32⟩
  | .hbm, ⟨7, _⟩ => ⟨S5632x2048, .f32⟩
  | .hbm, ⟨8, _⟩ => ⟨S1x5632x2048, .f32⟩
  | .hbm, ⟨9, _⟩ => ⟨S1x5632x2048, .f32⟩
  | .hbm, ⟨10, _⟩ => ⟨S2x5632x2048, .f32⟩
  | .hbm, ⟨11, _⟩ => ⟨S2x5632x2048, .bf16⟩
  | .hbm, ⟨12, _⟩ => ⟨S1x2048, .f32⟩
  | .hbm, ⟨13, _⟩ => ⟨S8192x2048, .f32⟩
  | .hbm, ⟨14, _⟩ => ⟨S8192x2048, .bf16⟩
  | .hbm, ⟨15, _⟩ => ⟨S1x2048, .f32⟩
  | .local _ .vmem, ⟨0, _⟩ => ⟨S1x512x512, .bf16⟩
  | .local _ .vmem, ⟨1, _⟩ => ⟨S1x512x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S512x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_21 : BitVec 32 := 0#32
  let v25 : BitVec 1 := Scalar.cmpi .ne v24 c0_i32_21
  v25

def k0_cond3 (i : grid0.Coords) : BitVec 1 :=
  let arg0 : BitVec 32 := BitVec.ofNat 32 (i 0).val
  let c0_i32_40 : BitVec 32 := 0#32
  let v64 : BitVec 1 := Scalar.cmpi .eq arg0 c0_i32_40
  let v65 : BitVec 32 := Scalar.extui v64
  let c0_i32_41 : BitVec 32 := 0#32
  let v66 : BitVec 1 := Scalar.cmpi .ne v65 c0_i32_41
  v66

def k0_cond4 (i : grid0.Coords) : BitVec 1 :=
  let arg0 : BitVec 32 := BitVec.ofNat 32 (i 0).val
  let c0_i32_42 : BitVec 32 := 0#32
  let v67 : BitVec 1 := Scalar.cmpi .sgt arg0 c0_i32_42
  let v68 : BitVec 32 := Scalar.extui v67
  let c0_i32_43 : BitVec 32 := 0#32
  let v69 : BitVec 1 := Scalar.cmpi .ne v68 c0_i32_43
  v69

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== DhRefIdeal.lean ====
abbrev S2x8192x5632 : Shape := ⟨3, ![2, 8192, 5632]⟩
abbrev S2048x5632 : Shape := ⟨2, ![2048, 5632]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩
abbrev S1x8192x5632 : Shape := ⟨3, ![1, 8192, 5632]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2048x5632, .f32⟩
  | .hbm, ⟨2, _⟩ => ⟨S2048x5632, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S2x8192x5632, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x5632, .f32⟩
  | .hbm, ⟨28, _⟩ => ⟨S8192x5632, .f32⟩
  | .hbm, ⟨29, _⟩ => ⟨S1x8192x5632, .f32⟩
  | .hbm, ⟨30, _⟩ => ⟨S8192x5632, .f32⟩
  | .hbm, ⟨31, _⟩ => ⟨S1x8192x5632, .f32⟩
  | .hbm, ⟨32, _⟩ => ⟨S8192x5632, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .bf16⟩
  | .hbm, ⟨63, _⟩ => ⟨S1x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Dm.lean ====
abbrev S8192x4608 : Shape := ⟨2, ![8192, 4608]⟩
abbrev S2048x4608 : Shape := ⟨2, ![2048, 4608]⟩
abbrev S8192x2048 : Shape := ⟨2, ![8192, 2048]⟩
abbrev S2048 : Shape := ⟨1, ![2048]⟩
abbrev S1x8192x4608 : Shape := ⟨3, ![1, 8192, 4608]⟩
abbrev S4608x2048 : Shape := ⟨2, ![4608, 2048]⟩
abbrev S1x4608x2048 : Shape := ⟨3, ![1, 4608, 2048]⟩
abbrev S1x2048 : Shape := ⟨2, ![1, 2048]⟩
abbrev S1x512x512 : Shape := ⟨3, ![1, 512, 512]⟩
abbrev S1x512x2048 : Shape := ⟨3, ![1, 512, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x4608, .bf16⟩
  | .hbm, ⟨1, _⟩ => ⟨S2048x4608, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S1x8192x4608, .bf16⟩
  | .hbm, ⟨6, _⟩ => ⟨S4608x2048, .f32⟩
  | .hbm, ⟨7, _⟩ => ⟨S1x4608x2048, .f32⟩
  | .hbm, ⟨8, _⟩ => ⟨S1x4608x2048, .bf16⟩
  | .hbm, ⟨9, _⟩ => ⟨S1x2048, .f32⟩
  | .hbm, ⟨10, _⟩ => ⟨S8192x2048, .f32⟩
  | .hbm, ⟨11, _⟩ => ⟨S8192x2048, .bf16⟩
  | .hbm, ⟨12, _⟩ => ⟨S1x2048, .f32⟩
  | .local _ .vmem, ⟨0, _⟩ => ⟨S1x512x512, .bf16⟩
  | .local _ .vmem, ⟨1, _⟩ => ⟨S1x512x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S512x2048, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c8_i32 : BitVec 32 := 8#32
  let v13 : BitVec 1 := Scalar.cmpi .eq arg1 c8_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c0_i32_29 : BitVec 32 := 0#32
  let v54 : BitVec 1 := Scalar.cmpi .eq arg0 c0_i32_29
  let v55 : BitVec 32 := Scalar.extui v54
  let c0_i32_30 : BitVec 32 := 0#32
  let v56 : BitVec 1 := Scalar.cmpi .ne v55 c0_i32_30
  v56

def k0_cond4 (i : grid0.Coords) : BitVec 1 :=
  let arg0 : BitVec 32 := BitVec.ofNat 32 (i 0).val
  let c0_i32_31 : BitVec 32 := 0#32
  let v57 : BitVec 1 := Scalar.cmpi .sgt arg0 c0_i32_31
  let v58 : BitVec 32 := Scalar.extui v57
  let c0_i32_32 : BitVec 32 := 0#32
  let v59 : BitVec 1 := Scalar.cmpi .ne v58 c0_i32_32
  v59

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DmRefIdeal.lean ====
abbrev S8192x4608 : Shape := ⟨2, ![8192, 4608]⟩
abbrev S2048x4608 : Shape := ⟨2, ![2048, 4608]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S2048x4608, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x4608, .f32⟩
  | .hbm, ⟨26, _⟩ => ⟨S8192x4608, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | .hbm, ⟨55, _⟩ => ⟨S1x2048, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Gate.lean ====
abbrev S8192x2048 : Shape := ⟨2, ![8192, 2048]⟩
abbrev S2048x5632 : Shape := ⟨2, ![2048, 5632]⟩
abbrev S5632x2048 : Shape := ⟨2, ![5632, 2048]⟩
abbrev S1x5632x2048 : Shape := ⟨3, ![1, 5632, 2048]⟩
abbrev S2x5632x2048 : Shape := ⟨3, ![2, 5632, 2048]⟩
abbrev S8192x5632 : Shape := ⟨2, ![8192, 5632]⟩
abbrev S2x8192x5632 : Shape := ⟨3, ![2, 8192, 5632]⟩
abbrev S1024x2048 : Shape := ⟨2, ![1024, 2048]⟩
abbrev S1x512x2048 : Shape := ⟨3, ![1, 512, 2048]⟩
abbrev S1024x512 : Shape := ⟨2, ![1024, 512]⟩
abbrev S2x1024x512 : Shape := ⟨3, ![2, 1024, 512]⟩
abbrev S512x2048 : Shape := ⟨2, ![512, 2048]⟩
abbrev S1x1024x512 : Shape := ⟨3, ![1, 1024, 512]⟩

abbrev nBuf : Space → Nat
  | .hbm => 15
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .bf16⟩
  | .hbm, ⟨5, _⟩ => ⟨S5632x2048, .f32⟩
  | .hbm, ⟨6, _⟩ => ⟨S5632x2048, .f32⟩
  | .hbm, ⟨7, _⟩ => ⟨S1x5632x2048, .f32⟩
  | .hbm, ⟨8, _⟩ => ⟨S1x5632x2048, .f32⟩
  | .hbm, ⟨9, _⟩ => ⟨S2x5632x2048, .f32⟩
  | .hbm, ⟨10, _⟩ => ⟨S2x5632x2048, .bf16⟩
  | .hbm, ⟨11, _⟩ => ⟨S8192x5632, .bf16⟩
  | .hbm, ⟨12, _⟩ => ⟨S2x8192x5632, .bf16⟩
  | .hbm, ⟨13, _⟩ => ⟨S5632x2048, .bf16⟩
  | .hbm, ⟨14, _⟩ => ⟨S2x8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1024x512, .bf16⟩
  | .local _ .vmem, ⟨7, _⟩ => ⟨S1024x512, .bf16⟩
  | .local _ .vmem, ⟨8, _⟩ => ⟨S2x1024x512, .bf16⟩
  | .local _ .vmem, ⟨9, _⟩ => ⟨S2x1024x512, .bf16⟩
  | .local _ .vmem, ⟨10, _⟩ => ⟨S1024x2048, .bf16⟩
  | .local _ .vmem, ⟨11, _⟩ => ⟨S1024x2048, .bf16⟩
  | .local _ .vmem, ⟨12, _⟩ => ⟨S512x2048, .bf16⟩
  | .local _ .vmem, ⟨13, _⟩ => ⟨S512x2048, .bf16⟩
  | .local _ .vmem, ⟨14, _⟩ => ⟨S2x1024x512, .bf16⟩
  | .local _ .vmem, ⟨15, _⟩ => ⟨S2x1024x512, .bf16⟩
  | .local _ .vmem, ⟨16, _⟩ => ⟨S2x1024x512, .bf16⟩
  | .local _ .vmem, ⟨17, _⟩ => ⟨S2x1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== GateRefIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .bf16⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S1x8192x5632, .f32⟩
  | .hbm, ⟨38, _⟩ => ⟨S1x8192x5632, .f32⟩
  | .hbm, ⟨39, _⟩ => ⟨S2x8192x5632, .f32⟩
  | .hbm, ⟨40, _⟩ => ⟨S2x8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]
-- ==== Pool.lean ====
abbrev S8192x1536 : Shape := ⟨2, ![8192, 1536]⟩
abbrev S8192x2048 : Shape := ⟨2, ![8192, 2048]⟩
abbrev S4x128x128 : Shape := ⟨3, ![4, 128, 128]⟩
abbrev S512 : Shape := ⟨1, ![512]⟩
abbrev S1x512 : Shape := ⟨2, ![1, 512]⟩
abbrev S8192x512 : Shape := ⟨2, ![8192, 512]⟩
abbrev S128x512 : Shape := ⟨2, ![128, 512]⟩
abbrev S256x512 : Shape := ⟨2, ![256, 512]⟩
abbrev S512x512 : Shape := ⟨2, ![512, 512]⟩
abbrev S512x1 : Shape := ⟨2, ![512, 1]⟩
abbrev S1x128 : Shape := ⟨2, ![1, 128]⟩
abbrev S256x1 : Shape := ⟨2, ![256, 1]⟩
abbrev S512x128 : Shape := ⟨2, ![512, 128]⟩
abbrev S256x128 : Shape := ⟨2, ![256, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 9
  | .vmem => 18
  | .smem => 0
  | _ => 0

abbrev bufTy : (tb : Table) → Fin (tcTables nBuf tb) → BufTy
  | .hbm, ⟨0, _⟩ => ⟨S8192x1536, .bf16⟩
  | .hbm, ⟨1, _⟩ => ⟨S8192x2048, .bf16⟩
  | .hbm, ⟨2, _⟩ => ⟨S4x128x128, .f32⟩
  | .hbm, ⟨3, _⟩ => ⟨S512, .f32⟩
  | .hbm, ⟨4, _⟩ => ⟨S4x128x128, .bf16⟩
  | .hbm, ⟨5, _⟩ => ⟨S1x512, .f32⟩
  | .hbm, ⟨6, _⟩ => ⟨S8192x512, .bf16⟩
  | .hbm, ⟨7, _⟩ => ⟨S4x128x128, .f32⟩
  | .hbm, ⟨8, _⟩ => ⟨S1x512, .f32⟩
  | .local _ .vmem, ⟨0, _⟩ => ⟨S128x512, .bf16⟩
  | .local _ .vmem, ⟨1, _⟩ => ⟨S128x512, .bf16⟩
  | .local _ .vmem, ⟨2, _⟩ => ⟨S256x512, .bf16⟩
  | .local _ .vmem, ⟨3, _⟩ => ⟨S256x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S128x512, .bf16⟩
  | .local _ .vmem, ⟨11, _⟩ => ⟨S128x512, .bf16⟩
  | .local _ .vmem, ⟨12, _⟩ => ⟨S4x128x128, .bf16⟩
  | .local _ .vmem, ⟨13, _⟩ => ⟨S1x512, .f32⟩
  | .local _ .vmem, ⟨14, _⟩ => ⟨S256x512, .bf16⟩
  | .local _ .vmem, ⟨15, _⟩ => ⟨S256x512, .bf16⟩
  | .local _ .vmem, ⟨16, _⟩ => ⟨S4x128x128, .f32⟩
  | .local _ .vmem, ⟨17, _⟩ => ⟨S1x512, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![v2.toNat, c2_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c63_i32 : BitVec 32 := 63#32
  let v2 : BitVec 32 := Scalar.minsi v1 c63_i32
  let c2_i32_0 : BitVec 32 := 2#32
  let c0_i32 : BitVec 32 := 0#32
  ![v2.toNat, c2_i32_0.toNat]

def cc0_transform_3 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c63_i32 : BitVec 32 := 63#32
  let v2 : BitVec 32 := Scalar.minsi v1 c63_i32
  let c1_i32_0 : BitVec 32 := 1#32
  let c0_i32 : BitVec 32 := 0#32
  ![v2.toNat, c1_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PoolRefIdeal.lean ====
abbrev S8192x1536 : Shape := ⟨2, ![8192, 1536]⟩
abbrev S8192x2048 : Shape := ⟨2, ![8192, 2048]⟩
abbrev S4x128x128 : Shape := ⟨3, ![4, 128, 128]⟩
abbrev S512 : Shape := ⟨1, ![512]⟩
abbrev S8192x512 : Shape := ⟨2, ![8192, 512]⟩
abbrev S1x8192x512 : Shape := ⟨3, ![1, 8192, 512]⟩
abbrev S1x8192x4x128 : Shape := ⟨4, ![1, 8192, 4, 128]⟩
abbrev S_ : Shape := ⟨0, ![]⟩
abbrev S1x1x4x128 : Shape := ⟨4, ![1, 1, 4, 128]⟩
abbrev S1x8193x4x128 : Shape := ⟨4, ![1, 8193, 4, 128]⟩
abbrev S8192 : Shape := ⟨1, ![8192]⟩
abbrev S8192x1 : Shape := ⟨2, ![8192, 1]⟩
abbrev S8192x2 : Shape := ⟨2, ![8192, 2]⟩
abbrev S1x8192x128 : Shape := ⟨3, ![1, 8192, 128]⟩
abbrev S1x8192x1 : Shape := ⟨3, ![1, 8192, 1]⟩
abbrev S1x8192x1x128 : Shape := ⟨4, ![1, 8192, 1, 128]⟩
abbrev S4x128x1x8192 : Shape := ⟨4, ![4, 128, 1, 8192]⟩
abbrev S4x128 : Shape := ⟨2, ![4, 128]⟩
abbrev S1x4x128 : Shape := ⟨3, ![1, 4, 128]⟩
abbrev S4x1x8192x128 : Shape := ⟨4, ![4, 1, 8192, 128]⟩
abbrev S1x512 : Shape := ⟨2, ![1, 512]⟩

abbrev nBuf : Space → Nat
  | .hbm => 363
  | .vmem => 0
  | .smem => 0
  | _ => 0

abbrev hbmTy0_0 (i : Nat) : BufTy := match i % 128 with
  | 0 => ⟨S8192x1536, .bf16⟩
  | 1 => ⟨S8192x2048, .bf16⟩
  | 2 => ⟨S4x128x128, .f32⟩
  | 3 => ⟨S512, .f32⟩
  | 4 => ⟨S8192x1536, .f32⟩
  | 5 => ⟨S8192x512, .f32⟩
  | 6 => ⟨S1x8192x512, .f32⟩
  | 7 => ⟨S8192x2048, .f32⟩
  | 8 => ⟨S8192x512, .f32⟩
  | 9 => ⟨S1x8192x512, .f32⟩
  | 10 => ⟨S1x8192x4x128, .f32⟩
  | 11 => ⟨S_, .f32⟩
  | 12 => ⟨S1x1x4x128, .f32⟩
  | 13 => ⟨S_, .f32⟩
  | 14 => ⟨S_, .f32⟩
  | 15 => ⟨S1x8192x4x128, .f32⟩
  | 16 => ⟨S1x8193x4x128, .f32⟩
  | 17 => ⟨S_, .f32⟩
  | 18 => ⟨S1x1x4x128, .f32⟩
  | 19 => ⟨S8192, .i32⟩
  | 20 => ⟨S_, .i32⟩
  | 21 => ⟨S8192, .i32⟩
  | 22 => ⟨S8192, .i32⟩
  | 23 => ⟨S_, .i32⟩
  | 24 => ⟨S_, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S_, .i32⟩
  | 36 => ⟨S_, .i32⟩
  | 37 => ⟨S8192, .i32⟩
  | 38 => ⟨S8192, .i32⟩
  | 39 => ⟨S_, .i32⟩
  | 40 => ⟨S8192, .i32⟩
  | 41 => ⟨S8192, .i32⟩
  | 42 => ⟨S8192, .i32⟩
  | 43 => ⟨S8192, .f32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192x1, .i32⟩
  | 55 => ⟨S8192x1, .i32⟩
  | 56 => ⟨S8192x2, .i32⟩
  | 57 => ⟨S1x8192x128, .f32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S_, .i32⟩
  | 66 => ⟨S8192, .i32⟩
  | 67 => ⟨S8192, .i32⟩
  | 68 => ⟨S8192x1, .i32⟩
  | 69 => ⟨S8192x1, .i32⟩
  | 70 => ⟨S8192x2, .i32⟩
  | 71 => ⟨S1x8192x128, .f32⟩
  | 72 => ⟨S1x8192x128, .f32⟩
  | 73 => ⟨S1x8192x1, .f32⟩
  | 74 => ⟨S1x8192x128, .f32⟩
  | 75 => ⟨S1x8192x128, .f32⟩
  | 76 => ⟨S1x8192x1x128, .f32⟩
  | 77 => ⟨S1x8192x128, .f32⟩
  | 78 => ⟨S1x8192x128, .f32⟩
  | 79 => ⟨S_, .i32⟩
  | 80 => ⟨S8192, .i32⟩
  | 81 => ⟨S8192, .i32⟩
  | 82 => ⟨S_, .i32⟩
  | 83 => ⟨S_, .i32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S_, .i32⟩
  | 91 => ⟨S8192, .i32⟩
  | 92 => ⟨S8192, .i32⟩
  | 93 => ⟨S_, .i32⟩
  | 94 => ⟨S_, .i32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192, .i32⟩
  | 102 => ⟨S8192, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S_, .i32⟩
  | 111 => ⟨S8192, .i32⟩
  | 112 => ⟨S8192, .i32⟩
  | 113 => ⟨S8192x1, .i32⟩
  | 114 => ⟨S8192x1, .i32⟩
  | 115 => ⟨S8192x2, .i32⟩
  | 116 => ⟨S1x8192x128, .f32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S_, .i32⟩
  | 125 => ⟨S8192, .i32⟩
  | 126 => ⟨S8192, .i32⟩
  | 127 => ⟨S8192x1, .i32⟩
  | _ => ⟨S8192x1536, .bf16⟩

abbrev hbmTy0_1 (i : Nat) : BufTy := match i % 128 with
  | 0 => ⟨S8192x1, .i32⟩
  | 1 => ⟨S8192x2, .i32⟩
  | 2 => ⟨S1x8192x128, .f32⟩
  | 3 => ⟨S1x8192x128, .f32⟩
  | 4 => ⟨S1x8192x1, .f32⟩
  | 5 => ⟨S1x8192x128, .f32⟩
  | 6 => ⟨S1x8192x128, .f32⟩
  | 7 => ⟨S1x8192x1x128, .f32⟩
  | 8 => ⟨S1x8192x128, .f32⟩
  | 9 => ⟨S1x8192x128, .f32⟩
  | 10 => ⟨S_, .i32⟩
  | 11 => ⟨S8192, .i32⟩
  | 12 => ⟨S8192, .i32⟩
  | 13 => ⟨S_, .i32⟩
  | 14 => ⟨S_, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S_, .i32⟩
  | 25 => ⟨S_, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S8192, .i32⟩
  | 33 => ⟨S8192, .f32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192x1, .i32⟩
  | 45 => ⟨S8192x1, .i32⟩
  | 46 => ⟨S8192x2, .i32⟩
  | 47 => ⟨S1x8192x128, .f32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S_, .i32⟩
  | 56 => ⟨S8192, .i32⟩
  | 57 => ⟨S8192, .i32⟩
  | 58 => ⟨S8192x1, .i32⟩
  | 59 => ⟨S8192x1, .i32⟩
  | 60 => ⟨S8192x2, .i32⟩
  | 61 => ⟨S1x8192x128, .f32⟩
  | 62 => ⟨S1x8192x128, .f32⟩
  | 63 => ⟨S1x8192x1, .f32⟩
  | 64 => ⟨S1x8192x128, .f32⟩
  | 65 => ⟨S1x8192x128, .f32⟩
  | 66 => ⟨S1x8192x1x128, .f32⟩
  | 67 => ⟨S1x8192x128, .f32⟩
  | 68 => ⟨S1x8192x128, .f32⟩
  | 69 => ⟨S_, .i32⟩
  | 70 => ⟨S8192, .i32⟩
  | 71 => ⟨S8192, .i32⟩
  | 72 => ⟨S_, .i32⟩
  | 73 => ⟨S_, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S_, .i32⟩
  | 81 => ⟨S8192, .i32⟩
  | 82 => ⟨S8192, .i32⟩
  | 83 => ⟨S_, .i32⟩
  | 84 => ⟨S_, .i32⟩
  | 85 => ⟨S_, .i32⟩
  | 86 => ⟨S8192, .i32⟩
  | 87 => ⟨S8192, .i32⟩
  | 88 => ⟨S_, .i32⟩
  | 89 => ⟨S8192, .i32⟩
  | 90 => ⟨S8192, .i32⟩
  | 91 => ⟨S8192, .i32⟩
  | 92 => ⟨S8192, .f32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S_, .i32⟩
  | 101 => ⟨S8192, .i32⟩
  | 102 => ⟨S8192, .i32⟩
  | 103 => ⟨S8192x1, .i32⟩
  | 104 => ⟨S8192x1, .i32⟩
  | 105 => ⟨S8192x2, .i32⟩
  | 106 => ⟨S1x8192x128, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S_, .i32⟩
  | 115 => ⟨S8192, .i32⟩
  | 116 => ⟨S8192, .i32⟩
  | 117 => ⟨S8192x1, .i32⟩
  | 118 => ⟨S8192x1, .i32⟩
  | 119 => ⟨S8192x2, .i32⟩
  | 120 => ⟨S1x8192x128, .f32⟩
  | 121 => ⟨S1x8192x128, .f32⟩
  | 122 => ⟨S1x8192x1, .f32⟩
  | 123 => ⟨S1x8192x128, .f32⟩
  | 124 => ⟨S1x8192x128, .f32⟩
  | 125 => ⟨S1x8192x1x128, .f32⟩
  | 126 => ⟨S1x8192x128, .f32⟩
  | 127 => ⟨S1x8192x128, .f32⟩
  | _ => ⟨S8192x1536, .bf16⟩

abbrev hbmTy0_2 (i : Nat) : BufTy := match i % 128 with
  | 0 => ⟨S1x8192x1x128, .f32⟩
  | 1 => ⟨S1x8192x1x128, .f32⟩
  | 2 => ⟨S1x8192x1x128, .f32⟩
  | 3 => ⟨S1x8192x1x128, .f32⟩
  | 4 => ⟨S1x8192x4x128, .f32⟩
  | 5 => ⟨S4x128x1x8192, .f32⟩
  | 6 => ⟨S1x8192x4x128, .f32⟩
  | 7 => ⟨S4x128, .f32⟩
  | 8 => ⟨S1x1x4x128, .f32⟩
  | 9 => ⟨S1x8192x4x128, .f32⟩
  | 10 => ⟨S1x8192x4x128, .f32⟩
  | 11 => ⟨S1x8192x512, .f32⟩
  | 12 => ⟨S1x8192x4x128, .f32⟩
  | 13 => ⟨S1x8192x4x128, .f32⟩
  | 14 => ⟨S_, .f32⟩
  | 15 => ⟨S1x4x128, .f32⟩
  | 16 => ⟨S1x1x4x128, .f32⟩
  | 17 => ⟨S1x8192x4x128, .f32⟩
  | 18 => ⟨S1x8192x4x128, .f32⟩
  | 19 => ⟨S_, .f32⟩
  | 20 => ⟨S4x128, .f32⟩
  | 21 => ⟨S512, .f32⟩
  | 22 => ⟨S4x128x1x8192, .f32⟩
  | 23 => ⟨S4x1x8192x128, .f32⟩
  | 24 => ⟨S1x8192x4x128, .f32⟩
  | 25 => ⟨S4x128x128, .f32⟩
  | 26 => ⟨S4x128x128, .f32⟩
  | 27 => ⟨S1x8192x1x128, .f32⟩
  | 28 => ⟨S1x8192x128, .f32⟩
  | 29 => ⟨S1x8192x1x128, .f32⟩
  | 30 => ⟨S1x8192x128, .f32⟩
  | 31 => ⟨S1x8192x1x128, .f32⟩
  | 32 => ⟨S1x8192x128, .f32⟩
  | 33 => ⟨S1x8192x1x128, .f32⟩
  | 34 => ⟨S1x8192x128, .f32⟩
  | 35 => ⟨S1x8192x128, .f32⟩
  | 36 => ⟨S1x8192x1x128, .f32⟩
  | 37 => ⟨S_, .f32⟩
  | 38 => ⟨S1x8192x4x128, .f32⟩
  | 39 => ⟨S1x8192x128, .f32⟩
  | 40 => ⟨S1x8192x128, .f32⟩
  | 41 => ⟨S1x8192x128, .f32⟩
  | 42 => ⟨S_, .f32⟩
  | 43 => ⟨S1x8193x4x128, .f32⟩
  | 44 => ⟨S1x8193x4x128, .f32⟩
  | 45 => ⟨S_, .f32⟩
  | 46 => ⟨S1x8193x4x128, .f32⟩
  | 47 => ⟨S1x8193x4x128, .f32⟩
  | 48 => ⟨S1x8193x4x128, .f32⟩
  | 49 => ⟨S1x8192x128, .f32⟩
  | 50 => ⟨S1x8192x1x128, .f32⟩
  | 51 => ⟨S_, .f32⟩
  | 52 => ⟨S1x8192x4x128, .f32⟩
  | 53 => ⟨S1x8192x4x128, .f32⟩
  | 54 => ⟨S1x8192x128, .f32⟩
  | 55 => ⟨S1x8192x128, .f32⟩
  | 56 => ⟨S1x8192x128, .f32⟩
  | 57 => ⟨S_, .f32⟩
  | 58 => ⟨S1x8193x4x128, .f32⟩
  | 59 => ⟨S1x8193x4x128, .f32⟩
  | 60 => ⟨S1x8193x4x128, .f32⟩
  | 61 => ⟨S_, .f32⟩
  | 62 => ⟨S1x8193x4x128, .f32⟩
  | 63 => ⟨S1x8193x4x128, .f32⟩
  | 64 => ⟨S1x8193x4x128, .f32⟩
  | 65 => ⟨S1x8192x128, .f32⟩
  | 66 => ⟨S1x8192x1x128, .f32⟩
  | 67 => ⟨S_, .f32⟩
  | 68 => ⟨S1x8192x4x128, .f32⟩
  | 69 => ⟨S1x8192x4x128, .f32⟩
  | 70 => ⟨S1x8192x128, .f32⟩
  | 71 => ⟨S1x8192x128, .f32⟩
  | 72 => ⟨S1x8192x128, .f32⟩
  | 73 => ⟨S_, .f32⟩
  | 74 => ⟨S1x8193x4x128, .f32⟩
  | 75 => ⟨S1x8193x4x128, .f32⟩
  | 76 => ⟨S1x8193x4x128, .f32⟩
  | 77 => ⟨S_, .f32⟩
  | 78 => ⟨S1x8193x4x128, .f32⟩
  | 79 => ⟨S1x8193x4x128, .f32⟩
  | 80 => ⟨S1x8193x4x128, .f32⟩
  | 81 => ⟨S1x8192x128, .f32⟩
  | 82 => ⟨S1x8192x1x128, .f32⟩
  | 83 => ⟨S_, .f32⟩
  | 84 => ⟨S1x8192x4x128, .f32⟩
  | 85 => ⟨S1x8192x4x128, .f32⟩
  | 86 => ⟨S1x8192x128, .f32⟩
  | 87 => ⟨S1x8192x128, .f32⟩
  | 88 => ⟨S1x8192x128, .f32⟩
  | 89 => ⟨S_, .f32⟩
  | 90 => ⟨S1x8193x4x128, .f32⟩
  | 91 => ⟨S1x8193x4x128, .f32⟩
  | 92 => ⟨S1x8193x4x128, .f32⟩
  | 93 => ⟨S_, .f32⟩
  | 94 => ⟨S1x8193x4x128, .f32⟩
  | 95 => ⟨S1x8193x4x128, .f32⟩
  | 96 => ⟨S1x8193x4x128, .f32⟩
  | 97 => ⟨S1x1x4x128, .f32⟩
  | 98 => ⟨S1x8192x4x128, .f32⟩
  | 99 => ⟨S_, .f32⟩
  | 100 => ⟨S_, .f32⟩
  | 101 => ⟨S1x8192x4x128, .f32⟩
  | 102 => ⟨S1x8192x4x128, .f32⟩
  | 103 => ⟨S1x8192x512, .f32⟩
  | 104 => ⟨S8192x512, .f32⟩
  | 105 => ⟨S8192x512, .bf16⟩
  | 106 => ⟨S1x512, .f32⟩
  | _ => ⟨S8192x1536, .bf16⟩

abbrev hbmTy (i : Nat) : BufTy := match i / 128 with
  | 0 => hbmTy0_0 i
  | 1 => hbmTy0_1 i
  | 2 => hbmTy0_2 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_call0_call0_cst : Ref sig .tc := ⟨.hbm, 13, rfl⟩
abbrev main_call0_call0_v0 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_c_5 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_6 : Ref sig .tc := ⟨.hbm, 44, rfl⟩
abbrev main_v20 : Ref sig .tc := ⟨.hbm, 45, rfl⟩
abbrev main_v21 : Ref sig .tc := ⟨.hbm, 46, rfl⟩
abbrev main_c_7 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_8 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_9 : Ref sig .tc := ⟨.hbm, 58, rfl⟩
abbrev main_v31 : Ref sig .tc := ⟨.hbm, 59, rfl⟩
abbrev main_v32 : Ref sig .tc := ⟨.hbm, 60, rfl⟩
abbrev main_c_10 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_11 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_12 : Ref sig .tc := ⟨.hbm, 79, rfl⟩
abbrev main_v49 : Ref sig .tc := ⟨.hbm, 80, rfl⟩
abbrev main_v50 : Ref sig .tc := ⟨.hbm, 81, rfl⟩
abbrev main_c_13 : Ref sig .tc := ⟨.hbm, 82, rfl⟩
abbrev main_c_14 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v51 : Ref sig .tc := ⟨.hbm, 89, rfl⟩
abbrev main_c_15 : Ref sig .tc := ⟨.hbm, 90, rfl⟩
abbrev main_v52 : Ref sig .tc := ⟨.hbm, 91, rfl⟩
abbrev main_v53 : Ref sig .tc := ⟨.hbm, 92, rfl⟩
abbrev main_c_16 : Ref sig .tc := ⟨.hbm, 93, rfl⟩
abbrev main_c_17 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c_18 : Ref sig .tc := ⟨.hbm, 103, rfl⟩
abbrev main_v57 : Ref sig .tc := ⟨.hbm, 104, rfl⟩
abbrev main_v58 : Ref sig .tc := ⟨.hbm, 105, rfl⟩
abbrev main_c_19 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_c_20 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_21 : Ref sig .tc := ⟨.hbm, 117, rfl⟩
abbrev main_v68 : Ref sig .tc := ⟨.hbm, 118, rfl⟩
abbrev main_v69 : Ref sig .tc := ⟨.hbm, 119, rfl⟩
abbrev main_c_22 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_c_23 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_c_24 : Ref sig .tc := ⟨.hbm, 138, rfl⟩
abbrev main_v86 : Ref sig .tc := ⟨.hbm, 139, rfl⟩
abbrev main_v87 : Ref sig .tc := ⟨.hbm, 140, rfl⟩
abbrev main_c_25 : Ref sig .tc := ⟨.hbm, 141, rfl⟩
abbrev main_c_26 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_v88 : Ref sig .tc := ⟨.hbm, 148, rfl⟩
abbrev main_c_27 : Ref sig .tc := ⟨.hbm, 149, rfl⟩
abbrev main_v89 : Ref sig .tc := ⟨.hbm, 150, rfl⟩
abbrev main_v90 : Ref sig .tc := ⟨.hbm, 151, rfl⟩
abbrev main_c_28 : Ref sig .tc := ⟨.hbm, 152, rfl⟩
abbrev main_c_29 : Ref sig .tc := ⟨.hbm, 153, rfl⟩
abbrev main_call6_v0 : Ref sig .tc := ⟨.hbm, 154, rfl⟩
abbrev main_call6_v1 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_c_30 : Ref sig .tc := ⟨.hbm, 162, rfl⟩
abbrev main_v94 : Ref sig .tc := ⟨.hbm, 163, rfl⟩
abbrev main_v95 : Ref sig .tc := ⟨.hbm, 164, rfl⟩
abbrev main_c_31 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_c_32 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_c_33 : Ref sig .tc := ⟨.hbm, 176, rfl⟩
abbrev main_v105 : Ref sig .tc := ⟨.hbm, 177, rfl⟩
abbrev main_v106 : Ref sig .tc := ⟨.hbm, 178, rfl⟩
abbrev main_c_34 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_c_35 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_c_36 : Ref sig .tc := ⟨.hbm, 197, rfl⟩
abbrev main_v123 : Ref sig .tc := ⟨.hbm, 198, rfl⟩
abbrev main_v124 : Ref sig .tc := ⟨.hbm, 199, rfl⟩
abbrev main_c_37 : Ref sig .tc := ⟨.hbm, 200, rfl⟩
abbrev main_c_38 : Ref sig .tc := ⟨.hbm, 201, rfl⟩
abbrev main_call7_v0 : Ref sig .tc := ⟨.hbm, 202, rfl⟩
abbrev main_call7_v1 : Ref sig .tc := ⟨.hbm, 203, rfl⟩
abbrev main_call7_v2 : Ref sig .tc := ⟨.hbm, 204, rfl⟩
abbrev main_call7_v3 : Ref sig .tc := ⟨.hbm, 205, rfl⟩
abbrev main_call7_v4 : Ref sig .tc := ⟨.hbm, 206, rfl⟩
abbrev main_v125 : Ref sig .tc := ⟨.hbm, 207, rfl⟩
abbrev main_c_39 : Ref sig .tc := ⟨.hbm, 208, rfl⟩
abbrev main_v126 : Ref sig .tc := ⟨.hbm, 209, rfl⟩
abbrev main_v127 : Ref sig .tc := ⟨.hbm, 210, rfl⟩
abbrev main_c_40 : Ref sig .tc := ⟨.hbm, 211, rfl⟩
abbrev main_c_41 : Ref sig .tc := ⟨.hbm, 212, rfl⟩
abbrev main_call8_v0 : Ref sig .tc := ⟨.hbm, 213, rfl⟩
abbrev main_call8_v1 : Ref sig .tc := ⟨.hbm, 214, rfl⟩
abbrev main_call8_v2 : Ref sig .tc := ⟨.hbm, 215, rfl⟩
abbrev main_call8_v3 : Ref sig .tc := ⟨.hbm, 216, rfl⟩
abbrev main_call8_v4 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_c_42 : Ref sig .tc := ⟨.hbm, 221, rfl⟩
abbrev main_v131 : Ref sig .tc := ⟨.hbm, 222, rfl⟩
abbrev main_v132 : Ref sig .tc := ⟨.hbm, 223, rfl⟩
abbrev main_c_43 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_c_44 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_c_45 : Ref sig .tc := ⟨.hbm, 235, rfl⟩
abbrev main_v142 : Ref sig .tc := ⟨.hbm, 236, rfl⟩
abbrev main_v143 : Ref sig .tc := ⟨.hbm, 237, rfl⟩
abbrev main_c_46 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_c_47 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_cst_48 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_cst_49 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_cst_50 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_cst_51 : Ref sig .tc := ⟨.hbm, 298, rfl⟩
abbrev main_v199 : Ref sig .tc := ⟨.hbm, 299, rfl⟩
abbrev main_v200 : Ref sig .tc := ⟨.hbm, 300, rfl⟩
abbrev main_cst_52 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_cst_53 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_cst_54 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_cst_55 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_cst_56 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_cst_57 : Ref sig .tc := ⟨.hbm, 329, rfl⟩
abbrev main_v224 : Ref sig .tc := ⟨.hbm, 330, rfl⟩
abbrev main_v225 : Ref sig .tc := ⟨.hbm, 331, rfl⟩
abbrev main_v226 : Ref sig .tc := ⟨.hbm, 332, rfl⟩
abbrev main_cst_58 : Ref sig .tc := ⟨.hbm, 333, rfl⟩
abbrev main_v227 : Ref sig .tc := ⟨.hbm, 334, rfl⟩
abbrev main_v228 : Ref sig .tc := ⟨.hbm, 335, rfl⟩
abbrev main_v229 : Ref sig .tc := ⟨.hbm, 336, rfl⟩
abbrev main_v230 : Ref sig .tc := ⟨.hbm, 337, rfl⟩
abbrev main_v231 : Ref sig .tc := ⟨.hbm, 338, rfl⟩
abbrev main_cst_59 : Ref sig .tc := ⟨.hbm, 339, rfl⟩
abbrev main_v232 : Ref sig .tc := ⟨.hbm, 340, rfl⟩
abbrev main_v233 : Ref sig .tc := ⟨.hbm, 341, rfl⟩
abbrev main_v234 : Ref sig .tc := ⟨.hbm, 342, rfl⟩
abbrev main_v235 : Ref sig .tc := ⟨.hbm, 343, rfl⟩
abbrev main_v236 : Ref sig .tc := ⟨.hbm, 344, rfl⟩
abbrev main_cst_60 : Ref sig .tc := ⟨.hbm, 345, rfl⟩
abbrev main_v237 : Ref sig .tc := ⟨.hbm, 346, rfl⟩
abbrev main_v238 : Ref sig .tc := ⟨.hbm, 347, rfl⟩
abbrev main_v239 : Ref sig .tc := ⟨.hbm, 348, rfl⟩
abbrev main_cst_61 : Ref sig .tc := ⟨.hbm, 349, rfl⟩
abbrev main_v240 : Ref sig .tc := ⟨.hbm, 350, rfl⟩
abbrev main_v241 : Ref sig .tc := ⟨.hbm, 351, rfl⟩
abbrev main_v242 : Ref sig .tc := ⟨.hbm, 352, rfl⟩
abbrev main_v243 : Ref sig .tc := ⟨.hbm, 353, rfl⟩
abbrev main_v244 : Ref sig .tc := ⟨.hbm, 354, rfl⟩
abbrev main_call9_call0_cst : Ref sig .tc := ⟨.hbm, 355, rfl⟩
abbrev main_call9_call0_v0 : Ref sig .tc := ⟨.hbm, 356, rfl⟩
abbrev main_v245 : Ref sig .tc := ⟨.hbm, 357, rfl⟩
abbrev main_v246 : Ref sig .tc := ⟨.hbm, 358, rfl⟩
abbrev main_v247 : Ref sig .tc := ⟨.hbm, 359, rfl⟩
abbrev main_v248 : Ref sig .tc := ⟨.hbm, 360, rfl⟩
abbrev main_v249 : Ref sig .tc := ⟨.hbm, 361, rfl⟩
abbrev main_v250 : Ref sig .tc := ⟨.hbm, 362, rfl⟩

abbrev nD : Nat := 1
abbrev τ : Topo := Topo.v7x

variable {F : FTy → Type} [FloatOps F]
-- ==== AttnF.lean ====
abbrev S8192x3072 : Shape := ⟨2, ![8192, 3072]⟩
abbrev S8x15x31 : Shape := ⟨3, ![8, 15, 31]⟩
abbrev S8192x24x128 : Shape := ⟨3, ![8192, 24, 128]⟩
abbrev S24x8192x128 : Shape := ⟨3, ![24, 8192, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S_ : Shape := ⟨0, ![]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S8 : Shape := ⟨1, ![8]⟩
abbrev S8x1 : Shape := ⟨2, ![8, 1]⟩
abbrev S1x8 : Shape := ⟨2, ![1, 8]⟩
abbrev S15 : Shape := ⟨1, ![15]⟩
abbrev S15x1x1 : Shape := ⟨3, ![15, 1, 1]⟩
abbrev S8x8 : Shape := ⟨2, ![8, 8]⟩
abbrev S1x8x8 : Shape := ⟨3, ![1, 8, 8]⟩
abbrev S15x8x8 : Shape := ⟨3, ![15, 8, 8]⟩
abbrev S8x15x31x1x1 : Shape := ⟨5, ![8, 15, 31, 1, 1]⟩
abbrev S1x1x31x64x64 : Shape := ⟨5, ![1, 1, 31, 64, 64]⟩
abbrev S8x15x31x64x64 : Shape := ⟨5, ![8, 15, 31, 64, 64]⟩
abbrev S8x15x64x64 : Shape := ⟨4, ![8, 15, 64, 64]⟩
abbrev S8x15x1x64x1x64 : Shape := ⟨6, ![8, 15, 1, 64, 1, 64]⟩
abbrev S1x15x8x1x8x1 : Shape := ⟨6, ![1, 15, 8, 1, 8, 1]⟩
abbrev S8x15x8x64x8x64 : Shape := ⟨6, ![8, 15, 8, 64, 8, 64]⟩
abbrev S8x8x64x8x64 : Shape := ⟨5, ![8, 8, 64, 8, 64]⟩
abbrev S8x8x64x512 : Shape := ⟨4, ![8, 8, 64, 512]⟩
abbrev S8x8192x128 : Shape := ⟨3, ![8, 8192, 128]⟩
abbrev S1x1024x128 : Shape := ⟨3, ![1, 1024, 128]⟩
abbrev S1x8192x128 : Shape := ⟨3, ![1, 8192, 128]⟩
abbrev S1x8x64x512 : Shape := ⟨4, ![1, 8, 64, 512]⟩
abbrev S16x64x512 : Shape := ⟨3, ![16, 64, 512]⟩
abbrev S64x512 : Shape := ⟨2, ![64, 512]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S1x64x512 : Shape := ⟨3, ![1, 64, 512]⟩
abbrev S1x1x64x512 : Shape := ⟨4, ![1, 1, 64, 512]⟩

abbrev nBuf : Space → Nat
  | .hbm => 61
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S8x15x31, .f32⟩
  | .hbm, ⟨2, _⟩ => ⟨S8192x24x128, .bf16⟩
  | .hbm, ⟨3, _⟩ => ⟨S24x8192x128, .bf16⟩
  | .hbm, ⟨4, _⟩ => ⟨S64, .i32⟩
  | .hbm, ⟨5, _⟩ => ⟨S1x64, .i32⟩
  | .hbm, ⟨6, _⟩ => ⟨S64x1, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S_, .i32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S64x64, .i32⟩
  | .hbm, ⟨20, _⟩ => ⟨S64x64, .i32⟩
  | .hbm, ⟨21, _⟩ => ⟨S_, .i32⟩
  | .hbm, ⟨22, _⟩ => ⟨S64x64, .i32⟩
  | .hbm, ⟨23, _⟩ => ⟨S64x64, .i32⟩
  | .hbm, ⟨24, _⟩ => ⟨S1x64x64, .i32⟩
  | .hbm, ⟨25, _⟩ => ⟨S31, .i32⟩
  | .hbm, ⟨26, _⟩ => ⟨S31x1x1, .i32⟩
  | .hbm, ⟨27, _⟩ => ⟨S31x64x64, .i32⟩
  | .hbm, ⟨28, _⟩ => ⟨S31x64x64, .i32⟩
  | .hbm, ⟨29, _⟩ => ⟨S31x64x64, .i1⟩
  | .hbm, ⟨30, _⟩ => ⟨S31x64x64, .f32⟩
  | .hbm, ⟨31, _⟩ => ⟨S8, .i32⟩
  | .hbm, ⟨32, _⟩ => ⟨S8x1, .i32⟩
  | .hbm, ⟨33, _⟩ => ⟨S8, .i32⟩
  | .hbm, ⟨34, _⟩ => ⟨S1x8, .i32⟩
  | .hbm, ⟨35, _⟩ => ⟨S15, .i32⟩
  | .hbm, ⟨36, _⟩ => ⟨S15x1x1, .i32⟩
  | .hbm, ⟨37, _⟩ => ⟨S8x8, .i32⟩
  | .hbm, ⟨38, _⟩ => ⟨S8x8, .i32⟩
  | .hbm, ⟨39, _⟩ => ⟨S8x8, .i32⟩
  | .hbm, ⟨40, _⟩ => ⟨S1x8x8, .i32⟩
  | .hbm, ⟨41, _⟩ => ⟨S15x8x8, .i32⟩
  | .hbm, ⟨42, _⟩ => ⟨S15x8x8, .i32⟩
  | .hbm, ⟨43, _⟩ => ⟨S15x8x8, .i1⟩
  | .hbm, ⟨44, _⟩ => ⟨S15x8x8, .f32⟩
  | .hbm, ⟨45, _⟩ => ⟨S8x15x31x1x1, .f32⟩
  | .hbm, ⟨46, _⟩ => ⟨S1x1x31x64x64, .f32⟩
  | .hbm, ⟨47, _⟩ => ⟨S8x15x31x64x64, .f32⟩
  | .hbm, ⟨48, _⟩ => ⟨S8x15x31x64x64, .f32⟩
  | .hbm, ⟨49, _⟩ => ⟨S8x15x31x64x64, .f32⟩
  | .hbm, ⟨50, _⟩ => ⟨S_, .f32⟩
  | .hbm, ⟨51, _⟩ => ⟨S8x15x64x64, .f32⟩
  | .hbm, ⟨52, _⟩ => ⟨S8x15x1x64x1x64, .f32⟩
  | .hbm, ⟨53, _⟩ => ⟨S1x15x8x1x8x1, .f32⟩
  | .hbm, ⟨54, _⟩ => ⟨S8x15x8x64x8x64, .f32⟩
  | .hbm, ⟨55, _⟩ => ⟨S8x15x8x64x8x64, .f32⟩
  | .hbm, ⟨56, _⟩ => ⟨S8x15x8x64x8x64, .f32⟩
  | .hbm, ⟨57, _⟩ => ⟨S_, .f32⟩
  | .hbm, ⟨58, _⟩ => ⟨S8x8x64x8x64, .f32⟩
  | .hbm, ⟨59, _⟩ => ⟨S8x8x64x512, .f32⟩
  | .hbm, ⟨60, _⟩ => ⟨S8x8192x128, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8x64x512, .f32⟩
  | .local _ .vmem, ⟨7, _⟩ => ⟨S1x8x64x512, .f32⟩
  | .local _ .vmem, ⟨8, _⟩ => ⟨S1x1024x128, .bf16⟩
  | .local _ .vmem, ⟨9, _⟩ => ⟨S1x1024x128, .bf16⟩
  | .local _ .vmem, ⟨10, _⟩ => ⟨S16x64x512, .f32⟩
  | .local _ .vmem, ⟨11, _⟩ => ⟨S16x64x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c120_i32 : BitVec 32 := 120#32
  let c0_i32_2 : BitVec 32 := 0#32
  let arg1 : BitVec 32 := BitVec.ofNat 32 (i 1).val
  let c16_i32_0 : BitVec 32 := 16#32
  let v15 : BitVec 32 := Scalar.muli arg1 c16_i32_0
  let c0_i32_1 : BitVec 32 := 0#32
  let v16 : BitVec 32 := Scalar.addi v15 c0_i32_1
  let c4_i32 : BitVec 32 := 4#32
  let v17 : BitVec 32 := Scalar.subi v16 c4_i32
  let v18 : BitVec 32 := Scalar.maxsi c0_i32_2 v17
  let v19 : BitVec 32 := Scalar.minsi c120_i32 v18
  let c64_i32 : BitVec 32 := 64#32
  let v20 : BitVec 32 := Scalar.muli v19 c64_i32
  v20
def k0_mult2 (i : grid0.Coords) : BitVec 32 :=
  let c120_i32_8 : BitVec 32 := 120#32
  let c0_i32_7 : BitVec 32 := 0#32
  let arg1 : BitVec 32 := BitVec.ofNat 32 (i 1).val
  let c16_i32_4 : BitVec 32 := 16#32
  let v25 : BitVec 32 := Scalar.muli arg1 c16_i32_4
  let c1_i32_5 : BitVec 32 := 1#32
  let v26 : BitVec 32 := Scalar.addi v25 c1_i32_5
  let c4_i32_6 : BitVec 32 := 4#32
  let v27 : BitVec 32 := Scalar.subi v26 c4_i32_6
  let v28 : BitVec 32 := Scalar.maxsi c0_i32_7 v27
  let v29 : BitVec 32 := Scalar.minsi c120_i32_8 v28
  let c64_i32_9 : BitVec 32 := 64#32
  let v30 : BitVec 32 := Scalar.muli v29 c64_i32_9
  v30
def k0_mult3 (i : grid0.Coords) : BitVec 32 :=
  let c120_i32_15 : BitVec 32 := 120#32
  let c0_i32_14 : BitVec 32 := 0#32
  let arg1 : BitVec 32 := BitVec.ofNat 32 (i 1).val
  let c16_i32_12 : BitVec 32 := 16#32
  let v35 : BitVec 32 := Scalar.muli arg1 c16_i32_12
  let c2_i32 : BitVec 32 := 2#32
  let v36 : BitVec 32 := Scalar.addi v35 c2_i32
  let c4_i32_13 : BitVec 32 := 4#32
  let v37 : BitVec 32 := Scalar.subi v36 c4_i32_13
  let v38 : BitVec 32 := Scalar.maxsi c0_i32_14 v37
  let v39 : BitVec 32 := Scalar.minsi c120_i32_15 v38
  let c64_i32_16 : BitVec 32 := 64#32
  let v40 : BitVec 32 := Scalar.muli v39 c64_i32_16
  v40
def k0_mult4 (i : grid0.Coords) : BitVec 32 :=
  let c120_i32_22 : BitVec 32 := 120#32
  let c0_i32_21 : BitVec 32 := 0#32
  let arg1 : BitVec 32 := BitVec.ofNat 32 (i 1).val
  let c16_i32_19 : BitVec 32 := 16#32
  let v45 : BitVec 32 := Scalar.muli arg1 c16_i32_19
  let c3_i32 : BitVec 32 := 3#32
  let v46 : BitVec 32 := Scalar.addi v45 c3_i32
  let c4_i32_20 : BitVec 32 := 4#32
  let v47 : BitVec 32 := Scalar.subi v46 c4_i32_20
  let v48 : BitVec 32 := Scalar.maxsi c0_i32_21 v47
  let v49 : BitVec 32 := Scalar.minsi c120_i32_22 v48
  let c64_i32_23 : BitVec 32 := 64#32
  let v50 : BitVec 32 := Scalar.muli v49 c64_i32_23
  v50
def k0_mult5 (i : grid0.Coords) : BitVec 32 :=
  let c120_i32_30 : BitVec 32 := 120#32
  let c0_i32_29 : BitVec 32 := 0#32
  let arg1 : BitVec 32 := BitVec.ofNat 32 (i 1).val
  let c16_i32_26 : BitVec 32 := 16#32
  let v55 : BitVec 32 := Scalar.muli arg1 c16_i32_26
  let c4_i32_27 : BitVec 32 := 4#32
  let v56 : BitVec 32 := Scalar.addi v55 c4_i32_27
  let c4_i32_28 : BitVec 32 := 4#32
  let v57 : BitVec 32 := Scalar.subi v56 c4_i32_28
  let v58 : BitVec 32 := Scalar.maxsi c0_i32_29 v57
  let v59 : BitVec 32 := Scalar.minsi c120_i32_30 v58
  let c64_i32_31 : BitVec 32 := 64#32
  let v60 : BitVec 32 := Scalar.muli v59 c64_i32_31
  v60
def k0_mult6 (i : grid0.Coords) : BitVec 32 :=
  let c120_i32_37 : BitVec 32 := 120#32
  let c0_i32_36 : BitVec 32 := 0#32
  let arg1 : BitVec 32 := BitVec.ofNat 32 (i 1).val
  let c16_i32_34 : BitVec 32 := 16#32
  let v65 : BitVec 32 := Scalar.muli arg1 c16_i32_34
  let c5_i32 : BitVec 32 := 5#32
  let v66 : BitVec 32 := Scalar.addi v65 c5_i32
  let c4_i32_35 : BitVec 32 := 4#32
  let v67 : BitVec 32 := Scalar.subi v66 c4_i32_35
  let v68 : BitVec 32 := Scalar.maxsi c0_i32_36 v67
  let v69 : BitVec 32 := Scalar.minsi c120_i32_37 v68
  let c64_i32_38 : BitVec 32 := 64#32
  let v70 : BitVec 32 := Scalar.muli v69 c64_i32_38
  v70
def k0_mult7 (i : grid0.Coords) : BitVec 32 :=
  let c120_i32_44 : BitVec 32 := 120#32
  let c0_i32_43 : BitVec 32 := 0#32
  let arg1 : BitVec 32 := BitVec.ofNat 32 (i 1).val
  let c16_i32_41 : BitVec 32 := 16#32
  let v75 : BitVec 32 := Scalar.muli arg1 c16_i32_41
  let c6_i32 : BitVec 32 := 6#32
  let v76 : BitVec 32 := Scalar.addi v75 c6_i32
  let c4_i32_42 : BitVec 32 := 4#32
  let v77 : BitVec 32 := Scalar.subi v76 c4_i32_42
  let v78 : BitVec 32 := Scalar.maxsi c0_i32_43 v77
  let v79 : BitVec 32 := Scalar.minsi c120_i32_44 v78
  let c64_i32_45 : BitVec 32 := 64#32
  let v80 : BitVec 32 := Scalar.muli v79 c64_i32_45
  v80
def k0_mult8 (i : grid0.Coords) : BitVec 32 :=
  let c120_i32_51 : BitVec 32 := 120#32
  let c0_i32_50 : BitVec 32 := 0#32
  let arg1 : BitVec 32 := BitVec.ofNat 32 (i 1).val
  let c16_i32_48 : BitVec 32 := 16#32
  let v85 : BitVec 32 := Scalar.muli arg1 c16_i32_48
  let c7_i32 : BitVec 32 := 7#32
  let v86 : BitVec 32 := Scalar.addi v85 c7_i32
  let c4_i32_49 : BitVec 32 := 4#32
  let v87 : BitVec 32 := Scalar.subi v86 c4_i32_49
  let v88 : BitVec 32 := Scalar.maxsi c0_i32_50 v87
  let v89 : BitVec 32 := Scalar.minsi c120_i32_51 v88
  let c64_i32_52 : BitVec 32 := 64#32
  let v90 : BitVec 32 := Scalar.muli v89 c64_i32_52
  v90
def k0_mult9 (i : grid0.Coords) : BitVec 32 :=
  let c120_i32_59 : BitVec 32 := 120#32
  let c0_i32_58 : BitVec 32 := 0#32
  let arg1 : BitVec 32 := BitVec.ofNat 32 (i 1).val
  let c16_i32_55 : BitVec 32 := 16#32
  let v95 : BitVec 32 := Scalar.muli arg1 c16_i32_55
  let c8_i32_56 : BitVec 32 := 8#32
  let v96 : BitVec 32 := Scalar.addi v95 c8_i32_56
  let c4_i32_57 : BitVec 32 := 4#32
  let v97 : BitVec 32 := Scalar.subi v96 c4_i32_57
  let v98 : BitVec 32 := Scalar.maxsi c0_i32_58 v97
  let v99 : BitVec 32 := Scalar.minsi c120_i32_59 v98
  let c64_i32_60 : BitVec 32 := 64#32
  let v100 : BitVec 32 := Scalar.muli v99 c64_i32_60
  v100
def k0_mult10 (i : grid0.Coords) : BitVec 32 :=
  let c120_i32_66 : BitVec 32 := 120#32
  let c0_i32_65 : BitVec 32 := 0#32
  let arg1 : BitVec 32 := BitVec.ofNat 32 (i 1).val
  let c16_i32_63 : BitVec 32 := 16#32
  let v105 : BitVec 32 := Scalar.muli arg1 c16_i32_63
  let c9_i32 : BitVec 32 := 9#32
  let v106 : BitVec 32 := Scalar.addi v105 c9_i32
  let c4_i32_64 : BitVec 32 := 4#32
  let v107 : BitVec 32 := Scalar.subi v106 c4_i32_64
  let v108 : BitVec 32 := Scalar.maxsi c0_i32_65 v107
  let v109 : BitVec 32 := Scalar.minsi c120_i32_66 v108
  let c64_i32_67 : BitVec 32 := 64#32
  let v110 : BitVec 32 := Scalar.muli v109 c64_i32_67
  v110
def k0_mult11 (i : grid0.Coords) : BitVec 32 :=
  let c120_i32_73 : BitVec 32 := 120#32
  let c0_i32_72 : BitVec 32 := 0#32
  let arg1 : BitVec 32 := BitVec.ofNat 32 (i 1).val
  let c16_i32_70 : BitVec 32 := 16#32
  let v115 : BitVec 32 := Scalar.muli arg1 c16_i32_70
  let c10_i32 : BitVec 32 := 10#32
  let v116 : BitVec 32 := Scalar.addi v115 c10_i32
  let c4_i32_71 : BitVec 32 := 4#32
  let v117 : BitVec 32 := Scalar.subi v116 c4_i32_71
  let v118 : BitVec 32 := Scalar.maxsi c0_i32_72 v117
  let v119 : BitVec 32 := Scalar.minsi c120_i32_73 v118
  let c64_i32_74 : BitVec 32 := 64#32
  let v120 : BitVec 32 := Scalar.muli v119 c64_i32_74
  v120
def k0_mult12 (i : grid0.Coords) : BitVec 32 :=
  let c120_i32_80 : BitVec 32 := 120#32
  let c0_i32_79 : BitVec 32 := 0#32
  let arg1 : BitVec 32 := BitVec.ofNat 32 (i 1).val
  let c16_i32_77 : BitVec 32 := 16#32
  let v125 : BitVec 32 := Scalar.muli arg1 c16_i32_77
  let c11_i32 : BitVec 32 := 11#32
  let v126 : BitVec 32 := Scalar.addi v125 c11_i32
  let c4_i32_78 : BitVec 32 := 4#32
  let v127 : BitVec 32 := Scalar.subi v126 c4_i32_78
  let v128 : BitVec 32 := Scalar.maxsi c0_i32_79 v127
  let v129 : BitVec 32 := Scalar.minsi c120_i32_80 v128
  let c64_i32_81 : BitVec 32 := 64#32
  let v130 : BitVec 32 := Scalar.muli v129 c64_i32_81
  v130
def k0_mult13 (i : grid0.Coords) : BitVec 32 :=
  let c120_i32_87 : BitVec 32 := 120#32
  let c0_i32_86 : BitVec 32 := 0#32
  let arg1 : BitVec 32 := BitVec.ofNat 32 (i 1).val
  let c16_i32_84 : BitVec 32 := 16#32
  let v135 : BitVec 32 := Scalar.muli arg1 c16_i32_84
  let c12_i32 : BitVec 32 := 12#32
  let v136 : BitVec 32 := Scalar.addi v135 c12_i32
  let c4_i32_85 : BitVec 32 := 4#32
  let v137 : BitVec 32 := Scalar.subi v136 c4_i32_85
  let v138 : BitVec 32 := Scalar.maxsi c0_i32_86 v137
  let v139 : BitVec 32 := Scalar.minsi c120_i32_87 v138
  let c64_i32_88 : BitVec 32 := 64#32
  let v140 : BitVec 32 := Scalar.muli v139 c64_i32_88
  v140
def k0_mult14 (i : grid0.Coords) : BitVec 32 :=
  let c120_i32_94 : BitVec 32 := 120#32
  let c0_i32_93 : BitVec 32 := 0#32
  let arg1 : BitVec 32 := BitVec.ofNat 32 (i 1).val
  let c16_i32_91 : BitVec 32 := 16#32
  let v145 : BitVec 32 := Scalar.muli arg1 c16_i32_91
  let c13_i32 : BitVec 32 := 13#32
  let v146 : BitVec 32 := Scalar.addi v145 c13_i32
  let c4_i32_92 : BitVec 32 := 4#32
  let v147 : BitVec 32 := Scalar.subi v146 c4_i32_92
  let v148 : BitVec 32 := Scalar.maxsi c0_i32_93 v147
  let v149 : BitVec 32 := Scalar.minsi c120_i32_94 v148
  let c64_i32_95 : BitVec 32 := 64#32
  let v150 : BitVec 32 := Scalar.muli v149 c64_i32_95
  v150
def k0_mult15 (i : grid0.Coords) : BitVec 32 :=
  let c120_i32_101 : BitVec 32 := 120#32
  let c0_i32_100 : BitVec 32 := 0#32
  let arg1 : BitVec 32 := BitVec.ofNat 32 (i 1).val
  let c16_i32_98 : BitVec 32 := 16#32
  let v155 : BitVec 32 := Scalar.muli arg1 c16_i32_98
  let c14_i32 : BitVec 32 := 14#32
  let v156 : BitVec 32 := Scalar.addi v155 c14_i32
  let c4_i32_99 : BitVec 32 := 4#32
  let v157 : BitVec 32 := Scalar.subi v156 c4_i32_99
  let v158 : BitVec 32 := Scalar.maxsi c0_i32_100 v157
  let v159 : BitVec 32 := Scalar.minsi c120_i32_101 v158
  let c64_i32_102 : BitVec 32 := 64#32
  let v160 : BitVec 32 := Scalar.muli v159 c64_i32_102
  v160
def k0_mult16 (i : grid0.Coords) : BitVec 32 :=
  let c120_i32_108 : BitVec 32 := 120#32
  let c0_i32_107 : BitVec 32 := 0#32
  let arg1 : BitVec 32 := BitVec.ofNat 32 (i 1).val
  let c16_i32_105 : BitVec 32 := 16#32
  let v165 : BitVec 32 := Scalar.muli arg1 c16_i32_105
  let c15_i32 : BitVec 32 := 15#32
  let v166 : BitVec 32 := Scalar.addi v165 c15_i32
  let c4_i32_106 : BitVec 32 := 4#32
  let v167 : BitVec 32 := Scalar.subi v166 c4_i32_106
  let v168 : BitVec 32 := Scalar.maxsi c0_i32_107 v167
  let v169 : BitVec 32 := Scalar.minsi c120_i32_108 v168
  let c64_i32_109 : BitVec 32 := 64#32
  let v170 : BitVec 32 := Scalar.muli v169 c64_i32_109
  v170
def k0_off1 (i : grid0.Coords) (c0_i32_1 : BitVec 32) : Fin 3 → Nat :=
  let c0_114 : Index := 0#32
  let c120_i32 : BitVec 32 := 120#32
  let c0_i32_2 : BitVec 32 := 0#32
  let arg1 : BitVec 32 := BitVec.ofNat 32 (i 1).val
  let c16_i32_0 : BitVec 32 := 16#32
  let v15 : BitVec 32 := Scalar.muli arg1 c16_i32_0
  let v16 : BitVec 32 := Scalar.addi v15 c0_i32_1
  let c4_i32 : BitVec 32 := 4#32
  let v17 : BitVec 32 := Scalar.subi v16 c4_i32
  let v18 : BitVec 32 := Scalar.maxsi c0_i32_2 v17
  let v19 : BitVec 32 := Scalar.minsi c120_i32 v18
  let c64_i32 : BitVec 32 := 64#32
  let v20 : BitVec 32 := Scalar.muli v19 c64_i32
  let v21 : BitVec 32 := v20
  let v177 : Index := Scalar.indexCast v21
  let c0_115 : Index := 0#32
  ![0, v177.toNat, 0]
def k0_off2 (i : grid0.Coords) (c0_i32_1 : BitVec 32) : Fin 4 → Nat :=
  let c0_227 : Index := 0#32
  let c120_i32 : BitVec 32 := 120#32
  let c0_i32_2 : BitVec 32 := 0#32
  let arg1 : BitVec 32 := BitVec.ofNat 32 (i 1).val
  let c16_i32_0 : BitVec 32 := 16#32
  let v15 : BitVec 32 := Scalar.muli arg1 c16_i32_0
  let v16 : BitVec 32 := Scalar.addi v15 c0_i32_1
  let c4_i32 : BitVec 32 := 4#32
  let v17 : BitVec 32 := Scalar.subi v16 c4_i32
  let v18 : BitVec 32 := Scalar.maxsi c0_i32_2 v17
  let v19 : BitVec 32 := Scalar.minsi c120_i32 v18
  let v22 : BitVec 32 := Scalar.subi v19 v16
  let c8_i32_3 : BitVec 32 := 8#32
  let v23 : BitVec 32 := Scalar.addi v22 c8_i32_3
  let c1_i32 : BitVec 32 := 1#32
  let v24 : BitVec 32 := Scalar.subi v23 c1_i32
  let v321 : Index := Scalar.indexCast v24
  let c0_228 : Index := 0#32
  let c0_229 : Index := 0#32
  ![0, v321.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFIdeal.lean ====
variable {F : FTy → Type} [FloatOps F] [Named F]
def κ : String → Option EReal := fun
  | "mask" => some ⊥
  | "s" => some (((Real.sqrt 128)⁻¹ : ℝ) : EReal)
  | _ => none
-- ==== AttnFRefIdeal.lean ====
abbrev S8192x3072 : Shape := ⟨2, ![8192, 3072]⟩
abbrev S8x15x31 : Shape := ⟨3, ![8, 15, 31]⟩
abbrev S8192x24x128 : Shape := ⟨3, ![8192, 24, 128]⟩
abbrev S8192x8x128 : Shape := ⟨3, ![8192, 8, 128]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8192x8192x1 : Shape := ⟨3, ![8192, 8192, 1]⟩
abbrev S8192x8192x2 : Shape := ⟨3, ![8192, 8192, 2]⟩
abbrev S8x8192x8192 : Shape := ⟨3, ![8, 8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x128 : Shape := ⟨3, ![8, 8192, 128]⟩

abbrev nBuf : Space → Nat
  | .hbm => 151
  | .vmem => 0
  | .smem => 0
  | _ => 0

abbrev hbmTy0_0 (i : Nat) : BufTy := match i % 128 with
  | 0 => ⟨S8192x3072, .bf16⟩
  | 1 => ⟨S8x15x31, .f32⟩
  | 2 => ⟨S8192x3072, .f32⟩
  | 3 => ⟨S8192x24x128, .f32⟩
  | 4 => ⟨S8192x8x128, .f32⟩
  | 5 => ⟨S8192x8x128, .f32⟩
  | 6 => ⟨S8192x8x128, .f32⟩
  | 7 => ⟨S8192, .i32⟩
  | 8 => ⟨S_, .i32⟩
  | 9 => ⟨S8192, .i32⟩
  | 10 => ⟨S8192, .i32⟩
  | 11 => ⟨S_, .i32⟩
  | 12 => ⟨S8192, .i32⟩
  | 13 => ⟨S8192, .i32⟩
  | 14 => ⟨S_, .i32⟩
  | 15 => ⟨S8192, .i32⟩
  | 16 => ⟨S8192, .i32⟩
  | 17 => ⟨S_, .i32⟩
  | 18 => ⟨S_, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .i32⟩
  | 29 => ⟨S_, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S1x8192, .i32⟩
  | 37 => ⟨S8192x1, .i32⟩
  | 38 => ⟨S8192x8192, .i32⟩
  | 39 => ⟨S8192x8192, .i32⟩
  | 40 => ⟨S8192x8192, .i1⟩
  | 41 => ⟨S1x8192, .i32⟩
  | 42 => ⟨S8192x1, .i32⟩
  | 43 => ⟨S_, .i32⟩
  | 44 => ⟨S8192x1, .i32⟩
  | 45 => ⟨S8192x1, .i32⟩
  | 46 => ⟨S8192x8192, .i32⟩
  | 47 => ⟨S8192x8192, .i32⟩
  | 48 => ⟨S8192x8192, .i1⟩
  | 49 => ⟨S8192x8192, .i1⟩
  | 50 => ⟨S1x8192, .i32⟩
  | 51 => ⟨S8192x1, .i32⟩
  | 52 => ⟨S8192x8192, .i32⟩
  | 53 => ⟨S8192x8192, .i32⟩
  | 54 => ⟨S8192x8192, .i1⟩
  | 55 => ⟨S8192x8192, .i1⟩
  | 56 => ⟨S1x8192, .i32⟩
  | 57 => ⟨S8192x1, .i32⟩
  | 58 => ⟨S_, .i32⟩
  | 59 => ⟨S8192x1, .i32⟩
  | 60 => ⟨S8192x1, .i32⟩
  | 61 => ⟨S8192x8192, .i32⟩
  | 62 => ⟨S8192x8192, .i32⟩
  | 63 => ⟨S8192x8192, .i1⟩
  | 64 => ⟨S8192x8192, .i1⟩
  | 65 => ⟨S1x8192, .i32⟩
  | 66 => ⟨S8192x1, .i32⟩
  | 67 => ⟨S8192x8192, .i32⟩
  | 68 => ⟨S8192x8192, .i32⟩
  | 69 => ⟨S8192x8192, .i32⟩
  | 70 => ⟨S_, .i32⟩
  | 71 => ⟨S8192x8192, .i32⟩
  | 72 => ⟨S8192x8192, .i32⟩
  | 73 => ⟨S_, .i32⟩
  | 74 => ⟨S8192x8192, .i32⟩
  | 75 => ⟨S8192x8192, .i32⟩
  | 76 => ⟨S_, .i32⟩
  | 77 => ⟨S_, .i32⟩
  | 78 => ⟨S_, .i32⟩
  | 79 => ⟨S8192x8192, .i32⟩
  | 80 => ⟨S8192x8192, .i32⟩
  | 81 => ⟨S_, .i32⟩
  | 82 => ⟨S8192x8192, .i32⟩
  | 83 => ⟨S8192x8192, .i32⟩
  | 84 => ⟨S1x8192, .i32⟩
  | 85 => ⟨S8192x1, .i32⟩
  | 86 => ⟨S8192x8192, .i32⟩
  | 87 => ⟨S8192x8192, .i32⟩
  | 88 => ⟨S8192x8192, .i32⟩
  | 89 => ⟨S_, .i32⟩
  | 90 => ⟨S8192x8192, .i32⟩
  | 91 => ⟨S8192x8192, .i32⟩
  | 92 => ⟨S_, .i32⟩
  | 93 => ⟨S8192x8192, .i32⟩
  | 94 => ⟨S8192x8192, .i32⟩
  | 95 => ⟨S_, .i32⟩
  | 96 => ⟨S_, .i32⟩
  | 97 => ⟨S_, .i32⟩
  | 98 => ⟨S8192x8192, .i32⟩
  | 99 => ⟨S8192x8192, .i32⟩
  | 100 => ⟨S_, .i32⟩
  | 101 => ⟨S8192x8192, .i32⟩
  | 102 => ⟨S8192x8192, .i32⟩
  | 103 => ⟨S_, .i32⟩
  | 104 => ⟨S8192x8192, .i32⟩
  | 105 => ⟨S8192x8192, .i1⟩
  | 106 => ⟨S_, .i32⟩
  | 107 => ⟨S8192x8192, .i32⟩
  | 108 => ⟨S8192x8192, .i32⟩
  | 109 => ⟨S8192x8192, .i32⟩
  | 110 => ⟨S_, .i32⟩
  | 111 => ⟨S8192x8192, .i32⟩
  | 112 => ⟨S8192x8192, .i1⟩
  | 113 => ⟨S_, .i32⟩
  | 114 => ⟨S8192x8192, .i32⟩
  | 115 => ⟨S8192x8192, .i32⟩
  | 116 => ⟨S8192x8192, .i32⟩
  | 117 => ⟨S8192x8192x1, .i32⟩
  | 118 => ⟨S8192x8192x1, .i32⟩
  | 119 => ⟨S8192x8192x2, .i32⟩
  | 120 => ⟨S8x8192x8192, .f32⟩
  | 121 => ⟨S8x8192x8192, .f32⟩
  | 122 => ⟨S_, .f32⟩
  | 123 => ⟨S_, .f32⟩
  | 124 => ⟨S8x8192x8192, .f32⟩
  | 125 => ⟨S8x8192x8192, .f32⟩
  | 126 => ⟨S8x8192x8192, .f32⟩
  | 127 => ⟨S1x8192x8192, .i1⟩
  | _ => ⟨S8192x3072, .bf16⟩

abbrev hbmTy0_1 (i : Nat) : BufTy := match i % 128 with
  | 0 => ⟨S_, .f32⟩
  | 1 => ⟨S_, .f32⟩
  | 2 => ⟨S8x8192x8192, .i1⟩
  | 3 => ⟨S8x8192x8192, .f32⟩
  | 4 => ⟨S8x8192x8192, .f32⟩
  | 5 => ⟨S_, .f32⟩
  | 6 => ⟨S8x8192, .f32⟩
  | 7 => ⟨S_, .f32⟩
  | 8 => ⟨S8x8192, .f32⟩
  | 9 => ⟨S8x8192, .f32⟩
  | 10 => ⟨S8x8192x1, .f32⟩
  | 11 => ⟨S8x8192x8192, .f32⟩
  | 12 => ⟨S8x8192x8192, .f32⟩
  | 13 => ⟨S8x8192x8192, .f32⟩
  | 14 => ⟨S_, .f32⟩
  | 15 => ⟨S8x8192, .f32⟩
  | 16 => ⟨S8x8192x1, .f32⟩
  | 17 => ⟨S8x8192x8192, .f32⟩
  | 18 => ⟨S8x8192x8192, .f32⟩
  | 19 => ⟨S8x128x8192, .f32⟩
  | 20 => ⟨S8192x8x128, .f32⟩
  | 21 => ⟨S8x8192x128, .f32⟩
  | 22 => ⟨S8x8192x128, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_c_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_c_6 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_c_12 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_c_14 : Ref sig .tc := ⟨.hbm, 92, rfl⟩
abbrev main_v60 : Ref sig .tc := ⟨.hbm, 93, rfl⟩
abbrev main_v61 : Ref sig .tc := ⟨.hbm, 94, rfl⟩
abbrev main_c_15 : Ref sig .tc := ⟨.hbm, 95, rfl⟩
abbrev main_c_16 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v62 : Ref sig .tc := ⟨.hbm, 102, rfl⟩
abbrev main_c_17 : Ref sig .tc := ⟨.hbm, 103, rfl⟩
abbrev main_v63 : Ref sig .tc := ⟨.hbm, 104, rfl⟩
abbrev main_v64 : Ref sig .tc := ⟨.hbm, 105, rfl⟩
abbrev main_c_18 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_c_19 : Ref sig .tc := ⟨.hbm, 110, rfl⟩
abbrev main_v68 : Ref sig .tc := ⟨.hbm, 111, rfl⟩
abbrev main_v69 : Ref sig .tc := ⟨.hbm, 112, rfl⟩
abbrev main_c_20 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_21 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_v83 : Ref sig .tc := ⟨.hbm, 132, rfl⟩
abbrev main_cst_22 : Ref sig .tc := ⟨.hbm, 133, rfl⟩
abbrev main_v84 : Ref sig .tc := ⟨.hbm, 134, rfl⟩
abbrev main_cst_23 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_24 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩

abbrev nD : Nat := 1
abbrev τ : Topo := Topo.v7x

variable {F : FTy → Type} [FloatOps F]
-- ==== SgF.lean ====
abbrev S8192x1536 : Shape := ⟨2, ![8192, 1536]⟩
abbrev S512 : Shape := ⟨1, ![512]⟩
abbrev S4x128x128 : Shape := ⟨3, ![4, 128, 128]⟩
abbrev S4x128 : Shape := ⟨2, ![4, 128]⟩
abbrev S4x128x1 : Shape := ⟨3, ![4, 128, 1]⟩
abbrev S1x512 : Shape := ⟨2, ![1, 512]⟩
abbrev S8192x512 : Shape := ⟨2, ![8192, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 9
  | .vmem => 9
  | .smem => 0
  | _ => 0

abbrev bufTy : (tb : Table) → Fin (tcTables nBuf tb) → BufTy
  | .hbm, ⟨0, _⟩ => ⟨S8192x1536, .bf16⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S4x128x128, .bf16⟩
  | .hbm, ⟨5, _⟩ => ⟨S4x128x1, .f32⟩
  | .hbm, ⟨6, _⟩ => ⟨S4x128x128, .f32⟩
  | .hbm, ⟨7, _⟩ => ⟨S1x512, .f32⟩
  | .hbm, ⟨8, _⟩ => ⟨S8192x512, .bf16⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S4x128x128, .bf16⟩
  | .local _ .vmem, ⟨5, _⟩ => ⟨S4x128x128, .f32⟩
  | .local _ .vmem, ⟨6, _⟩ => ⟨S1x512, .f32⟩
  | .local _ .vmem, ⟨7, _⟩ => ⟨S128x512, .bf16⟩
  | .local _ .vmem, ⟨8, _⟩ => ⟨S128x512, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SgFIdeal.lean ====
variable {F : FTy → Type} [FloatOps F] [Named F]
def κ : String → Option EReal := fun
  | "inv_sqrt2" => some (((Real.sqrt 2)⁻¹ : ℝ) : EReal)
  | _ => none
-- ==== SgFRefIdeal.lean ====
abbrev S8192x1536 : Shape := ⟨2, ![8192, 1536]⟩
abbrev S512 : Shape := ⟨1, ![512]⟩
abbrev S4x128x128 : Shape := ⟨3, ![4, 128, 128]⟩
abbrev S4x128 : Shape := ⟨2, ![4, 128]⟩
abbrev S1x8192x1536 : Shape := ⟨3, ![1, 8192, 1536]⟩
abbrev S1x8192x512 : Shape := ⟨3, ![1, 8192, 512]⟩
abbrev S_ : Shape := ⟨0, ![]⟩
abbrev S1x64x128x4x128 : Shape := ⟨5, ![1, 64, 128, 4, 128]⟩
abbrev S1x64x128x4 : Shape := ⟨4, ![1, 64, 128, 4]⟩
abbrev S1x64x128x4x1 : Shape := ⟨5, ![1, 64, 128, 4, 1]⟩
abbrev S1x1x1x4x128 : Shape := ⟨5, ![1, 1, 1, 4, 128]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩
abbrev S8192x512 : Shape := ⟨2, ![8192, 512]⟩

abbrev nBuf : Space → Nat
  | .hbm => 60
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S8192x1536, .f32⟩
  | .hbm, ⟨5, _⟩ => ⟨S1x8192x1536, .f32⟩
  | .hbm, ⟨6, _⟩ => ⟨S1x8192x512, .f32⟩
  | .hbm, ⟨7, _⟩ => ⟨S1x8192x512, .f32⟩
  | .hbm, ⟨8, _⟩ => ⟨S_, .f32⟩
  | .hbm, ⟨9, _⟩ => ⟨S1x8192x512, .f32⟩
  | .hbm, ⟨10, _⟩ => ⟨S1x8192x512, .f32⟩
  | .hbm, ⟨11, _⟩ => ⟨S_, .f32⟩
  | .hbm, ⟨12, _⟩ => ⟨S_, .f32⟩
  | .hbm, ⟨13, _⟩ => ⟨S1x8192x512, .f32⟩
  | .hbm, ⟨14, _⟩ => ⟨S1x8192x512, .f32⟩
  | .hbm, ⟨15, _⟩ => ⟨S1x8192x512, .f32⟩
  | .hbm, ⟨16, _⟩ => ⟨S_, .f32⟩
  | .hbm, ⟨17, _⟩ => ⟨S1x8192x512, .f32⟩
  | .hbm, ⟨18, _⟩ => ⟨S1x8192x512, .f32⟩
  | .hbm, ⟨19, _⟩ => ⟨S1x8192x512, .f32⟩
  | .hbm, ⟨20, _⟩ => ⟨S_, .f32⟩
  | .hbm, ⟨21, _⟩ => ⟨S1x8192x512, .f32⟩
  | .hbm, ⟨22, _⟩ => ⟨S1x8192x512, .f32⟩
  | .hbm, ⟨23, _⟩ => ⟨S_, .f32⟩
  | .hbm, ⟨24, _⟩ => ⟨S_, .f32⟩
  | .hbm, ⟨25, _⟩ => ⟨S1x8192x512, .f32⟩
  | .hbm, ⟨26, _⟩ => ⟨S1x8192x512, .f32⟩
  | .hbm, ⟨27, _⟩ => ⟨S1x8192x512, .f32⟩
  | .hbm, ⟨28, _⟩ => ⟨S_, .f32⟩
  | .hbm, ⟨29, _⟩ => ⟨S1x8192x512, .f32⟩
  | .hbm, ⟨30, _⟩ => ⟨S1x8192x512, .f32⟩
  | .hbm, ⟨31, _⟩ => ⟨S1x8192x512, .f32⟩
  | .hbm, ⟨32, _⟩ => ⟨S1x64x128x4x128, .f32⟩
  | .hbm, ⟨33, _⟩ => ⟨S4x128, .f32⟩
  | .hbm, ⟨34, _⟩ => ⟨S1x64x128x4x128, .f32⟩
  | .hbm, ⟨35, _⟩ => ⟨S_, .f32⟩
  | .hbm, ⟨36, _⟩ => ⟨S1x64x128x4, .f32⟩
  | .hbm, ⟨37, _⟩ => ⟨S1x64x128x4x1, .f32⟩
  | .hbm, ⟨38, _⟩ => ⟨S_, .f32⟩
  | .hbm, ⟨39, _⟩ => ⟨S1x64x128x4x1, .f32⟩
  | .hbm, ⟨40, _⟩ => ⟨S1x64x128x4x1, .f32⟩
  | .hbm, ⟨41, _⟩ => ⟨S_, .f32⟩
  | .hbm, ⟨42, _⟩ => ⟨S1x64x128x4x1, .f32⟩
  | .hbm, ⟨43, _⟩ => ⟨S1x64x128x4x1, .f32⟩
  | .hbm, ⟨44, _⟩ => ⟨S1x64x128x4x1, .f32⟩
  | .hbm, ⟨45, _⟩ => ⟨S1x64x128x4x128, .f32⟩
  | .hbm, ⟨46, _⟩ => ⟨S1x64x128x4x128, .f32⟩
  | .hbm, ⟨47, _⟩ => ⟨S1x1x1x4x128, .f32⟩
  | .hbm, ⟨48, _⟩ => ⟨S1x64x128x4x128, .f32⟩
  | .hbm, ⟨49, _⟩ => ⟨S1x64x128x4x128, .f32⟩
  | .hbm, ⟨50, _⟩ => ⟨S4x1x64x128x128, .f32⟩
  | .hbm, ⟨51, _⟩ => ⟨S1x64x128x4x128, .f32⟩
  | .hbm, ⟨52, _⟩ => ⟨S128x4, .f32⟩
  | .hbm, ⟨53, _⟩ => ⟨S1x1x128x4x1, .f32⟩
  | .hbm, ⟨54, _⟩ => ⟨S1x64x128x4x128, .f32⟩
  | .hbm, ⟨55, _⟩ => ⟨S1x64x128x4x128, .f32⟩
  | .hbm, ⟨56, _⟩ => ⟨S1x8192x512, .f32⟩
  | .hbm, ⟨57, _⟩ => ⟨S1x8192x512, .f32⟩
  | .hbm, ⟨58, _⟩ => ⟨S8192x512, .f32⟩
  | .hbm, ⟨59, _⟩ => ⟨S8192x512, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== PoolF.lean ====
abbrev S8192x1536 : Shape := ⟨2, ![8192, 1536]⟩
abbrev S4x128x128 : Shape := ⟨3, ![4, 128, 128]⟩
abbrev S512 : Shape := ⟨1, ![512]⟩
abbrev S1x512 : Shape := ⟨2, ![1, 512]⟩
abbrev S8192x512 : Shape := ⟨2, ![8192, 512]⟩
abbrev S128x512 : Shape := ⟨2, ![128, 512]⟩
abbrev S256x512 : Shape := ⟨2, ![256, 512]⟩
abbrev S512x512 : Shape := ⟨2, ![512, 512]⟩
abbrev S256x1 : Shape := ⟨2, ![256, 1]⟩
abbrev S512x128 : Shape := ⟨2, ![512, 128]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x1536, .bf16⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S8192x512, .bf16⟩
  | .local _ .vmem, ⟨0, _⟩ => ⟨S128x512, .bf16⟩
  | .local _ .vmem, ⟨1, _⟩ => ⟨S128x512, .bf16⟩
  | .local _ .vmem, ⟨2, _⟩ => ⟨S256x512, .bf16⟩
  | .local _ .vmem, ⟨3, _⟩ => ⟨S256x512, .bf16⟩
  | .local _ .vmem, ⟨4, _⟩ => ⟨S128x512, .bf16⟩
  | .local _ .vmem, ⟨5, _⟩ => ⟨S128x512, .bf16⟩
  | .local _ .vmem, ⟨6, _⟩ => ⟨S4x128x128, .bf16⟩
  | .local _ .vmem, ⟨7, _⟩ => ⟨S1x512, .f32⟩
  | .local _ .vmem, ⟨8, _⟩ => ⟨S256x512, .bf16⟩
  | .local _ .vmem, ⟨9, _⟩ => ⟨S256x512, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![v2.toNat, c2_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c63_i32 : BitVec 32 := 63#32
  let v2 : BitVec 32 := Scalar.minsi v1 c63_i32
  let c2_i32_0 : BitVec 32 := 2#32
  let c0_i32 : BitVec 32 := 0#32
  ![v2.toNat, c2_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolFRefIdeal.lean ====
abbrev S8192x1536 : Shape := ⟨2, ![8192, 1536]⟩
abbrev S4x128x128 : Shape := ⟨3, ![4, 128, 128]⟩
abbrev S512 : Shape := ⟨1, ![512]⟩
abbrev S8192x512 : Shape := ⟨2, ![8192, 512]⟩
abbrev S1x8192x512 : Shape := ⟨3, ![1, 8192, 512]⟩
abbrev S1x8192x4x128 : Shape := ⟨4, ![1, 8192, 4, 128]⟩
abbrev S_ : Shape := ⟨0, ![]⟩
abbrev S1x1x4x128 : Shape := ⟨4, ![1, 1, 4, 128]⟩
abbrev S1x8193x4x128 : Shape := ⟨4, ![1, 8193, 4, 128]⟩
abbrev S8192 : Shape := ⟨1, ![8192]⟩
abbrev S8192x1 : Shape := ⟨2, ![8192, 1]⟩
abbrev S8192x2 : Shape := ⟨2, ![8192, 2]⟩
abbrev S1x8192x128 : Shape := ⟨3, ![1, 8192, 128]⟩
abbrev S1x8192x1 : Shape := ⟨3, ![1, 8192, 1]⟩
abbrev S1x8192x1x128 : Shape := ⟨4, ![1, 8192, 1, 128]⟩
abbrev S4x128x1x8192 : Shape := ⟨4, ![4, 128, 1, 8192]⟩
abbrev S4x128 : Shape := ⟨2, ![4, 128]⟩

abbrev nBuf : Space → Nat
  | .hbm => 264
  | .vmem => 0
  | .smem => 0
  | _ => 0

abbrev hbmTy0_0 (i : Nat) : BufTy := match i % 128 with
  | 0 => ⟨S8192x1536, .bf16⟩
  | 1 => ⟨S4x128x128, .f32⟩
  | 2 => ⟨S512, .f32⟩
  | 3 => ⟨S8192x1536, .f32⟩
  | 4 => ⟨S8192x512, .f32⟩
  | 5 => ⟨S1x8192x512, .f32⟩
  | 6 => ⟨S1x8192x4x128, .f32⟩
  | 7 => ⟨S_, .f32⟩
  | 8 => ⟨S1x1x4x128, .f32⟩
  | 9 => ⟨S_, .f32⟩
  | 10 => ⟨S_, .f32⟩
  | 11 => ⟨S1x8192x4x128, .f32⟩
  | 12 => ⟨S1x8193x4x128, .f32⟩
  | 13 => ⟨S8192, .i32⟩
  | 14 => ⟨S_, .i32⟩
  | 15 => ⟨S8192, .i32⟩
  | 16 => ⟨S8192, .i32⟩
  | 17 => ⟨S_, .i32⟩
  | 18 => ⟨S_, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .i32⟩
  | 29 => ⟨S_, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .i32⟩
  | 37 => ⟨S8192, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S_, .i32⟩
  | 46 => ⟨S8192, .i32⟩
  | 47 => ⟨S8192, .i32⟩
  | 48 => ⟨S8192x1, .i32⟩
  | 49 => ⟨S8192x1, .i32⟩
  | 50 => ⟨S8192x2, .i32⟩
  | 51 => ⟨S1x8192x128, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192x1, .i32⟩
  | 63 => ⟨S8192x1, .i32⟩
  | 64 => ⟨S8192x2, .i32⟩
  | 65 => ⟨S1x8192x128, .f32⟩
  | 66 => ⟨S1x8192x128, .f32⟩
  | 67 => ⟨S1x8192x1, .f32⟩
  | 68 => ⟨S1x8192x128, .f32⟩
  | 69 => ⟨S1x8192x128, .f32⟩
  | 70 => ⟨S1x8192x1x128, .f32⟩
  | 71 => ⟨S1x8192x128, .f32⟩
  | 72 => ⟨S1x8192x128, .f32⟩
  | 73 => ⟨S_, .i32⟩
  | 74 => ⟨S8192, .i32⟩
  | 75 => ⟨S8192, .i32⟩
  | 76 => ⟨S_, .i32⟩
  | 77 => ⟨S_, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S_, .i32⟩
  | 88 => ⟨S_, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192, .i32⟩
  | 96 => ⟨S8192, .f32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S_, .i32⟩
  | 105 => ⟨S8192, .i32⟩
  | 106 => ⟨S8192, .i32⟩
  | 107 => ⟨S8192x1, .i32⟩
  | 108 => ⟨S8192x1, .i32⟩
  | 109 => ⟨S8192x2, .i32⟩
  | 110 => ⟨S1x8192x128, .f32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192x1, .i32⟩
  | 122 => ⟨S8192x1, .i32⟩
  | 123 => ⟨S8192x2, .i32⟩
  | 124 => ⟨S1x8192x128, .f32⟩
  | 125 => ⟨S1x8192x128, .f32⟩
  | 126 => ⟨S1x8192x1, .f32⟩
  | 127 => ⟨S1x8192x128, .f32⟩
  | _ => ⟨S8192x1536, .bf16⟩

abbrev hbmTy0_1 (i : Nat) : BufTy := match i % 128 with
  | 0 => ⟨S1x8192x128, .f32⟩
  | 1 => ⟨S1x8192x1x128, .f32⟩
  | 2 => ⟨S1x8192x128, .f32⟩
  | 3 => ⟨S1x8192x128, .f32⟩
  | 4 => ⟨S_, .i32⟩
  | 5 => ⟨S8192, .i32⟩
  | 6 => ⟨S8192, .i32⟩
  | 7 => ⟨S_, .i32⟩
  | 8 => ⟨S_, .i32⟩
  | 9 => ⟨S_, .i32⟩
  | 10 => ⟨S8192, .i32⟩
  | 11 => ⟨S8192, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S_, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192, .i32⟩
  | 27 => ⟨S8192, .f32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S_, .i32⟩
  | 36 => ⟨S8192, .i32⟩
  | 37 => ⟨S8192, .i32⟩
  | 38 => ⟨S8192x1, .i32⟩
  | 39 => ⟨S8192x1, .i32⟩
  | 40 => ⟨S8192x2, .i32⟩
  | 41 => ⟨S1x8192x128, .f32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S_, .i32⟩
  | 50 => ⟨S8192, .i32⟩
  | 51 => ⟨S8192, .i32⟩
  | 52 => ⟨S8192x1, .i32⟩
  | 53 => ⟨S8192x1, .i32⟩
  | 54 => ⟨S8192x2, .i32⟩
  | 55 => ⟨S1x8192x128, .f32⟩
  | 56 => ⟨S1x8192x128, .f32⟩
  | 57 => ⟨S1x8192x1, .f32⟩
  | 58 => ⟨S1x8192x128, .f32⟩
  | 59 => ⟨S1x8192x128, .f32⟩
  | 60 => ⟨S1x8192x1x128, .f32⟩
  | 61 => ⟨S1x8192x128, .f32⟩
  | 62 => ⟨S1x8192x128, .f32⟩
  | 63 => ⟨S_, .i32⟩
  | 64 => ⟨S8192, .i32⟩
  | 65 => ⟨S8192, .i32⟩
  | 66 => ⟨S_, .i32⟩
  | 67 => ⟨S_, .i32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S_, .i32⟩
  | 78 => ⟨S_, .i32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S8192, .i32⟩
  | 86 => ⟨S8192, .f32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S_, .i32⟩
  | 95 => ⟨S8192, .i32⟩
  | 96 => ⟨S8192, .i32⟩
  | 97 => ⟨S8192x1, .i32⟩
  | 98 => ⟨S8192x1, .i32⟩
  | 99 => ⟨S8192x2, .i32⟩
  | 100 => ⟨S1x8192x128, .f32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S_, .i32⟩
  | 109 => ⟨S8192, .i32⟩
  | 110 => ⟨S8192, .i32⟩
  | 111 => ⟨S8192x1, .i32⟩
  | 112 => ⟨S8192x1, .i32⟩
  | 113 => ⟨S8192x2, .i32⟩
  | 114 => ⟨S1x8192x128, .f32⟩
  | 115 => ⟨S1x8192x128, .f32⟩
  | 116 => ⟨S1x8192x1, .f32⟩
  | 117 => ⟨S1x8192x128, .f32⟩
  | 118 => ⟨S1x8192x128, .f32⟩
  | 119 => ⟨S1x8192x1x128, .f32⟩
  | 120 => ⟨S1x8192x128, .f32⟩
  | 121 => ⟨S1x8192x128, .f32⟩
  | 122 => ⟨S1x8192x1x128, .f32⟩
  | 123 => ⟨S1x8192x1x128, .f32⟩
  | 124 => ⟨S1x8192x1x128, .f32⟩
  | 125 => ⟨S1x8192x1x128, .f32⟩
  | 126 => ⟨S1x8192x4x128, .f32⟩
  | 127 => ⟨S4x128x1x8192, .f32⟩
  | _ => ⟨S8192x1536, .bf16⟩

abbrev hbmTy0_2 (i : Nat) : BufTy := match i % 128 with
  | 0 => ⟨S1x8192x4x128, .f32⟩
  | 1 => ⟨S4x128, .f32⟩
  | 2 => ⟨S1x1x4x128, .f32⟩
  | 3 => ⟨S1x8192x4x128, .f32⟩
  | 4 => ⟨S1x8192x4x128, .f32⟩
  | 5 => ⟨S1x8192x512, .f32⟩
  | 6 => ⟨S8192x512, .f32⟩
  | 7 => ⟨S8192x512, .bf16⟩
  | _ => ⟨S8192x1536, .bf16⟩

abbrev hbmTy (i : Nat) : BufTy := match i / 128 with
  | 0 => hbmTy0_0 i
  | 1 => hbmTy0_1 i
  | 2 => hbmTy0_2 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_c_4 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_5 : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_7 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_8 : Ref sig .tc := ⟨.hbm, 52, rfl⟩
abbrev main_v27 : Ref sig .tc := ⟨.hbm, 53, rfl⟩
abbrev main_v28 : Ref sig .tc := ⟨.hbm, 54, rfl⟩
abbrev main_c_9 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_10 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_c_13 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v47 : Ref sig .tc := ⟨.hbm, 83, rfl⟩
abbrev main_c_14 : Ref sig .tc := ⟨.hbm, 84, rfl⟩
abbrev main_v48 : Ref sig .tc := ⟨.hbm, 85, rfl⟩
abbrev main_v49 : Ref sig .tc := ⟨.hbm, 86, rfl⟩
abbrev main_c_15 : Ref sig .tc := ⟨.hbm, 87, rfl⟩
abbrev main_c_16 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_c_17 : Ref sig .tc := ⟨.hbm, 97, rfl⟩
abbrev main_v53 : Ref sig .tc := ⟨.hbm, 98, rfl⟩
abbrev main_v54 : Ref sig .tc := ⟨.hbm, 99, rfl⟩
abbrev main_c_18 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_c_19 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_c_20 : Ref sig .tc := ⟨.hbm, 111, rfl⟩
abbrev main_v64 : Ref sig .tc := ⟨.hbm, 112, rfl⟩
abbrev main_v65 : Ref sig .tc := ⟨.hbm, 113, rfl⟩
abbrev main_c_21 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_c_22 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_c_23 : Ref sig .tc := ⟨.hbm, 132, rfl⟩
abbrev main_v82 : Ref sig .tc := ⟨.hbm, 133, rfl⟩
abbrev main_v83 : Ref sig .tc := ⟨.hbm, 134, rfl⟩
abbrev main_c_24 : Ref sig .tc := ⟨.hbm, 135, rfl⟩
abbrev main_c_25 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_v84 : Ref sig .tc := ⟨.hbm, 142, rfl⟩
abbrev main_c_26 : Ref sig .tc := ⟨.hbm, 143, rfl⟩
abbrev main_v85 : Ref sig .tc := ⟨.hbm, 144, rfl⟩
abbrev main_v86 : Ref sig .tc := ⟨.hbm, 145, rfl⟩
abbrev main_c_27 : Ref sig .tc := ⟨.hbm, 146, rfl⟩
abbrev main_c_28 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_c_29 : Ref sig .tc := ⟨.hbm, 156, rfl⟩
abbrev main_v90 : Ref sig .tc := ⟨.hbm, 157, rfl⟩
abbrev main_v91 : Ref sig .tc := ⟨.hbm, 158, rfl⟩
abbrev main_c_30 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_c_31 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_c_32 : Ref sig .tc := ⟨.hbm, 170, rfl⟩
abbrev main_v101 : Ref sig .tc := ⟨.hbm, 171, rfl⟩
abbrev main_v102 : Ref sig .tc := ⟨.hbm, 172, rfl⟩
abbrev main_c_33 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_c_34 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_c_35 : Ref sig .tc := ⟨.hbm, 191, rfl⟩
abbrev main_v119 : Ref sig .tc := ⟨.hbm, 192, rfl⟩
abbrev main_v120 : Ref sig .tc := ⟨.hbm, 193, rfl⟩
abbrev main_c_36 : Ref sig .tc := ⟨.hbm, 194, rfl⟩
abbrev main_c_37 : Ref sig .tc := ⟨.hbm, 195, rfl⟩
abbrev main_call7_v0 : Ref sig .tc := ⟨.hbm, 196, rfl⟩
abbrev main_call7_v1 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_v121 : Ref sig .tc := ⟨.hbm, 201, rfl⟩
abbrev main_c_38 : Ref sig .tc := ⟨.hbm, 202, rfl⟩
abbrev main_v122 : Ref sig .tc := ⟨.hbm, 203, rfl⟩
abbrev main_v123 : Ref sig .tc := ⟨.hbm, 204, rfl⟩
abbrev main_c_39 : Ref sig .tc := ⟨.hbm, 205, rfl⟩
abbrev main_c_40 : Ref sig .tc := ⟨.hbm, 206, rfl⟩
abbrev main_call8_v0 : Ref sig .tc := ⟨.hbm, 207, rfl⟩
abbrev main_call8_v1 : Ref sig .tc := ⟨.hbm, 208, rfl⟩
abbrev main_call8_v2 : Ref sig .tc := ⟨.hbm, 209, rfl⟩
abbrev main_call8_v3 : Ref sig .tc := ⟨.hbm, 210, rfl⟩
abbrev main_call8_v4 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_c_41 : Ref sig .tc := ⟨.hbm, 215, rfl⟩
abbrev main_v127 : Ref sig .tc := ⟨.hbm, 216, rfl⟩
abbrev main_v128 : Ref sig .tc := ⟨.hbm, 217, rfl⟩
abbrev main_c_42 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_c_43 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_c_44 : Ref sig .tc := ⟨.hbm, 229, rfl⟩
abbrev main_v138 : Ref sig .tc := ⟨.hbm, 230, rfl⟩
abbrev main_v139 : Ref sig .tc := ⟨.hbm, 231, rfl⟩
abbrev main_c_45 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_c_46 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩

abbrev nD : Nat := 1
abbrev τ : Topo := Topo.v7x

variable {F : FTy → Type} [FloatOps F]
-- ==== Act.lean ====
abbrev S8192x2048 : Shape := ⟨2, ![8192, 2048]⟩
abbrev S2048x5632 : Shape := ⟨2, ![2048, 5632]⟩
abbrev S5632x2048 : Shape := ⟨2, ![5632, 2048]⟩
abbrev S1x5632x2048 : Shape := ⟨3, ![1, 5632, 2048]⟩
abbrev S2x5632x2048 : Shape := ⟨3, ![2, 5632, 2048]⟩
abbrev S8192x5632 : Shape := ⟨2, ![8192, 5632]⟩
abbrev S2x8192x5632 : Shape := ⟨3, ![2, 8192, 5632]⟩
abbrev S1024x2048 : Shape := ⟨2, ![1024, 2048]⟩
abbrev S1x512x2048 : Shape := ⟨3, ![1, 512, 2048]⟩
abbrev S1024x512 : Shape := ⟨2, ![1024, 512]⟩
abbrev S2x1024x512 : Shape := ⟨3, ![2, 1024, 512]⟩
abbrev S512x2048 : Shape := ⟨2, ![512, 2048]⟩
abbrev S1x1024x512 : Shape := ⟨3, ![1, 1024, 512]⟩

abbrev nBuf : Space → Nat
  | .hbm => 11
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S5632x2048, .f32⟩
  | .hbm, ⟨5, _⟩ => ⟨S1x5632x2048, .f32⟩
  | .hbm, ⟨6, _⟩ => ⟨S1x5632x2048, .f32⟩
  | .hbm, ⟨7, _⟩ => ⟨S2x5632x2048, .f32⟩
  | .hbm, ⟨8, _⟩ => ⟨S2x5632x2048, .bf16⟩
  | .hbm, ⟨9, _⟩ => ⟨S8192x5632, .bf16⟩
  | .hbm, ⟨10, _⟩ => ⟨S2x8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1024x512, .bf16⟩
  | .local _ .vmem, ⟨7, _⟩ => ⟨S1024x512, .bf16⟩
  | .local _ .vmem, ⟨8, _⟩ => ⟨S2x1024x512, .bf16⟩
  | .local _ .vmem, ⟨9, _⟩ => ⟨S2x1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ActRefIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Rms.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Res.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S5632x2048, .bf16⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ResRefIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Mix.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MixRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Dy.lean ====
abbrev S8192x2048 : Shape := ⟨2, ![8192, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DyRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dw.lean ====
abbrev S2x8192x5632 : Shape := ⟨3, ![2, 8192, 5632]⟩
abbrev S8192x2048 : Shape := ⟨2, ![8192, 2048]⟩
abbrev S2x5632x2048 : Shape := ⟨3, ![2, 5632, 2048]⟩
abbrev S1x2048x512 : Shape := ⟨3, ![1, 2048, 512]⟩
abbrev S2048x2048 : Shape := ⟨2, ![2048, 2048]⟩
abbrev S1x512x2048 : Shape := ⟨3, ![1, 512, 2048]⟩
abbrev S512x2048 : Shape := ⟨2, ![512, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S8192x2048, .bf16⟩
  | .hbm, ⟨2, _⟩ => ⟨S2x5632x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S2x8192x5632 : Shape := ⟨3, ![2, 8192, 5632]⟩
abbrev S8192x2048 : Shape := ⟨2, ![8192, 2048]⟩
abbrev S_ : Shape := ⟨0, ![]⟩
abbrev S2048x5632 : Shape := ⟨2, ![2048, 5632]⟩
abbrev S8192x5632 : Shape := ⟨2, ![8192, 5632]⟩
abbrev S1x8192x5632 : Shape := ⟨3, ![1, 8192, 5632]⟩
abbrev S5632x2048 : Shape := ⟨2, ![5632, 2048]⟩
abbrev S1x5632x2048 : Shape := ⟨3, ![1, 5632, 2048]⟩
abbrev S2x5632x2048 : Shape := ⟨3, ![2, 5632, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S8192x2048, .bf16⟩
  | .hbm, ⟨2, _⟩ => ⟨S_, .f32⟩
  | .hbm, ⟨3, _⟩ => ⟨S2048x5632, .f32⟩
  | .hbm, ⟨4, _⟩ => ⟨S2x8192x5632, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S1x8192x5632, .f32⟩
  | .hbm, ⟨9, _⟩ => ⟨S8192x5632, .f32⟩
  | .hbm, ⟨10, _⟩ => ⟨S1x8192x5632, .f32⟩
  | .hbm, ⟨11, _⟩ => ⟨S8192x5632, .f32⟩
  | .hbm, ⟨12, _⟩ => ⟨S5632x2048, .f32⟩
  | .hbm, ⟨13, _⟩ => ⟨S2048x5632, .f32⟩
  | .hbm, ⟨14, _⟩ => ⟨S5632x2048, .f32⟩
  | .hbm, ⟨15, _⟩ => ⟨S2048x5632, .f32⟩
  | .hbm, ⟨16, _⟩ => ⟨S5632x2048, .f32⟩
  | .hbm, ⟨17, _⟩ => ⟨S5632x2048, .f32⟩
  | .hbm, ⟨18, _⟩ => ⟨S1x5632x2048, .f32⟩
  | .hbm, ⟨19, _⟩ => ⟨S1x5632x2048, .f32⟩
  | .hbm, ⟨20, _⟩ => ⟨S2x5632x2048, .f32⟩
  | .hbm, ⟨21, _⟩ => ⟨S2x5632x2048, .bf16⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Zp.lean ====
abbrev S8192x2048 : Shape := ⟨2, ![8192, 2048]⟩
abbrev S2048x4608 : Shape := ⟨2, ![2048, 4608]⟩
abbrev S4608x2048 : Shape := ⟨2, ![4608, 2048]⟩
abbrev S8192x1536 : Shape := ⟨2, ![8192, 1536]⟩
abbrev S24x8192x128 : Shape := ⟨3, ![24, 8192, 128]⟩
abbrev S1024x2048 : Shape := ⟨2, ![1024, 2048]⟩
abbrev S512x2048 : Shape := ⟨2, ![512, 2048]⟩
abbrev S1024x512 : Shape := ⟨2, ![1024, 512]⟩
abbrev S4x1024x128 : Shape := ⟨3, ![4, 1024, 128]⟩
abbrev S1024x128 : Shape := ⟨2, ![1024, 128]⟩
abbrev S1x1024x128 : Shape := ⟨3, ![1, 1024, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x4608, .f32⟩
  | .hbm, ⟨2, _⟩ => ⟨S4608x2048, .f32⟩
  | .hbm, ⟨3, _⟩ => ⟨S4608x2048, .bf16⟩
  | .hbm, ⟨4, _⟩ => ⟨S8192x1536, .bf16⟩
  | .hbm, ⟨5, _⟩ => ⟨S24x8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S4x1024x128, .bf16⟩
  | .local _ .vmem, ⟨7, _⟩ => ⟨S4x1024x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c3_i32 : BitVec 32 := 3#32
  let v5 : BitVec 1 := Scalar.cmpi .slt arg1 c3_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c3_i32_3 : BitVec 32 := 3#32
  let v8 : BitVec 1 := Scalar.cmpi .sge arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ZpRefIdeal.lean ====
abbrev S8192x2048 : Shape := ⟨2, ![8192, 2048]⟩
abbrev S2048x4608 : Shape := ⟨2, ![2048, 4608]⟩
abbrev S8192x4608 : Shape := ⟨2, ![8192, 4608]⟩
abbrev S8192x1536 : Shape := ⟨2, ![8192, 1536]⟩
abbrev S8192x3072 : Shape := ⟨2, ![8192, 3072]⟩
abbrev S8192x24x128 : Shape := ⟨3, ![8192, 24, 128]⟩
abbrev S24x8192x128 : Shape := ⟨3, ![24, 8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4608, .f32⟩
  | .hbm, ⟨2, _⟩ => ⟨S8192x2048, .f32⟩
  | .hbm, ⟨3, _⟩ => ⟨S8192x4608, .f32⟩
  | .hbm, ⟨4, _⟩ => ⟨S8192x4608, .bf16⟩
  | .hbm, ⟨5, _⟩ => ⟨S8192x1536, .bf16⟩
  | .hbm, ⟨6, _⟩ => ⟨S8192x3072, .bf16⟩
  | .hbm, ⟨7, _⟩ => ⟨S8192x24x128, .bf16⟩
  | .hbm, ⟨8, _⟩ => ⟨S24x8192x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Adam.lean ====
abbrev S4x2048x704 : Shape := ⟨3, ![4, 2048, 704]⟩
abbrev S8192x704 : Shape := ⟨2, ![8192, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x2048x704, .f32⟩
  | .hbm, ⟨3, _⟩ => ⟨S4x2048x704, .f32⟩
  | .hbm, ⟨4, _⟩ => ⟨S8192x704, .f32⟩
  | .hbm, ⟨5, _⟩ => ⟨S8192x704, .f32⟩
  | .hbm, ⟨6, _⟩ => ⟨S8192x704, .f32⟩
  | .hbm, ⟨7, _⟩ => ⟨S8192x704, .f32⟩
  | .hbm, ⟨8, _⟩ => ⟨S8192x704, .f32⟩
  | .hbm, ⟨9, _⟩ => ⟨S8192x704, .f32⟩
  | .hbm, ⟨10, _⟩ => ⟨S8192x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4x2048x704 : Shape := ⟨3, ![4, 2048, 704]⟩
abbrev S_ : Shape := ⟨0, ![]⟩
abbrev S8192x704 : Shape := ⟨2, ![8192, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x2048x704, .f32⟩
  | .hbm, ⟨3, _⟩ => ⟨S4x2048x704, .f32⟩
  | .hbm, ⟨4, _⟩ => ⟨S_, .f32⟩
  | .hbm, ⟨5, _⟩ => ⟨S4x2048x704, .f32⟩
  | .hbm, ⟨6, _⟩ => ⟨S4x2048x704, .f32⟩
  | .hbm, ⟨7, _⟩ => ⟨S_, .f32⟩
  | .hbm, ⟨8, _⟩ => ⟨S4x2048x704, .f32⟩
  | .hbm, ⟨9, _⟩ => ⟨S4x2048x704, .f32⟩
  | .hbm, ⟨10, _⟩ => ⟨S4x2048x704, .f32⟩
  | .hbm, ⟨11, _⟩ => ⟨S_, .f32⟩
  | .hbm, ⟨12, _⟩ => ⟨S4x2048x704, .f32⟩
  | .hbm, ⟨13, _⟩ => ⟨S4x2048x704, .f32⟩
  | .hbm, ⟨14, _⟩ => ⟨S4x2048x704, .f32⟩
  | .hbm, ⟨15, _⟩ => ⟨S_, .f32⟩
  | .hbm, ⟨16, _⟩ => ⟨S4x2048x704, .f32⟩
  | .hbm, ⟨17, _⟩ => ⟨S4x2048x704, .f32⟩
  | .hbm, ⟨18, _⟩ => ⟨S4x2048x704, .f32⟩
  | .hbm, ⟨19, _⟩ => ⟨S_, .f32⟩
  | .hbm, ⟨20, _⟩ => ⟨S4x2048x704, .f32⟩
  | .hbm, ⟨21, _⟩ => ⟨S4x2048x704, .f32⟩
  | .hbm, ⟨22, _⟩ => ⟨S_, .f32⟩
  | .hbm, ⟨23, _⟩ => ⟨S4x2048x704, .f32⟩
  | .hbm, ⟨24, _⟩ => ⟨S4x2048x704, .f32⟩
  | .hbm, ⟨25, _⟩ => ⟨S4x2048x704, .f32⟩
  | .hbm, ⟨26, _⟩ => ⟨S_, .f32⟩
  | .hbm, ⟨27, _⟩ => ⟨S4x2048x704, .f32⟩
  | .hbm, ⟨28, _⟩ => ⟨S4x2048x704, .f32⟩
  | .hbm, ⟨29, _⟩ => ⟨S4x2048x704, .f32⟩
  | .hbm, ⟨30, _⟩ => ⟨S_, .f32⟩
  | .hbm, ⟨31, _⟩ => ⟨S4x2048x704, .f32⟩
  | .hbm, ⟨32, _⟩ => ⟨S4x2048x704, .f32⟩
  | .hbm, ⟨33, _⟩ => ⟨S4x2048x704, .f32⟩
  | .hbm, ⟨34, _⟩ => ⟨S_, .f32⟩
  | .hbm, ⟨35, _⟩ => ⟨S4x2048x704, .f32⟩
  | .hbm, ⟨36, _⟩ => ⟨S4x2048x704, .f32⟩
  | .hbm, ⟨37, _⟩ => ⟨S8192x704, .f32⟩
  | .hbm, ⟨38, _⟩ => ⟨S8192x704, .f32⟩
  | .hbm, ⟨39, _⟩ => ⟨S8192x704, .f32⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Sum.lean ====
abbrev S1x8x4480x128 : Shape := ⟨4, ![1, 8, 4480, 128]⟩
abbrev S1x4480x128 : Shape := ⟨3, ![1, 4480, 128]⟩
abbrev S1x8x1120x128 : Shape := ⟨4, ![1, 8, 1120, 128]⟩
abbrev S1x1120x128 : Shape := ⟨3, ![1, 1120, 128]⟩
abbrev S1x1x1120x128 : Shape := ⟨4, ![1, 1, 1120, 128]⟩
abbrev S1120x128 : Shape := ⟨2, ![1120, 128]⟩

abbrev nBuf : Space → Nat
  | .hbm => 2
  | .vmem => 4
  | .smem => 0
  | _ => 0

abbrev bufTy : (tb : Table) → Fin (tcTables nBuf tb) → BufTy
  | .hbm, ⟨0, _⟩ => ⟨S1x8x4480x128, .f32⟩
  | .hbm, ⟨1, _⟩ => ⟨S1x4480x128, .f32⟩
  | .local _ .vmem, ⟨0, _⟩ => ⟨S1x8x1120x128, .f32⟩
  | .local _ .vmem, ⟨1, _⟩ => ⟨S1x8x1120x128, .f32⟩
  | .local _ .vmem, ⟨2, _⟩ => ⟨S1x1120x128, .f32⟩
  | .local _ .vmem, ⟨3, _⟩ => ⟨S1x1120x128, .f32⟩
  | _, _ => ⟨S1x8x4480x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1120x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumRefIdeal.lean ====
abbrev S1x8x4480x128 : Shape := ⟨4, ![1, 8, 4480, 128]⟩
abbrev S_ : Shape := ⟨0, ![]⟩
abbrev S1x4480x128 : Shape := ⟨3, ![1, 4480, 128]⟩

abbrev nBuf : Space → Nat
  | .hbm => 3
  | .vmem => 0
  | .smem => 0
  | _ => 0

abbrev bufTy : (tb : Table) → Fin (tcTables nBuf tb) → BufTy
  | .hbm, ⟨0, _⟩ => ⟨S1x8x4480x128, .f32⟩
  | .hbm, ⟨1, _⟩ => ⟨S_, .f32⟩
  | .hbm, ⟨2, _⟩ => ⟨S1x4480x128, .f32⟩
  | _, _ => ⟨S1x8x4480x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumInto.lean ====
abbrev S1x8x704x2048 : Shape := ⟨4, ![1, 8, 704, 2048]⟩
abbrev S4x2048x704 : Shape := ⟨3, ![4, 2048, 704]⟩
abbrev S1x8x704x256 : Shape := ⟨4, ![1, 8, 704, 256]⟩
abbrev S1x256x704 : Shape := ⟨3, ![1, 256, 704]⟩
abbrev S1x1x704x256 : Shape := ⟨4, ![1, 1, 704, 256]⟩
abbrev S704x256 : Shape := ⟨2, ![704, 256]⟩
abbrev S256x704 : Shape := ⟨2, ![256, 704]⟩

abbrev nBuf : Space → Nat
  | .hbm => 3
  | .vmem => 4
  | .smem => 0
  | _ => 0

abbrev bufTy : (tb : Table) → Fin (tcTables nBuf tb) → BufTy
  | .hbm, ⟨0, _⟩ => ⟨S1x8x704x2048, .bf16⟩
  | .hbm, ⟨1, _⟩ => ⟨S4x2048x704, .f32⟩
  | .hbm, ⟨2, _⟩ => ⟨S4x2048x704, .f32⟩
  | .local _ .vmem, ⟨0, _⟩ => ⟨S1x8x704x256, .bf16⟩
  | .local _ .vmem, ⟨1, _⟩ => ⟨S1x8x704x256, .bf16⟩
  | .local _ .vmem, ⟨2, _⟩ => ⟨S1x256x704, .f32⟩
  | .local _ .vmem, ⟨3, _⟩ => ⟨S1x256x704, .f32⟩
  | _, _ => ⟨S1x8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x8x704x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumIntoRefIdeal.lean ====
abbrev S1x8x704x2048 : Shape := ⟨4, ![1, 8, 704, 2048]⟩
abbrev S4x2048x704 : Shape := ⟨3, ![4, 2048, 704]⟩
abbrev S1x2048x704 : Shape := ⟨3, ![1, 2048, 704]⟩
abbrev S_ : Shape := ⟨0, ![]⟩
abbrev S1x704x2048 : Shape := ⟨3, ![1, 704, 2048]⟩
abbrev S2x2048x704 : Shape := ⟨3, ![2, 2048, 704]⟩

abbrev nBuf : Space → Nat
  | .hbm => 9
  | .vmem => 0
  | .smem => 0
  | _ => 0

abbrev bufTy : (tb : Table) → Fin (tcTables nBuf tb) → BufTy
  | .hbm, ⟨0, _⟩ => ⟨S1x8x704x2048, .bf16⟩
  | .hbm, ⟨1, _⟩ => ⟨S4x2048x704, .f32⟩
  | .hbm, ⟨2, _⟩ => ⟨S1x2048x704, .f32⟩
  | .hbm, ⟨3, _⟩ => ⟨S1x8x704x2048, .f32⟩
  | .hbm, ⟨4, _⟩ => ⟨S_, .f32⟩
  | .hbm, ⟨5, _⟩ => ⟨S1x704x2048, .f32⟩
  | .hbm, ⟨6, _⟩ => ⟨S1x2048x704, .f32⟩
  | .hbm, ⟨7, _⟩ => ⟨S2x2048x704, .f32⟩
  | .hbm, ⟨8, _⟩ => ⟨S4x2048x704, .f32⟩
  | _, _ => ⟨S1x8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Reals.lean ====
/-
  Extended reals that are real numbers. Over the extended reals a program's operations are total, and sums and products
  of infinities make identities of algebra false; the claims here are about finite arguments, so every value met is the
  image of a real number. This file moves each operation through the inclusion of ℝ, reads the constants the programs
  carry, and turns a statement `|x| < ∞` of a precondition into "x is a real number".
-/
module

public import Idealize.ShloMosaic.Lib.Pointwise
public import Idealize.ShloMosaic.Lib.IdealHost

@[expose] public section

noncomputable section

namespace Cert.Reals

open Idealize.ShloMosaic

theorem add (a b : ℝ) : (a : EReal) + b = ((a + b : ℝ) : EReal) := (EReal.coe_add a b).symm
theorem sub (a b : ℝ) : (a : EReal) - b = ((a - b : ℝ) : EReal) := (EReal.coe_sub a b).symm
theorem mul (a b : ℝ) : (a : EReal) * b = ((a * b : ℝ) : EReal) := (EReal.coe_mul a b).symm
theorem neg (a : ℝ) : -(a : EReal) = ((-a : ℝ) : EReal) := (EReal.coe_neg a).symm

/-- A finite sum of real numbers. -/
theorem sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, add]

/-- A quotient by a real number that is not zero. -/
theorem div {a b : ℝ} (h : b ≠ 0) : Ideal.div (a : EReal) (b : EReal) = ((a / b : ℝ) : EReal) := by
  rw [Ideal.div_coe h, mul, mul_one_div]

/-- The inverse square root of a positive real number. -/
theorem rsqrt {a : ℝ} (h : 0 < a) : Ideal.rsqrt (a : EReal) = (((Real.sqrt a)⁻¹ : ℝ) : EReal) := by
  rw [Ideal.rsqrt_coe, if_neg (not_lt.mpr h.le), if_neg h.ne']

/-- An extended real that is not infinite is the image of its real part. -/
theorem eq_coe {x : EReal} (h : x ≠ ⊤ ∧ x ≠ ⊥) : x = ((x.toReal : ℝ) : EReal) := (EReal.coe_toReal h.1 h.2).symm

/-- The pattern of `+∞`. -/
theorem ofBits_inf : Ideal.ofBits .f32 0x7F800000#32 = ⊤ := by
  simp [Ideal.ofBits, Ideal.ieee]

/-- A comparison `|x| < ∞` that came out true says that `x` is not infinite. -/
theorem finite_of_lt {x : EReal} (h : Ideal.cmp .olt (max x (-x)) (Ideal.ofBits .f32 0x7F800000#32) = 1#1) :
    x ≠ ⊤ ∧ x ≠ ⊥ := by
  rw [ofBits_inf] at h
  have h' : max x (-x) < ⊤ := by
    by_contra hn
    simp [Ideal.cmp, hn] at h
  constructor
  · rintro rfl; simp at h'
  · rintro rfl; simp at h'

theorem lit_2048 : Ideal.ofBits .f32 0x45000000#32 = ((2048 : ℝ) : EReal) := by
  simp [Ideal.ofBits, Ideal.ieee, -EReal.coe_mul]; norm_num
theorem lit_inv2048 : Ideal.ofBits .f32 0x3A000000#32 = ((1 / 2048 : ℝ) : EReal) := by
  simp [Ideal.ofBits, Ideal.ieee, -EReal.coe_mul]; norm_num
theorem lit_inv4096 : Ideal.ofBits .f32 0x39800000#32 = ((1 / 4096 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_one : Ideal.ofBits .f32 0x3F800000#32 = ((1 : ℝ) : EReal) := by
  rw [Ideal.ofBits_one_f32]; rfl
theorem lit_neg_one : Ideal.ofBits .f32 0xBF800000#32 = ((-1 : ℝ) : EReal) := by
  simp [Ideal.ofBits, Ideal.ieee, -EReal.coe_mul]; try norm_num
theorem lit_zero : Ideal.ofBits .f32 0x00000000#32 = ((0 : ℝ) : EReal) := by
  rw [Ideal.ofBits_zero_f32]; rfl

/-- The constant under the root of the norms, `1e-6` as its pattern reads. -/
def eps : ℝ := 8796093 * 2⁻¹ ^ 43

theorem eps_pos : 0 < eps := by unfold eps; positivity

theorem lit_eps : Ideal.ofBits .f32 0x358637BD#32 = (eps : EReal) := by
  unfold eps
  simp [Ideal.ofBits, Ideal.ieee, -EReal.coe_mul]

theorem congr {a b : ℝ} (h : a = b) : (a : EReal) = (b : EReal) := congrArg _ h

/-- A sum over `N` blocks of `n` rows is the sum over all rows. -/
theorem sum_rows {N n L : ℕ} (hL : L = N * n) (row : Fin N → Fin n → Fin L)
    (h : ∀ t k, (row t k).val = n * t.val + k.val) (g : Fin L → ℝ) : ∑ t, ∑ k, g (row t k) = ∑ l, g l := by
  subst hL
  rw [← Fintype.sum_prod_type']
  refine Fintype.sum_equiv finProdFinEquiv _ _ fun q => congrArg g (Fin.ext ?_)
  rw [h, finProdFinEquiv_apply_val, Nat.add_comm]

end Cert.Reals

end
-- ==== Proof.Norm.lean ====
/-
  The root-mean-square norm of a row of real numbers and the two ways its gradient is written: by the kernels in one
  pass, and by the chain rule through the inverse square root.
-/
module

public import proofs.«01_k».proof.Proof.Reals

@[expose] public section

noncomputable section

namespace Cert.Norm

variable {n : ℕ}

/-- The mean square of a row plus the constant under the root; `N` is the row's length as a real number. -/
def ms (N : ℝ) (x : Fin n → ℝ) : ℝ := (∑ d, x d * x d) / N + Reals.eps

theorem ms_pos {N : ℝ} (hN : 0 < N) (x : Fin n → ℝ) : 0 < ms N x :=
  add_pos_of_nonneg_of_pos (div_nonneg (Finset.sum_nonneg fun d _ => mul_self_nonneg (x d)) hN.le) Reals.eps_pos

/-- The factor the norm multiplies a row by. -/
def r (N : ℝ) (x : Fin n → ℝ) : ℝ := (Real.sqrt (ms N x))⁻¹

theorem r_sq {N : ℝ} (hN : 0 < N) (x : Fin n → ℝ) : r N x * r N x = (ms N x)⁻¹ := by
  unfold r; rw [← mul_inv, Real.mul_self_sqrt (ms_pos hN x).le]

theorem r_div {N : ℝ} (hN : 0 < N) (x : Fin n → ℝ) : r N x / ms N x = r N x * r N x * r N x := by
  rw [r_sq hN, div_eq_mul_inv, mul_comm]

/-- The gradient of a row's norm at the cotangent `w` (already times the gain), as the kernels write it. -/
def dx (N : ℝ) (x w : Fin n → ℝ) (d : Fin n) : ℝ :=
  r N x * w d - x d * (r N x * r N x * r N x) * ((∑ k, w k * x k) / N)

/-- The chain rule's form: the direct term, then the two equal terms of the square's two factors. -/
theorem dx_eq {N : ℝ} (hN : 0 < N) (x w : Fin n → ℝ) (d : Fin n) :
    w d * r N x + x d * ((∑ k, x k * w k) * (-(1 / 2) * (r N x / ms N x)) / N)
      + ((∑ k, x k * w k) * (-(1 / 2) * (r N x / ms N x)) / N) * x d = dx N x w d := by
  unfold dx
  rw [r_div hN, Finset.sum_congr rfl fun k _ => mul_comm (x k) (w k)]
  ring

end Cert.Norm

end
-- ==== Proof.LossKernel.lean ====
/-
  What the kernel of the loss and the last norm's gradient leaves in its four results, as real numbers, when its
  arguments are real numbers: at each of the 16 grid points the body works on 512 rows; the two row results are written
  block by block, the loss and the gain's gradient are sums over the points.
-/
module

public import proofs.«01_k».proof.Proof.Norm
public import proofs.«01_k».proof.Proof.Gen.LossIdeal.Value
public import Idealize.ShloMosaic.Lib.Pipeline.ValueKit

@[expose] public section

set_option maxRecDepth 16384

noncomputable section

namespace Cert.LossIdeal.Value

open Cert.LossIdeal Cert.LossIdeal.Gen Idealize.ShloMosaic Idealize.ShloMosaic.TcCoe Idealize.SL.Sem
open Idealize.ShloMosaic.Pipeline (Dat)

/-- The error of a row `x` under the gain `g` against the target `y`. -/
def err (x g y : Fin 2048 → ℝ) (d : Fin 2048) : ℝ := x d * Norm.r 2048 x * g d - y d

/-- The cotangent of the row's norm. -/
def cot (x g y : Fin 2048 → ℝ) (d : Fin 2048) : ℝ := err x g y d * (1 / 2048)

theorem eq_row0 {n : ℕ} (j : (⟨2, ![1, n]⟩ : Shape).Idx) : j = ix2 0 (j 1) :=
  (eq_ix2 j).trans (congrArg (fun a => ix2 a (j 1)) (Subsingleton.elim (α := Fin 1) (j 0) 0))

section Body

variable {x t : Vec Ideal S512x2048 .f32} {g : Vec Ideal S1x2048 .f32}
  {X Y : Fin 512 → Fin 2048 → ℝ} {W : Fin 2048 → ℝ}
  (hx : ∀ p d, x (ix2 p d) = (X p d : EReal)) (ht : ∀ p d, t (ix2 p d) = (Y p d : EReal))
  (hg : ∀ d, g (ix2 0 d) = (W d : EReal))

include hx in
theorem pay_r (p : Fin 512) : k0_pay11 x (ix2 p 0) = ((Norm.r 2048 (X p) : ℝ) : EReal) := by
  pointwise [k0_pay11]
  simp only [hx, Reals.mul, Reals.sum, Reals.lit_2048, Reals.lit_eps, Reals.div (b := 2048) (by norm_num), Reals.add]
  exact Reals.rsqrt (Norm.ms_pos (by norm_num) (X p))

include hx ht hg in
theorem pay_err (p : Fin 512) (d : Fin 2048) : k0_pay8 x g t (ix2 p d) = ((err (X p) W (Y p) d : ℝ) : EReal) := by
  have h : Ideal.rsqrt ((((∑ k, X p k * X p k) / 2048 + Reals.eps : ℝ)) : EReal) = ((Norm.r 2048 (X p) : ℝ) : EReal) :=
    Reals.rsqrt (Norm.ms_pos (by norm_num) (X p))
  pointwise [k0_pay8, k0_pay7]
  simp only [hx, ht, hg, Reals.mul, Reals.sum, Reals.lit_2048, Reals.lit_eps, Reals.div (b := 2048) (by norm_num),
    Reals.add, h, Reals.sub, err]

include hx ht hg in
theorem pay_w (p : Fin 512) (d : Fin 2048) :
    k0_pay12 x g t (ix2 p d) = ((cot (X p) W (Y p) d * W d : ℝ) : EReal) := by
  pointwise [k0_pay12, k0_pay10, k0_pay7]
  simp only [pay_err hx ht hg, hg, Reals.lit_inv2048, Reals.mul, cot]

include hx ht hg in
/-- The row result of the body. -/
theorem pay_dx (p : Fin 512) (d : Fin 2048) :
    k0_pay1 (k0_pay13 x g t) (k0_pay14 x) (k0_pay15 x g t) (ix2 p d)
      = ((Norm.dx 2048 (X p) (fun k => cot (X p) W (Y p) k * W k) d : ℝ) : EReal) := by
  pointwise [k0_pay1, k0_pay13, k0_pay14, k0_pay15]
  simp only [pay_w hx ht hg, pay_r hx, hx, Reals.lit_2048, Reals.mul, Reals.sum, Reals.div (b := 2048) (by norm_num),
    Reals.sub, Norm.dx]

include hx ht hg in
/-- The point's share of the gain's gradient. -/
theorem pay_dg (d : Fin 2048) :
    k0_pay2 x (k0_pay10 x g t) (k0_pay11 x) (ix2 0 d)
      = ((∑ p, cot (X p) W (Y p) d * (X p d * Norm.r 2048 (X p)) : ℝ) : EReal) := by
  pointwise [k0_pay2, k0_pay10]
  simp only [pay_err hx ht hg, pay_r hx, hx, Reals.lit_inv2048, Reals.mul, Reals.sum, cot]

include hx ht hg in
/-- The point's share of the loss. -/
theorem pay_part : k0_pay9 x g t (ix2 0 0)
      = (((∑ p, ∑ d, err (X p) W (Y p) d * err (X p) W (Y p) d) * (1 / 4096) : ℝ) : EReal) := by
  pointwise [k0_pay9]
  simp only [pay_err hx ht hg, Reals.lit_inv4096, Reals.mul, Reals.sum]

end Body

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem out4 (c : Dev nD) (t : Fin cfg0.N) : (outsAt0 m c t.val t.isLt).2.1
    = k0_pay1 (k0_pay13 (iblk m c 0 t) (iblk m c 1 t) (iblk m c 2 t)) (k0_pay14 (iblk m c 0 t)) (k0_pay15 (iblk m c 0 t) (iblk m c 1 t) (iblk m c 2 t)) := by
  have hN : cfg0.N = 16 := N_0
  by_cases h : 1 ≤ t.val
  · rw [outsAt0_B m c t (by have := t.isLt; omega) h]; frame_out
  · rw [outsAt0_A m c t (by omega) h]; frame_out

theorem out5 (c : Dev nD) (t : Fin cfg0.N) : (outsAt0 m c t.val t.isLt).2.2.1
    = k0_pay3 (k0_pay13 (iblk m c 0 t) (iblk m c 1 t) (iblk m c 2 t)) (k0_pay14 (iblk m c 0 t)) (k0_pay15 (iblk m c 0 t) (iblk m c 1 t) (iblk m c 2 t)) := by
  have hN : cfg0.N = 16 := N_0
  by_cases h : 1 ≤ t.val
  · rw [outsAt0_B m c t (by have := t.isLt; omega) h]; frame_out
  · rw [outsAt0_A m c t (by omega) h]; frame_out

section Arrays

variable (c : Dev nD) {X Y : Fin 8192 → Fin 2048 → ℝ} {W : Fin 2048 → ℝ}
  (hx : ∀ p d, (m ((c : Thread nD τ).loc main_arg0) : FVec Ideal S8192x2048 .f32) (ix2 p d) = (X p d : EReal))
  (ht : ∀ p d, (m ((c : Thread nD τ).loc main_arg2) : FVec Ideal S8192x2048 .f32) (ix2 p d) = (Y p d : EReal))
  (hg : ∀ d, (m ((c : Thread nD τ).loc main_arg1) : FVec Ideal S2048 .f32) (ix1 d) = (W d : EReal))

/-- The array's row that row `p` of point `t`'s block is. -/
abbrev row (t : Fin cfg0.N) (p : Fin 512) : Fin 8192 :=
  ⟨512 * t.val + p.val, by have := t.isLt; have hN : cfg0.N = 16 := N_0; omega⟩

include hx in
theorem blk_x (t : Fin cfg0.N) (p : Fin 512) (d : Fin 2048) :
    (iblk m c 0 t : Vec Ideal S512x2048 .f32) (ix2 p d) = (X (row t p) d : EReal) := by
  rw [← hx]
  blk_ext [iblk, V, idx t]

include ht in
theorem blk_t (t : Fin cfg0.N) (p : Fin 512) (d : Fin 2048) :
    (iblk m c 2 t : Vec Ideal S512x2048 .f32) (ix2 p d) = (Y (row t p) d : EReal) := by
  rw [← ht]
  blk_ext [iblk, V, idx t]

include hg in
theorem blk_g (t : Fin cfg0.N) (d : Fin 2048) :
    (iblk m c 1 t : Vec Ideal S1x2048 .f32) (ix2 0 d) = (W d : EReal) := by
  rw [← hg]
  blk_ext! [iblk, V, idx t]

/-- The row results: the gradient of each row's norm. -/
def dxs (X Y : Fin 8192 → Fin 2048 → ℝ) (W : Fin 2048 → ℝ) (p : Fin 8192) (d : Fin 2048) : ℝ :=
  Norm.dx 2048 (X p) (fun k => cot (X p) W (Y p) k * W k) d

include hx ht hg in
theorem final4 : (dats m 0 c).arrAt 4 (cfgs 0).N = fun i : S8192x2048.Idx => ((dxs X Y W (i 0) (i 1) : ℝ) : EReal) := by
  refine (dats m 0 c).arrAt_eq_of_covers 4 _ (by decide +kernel) fun t _ y => ?_
  blk_simp
  rw [after0_4, out4]
  refine (congrArg _ (eq_ix2 y)).trans ((pay_dx (blk_x m c hx t) (blk_t m c ht t) (blk_g m c hg t) (y 0) (y 1)).trans ?_)
  have h0 : (win0_4.blk t).view.emb y 0 = row t (y 0) := Fin.ext (by blk_simp [idx t]; show _ = 512 * t.val + _; omega)
  have h1 : (win0_4.blk t).view.emb y 1 = y 1 := Fin.ext (by blk_simp [idx t])
  rw [h0, h1]; rfl

include hx ht hg in
theorem final5 : (dats m 0 c).arrAt 5 (cfgs 0).N = fun i : S8192x2048.Idx => ((dxs X Y W (i 0) (i 1) : ℝ) : EReal) := by
  refine (dats m 0 c).arrAt_eq_of_covers 5 _ (by decide +kernel) fun t _ y => ?_
  blk_simp
  rw [after0_5, out5]
  refine (congrArg _ (eq_ix2 y)).trans ((pay_dx (blk_x m c hx t) (blk_t m c ht t) (blk_g m c hg t) (y 0) (y 1)).trans ?_)
  have h0 : (win0_5.blk t).view.emb y 0 = row t (y 0) := Fin.ext (by blk_simp [idx t]; show _ = 512 * t.val + _; omega)
  have h1 : (win0_5.blk t).view.emb y 1 = y 1 := Fin.ext (by blk_simp [idx t])
  rw [h0, h1]; rfl

include hx ht hg in
theorem out6 (d : Fin 2048) : (outsAt0 m c t0_15.val t0_15.isLt).2.2.2 (ix2 0 d)
    = ((∑ p, cot (X p) W (Y p) d * (X p d * Norm.r 2048 (X p)) : ℝ) : EReal) := by
  have hN : cfg0.N = 16 := N_0
  have key := Pipeline.eq_sum_fin_of_reset_step_apply_last (N := cfg0.N) (M := EReal)
    (fun n h d => (outsAt0 m c n h).2.2.2 (ix2 0 d)) 16 0
    (fun t d => ((∑ p, cot (X (row t p)) W (Y (row t p)) d * (X (row t p) d * Norm.r 2048 (X (row t p))) : ℝ) : EReal))
    (fun t h d => by
      have h' : ¬1 ≤ t.val := by have := t.isLt; omega
      rw [outsAt0_A m c t h h', ← pay_dg (blk_x m c hx t) (blk_t m c ht t) (blk_g m c hg t) d, Pi.zero_apply, zero_add]
      frame_out)
    (fun t h d => by
      have h' : 1 ≤ t.val := by omega
      rw [outsAt0_B m c t h h', ← pay_dg (blk_x m c hx t) (blk_t m c ht t) (blk_g m c hg t) d]
      frame_out
      pointwise [k0_pay6])
    hN.le t0_15 hN.symm d
  refine key.trans ?_
  rw [Pi.zero_apply, zero_add, Reals.sum,
    Reals.sum_rows (n := 512) (by rw [hN]) row (fun _ _ => rfl) fun p => cot (X p) W (Y p) d * (X p d * Norm.r 2048 (X p))]

include hx ht hg in
theorem out3 (d : Fin 128) : (outsAt0 m c t0_15.val t0_15.isLt).1 (ix2 0 d)
    = (((∑ p, ∑ d, err (X p) W (Y p) d * err (X p) W (Y p) d) * (1 / 4096) : ℝ) : EReal) := by
  have hN : cfg0.N = 16 := N_0
  have key := Pipeline.eq_sum_fin_of_reset_step_apply_last (N := cfg0.N) (M := EReal)
    (fun n h (d : Fin 128) => (outsAt0 m c n h).1 (ix2 0 d)) 16 0
    (fun t d => (((∑ p, ∑ d, err (X (row t p)) W (Y (row t p)) d * err (X (row t p)) W (Y (row t p)) d) * (1 / 4096) : ℝ) : EReal))
    (fun t h d => by
      have h' : ¬1 ≤ t.val := by have := t.isLt; omega
      rw [outsAt0_A m c t h h', ← pay_part (blk_x m c hx t) (blk_t m c ht t) (blk_g m c hg t), Pi.zero_apply, zero_add]
      frame_out
      pointwise [k0_pay4])
    (fun t h d => by
      have h' : 1 ≤ t.val := by omega
      rw [outsAt0_B m c t h h', ← pay_part (blk_x m c hx t) (blk_t m c ht t) (blk_g m c hg t)]
      frame_out
      pointwise [k0_pay5])
    hN.le t0_15 hN.symm d
  refine key.trans ?_
  rw [Pi.zero_apply, zero_add, Reals.sum, ← Finset.sum_mul,
    Reals.sum_rows (n := 512) (by rw [hN]) row (fun _ _ => rfl) fun p => ∑ d, err (X p) W (Y p) d * err (X p) W (Y p) d]

include hx ht hg in
theorem final3 : (dats m 0 c).arrAt 3 (cfgs 0).N
    = fun _ : S1x128.Idx => (((∑ p, ∑ d, err (X p) W (Y p) d * err (X p) W (Y p) d) * (1 / 4096) : ℝ) : EReal) := by
  refine (dats m 0 c).arrAt_eq_of_after_last 3 t0_15 (by decide +kernel) _ fun j => ?_
  blk_simp
  rw [after0_3]
  obtain ⟨d, rfl⟩ : ∃ d, j = ix2 0 d := ⟨j 1, eq_row0 j⟩
  exact out3 m c hx ht hg d

include hx ht hg in
theorem final6 : (dats m 0 c).arrAt 6 (cfgs 0).N
    = fun i : S1x2048.Idx => ((∑ p, cot (X p) W (Y p) (i 1) * (X p (i 1) * Norm.r 2048 (X p)) : ℝ) : EReal) := by
  refine (dats m 0 c).arrAt_eq_of_after_last 6 t0_15 (by decide +kernel) _ fun j => ?_
  blk_simp
  rw [after0_6]
  obtain ⟨d, rfl⟩ : ∃ d, j = ix2 0 d := ⟨j 1, eq_row0 j⟩
  exact out6 m c hx ht hg d

end Arrays

end Cert.LossIdeal.Value

end
-- ==== Proof.LossRef.lean ====
/-
  The loss of `reference.py`'s last lines and its gradients, as real numbers, when the arguments are real numbers.
-/
module

public import proofs.«01_k».proof.Proof.LossKernel
public import proofs.«01_k».proof.Proof.Gen.LossRefIdeal.Run
public import proofs.«01_k».proof.Proof.Gen.LossRefIdeal.Read
public import Idealize.ShloMosaic.Lib.Pointwise

@[expose] public section

set_option maxRecDepth 16384

noncomputable section

namespace Cert.LossRefIdeal.Read

open Cert.LossRefIdeal Cert.LossRefIdeal.Gen Idealize.ShloMosaic
open Cert.LossIdeal.Value (err cot dxs)

variable {x t : (⟨S8192x2048, .f32⟩ : BufTy).Contents (Elt Ideal)} {g : (⟨S2048, .f32⟩ : BufTy).Contents (Elt Ideal)}
  {X Y : Fin 8192 → Fin 2048 → ℝ} {W : Fin 2048 → ℝ}
  (hx : ∀ p d, x (ix2 p d) = (X p d : EReal)) (ht : ∀ p d, t (ix2 p d) = (Y p d : EReal))
  (hg : ∀ d, g (ix1 d) = (W d : EReal))

include hx in
theorem v6 (p : Fin 8192) : val_main_v6 (F := Ideal) x (ix2 p 0) = ((Norm.ms 2048 (X p) : ℝ) : EReal) := by
  pointwise [val_main_v6, val_main_v5, val_main_v4, val_main_v3, val_main_v2, val_main_v1, val_main_v0, val_main_cst,
    val_main_cst_0, val_main_cst_1]
  simp only [hx, Reals.mul, Reals.sum, Reals.lit_2048, Reals.lit_eps, Reals.div (b := 2048) (by norm_num), Reals.add, Norm.ms]

include hx in
theorem v7 (p : Fin 8192) : val_main_v7 (F := Ideal) x (ix2 p 0) = ((Norm.r 2048 (X p) : ℝ) : EReal) := by
  pointwise [val_main_v7]
  rw [v6 hx]
  exact Reals.rsqrt (Norm.ms_pos (by norm_num) (X p))

include hx in
theorem v10 (p : Fin 8192) :
    val_main_v10 (F := Ideal) x (ix2 p 0) = ((-(1 / 2) * (Norm.r 2048 (X p) / Norm.ms 2048 (X p)) : ℝ) : EReal) := by
  pointwise [val_main_v10, val_main_v9, val_main_v8, val_main_cst_2]
  rw [v7 hx, v6 hx, Reals.div (Norm.ms_pos (by norm_num) _).ne', Reals.lit_neg_half, Reals.mul]

include hx ht hg in
theorem v16 (p : Fin 8192) (d : Fin 2048) :
    val_main_v16 (F := Ideal) x g t (ix2 p d) = ((err (X p) W (Y p) d : ℝ) : EReal) := by
  pointwise [val_main_v16, val_main_v15, val_main_v14, val_main_v13, val_main_v12, val_main_v11]
  simp only [v7 hx, hx, ht, hg, Reals.mul, Reals.sub, err]

include hx ht hg in
theorem v30 (p : Fin 8192) (d : Fin 2048) :
    val_main_v30 (F := Ideal) x g t (ix2 p d) = ((cot (X p) W (Y p) d : ℝ) : EReal) := by
  pointwise [val_main_v30, val_main_v29, val_main_v28, val_main_v27, val_main_v26, val_main_v25, val_main_v19,
    val_main_v18, val_main_cst_3, val_main_cst_8, val_main_cst_9, val_main_cst_10]
  rw [v16 hx ht hg]
  simp only [Reals.lit_half, Reals.lit_one, Reals.lit_two, Reals.lit_2048, Reals.mul, Reals.div (b := 2048) (by norm_num)]
  refine Reals.congr ?_
  unfold cot
  ring

include hx ht hg in
theorem v35 (p : Fin 8192) (d : Fin 2048) :
    val_main_v35 (F := Ideal) x g t (ix2 p d) = ((cot (X p) W (Y p) d * W d : ℝ) : EReal) := by
  pointwise [val_main_v35, val_main_v34, val_main_v13]
  rw [v30 hx ht hg, hg, Reals.mul]

include hx ht hg in
theorem v46 (p : Fin 8192) (d : Fin 2048) : val_main_v46 (F := Ideal) x g t (ix2 p d)
    = (((∑ k, X p k * (cot (X p) W (Y p) k * W k)) * (-(1 / 2) * (Norm.r 2048 (X p) / Norm.ms 2048 (X p))) / 2048 : ℝ) : EReal) := by
  pointwise [val_main_v46, val_main_v45, val_main_v44, val_main_v43, val_main_v42, val_main_v39, val_main_v38,
    val_main_v37, val_main_cst_13, val_main_cst_14, val_main_cst_15]
  simp only [Fin.sum_univ_one, Fin.isValue, v10 hx, v35 hx ht hg, hx, Reals.mul, Reals.sum, Reals.lit_2048, Reals.div (b := 2048) (by norm_num)]

include hx ht hg in
/-- The gradient of the rows. -/
theorem v50 (p : Fin 8192) (d : Fin 2048) :
    val_main_v50 (F := Ideal) x g t (ix2 p d) = ((dxs X Y W p d : ℝ) : EReal) := by
  pointwise [val_main_v50, val_main_v49, val_main_v48, val_main_v47, val_main_v41, val_main_v40]
  simp only [v46 hx ht hg, v35 hx ht hg, v7 hx, hx, Reals.mul, Reals.add]
  exact Reals.congr (Norm.dx_eq (by norm_num) (X p) (fun k => cot (X p) W (Y p) k * W k) d)

include hx ht hg in
/-- The gradient of the gain. -/
theorem v53 (d : Fin 2048) : val_main_v53 (F := Ideal) x g t (ix2 0 d)
    = ((∑ p, cot (X p) W (Y p) d * (X p d * Norm.r 2048 (X p)) : ℝ) : EReal) := by
  pointwise [val_main_v53, val_main_v36, val_main_v33, val_main_v32, val_main_v31, val_main_v12, val_main_v11,
    val_main_cst_11, val_main_cst_12]
  simp only [Fin.sum_univ_one, v30 hx ht hg, v7 hx, hx, Reals.mul, Reals.sum]
  refine Reals.congr (Finset.sum_congr rfl fun p _ => ?_)
  ring

include hx ht hg in
/-- The loss. -/
theorem v51 (d : Fin 128) : val_main_v51 (F := Ideal) x g t (ix2 0 d)
    = (((∑ p, ∑ d, err (X p) W (Y p) d * err (X p) W (Y p) d) * (1 / 4096) : ℝ) : EReal) := by
  pointwise [val_main_v51, val_main_v24, val_main_v23, val_main_v22, val_main_v21, val_main_v20, val_main_v17,
    val_main_cst_4, val_main_cst_5, val_main_cst_6, val_main_cst_7]
  simp only [v16 hx ht hg, Reals.mul, Reals.sum, Reals.lit_half, Reals.lit_2048, Reals.div (b := 2048) (by norm_num)]
  refine Reals.congr ?_
  rw [← Finset.sum_div]
  ring

end Cert.LossRefIdeal.Read

end
-- ==== Proof.LossClaim.lean ====
/-
  The loss kernel and the loss of `reference.py` with its gradients leave the same four results, where the arguments
  are finite.
-/
module

public import proofs.«01_k».proof.Defs
public import proofs.«01_k».proof.Proof.LossRef
public import proofs.«01_k».proof.Proof.Gen.Pre_loss_finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- An array whose absolute value is below infinity everywhere is a real number everywhere. -/
theorem loss_real {x y : FVec Ideal ⟨2, ![8192, 2048]⟩ .f32} {g : FVec Ideal ⟨1, ![2048]⟩ .f32}
    (h : (Pre_loss_finite.fn (F := Ideal) x g y).1 = (fun _ => 1#1) ∧ (Pre_loss_finite.fn (F := Ideal) x g y).2.1 = (fun _ => 1#1)
      ∧ (Pre_loss_finite.fn (F := Ideal) x g y).2.2 = (fun _ => 1#1)) :
    (∀ p d, x (ix2 p d) = ((x (ix2 p d)).toReal : EReal)) ∧ (∀ d, g (ix1 d) = ((g (ix1 d)).toReal : EReal))
      ∧ (∀ p d, y (ix2 p d) = ((y (ix2 p d)).toReal : EReal)) := by
  obtain ⟨h0, h1, h2⟩ := h
  refine ⟨fun p d => Reals.eq_coe (Reals.finite_of_lt ?_), fun d => Reals.eq_coe (Reals.finite_of_lt ?_),
    fun p d => Reals.eq_coe (Reals.finite_of_lt ?_)⟩
  · exact congrFun h0 (ix2 p d)
  · exact congrFun h1 (ix1 d)
  · exact congrFun h2 (ix2 p d)

theorem loss_algebraic : algebraic_LossIdeal_LossRefIdeal_pre_loss_finite := by
  intro m g m' g' hpre hargs
  refine ⟨_, _, _, _, LossIdeal.Value.run_blocks m g, (θ_run _ _ _).mono (fun r h c => ?_) (LossRefIdeal.Value.run m' g')⟩
  obtain ⟨h0, h1, h2, h3, ha⟩ := h c
  obtain ⟨hx, hg, ht⟩ := loss_real (hpre c)
  obtain ⟨e0, e1, e2⟩ := hargs c
  refine ⟨h0.trans ?_, h1.trans ?_, h2.trans ?_, h3.trans ?_, ha⟩
  · rw [LossRefIdeal.Read.val_main_v51_eq, e0, e1, e2]
    refine Eq.trans (funext fun i => ?_) (LossIdeal.Value.final3 m c hx ht hg).symm
    rw [LossIdeal.Value.eq_row0 i]
    exact LossRefIdeal.Read.v51 hx ht hg (i 1)
  · rw [LossRefIdeal.Read.val_main_v50_eq, e0, e1, e2]
    refine Eq.trans (funext fun i => ?_) (LossIdeal.Value.final4 m c hx ht hg).symm
    rw [eq_ix2 i]
    exact LossRefIdeal.Read.v50 hx ht hg (i 0) (i 1)
  · rw [LossRefIdeal.Read.val_main_v52_eq, e0, e1, e2]
    refine Eq.trans (funext fun i => ?_) (LossIdeal.Value.final5 m c hx ht hg).symm
    rw [eq_ix2 i]
    exact LossRefIdeal.Read.v50 hx ht hg (i 0) (i 1)
  · rw [LossRefIdeal.Read.val_main_v53_eq, e0, e1, e2]
    refine Eq.trans (funext fun i => ?_) (LossIdeal.Value.final6 m c hx ht hg).symm
    rw [LossIdeal.Value.eq_row0 i]
    exact LossRefIdeal.Read.v53 hx ht hg (i 1)

end Cert.Proof

end
-- ==== Proof.Gelu.lean ====
/-
  The exact GELU `x · ½ (1 + erf (x/√2))` on real numbers and its derivative `½ (1 + erf (x/√2)) + x exp (-x²/2)/√(2π)`,
  and the derivative as the product rule leaves it.
-/
module

public import proofs.«01_k».proof.Proof.Reals

@[expose] public section

noncomputable section

namespace Cert.Gelu

open Idealize.ShloMosaic

/-- The error function. -/
def erf (x : ℝ) : ℝ := 2 / Real.sqrt Real.pi * ∫ t in (0 : ℝ)..x, Real.exp (-(t ^ 2))

theorem erf_coe (x : ℝ) : Ideal.erf (x : EReal) = ((erf x : ℝ) : EReal) := rfl

theorem exp_coe (x : ℝ) : Ideal.exp (x : EReal) = ((Real.exp x : ℝ) : EReal) := rfl

theorem erf_neg (x : ℝ) : erf (-x) = -erf x := by
  have h := Ideal.erf_neg (x : EReal)
  rw [Reals.neg, erf_coe, erf_coe, Reals.neg] at h
  exact EReal.coe_injective h

theorem erfc_coe (x : ℝ) : Ideal.erfc (x : EReal) = ((1 - erf x : ℝ) : EReal) := by
  rw [Ideal.erfc, erf_coe, ← EReal.coe_one, Reals.sub]

/-- `1/√2`. -/
def c : ℝ := (Real.sqrt 2)⁻¹

theorem c_sq : c * c = 1 / 2 := by
  unfold c
  rw [← mul_inv, Real.mul_self_sqrt (by norm_num)]; norm_num

/-- GELU. -/
def gelu (x : ℝ) : ℝ := 1 / 2 * x * (1 + erf (x * c))

/-- Its derivative. -/
def dgelu (x : ℝ) : ℝ := 1 / 2 * (1 + erf (x * c)) + x * (Real.exp (-(1 / 2) * x * x) * (Real.sqrt (2 * Real.pi))⁻¹)

theorem c_pi : (Real.sqrt Real.pi)⁻¹ * c = (Real.sqrt (2 * Real.pi))⁻¹ := by
  unfold c
  rw [Real.sqrt_mul (by norm_num), mul_inv, mul_comm]

/-- The derivative as the product rule leaves it, at the cotangent `y`. -/
theorem dgelu_chain (x y : ℝ) : 1 / 2 * x * y * (2 * (Real.sqrt Real.pi)⁻¹ * Real.exp (-(x * c * (x * c)))) * c
    + 1 / 2 * (y * (1 + erf (x * c))) = y * dgelu x := by
  have e : -(x * c * (x * c)) = -(1 / 2) * x * x := by
    rw [show x * c * (x * c) = c * c * (x * x) by ring, c_sq]; ring
  unfold dgelu
  rw [e, ← c_pi]; ring

end Cert.Gelu

end
-- ==== Proof.Gate.lean ====
/-
  The spatial gating unit of one head on real numbers: over one window of 128 positions and 128 columns, the value half
  goes through GELU and a norm, is mixed over the positions by a 128 × 128 matrix, biased, and multiplied by the GELU of
  the other half. `U`, `V` are the two halves, `D` the cotangent, `g` the norm's gain, `w` the mixing matrix, `b` its bias.
-/
module

public import proofs.«01_k».proof.Proof.Norm
public import proofs.«01_k».proof.Proof.Gelu

@[expose] public section

noncomputable section

namespace Cert.Gate

open Cert.Gelu

variable (U V D : Fin 128 → Fin 128 → ℝ) (g : Fin 128 → ℝ) (w : Fin 128 → Fin 128 → ℝ) (b : Fin 128 → ℝ)

/-- The value half after GELU. -/
def val (p d : Fin 128) : ℝ := gelu (V p d)

/-- The normed value half. -/
def vn (p d : Fin 128) : ℝ := val V p d * Norm.r 128 (val V p) * g d

/-- The mixed value half with its bias. -/
def mix (p d : Fin 128) : ℝ := ∑ k, w p k * vn V g k d + b p

/-- The cotangent of the mixed half. -/
def dmix (p d : Fin 128) : ℝ := D p d * gelu (U p d)

/-- The gradient of the first half. -/
def du (p d : Fin 128) : ℝ := D p d * mix V g w b p d * dgelu (U p d)

/-- This window's part of the mixing matrix's gradient. -/
def dw (p k : Fin 128) : ℝ := ∑ d, dmix U D p d * vn V g k d

/-- This window's part of the bias's gradient. -/
def db (p : Fin 128) : ℝ := ∑ d, dmix U D p d

/-- The cotangent of the normed half. -/
def dvn (k d : Fin 128) : ℝ := ∑ p, w p k * dmix U D p d

/-- This window's part of the gain's gradient. -/
def dg (d : Fin 128) : ℝ := ∑ k, dvn U D w k d * (val V k d * Norm.r 128 (val V k))

/-- The gradient of the second half. -/
def dv (k d : Fin 128) : ℝ := Norm.dx 128 (val V k) (fun j => dvn U D w k j * g j) d * dgelu (V k d)

end Cert.Gate
-- ==== Proof.SgTile.lean ====
/-
  What the body of the spatial gating's backward kernel computes for one head: the operations of the printed body at one
  head's tiles, and their values on real numbers. All four heads run the same operations.
-/
module

public import proofs.«01_k».proof.Proof.Gate
public import proofs.«01_k».proof.Proof.Gen.SgIdeal.Value

@[expose] public section

set_option maxRecDepth 16384

noncomputable section

namespace Cert.SgIdeal.Value

open Cert.SgIdeal Cert.SgIdeal.Gen Idealize.ShloMosaic Idealize.ShloMosaic.TcCoe
open Cert.Gelu (gelu dgelu)

variable (u v da : Vec Ideal S128x128 .bf16) (g : Vec Ideal S1x128 .f32) (w wt : Vec Ideal S1x128x128 .bf16)
  (b acc : Vec Ideal S1x128x128 .f32) (accg : Vec Ideal S1x128 .f32)

/-- The gradient of the first half. -/
abbrev tDu : FVec Ideal S128x128 .bf16 := k0_pay12 (k0_pay4 u) (k0_pay6 da) (k0_pay10 v g w) b
/-- The mixing matrix's gradient, added to `acc`. -/
abbrev tDw : FVec Ideal S1x128x128 .f32 := k0_pay14 (k0_pay4 u) (k0_pay6 da) (k0_pay9 v g) acc
/-- The bias's gradient, added to `acc`. -/
abbrev tDb : FVec Ideal S1x128x128 .f32 := k0_pay15 (k0_pay11 (k0_pay4 u) (k0_pay6 da)) acc
/-- The gain's gradient, added to `accg`. -/
abbrev tDg : FVec Ideal S1x128 .f32 := k0_pay20 (k0_pay19 (k0_pay8 v) (k0_pay13 (k0_pay4 u) (k0_pay6 da)) wt) accg
/-- The gradient of the second half. -/
abbrev tDv : FVec Ideal S128x128 .bf16 :=
  k0_pay21 (k0_pay5 v) (k0_pay18 (k0_pay7 g) (k0_pay8 v) (k0_pay13 (k0_pay4 u) (k0_pay6 da)) wt)

theorem lit_128 : Ideal.ofBits .f32 0x43000000#32 = ((128 : ℝ) : EReal) := by
  simp [Ideal.ofBits, Ideal.ieee, -EReal.coe_mul]; norm_num

theorem named_c : (Named.named κ "inv_sqrt2" 0x3F3504F3#32 : Ideal .f32) = ((Gelu.c : ℝ) : EReal) := rfl
theorem named_e : (Named.named κ "inv_sqrt_2pi" 0x3ECC422A#32 : Ideal .f32) = (((Real.sqrt (2 * Real.pi))⁻¹ : ℝ) : EReal) := rfl

variable {u v da g w wt b acc accg} {U V D : Fin 128 → Fin 128 → ℝ} {G : Fin 128 → ℝ} {W : Fin 128 → Fin 128 → ℝ} {B : Fin 128 → ℝ}
  (hu : ∀ p d, u (ix2 p d) = (U p d : EReal)) (hv : ∀ p d, v (ix2 p d) = (V p d : EReal))
  (hd : ∀ p d, da (ix2 p d) = (D p d : EReal)) (hg : ∀ d, g (ix2 0 d) = (G d : EReal))
  (hw : ∀ p k, w (ix3 0 p k) = (W p k : EReal)) (hwt : ∀ p k, wt (ix3 0 k p) = (W p k : EReal))
  (hb : ∀ p d, b (ix3 0 p d) = (B p : EReal))

include hv in
theorem t_val (p d : Fin 128) : k0_pay8 v (ix2 p d) = ((Gate.val V p d : ℝ) : EReal) := by
  pointwise [k0_pay8, k0_pay5]
  simp only [hv, named_c, Reals.lit_half, Reals.lit_one, Reals.mul, Gelu.erf_coe, Reals.add]
  rfl

include hv in
theorem t_r (p : Fin 128) : k0_pay17 (k0_pay8 v) (ix2 p 0) = ((Norm.r 128 (Gate.val V p) : ℝ) : EReal) := by
  pointwise [k0_pay17]
  simp only [t_val hv, Reals.mul, Reals.sum, lit_128, Reals.lit_eps, Reals.div (b := 128) (by norm_num), Reals.add]
  exact Reals.rsqrt (Norm.ms_pos (by norm_num) (Gate.val V p))

include hv hg in
theorem t_vn (p d : Fin 128) : k0_pay9 v g (ix2 p d) = ((Gate.vn V G p d : ℝ) : EReal) := by
  have h : Ideal.rsqrt ((((∑ k, Gate.val V p k * Gate.val V p k) / 128 + Reals.eps : ℝ)) : EReal)
      = ((Norm.r 128 (Gate.val V p) : ℝ) : EReal) := Reals.rsqrt (Norm.ms_pos (by norm_num) (Gate.val V p))
  pointwise [k0_pay9, k0_pay7]
  simp only [t_val hv, hg, Reals.mul, Reals.sum, lit_128, Reals.lit_eps, Reals.div (b := 128) (by norm_num), Reals.add, h]
  rfl

include hu hd in
theorem t_dmix (p d : Fin 128) : k0_pay11 (k0_pay4 u) (k0_pay6 da) (ix2 p d) = ((Gate.dmix U D p d : ℝ) : EReal) := by
  pointwise [k0_pay11, k0_pay4, k0_pay6]
  simp only [hu, hd, named_c, Reals.lit_half, Reals.lit_one, Reals.mul, Gelu.erf_coe, Reals.add]
  rfl

include hu hv hd hg hw hb in
theorem t_du (p d : Fin 128) : tDu u v da g w b (ix2 p d) = ((Gate.du U V D G W B p d : ℝ) : EReal) := by
  pointwise [k0_pay12, k0_pay10, k0_pay4, k0_pay6]
  simp only [hu, hd, hb, hw, t_vn hv hg, named_c, named_e, Reals.lit_half, Reals.lit_neg_half, Reals.lit_one, Reals.mul, Reals.sum,
    Gelu.erf_coe, Gelu.exp_coe, Reals.add]
  rfl

include hu hv hd hg in
theorem t_dw (p k : Fin 128) : tDw u v da g acc (ix3 0 p k) = acc (ix3 0 p k) + ((Gate.dw U V D G p k : ℝ) : EReal) := by
  pointwise [k0_pay14, k0_pay13]
  simp only [t_dmix hu hd, t_vn hv hg, Reals.mul, Reals.sum]
  rfl

include hu hd in
theorem t_db (p k : Fin 128) : tDb u da acc (ix3 0 p k) = acc (ix3 0 p k) + ((Gate.db U D p : ℝ) : EReal) := by
  pointwise [k0_pay15]
  simp only [t_dmix hu hd, Reals.mul, Reals.sum]
  rfl

include hu hd hwt in
theorem t_dvn (k d : Fin 128) : k0_pay16 (k0_pay13 (k0_pay4 u) (k0_pay6 da)) wt (ix2 k d) = ((Gate.dvn U D W k d : ℝ) : EReal) := by
  pointwise [k0_pay16, k0_pay13]
  simp only [t_dmix hu hd, hwt, Reals.mul, Reals.sum]
  rfl

include hu hv hd hwt in
theorem t_dg (d : Fin 128) : tDg u v da wt accg (ix2 0 d) = accg (ix2 0 d) + ((Gate.dg U V D W d : ℝ) : EReal) := by
  pointwise [k0_pay20, k0_pay19]
  simp only [t_dvn hu hd hwt, t_val hv, t_r hv, Reals.mul, Reals.sum]
  rfl

include hu hv hd hg hwt in
theorem t_dv (p d : Fin 128) : tDv u v da g wt (ix2 p d) = ((Gate.dv U V D G W p d : ℝ) : EReal) := by
  pointwise [k0_pay21, k0_pay18, k0_pay5, k0_pay7]
  simp only [hv, hg, t_dvn hu hd hwt, t_val hv, t_r hv, named_c, named_e, lit_128, Reals.lit_half, Reals.lit_neg_half,
    Reals.lit_one, Reals.mul, Reals.sum, Reals.div (b := 128) (by norm_num), Gelu.erf_coe, Gelu.exp_coe, Reals.add, Reals.sub]
  rfl

end Cert.SgIdeal.Value
-- ==== Proof.SgKernel.lean ====
/-
  What the spatial gating's backward kernel leaves in its five results, as real numbers, when its arguments are real
  numbers: at each of the 64 grid points the body works on one window of 128 positions and its four heads; the two row
  results are written block by block, the gradients of the mixing matrices, their biases and the gain are sums over the
  windows.
-/
module

public import proofs.«01_k».proof.Proof.SgTile
public import Idealize.ShloMosaic.Lib.Pipeline.ValueKit
public import Idealize.ShloMosaic.Lib.Pipeline.ReadBack

@[expose] public section

set_option maxRecDepth 16384

noncomputable section

namespace Cert.SgIdeal.Value

open Cert.SgIdeal Cert.SgIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 1] ∧ win0_2.index t = ![t.val, 0]
    ∧ win0_3.index t = ![0, 0, 0] ∧ win0_4.index t = ![0, 0, 0] ∧ win0_5.index t = ![0, 0, 0] ∧ win0_6.index t = ![0, 0]
    ∧ win0_7.index t = ![t.val, 0] ∧ win0_8.index t = ![t.val, 0] ∧ win0_9.index t = ![0, 0, 0] ∧ win0_10.index t = ![0, 0, 0]
    ∧ win0_11.index t = ![0, 0] :=
  (by decide +kernel : ∀ t : Fin grid0.N, _)

section Arrays

variable (c : Dev nD) {Z : Fin 8192 → Fin 1536 → ℝ} {Y : Fin 8192 → Fin 2048 → ℝ} {G : Fin 512 → ℝ}
  {W : Fin 4 → Fin 128 → Fin 128 → ℝ} {B : Fin 4 → Fin 128 → ℝ}
  (hz : ∀ p d, (m ((c : Thread nD τ).loc main_arg0) : FVec Ideal S8192x1536 .bf16) (ix2 p d) = (Z p d : EReal))
  (hy : ∀ p d, (m ((c : Thread nD τ).loc main_arg1) : FVec Ideal S8192x2048 .bf16) (ix2 p d) = (Y p d : EReal))
  (hg : ∀ d, (m ((c : Thread nD τ).loc main_arg2) : FVec Ideal S512 .f32) (ix1 d) = (G d : EReal))
  (hw : ∀ h p k, (m ((c : Thread nD τ).loc main_arg3) : FVec Ideal S4x128x128 .f32) (ix3 h p k) = (W h p k : EReal))
  (hb : ∀ h p, (m ((c : Thread nD τ).loc main_arg4) : FVec Ideal S4x128 .f32) (ix2 h p) = (B h p : EReal))

/-- Window `t` of head `h` of the first half, of the second half, of the cotangent; the head's part of the gain. -/
def wU (Z : Fin 8192 → Fin 1536 → ℝ) (t : Fin 64) (h : Fin 4) (p d : Fin 128) : ℝ :=
  Z ⟨128 * t.val + p.val, by omega⟩ ⟨128 * h.val + d.val, by omega⟩
@[inherit_doc wU]
def wV (Z : Fin 8192 → Fin 1536 → ℝ) (t : Fin 64) (h : Fin 4) (p d : Fin 128) : ℝ :=
  Z ⟨128 * t.val + p.val, by omega⟩ ⟨512 + (128 * h.val + d.val), by omega⟩
@[inherit_doc wU]
def wD (Y : Fin 8192 → Fin 2048 → ℝ) (t : Fin 64) (h : Fin 4) (p d : Fin 128) : ℝ :=
  Y ⟨128 * t.val + p.val, by omega⟩ ⟨128 * h.val + d.val, by omega⟩
@[inherit_doc wU]
def wG (G : Fin 512 → ℝ) (h : Fin 4) (d : Fin 128) : ℝ := G ⟨128 * h.val + d.val, by omega⟩

/-- A grid point's number. -/
abbrev num (t : Fin cfg0.N) : Fin 64 := ⟨t.val, lt_of_lt_of_eq t.isLt N_0⟩

variable (t : Fin cfg0.N) (h : Fin 4) {o k : ℕ} (ho : o = 128 * h.val) (hk : k = h.val)

include hz ho in
theorem blk_u (inb) (p d : Fin 128) : View.ld (iblk m c 0 t : Vec Ideal S128x512 .bf16) (Rect.unit ![0, o] ![128, 128] inb) (ix2 p d)
    = (wU Z (num t) h p d : EReal) := by
  subst ho
  refine (View.ld_unit_apply_of _ _ _ _ _ (ix2 p ⟨128 * h.val + d.val, by omega⟩) fun a => ?_).trans ?_
  · fin_cases a
    · show p.val = 0 + p.val; omega
    · rfl
  · rw [wU, ← hz]
    blk_ext [iblk, V, idx t]

include hz ho in
theorem blk_v (inb) (p d : Fin 128) : View.ld (iblk m c 1 t : Vec Ideal S128x512 .bf16) (Rect.unit ![0, o] ![128, 128] inb) (ix2 p d)
    = (wV Z (num t) h p d : EReal) := by
  subst ho
  refine (View.ld_unit_apply_of _ _ _ _ _ (ix2 p ⟨128 * h.val + d.val, by omega⟩) fun a => ?_).trans ?_
  · fin_cases a
    · show p.val = 0 + p.val; omega
    · rfl
  · rw [wV, ← hz]
    blk_ext [iblk, V, idx t]

include hy ho in
theorem blk_d (inb) (p d : Fin 128) : View.ld (iblk m c 2 t : Vec Ideal S128x512 .bf16) (Rect.unit ![0, o] ![128, 128] inb) (ix2 p d)
    = (wD Y (num t) h p d : EReal) := by
  subst ho
  refine (View.ld_unit_apply_of _ _ _ _ _ (ix2 p ⟨128 * h.val + d.val, by omega⟩) fun a => ?_).trans ?_
  · fin_cases a
    · show p.val = 0 + p.val; omega
    · rfl
  · rw [wD, ← hy]
    blk_ext [iblk, V, idx t]

include hg ho in
theorem blk_g (inb) (d : Fin 128) : View.ld (iblk m c 6 t : Vec Ideal S1x512 .f32) (Rect.unit ![0, o] ![1, 128] inb) (ix2 0 d)
    = (wG G h d : EReal) := by
  subst ho
  refine (View.ld_unit_apply_of _ _ _ _ _ (ix2 0 ⟨128 * h.val + d.val, by omega⟩) fun a => ?_).trans ?_
  · fin_cases a <;> rfl
  · rw [wG, ← hg]
    blk_ext! [iblk, V, idx t]

include hw hk in
theorem blk_w (inb) (p q : Fin 128) :
    View.ld (iblk m c 3 t : Vec Ideal S4x128x128 .bf16) (Rect.unit ![k, 0, 0] ![1, 128, 128] inb) (ix3 0 p q) = (W h p q : EReal) := by
  subst hk
  refine (View.ld_unit_apply_of _ _ _ _ _ (ix3 h p q) fun a => ?_).trans ?_
  · fin_cases a
    · rfl
    · show p.val = 0 + p.val; omega
    · show q.val = 0 + q.val; omega
  · rw [← hw]
    blk_ext! [iblk, V, idx t]

include hw hk in
theorem blk_wt (inb) (p q : Fin 128) :
    View.ld (iblk m c 4 t : Vec Ideal S4x128x128 .bf16) (Rect.unit ![k, 0, 0] ![1, 128, 128] inb) (ix3 0 q p) = (W h p q : EReal) := by
  subst hk
  refine (View.ld_unit_apply_of _ _ _ _ _ (ix3 h q p) fun a => ?_).trans ?_
  · fin_cases a
    · rfl
    · show q.val = 0 + q.val; omega
    · show p.val = 0 + p.val; omega
  · rw [← hw]
    blk_ext! [iblk, V, idx t]

include hb hk in
theorem blk_b (inb) (p q : Fin 128) :
    View.ld (iblk m c 5 t : Vec Ideal S4x128x128 .f32) (Rect.unit ![k, 0, 0] ![1, 128, 128] inb) (ix3 0 p q) = (B h p : EReal) := by
  subst hk
  refine (View.ld_unit_apply_of _ _ _ _ _ (ix3 h p q) fun a => ?_).trans ?_
  · fin_cases a
    · rfl
    · show p.val = 0 + p.val; omega
    · show q.val = 0 + q.val; omega
  · rw [← hb]
    blk_ext! [iblk, V, idx t]

end Arrays

end Cert.SgIdeal.Value
-- ==== Proof.SgOut.lean ====
/-
  What each grid point of the spatial gating's backward kernel leaves in its five result blocks: the four heads' tiles of
  the two row results, and the running sums of the gradients of the mixing matrices, their biases and the gain.
-/
module

public import proofs.«01_k».proof.Proof.SgKernel

@[expose] public section

set_option maxRecDepth 16384

noncomputable section

namespace Cert.SgIdeal.Value

open Cert.SgIdeal Cert.SgIdeal.Gen Idealize.ShloMosaic Idealize.ShloMosaic.TcCoe Idealize.SL.Sem
open Idealize.ShloMosaic.Pipeline (Dat)

variable (m : (ℓ : Loc nD τ sig) → Buf (Elt Ideal) ℓ)

/-- The head a column belongs to, and its number in the head. -/
def hd (j : Fin 512) : Fin 4 := ⟨j.val / 128, by omega⟩
@[inherit_doc hd]
def col (j : Fin 512) : Fin 128 := ⟨j.val % 128, by omega⟩

theorem at_head {α : Type} (f : Fin 4 → Fin 128 → Fin 128 → α) {a a' b' : Fin 128} {b : Fin 512} {h : Fin 4} {o : ℕ} (ho : o = 128 * h.val)
    (h0 : a.val = a'.val) (h1 : b.val = o + b'.val) : f h a' b' = f (hd b) a (col b) := by
  have e : hd b = h := Fin.ext (by show b.val / 128 = _; omega)
  have e' : col b = b' := Fin.ext (by show b.val % 128 = _; omega)
  rw [e, e', Fin.ext h0]

section Real

variable (Z : Fin 8192 → Fin 1536 → ℝ) (Y : Fin 8192 → Fin 2048 → ℝ) (G : Fin 512 → ℝ)
  (W : Fin 4 → Fin 128 → Fin 128 → ℝ) (B : Fin 4 → Fin 128 → ℝ)

/-- The two row results in window `t` for head `h`. -/
def du (t : Fin 64) (h : Fin 4) : Fin 128 → Fin 128 → ℝ := Gate.du (wU Z t h) (wV Z t h) (wD Y t h) (wG G h) (W h) (B h)
@[inherit_doc du]
def dv (t : Fin 64) (h : Fin 4) : Fin 128 → Fin 128 → ℝ := Gate.dv (wU Z t h) (wV Z t h) (wD Y t h) (wG G h) (W h)
/-- Window `t`'s part of the gradients of the mixing matrix, its bias and the gain. -/
def dw (t : Fin 64) (h : Fin 4) : Fin 128 → Fin 128 → ℝ := Gate.dw (wU Z t h) (wV Z t h) (wD Y t h) (wG G h)
@[inherit_doc dw]
def db (t : Fin 64) (h : Fin 4) : Fin 128 → ℝ := Gate.db (wU Z t h) (wD Y t h)
@[inherit_doc dw]
def dg (t : Fin 64) (h : Fin 4) : Fin 128 → ℝ := Gate.dg (wU Z t h) (wV Z t h) (wD Y t h) (W h)

end Real

section Arrays

variable (c : Dev nD) {Z : Fin 8192 → Fin 1536 → ℝ} {Y : Fin 8192 → Fin 2048 → ℝ} {G : Fin 512 → ℝ}
  {W : Fin 4 → Fin 128 → Fin 128 → ℝ} {B : Fin 4 → Fin 128 → ℝ}
  (hz : ∀ p d, (m ((c : Thread nD τ).loc main_arg0) : FVec Ideal S8192x1536 .bf16) (ix2 p d) = (Z p d : EReal))
  (hy : ∀ p d, (m ((c : Thread nD τ).loc main_arg1) : FVec Ideal S8192x2048 .bf16) (ix2 p d) = (Y p d : EReal))
  (hg : ∀ d, (m ((c : Thread nD τ).loc main_arg2) : FVec Ideal S512 .f32) (ix1 d) = (G d : EReal))
  (hw : ∀ h p k, (m ((c : Thread nD τ).loc main_arg3) : FVec Ideal S4x128x128 .f32) (ix3 h p k) = (W h p k : EReal))
  (hb : ∀ h p, (m ((c : Thread nD τ).loc main_arg4) : FVec Ideal S4x128 .f32) (ix2 h p) = (B h p : EReal))

/-- The head's tiles of the blocks at point `t`. -/
abbrev tu (t : Fin cfg0.N) (o : ℕ) (inb : ∀ a, (![0, o] : Fin S128x512.rank → ℕ) a + (![128, 128] : Fin S128x512.rank → ℕ) a ≤ S128x512.size a) : Vec Ideal S128x128 .bf16 :=
  View.ld (iblk m c 0 t : Vec Ideal S128x512 .bf16) (Rect.unit ![0, o] ![128, 128] inb)
@[inherit_doc tu]
abbrev tv (t : Fin cfg0.N) (o : ℕ) (inb : ∀ a, (![0, o] : Fin S128x512.rank → ℕ) a + (![128, 128] : Fin S128x512.rank → ℕ) a ≤ S128x512.size a) : Vec Ideal S128x128 .bf16 :=
  View.ld (iblk m c 1 t : Vec Ideal S128x512 .bf16) (Rect.unit ![0, o] ![128, 128] inb)
@[inherit_doc tu]
abbrev td (t : Fin cfg0.N) (o : ℕ) (inb : ∀ a, (![0, o] : Fin S128x512.rank → ℕ) a + (![128, 128] : Fin S128x512.rank → ℕ) a ≤ S128x512.size a) : Vec Ideal S128x128 .bf16 :=
  View.ld (iblk m c 2 t : Vec Ideal S128x512 .bf16) (Rect.unit ![0, o] ![128, 128] inb)
@[inherit_doc tu]
abbrev tg (t : Fin cfg0.N) (o : ℕ) (inb : ∀ a, (![0, o] : Fin S1x512.rank → ℕ) a + (![1, 128] : Fin S1x512.rank → ℕ) a ≤ S1x512.size a) : Vec Ideal S1x128 .f32 :=
  View.ld (iblk m c 6 t : Vec Ideal S1x512 .f32) (Rect.unit ![0, o] ![1, 128] inb)
@[inherit_doc tu]
abbrev tw (t : Fin cfg0.N) (k : ℕ) (inb : ∀ a, (![k, 0, 0] : Fin S4x128x128.rank → ℕ) a + (![1, 128, 128] : Fin S4x128x128.rank → ℕ) a ≤ S4x128x128.size a) : Vec Ideal S1x128x128 .bf16 :=
  View.ld (iblk m c 3 t : Vec Ideal S4x128x128 .bf16) (Rect.unit ![k, 0, 0] ![1, 128, 128] inb)
@[inherit_doc tu]
abbrev twt (t : Fin cfg0.N) (k : ℕ) (inb : ∀ a, (![k, 0, 0] : Fin S4x128x128.rank → ℕ) a + (![1, 128, 128] : Fin S4x128x128.rank → ℕ) a ≤ S4x128x128.size a) : Vec Ideal S1x128x128 .bf16 :=
  View.ld (iblk m c 4 t : Vec Ideal S4x128x128 .bf16) (Rect.unit ![k, 0, 0] ![1, 128, 128] inb)
@[inherit_doc tu]
abbrev tb (t : Fin cfg0.N) (k : ℕ) (inb : ∀ a, (![k, 0, 0] : Fin S4x128x128.rank → ℕ) a + (![1, 128, 128] : Fin S4x128x128.rank → ℕ) a ≤ S4x128x128.size a) : Vec Ideal S1x128x128 .f32 :=
  View.ld (iblk m c 5 t : Vec Ideal S4x128x128 .f32) (Rect.unit ![k, 0, 0] ![1, 128, 128] inb)

variable (t : Fin cfg0.N) (h : Fin 4) {o k : ℕ} (ho : o = 128 * h.val) (hk : k = h.val)

include hz hy hg hw hb ho hk in
theorem piece_du (i j l) (x : S128x128.Idx) (y : S128x512.Idx) (h0 : (y 0).val = (x 0).val) (h1 : (y 1).val = o + (x 1).val) :
    tDu (tu m c t o i) (tv m c t o i) (td m c t o i) (tg m c t o j) (tw m c t k l) (tb m c t k l) x
      = ((du Z Y G W B (num t) (hd (y 1)) (y 0) (col (y 1)) : ℝ) : EReal) := by
  refine (congrArg _ (eq_ix2 x)).trans ?_
  refine Eq.trans ?_ (Reals.congr (at_head (du Z Y G W B (num t)) ho h0 h1))
  exact t_du (blk_u m c hz t h ho i) (blk_v m c hz t h ho i) (blk_d m c hy t h ho i) (blk_g m c hg t h ho j)
    (blk_w m c hw t h hk l) (blk_b m c hb t h hk l) (x 0) (x 1)

include hz hy hg hw ho hk in
theorem piece_dv (i j l) (x : S128x128.Idx) (y : S128x512.Idx) (h0 : (y 0).val = (x 0).val) (h1 : (y 1).val = o + (x 1).val) :
    tDv (tu m c t o i) (tv m c t o i) (td m c t o i) (tg m c t o j) (twt m c t k l) x
      = ((dv Z Y G W (num t) (hd (y 1)) (y 0) (col (y 1)) : ℝ) : EReal) := by
  refine (congrArg _ (eq_ix2 x)).trans ?_
  refine Eq.trans ?_ (Reals.congr (at_head (dv Z Y G W (num t)) ho h0 h1))
  exact t_dv (blk_u m c hz t h ho i) (blk_v m c hz t h ho i) (blk_d m c hy t h ho i) (blk_g m c hg t h ho j)
    (blk_wt m c hw t h hk l) (x 0) (x 1)

theorem ix3_of (x : S1x128x128.Idx) : x = ix3 0 (x 1) (x 2) :=
  (eq_ix3 x).trans (congrArg (fun a => ix3 a (x 1) (x 2)) (Subsingleton.elim (α := Fin 1) (x 0) 0))

include hz hy hg ho hk in
theorem piece_dw (i j l) (A : Vec Ideal S4x128x128 .f32) (x : S1x128x128.Idx) (y : S4x128x128.Idx) (h0 : (y 0).val = k + (x 0).val)
    (h1 : (y 1).val = (x 1).val) (h2 : (y 2).val = (x 2).val) :
    tDw (tu m c t o i) (tv m c t o i) (td m c t o i) (tg m c t o j) (View.ld A (Rect.unit ![k, 0, 0] ![1, 128, 128] l)) x
      = A y + ((dw Z Y G (num t) (y 0) (y 1) (y 2) : ℝ) : EReal) := by
  have e0 : y 0 = h := Fin.ext (by have : (x 0).val < 1 := (x 0).isLt; show (y 0).val = _; omega)
  rw [e0, show y 1 = x 1 from Fin.ext h1, show y 2 = x 2 from Fin.ext h2]
  refine (congrArg _ (ix3_of x)).trans ?_
  refine (t_dw (blk_u m c hz t h ho i) (blk_v m c hz t h ho i) (blk_d m c hy t h ho i) (blk_g m c hg t h ho j) (x 1) (x 2)).trans ?_
  refine congrArg (· + _) (View.ld_unit_apply_of _ _ _ _ _ y fun a => ?_)
  fin_cases a
  · show (y 0).val = k + 0; rw [e0, hk]; rfl
  · show (y 1).val = 0 + (x 1).val; omega
  · show (y 2).val = 0 + (x 2).val; omega

include hz hy ho hk in
theorem piece_db (i l) (A : Vec Ideal S4x128x128 .f32) (x : S1x128x128.Idx) (y : S4x128x128.Idx) (h0 : (y 0).val = k + (x 0).val)
    (h1 : (y 1).val = (x 1).val) (h2 : (y 2).val = (x 2).val) :
    tDb (tu m c t o i) (td m c t o i) (View.ld A (Rect.unit ![k, 0, 0] ![1, 128, 128] l)) x
      = A y + ((db Z Y (num t) (y 0) (y 1) : ℝ) : EReal) := by
  have e0 : y 0 = h := Fin.ext (by have : (x 0).val < 1 := (x 0).isLt; show (y 0).val = _; omega)
  rw [e0, show y 1 = x 1 from Fin.ext h1]
  refine (congrArg _ (ix3_of x)).trans ?_
  refine (t_db (blk_u m c hz t h ho i) (blk_d m c hy t h ho i) (x 1) (x 2)).trans ?_
  refine congrArg (· + _) (View.ld_unit_apply_of _ _ _ _ _ y fun a => ?_)
  fin_cases a
  · show (y 0).val = k + 0; rw [e0, hk]; rfl
  · show (y 1).val = 0 + (x 1).val; omega
  · show (y 2).val = 0 + (x 2).val; omega

include hz hy hw ho hk in
theorem piece_dg (i j l) (A : Vec Ideal S1x512 .f32) (x : S1x128.Idx) (y : S1x512.Idx) (h1 : (y 1).val = o + (x 1).val) :
    tDg (tu m c t o i) (tv m c t o i) (td m c t o i) (twt m c t k l) (View.ld A (Rect.unit ![0, o] ![1, 128] j)) x
      = A y + ((dg Z Y W (num t) (hd (y 1)) (col (y 1)) : ℝ) : EReal) := by
  refine (congrArg _ ((eq_ix2 x).trans (congrArg (fun a => ix2 a (x 1)) (Subsingleton.elim (α := Fin 1) (x 0) 0)))).trans ?_
  refine (t_dg (blk_u m c hz t h ho i) (blk_v m c hz t h ho i) (blk_d m c hy t h ho i) (blk_wt m c hw t h hk l) (x 1)).trans ?_
  refine congrArg₂ (· + ·) ?_ (Reals.congr (at_head (fun h _ => dg Z Y W (num t) h) (a := 0) (a' := 0) ho rfl h1))
  refine (View.ld_unit_apply_of _ _ _ _ _ y fun a => ?_)
  fin_cases a
  · have : (y 0).val < 1 := (y 0).isLt; show (y 0).val = 0; omega
  · exact h1

include hz hy hg hw hb in
theorem out7 (y : S128x512.Idx) : (outsAt0 m c t.val t.isLt).1 y
    = ((du Z Y G W B (num t) (hd (y 1)) (y 0) (col (y 1)) : ℝ) : EReal) := by
  by_cases h0 : t.val % 64 = 0
  · rw [outsAt0_A m c t h0]; frame_out
    canon_tiles x e
    · exact piece_du m c hz hy hg hw hb t 3 rfl rfl _ _ _ x y e0 e1
    · exact piece_du m c hz hy hg hw hb t 2 rfl rfl _ _ _ x y e0 e1
    · exact piece_du m c hz hy hg hw hb t 1 rfl rfl _ _ _ x y e0 e1
    · exact piece_du m c hz hy hg hw hb t 0 rfl rfl _ _ _ x y e0 (by omega)
  · rw [outsAt0_B m c t h0]; frame_out
    canon_tiles x e
    · exact piece_du m c hz hy hg hw hb t 3 rfl rfl _ _ _ x y e0 e1
    · exact piece_du m c hz hy hg hw hb t 2 rfl rfl _ _ _ x y e0 e1
    · exact piece_du m c hz hy hg hw hb t 1 rfl rfl _ _ _ x y e0 e1
    · exact piece_du m c hz hy hg hw hb t 0 rfl rfl _ _ _ x y e0 (by omega)

include hz hy hg hw in
theorem out8 (y : S128x512.Idx) : (outsAt0 m c t.val t.isLt).2.1 y
    = ((dv Z Y G W (num t) (hd (y 1)) (y 0) (col (y 1)) : ℝ) : EReal) := by
  by_cases h0 : t.val % 64 = 0
  · rw [outsAt0_A m c t h0]; frame_out
    canon_tiles x e
    · exact piece_dv m c hz hy hg hw t 3 rfl rfl _ _ _ x y e0 e1
    · exact piece_dv m c hz hy hg hw t 2 rfl rfl _ _ _ x y e0 e1
    · exact piece_dv m c hz hy hg hw t 1 rfl rfl _ _ _ x y e0 e1
    · exact piece_dv m c hz hy hg hw t 0 rfl rfl _ _ _ x y e0 (by omega)
  · rw [outsAt0_B m c t h0]; frame_out
    canon_tiles x e
    · exact piece_dv m c hz hy hg hw t 3 rfl rfl _ _ _ x y e0 e1
    · exact piece_dv m c hz hy hg hw t 2 rfl rfl _ _ _ x y e0 e1
    · exact piece_dv m c hz hy hg hw t 1 rfl rfl _ _ _ x y e0 e1
    · exact piece_dv m c hz hy hg hw t 0 rfl rfl _ _ _ x y e0 (by omega)

include hz hy hg in
theorem out9_B (h0 : ¬ t.val % 64 = 0) (y : S4x128x128.Idx) : (outsAt0 m c t.val t.isLt).2.2.1 y
    = (outsAt0 m c (t.val - 1) (Nat.lt_of_le_of_lt (Nat.sub_le _ _) t.isLt)).2.2.1 y + ((dw Z Y G (num t) (y 0) (y 1) (y 2) : ℝ) : EReal) := by
  rw [outsAt0_B m c t h0]; frame_out
  canon_tiles x e
  · exact piece_dw m c hz hy hg t 3 rfl rfl _ _ _ _ x y e0 e1 e2
  · exact piece_dw m c hz hy hg t 2 rfl rfl _ _ _ _ x y e0 e1 e2
  · exact piece_dw m c hz hy hg t 1 rfl rfl _ _ _ _ x y e0 e1 e2
  · exact piece_dw m c hz hy hg t 0 rfl rfl _ _ _ _ x y (by omega) e1 e2

include hz hy in
theorem out10_B (h0 : ¬ t.val % 64 = 0) (y : S4x128x128.Idx) : (outsAt0 m c t.val t.isLt).2.2.2.1 y
    = (outsAt0 m c (t.val - 1) (Nat.lt_of_le_of_lt (Nat.sub_le _ _) t.isLt)).2.2.2.1 y + ((db Z Y (num t) (y 0) (y 1) : ℝ) : EReal) := by
  rw [outsAt0_B m c t h0]; frame_out
  canon_tiles x e
  · exact piece_db m c hz hy t 3 rfl rfl _ _ _ x y e0 e1 e2
  · exact piece_db m c hz hy t 2 rfl rfl _ _ _ x y e0 e1 e2
  · exact piece_db m c hz hy t 1 rfl rfl _ _ _ x y e0 e1 e2
  · exact piece_db m c hz hy t 0 rfl rfl _ _ _ x y (by omega) e1 e2

include hz hy hw in
theorem out11_B (h0 : ¬ t.val % 64 = 0) (y : S1x512.Idx) : (outsAt0 m c t.val t.isLt).2.2.2.2 y
    = (outsAt0 m c (t.val - 1) (Nat.lt_of_le_of_lt (Nat.sub_le _ _) t.isLt)).2.2.2.2 y + ((dg Z Y W (num t) (hd (y 1)) (col (y 1)) : ℝ) : EReal) := by
  rw [outsAt0_B m c t h0]; frame_out
  canon_tiles x e
  · exact piece_dg m c hz hy hw t 3 rfl rfl _ _ _ _ x y e1
  · exact piece_dg m c hz hy hw t 2 rfl rfl _ _ _ _ x y e1
  · exact piece_dg m c hz hy hw t 1 rfl rfl _ _ _ _ x y e1
  · exact piece_dg m c hz hy hw t 0 rfl rfl _ _ _ _ x y (by omega)

theorem zero9 (y : S4x128x128.Idx) : k0_pay1 (F := Ideal) y = 0 := by pointwise [k0_pay1]
theorem zero10 (y : S4x128x128.Idx) : k0_pay2 (F := Ideal) y = 0 := by pointwise [k0_pay2]
theorem zero11 (y : S1x512.Idx) : k0_pay3 (F := Ideal) y = 0 := by pointwise [k0_pay3]

/-- Stores that hold the index hide the earlier ones. -/
theorem over_fill {S : Shape} {e : EltTy} (L' : List (View.Piece (Elt Ideal) S e)) (y : S.Idx) :
    ∀ L : List (View.Piece (Elt Ideal) S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      exact (View.canon_cons_emb p.1 p.2 (L ++ L') x).trans (View.canon_cons_emb p.1 p.2 L x).symm
    · obtain ⟨q, hq, hy⟩ := h
      have hq : q ∈ L := (List.mem_cons.mp hq).resolve_left (by rintro rfl; exact hm hy)
      rw [List.cons_append, View.canon_cons_of_not_mem p _ hm, View.canon_cons_of_not_mem p _ hm]
      exact over_fill L' y L ⟨q, hq, hy⟩

include hz hy hg in
theorem out9_A (h0 : t.val % 64 = 0) (y : S4x128x128.Idx) : (outsAt0 m c t.val t.isLt).2.2.1 y
    = 0 + ((dw Z Y G (num t) (y 0) (y 1) (y 2) : ℝ) : EReal) := by
  rw [outsAt0_A m c t h0, ← zero9 y]; frame_open
  simp (disch := decide) only [↓ View.readCov_skip, ↓ View.readCov_cons_toLoadRect, ↓ View.readCov_fill]
  frame_out
  refine (over_fill [_] y [_, _, _, _] (View.cover_of_tiled_head _ _ _ (by rfl) y)).trans ?_
  canon_tiles x e
  · exact piece_dw m c hz hy hg t 3 rfl rfl _ _ _ _ x y e0 e1 e2
  · exact piece_dw m c hz hy hg t 2 rfl rfl _ _ _ _ x y e0 e1 e2
  · exact piece_dw m c hz hy hg t 1 rfl rfl _ _ _ _ x y e0 e1 e2
  · exact piece_dw m c hz hy hg t 0 rfl rfl _ _ _ _ x y (by omega) e1 e2

include hz hy in
theorem out10_A (h0 : t.val % 64 = 0) (y : S4x128x128.Idx) : (outsAt0 m c t.val t.isLt).2.2.2.1 y
    = 0 + ((db Z Y (num t) (y 0) (y 1) : ℝ) : EReal) := by
  rw [outsAt0_A m c t h0, ← zero10 y]; frame_open
  simp (disch := decide) only [↓ View.readCov_skip, ↓ View.readCov_cons_toLoadRect, ↓ View.readCov_fill]
  frame_out
  refine (over_fill [_] y [_, _, _, _] (View.cover_of_tiled_head _ _ _ (by rfl) y)).trans ?_
  canon_tiles x e
  · exact piece_db m c hz hy t 3 rfl rfl _ _ _ x y e0 e1 e2
  · exact piece_db m c hz hy t 2 rfl rfl _ _ _ x y e0 e1 e2
  · exact piece_db m c hz hy t 1 rfl rfl _ _ _ x y e0 e1 e2
  · exact piece_db m c hz hy t 0 rfl rfl _ _ _ x y (by omega) e1 e2

include hz hy hw in
theorem out11_A (h0 : t.val % 64 = 0) (y : S1x512.Idx) : (outsAt0 m c t.val t.isLt).2.2.2.2 y
    = 0 + ((dg Z Y W (num t) (hd (y 1)) (col (y 1)) : ℝ) : EReal) := by
  rw [outsAt0_A m c t h0, ← zero11 y]; frame_open
  simp (disch := decide) only [↓ View.readCov_skip, ↓ View.readCov_cons_toLoadRect, ↓ View.readCov_fill]
  frame_out
  refine (over_fill [_] y [_, _, _, _] (View.cover_of_tiled_head _ _ _ (by rfl) y)).trans ?_
  canon_tiles x e
  · exact piece_dg m c hz hy hw t 3 rfl rfl _ _ _ _ x y e1
  · exact piece_dg m c hz hy hw t 2 rfl rfl _ _ _ _ x y e1
  · exact piece_dg m c hz hy hw t 1 rfl rfl _ _ _ _ x y e1
  · exact piece_dg m c hz hy hw t 0 rfl rfl _ _ _ _ x y (by omega)

/-- The sum over the grid's points is the sum over the 64 windows. -/
theorem sum_points (f : Fin 64 → ℝ) : ∑ t : Fin cfg0.N, ((f (num t) : ℝ) : EReal) = ((∑ n, f n : ℝ) : EReal) := by
  rw [Reals.sum]
  exact Reals.congr (Fintype.sum_equiv (finCongr N_0) _ _ fun _ => rfl)

end Arrays

end Cert.SgIdeal.Value
-- ==== Proof.SgRef.lean ====
/-
  The reference of the spatial gate: its results read line by line at one element, with the sums over several axes
  written as sums over their coordinates.
-/
module

public import proofs.«01_k».proof.Proof.SgOut
public import proofs.«01_k».proof.Proof.Gen.SgRefIdeal.Run
public import proofs.«01_k».proof.Proof.Gen.SgRefIdeal.Read
public import Idealize.ShloMosaic.Lib.Pointwise

@[expose] public section

set_option maxRecDepth 16384

noncomputable section

namespace Cert.SgRefIdeal.Read

open Cert.SgRefIdeal Cert.SgRefIdeal.Gen Idealize.ShloMosaic
open Cert.SgIdeal.Value (wU wV wD wG)

variable {z : (⟨S8192x1536, .bf16⟩ : BufTy).Contents (Elt Ideal)} {y : (⟨S8192x2048, .bf16⟩ : BufTy).Contents (Elt Ideal)}
  {g : (⟨S512, .f32⟩ : BufTy).Contents (Elt Ideal)} {w : (⟨S4x128x128, .f32⟩ : BufTy).Contents (Elt Ideal)}
  {b : (⟨S4x128, .f32⟩ : BufTy).Contents (Elt Ideal)}
  {Z : Fin 8192 → Fin 1536 → ℝ} {Y : Fin 8192 → Fin 2048 → ℝ} {G : Fin 512 → ℝ}
  {W : Fin 4 → Fin 128 → Fin 128 → ℝ} {B : Fin 4 → Fin 128 → ℝ}
  (hz : ∀ p d, z (ix2 p d) = (Z p d : EReal)) (hy : ∀ p d, y (ix2 p d) = (Y p d : EReal))
  (hg : ∀ d, g (ix1 d) = (G d : EReal)) (hw : ∀ h p k, w (ix3 h p k) = (W h p k : EReal))
  (hb : ∀ h p, b (ix2 h p) = (B h p : EReal))

theorem v9 : val_main_v9 (F := Ideal) ix0 = ((Gelu.c : ℝ) : EReal) := by
  pointwise [val_main_v9, val_main_cst_0]
  rw [Reals.lit_two]
  exact Reals.rsqrt (by norm_num)

theorem v26 : val_main_v26 (F := Ideal) ix0 = ((Gelu.c : ℝ) : EReal) := v9

theorem v15 : val_main_v15 (F := Ideal) ix0 = ((2 * (Real.sqrt Real.pi)⁻¹ : ℝ) : EReal) := by
  pointwise [val_main_v15, val_main_v14, val_main_v13, val_main_cst_1, val_main_cst_2]
  have : Ideal.acos (Ideal.ofBits .f32 0xBF800000#32) = ((Real.pi : ℝ) : EReal) := by
    rw [Reals.lit_neg_one, Ideal.acos_coe, if_pos (by norm_num), Real.arccos_neg_one]
  rw [this, Reals.rsqrt Real.pi_pos, Reals.lit_two, Reals.mul]

section Sums

/-- A host sum over several axes is the sum over the indices that keep `j`'s coordinates. -/
theorem sum_axes {ι : Type} [Fintype ι] {s t : Shape} {axes : List (Fin s.rank)} (h : s.ReducesTo axes t) (x : s.Idx → EReal)
    (j : t.Idx) (e : ι → s.Idx) (he : Function.Injective e) (hf : ∀ i, h.drop i = j ↔ ∃ k, e k = i) :
    Ideal.hostReduceAdd h x 0 j = ∑ k, x (e k) :=
  (zero_add _).trans (Finset.sum_filter_eq_sum_of_fiber _ e (fun _ _ => @he _ _) hf x)

variable {x : FVec Ideal S1x64x128x4x128 .f32}

theorem sum_14 (p : Fin 128) (h : Fin 4) :
    Ideal.hostReduceAdd reducesTo_S1x64x128x4x128_S1x128x4_d1_4 x 0 (ix3 0 p h) = ∑ n : Fin 64, ∑ d : Fin 128, x (ix5 0 n p h d) := by
  refine (sum_axes _ x _ (fun k : Fin 64 × Fin 128 => ix5 0 k.1 p h k.2) (fun _ _ e => Prod.ext (congrFun e 1) (congrFun e 4))
    fun i => ⟨fun e => ⟨(i 1, i 4), ?_⟩, ?_⟩).trans (Fintype.sum_prod_type _)
  · have e1 := congrFun e 1; have e2 := congrFun e 2
    refine funext fun a => ?_
    match a with
    | ⟨0, _⟩ => exact (Subsingleton.elim (α := Fin 1) _ _)
    | ⟨1, _⟩ => rfl
    | ⟨2, _⟩ => exact e1.symm
    | ⟨3, _⟩ => exact e2.symm
    | ⟨4, _⟩ => rfl
  · rintro ⟨k, rfl⟩
    refine funext fun b => ?_
    match b with
    | ⟨0, _⟩ => rfl
    | ⟨1, _⟩ => rfl
    | ⟨2, _⟩ => rfl

theorem sum_12 (h : Fin 4) (d : Fin 128) :
    Ideal.hostReduceAdd reducesTo_S1x64x128x4x128_S1x4x128_d1_2 x 0 (ix3 0 h d) = ∑ n : Fin 64, ∑ p : Fin 128, x (ix5 0 n p h d) := by
  refine (sum_axes _ x _ (fun k : Fin 64 × Fin 128 => ix5 0 k.1 k.2 h d) (fun _ _ e => Prod.ext (congrFun e 1) (congrFun e 2))
    fun i => ⟨fun e => ⟨(i 1, i 2), ?_⟩, ?_⟩).trans (Fintype.sum_prod_type _)
  · have e1 := congrFun e 1; have e2 := congrFun e 2
    refine funext fun a => ?_
    match a with
    | ⟨0, _⟩ => exact (Subsingleton.elim (α := Fin 1) _ _)
    | ⟨1, _⟩ => rfl
    | ⟨2, _⟩ => rfl
    | ⟨3, _⟩ => exact e1.symm
    | ⟨4, _⟩ => exact e2.symm
  · rintro ⟨k, rfl⟩
    refine funext fun b => ?_
    match b with
    | ⟨0, _⟩ => rfl
    | ⟨1, _⟩ => rfl
    | ⟨2, _⟩ => rfl

/-- Sums over axes of length one. -/
theorem sum_unit_bias (x : FVec Ideal S1x1x128x4x1 .f32) (p : Fin 128) (h : Fin 4) :
    Ideal.hostReduceAdd reducesTo_S1x1x128x4x1_S128x4_d0_1_4 x 0 (ix2 p h) = x (ix5 0 0 p h 0) := by
  refine (sum_axes _ x _ (fun _ : Unit => ix5 0 0 p h 0) (fun _ _ _ => rfl) fun i => ⟨fun e => ⟨(), ?_⟩, ?_⟩).trans
    (Fintype.sum_unique _)
  · have e0 := congrFun e 0; have e1 := congrFun e 1
    refine funext fun a => ?_
    match a with
    | ⟨0, _⟩ => exact (Subsingleton.elim (α := Fin 1) _ _)
    | ⟨1, _⟩ => exact (Subsingleton.elim (α := Fin 1) _ _)
    | ⟨2, _⟩ => exact e0.symm
    | ⟨3, _⟩ => exact e1.symm
    | ⟨4, _⟩ => exact (Subsingleton.elim (α := Fin 1) _ _)
  · rintro ⟨k, rfl⟩
    refine funext fun b => ?_
    match b with
    | ⟨0, _⟩ => rfl
    | ⟨1, _⟩ => rfl

@[inherit_doc sum_unit_bias]
theorem sum_unit_gain (x : FVec Ideal S1x1x1x4x128 .f32) (h : Fin 4) (d : Fin 128) :
    Ideal.hostReduceAdd reducesTo_S1x1x1x4x128_S4x128_d0_1_2 x 0 (ix2 h d) = x (ix5 0 0 0 h d) := by
  refine (sum_axes _ x _ (fun _ : Unit => ix5 0 0 0 h d) (fun _ _ _ => rfl) fun i => ⟨fun e => ⟨(), ?_⟩, ?_⟩).trans
    (Fintype.sum_unique _)
  · have e0 := congrFun e 0; have e1 := congrFun e 1
    refine funext fun a => ?_
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => exact e0.symm
    | ⟨4, _⟩ => exact e1.symm
  · rintro ⟨k, rfl⟩
    refine funext fun b => ?_
    match b with
    | ⟨0, _⟩ => rfl
    | ⟨1, _⟩ => rfl

@[inherit_doc sum_unit_bias]
theorem sum_unit_row (x : FVec Ideal S1x64x128x4x1 .f32) (t : Fin 64) (p : Fin 128) (h : Fin 4) :
    Ideal.hostReduceAdd reducesTo_S1x64x128x4x1_S64x128x4_d0_4 x 0 (ix3 t p h) = x (ix5 0 t p h 0) := by
  refine (sum_axes _ x _ (fun _ : Unit => ix5 0 t p h 0) (fun _ _ _ => rfl) fun i => ⟨fun e => ⟨(), ?_⟩, ?_⟩).trans
    (Fintype.sum_unique _)
  · have e0 := congrFun e 0; have e1 := congrFun e 1; have e2 := congrFun e 2
    refine funext fun a => ?_
    match a with
    | ⟨0, _⟩ => exact (Subsingleton.elim (α := Fin 1) _ _)
    | ⟨1, _⟩ => exact e0.symm
    | ⟨2, _⟩ => exact e1.symm
    | ⟨3, _⟩ => exact e2.symm
    | ⟨4, _⟩ => exact (Subsingleton.elim (α := Fin 1) _ _)
  · rintro ⟨k, rfl⟩
    refine funext fun b => ?_
    match b with
    | ⟨0, _⟩ => rfl
    | ⟨1, _⟩ => rfl
    | ⟨2, _⟩ => rfl

/-- The indices of the product's contraction over windows and columns. -/
def windowCols : dot_S4x1x64x128x128_S1x64x128x4x128_S4x128x128_123_014_4_2_0_3.contr.Idx ≃ Fin 64 × Fin 128 where
  toFun k := (k ⟨1, by decide⟩, k ⟨2, by decide⟩)
  invFun q a := match a with
    | ⟨0, _⟩ => (0 : Fin 1)
    | ⟨1, _⟩ => q.1
    | ⟨2, _⟩ => q.2
  left_inv k := funext fun a => match a with
    | ⟨0, _⟩ => (Subsingleton.elim (α := Fin 1) _ _)
    | ⟨1, _⟩ => rfl
    | ⟨2, _⟩ => rfl
  right_inv _ := rfl

/-- The product that contracts windows and columns. -/
theorem dot_windows (l : FVec Ideal S4x1x64x128x128 .f32) (r : FVec Ideal S1x64x128x4x128 .f32) (h : Fin 4) (p k : Fin 128) :
    Ideal.matmul dot_S4x1x64x128x128_S1x64x128x4x128_S4x128x128_123_014_4_2_0_3 l r (fun _ => 0) (ix3 h p k)
      = ∑ n : Fin 64, ∑ d : Fin 128, l (ix5 h 0 n d p) * r (ix5 0 n k h d) := by
  refine (zero_add _).trans ((Equiv.sum_comp windowCols.symm _).symm.trans ((Fintype.sum_prod_type _).trans ?_))
  refine Finset.sum_congr rfl fun n _ => Finset.sum_congr rfl fun d _ => congrArg₂ _ (congrArg l ?_) (congrArg r ?_)
  · refine funext fun a => ?_
    match a with
    | ⟨0, _⟩ => rfl
    | ⟨1, _⟩ => rfl
    | ⟨2, _⟩ => rfl
    | ⟨3, _⟩ => rfl
    | ⟨4, _⟩ => rfl
  · refine funext fun a => ?_
    match a with
    | ⟨0, _⟩ => rfl
    | ⟨1, _⟩ => rfl
    | ⟨2, _⟩ => rfl
    | ⟨3, _⟩ => rfl
    | ⟨4, _⟩ => rfl

end Sums

end Cert.SgRefIdeal.Read

end
-- ==== Proof.SgFinal.lean ====
/-
  The five result arrays of the spatial gating's backward kernel, as real numbers: the two row results at every position
  and column, the three parameter gradients as sums over the 64 windows.
-/
module

public import proofs.«01_k».proof.Proof.SgOut

@[expose] public section

set_option maxRecDepth 16384

noncomputable section

namespace Cert.SgIdeal.Value

open Cert.SgIdeal Cert.SgIdeal.Gen Idealize.ShloMosaic Idealize.ShloMosaic.TcCoe Idealize.SL.Sem
open Idealize.ShloMosaic.Pipeline (Dat)

variable (m : (ℓ : Loc nD τ sig) → Buf (Elt Ideal) ℓ)

/-- The window a position belongs to, and its number in the window. -/
def wnd (i : Fin 8192) : Fin 64 := ⟨i.val / 128, by omega⟩
@[inherit_doc wnd]
def pos (i : Fin 8192) : Fin 128 := ⟨i.val % 128, by omega⟩

theorem at_window {α : Type} (f : Fin 64 → Fin 4 → Fin 128 → Fin 128 → α) {a : Fin 8192} {b b' : Fin 512} {t : Fin 64} {p : Fin 128}
    (h0 : a.val = 128 * t.val + p.val) (h1 : b.val = b'.val) : f t (hd b') p (col b') = f (wnd a) (hd b) (pos a) (col b) := by
  have e : wnd a = t := Fin.ext (by show a.val / 128 = _; omega)
  have e' : pos a = p := Fin.ext (by show a.val % 128 = _; omega)
  rw [e, e', Fin.ext h1]

variable (c : Dev nD) {Z : Fin 8192 → Fin 1536 → ℝ} {Y : Fin 8192 → Fin 2048 → ℝ} {G : Fin 512 → ℝ}
  {W : Fin 4 → Fin 128 → Fin 128 → ℝ} {B : Fin 4 → Fin 128 → ℝ}
  (hz : ∀ p d, (m ((c : Thread nD τ).loc main_arg0) : FVec Ideal S8192x1536 .bf16) (ix2 p d) = (Z p d : EReal))
  (hy : ∀ p d, (m ((c : Thread nD τ).loc main_arg1) : FVec Ideal S8192x2048 .bf16) (ix2 p d) = (Y p d : EReal))
  (hg : ∀ d, (m ((c : Thread nD τ).loc main_arg2) : FVec Ideal S512 .f32) (ix1 d) = (G d : EReal))
  (hw : ∀ h p k, (m ((c : Thread nD τ).loc main_arg3) : FVec Ideal S4x128x128 .f32) (ix3 h p k) = (W h p k : EReal))
  (hb : ∀ h p, (m ((c : Thread nD τ).loc main_arg4) : FVec Ideal S4x128 .f32) (ix2 h p) = (B h p : EReal))

include hz hy hg hw hb in
theorem final7 : (dats m 0 c).arrAt 7 (cfgs 0).N
    = fun i : S8192x512.Idx => ((du Z Y G W B (wnd (i 0)) (hd (i 1)) (pos (i 0)) (col (i 1)) : ℝ) : EReal) := by
  refine (dats m 0 c).arrAt_eq_of_covers 7 _ (by decide +kernel) fun t _ y => ?_
  blk_simp
  rw [after0_7]
  refine (out7 m c hz hy hg hw hb t y).trans (Reals.congr (at_window (du Z Y G W B) ?_ ?_))
  · blk_simp [idx t]; show _ = 128 * t.val + _; omega
  · blk_simp [idx t]

include hz hy hg hw in
theorem final8 : (dats m 0 c).arrAt 8 (cfgs 0).N
    = fun i : S8192x512.Idx => ((dv Z Y G W (wnd (i 0)) (hd (i 1)) (pos (i 0)) (col (i 1)) : ℝ) : EReal) := by
  refine (dats m 0 c).arrAt_eq_of_covers 8 _ (by decide +kernel) fun t _ y => ?_
  blk_simp
  rw [after0_8]
  refine (out8 m c hz hy hg hw t y).trans (Reals.congr (at_window (dv Z Y G W) ?_ ?_))
  · blk_simp [idx t]; show _ = 128 * t.val + _; omega
  · blk_simp [idx t]

include hz hy hg in
theorem final9 : (dats m 0 c).arrAt 9 (cfgs 0).N
    = fun i : S4x128x128.Idx => ((∑ n, dw Z Y G n (i 0) (i 1) (i 2) : ℝ) : EReal) := by
  refine (dats m 0 c).arrAt_eq_of_covers 9 _ (by decide +kernel) fun t hf y => ?_
  have hN : cfg0.N = 64 := N_0
  have hl : t.val + 1 = cfg0.N := by have := (flush0_9 t).mp hf; have := t.isLt; omega
  have he : ((win0_9.blk t).view.emb y : S4x128x128.Idx) = y := by blk_ext [idx t]
  blk_simp
  rw [after0_9]
  refine (Pipeline.eq_sum_fin_of_reset_step_apply_last (N := cfg0.N) (M := EReal) (fun n h => (outsAt0 m c n h).2.2.1) 64 (fun _ => 0)
    (fun t y => ((dw Z Y G (num t) (y 0) (y 1) (y 2) : ℝ) : EReal)) (fun t h y => out9_A m c hz hy hg t h y)
    (fun t h y => out9_B m c hz hy hg t h y) hN.le t hl y).trans ?_
  rw [zero_add, sum_points (fun n => dw Z Y G n (y 0) (y 1) (y 2)), he]

include hz hy in
theorem final10 : (dats m 0 c).arrAt 10 (cfgs 0).N
    = fun i : S4x128x128.Idx => ((∑ n, db Z Y n (i 0) (i 1) : ℝ) : EReal) := by
  refine (dats m 0 c).arrAt_eq_of_covers 10 _ (by decide +kernel) fun t hf y => ?_
  have hN : cfg0.N = 64 := N_0
  have hl : t.val + 1 = cfg0.N := by have := (flush0_10 t).mp hf; have := t.isLt; omega
  have he : ((win0_10.blk t).view.emb y : S4x128x128.Idx) = y := by blk_ext [idx t]
  blk_simp
  rw [after0_10]
  refine (Pipeline.eq_sum_fin_of_reset_step_apply_last (N := cfg0.N) (M := EReal) (fun n h => (outsAt0 m c n h).2.2.2.1) 64 (fun _ => 0)
    (fun t y => ((db Z Y (num t) (y 0) (y 1) : ℝ) : EReal)) (fun t h y => out10_A m c hz hy t h y)
    (fun t h y => out10_B m c hz hy t h y) hN.le t hl y).trans ?_
  rw [zero_add, sum_points (fun n => db Z Y n (y 0) (y 1)), he]

include hz hy hw in
theorem final11 : (dats m 0 c).arrAt 11 (cfgs 0).N
    = fun i : S1x512.Idx => ((∑ n, dg Z Y W n (hd (i 1)) (col (i 1)) : ℝ) : EReal) := by
  refine (dats m 0 c).arrAt_eq_of_covers 11 _ (by decide +kernel) fun t hf y => ?_
  have hN : cfg0.N = 64 := N_0
  have hl : t.val + 1 = cfg0.N := by have := (flush0_11 t).mp hf; have := t.isLt; omega
  have he : ((win0_11.blk t).view.emb y : S1x512.Idx) = y := by blk_ext [idx t]
  blk_simp
  rw [after0_11]
  refine (Pipeline.eq_sum_fin_of_reset_step_apply_last (N := cfg0.N) (M := EReal) (fun n h => (outsAt0 m c n h).2.2.2.2) 64 (fun _ => 0)
    (fun t y => ((dg Z Y W (num t) (hd (y 1)) (col (y 1)) : ℝ) : EReal)) (fun t h y => out11_A m c hz hy hw t h y)
    (fun t h y => out11_B m c hz hy hw t h y) hN.le t hl y).trans ?_
  rw [zero_add, sum_points (fun n => dg Z Y W n (hd (y 1)) (col (y 1))), he]

end Cert.SgIdeal.Value
-- ==== Proof.SgRefVal.lean ====
/-
  The gradients of `reference.py`'s spatial gating unit, as real numbers, when the arguments are real numbers.
-/
module

public import proofs.«01_k».proof.Proof.SgRef
public import proofs.«01_k».proof.Proof.SgFinal

@[expose] public section

set_option maxRecDepth 16384

noncomputable section

namespace Cert.SgRefIdeal.Read

open Cert.SgRefIdeal Cert.SgRefIdeal.Gen Idealize.ShloMosaic
open Cert.SgIdeal.Value (wU wV wD wG wnd pos hd col)

variable {z : (⟨S8192x1536, .bf16⟩ : BufTy).Contents (Elt Ideal)} {y : (⟨S8192x2048, .bf16⟩ : BufTy).Contents (Elt Ideal)}
  {g : (⟨S512, .f32⟩ : BufTy).Contents (Elt Ideal)} {w : (⟨S4x128x128, .f32⟩ : BufTy).Contents (Elt Ideal)}
  {b : (⟨S4x128, .f32⟩ : BufTy).Contents (Elt Ideal)}
  {Z : Fin 8192 → Fin 1536 → ℝ} {Y : Fin 8192 → Fin 2048 → ℝ} {G : Fin 512 → ℝ}
  {W : Fin 4 → Fin 128 → Fin 128 → ℝ} {B : Fin 4 → Fin 128 → ℝ}
  (hz : ∀ p d, z (ix2 p d) = (Z p d : EReal)) (hy : ∀ p d, y (ix2 p d) = (Y p d : EReal))
  (hg : ∀ d, g (ix1 d) = (G d : EReal)) (hw : ∀ h p k, w (ix3 h p k) = (W h p k : EReal))
  (hb : ∀ h p, b (ix2 h p) = (B h p : EReal))

section Flat

variable {t : Fin 64} {p : Fin 128} {h : Fin 4} {d : Fin 128} {q : Fin 8192} {j : Fin 512}
  (hq : q.val = 128 * t.val + p.val) (hj : j.val = 128 * h.val + d.val)

include hz hq hj in
theorem v2 : val_main_v2 (F := Ideal) z (ix3 0 q j) = ((wU Z t h p d : ℝ) : EReal) := by
  pointwise [val_main_v2, val_main_v1, val_main_v0]
  rw [hz]
  exact Reals.congr (congrArg₂ Z (Fin.ext hq) (Fin.ext (by simpa using hj)))

include hz hq hj in
theorem v3 : val_main_v3 (F := Ideal) z (ix3 0 q j) = ((wV Z t h p d : ℝ) : EReal) := by
  pointwise [val_main_v3, val_main_v1, val_main_v0]
  rw [hz]
  exact Reals.congr (congrArg₂ Z (Fin.ext hq) (Fin.ext (by simp only; omega)))

include hy hq hj in
theorem v6 : val_main_v6 (F := Ideal) y (ix3 0 q j) = ((wD Y t h p d : ℝ) : EReal) := by
  pointwise [val_main_v6, val_main_v5, val_main_v4]
  rw [hy]
  exact Reals.congr (congrArg₂ Y (Fin.ext hq) (Fin.ext (by simpa using hj)))

include hz hq hj in
theorem v22 : val_main_v22 (F := Ideal) z (ix3 0 q j) = ((1 + Gelu.erf (wU Z t h p d * Gelu.c) : ℝ) : EReal) := by
  pointwise [val_main_v22, val_main_v21, val_main_v12, val_main_v11, val_main_v10, val_main_cst_3]
  rw [v2 hz hq hj, v9, Reals.mul, Gelu.erf_coe, ← EReal.coe_one, Reals.add]

include hz hq hj in
theorem v39 : val_main_v39 (F := Ideal) z (ix3 0 q j) = ((1 + Gelu.erf (wV Z t h p d * Gelu.c) : ℝ) : EReal) := by
  pointwise [val_main_v39, val_main_v38, val_main_v29, val_main_v28, val_main_v27, val_main_cst_8]
  rw [v3 hz hq hj, v26, Reals.mul, Gelu.erf_coe, ← EReal.coe_one, Reals.add]

include hz hq hj in
theorem v20 : val_main_v20 (F := Ideal) z (ix3 0 q j)
    = ((2 * (Real.sqrt Real.pi)⁻¹ * Real.exp (-(wU Z t h p d * Gelu.c * (wU Z t h p d * Gelu.c))) : ℝ) : EReal) := by
  pointwise [val_main_v20, val_main_v19, val_main_v18, val_main_v17, val_main_v16, val_main_v11, val_main_v10]
  rw [v2 hz hq hj, v9, v15, Reals.mul, Reals.mul, Reals.neg, Gelu.exp_coe, Reals.mul]

include hz hq hj in
theorem v37 : val_main_v37 (F := Ideal) z (ix3 0 q j)
    = ((2 * (Real.sqrt Real.pi)⁻¹ * Real.exp (-(wV Z t h p d * Gelu.c * (wV Z t h p d * Gelu.c))) : ℝ) : EReal) := by
  pointwise [val_main_v37, val_main_v36, val_main_v35, val_main_v34, val_main_v33, val_main_v28, val_main_v27]
  rw [v3 hz hq hj, v26, show val_main_v32 (F := Ideal) ix0 = _ from v15, Reals.mul, Reals.mul, Reals.neg, Gelu.exp_coe, Reals.mul]

include hz hq hj in
theorem v23 : val_main_v23 (F := Ideal) z (ix3 0 q j) = ((Gelu.gelu (wU Z t h p d) : ℝ) : EReal) := by
  pointwise [val_main_v23, val_main_v8, val_main_v7, val_main_cst]
  rw [v2 hz hq hj, v22 hz hq hj, Reals.lit_half, Reals.mul, Reals.mul]; rfl

include hz hq hj in
theorem v40 : val_main_v40 (F := Ideal) z (ix3 0 q j) = ((Gate.val (wV Z t h) p d : ℝ) : EReal) := by
  pointwise [val_main_v40, val_main_v25, val_main_v24, val_main_cst_4]
  rw [v3 hz hq hj, v39 hz hq hj, Reals.lit_half, Reals.mul, Reals.mul]; rfl

end Flat

variable (t : Fin 64) (p k : Fin 128) (h : Fin 4) (d : Fin 128)

include hz in
theorem v41 : val_main_v41 (F := Ideal) z (ix5 0 t p h d) = ((Gate.val (wV Z t h) p d : ℝ) : EReal) := by
  pointwise [val_main_v41]
  exact v40 hz (by simp only; omega) (by simp only; omega)

include hz hy in
theorem v69 : val_main_v69 (F := Ideal) z y (ix5 0 t p h d) = ((Gate.dmix (wU Z t h) (wD Y t h) p d : ℝ) : EReal) := by
  pointwise [val_main_v69, val_main_v67]
  rw [v23 hz (t := t) (p := p) (h := h) (d := d) (by simp only; omega) (by simp only; omega),
    v6 hy (t := t) (p := p) (h := h) (d := d) (by simp only; omega) (by simp only; omega), Reals.mul]
  exact Reals.congr (mul_comm _ _)

include hz in
theorem v49 : val_main_v49 (F := Ideal) z (ix5 0 t p h 0) = ((Norm.ms 128 (Gate.val (wV Z t h) p) : ℝ) : EReal) := by
  pointwise [val_main_v49, val_main_v48, val_main_v47, val_main_v46, val_main_v45, val_main_v44, val_main_v43, val_main_cst_9,
    val_main_cst_10, val_main_cst_11]
  simp only [v41 hz, Reals.mul, Reals.sum, SgIdeal.Value.lit_128, Reals.lit_eps, Reals.div (b := 128) (by norm_num), Reals.add, Norm.ms]

include hz in
theorem v50 : val_main_v50 (F := Ideal) z (ix5 0 t p h 0) = ((Norm.r 128 (Gate.val (wV Z t h) p) : ℝ) : EReal) := by
  pointwise [val_main_v50]
  rw [v49 hz]
  exact Reals.rsqrt (Norm.ms_pos (by norm_num) _)

include hz in
theorem v53 : val_main_v53 (F := Ideal) z (ix5 0 t p h 0) = ((-(1 / 2) * (Norm.r 128 (Gate.val (wV Z t h) p)
    / Norm.ms 128 (Gate.val (wV Z t h) p)) : ℝ) : EReal) := by
  pointwise [val_main_v53, val_main_v52, val_main_v51, val_main_cst_12]
  rw [v50 hz, v49 hz, Reals.div (Norm.ms_pos (by norm_num) _).ne', Reals.lit_neg_half, Reals.mul]

include hz in
theorem v55 : val_main_v55 (F := Ideal) z (ix5 0 t p h d)
    = ((Gate.val (wV Z t h) p d * Norm.r 128 (Gate.val (wV Z t h) p) : ℝ) : EReal) := by
  pointwise [val_main_v55, val_main_v54]
  rw [v41 hz, v50 hz, Reals.mul]

include hg in
theorem v42 : val_main_v42 (F := Ideal) g (ix2 h d) = ((wG G h d : ℝ) : EReal) := by
  pointwise [val_main_v42]
  rw [hg]
  exact Reals.congr (congrArg G (Fin.ext (by simp only; omega)))

include hz hg in
theorem v58 : val_main_v58 (F := Ideal) z g (ix5 0 t p h d) = ((Gate.vn (wV Z t h) (wG G h) p d : ℝ) : EReal) := by
  pointwise [val_main_v58, val_main_v57, val_main_v56]
  rw [v55 hz, v42 hg, Reals.mul]; rfl

include hz hg hw hb in
theorem v64 : val_main_v64 (F := Ideal) z g w b (ix5 0 t p h d)
    = ((Gate.mix (wV Z t h) (wG G h) (W h) (B h) p d : ℝ) : EReal) := by
  pointwise [val_main_v64, val_main_v63, val_main_v62, val_main_v61, val_main_v60, val_main_v59]
  simp only [v58 hz hg, hw, hb, Reals.mul, Reals.sum, Reals.add]
  refine Reals.congr ?_
  unfold Gate.mix
  rw [Finset.sum_congr rfl fun k _ => mul_comm _ _]

include hz hy hw in
theorem v77 : val_main_v77 (F := Ideal) z y w (ix5 0 t p h d) = ((Gate.dvn (wU Z t h) (wD Y t h) (W h) p d : ℝ) : EReal) := by
  pointwise [val_main_v77, val_main_v76, val_main_v74]
  simp only [v69 hz hy, hw, Reals.mul, Reals.sum]
  refine Reals.congr ?_
  unfold Gate.dvn
  rw [Finset.sum_congr rfl fun k _ => mul_comm _ _]

include hz hy hg hw in
theorem v82 : val_main_v82 (F := Ideal) z y g w (ix5 0 t p h d)
    = ((Gate.dvn (wU Z t h) (wD Y t h) (W h) p d * wG G h d : ℝ) : EReal) := by
  pointwise [val_main_v82, val_main_v81, val_main_v56]
  rw [v77 hz hy hw, v42 hg, Reals.mul]

include hz hy hg hw in
theorem v94 : val_main_v94 (F := Ideal) z y g w (ix5 0 t p h d)
    = (((∑ k, Gate.val (wV Z t h) p k * (Gate.dvn (wU Z t h) (wD Y t h) (W h) p k * wG G h k))
      * (-(1 / 2) * (Norm.r 128 (Gate.val (wV Z t h) p) / Norm.ms 128 (Gate.val (wV Z t h) p))) / 128 : ℝ) : EReal) := by
  pointwise [val_main_v94, val_main_v93, val_main_v92, val_main_cst_19]
  refine (sum_unit_row _ t p h).trans ?_
  pointwise [val_main_v91, val_main_v90, val_main_v89, val_main_v86, val_main_v85, val_main_v84, val_main_cst_17, val_main_cst_18]
  simp only [v41 hz, v82 hz hy hg hw, v53 hz, Reals.mul, Reals.sum, SgIdeal.Value.lit_128, Reals.div (b := 128) (by norm_num)]

include hz hy hg hw in
theorem v98 : val_main_v98 (F := Ideal) z y g w (ix5 0 t p h d) = ((Norm.dx 128 (Gate.val (wV Z t h) p)
    (fun j => Gate.dvn (wU Z t h) (wD Y t h) (W h) p j * wG G h j) d : ℝ) : EReal) := by
  pointwise [val_main_v98, val_main_v97, val_main_v96, val_main_v95, val_main_v88, val_main_v87]
  simp only [v41 hz, v82 hz hy hg hw, v50 hz, v94 hz hy hg hw, Reals.mul, Reals.add]
  exact Reals.congr (Norm.dx_eq (by norm_num) _ (fun j => Gate.dvn (wU Z t h) (wD Y t h) (W h) p j * wG G h j) d)

theorem split_row (q : Fin 8192) : q.val = 128 * (wnd q).val + (pos q).val := by
  show q.val = 128 * (q.val / 128) + q.val % 128; omega
theorem split_col (j : Fin 512) : j.val = 128 * (hd j).val + (col j).val := by
  show j.val = 128 * (j.val / 128) + j.val % 128; omega

include hz hy hg hw hb in
/-- The gradient of the first half. -/
theorem v118 (q : Fin 8192) (j : Fin 512) : val_main_v118 (F := Ideal) z y g w b (ix2 q j)
    = ((SgIdeal.Value.du Z Y G W B (wnd q) (hd j) (pos q) (col j) : ℝ) : EReal) := by
  pointwise [val_main_v118, val_main_v117, val_main_v116, val_main_v115, val_main_v114, val_main_v113, val_main_v112,
    val_main_v111, val_main_v110, val_main_v109, val_main_v68, val_main_v65, val_main_v8, val_main_v7, val_main_cst, val_main_cst_21]
  have hq := split_row q
  have hj := split_col j
  have e : val_main_v64 (F := Ideal) z g w b (ix5 0 (wnd q) (pos q) (hd j) (col j)) = _ := v64 hz hg hw hb _ _ _ _
  simp only [v2 hz hq hj, v6 hy hq hj, v22 hz hq hj, v20 hz hq hj, v9, Reals.lit_half]
  refine (congrArg₂ _ (congrArg₂ _ (congrArg₂ _ (congrArg₂ _ rfl (congrArg₂ _ rfl e)) rfl) rfl)
    (congrArg₂ _ rfl (congrArg₂ _ (congrArg₂ _ rfl e) rfl))).trans ?_
  simp only [Reals.mul, Reals.add]
  exact Reals.congr (Gelu.dgelu_chain _ _)

include hz hy hg hw in
/-- The gradient of the second half. -/
theorem v120 (q : Fin 8192) (j : Fin 512) : val_main_v120 (F := Ideal) z y g w (ix2 q j)
    = ((SgIdeal.Value.dv Z Y G W (wnd q) (hd j) (pos q) (col j) : ℝ) : EReal) := by
  pointwise [val_main_v120, val_main_v119, val_main_v108, val_main_v107, val_main_v106, val_main_v105, val_main_v104,
    val_main_v103, val_main_v102, val_main_v101, val_main_v100, val_main_v25, val_main_v24, val_main_cst_4, val_main_cst_20]
  have hq := split_row q
  have hj := split_col j
  have e : val_main_v98 (F := Ideal) z y g w (ix5 0 (wnd q) (pos q) (hd j) (col j)) = _ := v98 hz hy hg hw _ _ _ _
  simp only [v3 hz hq hj, v39 hz hq hj, v37 hz hq hj, v26, Reals.lit_half]
  refine (congrArg₂ _ (congrArg₂ _ (congrArg₂ _ (congrArg₂ _ rfl e) rfl) rfl)
    (congrArg₂ _ rfl (congrArg₂ _ e rfl))).trans ?_
  simp only [Reals.mul, Reals.add]
  exact Reals.congr (Gelu.dgelu_chain _ _)

include hz hy hg in
/-- The gradient of the mixing matrices. -/
theorem v75 (h : Fin 4) (p k : Fin 128) : val_main_v75 (F := Ideal) z y g (ix3 h p k)
    = ((∑ n, SgIdeal.Value.dw Z Y G n h p k : ℝ) : EReal) := by
  pointwise [val_main_v75]
  refine (dot_windows _ _ h p k).trans ?_
  pointwise [val_main_v74]
  simp only [v69 hz hy, v58 hz hg, Reals.mul, Reals.sum]
  rfl

include hz hy in
/-- The gradient of the biases. -/
theorem v122 (h : Fin 4) (p k : Fin 128) : val_main_v122 (F := Ideal) z y (ix3 h p k)
    = ((∑ n, SgIdeal.Value.db Z Y n h p : ℝ) : EReal) := by
  pointwise [val_main_v122, val_main_v121, val_main_v73, val_main_v72, val_main_cst_14]
  refine (sum_unit_bias _ p h).trans ?_
  pointwise [val_main_v71, val_main_v70, val_main_cst_13]
  refine (sum_14 p h).trans ?_
  simp only [v69 hz hy, Reals.sum]
  rfl

include hz hy hw in
/-- The gradient of the gain. -/
theorem v123 (j : Fin 512) : val_main_v123 (F := Ideal) z y w (ix2 0 j)
    = ((∑ n, SgIdeal.Value.dg Z Y W n (hd j) (col j) : ℝ) : EReal) := by
  pointwise [val_main_v123, val_main_v99, val_main_v83, val_main_cst_16]
  refine (sum_unit_gain _ (hd j) (col j)).trans ?_
  pointwise [val_main_v80, val_main_v79, val_main_cst_15]
  refine (sum_12 (hd j) (col j)).trans ?_
  pointwise [val_main_v78]
  simp only [v55 hz, v77 hz hy hw, Reals.mul, Reals.sum]
  refine Reals.congr (Finset.sum_congr rfl fun n _ => Finset.sum_congr rfl fun p _ => mul_comm _ _)

end Cert.SgRefIdeal.Read

end
-- ==== Proof.SgClaim.lean ====
/-
  The spatial gating's backward kernel and the derivative of `reference.py`'s spatial gating leave the same five results,
  where the arguments are finite.
-/
module

public import proofs.«01_k».proof.Defs
public import proofs.«01_k».proof.Proof.SgRefVal
public import proofs.«01_k».proof.Proof.Gen.Pre_sg_finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- An array whose absolute value is below infinity everywhere is a real number everywhere. -/
theorem sg_real {z : FVec Ideal ⟨2, ![8192, 1536]⟩ .bf16} {y : FVec Ideal ⟨2, ![8192, 2048]⟩ .bf16}
    {g : FVec Ideal ⟨1, ![512]⟩ .f32} {w : FVec Ideal ⟨3, ![4, 128, 128]⟩ .f32} {b : FVec Ideal ⟨2, ![4, 128]⟩ .f32}
    (h : (Pre_sg_finite.fn (F := Ideal) z y g w b).1 = (fun _ => 1#1) ∧ (Pre_sg_finite.fn (F := Ideal) z y g w b).2.1 = (fun _ => 1#1)
      ∧ (Pre_sg_finite.fn (F := Ideal) z y g w b).2.2.1 = (fun _ => 1#1)
      ∧ (Pre_sg_finite.fn (F := Ideal) z y g w b).2.2.2.1 = (fun _ => 1#1)
      ∧ (Pre_sg_finite.fn (F := Ideal) z y g w b).2.2.2.2 = (fun _ => 1#1)) :
    (∀ p d, z (ix2 p d) = ((z (ix2 p d)).toReal : EReal)) ∧ (∀ p d, y (ix2 p d) = ((y (ix2 p d)).toReal : EReal))
      ∧ (∀ d, g (ix1 d) = ((g (ix1 d)).toReal : EReal)) ∧ (∀ i p k, w (ix3 i p k) = ((w (ix3 i p k)).toReal : EReal))
      ∧ (∀ i p, b (ix2 i p) = ((b (ix2 i p)).toReal : EReal)) := by
  obtain ⟨h0, h1, h2, h3, h4⟩ := h
  exact ⟨fun p d => Reals.eq_coe (Reals.finite_of_lt (congrFun h0 (ix2 p d))),
    fun p d => Reals.eq_coe (Reals.finite_of_lt (congrFun h1 (ix2 p d))),
    fun d => Reals.eq_coe (Reals.finite_of_lt (congrFun h2 (ix1 d))),
    fun i p k => Reals.eq_coe (Reals.finite_of_lt (congrFun h3 (ix3 i p k))),
    fun i p => Reals.eq_coe (Reals.finite_of_lt (congrFun h4 (ix2 i p)))⟩

/-- The reference is host code alone: it declares no semaphore. -/
theorem sgRef_frame : quiescent_SgRefIdeal := fun m g _ => (θ_run _ _ _).mono
  (fun r h => ⟨fun c => (h c).2.2.2.2.2, sem_eq_zero_of_no_sems (by decide) r.2⟩) (SgRefIdeal.Value.run m g)

theorem sg_preserves : preserves_Sg_SgIdeal :=
  ⟨IdealRules.named_const.statement SgIdeal.κ "inv_sqrt2" .f32 0x3F3504F3#32 (((Real.sqrt 2)⁻¹ : ℝ) : EReal) rfl,
    IdealRules.named_const.statement SgIdeal.κ "inv_sqrt_2pi" .f32 0x3ECC422A#32 (((Real.sqrt (2 * Real.pi))⁻¹ : ℝ) : EReal) rfl⟩

theorem sg_algebraic : algebraic_SgIdeal_SgRefIdeal_pre_sg_finite := by
  intro m g m' g' hpre hargs
  refine ⟨_, _, _, _, _, SgIdeal.Value.run_blocks m g, (θ_run _ _ _).mono (fun r h c => ?_) (SgRefIdeal.Value.run m' g')⟩
  obtain ⟨h0, h1, h2, h3, h4, ha⟩ := h c
  obtain ⟨hz, hy, hg, hw, hb⟩ := sg_real (hpre c)
  obtain ⟨e0, e1, e2, e3, e4⟩ := hargs c
  refine ⟨h0.trans ?_, h1.trans ?_, h2.trans ?_, h3.trans ?_, h4.trans ?_, ha⟩
  · rw [SgRefIdeal.Read.val_main_v118_eq, e0, e1, e2, e3, e4]
    refine Eq.trans (funext fun i => ?_) (SgIdeal.Value.final7 m c hz hy hg hw hb).symm
    rw [eq_ix2 i]
    exact SgRefIdeal.Read.v118 hz hy hg hw hb (i 0) (i 1)
  · rw [SgRefIdeal.Read.val_main_v120_eq, e0, e1, e2, e3]
    refine Eq.trans (funext fun i => ?_) (SgIdeal.Value.final8 m c hz hy hg hw).symm
    rw [eq_ix2 i]
    exact SgRefIdeal.Read.v120 hz hy hg hw (i 0) (i 1)
  · rw [SgRefIdeal.Read.val_main_v75_eq, e0, e1, e2]
    refine Eq.trans (funext fun i => ?_) (SgIdeal.Value.final9 m c hz hy hg).symm
    rw [eq_ix3 i]
    exact SgRefIdeal.Read.v75 hz hy hg (i 0) (i 1) (i 2)
  · rw [SgRefIdeal.Read.val_main_v122_eq, e0, e1]
    refine Eq.trans (funext fun i => ?_) (SgIdeal.Value.final10 m c hz hy).symm
    rw [eq_ix3 i]
    exact SgRefIdeal.Read.v122 hz hy (i 0) (i 1) (i 2)
  · rw [SgRefIdeal.Read.val_main_v123_eq, e0, e1, e3]
    refine Eq.trans (funext fun i => ?_) (SgIdeal.Value.final11 m c hz hy hw).symm
    have : i = ix2 0 (i 1) := (eq_ix2 i).trans (congrArg (fun a => ix2 a (i 1)) (Subsingleton.elim (α := Fin 1) _ _))
    rw [this]
    exact SgRefIdeal.Read.v123 hz hy hw (i 1)

end Cert.Proof

end
-- ==== Proof.AttnRest.lean ====
module

public import proofs.«01_k».proof.Proof.Gen.AttnIdeal
public import proofs.«01_k».proof.Proof.Gen.AttnIdeal.Skeleton
public import proofs.«01_k».proof.Proof.Gen.AttnIdeal.Frame

/-! The body of the attention gradient runs. -/

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen

variable {F : FTy → Type} [FloatOps F] [Named F]

local notation "𝕄" => MT nD τ sig Unit (Elt F) ℕ (UR sig nD τ) ℕ

abbrev cond0 (i : grid0.Coords) : Prop := (Scalar.cmpi .ne (Scalar.extui (Scalar.cmpi .eq (BitVec.ofNat 32 (i 1).val) 0#32)) 0#32) = 1#1
abbrev cond1 (i : grid0.Coords) : Prop := k0_cond2 i = 1#1

instance (i : grid0.Coords) (n : ℕ) : ClosedOff (k0_off1 i (BitVec.ofNat 32 n)) :=
  ⟨![0, k0_off1 i (BitVec.ofNat 32 n) 1, 0], rfl⟩
instance (i : grid0.Coords) (n : ℕ) : ClosedOff (k0_off2 i (BitVec.ofNat 32 n)) :=
  ⟨![0, k0_off2 i (BitVec.ofNat 32 n) 1, 0, 0], rfl⟩
instance (i : grid0.Coords) (n : ℕ) : ClosedOff (k0_off3 i (BitVec.ofNat 32 n)) :=
  ⟨![k0_off3 i (BitVec.ofNat 32 n) 0, 0], rfl⟩

/-- What the first step of a head does before anything else: it clears the three accumulators. -/
def init (i : grid0.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x8x64x512 .f32) (harg6 : arg6.IsWhole) (arg7 : Memref sig .tc .vmem S1x1024x128 .bf16) (harg7 : arg7.IsWhole) (arg8 : Memref sig .tc .vmem S1x8192x128 .bf16) (harg8 : arg8.IsWhole) (arg9 : Memref sig .tc .vmem S1x8192x128 .bf16) (harg9 : arg9.IsWhole) (arg10 : Memref sig .tc .vmem S1x8x64x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S16x64x512 .f32) (harg13 : arg13.IsWhole) (arg14 : Memref sig .tc .vmem S16x64x512 .f32) (harg14 : arg14.IsWhole) (arg15 : Memref sig .tc .vmem S16x64x512 .bf16) (harg15 : arg15.IsWhole) (arg16 : Memref sig .tc .vmem S16x64x512 .bf16) (harg16 : arg16.IsWhole) :
    Prog (TpuEff nD τ sig (Elt F) Λ₀ .tc) PUnit := do
  let v1702 : Vec F S8192x128 .f32 ← Prog.lift (.load arg11 (Rect.unit (s := S8192x128) ![0, 0] S8192x128.size inb_S8192x128_S8192x128_0_0).toLoadRect (View.loadsAt_vmem h_S8192x128))
  Prog.lift (.store arg11 (Rect.unit (s := S8192x128) ![0, 0] S8192x128.size inb_S8192x128_S8192x128_0_0) (k0_pay5 (F := F)) Finset.univ (View.stores_vmem_bits_univ h_S8192x128 rfl) (.inl rfl))
  let v1706 : Vec F S8192x128 .f32 ← Prog.lift (.load arg12 (Rect.unit (s := S8192x128) ![0, 0] S8192x128.size inb_S8192x128_S8192x128_0_0).toLoadRect (View.loadsAt_vmem h_S8192x128))
  Prog.lift (.store arg12 (Rect.unit (s := S8192x128) ![0, 0] S8192x128.size inb_S8192x128_S8192x128_0_0) (k0_pay6 (F := F)) Finset.univ (View.stores_vmem_bits_univ h_S8192x128 rfl) (.inl rfl))
  let v1710 : Vec F S1x8x64x512 .f32 ← Prog.lift (.load arg10 (Rect.unit (s := S1x8x64x512) ![0, 0, 0, 0] S1x8x64x512.size inb_S1x8x64x512_S1x8x64x512_0_0_0_0).toLoadRect (View.loadsAt_vmem h_S1x8x64x512))
  Prog.lift (.store arg10 (Rect.unit (s := S1x8x64x512) ![0, 0, 0, 0] S1x8x64x512.size inb_S1x8x64x512_S1x8x64x512_0_0_0_0) (k0_pay7 (F := F)) Finset.univ (View.stores_vmem_bits_univ h_S1x8x64x512 rfl) (.inl rfl))
  pure ⟨⟩

/-- What the last step of a head does after everything else: it hands over the two accumulators. -/
def tail (i : grid0.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x8x64x512 .f32) (harg6 : arg6.IsWhole) (arg7 : Memref sig .tc .vmem S1x1024x128 .bf16) (harg7 : arg7.IsWhole) (arg8 : Memref sig .tc .vmem S1x8192x128 .bf16) (harg8 : arg8.IsWhole) (arg9 : Memref sig .tc .vmem S1x8192x128 .bf16) (harg9 : arg9.IsWhole) (arg10 : Memref sig .tc .vmem S1x8x64x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S16x64x512 .f32) (harg13 : arg13.IsWhole) (arg14 : Memref sig .tc .vmem S16x64x512 .f32) (harg14 : arg14.IsWhole) (arg15 : Memref sig .tc .vmem S16x64x512 .bf16) (harg15 : arg15.IsWhole) (arg16 : Memref sig .tc .vmem S16x64x512 .bf16) (harg16 : arg16.IsWhole) :
    Prog (TpuEff nD τ sig (Elt F) Λ₀ .tc) PUnit := do
  if k0_h2 : k0_cond2 i = 1#1 then do
    let v1701 : Vec F S8192x128 .f32 ← Prog.lift (.load arg11 (Rect.unit (s := S8192x128) ![0, 0] S8192x128.size inb_S8192x128_S8192x128_0_0).toLoadRect (View.loadsAt_vmem h_S8192x128))
    let v1703 : Vec F S1x8192x128 .bf16 ← Prog.lift (.load arg8 (Rect.unit (s := S1x8192x128) ![0, 0, 0] S1x8192x128.size inb_S1x8192x128_S1x8192x128_0_0_0).toLoadRect (View.loadsAt_vmem h_S1x8192x128))
    Prog.lift (.store arg8 (Rect.unit (s := S1x8192x128) ![0, 0, 0] S1x8192x128.size inb_S1x8192x128_S1x8192x128_0_0_0) (k0_pay2 v1701) Finset.univ (View.stores_vmem h_S1x8192x128 (harg8.storeExact_slice rfl _ packedbf16_S1x8192x128_S1x8192x128_0_0_0) (fun _ => rfl)) (.inl rfl))
    let v1706 : Vec F S8192x128 .f32 ← Prog.lift (.load arg12 (Rect.unit (s := S8192x128) ![0, 0] S8192x128.size inb_S8192x128_S8192x128_0_0).toLoadRect (View.loadsAt_vmem h_S8192x128))
    let v1708 : Vec F S1x8192x128 .bf16 ← Prog.lift (.load arg9 (Rect.unit (s := S1x8192x128) ![0, 0, 0] S1x8192x128.size inb_S1x8192x128_S1x8192x128_0_0_0).toLoadRect (View.loadsAt_vmem h_S1x8192x128))
    Prog.lift (.store arg9 (Rect.unit (s := S1x8192x128) ![0, 0, 0] S1x8192x128.size inb_S1x8192x128_S1x8192x128_0_0_0) (k0_pay3 v1706) Finset.univ (View.stores_vmem h_S1x8192x128 (harg9.storeExact_slice rfl _ packedbf16_S1x8192x128_S1x8192x128_0_0_0) (fun _ => rfl)) (.inl rfl))
    pure ⟨⟩
  else do
    pure ⟨⟩
  pure ⟨⟩

/-- What every step does between the two. -/
def rest (i : grid0.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x8x64x512 .f32) (harg6 : arg6.IsWhole) (arg7 : Memref sig .tc .vmem S1x1024x128 .bf16) (harg7 : arg7.IsWhole) (arg8 : Memref sig .tc .vmem S1x8192x128 .bf16) (harg8 : arg8.IsWhole) (arg9 : Memref sig .tc .vmem S1x8192x128 .bf16) (harg9 : arg9.IsWhole) (arg10 : Memref sig .tc .vmem S1x8x64x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S16x64x512 .f32) (harg13 : arg13.IsWhole) (arg14 : Memref sig .tc .vmem S16x64x512 .f32) (harg14 : arg14.IsWhole) (arg15 : Memref sig .tc .vmem S16x64x512 .bf16) (harg15 : arg15.IsWhole) (arg16 : Memref sig .tc .vmem S16x64x512 .bf16) (harg16 : arg16.IsWhole) :
    { p : Prog (TpuEff nD τ sig (Elt F) Λ₀ .tc) PUnit //
      (¬ cond0 i → cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 = p) ∧
      (cond0 i → cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 = (init i arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ => p)) } := by
  refine ⟨?p, fun h => ?h1, fun h => ?h2⟩
  case h1 =>
    simp only [cc0_attn_bwd_eq_skeleton]; unfold cc0_attn_bwd_skel
    simp only [k0_part52_eq_skeleton]; unfold k0_part52_skel
    simp only [k0_part1_eq_skeleton]; unfold k0_part1_skel
    simp only [dif_neg h, bind_assoc, pure_bind]
    exact rfl
  case h2 =>
    simp only [cc0_attn_bwd_eq_skeleton]; unfold cc0_attn_bwd_skel
    simp only [k0_part52_eq_skeleton]; unfold k0_part52_skel
    simp only [k0_part1_eq_skeleton]; unfold k0_part1_skel
    simp only [dif_pos h, bind_assoc, pure_bind]
    exact rfl

end Cert.AttnIdeal.Body

end
-- ==== Proof.AttnMid.lean ====
module

public import proofs.«01_k».proof.Proof.Gen.AttnIdeal
public import proofs.«01_k».proof.Proof.Gen.AttnIdeal.Skeleton
public import proofs.«01_k».proof.Proof.Gen.AttnIdeal.Frame
public import proofs.«01_k».proof.Proof.AttnRest

/-! The body of the attention gradient runs. -/

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen

variable {F : FTy → Type} [FloatOps F] [Named F]

local notation "𝕄" => MT nD τ sig Unit (Elt F) ℕ (UR sig nD τ) ℕ

set_option maxHeartbeats 4000000 in
/-- The middle of a step, on any buffers: the pieces it writes to the block of `dq`, and what it leaves in the three accumulators. -/
noncomputable def runMid (c : Dev nD) (i : grid0.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x8x64x512 .f32) (harg6 : arg6.IsWhole) (arg7 : Memref sig .tc .vmem S1x1024x128 .bf16) (harg7 : arg7.IsWhole) (arg8 : Memref sig .tc .vmem S1x8192x128 .bf16) (harg8 : arg8.IsWhole) (arg9 : Memref sig .tc .vmem S1x8192x128 .bf16) (harg9 : arg9.IsWhole) (arg10 : Memref sig .tc .vmem S1x8x64x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S16x64x512 .f32) (harg13 : arg13.IsWhole) (arg14 : Memref sig .tc .vmem S16x64x512 .f32) (harg14 : arg14.IsWhole) (arg15 : Memref sig .tc .vmem S16x64x512 .bf16) (harg15 : arg15.IsWhole) (arg16 : Memref sig .tc .vmem S16x64x512 .bf16) (harg16 : arg16.IsWhole)
    (x0 : Vec F S1x1024x128 .bf16) (x1 : Vec F S1x8192x128 .bf16) (x2 : Vec F S1x8192x128 .bf16) (x3 : Vec F S1024x128 .bf16) (x4 : Vec F S1x8x64x512 .f32)
    (xd : Vec F S1x8x64x512 .f32) (xk : Vec F S8192x128 .f32) (xv : Vec F S8192x128 .f32) :
    Σ' (L7 : List (View.Piece (Elt F) S1x1024x128 .bf16)), Σ' (G10 : Vec F S1x8x64x512 .f32), Σ' (G11 : Vec F S8192x128 .f32), { G12 : Vec F S8192x128 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} f) ∗ owns (c : Thread nD τ) arg10 fullShare xd ∗ owns (c : Thread nD τ) arg11 fullShare xk ∗ owns (c : Thread nD τ) arg12 fullShare xv ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ owns (c : Thread nD τ) arg10 fullShare G10 ∗ owns (c : Thread nD τ) arg11 fullShare G11 ∗ owns (c : Thread nD τ) arg12 fullShare G12 ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ wp frame (wpE (defs₀ (F := F)) Variants.none c none) E (tail i arg2 harg2 arg3 harg3 arg4 harg4 arg5 harg5 arg6 harg6 arg7 harg7 arg8 harg8 arg9 harg9 arg10 harg10 arg11 harg11 arg12 harg12 arg13 harg13 arg14 harg14 arg15 harg15 arg16 harg16) K))
          ⊢ wp frame (wpE (defs₀ (F := F)) Variants.none c none) E ((rest i arg2 harg2 arg3 harg3 arg4 harg4 arg5 harg5 arg6 harg6 arg7 harg7 arg8 harg8 arg9 harg9 arg10 harg10 arg11 harg11 arg12 harg12 arg13 harg13 arg14 harg14 arg15 harg15 arg16 harg16).1) K } := by
  refine ⟨?_, ?_, ?_, ?_, fun E K => ?run⟩
  case run =>
    unfold rest; dsimp only
    unfold owns
    iintro ⟨⟨%f0, %hf0, H0⟩, ⟨%f1, %hf1, H1⟩, ⟨%f2, %hf2, H2⟩, ⟨%f3, %hf3, H3⟩, ⟨%f4, %hf4, H4⟩, ⟨%f5, H5⟩, ⟨%f8, %hf8, H8⟩, ⟨%fs0, %hfs0, HS0⟩, ⟨%fs1, %hfs1, HS1⟩, ⟨%fs2, HS2⟩, ⟨%fs3, HS3⟩, ⟨%fs4, HS4⟩, ⟨%fs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hfs0; obtain rfl := harg12.eq_unread hfs1
    set_option sl_exec.stopBefore "k0_cond2" in sl_exec_parts
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H8]
    · iexists _; isplitr
      · ipureintro; rfl
      iexact H8
    isplitl [HS0]
    · iexists _; isplitr
      · ipureintro; rfl
      iexact HS0
    isplitl [HS1]
    · iexists _; isplitr
      · ipureintro; rfl
      iexact HS1
    isplitl [HS2]
    · iexists _; iexact HS2
    isplitl [HS3]
    · iexists _; iexact HS3
    isplitl [HS4]
    · iexists _; iexact HS4
    iexists _; iexact HS5

end Cert.AttnIdeal.Body

end
-- ==== Proof.AttnStep.lean ====
module

public import proofs.«01_k».proof.Proof.Gen.AttnIdeal
public import proofs.«01_k».proof.Proof.Gen.AttnIdeal.Skeleton
public import proofs.«01_k».proof.Proof.Gen.AttnIdeal.Frame
public import proofs.«01_k».proof.Proof.AttnMid
public import Idealize.ShloMosaic.Lib.VecWindow

/-! A whole step of the attention gradient: its first part (on the first step of a head), its middle, its last part (on the last step). -/

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen

variable {F : FTy → Type} [FloatOps F] [Named F]

local notation "𝕄" => MT nD τ sig Unit (Elt F) ℕ (UR sig nD τ) ℕ

variable (c : Dev nD) (i : grid0.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x8x64x512 .f32) (harg6 : arg6.IsWhole) (arg7 : Memref sig .tc .vmem S1x1024x128 .bf16) (harg7 : arg7.IsWhole) (arg8 : Memref sig .tc .vmem S1x8192x128 .bf16) (harg8 : arg8.IsWhole) (arg9 : Memref sig .tc .vmem S1x8192x128 .bf16) (harg9 : arg9.IsWhole) (arg10 : Memref sig .tc .vmem S1x8x64x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S16x64x512 .f32) (harg13 : arg13.IsWhole) (arg14 : Memref sig .tc .vmem S16x64x512 .f32) (harg14 : arg14.IsWhole) (arg15 : Memref sig .tc .vmem S16x64x512 .bf16) (harg15 : arg15.IsWhole) (arg16 : Memref sig .tc .vmem S16x64x512 .bf16) (harg16 : arg16.IsWhole)

set_option maxHeartbeats 4000000 in
/-- The first part clears the three accumulators. -/
theorem init_wp (xd : Vec F S1x8x64x512 .f32) (xk xv : Vec F S8192x128 .f32) (E : Set ℕ) (K : PUnit → sProp 𝕄) :
    iprop(owns (c : Thread nD τ) arg10 fullShare xd ∗ owns (c : Thread nD τ) arg11 fullShare xk ∗ owns (c : Thread nD τ) arg12 fullShare xv
      ∗ (iprop(owns (c : Thread nD τ) arg10 fullShare (k0_pay7 (F := F)) ∗ owns (c : Thread nD τ) arg11 fullShare (k0_pay5 (F := F)) ∗ owns (c : Thread nD τ) arg12 fullShare (k0_pay6 (F := F))) -∗ K ⟨⟩))
    ⊢ wp frame (wpE (defs₀ (F := F)) Variants.none c none) E (init i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold init owns
  iintro ⟨⟨%f8, %hf8, H8⟩, ⟨%fs0, %hfs0, HS0⟩, ⟨%fs1, %hfs1, HS1⟩, Hk⟩
  sl_exec
  sl_step
  iapply Hk
  isplitl [H8]
  · iexists _; isplitr
    swap; · iexact H8
    ipureintro; exact View.read_writes_full _ _ _ _ _
  isplitl [HS0]
  · iexists _; isplitr
    swap; · iexact HS0
    ipureintro; exact View.read_writes_full _ _ _ _ _
  · iexists _; isplitr
    swap; · iexact HS1
    ipureintro; exact View.read_writes_full _ _ _ _ _

set_option maxHeartbeats 4000000 in
/-- The last part hands the two accumulators over on the last step of a head, and does nothing on the others. -/
theorem tail_wp (x6 x7 : Vec F S1x8192x128 .bf16) (xk xv : Vec F S8192x128 .f32) (E : Set ℕ) (K : PUnit → sProp 𝕄) :
    iprop(owns (c : Thread nD τ) arg8 fullShare x6 ∗ owns (c : Thread nD τ) arg9 fullShare x7 ∗ owns (c : Thread nD τ) arg11 fullShare xk ∗ owns (c : Thread nD τ) arg12 fullShare xv
      ∗ (iprop(owns (c : Thread nD τ) arg8 fullShare (if cond1 i then k0_pay2 xk else x6) ∗ owns (c : Thread nD τ) arg9 fullShare (if cond1 i then k0_pay3 xv else x7) ∗ owns (c : Thread nD τ) arg11 fullShare xk ∗ owns (c : Thread nD τ) arg12 fullShare xv) -∗ K ⟨⟩))
    ⊢ wp frame (wpE (defs₀ (F := F)) Variants.none c none) E (tail i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases hc : cond1 i
  · simp only [if_pos hc]
    unfold tail owns
    iintro ⟨⟨%f6, %hf6, H6⟩, ⟨%f7, %hf7, H7⟩, ⟨%fs0, %hfs0, HS0⟩, ⟨%fs1, %hfs1, HS1⟩, Hk⟩
    sl_exec (disch := sl_exact hc)
    sl_step
    iapply Hk
    isplitl [H6]
    · iexists _; isplitr
      swap; · iexact H6
      ipureintro
      refine (View.read_writes_full _ _ _ _ _).trans ?_
      exact congrArg k0_pay2 ((View.readAt_full _ _ _).trans hfs0)
    isplitl [H7]
    · iexists _; isplitr
      swap; · iexact H7
      ipureintro
      refine (View.read_writes_full _ _ _ _ _).trans ?_
      exact congrArg k0_pay3 ((View.readAt_full _ _ _).trans hfs1)
    isplitl [HS0]
    · iexists _; isplitr
      swap; · iexact HS0
      ipureintro; exact hfs0
    · iexists _; isplitr
      swap; · iexact HS1
      ipureintro; exact hfs1
  · simp only [if_neg hc]
    unfold tail
    iintro ⟨H6, H7, HS0, HS1, Hk⟩
    sl_exec (disch := sl_exact hc)
    sl_step
    iapply Hk
    isplitl [H6]; · iexact H6
    isplitl [H7]; · iexact H7
    isplitl [HS0]; · iexact HS0
    iexact HS1

/-- What the accumulators hold where the middle of a step begins: cleared on the first step of a head. -/
def start {s : Shape} {e : EltTy} (i : grid0.Coords) (z x : Vec F s e) : Vec F s e := if cond0 i then z else x

/-- One staging buffer of `dq`'s block, as a view: what the block holds is stated through it. -/
abbrev VO5 : View sig .tc .vmem S1x1024x128 .bf16 := (Memref.whole cc0_stg5_0 : Memref sig .tc .vmem S1x1024x128 .bf16).view

variable (x0 : Vec F S1x1024x128 .bf16) (x1 : Vec F S1x8192x128 .bf16) (x2 : Vec F S1x8192x128 .bf16) (x3 : Vec F S1024x128 .bf16) (x4 : Vec F S1x8x64x512 .f32)

/-- The sixteen pieces a step writes cover `dq`'s block. -/
theorem cover5 (xd : Vec F S1x8x64x512 .f32) (xk xv : Vec F S8192x128 .f32) (y : S1x1024x128.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv).1, y ∈ pc.1.set :=
  View.cover_of_tiledL (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv).1 ![1, 64, 128] (by sl_kernel_rfl) y

/-- `dq`'s block after a step. -/
def outDq (xd : Vec F S1x8x64x512 .f32) (xk xv : Vec F S8192x128 .f32) : Vec F S1x1024x128 .bf16 :=
  VO5.read (Elt F) (VO5.writes (Elt F) VO5.junk (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (start i k0_pay7 xd) (start i k0_pay5 xk) (start i k0_pay6 xv)).1)
/-- `de`'s block after a step. -/
def outDe (xd : Vec F S1x8x64x512 .f32) (xk xv : Vec F S8192x128 .f32) : Vec F S1x8x64x512 .f32 := (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (start i k0_pay7 xd) (start i k0_pay5 xk) (start i k0_pay6 xv)).2.1
/-- The accumulator of `dk` after a step. -/
def outK (xd : Vec F S1x8x64x512 .f32) (xk xv : Vec F S8192x128 .f32) : Vec F S8192x128 .f32 := (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (start i k0_pay7 xd) (start i k0_pay5 xk) (start i k0_pay6 xv)).2.2.1
/-- The accumulator of `dv` after a step. -/
def outV (xd : Vec F S1x8x64x512 .f32) (xk xv : Vec F S8192x128 .f32) : Vec F S8192x128 .f32 := (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (start i k0_pay7 xd) (start i k0_pay5 xk) (start i k0_pay6 xv)).2.2.2.1

theorem start_first {s : Shape} {e : EltTy} {i : grid0.Coords} (h : cond0 i) (z x y : Vec F s e) : start i z x = start i z y :=
  (if_pos h).trans (if_pos h).symm

theorem congr3 {A B C D : Type} (f : A → B → C → D) {a a' : A} {b b' : B} {c c' : C} (ha : a = a') (hb : b = b') (hc : c = c') :
    f a b c = f a' b' c' := by
  rw [ha, hb, hc]

/-- On the first step of a head what the accumulators held does not count. -/
theorem outDq_first (h : cond0 i) (xd yd : Vec F S1x8x64x512 .f32) (xk yk xv yv : Vec F S8192x128 .f32) :
    outDq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv = outDq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 yd yk yv :=
  congr3 (fun d k v => VO5.read (Elt F) (VO5.writes (Elt F) VO5.junk (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 d k v).1))
    (start_first h _ xd yd) (start_first h _ xk yk) (start_first h _ xv yv)
theorem outDe_first (h : cond0 i) (xd yd : Vec F S1x8x64x512 .f32) (xk yk xv yv : Vec F S8192x128 .f32) :
    outDe c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv = outDe c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 yd yk yv :=
  congr3 (fun d k v => (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 d k v).2.1) (start_first h _ xd yd) (start_first h _ xk yk) (start_first h _ xv yv)
theorem outK_first (h : cond0 i) (xd yd : Vec F S1x8x64x512 .f32) (xk yk xv yv : Vec F S8192x128 .f32) :
    outK c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv = outK c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 yd yk yv :=
  congr3 (fun d k v => (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 d k v).2.2.1) (start_first h _ xd yd) (start_first h _ xk yk) (start_first h _ xv yv)
theorem outV_first (h : cond0 i) (xd yd : Vec F S1x8x64x512 .f32) (xk yk xv yv : Vec F S8192x128 .f32) :
    outV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv = outV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 yd yk yv :=
  congr3 (fun d k v => (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 d k v).2.2.2.1) (start_first h _ xd yd) (start_first h _ xk yk) (start_first h _ xv yv)

set_option maxHeartbeats 4000000 in
/-- A whole step. -/
theorem step_wp (x6 x7 : Vec F S1x8192x128 .bf16) (xd : Vec F S1x8x64x512 .f32) (xk xv : Vec F S8192x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} f) ∗ owns (c : Thread nD τ) arg8 fullShare x6 ∗ owns (c : Thread nD τ) arg9 fullShare x7 ∗ owns (c : Thread nD τ) arg10 fullShare xd ∗ owns (c : Thread nD τ) arg11 fullShare xk ∗ owns (c : Thread nD τ) arg12 fullShare xv ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outDq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) ∗ owns (c : Thread nD τ) arg8 fullShare (if cond1 i then k0_pay2 (outK c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) else x6) ∗ owns (c : Thread nD τ) arg9 fullShare (if cond1 i then k0_pay3 (outV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) else x7) ∗ owns (c : Thread nD τ) arg10 fullShare (outDe c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) ∗ owns (c : Thread nD τ) arg11 fullShare (outK c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) ∗ owns (c : Thread nD τ) arg12 fullShare (outV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
    ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hmid : iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} f) ∗ owns (c : Thread nD τ) arg8 fullShare x6 ∗ owns (c : Thread nD τ) arg9 fullShare x7 ∗ owns (c : Thread nD τ) arg10 fullShare (start i k0_pay7 xd) ∗ owns (c : Thread nD τ) arg11 fullShare (start i k0_pay5 xk) ∗ owns (c : Thread nD τ) arg12 fullShare (start i k0_pay6 xv) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outDq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) ∗ owns (c : Thread nD τ) arg8 fullShare (if cond1 i then k0_pay2 (outK c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) else x6) ∗ owns (c : Thread nD τ) arg9 fullShare (if cond1 i then k0_pay3 (outV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) else x7) ∗ owns (c : Thread nD τ) arg10 fullShare (outDe c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) ∗ owns (c : Thread nD τ) arg11 fullShare (outK c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) ∗ owns (c : Thread nD τ) arg12 fullShare (outV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
      ⊢ wp frame (wpE (defs₀ (F := F)) Variants.none c none) E ((rest i arg2 harg2 arg3 harg3 arg4 harg4 arg5 harg5 arg6 harg6 arg7 harg7 arg8 harg8 arg9 harg9 arg10 harg10 arg11 harg11 arg12 harg12 arg13 harg13 arg14 harg14 arg15 harg15 arg16 harg16).1) K := by
    iintro ⟨H0, H1, H2, H3, H4, H5, H6, H7, H8, HS0, HS1, HS2, HS3, HS4, HS5, Hk⟩
    iapply ((runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (start i k0_pay7 xd) (start i k0_pay5 xk) (start i k0_pay6 xv)).2.2.2.2 E K)
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, ⟨%e5, H5⟩, H8, HS0, HS1, HS2, HS3, HS4, HS5⟩
    iapply (tail_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 x6 x7 (outK c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) (outV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv) E K)
    isplitl [H6]; · iexact H6
    isplitl [H7]; · iexact H7
    isplitl [HS0]; · iexact HS0
    isplitl [HS1]; · iexact HS1
    iintro ⟨H6, H7, HS0, HS1⟩
    iapply Hk
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      exact View.read_writes_of_cover _ _ _ _ _ (cover5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 _ _ _)
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    iexact HS5
  by_cases hc : cond0 i
  · rw [(rest i arg2 harg2 arg3 harg3 arg4 harg4 arg5 harg5 arg6 harg6 arg7 harg7 arg8 harg8 arg9 harg9 arg10 harg10 arg11 harg11 arg12 harg12 arg13 harg13 arg14 harg14 arg15 harg15 arg16 harg16).2.2 hc, wp_bind]
    iintro ⟨H0, H1, H2, H3, H4, H5, H6, H7, H8, HS0, HS1, HS2, HS3, HS4, HS5, Hk⟩
    iapply (init_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 xd xk xv E _)
    isplitl [H8]; · iexact H8
    isplitl [HS0]; · iexact HS0
    isplitl [HS1]; · iexact HS1
    iintro ⟨H8, HS0, HS1⟩
    simp only [start, if_pos hc] at hmid
    iapply hmid
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    isplitl [HS5]; · iexact HS5
    iexact Hk
  · rw [(rest i arg2 harg2 arg3 harg3 arg4 harg4 arg5 harg5 arg6 harg6 arg7 harg7 arg8 harg8 arg9 harg9 arg10 harg10 arg11 harg11 arg12 harg12 arg13 harg13 arg14 harg14 arg15 harg15 arg16 harg16).2.1 hc]
    simp only [start, if_neg hc] at hmid
    exact hmid

end Cert.AttnIdeal.Body

end
-- ==== Proof.AttnBody.lean ====
module

public import proofs.«01_k».proof.Proof.Gen.AttnIdeal
public import proofs.«01_k».proof.Proof.Gen.AttnIdeal.Skeleton
public import proofs.«01_k».proof.Proof.Gen.AttnIdeal.Frame
public import proofs.«01_k».proof.Proof.AttnStep
public import Idealize.ShloMosaic.Lib.Claim

/-! The attention gradient as a pipeline of 64 steps (8 heads, 8 steps each): what every buffer holds after a step,
the body at a step, the run, and its frame. -/

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The buffers of a step -/

abbrev ms0 (t : Fin cfg0.N) : Memref sig .tc .vmem S1x1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8192x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x64x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8192x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8192x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8x64x512 .f32 := win0_8.stage (cfg0.slots t 8)
abbrev hs8 (t : Fin cfg0.N) : (ms8 t).IsWhole := hstage0_8 ((cfg0.slots t 8).cast nbuf0_8)
abbrev sc0 : Memref sig .tc .vmem S8192x128 .f32 := Memref.whole cc0_scratch0
abbrev sc1 : Memref sig .tc .vmem S8192x128 .f32 := Memref.whole cc0_scratch1
abbrev sc2 : Memref sig .tc .vmem S16x64x512 .f32 := Memref.whole cc0_scratch2
abbrev sc3 : Memref sig .tc .vmem S16x64x512 .f32 := Memref.whole cc0_scratch3
abbrev sc4 : Memref sig .tc .vmem S16x64x512 .bf16 := Memref.whole cc0_scratch4
abbrev sc5 : Memref sig .tc .vmem S16x64x512 .bf16 := Memref.whole cc0_scratch5

/-- The head begins: the step is a multiple of eight. -/
theorem hcond0 : ∀ t : Fin cfg0.N, cond0 (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [cond0, e1]
    word_cmp
   : ∀ t : Fin grid0.N, cond0 (grid0.coords t) ↔ t.val % 8 = 0)

/-- The head ends: the step is seven above a multiple of eight. -/
theorem hcond1 : ∀ t : Fin cfg0.N, cond1 (grid0.coords t) ↔ t.val % 8 = 7 :=
  (fun t => by
    have ht : t.val < 64 := Nat.lt_of_lt_of_eq t.isLt N_0
    have e1 : (grid0.coords t 1).val = t.val / 1 % 8 := Pipeline.Grid.coords_val t 1 (by decide) rfl
    simp only [cond1, k0_cond2, e1]
    word_cmp
   : ∀ t : Fin grid0.N, cond1 (grid0.coords t) ↔ t.val % 8 = 7)

/-! ### What the buffers hold, step by step -/

/-- The three accumulators: `de`'s block, that of `dk`, that of `dv`. -/
abbrev Acc (F : FTy → Type) [FloatOps F] := Vec F S1x8x64x512 .f32 × Vec F S8192x128 .f32 × Vec F S8192x128 .f32

/-- One step on the accumulators. -/
def stepAcc (c : Dev nD) (t : Fin cfg0.N) (a : Acc F) : Acc F :=
  (outDe c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) a.1 a.2.1 a.2.2,
   outK c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) a.1 a.2.1 a.2.2,
   outV c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) a.1 a.2.1 a.2.2)

/-- The accumulators before step `n` (before the first one: anything, as every head begins by clearing them). -/
def accBefore (c : Dev nD) : (n : ℕ) → Acc F
  | 0 => (k0_pay7, k0_pay5, k0_pay6)
  | n + 1 => if h : n < cfg0.N then stepAcc m c ⟨n, h⟩ (accBefore c n) else accBefore c n

theorem accBefore_succ (c : Dev nD) (t : Fin cfg0.N) :
    accBefore m c (t.val + 1) = stepAcc m c t (accBefore m c t.val) := by
  rw [accBefore, dif_pos t.isLt]

/-- On the first step of a head what the accumulators held does not count. -/
theorem stepAcc_first (c : Dev nD) (t : Fin cfg0.N) (h : cond0 (grid0.coords t)) (a b : Acc F) : stepAcc m c t a = stepAcc m c t b := by
  exact congr3 (fun d k v => (d, k, v)) (outDe_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) h a.1 b.1 a.2.1 b.2.1 a.2.2 b.2.2) (outK_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) h a.1 b.1 a.2.1 b.2.1 a.2.2 b.2.2) (outV_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) h a.1 b.1 a.2.1 b.2.1 a.2.2 b.2.2)

/-- `dq`'s block after step `t`. -/
def dqAt (c : Dev nD) (t : Fin cfg0.N) : Vec F S1x1024x128 .bf16 :=
  outDq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) (accBefore m c t.val).1 (accBefore m c t.val).2.1 (accBefore m c t.val).2.2

/-- The invariant before step `n`: before the first one every scratch buffer holds anything; later the accumulators of
    `dk` and `dv` hold what the steps so far left. -/
def PhiS (c : Dev nD) : ℕ → sProp 𝕄
  | 0 => Pipeline.ΦA spec0 c
  | n + 1 => iprop(iprop(owns (c : Thread nD τ) sc0 fullShare (accBefore m c (n + 1)).2.1 ∗ owns (c : Thread nD τ) sc1 fullShare (accBefore m c (n + 1)).2.2 ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r))

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [owns_whole]; try rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t
    | ⟨6, _⟩ => k0_pay2 (accBefore m c (t.val + 1)).2.1
    | ⟨7, _⟩ => k0_pay3 (accBefore m c (t.val + 1)).2.2
    | ⟨8, _⟩ => (accBefore m c (t.val + 1)).1
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dqAt m c t := by dsimp only [dats]
theorem after_6 (c : Dev nD) (t : Fin cfg0.N) : (dats m 0 c).after 6 t = k0_pay2 (accBefore m c (t.val + 1)).2.1 := by dsimp only [dats]
theorem after_7 (c : Dev nD) (t : Fin cfg0.N) : (dats m 0 c).after 7 t = k0_pay3 (accBefore m c (t.val + 1)).2.2 := by dsimp only [dats]
theorem after_8 (c : Dev nD) (t : Fin cfg0.N) : (dats m 0 c).after 8 t = (accBefore m c (t.val + 1)).1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Inside a head `de`'s block is found as the step before left it. -/
theorem before_8 (c : Dev nD) (t : Fin cfg0.N) (h : ¬ t.val % 8 = 0) (d) : (dats m 0 c).before 8 t d = (accBefore m c t.val).1 := by
  have hz : t.val ≠ 0 := fun e => h (by rw [e])
  rw [Dat.before_out_kept (dats m 0 c) 8 rfl t hz (by
      rw [← Bool.not_eq_true, flush0_8]; intro e; dsimp only at e; omega) (fun _ => rfl) (fun _ _ => rfl) d, after_8]
  have : t.val - 1 + 1 = t.val := Nat.sub_add_cancel (Nat.pos_of_ne_zero hz)
  dsimp only; rw [this]

theorem idle_6 (t : Fin cfg0.N) (h : ¬ cond1 (grid0.coords t)) : cfg0.idle 6 (grid0.coords t) = true := by
  show (!(k0_cond2 (grid0.coords t) == 1#1)) = true
  rw [Bool.not_eq_true', beq_eq_false_iff_ne]; exact h
theorem idle_7 (t : Fin cfg0.N) (h : ¬ cond1 (grid0.coords t)) : cfg0.idle 7 (grid0.coords t) = true := idle_6 t h
theorem live_6 (t : Fin cfg0.N) (h : cond1 (grid0.coords t)) : cfg0.idle 6 (grid0.coords t) = false := by
  show (!(k0_cond2 (grid0.coords t) == 1#1)) = false
  rw [Bool.not_eq_false', beq_iff_eq]; exact h
theorem live_7 (t : Fin cfg0.N) (h : cond1 (grid0.coords t)) : cfg0.idle 7 (grid0.coords t) = false := live_6 t h
theorem noFlush_6 (t : Fin cfg0.N) (h : ¬ cond1 (grid0.coords t)) : (cfg0.win 6).flush t = false := by
  rw [← Bool.not_eq_true, flush0_6]; exact fun e => h ((hcond1 t).mpr e)
theorem noFlush_7 (t : Fin cfg0.N) (h : ¬ cond1 (grid0.coords t)) : (cfg0.win 7).flush t = false := by
  rw [← Bool.not_eq_true, flush0_7]; exact fun e => h ((hcond1 t).mpr e)

/-! ### The body at a step -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

/-- An owned buffer at whatever it holds. -/
theorem owns_forget (c : Dev nD) {sp : Space} {sh : Shape} {e : EltTy} (b : Memref sig .tc sp sh e) (X : sh.Idx → Elt F e) :
    (owns (c : Thread nD τ) b fullShare X : sProp 𝕄) ⊢ iprop(∃ f, b.view.loc (c : Thread nD τ) ↦[b.view.set]{fullShare} f) := by
  unfold owns; iintro ⟨%f, -, H⟩; iexists f; iexact H

theorem owns_any (c : Dev nD) {sp : Space} {sh : Shape} {e : EltTy} (b : Memref sig .tc sp sh e) :
    iprop(∃ f, b.view.loc (c : Thread nD τ) ↦[b.view.set]{fullShare} f) ⊢ (iprop(∃ d, owns (c : Thread nD τ) b fullShare d) : sProp 𝕄) := by
  iintro ⟨%f, H⟩; iexists _; iapply (owns_intro (c : Thread nD τ) b fullShare f); iexact H

/-- The body with the accumulators at any contents that lead to those of the proof data. -/
theorem body_core (c : Dev nD) (t : Fin cfg0.N) (a : Acc F) (ha : stepAcc m c t a = accBefore m c (t.val + 1))
    (hq : outDq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) a.1 a.2.1 a.2.2 = dqAt m c t) (x6 x7 : Vec F S1x8192x128 .bf16) (R : sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ (∃ d, owns (c : Thread nD τ) (ms5 t) fullShare d) ∗ owns (c : Thread nD τ) (ms6 t) fullShare x6 ∗ owns (c : Thread nD τ) (ms7 t) fullShare x7 ∗ owns (c : Thread nD τ) (ms8 t) fullShare a.1 ∗ owns (c : Thread nD τ) sc0 fullShare a.2.1 ∗ owns (c : Thread nD τ) sc1 fullShare a.2.2 ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ r, prngReg c r) ∗ R)
    ⊢ wp frame (wpE (defs₀ (F := F)) Variants.none c none) Set.univ (bodyAt0 t) (fun _ => iprop(
      owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (dqAt m c t) ∗ owns (c : Thread nD τ) (ms6 t) fullShare (if cond1 (grid0.coords t) then k0_pay2 (accBefore m c (t.val + 1)).2.1 else x6) ∗ owns (c : Thread nD τ) (ms7 t) fullShare (if cond1 (grid0.coords t) then k0_pay3 (accBefore m c (t.val + 1)).2.2 else x7) ∗ owns (c : Thread nD τ) (ms8 t) fullShare (accBefore m c (t.val + 1)).1 ∗ PhiS m c (t.val + 1) ∗ R)) := by
  rw [PhiS, ← ha, ← hq]
  unfold bodyAt0 stepAcc
  iintro ⟨H0, H1, H2, H3, H4, ⟨%d5, H5⟩, H6, H7, H8, HS0, HS1, ⟨%e2, HS2⟩, ⟨%e3, HS3⟩, ⟨%e4, HS4⟩, ⟨%e5, HS5⟩, Hg, R⟩
  iapply (step_wp c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) x6 x7 a.1 a.2.1 a.2.2 Set.univ _)
  isplitl [H0]; · iexact H0
  isplitl [H1]; · iexact H1
  isplitl [H2]; · iexact H2
  isplitl [H3]; · iexact H3
  isplitl [H4]; · iexact H4
  isplitl [H5]; · iapply (owns_forget c (ms5 t) d5); iexact H5
  isplitl [H6]; · iexact H6
  isplitl [H7]; · iexact H7
  isplitl [H8]; · iexact H8
  isplitl [HS0]; · iexact HS0
  isplitl [HS1]; · iexact HS1
  isplitl [HS2]; · iapply (owns_forget c sc2 e2); iexact HS2
  isplitl [HS3]; · iapply (owns_forget c sc3 e3); iexact HS3
  isplitl [HS4]; · iapply (owns_forget c sc4 e4); iexact HS4
  isplitl [HS5]; · iapply (owns_forget c sc5 e5); iexact HS5
  iintro ⟨H0, H1, H2, H3, H4, H5, H6, H7, H8, HS0, HS1, HS2, HS3, HS4, HS5⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0 HS1 HS2 HS3 HS4 HS5 Hg]
  · isplitl [HS0 HS1 HS2 HS3 HS4 HS5]
    · isplitl [HS0]; · iexact HS0
      isplitl [HS1]; · iexact HS1
      isplitl [HS2]; · iapply (owns_any c sc2); iexact HS2
      isplitl [HS3]; · iapply (owns_any c sc3); iexact HS3
      isplitl [HS4]; · iapply (owns_any c sc4); iexact HS4
      iapply (owns_any c sc5); iexact HS5
    iexact Hg
  iexact R

/-- The body at a step, its invariant opened: on the first step of a head nothing is asked of the accumulators. -/
theorem sound_body (c : Dev nD) (t : Fin cfg0.N) :
    bodyPre m c t ⊢ wp frame (wpE (defs₀ (F := F)) Variants.none c none) Set.univ (bodyAt0 t) (fun _ => bodyPost m c t) := by
  have post : ∀ d6 d7, iprop(
      owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (dqAt m c t) ∗ owns (c : Thread nD τ) (ms6 t) fullShare (if cond1 (grid0.coords t) then k0_pay2 (accBefore m c (t.val + 1)).2.1 else (dats m 0 c).before 6 t d6) ∗ owns (c : Thread nD τ) (ms7 t) fullShare (if cond1 (grid0.coords t) then k0_pay3 (accBefore m c (t.val + 1)).2.2 else (dats m 0 c).before 7 t d7) ∗ owns (c : Thread nD τ) (ms8 t) fullShare (accBefore m c (t.val + 1)).1 ∗ PhiS m c (t.val + 1) ∗ (dats m 0 c).owesAt () t.castSucc) ⊢ bodyPost m c t := by
    intro d6 d7
    unfold bodyPost
    rw [show (dats m 0 c).owesAt () t.succ = (dats m 0 c).owesAt () t.castSucc from rfl,
      show (dats m 0 c).Φ t.succ = PhiS m c (t.val + 1) from rfl]
    rw [show (dats m 0 c).leavesExact 0 t = owns (c : Thread nD τ) (ms0 t) fullShare ((dats m 0 c).after 0 t) from rfl, after_0, show (dats m 0 c).leavesExact 1 t = owns (c : Thread nD τ) (ms1 t) fullShare ((dats m 0 c).after 1 t) from rfl, after_1, show (dats m 0 c).leavesExact 2 t = owns (c : Thread nD τ) (ms2 t) fullShare ((dats m 0 c).after 2 t) from rfl, after_2, show (dats m 0 c).leavesExact 3 t = owns (c : Thread nD τ) (ms3 t) fullShare ((dats m 0 c).after 3 t) from rfl, after_3, show (dats m 0 c).leavesExact 4 t = owns (c : Thread nD τ) (ms4 t) fullShare ((dats m 0 c).after 4 t) from rfl, after_4, show (dats m 0 c).leavesExact 5 t = owns (c : Thread nD τ) (ms5 t) fullShare ((dats m 0 c).after 5 t) from rfl, after_5, show (dats m 0 c).leavesExact 8 t = owns (c : Thread nD τ) (ms8 t) fullShare ((dats m 0 c).after 8 t) from rfl, after_8]
    by_cases h1 : cond1 (grid0.coords t)
    · simp only [if_pos h1]
      rw [show (dats m 0 c).leavesExact 6 t = owns (c : Thread nD τ) (ms6 t) fullShare ((dats m 0 c).after 6 t) from by
        unfold Dat.leavesExact; rw [live_6 t h1], after_6]
      rw [show (dats m 0 c).leavesExact 7 t = owns (c : Thread nD τ) (ms7 t) fullShare ((dats m 0 c).after 7 t) from by
        unfold Dat.leavesExact; rw [live_7 t h1], after_7]
      iintro ⟨H0, H1, H2, H3, H4, H5, H6, H7, H8, HP, Ho⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · simp only [if_neg h1]
      rw [Dat.leavesExact_idle (dats m 0 c) 6 t (idle_6 t h1) (noFlush_6 t h1), Dat.leavesExact_idle (dats m 0 c) 7 t (idle_7 t h1) (noFlush_7 t h1)]
      iintro ⟨H0, H1, H2, H3, H4, H5, H6, H7, H8, HP, Ho⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexact H8
  unfold bodyPre
  simp only [before_0, before_1, before_2, before_3, before_4]
  rw [show (dats m 0 c).Φ t.castSucc = PhiS m c t.val from rfl]
  by_cases h0 : t.val % 8 = 0
  · have hc := (hcond0 t).mpr h0
    by_cases hz : t.val = 0
    · rw [hz, show PhiS m c 0 = Pipeline.ΦA spec0 c from rfl, PhiA_eq]
      iintro ⟨⟨⟨⟨%xk, HS0⟩, ⟨%xv, HS1⟩, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (((body_core m c t ((dats m 0 c).before 8 t d8, xk, xv) ((stepAcc_first m c t hc _ _).trans (accBefore_succ m c t).symm)
        (outDq_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) hc _ _ _ _ _ _) ((dats m 0 c).before 6 t d6) ((dats m 0 c).before 7 t d7) ((dats m 0 c).owesAt () t.castSucc)).trans (wp_mono _ _ _ (fun _ => post d6 d7))))
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [Hg]; · iexact Hg
      iexact Ho
    · obtain ⟨n, hn⟩ : ∃ n, t.val = n + 1 := ⟨t.val - 1, (Nat.sub_add_cancel (Nat.pos_of_ne_zero hz)).symm⟩
      rw [hn, PhiS]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (((body_core m c t ((dats m 0 c).before 8 t d8, (accBefore m c (n + 1)).2.1, (accBefore m c (n + 1)).2.2) ((stepAcc_first m c t hc _ _).trans (accBefore_succ m c t).symm)
        (outDq_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) hc _ _ _ _ _ _) ((dats m 0 c).before 6 t d6) ((dats m 0 c).before 7 t d7) ((dats m 0 c).owesAt () t.castSucc)).trans (wp_mono _ _ _ (fun _ => post d6 d7))))
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [Hg]; · iexact Hg
      iexact Ho
  · obtain ⟨n, hn⟩ : ∃ n, t.val = n + 1 := ⟨t.val - 1, (Nat.sub_add_cancel (Nat.pos_of_ne_zero fun e => h0 (by rw [e]))).symm⟩
    simp only [before_8 m c t h0]
    rw [hn, PhiS, ← hn]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (((body_core m c t (accBefore m c t.val) (accBefore_succ m c t).symm
        rfl ((dats m 0 c).before 6 t d6) ((dats m 0 c).before 7 t d7) ((dats m 0 c).owesAt () t.castSucc)).trans (wp_mono _ _ _ (fun _ => post d6 d7))))
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [Hg]; · iexact Hg
    iexact Ho

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

/-- After the last step what the accumulators hold is forgotten. -/
theorem hout (c : Dev nD) : (dats m 0 c).Φ (Fin.last cfg0.N) ⊢ Pipeline.ΦA spec0 c := by
  have e : (Fin.last cfg0.N).val = 63 + 1 := by rw [Fin.val_last]; exact N_0
  rw [show (dats m 0 c).Φ (Fin.last cfg0.N) = PhiS m c (Fin.last cfg0.N).val from rfl, e, PhiS, PhiA_eq]
  iintro ⟨⟨HS0, HS1, H⟩, Hg⟩
  isplitl [HS0 HS1 H]
  · isplitl [HS0]; · iexists _; iexact HS0
    isplitl [HS1]; · iexists _; iexact HS1
    iexact H
  iexact Hg

/-! ### The run and the frame -/

set_option backward.isDefEq.respectTransparency.types false in
theorem run_main_quiescent : θ_run defs (onTc (τ := τ) (main (F := F))) (s₀ m ρ)
    (fun r => (Pipeline.FramePost cfgs (dats m) 0 (Pipeline.afterTail₀ cfgs (dats m) 0 (V0 m) [hostOps1, hostOps1_1, hostOps1_2])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  (θ_run defs _ _).mono (fun _ h => h.1) (run_main_quiescent m ρ)

/-- The frame: every run ends, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.AttnIdeal.Body

end
-- ==== Proof.AttnBits.lean ====
module

public import proofs.«01_k».proof.Proof.Gen.Attn
public import proofs.«01_k».proof.Proof.AttnBody

/-! The program as printed and the program with its two constants named are one program wherever the names stand for
the printed literals: the frame of the second is the frame of the first. -/

@[expose] public section

set_option maxRecDepth 16384

noncomputable section

namespace Cert.Attn.Body

open Idealize.ShloMosaic Idealize.ShloMosaic.TcCoe Idealize.SL.Sem

variable {F : FTy → Type} [FloatOps F]

/-- Every name read as its literal. -/
abbrev literal : Named F := ⟨fun _ _ φ bits => Scalar.ofBits φ bits⟩

variable (m : (ℓ : Loc nD τ sig) → Buf (Elt F) ℓ) (ρ : Dev nD → PrngReg)

attribute [local instance] literal in
theorem run_eq (Q) : θ_run (Cert.AttnIdeal.defs (F := F)) (onTc (τ := τ) (Cert.AttnIdeal.main (F := F))) ⟨m, fun _ => 0, ρ⟩ Q
    = θ_run (defs (F := F)) (onTc (τ := τ) (main (F := F))) ⟨m, fun _ => 0, ρ⟩ Q := by sl_kernel_rfl

attribute [local instance] literal in
/-- The frame: every run ends, leaves the arguments as they were and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (run_eq m ρ _).mp (Cert.AttnIdeal.Body.frame (F := F) m ρ)

end Cert.Attn.Body
-- ==== Proof.Soft.lean ====
/-
  The softmax of a row of scores some of which are masked: the masked ones are `−∞` among the extended reals, and
  their probability is zero. Whatever real number is taken off the scores before the exponential, the quotient is the
  same, so a program that takes off the maximum computes `soft`.
-/
module

public import proofs.«01_k».proof.Proof.Reals

@[expose] public section

noncomputable section

namespace Cert.Soft

open Idealize.ShloMosaic

variable {N : ℕ}

/-- The exponentials of the scores the mask lets through, a real number `r` taken off first. -/
def ex (m : Fin N → Prop) [DecidablePred m] (x : Fin N → ℝ) (r : ℝ) (j : Fin N) : ℝ := if m j then Real.exp (x j - r) else 0

/-- The masked softmax. -/
def soft (m : Fin N → Prop) [DecidablePred m] (x : Fin N → ℝ) (j : Fin N) : ℝ := ex m x 0 j / ∑ k, ex m x 0 k

variable (m : Fin N → Prop) [DecidablePred m] (x : Fin N → ℝ)

theorem ex_pos {r : ℝ} {j : Fin N} (h : m j) : 0 < ex m x r j := by
  unfold ex; rw [if_pos h]; exact Real.exp_pos _

theorem ex_nonneg (r : ℝ) (j : Fin N) : 0 ≤ ex m x r j := by
  unfold ex; split
  · exact (Real.exp_pos _).le
  · exact le_refl _

theorem sum_pos (r : ℝ) (h : ∃ j, m j) : 0 < ∑ k, ex m x r k := by
  obtain ⟨j, hj⟩ := h
  exact Finset.sum_pos' (fun k _ => ex_nonneg m x r k) ⟨j, Finset.mem_univ _, ex_pos m x hj⟩

theorem ex_shift (r : ℝ) (j : Fin N) : ex m x r j = Real.exp (-r) * ex m x 0 j := by
  unfold ex; split
  · rw [← Real.exp_add]; congr 1; ring
  · rw [mul_zero]

/-- What is taken off the scores does not count. -/
theorem soft_shift (r : ℝ) (j : Fin N) : ex m x r j / ∑ k, ex m x r k = soft m x j := by
  unfold soft
  simp only [ex_shift m x r, ← Finset.mul_sum]
  exact mul_div_mul_left _ _ (Real.exp_pos _).ne'

theorem soft_of_not {j : Fin N} (h : ¬ m j) : soft m x j = 0 := by
  unfold soft ex; rw [if_neg h, zero_div]

/-- The score of an entry: its real value, or `−∞` where the mask stops it. -/
def score (j : Fin N) : EReal := if m j then (x j : EReal) else ⊥

/-- The exponential of a score with a real number taken off. -/
theorem exp_score (r : ℝ) (j : Fin N) : Ideal.exp (score m x j - (r : EReal)) = ((ex m x r j : ℝ) : EReal) := by
  unfold score ex
  split
  · rw [Reals.sub]; rfl
  · rw [EReal.bot_sub]; rfl

/-- The maximum of a row with an entry the mask lets through is a real number. -/
theorem max_score (h : ∃ j, m j) : ∃ r : ℝ, Finset.univ.fold max (⊥ : EReal) (score m x) = (r : EReal) := by
  obtain ⟨j, hj⟩ := h
  have e : Finset.univ.fold max (⊥ : EReal) (score m x) = Finset.univ.sup (score m x) := rfl
  rw [e]
  obtain ⟨k, -, hk⟩ := Finset.exists_mem_eq_sup Finset.univ ⟨j, Finset.mem_univ j⟩ (score m x)
  have hb : score m x j ≤ Finset.univ.sup (score m x) := Finset.le_sup (Finset.mem_univ j)
  rw [hk] at hb ⊢
  by_cases hm : m k
  · exact ⟨x k, if_pos hm⟩
  · exfalso
    unfold score at hb
    rw [if_pos hj, if_neg hm] at hb
    exact absurd hb (not_le.mpr (EReal.bot_lt_coe _))

/-- The quotient a program computes. -/
theorem quot_score (r : ℝ) (h : ∃ j, m j) (j : Fin N) :
    Ideal.div (Ideal.exp (score m x j - (r : EReal))) (∑ k, Ideal.exp (score m x k - (r : EReal))) = ((soft m x j : ℝ) : EReal) := by
  simp only [exp_score]
  rw [Reals.sum, Reals.div (sum_pos m x r h).ne', soft_shift]

theorem ofBits_neg_inf : Ideal.ofBits .f32 0xFF800000#32 = ⊥ := by
  simp [Ideal.ofBits, Ideal.ieee]

end Cert.Soft

end
-- ==== Proof.AttnMath.lean ====
/-
  The gradient of neighbourhood attention over the real numbers, one row of queries with its window of keys at a time.
-/
module

public import proofs.«01_k».proof.Proof.Soft

@[expose] public section

noncomputable section

namespace Cert.AttnMath

/-- The first key row of the window of query row `r`. -/
def start (r : ℕ) : ℕ := min 120 (r - 4)

/-- Query column `q` sees the columns of its window only: key `j` of the window lies in column `j % 64`. -/
def colm (q : Fin 64) (j : Fin 512) : Prop := min 48 (q.val - 8) ≤ j.val % 64 ∧ j.val % 64 < min 48 (q.val - 8) + 16

instance (q : Fin 64) : DecidablePred (colm q) := fun j => by unfold colm; infer_instance

theorem colm_some (q : Fin 64) : ∃ j, colm q j :=
  ⟨⟨min 48 (q.val - 8), by omega⟩, by unfold colm; dsimp only; omega⟩

section Row

variable (Q : Fin 64 → Fin 128 → ℝ) (K V : Fin 512 → Fin 128 → ℝ) (E : Fin 64 → Fin 512 → ℝ) (C : Fin 64 → Fin 128 → ℝ)

/-- A score: the scaled product and its bias. -/
def sc (q : Fin 64) (j : Fin 512) : ℝ := (∑ d, Q q d * K j d) * (Real.sqrt 128)⁻¹ + E q j
/-- A probability. -/
def pr (q : Fin 64) (j : Fin 512) : ℝ := Soft.soft (colm q) (sc Q K E q) j
/-- The cotangent of a probability. -/
def dp (q : Fin 64) (j : Fin 512) : ℝ := ∑ d, C q d * V j d
/-- The cotangent of a score. -/
def ds (q : Fin 64) (j : Fin 512) : ℝ := pr Q K E q j * (dp V C q j - ∑ k, dp V C q k * pr Q K E q k)

end Row

end Cert.AttnMath

end
-- ==== Proof.AttnHost.lean ====
/-
  The host lines around the attention gradient's kernel: the heads' rows of `z`, the bias table spread over the windows,
  and the gradient of the table collected from the windows.
-/
module

public import proofs.«01_k».proof.Proof.AttnBody
public import proofs.«01_k».proof.Proof.AttnMath
public import Idealize.ShloMosaic.Lib.Pointwise
public import Idealize.ShloMosaic.Lib.StableHlo.RunRead

@[expose] public section

set_option maxRecDepth 16384

noncomputable section

namespace Cert.AttnIdeal.Host

open Idealize.ShloMosaic Idealize.ShloMosaic.TcCoe Idealize.ShloMosaic.Tactic Idealize.SL.Sem
open Cert.AttnIdeal Cert.AttnIdeal.Gen Cert.AttnIdeal.Body Cert

/-- The column of the bias table at a pair of columns, as the program computes it. -/
def colIdx : IVec S64x64 32 :=
  minsi (broadcastInDim S64x64 ![] bcast_S_S64x64 (constantI S_ 32 30#32))
    (maxsi (broadcastInDim S64x64 ![] bcast_S_S64x64 (constantI S_ 32 0#32))
      (subi (addi (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
        (broadcastInDim S64x64 ![] bcast_S_S64x64 (constantI S_ 32 16#32)))
      (broadcastInDim S64x64 ![] bcast_S_S64x64 (constantI S_ 32 1#32))))

/-- Which column of the table a pair of columns reads: one where it is that one. -/
def byCol : FVec Ideal S31x64x64 .f32 :=
  uitofp .f32 (cmpi .eq (broadcastInDim S31x64x64 ![0, 1, 2] bcast_S1x64x64_S31x64x64_0_1_2 (broadcastInDim S1x64x64 ![1, 2] bcast_S64x64_S1x64x64_1_2 colIdx))
    (broadcastInDim S31x64x64 ![0, 1, 2] bcast_S31x1x1_S31x64x64_0_1_2 (broadcastInDim S31x1x1 ![0] bcast_S31_S31x1x1_0 (iotaInDim S31 32 0))))

/-- Which row of the table a window's shift and a row of it read. -/
def byRow : FVec Ideal S15x8x8 .f32 :=
  uitofp .f32 (cmpi .eq (broadcastInDim S15x8x8 ![0, 1, 2] bcast_S15x1x1_S15x8x8_0_1_2 (broadcastInDim S15x1x1 ![0] bcast_S15_S15x1x1_0 (iotaInDim S15 32 0)))
    (broadcastInDim S15x8x8 ![0, 1, 2] bcast_S1x8x8_S15x8x8_0_1_2 (broadcastInDim S1x8x8 ![1, 2] bcast_S8x8_S1x8x8_1_2
      (addi (broadcastInDim S8x8 ![0, 1] bcast_S8x1_S8x8_0_1 (broadcastInDim S8x1 ![0] bcast_S8_S8x1_0 (iotaInDim S8 32 0)))
        (broadcastInDim S8x8 ![0, 1] bcast_S1x8_S8x8_0_1 (broadcastInDim S1x8 ![1] bcast_S8_S1x8_1 (iotaInDim S8 32 0)))))))

/-- The table at every pair of columns. -/
def spreadCol (r : FVec Ideal S8x15x31 .f32) : FVec Ideal S8x15x64x64 .f32 :=
  Host.reduceAdd (mulf (broadcastInDim S8x15x31x64x64 ![0, 1, 2, 3, 4] bcast_S8x15x31x1x1_S8x15x31x64x64_0_1_2_3_4 (broadcastInDim S8x15x31x1x1 ![0, 1, 2] bcast_S8x15x31_S8x15x31x1x1_0_1_2 r))
      (broadcastInDim S8x15x31x64x64 ![0, 1, 2, 3, 4] bcast_S1x1x31x64x64_S8x15x31x64x64_0_1_2_3_4 (broadcastInDim S1x1x31x64x64 ![2, 3, 4] bcast_S31x64x64_S1x1x31x64x64_2_3_4 byCol)))
    (constant S_ .f32 0x00000000#32) reducesTo_S8x15x31x64x64_S8x15x64x64_d2 h_S_

/-- The table at every place of every window. -/
def spread (r : FVec Ideal S8x15x31 .f32) : FVec Ideal S8x8x64x8x64 .f32 :=
  Host.reduceAdd (mulf (broadcastInDim S8x15x8x64x8x64 ![0, 1, 2, 3, 4, 5] bcast_S8x15x1x64x1x64_S8x15x8x64x8x64_0_1_2_3_4_5 (broadcastInDim S8x15x1x64x1x64 ![0, 1, 3, 5] bcast_S8x15x64x64_S8x15x1x64x1x64_0_1_3_5 (spreadCol r)))
      (broadcastInDim S8x15x8x64x8x64 ![0, 1, 2, 3, 4, 5] bcast_S1x15x8x1x8x1_S8x15x8x64x8x64_0_1_2_3_4_5 (broadcastInDim S1x15x8x1x8x1 ![1, 2, 4] bcast_S15x8x8_S1x15x8x1x8x1_1_2_4 byRow)))
    (constant S_ .f32 0x00000000#32) reducesTo_S8x15x8x64x8x64_S8x8x64x8x64_d1 h_S_

/-- The gradient of the table at every pair of columns. -/
def collectRow (d : FVec Ideal S8x8x64x8x64 .f32) : FVec Ideal S8x15x64x64 .f32 :=
  Host.reduceAdd (mulf (broadcastInDim S8x15x8x64x8x64 ![0, 1, 2, 3, 4, 5] bcast_S8x1x8x64x8x64_S8x15x8x64x8x64_0_1_2_3_4_5 (broadcastInDim S8x1x8x64x8x64 ![0, 2, 3, 4, 5] bcast_S8x8x64x8x64_S8x1x8x64x8x64_0_2_3_4_5 d))
      (broadcastInDim S8x15x8x64x8x64 ![0, 1, 2, 3, 4, 5] bcast_S1x15x8x1x8x1_S8x15x8x64x8x64_0_1_2_3_4_5 (broadcastInDim S1x15x8x1x8x1 ![1, 2, 4] bcast_S15x8x8_S1x15x8x1x8x1_1_2_4 byRow)))
    (constant S_ .f32 0x00000000#32) reducesTo_S8x15x8x64x8x64_S8x15x64x64_d2_4 h_S_

/-- The gradient of the table. -/
def collect (d : FVec Ideal S8x8x64x8x64 .f32) : FVec Ideal S8x15x31 .f32 :=
  Host.reduceAdd (mulf (broadcastInDim S8x15x31x64x64 ![0, 1, 2, 3, 4] bcast_S8x15x1x64x64_S8x15x31x64x64_0_1_2_3_4 (broadcastInDim S8x15x1x64x64 ![0, 1, 3, 4] bcast_S8x15x64x64_S8x15x1x64x64_0_1_3_4 (collectRow d)))
      (broadcastInDim S8x15x31x64x64 ![0, 1, 2, 3, 4] bcast_S1x1x31x64x64_S8x15x31x64x64_0_1_2_3_4 (broadcastInDim S1x1x31x64x64 ![2, 3, 4] bcast_S31x64x64_S1x1x31x64x64_2_3_4 byCol)))
    (constant S_ .f32 0x00000000#32) reducesTo_S8x15x31x64x64_S8x15x31_d3_4 h_S_

/-- The column of the bias table for query column `q` and key column `k`. -/
def dc (q k : Fin 64) : Fin 31 := ⟨min 30 (k.val + 15 - q.val), by omega⟩

/-- A comparison's bit as a number. -/
theorem of_bit (p : Prop) [Decidable p] : (FloatOps.uitofp .f32 (if p then 1#1 else 0#1) : Ideal .f32) = ((if p then 1 else 0 : ℝ) : EReal) := by
  split
  · show (((1#1).toNat : ℝ) : EReal) = _
    simp
  · show (((0#1).toNat : ℝ) : EReal) = _
    simp

theorem byCol_apply (e : Fin 31) (q k : Fin 64) : byCol (ix3 e q k) = ((if dc q k = e then 1 else 0 : ℝ) : EReal) := by
  have h : ∀ (q k : Fin 64), IntOp.minsi 30#32 (IntOp.maxsi 0#32 (IntOp.subi (IntOp.addi (IntOp.subi (BitVec.ofNat 32 k.val) (BitVec.ofNat 32 q.val)) 16#32) 1#32)) = BitVec.ofNat 32 (dc q k).val := by decide +kernel
  have h' : ∀ (a b : Fin 31), IntOp.cmpi .eq (BitVec.ofNat 32 a.val) (BitVec.ofNat 32 b.val) = if a = b then 1#1 else 0#1 := by decide +kernel
  pointwise [byCol, colIdx]
  rw [h, h']
  exact of_bit _
theorem byRow_apply (r : Fin 15) (d j : Fin 8) : byRow (ix3 r d j) = ((if r.val = d.val + j.val then 1 else 0 : ℝ) : EReal) := by
  have h : ∀ (r : Fin 15) (d j : Fin 8), IntOp.cmpi .eq (BitVec.ofNat 32 r.val) (IntOp.addi (BitVec.ofNat 32 d.val) (BitVec.ofNat 32 j.val)) = if r.val = d.val + j.val then 1#1 else 0#1 := by decide +kernel
  pointwise [byRow]
  rw [h]
  exact of_bit _

/-- A host sum over several axes is the sum over the indices that keep `j`'s coordinates. -/
theorem sum_axes {ι : Type} [Fintype ι] {s t : Shape} {axes : List (Fin s.rank)} (h : s.ReducesTo axes t) (x : s.Idx → EReal)
    (j : t.Idx) (e : ι → s.Idx) (he : Function.Injective e) (hf : ∀ i, h.drop i = j ↔ ∃ k, e k = i) :
    Ideal.hostReduceAdd h x 0 j = ∑ k, x (e k) :=
  (zero_add _).trans (Finset.sum_filter_eq_sum_of_fiber _ e (fun _ _ => @he _ _) hf x)

theorem sum_1 (x : FVec Ideal S8x15x8x64x8x64 .f32) (h d : Fin 8) (q : Fin 64) (j : Fin 8) (k : Fin 64) :
    Ideal.hostReduceAdd reducesTo_S8x15x8x64x8x64_S8x8x64x8x64_d1 x 0 (ix5 h d q j k) = ∑ a : Fin 15, x (ix6 h a d q j k) := by
  refine sum_axes _ x _ (fun a : Fin 15 => ix6 h a d q j k) (fun _ _ e => congrFun e 1) fun i => ⟨fun e => ⟨i 1, ?_⟩, ?_⟩
  · have e0 := congrFun e 0; have e1 := congrFun e 1; have e2 := congrFun e 2; have e3 := congrFun e 3; have e4 := congrFun e 4
    refine funext fun b => ?_
    match b with
    | ⟨0, _⟩ => exact e0.symm
    | ⟨1, _⟩ => rfl
    | ⟨2, _⟩ => exact e1.symm
    | ⟨3, _⟩ => exact e2.symm
    | ⟨4, _⟩ => exact e3.symm
    | ⟨5, _⟩ => exact e4.symm
  · rintro ⟨k, rfl⟩
    refine funext fun b => ?_
    match b with
    | ⟨0, _⟩ => rfl
    | ⟨1, _⟩ => rfl
    | ⟨2, _⟩ => rfl
    | ⟨3, _⟩ => rfl
    | ⟨4, _⟩ => rfl

section Spread

variable {r : FVec Ideal S8x15x31 .f32} {R : Fin 8 → Fin 15 → Fin 31 → ℝ} (hr : ∀ h a b, r (ix3 h a b) = (R h a b : EReal))
include hr

theorem spreadCol_apply (h : Fin 8) (a : Fin 15) (q k : Fin 64) : spreadCol r (ix4 h a q k) = ((R h a (dc q k) : ℝ) : EReal) := by
  pointwise [spreadCol]
  simp only [hr, byCol_apply, Reals.mul, Reals.sum]
  refine Reals.congr ?_
  simp

theorem spread_apply (h d : Fin 8) (q : Fin 64) (j : Fin 8) (k : Fin 64) : spread r (ix5 h d q j k) = ((R h ⟨d.val + j.val, by omega⟩ (dc q k) : ℝ) : EReal) := by
  have hs := spreadCol_apply hr
  unfold spread
  refine (congrArg (fun z => Ideal.hostReduceAdd reducesTo_S8x15x8x64x8x64_S8x8x64x8x64_d1 _ z _) Ideal.ofBits_zero_f32).trans ((sum_1 _ h d q j k).trans ?_)
  have e : ∀ a : Fin 15, mulf
      (broadcastInDim S8x15x8x64x8x64 ![0, 1, 2, 3, 4, 5] bcast_S8x15x1x64x1x64_S8x15x8x64x8x64_0_1_2_3_4_5
          (broadcastInDim S8x15x1x64x1x64 ![0, 1, 3, 5] bcast_S8x15x64x64_S8x15x1x64x1x64_0_1_3_5 (spreadCol r)))
        (broadcastInDim S8x15x8x64x8x64 ![0, 1, 2, 3, 4, 5] bcast_S1x15x8x1x8x1_S8x15x8x64x8x64_0_1_2_3_4_5
          (broadcastInDim S1x15x8x1x8x1 ![1, 2, 4] bcast_S15x8x8_S1x15x8x1x8x1_1_2_4 byRow)) (ix6 h a d q j k)
      = ((R h a (dc q k) * (if a.val = d.val + j.val then 1 else 0) : ℝ) : EReal) := by
    intro a
    pointwise []
    rw [hs, byRow_apply, Reals.mul]
  refine (Finset.sum_congr rfl fun a _ => e a).trans ((Reals.sum _ _).trans (Reals.congr ?_))
  rw [Finset.sum_eq_single ⟨d.val + j.val, by omega⟩ (fun b _ hb => by rw [if_neg (fun e => hb (Fin.ext e)), mul_zero]) (fun h => absurd (Finset.mem_univ _) h), if_pos rfl, mul_one]

end Spread

theorem sum_24 (x : FVec Ideal S8x15x8x64x8x64 .f32) (h : Fin 8) (a : Fin 15) (q k : Fin 64) :
    Ideal.hostReduceAdd reducesTo_S8x15x8x64x8x64_S8x15x64x64_d2_4 x 0 (ix4 h a q k) = ∑ d : Fin 8, ∑ j : Fin 8, x (ix6 h a d q j k) := by
  refine (sum_axes _ x _ (fun p : Fin 8 × Fin 8 => ix6 h a p.1 q p.2 k) (fun _ _ e => Prod.ext (congrFun e 2) (congrFun e 4))
    fun i => ⟨fun e => ⟨(i 2, i 4), ?_⟩, ?_⟩).trans (Fintype.sum_prod_type _)
  · have e0 := congrFun e 0; have e1 := congrFun e 1; have e2 := congrFun e 2; have e3 := congrFun e 3
    refine funext fun b => ?_
    match b with
    | ⟨0, _⟩ => exact e0.symm
    | ⟨1, _⟩ => exact e1.symm
    | ⟨2, _⟩ => rfl
    | ⟨3, _⟩ => exact e2.symm
    | ⟨4, _⟩ => rfl
    | ⟨5, _⟩ => exact e3.symm
  · rintro ⟨k, rfl⟩
    refine funext fun b => ?_
    match b with
    | ⟨0, _⟩ => rfl
    | ⟨1, _⟩ => rfl
    | ⟨2, _⟩ => rfl
    | ⟨3, _⟩ => rfl

theorem sum_34 (x : FVec Ideal S8x15x31x64x64 .f32) (h : Fin 8) (a : Fin 15) (b : Fin 31) :
    Ideal.hostReduceAdd reducesTo_S8x15x31x64x64_S8x15x31_d3_4 x 0 (ix3 h a b) = ∑ q : Fin 64, ∑ k : Fin 64, x (ix5 h a b q k) := by
  refine (sum_axes _ x _ (fun p : Fin 64 × Fin 64 => ix5 h a b p.1 p.2) (fun _ _ e => Prod.ext (congrFun e 3) (congrFun e 4))
    fun i => ⟨fun e => ⟨(i 3, i 4), ?_⟩, ?_⟩).trans (Fintype.sum_prod_type _)
  · have e0 := congrFun e 0; have e1 := congrFun e 1; have e2 := congrFun e 2
    refine funext fun b => ?_
    match b with
    | ⟨0, _⟩ => exact e0.symm
    | ⟨1, _⟩ => exact e1.symm
    | ⟨2, _⟩ => exact e2.symm
    | ⟨3, _⟩ => rfl
    | ⟨4, _⟩ => rfl
  · rintro ⟨k, rfl⟩
    refine funext fun b => ?_
    match b with
    | ⟨0, _⟩ => rfl
    | ⟨1, _⟩ => rfl
    | ⟨2, _⟩ => rfl

section Collect

variable {x : FVec Ideal S8x8x64x8x64 .f32} {D : Fin 8 → Fin 8 → Fin 64 → Fin 8 → Fin 64 → ℝ} (hx : ∀ h d q j k, x (ix5 h d q j k) = (D h d q j k : EReal))
include hx

theorem collectRow_apply (h : Fin 8) (a : Fin 15) (q k : Fin 64) :
    collectRow x (ix4 h a q k) = ((∑ d, ∑ j, D h d q j k * (if a.val = d.val + j.val then 1 else 0) : ℝ) : EReal) := by
  unfold collectRow
  refine (congrArg (fun z => Ideal.hostReduceAdd reducesTo_S8x15x8x64x8x64_S8x15x64x64_d2_4 _ z _) Ideal.ofBits_zero_f32).trans ((sum_24 _ h a q k).trans ?_)
  simp only [← Reals.sum]
  refine Finset.sum_congr rfl fun d _ => Finset.sum_congr rfl fun j _ => ?_
  pointwise []
  rw [hx, byRow_apply, Reals.mul]

theorem collect_apply (h : Fin 8) (a : Fin 15) (b : Fin 31) :
    collect x (ix3 h a b) = ((∑ q, ∑ k, (∑ d, ∑ j, D h d q j k * (if a.val = d.val + j.val then 1 else 0)) * (if dc q k = b then 1 else 0) : ℝ) : EReal) := by
  have hs := collectRow_apply hx
  unfold collect
  refine (congrArg (fun z => Ideal.hostReduceAdd reducesTo_S8x15x31x64x64_S8x15x31_d3_4 _ z _) Ideal.ofBits_zero_f32).trans ((sum_34 _ h a b).trans ?_)
  simp only [← Reals.sum]
  refine Finset.sum_congr rfl fun q _ => Finset.sum_congr rfl fun k _ => ?_
  pointwise []
  rw [hs, byCol_apply, Reals.mul]

end Collect

section Buffers

variable (m : (ℓ : Loc nD τ sig) → Buf (Elt Ideal) ℓ) (c : Dev nD)

theorem V_v1 : V m c main_v1 = transpose S24x8192x128 [1, 0, 2] (shapeCast S8192x24x128 (m ((c : Thread nD τ).loc main_arg0) : FVec Ideal S8192x3072 .bf16) shapeCasts_S8192x3072_S8192x24x128) transposes_S8192x24x128_S24x8192x128_1_0_2 := by
  after_reads_simp
  rfl
theorem V_v46 : V m c main_v46 = shapeCast S8x8x64x512 (spread (m ((c : Thread nD τ).loc main_arg2))) shapeCasts_S8x8x64x8x64_S8x8x64x512 := by
  after_reads_simp
  rfl

/-- The array of `de` as the lines after the kernel find it. -/
theorem found_de : Pipeline.withArrays spec0 c (V0 m c) (fun w => (dats m 0 c).arrAt w (cfgs 0).N) (Proc.devRef .tc main_v47_3) = (dats m 0 c).arrAt 8 (cfgs 0).N := by
  refine Pipeline.withArrays_arr_shared spec0 c (V0 m c) (fun w => (dats m 0 c).arrAt w (cfgs 0).N) (fun w w' hne e => ?_) 8
  have hin : (cfg0.win w).isOut = false := by
    revert w w'; decide
  exact ((dats m 0 c).arrAt_in w hin _).trans (A_eq m c w)

theorem W_v92 : Pipeline.afterTail₀ cfgs (dats m) 0 (V0 m) [hostOps1, hostOps1_1, hostOps1_2] c main_v92
    = collect (shapeCast S8x8x64x8x64 ((dats m 0 c).arrAt 8 (cfgs 0).N : FVec Ideal S8x8x64x512 .f32) shapeCasts_S8x8x64x512_S8x8x64x8x64) := by
  rw [← found_de]
  unfold Pipeline.afterTail₀
  after_reads_simp
  rfl

end Buffers

end Cert.AttnIdeal.Host

end
-- ==== Proof.AttnRefIdx.lean ====
/-
  The neighbourhood of a query and the places of the bias table in `reference.py`'s attention, as numbers; the bias
  looked up there and the gradient of the table collected there.
-/
module

public import proofs.«01_k».proof.Proof.Gen.AttnRefIdeal
public import proofs.«01_k».proof.Proof.Gen.AttnRefIdeal.Run
public import proofs.«01_k».proof.Proof.Gen.AttnRefIdeal.Read
public import proofs.«01_k».proof.Proof.AttnHost
public import Idealize.ShloMosaic.Lib.Pointwise
public import Idealize.ShloMosaic.Lib.Routing.OpsPair

@[expose] public section

set_option maxRecDepth 16384

noncomputable section

namespace Cert.AttnRefIdeal.Val

open Idealize.ShloMosaic Idealize.ShloMosaic.TcCoe
open Cert.AttnRefIdeal Cert.AttnRefIdeal.Gen Cert.AttnRefIdeal.Read Cert

/-- The row and the column of a position. -/
abbrev row (i : Fin 8192) : Fin 128 := ⟨i.val / 64, by omega⟩
@[inherit_doc row]
abbrev col (i : Fin 8192) : Fin 64 := ⟨i.val % 64, Nat.mod_lt _ (by decide)⟩

theorem v10 (i : Fin 8192) : val_main_v10 (F := Ideal) (ix1 i) = BitVec.ofNat 32 (row i).val := by
  have h : ∀ i : Fin 8192, IntOp.divsi .host (BitVec.ofNat 32 i.val) 64#32 = BitVec.ofNat 32 (i.val / 64) := by decide +kernel
  exact h i
theorem v12 (i : Fin 8192) : val_main_v12 (F := Ideal) (ix1 i) = BitVec.ofNat 32 (col i).val := by
  have h : ∀ i : Fin 8192, IntOp.remsi .host (BitVec.ofNat 32 i.val) 64#32 = BitVec.ofNat 32 (i.val % 64) := by decide +kernel
  exact h i
theorem v15 (i : Fin 8192) : val_main_v15 (F := Ideal) (ix1 i) = BitVec.ofNat 32 (AttnMath.start (row i).val) := by
  have h : ∀ r : Fin 128, IntOp.minsi 120#32 (IntOp.maxsi 0#32 (IntOp.subi (BitVec.ofNat 32 r.val) 4#32)) = BitVec.ofNat 32 (AttnMath.start r.val) := by
    unfold AttnMath.start; decide +kernel
  refine Eq.trans ?_ (h (row i))
  rw [← v10]; rfl
theorem v18 (i : Fin 8192) : val_main_v18 (F := Ideal) (ix1 i) = BitVec.ofNat 32 (min 48 ((col i).val - 8)) := by
  have h : ∀ q : Fin 64, IntOp.minsi 48#32 (IntOp.maxsi 0#32 (IntOp.subi (BitVec.ofNat 32 q.val) 8#32)) = BitVec.ofNat 32 (min 48 (q.val - 8)) := by
    decide +kernel
  refine Eq.trans ?_ (h (col i))
  rw [← v12]; rfl

/-- A key a query attends to. -/
def near (i k : Fin 8192) : Prop :=
  (AttnMath.start (row i).val ≤ (row k).val ∧ (row k).val < AttnMath.start (row i).val + 8)
    ∧ (min 48 ((col i).val - 8) ≤ (col k).val ∧ (col k).val < min 48 ((col i).val - 8) + 16)

instance (i : Fin 8192) : DecidablePred (near i) := fun k => by unfold near; infer_instance

theorem near_some (i : Fin 8192) : ∃ k, near i k :=
  ⟨⟨64 * AttnMath.start (row i).val + min 48 ((col i).val - 8), by unfold AttnMath.start; omega⟩, by
    unfold near AttnMath.start row col; dsimp only; omega⟩

theorem v45 (i k : Fin 8192) : val_main_v45 (F := Ideal) (ix2 i k) = if near i k then 1#1 else 0#1 := by
  have h : ∀ a b : Fin 128, IntOp.andi (IntOp.cmpi .sge (BitVec.ofNat 32 a.val) (BitVec.ofNat 32 (AttnMath.start b.val)))
      (IntOp.cmpi .slt (BitVec.ofNat 32 a.val) (IntOp.addi (BitVec.ofNat 32 (AttnMath.start b.val)) 8#32))
      = if AttnMath.start b.val ≤ a.val ∧ a.val < AttnMath.start b.val + 8 then 1#1 else 0#1 := by
    unfold AttnMath.start; decide +kernel
  have h1 : ∀ a b : Fin 64, IntOp.cmpi .sge (BitVec.ofNat 32 a.val) (BitVec.ofNat 32 (min 48 (b.val - 8)))
      = if min 48 (b.val - 8) ≤ a.val then 1#1 else 0#1 := by
    decide +kernel
  have h2 : ∀ a b : Fin 64, IntOp.cmpi .slt (BitVec.ofNat 32 a.val) (IntOp.addi (BitVec.ofNat 32 (min 48 (b.val - 8))) 16#32)
      = if a.val < min 48 (b.val - 8) + 16 then 1#1 else 0#1 := by
    decide +kernel
  have e : ∀ (p q r : Prop) [Decidable p] [Decidable q] [Decidable r], IntOp.andi (IntOp.andi (if p then 1#1 else 0#1) (if q then 1#1 else 0#1)) (if r then 1#1 else 0#1)
      = if p ∧ q ∧ r then 1#1 else 0#1 := by
    intro p q r _ _ _
    by_cases hp : p <;> by_cases hq : q <;> by_cases hr : r <;> simp [hp, hq, hr, IntOp.andi]
  have e0 : val_main_v45 (F := Ideal) (ix2 i k) = IntOp.andi (IntOp.andi (IntOp.andi
      (IntOp.cmpi .sge (val_main_v10 (F := Ideal) (ix1 k)) (val_main_v15 (F := Ideal) (ix1 i)))
      (IntOp.cmpi .slt (val_main_v10 (F := Ideal) (ix1 k)) (IntOp.addi (val_main_v15 (F := Ideal) (ix1 i)) 8#32)))
      (IntOp.cmpi .sge (val_main_v12 (F := Ideal) (ix1 k)) (val_main_v18 (F := Ideal) (ix1 i))))
      (IntOp.cmpi .slt (val_main_v12 (F := Ideal) (ix1 k)) (IntOp.addi (val_main_v18 (F := Ideal) (ix1 i)) 16#32)) := by
    pointwise [val_main_v45, val_main_v44, val_main_v43, val_main_v42, val_main_v41, val_main_v40, val_main_c_8, val_main_v39, val_main_v38, val_main_v37,
      val_main_v36, val_main_v35, val_main_v34, val_main_v33, val_main_v32, val_main_v31, val_main_v30, val_main_v29, val_main_v28, val_main_v27, val_main_v26, val_main_c_7,
      val_main_v25, val_main_v24, val_main_v23, val_main_v22, val_main_v21, val_main_v20, val_main_v19]
  rw [e0, v10, v12, v15, v18, h, h1, h2]
  exact e _ _ _

/-- The place of the bias table for a query and a key. -/
def dr (i k : Fin 8192) : Fin 15 := ⟨min 14 ((row k).val + 7 - (row i).val), by omega⟩

theorem v70 (i k : Fin 8192) : val_main_v70 (F := Ideal) (ix2 i k) = BitVec.ofNat 32 (dr i k).val := by
  have h : ∀ a b : Fin 128, IntOp.minsi 14#32 (IntOp.maxsi 0#32 (IntOp.subi (IntOp.addi (IntOp.subi (BitVec.ofNat 32 a.val) (BitVec.ofNat 32 b.val)) 8#32) 1#32))
      = BitVec.ofNat 32 (min 14 (a.val + 7 - b.val)) := by decide +kernel
  have h' : ∀ a : Fin 15, Scalar.select (IntOp.cmpi .slt (BitVec.ofNat 32 a.val) 0#32) (IntOp.addi (BitVec.ofNat 32 a.val) 15#32) (BitVec.ofNat 32 a.val) = BitVec.ofNat 32 a.val := by decide +kernel
  have e : val_main_v55 (F := Ideal) (ix2 i k) = BitVec.ofNat 32 (dr i k).val := by
    refine Eq.trans ?_ (h (row k) (row i))
    rw [← v10, ← v10]
    pointwise [val_main_v55, val_main_call2_v4, val_main_call2_v3, val_main_c_12, val_main_call2_v2, val_main_call2_v1, val_main_call2_v0, val_main_c_11, val_main_v54, val_main_v53, val_main_c_10,
      val_main_v52, val_main_v51, val_main_c_9, val_main_v50, val_main_v49, val_main_v48, val_main_v47, val_main_v46]
    try rfl
  refine Eq.trans ?_ (h' (dr i k))
  rw [← e]
  rfl

theorem v75 (i k : Fin 8192) : val_main_v75 (F := Ideal) (ix2 i k) = BitVec.ofNat 32 (AttnIdeal.Host.dc (col i) (col k)).val := by
  have h : ∀ a b : Fin 64, IntOp.minsi 30#32 (IntOp.maxsi 0#32 (IntOp.subi (IntOp.addi (IntOp.subi (BitVec.ofNat 32 a.val) (BitVec.ofNat 32 b.val)) 16#32) 1#32))
      = BitVec.ofNat 32 (min 30 (a.val + 15 - b.val)) := by decide +kernel
  have h' : ∀ a : Fin 31, Scalar.select (IntOp.cmpi .slt (BitVec.ofNat 32 a.val) 0#32) (IntOp.addi (BitVec.ofNat 32 a.val) 31#32) (BitVec.ofNat 32 a.val) = BitVec.ofNat 32 a.val := by decide +kernel
  have e : val_main_v65 (F := Ideal) (ix2 i k) = BitVec.ofNat 32 (AttnIdeal.Host.dc (col i) (col k)).val := by
    refine Eq.trans ?_ (h (col k) (col i))
    rw [← v12, ← v12]
    pointwise [val_main_v65, val_main_call3_v4, val_main_call3_v3, val_main_c_16, val_main_call3_v2, val_main_call3_v1, val_main_call3_v0, val_main_c_15, val_main_v64, val_main_v63, val_main_c_14,
      val_main_v62, val_main_v61, val_main_c_13, val_main_v60, val_main_v59, val_main_v58, val_main_v57, val_main_v56]
    try rfl
  refine Eq.trans ?_ (h' (AttnIdeal.Host.dc (col i) (col k)))
  rw [← e]
  rfl

theorem v78_0 (i k : Fin 8192) : val_main_v78 (F := Ideal) (ix3 i k 0) = BitVec.ofNat 32 (dr i k).val := by
  refine Eq.trans ?_ (v70 i k)
  pointwise [val_main_v78, val_main_v76, val_main_v77]
theorem v78_1 (i k : Fin 8192) : val_main_v78 (F := Ideal) (ix3 i k 1) = BitVec.ofNat 32 (AttnIdeal.Host.dc (col i) (col k)).val := by
  refine Eq.trans ?_ (v75 i k)
  pointwise [val_main_v78, val_main_v76, val_main_v77]

end Cert.AttnRefIdeal.Val

end
-- ==== Proof.AttnRefTab.lean ====
/-
  The bias of `reference.py`'s attention looked up in its table, and a gradient of the table collected by adding every
  score's cotangent at its place.
-/
module

public import proofs.«01_k».proof.Proof.AttnRefIdx

@[expose] public section

set_option maxRecDepth 16384

noncomputable section

namespace Cert.AttnRefIdeal.Val

open Idealize.ShloMosaic Idealize.ShloMosaic.TcCoe
open Cert.AttnRefIdeal Cert.AttnRefIdeal.Gen Cert.AttnRefIdeal.Read Cert

theorem toInt_small {n : ℕ} (h : n < 32) : (BitVec.ofNat 32 n).toInt = n := by
  rw [BitVec.toInt_ofNat']
  have : (n : Int).bmod (2 ^ 32) = n := by
    rw [Int.bmod_eq_of_le] <;> norm_num <;> omega
  simpa using this

abbrev G := gather_S8x15x31_S8192x8192x2_S8x8192x8192_0_12_n_n_12_2_811
abbrev D := scatter_S8x15x31_S8192x8192x2_S8x8192x8192_0_12_12_2

theorem G_si (h : Fin 8) (i k : Fin 8192) (q : Fin 2) : G.siIdx (ix3 h i k) q = ix3 i k q := by
  funext b; refine Fin.ext ?_
  match b with
  | ⟨0, _⟩ => rfl
  | ⟨1, _⟩ => rfl
  | ⟨2, _⟩ => rfl

variable (idx : IVec S8192x8192x2 32)

/-- The look-up at a place that the two words name. -/
theorem gather_at (x : FVec Ideal S8x15x31 .f32) (h : Fin 8) (i k : Fin 8192) (A : Fin 15) (B : Fin 31)
    (h0 : idx (ix3 i k 0) = BitVec.ofNat 32 A.val) (h1 : idx (ix3 i k 1) = BitVec.ofNat 32 B.val) :
    Host.gather G x idx (ix3 h i k) = x (ix3 h A B) := by
  have s0 : G.start (ix3 h i k) idx 0 = 0 := by
    unfold GatherDims.start
    rw [dif_neg (show (0 : Fin 3) ∉ G.startIndexMap by decide)]
  have s1 : G.start (ix3 h i k) idx 1 = A.val := by
    unfold GatherDims.start
    rw [dif_pos (show (1 : Fin 3) ∈ G.startIndexMap by decide)]
    have := congrArg (fun z => min (idx z).toInt.toNat 14) (G_si h i k 0)
    refine Eq.trans (this : _) ?_
    rw [h0, toInt_small (by omega)]
    have := A.isLt
    omega
  have s2 : G.start (ix3 h i k) idx 2 = B.val := by
    unfold GatherDims.start
    rw [dif_pos (show (2 : Fin 3) ∈ G.startIndexMap by decide)]
    have := congrArg (fun z => min (idx z).toInt.toNat 30) (G_si h i k 1)
    refine Eq.trans (this : _) ?_
    rw [h1, toInt_small (by omega)]
    have := B.isLt
    omega
  have b : ∀ a, G.batchCoord (ix3 h i k) a = 0 := fun a => GatherDims.batchCoord_eq_zero _ _ _ List.not_mem_nil
  have o0 : G.offCoord (ix3 h i k) 0 = h.val := rfl
  have o1 : G.offCoord (ix3 h i k) 1 = 0 := rfl
  have o2 : G.offCoord (ix3 h i k) 2 = 0 := rfl
  refine congrArg x (funext fun a => Fin.ext ?_)
  show G.start _ idx a + G.batchCoord (ix3 h i k) a + G.offCoord (ix3 h i k) a = _
  rw [b]
  match a with
  | ⟨0, _⟩ => exact (congrArg₂ (fun y z => y + 0 + z) s0 o0).trans (by show 0 + 0 + h.val = h.val; omega)
  | ⟨1, _⟩ => exact congrArg₂ (fun y z => y + 0 + z) s1 o1
  | ⟨2, _⟩ => exact congrArg₂ (fun y z => y + 0 + z) s2 o2

theorem v79 (x : FVec Ideal S8x15x31 .f32) (h : Fin 8) (i k : Fin 8192) :
    val_main_v79 (F := Ideal) x (ix3 h i k) = x (ix3 h (dr i k) (AttnIdeal.Host.dc (col i) (col k))) :=
  gather_at _ x h i k _ _ (v78_0 i k) (v78_1 i k)

theorem D_si (h : Fin 8) (i k : Fin 8192) (q : Fin 2) : D.siIdx (ix3 h i k) q = ix3 i k q := by
  funext b; refine Fin.ext ?_
  match b with
  | ⟨0, _⟩ => rfl
  | ⟨1, _⟩ => rfl
  | ⟨2, _⟩ => rfl

/-- Where an addend lands that the two words place. -/
theorem lands (h g : Fin 8) (i k : Fin 8192) (A a : Fin 15) (B b : Fin 31)
    (h0 : idx (ix3 i k 0) = BitVec.ofNat 32 A.val) (h1 : idx (ix3 i k 1) = BitVec.ofNat 32 B.val) :
    D.resultIdx? (ix3 h i k) idx = some (ix3 g a b) ↔ h = g ∧ A = a ∧ B = b := by
  have s0 : D.start (ix3 h i k) idx 0 = 0 := by
    unfold ScatterDims.start
    rw [dif_neg (show (0 : Fin 3) ∉ D.scatterDimsToOperandDims by decide)]
  have s1 : D.start (ix3 h i k) idx 1 = A.val := by
    unfold ScatterDims.start
    rw [dif_pos (show (1 : Fin 3) ∈ D.scatterDimsToOperandDims by decide)]
    have := congrArg (fun z => (idx z).toInt) (D_si h i k 0)
    refine Eq.trans (this : _) ?_
    rw [h0, toInt_small (by omega)]
  have s2 : D.start (ix3 h i k) idx 2 = B.val := by
    unfold ScatterDims.start
    rw [dif_pos (show (2 : Fin 3) ∈ D.scatterDimsToOperandDims by decide)]
    have := congrArg (fun z => (idx z).toInt) (D_si h i k 1)
    refine Eq.trans (this : _) ?_
    rw [h1, toInt_small (by omega)]
  have w0 : D.window (ix3 h i k) 0 = h.val := rfl
  have w1 : D.window (ix3 h i k) 1 = 0 := rfl
  have w2 : D.window (ix3 h i k) 2 = 0 := rfl
  refine (Routing.resultIdx?_eq_some D (ix3 h i k) idx (ix3 g a b)).trans ⟨fun q => ?_, ?_⟩
  · have q0 := q 0; have q1 := q 1; have q2 := q 2
    rw [s0, w0] at q0; rw [s1, w1] at q1; rw [s2, w2] at q2
    refine ⟨Fin.ext ?_, Fin.ext ?_, Fin.ext ?_⟩
    · have : ((0 : Int) + h.val) = g.val := q0
      omega
    · have : ((A.val : Int) + (0 : ℕ)) = a.val := q1
      omega
    · have : ((B.val : Int) + (0 : ℕ)) = b.val := q2
      omega
  · rintro ⟨rfl, rfl, rfl⟩ c
    match c with
    | ⟨0, _⟩ => exact (congrArg₂ (fun (y : Int) (z : ℕ) => y + (z : Int)) s0 w0).trans (by show (0 : Int) + h.val = h.val; omega)
    | ⟨1, _⟩ => exact (congrArg₂ (fun (y : Int) (z : ℕ) => y + (z : Int)) s1 w1).trans (by show (A.val : Int) + (0 : ℕ) = A.val; omega)
    | ⟨2, _⟩ => exact (congrArg₂ (fun (y : Int) (z : ℕ) => y + (z : Int)) s2 w2).trans (by show (B.val : Int) + (0 : ℕ) = B.val; omega)

/-- What the collection adds up at a place of the table. -/
theorem collect_at (u : FVec Ideal S8x8192x8192 .f32) {U : Fin 8 → Fin 8192 → Fin 8192 → ℝ} (hu : ∀ h i k, u (ix3 h i k) = (U h i k : EReal))
    (g : Fin 8) (a : Fin 15) (b : Fin 31) :
    Host.scatterAdd D (val_main_v140 (F := Ideal)) (val_main_v78 (F := Ideal)) u (ix3 g a b)
      = ((∑ i, ∑ k, (if dr i k = a ∧ AttnIdeal.Host.dc (col i) (col k) = b then U g i k else 0) : ℝ) : EReal) := by
  have z : val_main_v140 (F := Ideal) (ix3 g a b) = 0 := Ideal.ofBits_zero_f32
  show val_main_v140 (F := Ideal) (ix3 g a b) + ∑ j ∈ Finset.univ.filter (fun j => D.resultIdx? j (val_main_v78 (F := Ideal)) = some (ix3 g a b)), u j = _
  rw [z, zero_add, Finset.sum_filter]
  simp only [← Reals.sum]
  refine Eq.trans ?_ (Fintype.sum_prod_type (fun p : Fin 8192 × Fin 8192 => (((if dr p.1 p.2 = a ∧ AttnIdeal.Host.dc (col p.1) (col p.2) = b then U g p.1 p.2 else 0 : ℝ) : EReal))))
  symm
  refine Finset.sum_of_injOn (fun p : Fin 8192 × Fin 8192 => (ix3 g p.1 p.2 : S8x8192x8192.Idx)) ?_ (fun _ _ => Finset.mem_coe.mpr (Finset.mem_univ _)) ?_ ?_
  · intro p _ q _ e
    exact Prod.ext (congrFun e 1) (congrFun e 2)
  · intro j _ hj
    rw [if_neg]
    intro hl
    replace hl := (lands _ (j 0) g (j 1) (j 2) _ a _ b (v78_0 (j 1) (j 2)) (v78_1 (j 1) (j 2))).mp
      ((congrArg (fun z => D.resultIdx? z (val_main_v78 (F := Ideal))) (eq_ix3 j)).symm.trans hl)
    have e : (ix3 g (j 1) (j 2) : S8x8192x8192.Idx) = j := by rw [← hl.1]; exact (eq_ix3 j).symm
    rw [Finset.coe_univ, Set.image_univ] at hj
    exact hj (Set.mem_range.mpr ⟨((j 1, j 2) : Fin 8192 × Fin 8192), e⟩)
  · intro p _
    have hl := lands _ g g p.1 p.2 _ a _ b (v78_0 p.1 p.2) (v78_1 p.1 p.2)
    refine Eq.trans ?_ (if_congr hl.symm (hu g p.1 p.2).symm rfl)
    by_cases hp : dr p.1 p.2 = a ∧ AttnIdeal.Host.dc (col p.1) (col p.2) = b
    · rw [if_pos hp, if_pos ⟨rfl, hp⟩]
    · rw [if_neg hp, if_neg fun q => hp q.2]; rfl

end Cert.AttnRefIdeal.Val

end
-- ==== Proof.AttnLists.lean ====
module

public import proofs.«01_k».proof.Proof.Gen.AttnIdeal
public import proofs.«01_k».proof.Proof.Gen.AttnIdeal.Skeleton
public import proofs.«01_k».proof.Proof.AttnStep
public import Idealize.ShloMosaic.Lib.WindowSumWrites
public import Idealize.ShloMosaic.Lib.WholeRead
public import Idealize.ShloMosaic.Lib.Pipeline.ReadBack
public import Idealize.ShloMosaic.Lib.Pipeline.ValueKit

/-! What a step of the attention gradient leaves in each buffer, as functions of the blocks it reads: the sixteen
rows of a step, each with its window of keys. -/

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen

variable {F : FTy → Type} [FloatOps F] [Named F]

local notation "𝕄" => MT nD τ sig Unit (Elt F) ℕ (UR sig nD τ) ℕ

/-! ### The rows of a step, over the blocks -/

/-- The offsets' bounds, which the program's own stores rest on. -/
theorem inb1 (i : grid0.Coords) : ∀ n : Fin 16, ∀ a, k0_off1 i (BitVec.ofNat 32 n.val) a + S1x512x128.size a ≤ S1x8192x128.size a := by
  unfold k0_off1; dsimp only
  generalize i 1 = s
  revert s
  decide +kernel
theorem inb2 (i : grid0.Coords) : ∀ n : Fin 16, ∀ a, k0_off2 i (BitVec.ofNat 32 n.val) a + S1x1x64x512.size a ≤ S1x8x64x512.size a := by
  unfold k0_off2; dsimp only
  generalize i 1 = s
  revert s
  decide +kernel
theorem inb3 (i : grid0.Coords) : ∀ n : Fin 16, ∀ a, k0_off3 i (BitVec.ofNat 32 n.val) a + S512x128.size a ≤ S8192x128.size a := by
  unfold k0_off3; dsimp only
  generalize i 1 = s
  revert s
  decide +kernel
theorem inbQ : ∀ n : Fin 16, ∀ a, (![0, 64 * n.val, 0] : Fin 3 → ℕ) a + S1x64x128.size a ≤ S1x1024x128.size a := by decide +kernel
theorem inbO : ∀ n : Fin 16, ∀ a, (![64 * n.val, 0] : Fin 2 → ℕ) a + S64x128.size a ≤ S1024x128.size a := by decide +kernel
theorem inbT : ∀ n : Fin 16, ∀ a, (![n.val, 0, 0] : Fin 3 → ℕ) a + S1x64x512.size a ≤ S16x64x512.size a := by decide +kernel

section Rows

variable (i : grid0.Coords) (x0 : Vec F S1x1024x128 .bf16) (x1 : Vec F S1x8192x128 .bf16) (x2 : Vec F S1x8192x128 .bf16) (x3 : Vec F S1024x128 .bf16) (x4 : Vec F S1x8x64x512 .f32) (n : Fin 16)

def qTile : Vec F S64x128 .bf16 := shapeCast S64x128 (View.ld x0 (Rect.unit (s := S1x1024x128) ![0, 64 * n.val, 0] S1x64x128.size (inbQ n))) shapeCasts_S1x64x128_S64x128
def keyTile (x : Vec F S1x8192x128 .bf16) : Vec F S512x128 .bf16 :=
  shapeCast S512x128 (View.ld x (Rect.unit (s := S1x8192x128) (k0_off1 i (BitVec.ofNat 32 n.val)) S1x512x128.size (inb1 i n))) shapeCasts_S1x512x128_S512x128
def oTile : Vec F S64x128 .bf16 := View.ld x3 (Rect.unit (s := S1024x128) ![64 * n.val, 0] S64x128.size (inbO n))
def eTile : Vec F S1x1x64x512 .f32 := View.ld x4 (Rect.unit (s := S1x8x64x512) (k0_off2 i (BitVec.ofNat 32 n.val)) S1x1x64x512.size (inb2 i n))
/-- The scores of a row. -/
def sTile : Vec F S1x64x512 .f32 :=
  shapeCast S1x64x512 (matmul dot_S64x128_S512x128_S64x512_1_1_0_0_n_n none (qTile x0 n) (keyTile i n x1) (constant S64x512 .f32 0#32)) shapeCasts_S64x512_S1x64x512
/-- The cotangents of a row's probabilities. -/
def dpTile : Vec F S1x64x512 .f32 :=
  shapeCast S1x64x512 (matmul dot_S64x128_S512x128_S64x512_1_1_0_0_n_n none (oTile x3 n) (keyTile i n x2) (constant S64x512 .f32 0#32)) shapeCasts_S64x512_S1x64x512
/-- The probabilities of a row. -/
def pTile : Vec F S1x64x512 .bf16 :=
  k0_pay50 k0_pay4 (shapeCast S64x512 (sTile i x0 x1 n) shapeCasts_S1x64x512_S64x512) (eTile i x4 n)
/-- What a row adds to the block of `de`. -/
def ePay (acc : Vec F S1x1x64x512 .f32) : Vec F S1x1x64x512 .f32 :=
  k0_pay49 k0_pay4 (shapeCast S64x512 (sTile i x0 x1 n) shapeCasts_S1x64x512_S64x512) (eTile i x4 n) (dpTile i x2 x3 n) acc
/-- The scaled cotangents of a row's scores. -/
def dsTile : Vec F S1x64x512 .bf16 :=
  k0_pay52 (k0_pay51 k0_pay4 (shapeCast S64x512 (sTile i x0 x1 n) shapeCasts_S1x64x512_S64x512) (eTile i x4 n) (dpTile i x2 x3 n))
/-- A row of `dq`. -/
def qPay : Vec F S1x64x128 .bf16 :=
  shapeCast S1x64x128 (truncf .bf16 (matmul dot_S64x512_S512x128_S64x128_1_0_0_1_n_n none (shapeCast S64x512 (dsTile i x0 x1 x2 x3 x4 n) shapeCasts_S1x64x512_S64x512) (keyTile i n x1) (constant S64x128 .f32 0#32)) bitsLt_bf16_f32) shapeCasts_S64x128_S1x64x128
/-- What a row makes of its window of the accumulator of `dv`. -/
def vPay (acc : Vec F S512x128 .f32) : Vec F S512x128 .f32 :=
  shapeCast S512x128 (addf acc (matmul dot_S64x512_S64x128_S512x128_0_0_1_1_n_n none (shapeCast S64x512 (pTile i x0 x1 x4 n) shapeCasts_S1x64x512_S64x512) (oTile x3 n) (constant S512x128 .f32 0#32))) shapeCasts_S512x128_S512x128
/-- What a row makes of its window of the accumulator of `dk`. -/
def kPay (acc : Vec F S512x128 .f32) : Vec F S512x128 .f32 :=
  shapeCast S512x128 (addf acc (matmul dot_S64x512_S64x128_S512x128_0_0_1_1_n_n none (shapeCast S64x512 (dsTile i x0 x1 x2 x3 x4 n) shapeCasts_S1x64x512_S64x512) (qTile x0 n) (constant S512x128 .f32 0#32))) shapeCasts_S512x128_S512x128

end Rows

/-! ### The writes of a step are those of its rows -/

/-- A tile read back from the sixteen written: the one written there. -/
theorem readCov_tiles {κ : Kind} {sp : Space} {e : EltTy} (v : View sig κ sp S16x64x512 e) (P : Fin 16 → Vec F S1x64x512 e) (n : Fin 16) :
    v.readCov (View.tilePieces (s := S16x64x512) S1x64x512.size (fun n : Fin 16 => ![n.val, 0, 0]) inbT P 16 (Nat.le_refl _)) (Rect.unit (s := S16x64x512) ![n.val, 0, 0] S1x64x512.size (inbT n)).toLoadRect = P n := by
  have key : ∀ (j : ℕ) (hj : j ≤ 16), n.val < j → v.readCov (View.tilePieces (s := S16x64x512) S1x64x512.size (fun n : Fin 16 => ![n.val, 0, 0]) inbT P j hj) (Rect.unit (s := S16x64x512) ![n.val, 0, 0] S1x64x512.size (inbT n)).toLoadRect = P n := by
    intro j
    induction j with
    | zero => intro hj h; exact absurd h (Nat.not_lt_zero _)
    | succ j ih =>
      intro hj h
      rw [View.tilePieces_succ]
      by_cases e : n.val = j
      · have e' : (⟨j, hj⟩ : Fin 16) = n := Fin.ext e.symm
        rw [e']
        exact View.readCov_cons_toLoadRect v _ _ _
      · rw [View.readCov_skip]
        · exact ih _ (by omega)
        · have hd : ∀ a b : Fin 16, a ≠ b → LoadRect.disj (Rect.unit (s := S16x64x512) ![a.val, 0, 0] S1x64x512.size (inbT a)) (Rect.unit (s := S16x64x512) ![b.val, 0, 0] S1x64x512.size (inbT b)).toLoadRect = true := by
            decide +kernel
          exact hd ⟨j, hj⟩ n (fun q => e (congrArg Fin.val q).symm)
  exact key 16 (Nat.le_refl _) n.isLt

section Run

variable (c : Dev nD) (i : grid0.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x8x64x512 .f32) (harg6 : arg6.IsWhole) (arg7 : Memref sig .tc .vmem S1x1024x128 .bf16) (harg7 : arg7.IsWhole) (arg8 : Memref sig .tc .vmem S1x8192x128 .bf16) (harg8 : arg8.IsWhole) (arg9 : Memref sig .tc .vmem S1x8192x128 .bf16) (harg9 : arg9.IsWhole) (arg10 : Memref sig .tc .vmem S1x8x64x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S16x64x512 .f32) (harg13 : arg13.IsWhole) (arg14 : Memref sig .tc .vmem S16x64x512 .f32) (harg14 : arg14.IsWhole) (arg15 : Memref sig .tc .vmem S16x64x512 .bf16) (harg15 : arg15.IsWhole) (arg16 : Memref sig .tc .vmem S16x64x512 .bf16) (harg16 : arg16.IsWhole)
variable (x0 : Vec F S1x1024x128 .bf16) (x1 : Vec F S1x8192x128 .bf16) (x2 : Vec F S1x8192x128 .bf16) (x3 : Vec F S1024x128 .bf16) (x4 : Vec F S1x8x64x512 .f32)

def rq (n : Fin 16) : Vec F S64x128 .bf16 := shapeCast S64x128 (View.readAt (Elt F) arg2.view (Rect.unit (s := S1x1024x128) ![0, 64 * n.val, 0] S1x64x128.size (inbQ n)).toLoadRect (harg2.unread x0)) shapeCasts_S1x64x128_S64x128
def rk (n : Fin 16) : Vec F S512x128 .bf16 := shapeCast S512x128 (View.readAt (Elt F) arg3.view (Rect.unit (s := S1x8192x128) (k0_off1 i (BitVec.ofNat 32 n.val)) S1x512x128.size (inb1 i n)).toLoadRect (harg3.unread x1)) shapeCasts_S1x512x128_S512x128
def rv (n : Fin 16) : Vec F S512x128 .bf16 := shapeCast S512x128 (View.readAt (Elt F) arg4.view (Rect.unit (s := S1x8192x128) (k0_off1 i (BitVec.ofNat 32 n.val)) S1x512x128.size (inb1 i n)).toLoadRect (harg4.unread x2)) shapeCasts_S1x512x128_S512x128
def ro (n : Fin 16) : Vec F S64x128 .bf16 := View.readAt (Elt F) arg5.view (Rect.unit (s := S1024x128) ![64 * n.val, 0] S64x128.size (inbO n)).toLoadRect (harg5.unread x3)
def re (n : Fin 16) : Vec F S1x1x64x512 .f32 := View.readAt (Elt F) arg6.view (Rect.unit (s := S1x8x64x512) (k0_off2 i (BitVec.ofNat 32 n.val)) S1x1x64x512.size (inb2 i n)).toLoadRect (harg6.unread x4)

theorem rq_eq (n : Fin 16) : rq arg2 harg2 x0 n = qTile x0 n := congrArg (fun z => shapeCast S64x128 z shapeCasts_S1x64x128_S64x128) (funext fun y => harg2.readAt_unread x0 _ y)
theorem rk_eq (n : Fin 16) : rk i arg3 harg3 x1 n = keyTile i n x1 := congrArg (fun z => shapeCast S512x128 z shapeCasts_S1x512x128_S512x128) (funext fun y => harg3.readAt_unread x1 _ y)
theorem rv_eq (n : Fin 16) : rv i arg4 harg4 x2 n = keyTile i n x2 := congrArg (fun z => shapeCast S512x128 z shapeCasts_S1x512x128_S512x128) (funext fun y => harg4.readAt_unread x2 _ y)
theorem ro_eq (n : Fin 16) : ro arg5 harg5 x3 n = oTile x3 n := by
  unfold ro oTile; exact funext fun y => harg5.readAt_unread x3 _ y
theorem re_eq (n : Fin 16) : re i arg6 harg6 x4 n = eTile i x4 n := by
  unfold re eTile; exact funext fun y => harg6.readAt_unread x4 _ y

def rs (n : Fin 16) : Vec F S1x64x512 .f32 := shapeCast S1x64x512 (matmul dot_S64x128_S512x128_S64x512_1_1_0_0_n_n none (rq arg2 harg2 x0 n) (rk i arg3 harg3 x1 n) (constant S64x512 .f32 0#32)) shapeCasts_S64x512_S1x64x512
def rdp (n : Fin 16) : Vec F S1x64x512 .f32 := shapeCast S1x64x512 (matmul dot_S64x128_S512x128_S64x512_1_1_0_0_n_n none (ro arg5 harg5 x3 n) (rv i arg4 harg4 x2 n) (constant S64x512 .f32 0#32)) shapeCasts_S64x512_S1x64x512
theorem rs_eq (n : Fin 16) : rs i arg2 harg2 arg3 harg3 x0 x1 n = sTile i x0 x1 n := by unfold rs sTile; rw [rq_eq, rk_eq]
theorem rdp_eq (n : Fin 16) : rdp i arg4 harg4 arg5 harg5 x2 x3 n = dpTile i x2 x3 n := by unfold rdp dpTile; rw [ro_eq, rv_eq]

abbrev tilesOf {e : EltTy} (P : Fin 16 → Vec F S1x64x512 e) : List (View.Piece (Elt F) S16x64x512 e) :=
  View.tilePieces (s := S16x64x512) S1x64x512.size (fun n : Fin 16 => ![n.val, 0, 0]) inbT P 16 (Nat.le_refl _)
abbrev tileRect (n : Fin 16) : LoadRect S16x64x512 := (Rect.unit (s := S16x64x512) ![n.val, 0, 0] S1x64x512.size (inbT n)).toLoadRect

/-- The same payloads with the tiles read back through the scratch buffers. -/
def cs (n : Fin 16) : Vec F S64x512 .f32 := shapeCast S64x512 (arg13.view.readCov (tilesOf (rs i arg2 harg2 arg3 harg3 x0 x1)) (tileRect n)) shapeCasts_S1x64x512_S64x512
def cdp (n : Fin 16) : Vec F S1x64x512 .f32 := arg14.view.readCov (tilesOf (rdp i arg4 harg4 arg5 harg5 x2 x3)) (tileRect n)
theorem cs_eq (n : Fin 16) : cs i arg2 harg2 arg3 harg3 arg13 x0 x1 n = shapeCast S64x512 (sTile i x0 x1 n) shapeCasts_S1x64x512_S64x512 := by
  unfold cs; rw [readCov_tiles, rs_eq]
theorem cdp_eq (n : Fin 16) : cdp i arg4 harg4 arg5 harg5 arg14 x2 x3 n = dpTile i x2 x3 n := by
  unfold cdp; rw [readCov_tiles, rdp_eq]

def rp (n : Fin 16) : Vec F S1x64x512 .bf16 := k0_pay50 k0_pay4 (cs i arg2 harg2 arg3 harg3 arg13 x0 x1 n) (re i arg6 harg6 x4 n)
def rds (n : Fin 16) : Vec F S1x64x512 .bf16 := k0_pay52 (k0_pay51 k0_pay4 (cs i arg2 harg2 arg3 harg3 arg13 x0 x1 n) (re i arg6 harg6 x4 n) (cdp i arg4 harg4 arg5 harg5 arg14 x2 x3 n))
def rePay (n : Fin 16) (acc : Vec F S1x1x64x512 .f32) : Vec F S1x1x64x512 .f32 := k0_pay49 k0_pay4 (cs i arg2 harg2 arg3 harg3 arg13 x0 x1 n) (re i arg6 harg6 x4 n) (cdp i arg4 harg4 arg5 harg5 arg14 x2 x3 n) acc
theorem rp_eq (n : Fin 16) : rp i arg2 harg2 arg3 harg3 arg6 harg6 arg13 x0 x1 x4 n = pTile i x0 x1 x4 n := by
  unfold rp pTile; rw [cs_eq, re_eq]
theorem rds_eq (n : Fin 16) : rds i arg2 harg2 arg3 harg3 arg4 harg4 arg5 harg5 arg6 harg6 arg13 arg14 x0 x1 x2 x3 x4 n = dsTile i x0 x1 x2 x3 x4 n := by
  unfold rds dsTile; rw [cs_eq, re_eq, cdp_eq]
theorem rePay_eq (n : Fin 16) : rePay i arg2 harg2 arg3 harg3 arg4 harg4 arg5 harg5 arg6 harg6 arg13 arg14 x0 x1 x2 x3 x4 n = ePay i x0 x1 x2 x3 x4 n := by
  funext acc; unfold rePay ePay; rw [cs_eq, re_eq, cdp_eq]

def cp (n : Fin 16) : Vec F S64x512 .bf16 := shapeCast S64x512 (arg15.view.readCov (tilesOf (rp i arg2 harg2 arg3 harg3 arg6 harg6 arg13 x0 x1 x4)) (tileRect n)) shapeCasts_S1x64x512_S64x512
def cds (n : Fin 16) : Vec F S64x512 .bf16 := shapeCast S64x512 (arg16.view.readCov (tilesOf (rds i arg2 harg2 arg3 harg3 arg4 harg4 arg5 harg5 arg6 harg6 arg13 arg14 x0 x1 x2 x3 x4)) (tileRect n)) shapeCasts_S1x64x512_S64x512
theorem cp_eq (n : Fin 16) : cp i arg2 harg2 arg3 harg3 arg6 harg6 arg13 arg15 x0 x1 x4 n = shapeCast S64x512 (pTile i x0 x1 x4 n) shapeCasts_S1x64x512_S64x512 := by
  unfold cp; rw [readCov_tiles, rp_eq]
theorem cds_eq (n : Fin 16) : cds i arg2 harg2 arg3 harg3 arg4 harg4 arg5 harg5 arg6 harg6 arg13 arg14 arg16 x0 x1 x2 x3 x4 n = shapeCast S64x512 (dsTile i x0 x1 x2 x3 x4 n) shapeCasts_S1x64x512_S64x512 := by
  unfold cds; rw [readCov_tiles, rds_eq]

def rqPay (n : Fin 16) : Vec F S1x64x128 .bf16 :=
  shapeCast S1x64x128 (truncf .bf16 (matmul dot_S64x512_S512x128_S64x128_1_0_0_1_n_n none (cds i arg2 harg2 arg3 harg3 arg4 harg4 arg5 harg5 arg6 harg6 arg13 arg14 arg16 x0 x1 x2 x3 x4 n) (rk i arg3 harg3 x1 n) (constant S64x128 .f32 0#32)) bitsLt_bf16_f32) shapeCasts_S64x128_S1x64x128
def rvPay (n : Fin 16) (acc : Vec F S512x128 .f32) : Vec F S512x128 .f32 :=
  shapeCast S512x128 (addf acc (matmul dot_S64x512_S64x128_S512x128_0_0_1_1_n_n none (cp i arg2 harg2 arg3 harg3 arg6 harg6 arg13 arg15 x0 x1 x4 n) (ro arg5 harg5 x3 n) (constant S512x128 .f32 0#32))) shapeCasts_S512x128_S512x128
def rkPay (n : Fin 16) (acc : Vec F S512x128 .f32) : Vec F S512x128 .f32 :=
  shapeCast S512x128 (addf acc (matmul dot_S64x512_S64x128_S512x128_0_0_1_1_n_n none (cds i arg2 harg2 arg3 harg3 arg4 harg4 arg5 harg5 arg6 harg6 arg13 arg14 arg16 x0 x1 x2 x3 x4 n) (rq arg2 harg2 x0 n) (constant S512x128 .f32 0#32))) shapeCasts_S512x128_S512x128
theorem rqPay_eq : rqPay i arg2 harg2 arg3 harg3 arg4 harg4 arg5 harg5 arg6 harg6 arg13 arg14 arg16 x0 x1 x2 x3 x4 = qPay i x0 x1 x2 x3 x4 := by
  funext n; unfold rqPay qPay; rw [cds_eq, rk_eq]
theorem rvPay_eq : rvPay i arg2 harg2 arg3 harg3 arg5 harg5 arg6 harg6 arg13 arg15 x0 x1 x3 x4 = vPay i x0 x1 x3 x4 := by
  funext n acc; unfold rvPay vPay; rw [cp_eq, ro_eq]
theorem rkPay_eq : rkPay i arg2 harg2 arg3 harg3 arg4 harg4 arg5 harg5 arg6 harg6 arg13 arg14 arg16 x0 x1 x2 x3 x4 = kPay i x0 x1 x2 x3 x4 := by
  funext n acc; unfold rkPay kPay; rw [cds_eq, rq_eq]

/-! ### The four results of a step -/

variable (xd : Vec F S1x8x64x512 .f32) (xk xv : Vec F S8192x128 .f32)

/-- The pieces of `dq`'s block: one per row. -/
theorem runMid_q : (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv).1
    = View.tilePieces (s := S1x1024x128) S1x64x128.size (fun n : Fin 16 => ![0, 64 * n.val, 0]) inbQ (qPay i x0 x1 x2 x3 x4) 16 (Nat.le_refl _) := by
  rw [← rqPay_eq i arg2 harg2 arg3 harg3 arg4 harg4 arg5 harg5 arg6 harg6 arg13 arg14 arg16 x0 x1 x2 x3 x4]
  sl_kernel_rfl

theorem runMid_e : (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv).2.1
    = arg10.view.read (Elt F) (arg10.view.writes (Elt F) (harg10.unread xd) (View.accPieces arg10.view (harg10.unread xd) [] S1x1x64x512.size (fun n : Fin 16 => k0_off2 i (BitVec.ofNat 32 n.val)) (inb2 i) (ePay i x0 x1 x2 x3 x4) 16 (Nat.le_refl _))) := by
  rw [show ePay i x0 x1 x2 x3 x4 = _ from funext fun n => (rePay_eq i arg2 harg2 arg3 harg3 arg4 harg4 arg5 harg5 arg6 harg6 arg13 arg14 x0 x1 x2 x3 x4 n).symm]
  sl_kernel_rfl

theorem runMid_k : (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv).2.2.1
    = arg11.view.read (Elt F) (arg11.view.writes (Elt F) (harg11.unread xk) (View.accPieces arg11.view (harg11.unread xk) [] S512x128.size (fun n : Fin 16 => k0_off3 i (BitVec.ofNat 32 n.val)) (inb3 i) (kPay i x0 x1 x2 x3 x4) 16 (Nat.le_refl _))) := by
  rw [← rkPay_eq i arg2 harg2 arg3 harg3 arg4 harg4 arg5 harg5 arg6 harg6 arg13 arg14 arg16 x0 x1 x2 x3 x4]
  sl_kernel_rfl

theorem runMid_v : (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv).2.2.2.1
    = arg12.view.read (Elt F) (arg12.view.writes (Elt F) (harg12.unread xv) (View.accPieces arg12.view (harg12.unread xv) [] S512x128.size (fun n : Fin 16 => k0_off3 i (BitVec.ofNat 32 n.val)) (inb3 i) (vPay i x0 x1 x3 x4) 16 (Nat.le_refl _))) := by
  rw [← rvPay_eq i arg2 harg2 arg3 harg3 arg5 harg5 arg6 harg6 arg13 arg15 x0 x1 x3 x4]
  sl_kernel_rfl

end Run

end Cert.AttnIdeal.Body

end
-- ==== Proof.AttnRow.lean ====
/-
  The payloads of a row of the attention gradient, at an index: over tiles that hold real numbers they hold the real
  quantities of `AttnMath`.
-/
module

public import proofs.«01_k».proof.Proof.AttnLists
public import proofs.«01_k».proof.Proof.AttnMath

@[expose] public section

set_option maxRecDepth 16384

noncomputable section

namespace Cert.AttnIdeal.Row

open Idealize.ShloMosaic Idealize.ShloMosaic.Tactic
open Cert.AttnIdeal Cert.AttnIdeal.Gen Cert.AttnIdeal.Body Cert

theorem named_s : (Named.named κ "s" 0x3DB504F3#32 : Ideal .f32) = (((Real.sqrt 128)⁻¹ : ℝ) : EReal) := rfl
theorem named_mask : (Named.named κ "mask" 0xF149F2CA#32 : Ideal .f32) = ⊥ := rfl

/-- The column mask. -/
theorem mask_apply (q : Fin 64) (j : Fin 512) : k0_pay4 (ix2 q j) = if AttnMath.colm q j then 1#1 else 0#1 := by
  have h : ∀ (q : Fin 64) (c : Fin 64), IntOp.andi
      (IntOp.cmpi .sge (BitVec.ofNat 32 c.val) (IntOp.minsi 48#32 (IntOp.maxsi 0#32 (IntOp.subi (BitVec.ofNat 32 q.val) 8#32))))
      (IntOp.cmpi .slt (BitVec.ofNat 32 c.val) (IntOp.addi (IntOp.minsi 48#32 (IntOp.maxsi 0#32 (IntOp.subi (BitVec.ofNat 32 q.val) 8#32))) 16#32))
      = if min 48 (q.val - 8) ≤ c.val ∧ c.val < min 48 (q.val - 8) + 16 then 1#1 else 0#1 := by decide +kernel
  have hj : ∀ j : Fin 512, IntOp.andi (BitVec.ofNat 32 j.val) 63#32 = BitVec.ofNat 32 (j.val % 64) := by decide +kernel
  pointwise [k0_pay4]
  rw [hj]
  exact h q ⟨j.val % 64, Nat.mod_lt _ (by decide)⟩

section Pay

variable (s : FVec Ideal S64x512 .f32) (e : Vec Ideal S1x1x64x512 .f32) (dpv : Vec Ideal S1x64x512 .f32)
variable (Q : Fin 64 → Fin 128 → ℝ) (K V : Fin 512 → Fin 128 → ℝ) (E : Fin 64 → Fin 512 → ℝ) (C : Fin 64 → Fin 128 → ℝ)

theorem pay47 (hs : ∀ q j, s (ix2 q j) = ((∑ d, Q q d * K j d : ℝ) : EReal)) (he : ∀ q j, e (ix4 0 0 q j) = (E q j : EReal))
    (q : Fin 64) (j : Fin 512) : k0_pay47 k0_pay4 s e (ix2 q j) = ((AttnMath.pr Q K E q j : ℝ) : EReal) := by
  have hsc : ∀ q j, Scalar.select (k0_pay4 (ix2 q j)) (s (ix2 q j) * Named.named κ "s" 0x3DB504F3#32 + e (ix4 0 0 q j)) (Named.named κ "mask" 0xF149F2CA#32) = Soft.score (AttnMath.colm q) (AttnMath.sc Q K E q) j := by
    intro q j
    rw [mask_apply, hs, he, named_s, named_mask, Reals.mul, Reals.add]
    unfold Soft.score
    by_cases h : AttnMath.colm q j
    · rw [if_pos h, if_pos h]; rfl
    · rw [if_neg h, if_neg h]; rfl
  pointwise [k0_pay47]
  simp only [hsc, Soft.ofBits_neg_inf]
  obtain ⟨r, hr⟩ := Soft.max_score (AttnMath.colm q) (AttnMath.sc Q K E q) (AttnMath.colm_some q)
  simp only [hr]
  exact Soft.quot_score _ _ r (AttnMath.colm_some q) j

theorem pay48 (h47 : ∀ q j, k0_pay47 k0_pay4 s e (ix2 q j) = ((AttnMath.pr Q K E q j : ℝ) : EReal))
    (hd : ∀ q j, dpv (ix3 0 q j) = ((AttnMath.dp V C q j : ℝ) : EReal))
    (q : Fin 64) (j : Fin 512) : k0_pay48 k0_pay4 s e dpv (ix2 q j) = ((AttnMath.ds Q K V E C q j : ℝ) : EReal) := by
  pointwise [k0_pay48]
  simp only [h47, hd, Reals.mul, Reals.sum, Reals.sub]
  rfl

end Pay

theorem off1_eq (i : grid0.Coords) (n : Fin 16) : k0_off1 i (BitVec.ofNat 32 n.val) = ![0, 64 * AttnMath.start (16 * (i 1).val + n.val), 0] := by
  unfold k0_off1 AttnMath.start; dsimp only
  generalize i 1 = s
  revert s n
  decide +kernel
theorem off2_eq (i : grid0.Coords) (n : Fin 16) : k0_off2 i (BitVec.ofNat 32 n.val) = ![0, AttnMath.start (16 * (i 1).val + n.val) + 7 - (16 * (i 1).val + n.val), 0, 0] := by
  unfold k0_off2 AttnMath.start; dsimp only
  generalize i 1 = s
  revert s n
  decide +kernel
theorem off3_eq (i : grid0.Coords) (n : Fin 16) : k0_off3 i (BitVec.ofNat 32 n.val) = ![64 * AttnMath.start (16 * (i 1).val + n.val), 0] := by
  unfold k0_off3 AttnMath.start; dsimp only
  generalize i 1 = s
  revert s n
  decide +kernel

/-! ### A row of a step, over blocks that hold real numbers -/

/-- A tile read out of a block, at the offsets' closed form. -/
theorem ld_of {s : Shape} {η : EltTy} (X : Vec Ideal s η) {off off' : Fin s.rank → ℕ} {size : Fin s.rank → ℕ} (inb : ∀ a, off a + size a ≤ s.size a)
    (x : (⟨s.rank, size⟩ : Shape).Idx) (i : s.Idx) (e : off = off') (hi : ∀ a, (i a).val = off' a + (x a).val) :
    View.ld X (Rect.unit off size inb) x = X i := by
  subst e
  exact View.ld_unit_apply_of X off size inb x i hi

section Row

variable (i : grid0.Coords) (x0 : Vec Ideal S1x1024x128 .bf16) (x1 x2 : Vec Ideal S1x8192x128 .bf16) (x3 : Vec Ideal S1024x128 .bf16) (x4 : Vec Ideal S1x8x64x512 .f32) (n : Fin 16)

/-- The key at place `j` of the window of row `r`. -/
def key (r : ℕ) (j : Fin 512) : Fin 8192 := ⟨64 * AttnMath.start r + j.val, by unfold AttnMath.start; omega⟩
/-- The query at place `q` of row `n` of a step. -/
def place (n : Fin 16) (q : Fin 64) : Fin 1024 := ⟨64 * n.val + q.val, by omega⟩
/-- The bias table of row `r`. -/
def shift (r : ℕ) : Fin 8 := ⟨(AttnMath.start r + 7 - r) % 8, Nat.mod_lt _ (by decide)⟩

theorem shift_val (i : grid0.Coords) (n : Fin 16) : (shift (16 * (i 1).val + n.val)).val = AttnMath.start (16 * (i 1).val + n.val) + 7 - (16 * (i 1).val + n.val) := by
  refine Nat.mod_eq_of_lt ?_
  have := (i 1).isLt
  have h8 : (i 1).val < 8 := this
  unfold AttnMath.start; omega

theorem cast_q (X : FVec Ideal S1x64x128 .bf16) (q : Fin 64) (d : Fin 128) : shapeCast S64x128 X shapeCasts_S1x64x128_S64x128 (ix2 q d) = X (ix3 0 q d) := by
  pointwise []
theorem cast_k (X : FVec Ideal S1x512x128 .bf16) (j : Fin 512) (d : Fin 128) : shapeCast S512x128 X shapeCasts_S1x512x128_S512x128 (ix2 j d) = X (ix3 0 j d) := by
  pointwise []
theorem qTile_apply (q : Fin 64) (d : Fin 128) : qTile x0 n (ix2 q d) = x0 (ix3 0 (place n q) d) :=
  (cast_q _ q d).trans (ld_of x0 (inbQ n) (ix3 0 q d) (ix3 0 (place n q) d) rfl (fun a => match a with | 0 => rfl | 1 => rfl | 2 => (Nat.zero_add _).symm))
theorem keyTile_apply (x : Vec Ideal S1x8192x128 .bf16) (j : Fin 512) (d : Fin 128) : keyTile i n x (ix2 j d) = x (ix3 0 (key (16 * (i 1).val + n.val) j) d) :=
  (cast_k _ j d).trans (ld_of x (inb1 i n) (ix3 0 j d) (ix3 0 (key (16 * (i 1).val + n.val) j) d) (off1_eq i n) (fun a => match a with | 0 => rfl | 1 => rfl | 2 => (Nat.zero_add _).symm))
theorem oTile_apply (q : Fin 64) (d : Fin 128) : oTile x3 n (ix2 q d) = x3 (ix2 (place n q) d) :=
  ld_of x3 (inbO n) (ix2 q d) (ix2 (place n q) d) rfl (fun a => match a with | 0 => rfl | 1 => (Nat.zero_add _).symm)
theorem eTile_apply (q : Fin 64) (j : Fin 512) : eTile i x4 n (ix4 0 0 q j) = x4 (ix4 0 (shift (16 * (i 1).val + n.val)) q j) :=
  ld_of x4 (inb2 i n) (ix4 0 0 q j) (ix4 0 (shift (16 * (i 1).val + n.val)) q j) (off2_eq i n)
    (fun a => match a with | 0 => rfl | 1 => shift_val i n | 2 => (Nat.zero_add _).symm | 3 => (Nat.zero_add _).symm)

variable {x0 x1 x2 x3 x4}
variable {Q : Fin 1024 → Fin 128 → ℝ} {K V : Fin 8192 → Fin 128 → ℝ} {C : Fin 1024 → Fin 128 → ℝ} {E : Fin 8 → Fin 64 → Fin 512 → ℝ}
variable (h0 : ∀ l d, x0 (ix3 0 l d) = (Q l d : EReal)) (h1 : ∀ l d, x1 (ix3 0 l d) = (K l d : EReal)) (h2 : ∀ l d, x2 (ix3 0 l d) = (V l d : EReal))
  (h3 : ∀ l d, x3 (ix2 l d) = (C l d : EReal)) (h4 : ∀ a q j, x4 (ix4 0 a q j) = (E a q j : EReal))

variable (Q K V C E) in
/-- The probabilities of row `n`. -/
def prR (q : Fin 64) (j : Fin 512) : ℝ :=
  AttnMath.pr (fun q => Q (place n q)) (fun j => K (key (16 * (i 1).val + n.val) j)) (E (shift (16 * (i 1).val + n.val))) q j
variable (Q K V C E) in
/-- The cotangents of the scores of row `n`. -/
def dsR (q : Fin 64) (j : Fin 512) : ℝ :=
  AttnMath.ds (fun q => Q (place n q)) (fun j => K (key (16 * (i 1).val + n.val) j)) (fun j => V (key (16 * (i 1).val + n.val) j)) (E (shift (16 * (i 1).val + n.val))) (fun q => C (place n q)) q j

include h0 h1 in
theorem s_apply (q : Fin 64) (j : Fin 512) : shapeCast S64x512 (sTile i x0 x1 n) shapeCasts_S1x64x512_S64x512 (ix2 q j) = ((∑ d, Q (place n q) d * K (key (16 * (i 1).val + n.val) j) d : ℝ) : EReal) := by
  pointwise [sTile]
  simp only [qTile_apply, keyTile_apply, h0, h1, Reals.mul, Reals.sum]
include h2 h3 in
theorem dp_apply (q : Fin 64) (j : Fin 512) : dpTile i x2 x3 n (ix3 0 q j) = ((AttnMath.dp (fun j => V (key (16 * (i 1).val + n.val) j)) (fun q => C (place n q)) q j : ℝ) : EReal) := by
  pointwise [dpTile]
  simp only [oTile_apply, keyTile_apply, h2, h3, Reals.mul, Reals.sum]
  rfl
include h0 h1 h4 in
theorem pr_apply (q : Fin 64) (j : Fin 512) : k0_pay47 k0_pay4 (shapeCast S64x512 (sTile i x0 x1 n) shapeCasts_S1x64x512_S64x512) (eTile i x4 n) (ix2 q j) = ((prR i n Q K E q j : ℝ) : EReal) :=
  pay47 _ _ _ _ _ (s_apply i n h0 h1) (fun q j => (eTile_apply i x4 n q j).trans (h4 _ _ _)) q j
include h0 h1 h2 h3 h4 in
theorem ds_apply (q : Fin 64) (j : Fin 512) : k0_pay48 k0_pay4 (shapeCast S64x512 (sTile i x0 x1 n) shapeCasts_S1x64x512_S64x512) (eTile i x4 n) (dpTile i x2 x3 n) (ix2 q j) = ((dsR i n Q K V C E q j : ℝ) : EReal) :=
  pay48 _ _ _ _ _ _ _ _ (pr_apply i n h0 h1 h4) (dp_apply i n h2 h3) q j

include h0 h1 h4 in
theorem pTile_apply (q : Fin 64) (j : Fin 512) : pTile i x0 x1 x4 n (ix3 0 q j) = ((prR i n Q K E q j : ℝ) : EReal) := by
  pointwise [pTile, k0_pay50]
  exact pr_apply i n h0 h1 h4 q j
include h0 h1 h2 h3 h4 in
theorem ePay_apply (acc : Vec Ideal S1x1x64x512 .f32) (q : Fin 64) (j : Fin 512) : ePay i x0 x1 x2 x3 x4 n acc (ix4 0 0 q j) = acc (ix4 0 0 q j) + ((dsR i n Q K V C E q j : ℝ) : EReal) := by
  pointwise [ePay, k0_pay49]
  rw [ds_apply i n h0 h1 h2 h3 h4 q j]
include h0 h1 h2 h3 h4 in
theorem dsTile_apply (q : Fin 64) (j : Fin 512) : dsTile i x0 x1 x2 x3 x4 n (ix3 0 q j) = ((dsR i n Q K V C E q j * (Real.sqrt 128)⁻¹ : ℝ) : EReal) := by
  pointwise [dsTile, k0_pay52, k0_pay51]
  rw [ds_apply i n h0 h1 h2 h3 h4 q j, named_s, Reals.mul]
include h0 h1 h2 h3 h4 in
theorem qPay_apply (q : Fin 64) (d : Fin 128) : qPay i x0 x1 x2 x3 x4 n (ix3 0 q d) = ((∑ j, dsR i n Q K V C E q j * (Real.sqrt 128)⁻¹ * K (key (16 * (i 1).val + n.val) j) d : ℝ) : EReal) := by
  pointwise [qPay]
  simp only [dsTile_apply i n h0 h1 h2 h3 h4, keyTile_apply, h1, Reals.mul, Reals.sum]
include h0 h1 h3 h4 in
theorem vPay_apply (acc : Vec Ideal S512x128 .f32) (j : Fin 512) (d : Fin 128) : vPay i x0 x1 x3 x4 n acc (ix2 j d) = acc (ix2 j d) + ((∑ q, prR i n Q K E q j * C (place n q) d : ℝ) : EReal) := by
  pointwise [vPay]
  simp only [pTile_apply i n h0 h1 h4, oTile_apply, h3, Reals.mul, Reals.sum]
include h0 h1 h2 h3 h4 in
theorem kPay_apply (acc : Vec Ideal S512x128 .f32) (j : Fin 512) (d : Fin 128) : kPay i x0 x1 x2 x3 x4 n acc (ix2 j d) = acc (ix2 j d) + ((∑ q, dsR i n Q K V C E q j * (Real.sqrt 128)⁻¹ * Q (place n q) d : ℝ) : EReal) := by
  pointwise [kPay]
  simp only [dsTile_apply i n h0 h1 h2 h3 h4, qTile_apply, h0, Reals.mul, Reals.sum]

end Row

end Cert.AttnIdeal.Row
-- ==== Proof.AttnAcc.lean ====
/-
  What a step of the attention gradient makes of its accumulators, and its block of `dq`, over blocks that hold real
  numbers.
-/
module

public import proofs.«01_k».proof.Proof.AttnRow

@[expose] public section

set_option maxRecDepth 16384

noncomputable section

namespace Cert.AttnIdeal.Row

open Idealize.ShloMosaic Idealize.ShloMosaic.TcCoe Idealize.ShloMosaic.Tactic
open Cert.AttnIdeal Cert.AttnIdeal.Gen Cert.AttnIdeal.Body Cert

/-- A buffer of real numbers to which `NB` windows in turn add real numbers: window `n` adds `G n`, which is zero
    outside of it. -/
theorem read_acc {κ : Kind} {sp : Space} {s : Shape} {NB : ℕ} (v : View sig κ sp s .f32) (lb : v.ty.Contents (Elt Ideal))
    (wsz : Fin s.rank → ℕ) (off off' : Fin NB → Fin s.rank → ℕ) (inb : ∀ i a, off i a + wsz a ≤ s.size a)
    (X : Fin NB → ((⟨s.rank, wsz⟩ : Shape).Idx → Elt Ideal .f32) → (⟨s.rank, wsz⟩ : Shape).Idx → Elt Ideal .f32)
    (f0 : s.Idx → ℝ) (G : Fin NB → s.Idx → ℝ) (hoff : ∀ n, off n = off' n)
    (h0 : ∀ y, v.read (Elt Ideal) lb y = (f0 y : EReal))
    (hX : ∀ n acc z y, (∀ a, (y a).val = off' n a + (z a).val) → X n acc z = (acc z + (G n y : EReal) : EReal))
    (hout : ∀ n y a, ((y a).val < off' n a ∨ off' n a + wsz a ≤ (y a).val) → G n y = 0)
    (j : ℕ) (hj : j ≤ NB) (y : s.Idx) :
    v.read (Elt Ideal) (v.writes (Elt Ideal) lb (View.accPieces v lb [] wsz off inb X j hj)) y
      = ((f0 y + ∑ n : Fin NB, if n.val < j then G n y else 0 : ℝ) : EReal) := by
  induction j with
  | zero =>
    refine (h0 y).trans (Reals.congr ?_)
    simp
  | succ j ih =>
    have ih' := ih (Nat.le_of_succ_le hj)
    have hs : (∑ n : Fin NB, if n.val < j + 1 then G n y else 0) = (∑ n : Fin NB, if n.val < j then G n y else 0) + G ⟨j, hj⟩ y := by
      have h1 : G ⟨j, hj⟩ y = ∑ n : Fin NB, if n = ⟨j, hj⟩ then G n y else 0 := by simp
      rw [h1, ← Finset.sum_add_distrib]
      refine Finset.sum_congr rfl fun n _ => ?_
      by_cases hn : n = ⟨j, hj⟩
      · subst hn; simp
      · have : n.val ≠ j := fun e => hn (Fin.ext e)
        by_cases hlt : n.val < j
        · rw [if_pos (by omega), if_pos hlt, if_neg hn, add_zero]
        · rw [if_neg (by omega), if_neg hlt, if_neg hn, add_zero]
    rw [View.accPieces_succ, hs]
    by_cases hin : ∀ a, off' ⟨j, hj⟩ a ≤ (y a).val ∧ (y a).val < off' ⟨j, hj⟩ a + wsz a
    · let z : (⟨s.rank, wsz⟩ : Shape).Idx := fun a => ⟨(y a).val - off' ⟨j, hj⟩ a, by have := hin a; show _ < wsz a; omega⟩
      have hz : ∀ a, (y a).val = off' ⟨j, hj⟩ a + (z a).val := fun a => by
        have := hin a
        show _ = off' ⟨j, hj⟩ a + ((y a).val - off' ⟨j, hj⟩ a); omega
      refine (View.read_writes_cons_unit_of_mem v lb (inb ⟨j, hj⟩) _ _ y z (hoff _) hz).trans ((hX _ _ z y hz).trans ?_)
      have hr : v.readAt (Elt Ideal) (Rect.unit (off ⟨j, hj⟩) wsz (inb ⟨j, hj⟩)).toLoadRect (v.writes (Elt Ideal) lb (View.accPieces v lb [] wsz off inb X j (Nat.le_of_succ_le hj))) z
          = v.read (Elt Ideal) (v.writes (Elt Ideal) lb (View.accPieces v lb [] wsz off inb X j (Nat.le_of_succ_le hj))) y := by
        rw [View.readAt_apply]
        refine congrArg _ (funext fun a => Fin.ext ?_)
        show off ⟨j, hj⟩ a + 1 * (z a).val = (y a).val
        rw [hoff, hz a, Nat.one_mul]
      rw [hr, ih', Reals.add, add_assoc]
    · rw [not_forall] at hin
      obtain ⟨a, ha⟩ := hin
      have ha' : (y a).val < off' ⟨j, hj⟩ a ∨ off' ⟨j, hj⟩ a + wsz a ≤ (y a).val := by omega
      refine (View.read_writes_cons_unit_of_not_mem v lb (inb ⟨j, hj⟩) _ _ y (hoff _) a ha').trans (ih'.trans ?_)
      rw [hout _ y a ha', add_zero]

section Outs

variable (c : Dev nD) (i : grid0.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x8x64x512 .f32) (harg6 : arg6.IsWhole) (arg7 : Memref sig .tc .vmem S1x1024x128 .bf16) (harg7 : arg7.IsWhole) (arg8 : Memref sig .tc .vmem S1x8192x128 .bf16) (harg8 : arg8.IsWhole) (arg9 : Memref sig .tc .vmem S1x8192x128 .bf16) (harg9 : arg9.IsWhole) (arg10 : Memref sig .tc .vmem S1x8x64x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S16x64x512 .f32) (harg13 : arg13.IsWhole) (arg14 : Memref sig .tc .vmem S16x64x512 .f32) (harg14 : arg14.IsWhole) (arg15 : Memref sig .tc .vmem S16x64x512 .bf16) (harg15 : arg15.IsWhole) (arg16 : Memref sig .tc .vmem S16x64x512 .bf16) (harg16 : arg16.IsWhole)
variable {x0 : Vec Ideal S1x1024x128 .bf16} {x1 x2 : Vec Ideal S1x8192x128 .bf16} {x3 : Vec Ideal S1024x128 .bf16} {x4 : Vec Ideal S1x8x64x512 .f32}
variable {Q : Fin 1024 → Fin 128 → ℝ} {K V : Fin 8192 → Fin 128 → ℝ} {C : Fin 1024 → Fin 128 → ℝ} {E : Fin 8 → Fin 64 → Fin 512 → ℝ}
variable (h0 : ∀ l d, x0 (ix3 0 l d) = (Q l d : EReal)) (h1 : ∀ l d, x1 (ix3 0 l d) = (K l d : EReal)) (h2 : ∀ l d, x2 (ix3 0 l d) = (V l d : EReal))
  (h3 : ∀ l d, x3 (ix2 l d) = (C l d : EReal)) (h4 : ∀ a q j, x4 (ix4 0 a q j) = (E a q j : EReal))
variable (xd : Vec Ideal S1x8x64x512 .f32) (xk xv : Vec Ideal S8192x128 .f32)

/-- What row `n` adds to the block of `de`: `D` at its own table. -/
def rowDe (n : Fin 16) (D : Fin 64 → Fin 512 → ℝ) (a : Fin 8) (q : Fin 64) (j : Fin 512) : ℝ :=
  if a = shift (16 * (i 1).val + n.val) then D q j else 0

include h0 h1 h2 h3 h4 in
theorem outDe_apply (D : Fin 8 → Fin 64 → Fin 512 → ℝ) (hd : ∀ a q j, start i (k0_pay7 (F := Ideal)) xd (ix4 0 a q j) = (D a q j : EReal)) (a : Fin 8) (q : Fin 64) (j : Fin 512) :
    outDe c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv (ix4 0 a q j)
      = ((D a q j + ∑ n : Fin 16, (if a = shift (16 * (i 1).val + n.val) then dsR i n Q K V C E q j else 0) : ℝ) : EReal) := by
  unfold outDe
  rw [runMid_e]
  refine (read_acc arg10.view _ S1x1x64x512.size _ (fun n => ![0, (shift (16 * (i 1).val + n.val)).val, 0, 0]) (inb2 i) _
    (fun y => D (y 1) (y 2) (y 3)) (fun n y => rowDe i n (dsR i n Q K V C E) (y 1) (y 2) (y 3))
    (fun n => by rw [off2_eq, shift_val]) ?_ ?_ ?_ 16 _ _).trans ?_
  · intro y
    rw [harg10.read_unread]
    have hy : y = ix4 0 (y 1) (y 2) (y 3) := funext fun b => match b with
      | 0 => Fin.ext (Nat.lt_one_iff.mp (y 0).isLt) | 1 => rfl | 2 => rfl | 3 => rfl
    exact (congrArg _ hy).trans (hd _ _ _)
  · intro n acc z y hz
    have hzz : z = ix4 0 0 (z 2) (z 3) := funext fun b => match b with
      | 0 => Fin.ext (Nat.lt_one_iff.mp (z 0).isLt) | 1 => Fin.ext (Nat.lt_one_iff.mp (z 1).isLt) | 2 => rfl | 3 => rfl
    have e1 : y 1 = shift (16 * (i 1).val + n.val) := Fin.ext ((hz 1).trans (by rw [show (z 1).val = 0 from Nat.lt_one_iff.mp (z 1).isLt]; rfl))
    have e2 : y 2 = z 2 := Fin.ext ((hz 2).trans (Nat.zero_add _))
    have e3 : y 3 = z 3 := Fin.ext ((hz 3).trans (Nat.zero_add _))
    have hs : rowDe i n (dsR i n Q K V C E) (y 1) (y 2) (y 3) = dsR i n Q K V C E (z 2) (z 3) := (if_pos e1).trans (by rw [e2, e3])
    rw [hs, hzz]
    exact ePay_apply i n h0 h1 h2 h3 h4 acc _ _
  · intro n y b hb
    refine if_neg fun e => ?_
    have e' : (y 1).val = (shift (16 * (i 1).val + n.val)).val := congrArg Fin.val e
    match b with
    | 0 => have h := (y 0).isLt; have h' : (y 0).val < 1 := h; have hb' : (y 0).val < 0 ∨ 0 + 1 ≤ (y 0).val := hb; omega
    | 1 => have hb' : (y 1).val < (shift (16 * (i 1).val + n.val)).val ∨ (shift (16 * (i 1).val + n.val)).val + 1 ≤ (y 1).val := hb; omega
    | 2 => have h := (y 2).isLt; have h' : (y 2).val < 64 := h; have hb' : (y 2).val < 0 ∨ 0 + 64 ≤ (y 2).val := hb; omega
    | 3 => have h := (y 3).isLt; have h' : (y 3).val < 512 := h; have hb' : (y 3).val < 0 ∨ 0 + 512 ≤ (y 3).val := hb; omega
  · refine Reals.congr (congrArg (D a q j + ·) (Finset.sum_congr rfl fun n _ => ?_))
    rw [if_pos n.isLt]
    rfl

/-- What row `n` adds at a row of the accumulator: `D n` where its window has that key. -/
def rowAdd (D : Fin 16 → Fin 512 → Fin 128 → ℝ) (n : Fin 16) (l : Fin 8192) (d : Fin 128) : ℝ :=
  ∑ j : Fin 512, if key (16 * (i 1).val + n.val) j = l then D n j d else 0

/-- A window of keys that adds `D n`, as a function of the place in the whole buffer. -/
theorem rows_acc {κ : Kind} {sp : Space} (M : Memref sig κ sp S8192x128 .f32) (hM : M.IsWhole)
    (x : Vec Ideal S8192x128 .f32) (A : Fin 8192 → Fin 128 → ℝ) (hA : ∀ l d, x (ix2 l d) = (A l d : EReal))
    (X : Fin 16 → Vec Ideal S512x128 .f32 → Vec Ideal S512x128 .f32) (D : Fin 16 → Fin 512 → Fin 128 → ℝ)
    (hX : ∀ n acc j d, X n acc (ix2 j d) = acc (ix2 j d) + (D n j d : EReal)) (l : Fin 8192) (d : Fin 128) :
    M.view.read (Elt Ideal) (M.view.writes (Elt Ideal) (hM.unread x) (View.accPieces M.view (hM.unread x) [] S512x128.size (fun n : Fin 16 => k0_off3 i (BitVec.ofNat 32 n.val)) (inb3 i) X 16 (Nat.le_refl _))) (ix2 l d)
      = ((A l d + ∑ n : Fin 16, ∑ j : Fin 512, (if key (16 * (i 1).val + n.val) j = l then D n j d else 0) : ℝ) : EReal) := by
  refine (read_acc M.view _ S512x128.size _ (fun n => ![64 * AttnMath.start (16 * (i 1).val + n.val), 0]) (inb3 i) X
    (fun y => A (y 0) (y 1)) (fun n y => rowAdd i D n (y 0) (y 1))
    (fun n => off3_eq i n) ?_ ?_ ?_ 16 _ _).trans ?_
  · intro y
    rw [hM.read_unread]
    have hy : y = ix2 (y 0) (y 1) := funext fun b => match b with | 0 => rfl | 1 => rfl
    exact (congrArg _ hy).trans (hA _ _)
  · intro n acc z y hz
    have hzz : z = ix2 (z 0) (z 1) := funext fun b => match b with | 0 => rfl | 1 => rfl
    have e0 : y 0 = key (16 * (i 1).val + n.val) (z 0) := Fin.ext (hz 0)
    have e1 : y 1 = z 1 := Fin.ext ((hz 1).trans (Nat.zero_add _))
    have hs : rowAdd i D n (y 0) (y 1) = D n (z 0) (z 1) := by
      rw [e0, e1]
      refine (Finset.sum_eq_single (z 0 : Fin 512) (fun j _ hj => if_neg fun e => hj (Fin.ext ?_)) (fun h => absurd (Finset.mem_univ _) h)).trans (if_pos rfl)
      have e' : 64 * AttnMath.start (16 * (i 1).val + n.val) + j.val = 64 * AttnMath.start (16 * (i 1).val + n.val) + (z 0).val := congrArg Fin.val e
      omega
    rw [hs, hzz]
    exact hX n acc _ _
  · intro n y b hb
    refine Finset.sum_eq_zero fun j _ => if_neg fun e => ?_
    have e' : 64 * AttnMath.start (16 * (i 1).val + n.val) + j.val = (y 0).val := congrArg Fin.val e
    match b with
    | 0 => have hb' : (y 0).val < 64 * AttnMath.start (16 * (i 1).val + n.val) ∨ 64 * AttnMath.start (16 * (i 1).val + n.val) + 512 ≤ (y 0).val := hb; omega
    | 1 => have h := (y 1).isLt; have h' : (y 1).val < 128 := h; have hb' : (y 1).val < 0 ∨ 0 + 128 ≤ (y 1).val := hb; omega
  · refine Reals.congr (congrArg (A l d + ·) (Finset.sum_congr rfl fun n _ => ?_))
    rw [if_pos n.isLt]
    rfl

include h0 h1 h2 h3 h4 in
theorem outK_apply (A : Fin 8192 → Fin 128 → ℝ) (hA : ∀ l d, start i (k0_pay5 (F := Ideal)) xk (ix2 l d) = (A l d : EReal)) (l : Fin 8192) (d : Fin 128) :
    outK c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv (ix2 l d)
      = ((A l d + ∑ n : Fin 16, ∑ j : Fin 512, (if key (16 * (i 1).val + n.val) j = l then ∑ q, dsR i n Q K V C E q j * (Real.sqrt 128)⁻¹ * Q (place n q) d else 0) : ℝ) : EReal) := by
  unfold outK
  rw [runMid_k]
  exact rows_acc i _ harg11 _ A hA _ _ (fun n acc j d => kPay_apply i n h0 h1 h2 h3 h4 acc j d) l d

include h0 h1 h3 h4 in
theorem outV_apply (A : Fin 8192 → Fin 128 → ℝ) (hA : ∀ l d, start i (k0_pay6 (F := Ideal)) xv (ix2 l d) = (A l d : EReal)) (l : Fin 8192) (d : Fin 128) :
    outV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv (ix2 l d)
      = ((A l d + ∑ n : Fin 16, ∑ j : Fin 512, (if key (16 * (i 1).val + n.val) j = l then ∑ q, prR i n Q K E q j * C (place n q) d else 0) : ℝ) : EReal) := by
  unfold outV
  rw [runMid_v]
  exact rows_acc i _ harg12 _ A hA _ _ (fun n acc j d => vPay_apply i n h0 h1 h3 h4 acc j d) l d

include h0 h1 h2 h3 h4 in
theorem outDq_apply (n : Fin 16) (q : Fin 64) (d : Fin 128) :
    outDq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xd xk xv (ix3 0 (place n q) d)
      = ((∑ j, dsR i n Q K V C E q j * (Real.sqrt 128)⁻¹ * K (key (16 * (i 1).val + n.val) j) d : ℝ) : EReal) := by
  unfold outDq
  rw [runMid_q]
  refine (View.read_tilePieces VO5 _ S1x64x128.size _ inbQ _ 16 (Nat.le_refl _) _ n n.isLt (ix3 0 q d) (fun b => match b with | 0 => rfl | 1 => rfl | 2 => (Nat.zero_add _).symm) 1 ?_).trans (qPay_apply i n h0 h1 h2 h3 h4 q d)
  intro n' hn'
  have : n'.val ≠ n.val := fun e => hn' (Fin.ext e)
  show 64 * n.val + q.val < 64 * n'.val ∨ 64 * n'.val + 64 ≤ 64 * n.val + q.val
  omega

end Outs

end Cert.AttnIdeal.Row

end
-- ==== Proof.AttnFinal.lean ====
/-
  The attention gradient's kernel over its whole grid: the blocks of a step as real numbers, the accumulators after each
  step of a head as sums over the rows so far, and the four result arrays.
-/
module

public import proofs.«01_k».proof.Proof.AttnAcc
public import proofs.«01_k».proof.Proof.AttnBody
public import proofs.«01_k».proof.Proof.Gen.AttnIdeal.Points
public import Idealize.ShloMosaic.Lib.Pipeline.ValueKit
public import Idealize.ShloMosaic.Lib.Pointwise
public import Idealize.ShloMosaic.Lib.Pipeline.ReadBack

@[expose] public section

set_option maxRecDepth 16384

noncomputable section

namespace Cert.AttnIdeal.Final

open Idealize.ShloMosaic Idealize.ShloMosaic.TcCoe Idealize.SL.Sem
open Cert.AttnIdeal Cert.AttnIdeal.Gen Cert.AttnIdeal.Body Cert.AttnIdeal.Row Cert
open Idealize.ShloMosaic.Pipeline (Dat)

/-! ### The rows of a head over the whole arrays -/

/-- The position of column `q` of row `r`. -/
def posn (r : ℕ) (q : Fin 64) : Fin 8192 := ⟨(64 * r + q.val) % 8192, Nat.mod_lt _ (by decide)⟩

section Rows

variable (Z : Fin 24 → Fin 8192 → Fin 128 → ℝ) (Y : Fin 8192 → Fin 2048 → ℝ) (E : Fin 8 → Fin 8 → Fin 64 → Fin 512 → ℝ)

/-- The queries, keys, values and cotangents of a head. -/
def hQ (h : Fin 8) : Fin 8192 → Fin 128 → ℝ := Z ⟨h.val, by omega⟩
@[inherit_doc hQ]
def hK (h : Fin 8) : Fin 8192 → Fin 128 → ℝ := Z ⟨8 + h.val, by omega⟩
@[inherit_doc hQ]
def hV (h : Fin 8) : Fin 8192 → Fin 128 → ℝ := Z ⟨16 + h.val, by omega⟩
@[inherit_doc hQ]
def hC (h : Fin 8) (l : Fin 8192) (d : Fin 128) : ℝ := Y l ⟨1024 + 128 * h.val + d.val, by omega⟩

/-- The probabilities of row `r` of head `h`. -/
def P (h : Fin 8) (r : ℕ) (q : Fin 64) (j : Fin 512) : ℝ :=
  AttnMath.pr (fun q => hQ Z h (posn r q)) (fun j => hK Z h (key r j)) (E h (shift r)) q j
/-- The cotangents of the scores of row `r` of head `h`. -/
def D (h : Fin 8) (r : ℕ) (q : Fin 64) (j : Fin 512) : ℝ :=
  AttnMath.ds (fun q => hQ Z h (posn r q)) (fun j => hK Z h (key r j)) (fun j => hV Z h (key r j)) (E h (shift r)) (fun q => hC Y h (posn r q)) q j

/-- What row `r` of head `h` adds to the gradients of the tables, of the keys, of the values. -/
def rDe (h : Fin 8) (a : Fin 8) (q : Fin 64) (j : Fin 512) (r : ℕ) : ℝ := if a = shift r then D Z Y E h r q j else 0
@[inherit_doc rDe]
def rK (h : Fin 8) (l : Fin 8192) (d : Fin 128) (r : ℕ) : ℝ :=
  ∑ j : Fin 512, if key r j = l then ∑ q, D Z Y E h r q j * (Real.sqrt 128)⁻¹ * hQ Z h (posn r q) d else 0
@[inherit_doc rDe]
def rV (h : Fin 8) (l : Fin 8192) (d : Fin 128) (r : ℕ) : ℝ :=
  ∑ j : Fin 512, if key r j = l then ∑ q, P Z E h r q j * hC Y h (posn r q) d else 0
/-- The gradient of the queries of row `r`. -/
def rQ (h : Fin 8) (r : ℕ) (q : Fin 64) (d : Fin 128) : ℝ := ∑ j, D Z Y E h r q j * (Real.sqrt 128)⁻¹ * hK Z h (key r j) d

end Rows

theorem more_rows (f : ℕ → ℝ) (s : ℕ) : ∑ r ∈ Finset.range (16 * s), f r + ∑ n : Fin 16, f (16 * s + n.val) = ∑ r ∈ Finset.range (16 * (s + 1)), f r := by
  rw [show 16 * (s + 1) = 16 * s + 16 by omega, Finset.sum_range_add, Finset.sum_range (fun x => f (16 * s + x))]

/-! ### The blocks of a step -/

theorem idx : ∀ t : Fin cfg0.N, win0_0.index t = ![t.val / 8, t.val % 8, 0] ∧ win0_1.index t = ![8 + t.val / 8, 0, 0] ∧ win0_2.index t = ![16 + t.val / 8, 0, 0]
    ∧ win0_3.index t = ![t.val % 8, 8 + t.val / 8] ∧ win0_4.index t = ![t.val / 8, 0, 0, 0] ∧ win0_5.index t = ![t.val / 8, t.val % 8, 0]
    ∧ win0_6.index t = ![t.val / 8, 0, 0] ∧ win0_7.index t = ![t.val / 8, 0, 0] ∧ win0_8.index t = ![t.val / 8, 0, 0, 0] :=
  (by decide +kernel : ∀ t : Fin grid0.N, _)

theorem coord : ∀ t : Fin cfg0.N, (grid0.coords t 1).val = t.val % 8 := by
  intro t
  have e1 : (grid0.coords t 1).val = t.val / 1 % 8 := Pipeline.Grid.coords_val t 1 (by decide) rfl
  rw [e1, Nat.div_one]

theorem lt64 (t : Fin cfg0.N) : t.val < 64 := lt_of_lt_of_eq t.isLt N_0

/-- The head of a step. -/
abbrev hd (t : Fin cfg0.N) : Fin 8 := ⟨t.val / 8, by have := lt64 t; omega⟩

/-- Position `l` of the block of a step. -/
def inStep (t : Fin cfg0.N) (l : Fin 1024) : Fin 8192 := ⟨1024 * (t.val % 8) + l.val, by omega⟩

theorem inStep_place (t : Fin cfg0.N) (n : Fin 16) (q : Fin 64) : inStep t (place n q) = posn (16 * (t.val % 8) + n.val) q :=
  Fin.ext (by unfold inStep place posn; dsimp only; omega)

section Arrays

variable (m : (ℓ : Loc nD τ sig) → Buf (Elt Ideal) ℓ) (c : Dev nD)
variable {Z : Fin 24 → Fin 8192 → Fin 128 → ℝ} {Y : Fin 8192 → Fin 2048 → ℝ} {E : Fin 8 → Fin 8 → Fin 64 → Fin 512 → ℝ}
variable (hz : ∀ g l d, (V m c main_v1 : FVec Ideal S24x8192x128 .bf16) (ix3 g l d) = (Z g l d : EReal))
  (hy : ∀ l d, (V m c main_arg1 : FVec Ideal S8192x2048 .bf16) (ix2 l d) = (Y l d : EReal))
  (he : ∀ h a q j, (V m c main_v46 : FVec Ideal S8x8x64x512 .f32) (ix4 h a q j) = (E h a q j : EReal))
variable (t : Fin cfg0.N)

include hz in
theorem blk0 (l : Fin 1024) (d : Fin 128) : (iblk m c 0 t : Vec Ideal S1x1024x128 .bf16) (ix3 0 l d) = (hQ Z (hd t) (inStep t l) d : EReal) := by
  rw [hQ, ← hz]
  blk_ext! [iblk, V, idx t]
  all_goals (try unfold inStep); (try dsimp only); (try omega)
include hz in
theorem blk1 (l : Fin 8192) (d : Fin 128) : (iblk m c 1 t : Vec Ideal S1x8192x128 .bf16) (ix3 0 l d) = (hK Z (hd t) l d : EReal) := by
  rw [hK, ← hz]
  blk_ext! [iblk, V, idx t]
include hz in
theorem blk2 (l : Fin 8192) (d : Fin 128) : (iblk m c 2 t : Vec Ideal S1x8192x128 .bf16) (ix3 0 l d) = (hV Z (hd t) l d : EReal) := by
  rw [hV, ← hz]
  blk_ext! [iblk, V, idx t]
include hy in
theorem blk3 (l : Fin 1024) (d : Fin 128) : (iblk m c 3 t : Vec Ideal S1024x128 .bf16) (ix2 l d) = (hC Y (hd t) (inStep t l) d : EReal) := by
  rw [hC, ← hy]
  blk_ext! [iblk, V, idx t]
  all_goals (try unfold inStep); (try dsimp only); (try omega)
include he in
theorem blk4 (a : Fin 8) (q : Fin 64) (j : Fin 512) : (iblk m c 4 t : Vec Ideal S1x8x64x512 .f32) (ix4 0 a q j) = (E (hd t) a q j : EReal) := by
  rw [← he]
  blk_ext! [iblk, V, idx t]

/-! ### A step -/

theorem P_of (n : Fin 16) (q : Fin 64) (j : Fin 512) :
    prR (grid0.coords t) n (fun l => hQ Z (hd t) (inStep t l)) (hK Z (hd t)) (E (hd t)) q j = P Z E (hd t) (16 * (t.val % 8) + n.val) q j := by
  unfold prR P
  simp only [coord, inStep_place]
theorem D_of (n : Fin 16) (q : Fin 64) (j : Fin 512) :
    dsR (grid0.coords t) n (fun l => hQ Z (hd t) (inStep t l)) (hK Z (hd t)) (hV Z (hd t)) (fun l => hC Y (hd t) (inStep t l)) (E (hd t)) q j
      = D Z Y E (hd t) (16 * (t.val % 8) + n.val) q j := by
  unfold dsR D
  simp only [coord, inStep_place]

theorem stepAcc_De (x : Acc Ideal) : (stepAcc m c t x).1
    = outDe c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) x.1 x.2.1 x.2.2 := by
  unfold stepAcc; dsimp only
theorem stepAcc_K (x : Acc Ideal) : (stepAcc m c t x).2.1
    = outK c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) x.1 x.2.1 x.2.2 := by
  unfold stepAcc; dsimp only
theorem stepAcc_V (x : Acc Ideal) : (stepAcc m c t x).2.2
    = outV c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) x.1 x.2.1 x.2.2 := by
  unfold stepAcc; dsimp only

include hz hy he in
theorem step_De (x : Acc Ideal) (A : Fin 8 → Fin 64 → Fin 512 → ℝ)
    (hA : ∀ a q j, start (grid0.coords t) (k0_pay7 (F := Ideal)) x.1 (ix4 0 a q j) = (A a q j : EReal)) (a : Fin 8) (q : Fin 64) (j : Fin 512) :
    (stepAcc m c t x).1 (ix4 0 a q j) = ((A a q j + ∑ n : Fin 16, rDe Z Y E (hd t) a q j (16 * (t.val % 8) + n.val) : ℝ) : EReal) := by
  refine (congrFun (stepAcc_De m c t x) _).trans ((outDe_apply c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (blk0 m c hz t) (blk1 m c hz t) (blk2 m c hz t) (blk3 m c hy t) (blk4 m c he t)
    x.1 x.2.1 x.2.2 A hA a q j).trans (Reals.congr ?_))
  simp only [D_of, coord, rDe]

include hz hy he in
theorem step_K (x : Acc Ideal) (A : Fin 8192 → Fin 128 → ℝ)
    (hA : ∀ l d, start (grid0.coords t) (k0_pay5 (F := Ideal)) x.2.1 (ix2 l d) = (A l d : EReal)) (l : Fin 8192) (d : Fin 128) :
    (stepAcc m c t x).2.1 (ix2 l d) = ((A l d + ∑ n : Fin 16, rK Z Y E (hd t) l d (16 * (t.val % 8) + n.val) : ℝ) : EReal) := by
  refine (congrFun (stepAcc_K m c t x) _).trans ((outK_apply c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (blk0 m c hz t) (blk1 m c hz t) (blk2 m c hz t) (blk3 m c hy t) (blk4 m c he t)
    x.1 x.2.1 x.2.2 A hA l d).trans (Reals.congr ?_))
  simp only [D_of, coord, rK, inStep_place]

include hz hy he in
theorem step_V (x : Acc Ideal) (A : Fin 8192 → Fin 128 → ℝ)
    (hA : ∀ l d, start (grid0.coords t) (k0_pay6 (F := Ideal)) x.2.2 (ix2 l d) = (A l d : EReal)) (l : Fin 8192) (d : Fin 128) :
    (stepAcc m c t x).2.2 (ix2 l d) = ((A l d + ∑ n : Fin 16, rV Z Y E (hd t) l d (16 * (t.val % 8) + n.val) : ℝ) : EReal) := by
  refine (congrFun (stepAcc_V m c t x) _).trans ((outV_apply c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (x2 := iblk m c 2 t) (blk0 m c hz t) (blk1 m c hz t) (blk3 m c hy t) (blk4 m c he t)
    x.1 x.2.1 x.2.2 A hA l d).trans (Reals.congr ?_))
  simp only [P_of, coord, rV, inStep_place]

include hz hy he in
theorem step_Q (n : Fin 16) (q : Fin 64) (d : Fin 128) :
    dqAt m c t (ix3 0 (place n q) d) = ((rQ Z Y E (hd t) (16 * (t.val % 8) + n.val) q d : ℝ) : EReal) := by
  refine (outDq_apply c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) (blk0 m c hz t) (blk1 m c hz t) (blk2 m c hz t) (blk3 m c hy t) (blk4 m c he t)
    _ _ _ n q d).trans (Reals.congr ?_)
  simp only [D_of, coord, rQ]

/-! ### A head -/

theorem zero7 (y) : (k0_pay7 (F := Ideal)) y = ((0 : ℝ) : EReal) := Ideal.ofBits_zero_f32
theorem zero5 (y) : (k0_pay5 (F := Ideal)) y = ((0 : ℝ) : EReal) := Ideal.ofBits_zero_f32
theorem zero6 (y) : (k0_pay6 (F := Ideal)) y = ((0 : ℝ) : EReal) := Ideal.ofBits_zero_f32

/-- The accumulators after a step hold the sums over the rows of its head so far. -/
def Sums (Z : Fin 24 → Fin 8192 → Fin 128 → ℝ) (Y : Fin 8192 → Fin 2048 → ℝ) (E : Fin 8 → Fin 8 → Fin 64 → Fin 512 → ℝ) (h : Fin 8) (k : ℕ) (x : Acc Ideal) : Prop :=
  (∀ a q j, x.1 (ix4 0 a q j) = ((∑ r ∈ Finset.range (16 * k), rDe Z Y E h a q j r : ℝ) : EReal))
  ∧ (∀ l d, x.2.1 (ix2 l d) = ((∑ r ∈ Finset.range (16 * k), rK Z Y E h l d r : ℝ) : EReal))
  ∧ (∀ l d, x.2.2 (ix2 l d) = ((∑ r ∈ Finset.range (16 * k), rV Z Y E h l d r : ℝ) : EReal))

include hz hy he in
theorem step_sums (x : Acc Ideal) (hx : t.val % 8 ≠ 0 → Sums Z Y E (hd t) (t.val % 8) x) : Sums Z Y E (hd t) (t.val % 8 + 1) (stepAcc m c t x) := by
  by_cases h0 : t.val % 8 = 0
  · have hc := (hcond0 t).mpr h0
    refine ⟨fun a q j => ?_, fun l d => ?_, fun l d => ?_⟩
    · refine (step_De m c hz hy he t x (fun a q j => ∑ r ∈ Finset.range (16 * (t.val % 8)), rDe Z Y E (hd t) a q j r) (fun a q j => ?_) a q j).trans (Reals.congr (more_rows _ _))
      rw [start, if_pos hc, zero7, h0]; exact Reals.congr (Finset.sum_range_zero _).symm
    · refine (step_K m c hz hy he t x (fun l d => ∑ r ∈ Finset.range (16 * (t.val % 8)), rK Z Y E (hd t) l d r) (fun l d => ?_) l d).trans (Reals.congr (more_rows _ _))
      rw [start, if_pos hc, zero5, h0]; exact Reals.congr (Finset.sum_range_zero _).symm
    · refine (step_V m c hz hy he t x (fun l d => ∑ r ∈ Finset.range (16 * (t.val % 8)), rV Z Y E (hd t) l d r) (fun l d => ?_) l d).trans (Reals.congr (more_rows _ _))
      rw [start, if_pos hc, zero6, h0]; exact Reals.congr (Finset.sum_range_zero _).symm
  · have hc : ¬ cond0 (grid0.coords t) := fun h => h0 ((hcond0 t).mp h)
    obtain ⟨hD, hK, hV⟩ := hx h0
    refine ⟨fun a q j => ?_, fun l d => ?_, fun l d => ?_⟩
    · refine (step_De m c hz hy he t x (fun a q j => ∑ r ∈ Finset.range (16 * (t.val % 8)), rDe Z Y E (hd t) a q j r) (fun a q j => ?_) a q j).trans (Reals.congr (more_rows _ _))
      rw [start, if_neg hc]; exact hD a q j
    · refine (step_K m c hz hy he t x (fun l d => ∑ r ∈ Finset.range (16 * (t.val % 8)), rK Z Y E (hd t) l d r) (fun l d => ?_) l d).trans (Reals.congr (more_rows _ _))
      rw [start, if_neg hc]; exact hK l d
    · refine (step_V m c hz hy he t x (fun l d => ∑ r ∈ Finset.range (16 * (t.val % 8)), rV Z Y E (hd t) l d r) (fun l d => ?_) l d).trans (Reals.congr (more_rows _ _))
      rw [start, if_neg hc]; exact hV l d

include hz hy he in
theorem sums : ∀ (n : ℕ) (h : n < cfg0.N), Sums Z Y E (hd ⟨n, h⟩) (n % 8 + 1) (accBefore m c (n + 1)) := by
  intro n
  induction n with
  | zero =>
    intro h
    rw [accBefore_succ m c ⟨0, h⟩]
    exact step_sums m c hz hy he ⟨0, h⟩ _ fun h0 => absurd rfl h0
  | succ k ih =>
    intro h
    have hk := ih (Nat.lt_of_succ_lt h)
    rw [accBefore_succ m c ⟨k + 1, h⟩]
    refine step_sums m c hz hy he ⟨k + 1, h⟩ _ fun h0 => ?_
    have h1 : (k + 1) % 8 ≠ 0 := h0
    have e : hd ⟨k + 1, h⟩ = hd ⟨k, Nat.lt_of_succ_lt h⟩ := Fin.ext (by show (k + 1) / 8 = k / 8; omega)
    have e' : (k + 1) % 8 = k % 8 + 1 := by omega
    show Sums Z Y E (hd ⟨k + 1, h⟩) ((k + 1) % 8) (accBefore m c (k + 1))
    rw [e, e']; exact hk

end Arrays

end Cert.AttnIdeal.Final

end
-- ==== Proof.AttnOut.lean ====
/-
  The result arrays of the attention gradient's kernel as real numbers, and the run of the whole program: the three
  arrays of the kernel call, and the bias table's gradient that the host lines collect.
-/
module

public import proofs.«01_k».proof.Proof.AttnFinal
public import proofs.«01_k».proof.Proof.AttnHost

@[expose] public section

set_option maxRecDepth 16384

noncomputable section

namespace Cert.AttnIdeal.Final

open Idealize.ShloMosaic Idealize.ShloMosaic.TcCoe Idealize.SL.Sem
open Cert.AttnIdeal Cert.AttnIdeal.Gen Cert.AttnIdeal.Body Cert.AttnIdeal.Row Cert
open Idealize.ShloMosaic.Pipeline (Dat)

theorem pay2_apply (x : Vec Ideal S8192x128 .f32) (l : Fin 8192) (d : Fin 128) : k0_pay2 x (ix3 0 l d) = x (ix2 l d) := by
  pointwise [k0_pay2]
theorem pay3_apply (x : Vec Ideal S8192x128 .f32) (l : Fin 8192) (d : Fin 128) : k0_pay3 x (ix3 0 l d) = x (ix2 l d) := by
  pointwise [k0_pay3]

theorem cast_e (x : FVec Ideal S8x8x64x512 .f32) (h d : Fin 8) (q : Fin 64) (j : Fin 8) (k : Fin 64) :
    shapeCast S8x8x64x8x64 x shapeCasts_S8x8x64x512_S8x8x64x8x64 (ix5 h d q j k) = x (ix4 h d q ⟨64 * j.val + k.val, by omega⟩) := by
  pointwise []
  exact congrArg (fun z => x (ix4 h d q z)) (Fin.ext (by dsimp only; omega))

theorem ix3_0 {a b : ℕ} (y : (⟨3, ![1, a, b]⟩ : Shape).Idx) : y = ix3 0 (y 1) (y 2) :=
  (eq_ix3 y).trans (congrArg (fun z => ix3 z (y 1) (y 2)) (Subsingleton.elim (α := Fin 1) (y 0) 0))
theorem ix4_0 {a b d : ℕ} (y : (⟨4, ![1, a, b, d]⟩ : Shape).Idx) : y = ix4 0 (y 1) (y 2) (y 3) :=
  (eq_ix4 y).trans (congrArg (fun z => ix4 z (y 1) (y 2) (y 3)) (Subsingleton.elim (α := Fin 1) (y 0) 0))

section Arrays

variable (m : (ℓ : Loc nD τ sig) → Buf (Elt Ideal) ℓ) (c : Dev nD)
variable {Z : Fin 24 → Fin 8192 → Fin 128 → ℝ} {Y : Fin 8192 → Fin 2048 → ℝ} {E : Fin 8 → Fin 8 → Fin 64 → Fin 512 → ℝ}
variable (hz : ∀ g l d, (V m c main_v1 : FVec Ideal S24x8192x128 .bf16) (ix3 g l d) = (Z g l d : EReal))
  (hy : ∀ l d, (V m c main_arg1 : FVec Ideal S8192x2048 .bf16) (ix2 l d) = (Y l d : EReal))
  (he : ∀ h a q j, (V m c main_v46 : FVec Ideal S8x8x64x512 .f32) (ix4 h a q j) = (E h a q j : EReal))

theorem at3 (f : Fin 8 → Fin 8192 → Fin 128 → ℝ) {a a' : Fin 8} {l l' : Fin 8192} {d d' : Fin 128} (h0 : a.val = a'.val) (h1 : l.val = l'.val) (h2 : d.val = d'.val) :
    f a l d = f a' l' d' := by rw [Fin.ext h0, Fin.ext h1, Fin.ext h2]
theorem at4 (f : Fin 8 → Fin 8 → Fin 64 → Fin 512 → ℝ) {a a' : Fin 8} {l l' : Fin 8} {d d' : Fin 64} {e e' : Fin 512}
    (h0 : a.val = a'.val) (h1 : l.val = l'.val) (h2 : d.val = d'.val) (h3 : e.val = e'.val) :
    f a l d e = f a' l' d' e' := by rw [Fin.ext h0, Fin.ext h1, Fin.ext h2, Fin.ext h3]

variable (Z Y E) in
/-- The gradients of the queries, the keys, the values and the tables, over the whole arrays. -/
def gQ (h : Fin 8) (l : Fin 8192) (d : Fin 128) : ℝ := rQ Z Y E h (l.val / 64) ⟨l.val % 64, Nat.mod_lt _ (by decide)⟩ d
variable (Z Y E) in
@[inherit_doc gQ]
def gK (h : Fin 8) (l : Fin 8192) (d : Fin 128) : ℝ := ∑ r ∈ Finset.range 128, rK Z Y E h l d r
variable (Z Y E) in
@[inherit_doc gQ]
def gV (h : Fin 8) (l : Fin 8192) (d : Fin 128) : ℝ := ∑ r ∈ Finset.range 128, rV Z Y E h l d r
variable (Z Y E) in
@[inherit_doc gQ]
def gE (h : Fin 8) (a : Fin 8) (q : Fin 64) (j : Fin 512) : ℝ := ∑ r ∈ Finset.range 128, rDe Z Y E h a q j r

include hz hy he in
theorem dqAt_apply (t : Fin cfg0.N) (l : Fin 1024) (d : Fin 128) : dqAt m c t (ix3 0 l d) = ((gQ Z Y E (hd t) (inStep t l) d : ℝ) : EReal) := by
  have e : l = place ⟨l.val / 64, by omega⟩ ⟨l.val % 64, Nat.mod_lt _ (by decide)⟩ := Fin.ext (by unfold place; dsimp only; omega)
  have e1 : (inStep t l).val / 64 = 16 * (t.val % 8) + l.val / 64 := by unfold inStep; dsimp only; omega
  have e2 : (⟨(inStep t l).val % 64, Nat.mod_lt _ (by decide)⟩ : Fin 64) = ⟨l.val % 64, Nat.mod_lt _ (by decide)⟩ := Fin.ext (by unfold inStep; dsimp only; omega)
  rw [gQ, e1, e2]
  exact (congrArg (fun z => dqAt m c t (ix3 0 z d)) e).trans (step_Q m c hz hy he t _ _ d)

include hz hy he in
theorem final5 : (dats m 0 c).arrAt 5 (cfgs 0).N = fun i : S8x8192x128.Idx => ((gQ Z Y E (i 0) (i 1) (i 2) : ℝ) : EReal) := by
  refine (dats m 0 c).arrAt_eq_of_covers 5 _ (by decide +kernel) fun t _ y => ?_
  blk_simp
  rw [after_5]
  refine ((congrArg (dqAt m c t) (ix3_0 y)).trans (dqAt_apply m c hz hy he t (y 1) (y 2))).trans (Reals.congr (at3 (gQ Z Y E) ?_ ?_ ?_))
  · blk_simp [idx t]; (try have : (y 0).val < 1 := (y 0).isLt); (try unfold hd); (try dsimp only); (try omega)
  · blk_simp [idx t]; unfold inStep; (try dsimp only); omega
  · blk_simp [idx t]; (try omega)

include hz hy he in
theorem last_sums (t : Fin cfg0.N) (h : t.val % 8 = 7) : Sums Z Y E (hd t) 8 (accBefore m c (t.val + 1)) := by
  have := sums m c hz hy he t.val t.isLt
  rwa [h] at this

include hz hy he in
theorem final6 : (dats m 0 c).arrAt 6 (cfgs 0).N = fun i : S8x8192x128.Idx => ((gK Z Y E (i 0) (i 1) (i 2) : ℝ) : EReal) := by
  refine (dats m 0 c).arrAt_eq_of_covers 6 _ (by decide +kernel) fun t hf y => ?_
  blk_simp
  rw [after_6]
  refine ((congrArg (k0_pay2 _) (ix3_0 y)).trans ((pay2_apply _ (y 1) (y 2)).trans ((last_sums m c hz hy he t ((flush0_6 t).mp hf)).2.1 (y 1) (y 2)))).trans
    (Reals.congr (at3 (gK Z Y E) ?_ ?_ ?_))
  · blk_simp [idx t]; (try have : (y 0).val < 1 := (y 0).isLt); (try unfold hd); (try dsimp only); (try omega)
  · blk_simp [idx t]; (try omega)
  · blk_simp [idx t]; (try omega)

include hz hy he in
theorem final7 : (dats m 0 c).arrAt 7 (cfgs 0).N = fun i : S8x8192x128.Idx => ((gV Z Y E (i 0) (i 1) (i 2) : ℝ) : EReal) := by
  refine (dats m 0 c).arrAt_eq_of_covers 7 _ (by decide +kernel) fun t hf y => ?_
  blk_simp
  rw [after_7]
  refine ((congrArg (k0_pay3 _) (ix3_0 y)).trans ((pay3_apply _ (y 1) (y 2)).trans ((last_sums m c hz hy he t ((flush0_7 t).mp hf)).2.2 (y 1) (y 2)))).trans
    (Reals.congr (at3 (gV Z Y E) ?_ ?_ ?_))
  · blk_simp [idx t]; (try have : (y 0).val < 1 := (y 0).isLt); (try unfold hd); (try dsimp only); (try omega)
  · blk_simp [idx t]; (try omega)
  · blk_simp [idx t]; (try omega)

include hz hy he in
theorem final8 : (dats m 0 c).arrAt 8 (cfgs 0).N = fun i : S8x8x64x512.Idx => ((gE Z Y E (i 0) (i 1) (i 2) (i 3) : ℝ) : EReal) := by
  refine (dats m 0 c).arrAt_eq_of_covers 8 _ (by decide +kernel) fun t hf y => ?_
  blk_simp
  rw [after_8]
  refine ((congrArg (accBefore m c (t.val + 1)).1 (ix4_0 y)).trans ((last_sums m c hz hy he t ((flush0_8 t).mp hf)).1 (y 1) (y 2) (y 3))).trans
    (Reals.congr (at4 (gE Z Y E) ?_ ?_ ?_ ?_))
  · blk_simp [idx t]; (try have : (y 0).val < 1 := (y 0).isLt); (try unfold hd); (try dsimp only); (try omega)
  · blk_simp [idx t]; (try omega)
  · blk_simp [idx t]; (try omega)
  · blk_simp [idx t]; (try omega)

include hz hy he in
theorem finalE (h : Fin 8) (a : Fin 15) (b : Fin 31) :
    Pipeline.afterTail₀ cfgs (dats m) 0 (V0 m) [hostOps1, hostOps1_1, hostOps1_2] c main_v92 (ix3 h a b)
      = ((∑ q, ∑ k, (∑ d : Fin 8, ∑ j : Fin 8, gE Z Y E h d q ⟨64 * j.val + k.val, by omega⟩ * (if a.val = d.val + j.val then 1 else 0)) * (if Host.dc q k = b then 1 else 0) : ℝ) : EReal) := by
  rw [Host.W_v92, final8 m c hz hy he]
  refine Host.collect_apply (D := fun h d q j k => gE Z Y E h d q ⟨64 * j.val + k.val, by omega⟩) (fun h d q j k => ?_) h a b
  exact cast_e _ h d q j k

end Arrays

/-! ### From the arguments -/

section Args

variable (m : (ℓ : Loc nD τ sig) → Buf (Elt Ideal) ℓ) (c : Dev nD)
variable {X : Fin 8192 → Fin 3072 → ℝ} {Y : Fin 8192 → Fin 2048 → ℝ} {R : Fin 8 → Fin 15 → Fin 31 → ℝ}
  (hx : ∀ l d, (m ((c : Thread nD τ).loc main_arg0) : FVec Ideal S8192x3072 .bf16) (ix2 l d) = (X l d : EReal))
  (hy : ∀ l d, (m ((c : Thread nD τ).loc main_arg1) : FVec Ideal S8192x2048 .bf16) (ix2 l d) = (Y l d : EReal))
  (hr : ∀ h a b, (m ((c : Thread nD τ).loc main_arg2) : FVec Ideal S8x15x31 .f32) (ix3 h a b) = (R h a b : EReal))

/-- The heads' columns of the projected rows, heads first. -/
def heads (X : Fin 8192 → Fin 3072 → ℝ) (g : Fin 24) (l : Fin 8192) (d : Fin 128) : ℝ := X l ⟨128 * g.val + d.val, by omega⟩
/-- The bias tables by column of the query and place in the window. -/
def tables (R : Fin 8 → Fin 15 → Fin 31 → ℝ) (h d : Fin 8) (q : Fin 64) (j : Fin 512) : ℝ :=
  R h ⟨d.val + j.val / 64, by omega⟩ (Host.dc q ⟨j.val % 64, Nat.mod_lt _ (by decide)⟩)

include hx in
theorem arr_qkv (g : Fin 24) (l : Fin 8192) (d : Fin 128) : (V m c main_v1 : FVec Ideal S24x8192x128 .bf16) (ix3 g l d) = (heads X g l d : EReal) := by
  rw [Host.V_v1, heads, ← hx]
  pointwise []
  exact congrArg (fun z => (m ((c : Thread nD τ).loc main_arg0) : FVec Ideal S8192x3072 .bf16) (ix2 l z)) (Fin.ext (by dsimp only; omega))
include hy in
theorem arr_y (l : Fin 8192) (d : Fin 2048) : (V m c main_arg1 : FVec Ideal S8192x2048 .bf16) (ix2 l d) = (Y l d : EReal) := by
  rw [V_main_arg1]; exact hy l d
include hr in
theorem arr_e (h a : Fin 8) (q : Fin 64) (j : Fin 512) : (V m c main_v46 : FVec Ideal S8x8x64x512 .f32) (ix4 h a q j) = (tables R h a q j : EReal) := by
  rw [Host.V_v46, tables, ← Host.spread_apply hr h a q ⟨j.val / 64, by omega⟩]
  pointwise []

end Args

/-- Every run ends with the three arrays of the kernel call, the collected gradient of the bias table, and the arguments
    as launched. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v47_0) = (dats m 0 c).arrAt 5 (cfgs 0).N
      ∧ r.2.mem ((c : Thread nD τ).loc main_v47_1) = (dats m 0 c).arrAt 6 (cfgs 0).N
      ∧ r.2.mem ((c : Thread nD τ).loc main_v47_2) = (dats m 0 c).arrAt 7 (cfgs 0).N
      ∧ r.2.mem ((c : Thread nD τ).loc main_v92) = Pipeline.afterTail₀ cfgs (dats m) 0 (V0 m) [hostOps1, hostOps1_1, hostOps1_2] c main_v92
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun _ h c => ⟨(h c).1 5, (h c).1 6, (h c).1 7,
      (h c).2 main_v92 (Pipeline.mem_restRefs_of main_v92 (by decide) (by decide)),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c)⟩) (run_main m ρ)

end Cert.AttnIdeal.Final

end
-- ==== Proof.RowMax.lean ====
/-
  The largest entry of the rows of a three-axis array, as the host takes it, and two literals of the attention's reference.
-/
module

public import Idealize.ShloMosaic.Lib.Pointwise
public import Idealize.ShloMosaic.PureOps.Reduce
public import proofs.«01_k».proof.Proof.Soft

@[expose] public section

noncomputable section

namespace Cert.RowMax

open Idealize.ShloMosaic Idealize.ShloMosaic.TcCoe

/-- The host's maximum over the last axis, from an initial value. -/
theorem max_row {A N M : ℕ} (x : FVec Ideal ⟨3, ![A, N, M]⟩ .f32) (init : FVec Ideal ⟨0, ![]⟩ .f32)
    (h' : Shape.ReducesTo ⟨3, ![A, N, M]⟩ [2] ⟨2, ![A, N]⟩) (h : Shape.Reduces ⟨3, ![A, N, M]⟩ [2] ⟨2, ![A, N]⟩) (hu : 0 < (⟨0, ![]⟩ : Shape).numel) (a : Fin A) (n : Fin N) :
    Host.reduce FloatOps.maximumf x init h' hu (ix2 a n) = (Finset.univ : Finset (Fin M)).fold max (init ix0) (fun k => x (ix3 a n k)) := by
  have hd : ∀ k : Fin M, h.drop (ix3 a n k) = ix2 a n := fun k => funext fun b => match b with | ⟨0, _⟩ => rfl | ⟨1, _⟩ => rfl
  have hl : ∀ k : Fin M, h.lift (ix2 a n) k = ix3 a n k := fun k => by
    have := h.lift_drop (ix3 a n k)
    rw [hd] at this
    exact this
  have e := Host.reduce_eq_fold_single (fun a b : EReal => max a b) x init h' h hu (ix2 a n)
  refine Eq.trans e ?_
  have hi : Shape.Idx.first hu = ix0 := funext fun b => b.elim0
  rw [hi]
  exact congrArg (Finset.fold _ _ · _) (funext fun k => congrArg x (hl k))

theorem lit_128 : Ideal.ofBits .f32 0x43000000#32 = ((128 : ℝ) : EReal) := by
  simp [Ideal.ofBits, Ideal.ieee, -EReal.coe_mul]; norm_num

end Cert.RowMax

end
-- ==== Proof.AttnRefVal.lean ====
/-
  `reference.py`'s attention and its derivative at an index, over the real numbers: the masked softmax over all keys, the
  cotangents of the scores, and the four gradients.
-/
module

public import proofs.«01_k».proof.Proof.AttnRefTab
public import proofs.«01_k».proof.Proof.AttnOut
public import proofs.«01_k».proof.Proof.RowMax

@[expose] public section

set_option maxRecDepth 16384

noncomputable section

namespace Cert.AttnRefIdeal.Val

open Idealize.ShloMosaic Idealize.ShloMosaic.TcCoe
open Cert.AttnRefIdeal Cert.AttnRefIdeal.Gen Cert.AttnRefIdeal.Read Cert
open Cert.AttnIdeal.Final (hQ hK hV hC heads)

section Real

variable (X : Fin 8192 → Fin 3072 → ℝ) (Y : Fin 8192 → Fin 2048 → ℝ) (R : Fin 8 → Fin 15 → Fin 31 → ℝ)

/-- The score of a key for a query. -/
def S (h : Fin 8) (i k : Fin 8192) : ℝ :=
  (∑ d, hQ (heads X) h i d * hK (heads X) h k d) * (Real.sqrt 128)⁻¹ + R h (dr i k) (AttnIdeal.Host.dc (col i) (col k))
/-- Its probability. -/
def P (h : Fin 8) (i k : Fin 8192) : ℝ := Soft.soft (near i) (S X R h i) k
/-- The cotangent of the probability. -/
def dP (h : Fin 8) (i k : Fin 8192) : ℝ := ∑ d, hC Y h i d * hV (heads X) h k d
/-- The cotangent of the score. -/
def dS (h : Fin 8) (i k : Fin 8192) : ℝ := P X R h i k * (dP X Y h i k - ∑ l, dP X Y h i l * P X R h i l)

end Real

variable {x0 : FVec Ideal S8192x3072 .bf16} {x1 : FVec Ideal S8192x2048 .bf16} {x2 : FVec Ideal S8x15x31 .f32}
  {X : Fin 8192 → Fin 3072 → ℝ} {Y : Fin 8192 → Fin 2048 → ℝ} {R : Fin 8 → Fin 15 → Fin 31 → ℝ}
  (hx : ∀ l d, x0 (ix2 l d) = (X l d : EReal)) (hy : ∀ l d, x1 (ix2 l d) = (Y l d : EReal)) (hr : ∀ h a b, x2 (ix3 h a b) = (R h a b : EReal))

theorem at2 {n m : ℕ} (x : FVec Ideal ⟨2, ![n, m]⟩ .bf16) (l : Fin n) {d d' : Fin m} (h : d.val = d'.val) : x (ix2 l d) = x (ix2 l d') := by
  rw [Fin.ext h]

include hx in
theorem v2 (l : Fin 8192) (h : Fin 8) (d : Fin 128) : val_main_v2 (F := Ideal) x0 (ix3 l h d) = (hQ (heads X) h l d : EReal) := by
  rw [hQ, heads, ← hx]
  pointwise [val_main_v2, val_main_v1, val_main_v0]
  exact at2 x0 l (by dsimp only; omega)
include hx in
theorem v3 (l : Fin 8192) (h : Fin 8) (d : Fin 128) : val_main_v3 (F := Ideal) x0 (ix3 l h d) = (hK (heads X) h l d : EReal) := by
  rw [hK, heads, ← hx]
  pointwise [val_main_v3, val_main_v1, val_main_v0]
  exact at2 x0 l (by dsimp only; omega)
include hx in
theorem v4 (l : Fin 8192) (h : Fin 8) (d : Fin 128) : val_main_v4 (F := Ideal) x0 (ix3 l h d) = (hV (heads X) h l d : EReal) := by
  rw [hV, heads, ← hx]
  pointwise [val_main_v4, val_main_v1, val_main_v0]
  exact at2 x0 l (by dsimp only; omega)
include hy in
theorem v117 (l : Fin 8192) (h : Fin 8) (d : Fin 128) : val_main_v117 (F := Ideal) x1 (ix3 h d l) = (hC Y h l d : EReal) := by
  rw [hC, ← hy]
  pointwise [val_main_v117, val_main_v7, val_main_v6, val_main_v5]
  exact at2 x1 l (by dsimp only; omega)

theorem v81 : val_main_v81 (F := Ideal) ix0 = (((Real.sqrt 128)⁻¹ : ℝ) : EReal) := by
  pointwise [val_main_v81, val_main_cst]
  rw [RowMax.lit_128, Reals.rsqrt (by norm_num)]

include hx hr in
theorem v84 (h : Fin 8) (i k : Fin 8192) : val_main_v84 (F := Ideal) x0 x2 (ix3 h i k) = (S X R h i k : EReal) := by
  have e := v81
  have eb := v79 x2 h i k
  have h2 := v2 hx
  have h3 := v3 hx
  pointwise [val_main_v84, val_main_v83, val_main_v82, val_main_v80]
  simp only [e, eb, h2, h3, hr, Reals.mul, Reals.sum, Reals.add]
  rfl

theorem v86_1 (h : Fin 8) (i k : Fin 8192) : val_main_v86_1 (F := Ideal) (ix3 h i k) = if near i k then 1#1 else 0#1 := by
  rw [← v45]
  pointwise [val_main_v86_1, val_main_v85]

include hx hr in
theorem v86_0 (h : Fin 8) (i k : Fin 8192) : val_main_v86_0 (F := Ideal) x0 x2 (ix3 h i k) = Soft.score (near i) (S X R h i) k := by
  have e := v86_1 h i k
  have e' := v84 hx hr h i k
  pointwise [val_main_v86_0, val_main_call4_v2, val_main_call4_v0, val_main_cst_21]
  have eb : (id (constant S_ .f32 0xFF800000#32) ix0 : Ideal .f32) = (⊥ : EReal) := Soft.ofBits_neg_inf
  rw [e, e', eb]
  unfold Soft.score
  by_cases hn : near i k
  · rw [if_pos hn, if_pos hn]; rfl
  · rw [if_neg hn, if_neg hn]; rfl

theorem v93 (j : S8x8192.Idx) : val_main_v93 (F := Ideal) j = (⊥ : EReal) := by
  rw [Read.val_main_v93_apply]
  exact Soft.ofBits_neg_inf

theorem max_inst : Shape.Reduces S8x8192x8192 [2] S8x8192 := by decide

include hx hr in
/-- The largest score of a query is a real number, as a query has a key in its window. -/
theorem v94 (h : Fin 8) (i : Fin 8192) : ∃ r : ℝ, val_main_v94 (F := Ideal) x0 x2 (ix2 h i) = (r : EReal) := by
  obtain ⟨r, hm⟩ := Soft.max_score (near i) (S X R h i) (near_some i)
  refine ⟨r, ?_⟩
  rw [Read.val_main_v94_apply, v93]
  have e : val_main_v87 (F := Ideal) x0 x2 (ix2 h i) = (r : EReal) := by
    unfold val_main_v87
    generalize hg : val_main_v86_0 (F := Ideal) x0 x2 = g
    refine (RowMax.max_row g _ _ max_inst _ h i).trans (Eq.trans ?_ hm)
    have ei : val_main_cst_22 (F := Ideal) ix0 = (⊥ : EReal) := Soft.ofBits_neg_inf
    rw [ei]
    refine congrArg (Finset.fold _ _ · _) (funext fun k => ?_)
    rw [← hg, v86_0 hx hr]
  rw [e]
  exact bot_sup_eq _

end Cert.AttnRefIdeal.Val

end
-- ==== Proof.AttnRefGrad.lean ====
/-
  The four gradients of `reference.py`'s attention at an index, over the real numbers.
-/
module

public import proofs.«01_k».proof.Proof.AttnRefVal

@[expose] public section

set_option maxRecDepth 16384

noncomputable section

namespace Cert.AttnRefIdeal.Val

open Idealize.ShloMosaic Idealize.ShloMosaic.TcCoe
open Cert.AttnRefIdeal Cert.AttnRefIdeal.Gen Cert.AttnRefIdeal.Read Cert
open Cert.AttnIdeal.Final (hQ hK hV hC heads)

variable {x0 : FVec Ideal S8192x3072 .bf16} {x1 : FVec Ideal S8192x2048 .bf16} {x2 : FVec Ideal S8x15x31 .f32}
  {X : Fin 8192 → Fin 3072 → ℝ} {Y : Fin 8192 → Fin 2048 → ℝ} {R : Fin 8 → Fin 15 → Fin 31 → ℝ}
  (hx : ∀ l d, x0 (ix2 l d) = (X l d : EReal)) (hy : ∀ l d, x1 (ix2 l d) = (Y l d : EReal)) (hr : ∀ h a b, x2 (ix3 h a b) = (R h a b : EReal))

/-- The derivative of a masked softmax, as the rule of the quotient gives it from the exponentials. -/
theorem quotient_rule {N : ℕ} (e d : Fin N → ℝ) (z : ℝ) (hz : z ≠ 0) (k : Fin N) :
    (d k / z + -(∑ l, d l * (1 / (z * z)) * e l)) * e k = e k / z * (d k - ∑ l, d l * (e l / z)) := by
  have h : ∑ l, d l * (1 / (z * z)) * e l = (∑ l, d l * (e l / z)) / z := by
    rw [Finset.sum_div]
    exact Finset.sum_congr rfl fun l _ => by field_simp
  rw [h]; field_simp; ring

section Max

variable {h : Fin 8} {i : Fin 8192} {r : ℝ} (hm : val_main_v94 (F := Ideal) x0 x2 (ix2 h i) = (r : EReal))

include hx hr hm in
theorem v107 (k : Fin 8192) : val_main_v107 (F := Ideal) x0 x2 (ix3 h i k) = (Soft.ex (near i) (S X R h i) r k : EReal) := by
  have e := v86_0 hx hr h i k
  pointwise [val_main_v107, val_main_v106, val_main_v105, val_main_v104]
  rw [e, hm]
  exact Soft.exp_score _ _ _ _

include hx hr hm in
theorem v109 : val_main_v109 (F := Ideal) x0 x2 (ix3 h i 0) = ((∑ k, Soft.ex (near i) (S X R h i) r k : ℝ) : EReal) := by
  have e := v107 hx hr hm
  pointwise [val_main_v109, val_main_v108, val_main_cst_30]
  simp only [e, Reals.sum]

theorem sum_ne : (∑ k, Soft.ex (near i) (S X R h i) r k) ≠ 0 := (Soft.sum_pos _ _ _ (near_some i)).ne'

include hx hr hm in
theorem v114 : val_main_v114 (F := Ideal) x0 x2 (ix3 h i 0)
    = ((1 / ((∑ k, Soft.ex (near i) (S X R h i) r k) * ∑ k, Soft.ex (near i) (S X R h i) r k) : ℝ) : EReal) := by
  have e := v109 hx hr hm
  have e1 : val_main_v113 (F := Ideal) (ix3 h i 0) = ((1 : ℝ) : EReal) := by
    pointwise [val_main_v113, val_main_cst_31]
    rfl
  pointwise [val_main_v114, val_main_v112]
  rw [e, e1, Reals.mul, Reals.div (mul_ne_zero sum_ne sum_ne)]

end Max

include hx hr in
theorem v111 (h : Fin 8) (i k : Fin 8192) : val_main_v111 (F := Ideal) x0 x2 (ix3 h i k) = (P X R h i k : EReal) := by
  obtain ⟨r, hm⟩ := v94 hx hr h i
  have e := v109 hx hr hm
  have e' := v107 hx hr hm k
  pointwise [val_main_v111, val_main_v110]
  rw [e, e', Reals.div sum_ne, Soft.soft_shift]
  rfl

include hx hy in
theorem v118 (h : Fin 8) (i k : Fin 8192) : val_main_v118 (F := Ideal) x0 x1 (ix3 h i k) = (dP X Y h i k : EReal) := by
  have e := v117 hy
  have e' := v4 hx
  pointwise [val_main_v118]
  simp only [e, e', Reals.mul, Reals.sum]
  rfl

include hx hy hr in
theorem v133 (h : Fin 8) (i k : Fin 8192) : val_main_v133 (F := Ideal) x0 x1 x2 (ix3 h i k) = (dS X Y R h i k : EReal) := by
  obtain ⟨r, hm⟩ := v94 hx hr h i
  have e107 := v107 hx hr hm
  have e109 := v109 hx hr hm
  have e114 := v114 hx hr hm
  have e118 := v118 hx hy h i
  have e86 := v86_1 h i k
  have e132 : val_main_v132 (F := Ideal) x0 x1 x2 (ix3 h i k) = (dS X Y R h i k : EReal) := by
    have e124 : val_main_v124 (F := Ideal) x0 x1 x2 (ix2 h i) = ((∑ l, dP X Y h i l * (1 / ((∑ k, Soft.ex (near i) (S X R h i) r k) * ∑ k, Soft.ex (near i) (S X R h i) r k)) * Soft.ex (near i) (S X R h i) r l : ℝ) : EReal) := by
      pointwise [val_main_v124, val_main_v123, val_main_v122, val_main_v121, val_main_cst_32]
      simp only [e107, e114, e118, Reals.mul, Reals.sum]
    have e129 : val_main_v129 (F := Ideal) x0 x1 x2 (ix2 h i) = -(val_main_v124 (F := Ideal) x0 x1 x2 (ix2 h i)) := by
      pointwise [val_main_v129, val_main_v126, val_main_v125, val_main_cst_33]
      exact Fintype.sum_subsingleton _ (0 : Fin 1)
    pointwise [val_main_v132, val_main_v131, val_main_v130, val_main_v128, val_main_v127]
    rw [e107, e109, e118, e129, e124, Reals.div sum_ne, Reals.neg, Reals.add, Reals.mul]
    refine Reals.congr ((quotient_rule _ _ _ sum_ne k).trans ?_)
    unfold dS P
    simp only [Soft.soft_shift]
  by_cases hn : near i k
  · pointwise [val_main_v133]
    rw [e86, if_pos hn, e132]; rfl
  · have e0 : dS X Y R h i k = 0 := by unfold dS P; rw [Soft.soft_of_not _ _ hn, zero_mul]
    have ec : val_main_call5_v0 (F := Ideal) (ix3 h i k) = ((0 : ℝ) : EReal) := by
      pointwise [val_main_call5_v0, val_main_call5_cst]
      rfl
    pointwise [val_main_v133]
    rw [e86, if_neg hn, e0, ec]; rfl

include hx hy hr in
theorem v135 (h : Fin 8) (i k : Fin 8192) : val_main_v135 (F := Ideal) x0 x1 x2 (ix3 h i k) = ((dS X Y R h i k * (Real.sqrt 128)⁻¹ : ℝ) : EReal) := by
  have e := v133 hx hy hr h i k
  have e' := v81
  pointwise [val_main_v135, val_main_v134]
  rw [e, e', Reals.mul]

include hx hy hr in
/-- The gradient of the queries. -/
theorem v143 (h : Fin 8) (l : Fin 8192) (d : Fin 128) :
    val_main_v143 (F := Ideal) x0 x1 x2 (ix3 h l d) = ((∑ k, dS X Y R h l k * (Real.sqrt 128)⁻¹ * hK (heads X) h k d : ℝ) : EReal) := by
  have e := v135 hx hy hr
  have e' := v3 hx
  pointwise [val_main_v143, val_main_v142, val_main_v139, val_main_v138]
  simp only [e, e', Reals.mul, Reals.sum]

include hx hy hr in
/-- The gradient of the keys. -/
theorem v145 (h : Fin 8) (l : Fin 8192) (d : Fin 128) :
    val_main_v145 (F := Ideal) x0 x1 x2 (ix3 h l d) = ((∑ i, dS X Y R h i l * (Real.sqrt 128)⁻¹ * hQ (heads X) h i d : ℝ) : EReal) := by
  have e := v135 hx hy hr
  have e' := v2 hx
  pointwise [val_main_v145, val_main_v144, val_main_v137, val_main_v136]
  simp only [e, e', Reals.mul, Reals.sum]

include hx hy hr in
/-- The gradient of the values. -/
theorem v147 (h : Fin 8) (l : Fin 8192) (d : Fin 128) :
    val_main_v147 (F := Ideal) x0 x1 x2 (ix3 h l d) = ((∑ i, hC Y h i d * P X R h i l : ℝ) : EReal) := by
  have e := v111 hx hr
  have e' := v117 hy
  pointwise [val_main_v147, val_main_v146, val_main_v120, val_main_v119]
  simp only [e, e', Reals.mul, Reals.sum]

include hx hy hr in
/-- The gradient of the bias table. -/
theorem v141 (h : Fin 8) (a : Fin 15) (b : Fin 31) :
    val_main_v141 (F := Ideal) x0 x1 x2 (ix3 h a b)
      = ((∑ i, ∑ k, if dr i k = a ∧ AttnIdeal.Host.dc (col i) (col k) = b then dS X Y R h i k else 0 : ℝ) : EReal) :=
  collect_at _ (fun h i k => v133 hx hy hr h i k) h a b

end Cert.AttnRefIdeal.Val

end
-- ==== Proof.AttnLink.lean ====
/-
  The windows of the kernel and the neighbourhoods of `reference.py` hold the same keys: a sum over all keys, of what is
  nothing off a query's neighbourhood, is the sum over the window of its row. With this the gradients of the kernel are
  those of the reference.
-/
module

public import proofs.«01_k».proof.Proof.AttnRefGrad

@[expose] public section

noncomputable section

namespace Cert.AttnLink

open Cert Cert.AttnIdeal.Final Cert.AttnIdeal.Row
open Cert.AttnRefIdeal.Val (near dr S dP dS row col)
open Cert.AttnIdeal.Host (dc)

theorem posn_val {r : ℕ} (h : r < 128) (q : Fin 64) : (posn r q).val = 64 * r + q.val := by
  unfold posn; dsimp only; omega
theorem key_inj (r : ℕ) : Function.Injective (key r) := fun j j' e => by
  have := congrArg Fin.val e
  unfold key at this; dsimp only at this
  exact Fin.ext (by omega)
theorem near_key {r : ℕ} (h : r < 128) (q : Fin 64) (j : Fin 512) : near (posn r q) (key r j) ↔ AttnMath.colm q j := by
  unfold near AttnMath.colm row col
  simp only [posn_val h]
  unfold key AttnMath.start
  dsimp only
  have e1 : (64 * r + q.val) / 64 = r := by omega
  have e2 : (64 * r + q.val) % 64 = q.val := by omega
  have e3 : (64 * min 120 (r - 4) + j.val) / 64 = min 120 (r - 4) + j.val / 64 := by omega
  have e4 : (64 * min 120 (r - 4) + j.val) % 64 = j.val % 64 := by omega
  rw [e1, e2, e3, e4]
  exact ⟨fun p => p.2, fun p => ⟨⟨by omega, by omega⟩, p⟩⟩
theorem key_of_near {r : ℕ} (h : r < 128) (q : Fin 64) (k : Fin 8192) (hn : near (posn r q) k) : ∃ j, key r j = k := by
  obtain ⟨⟨h1, h2⟩, -⟩ := hn
  unfold row at h1 h2
  dsimp only at h1 h2
  rw [posn_val h] at h1 h2
  have e1 : (64 * r + q.val) / 64 = r := by omega
  rw [e1] at h1 h2
  exact ⟨⟨k.val - 64 * AttnMath.start r, by omega⟩, Fin.ext (by unfold key; dsimp only; omega)⟩

/-- A sum over all keys of what is nothing outside the window of a row. -/
theorem sum_window (r : ℕ) (f : Fin 8192 → ℝ) (hf : ∀ k, (∀ j, key r j ≠ k) → f k = 0) : ∑ k, f k = ∑ j, f (key r j) := by
  refine (Finset.sum_of_injOn (key r) ((key_inj r).injOn) (fun _ _ => Finset.mem_coe.2 (Finset.mem_univ _)) (fun k _ hk => hf k fun j e => hk ?_) (fun _ _ => rfl)).symm
  exact ⟨j, Finset.mem_coe.2 (Finset.mem_univ _), e⟩

/-- The masked softmax over a window is the one over all keys. -/
theorem soft_window {N M : ℕ} (m : Fin N → Prop) [DecidablePred m] (x : Fin N → ℝ) (m' : Fin M → Prop) [DecidablePred m'] (x' : Fin M → ℝ)
    (e : Fin M → Fin N) (hi : Function.Injective e) (hm : ∀ j, m (e j) ↔ m' j) (hx : ∀ j, x (e j) = x' j) (hc : ∀ k, m k → ∃ j, e j = k) (j : Fin M) :
    Soft.soft m x (e j) = Soft.soft m' x' j := by
  have hex : ∀ j, Soft.ex m x 0 (e j) = Soft.ex m' x' 0 j := fun j => by
    unfold Soft.ex; rw [hx]
    by_cases p : m' j
    · rw [if_pos p, if_pos ((hm j).2 p)]
    · rw [if_neg p, if_neg (fun p' => p ((hm j).1 p'))]
  unfold Soft.soft
  rw [hex]
  refine congrArg _ ?_
  refine (Finset.sum_of_injOn e hi.injOn (fun _ _ => Finset.mem_coe.2 (Finset.mem_univ _)) (fun k _ hk => ?_) (fun j _ => (hex j).symm)).symm
  unfold Soft.ex
  refine if_neg fun p => hk ?_
  obtain ⟨j, hj⟩ := hc k p
  exact ⟨j, Finset.mem_coe.2 (Finset.mem_univ _), hj⟩

section Link

variable (X : Fin 8192 → Fin 3072 → ℝ) (Y : Fin 8192 → Fin 2048 → ℝ) (R : Fin 8 → Fin 15 → Fin 31 → ℝ)

theorem bias_eq {r : ℕ} (hr : r < 128) (h : Fin 8) (q : Fin 64) (j : Fin 512) :
    R h (dr (posn r q) (key r j)) (dc (col (posn r q)) (col (key r j))) = tables R h (shift r) q j := by
  unfold tables
  have e1 : col (posn r q) = q := Fin.ext (by unfold col; dsimp only; rw [posn_val hr]; omega)
  have e2 : col (key r j) = ⟨j.val % 64, Nat.mod_lt _ (by decide)⟩ := Fin.ext (by unfold col key; dsimp only; omega)
  rw [e1, e2]
  refine congrArg (fun z => R h z _) (Fin.ext ?_)
  unfold dr row shift
  dsimp only
  rw [posn_val hr]
  unfold key AttnMath.start
  dsimp only
  omega

theorem score_eq {r : ℕ} (hr : r < 128) (h : Fin 8) (q : Fin 64) (j : Fin 512) :
    S X R h (posn r q) (key r j) = AttnMath.sc (fun q => hQ (heads X) h (posn r q)) (fun j => hK (heads X) h (key r j)) (tables R h (shift r)) q j := by
  unfold S AttnMath.sc
  rw [bias_eq R hr]

theorem P_eq {r : ℕ} (hr : r < 128) (h : Fin 8) (q : Fin 64) (j : Fin 512) :
    AttnRefIdeal.Val.P X R h (posn r q) (key r j) = AttnIdeal.Final.P (heads X) (tables R) h r q j :=
  soft_window _ _ _ _ (key r) (key_inj r) (near_key hr q) (score_eq X R hr h q) (key_of_near hr q) j

theorem P_off {r : ℕ} (hr : r < 128) (h : Fin 8) (q : Fin 64) {k : Fin 8192} (hk : ∀ j, key r j ≠ k) : AttnRefIdeal.Val.P X R h (posn r q) k = 0 :=
  Soft.soft_of_not _ _ fun p => (key_of_near hr q k p).elim hk

theorem dS_off {r : ℕ} (hr : r < 128) (h : Fin 8) (q : Fin 64) {k : Fin 8192} (hk : ∀ j, key r j ≠ k) : dS X Y R h (posn r q) k = 0 := by
  unfold dS; rw [P_off X R hr h q hk, zero_mul]

theorem D_eq {r : ℕ} (hr : r < 128) (h : Fin 8) (q : Fin 64) (j : Fin 512) :
    dS X Y R h (posn r q) (key r j) = D (heads X) Y (tables R) h r q j := by
  unfold dS D AttnMath.ds
  rw [sum_window r _ (fun k hk => by rw [P_off X R hr h q hk, mul_zero])]
  simp only [P_eq X R hr]
  rfl

/-- The gradient of the queries. -/
theorem gQ_eq (h : Fin 8) (l : Fin 8192) (d : Fin 128) :
    gQ (heads X) Y (tables R) h l d = ∑ k, dS X Y R h l k * (Real.sqrt 128)⁻¹ * hK (heads X) h k d := by
  have hr : l.val / 64 < 128 := by omega
  have e : l = posn (l.val / 64) ⟨l.val % 64, Nat.mod_lt _ (by decide)⟩ := Fin.ext (by rw [posn_val hr]; dsimp only; omega)
  have g : ∑ k, dS X Y R h (posn (l.val / 64) ⟨l.val % 64, Nat.mod_lt _ (by decide)⟩) k * (Real.sqrt 128)⁻¹ * hK (heads X) h k d = gQ (heads X) Y (tables R) h l d := by
    rw [sum_window _ _ (fun k hk => by rw [dS_off X Y R hr h _ hk, zero_mul, zero_mul])]
    unfold gQ rQ
    simp only [D_eq X Y R hr]
  rw [← g, ← e]

/-- What the rows add at a key. -/
theorem key_sum (r : ℕ) (l : Fin 8192) (G : Fin 64 → Fin 8192 → ℝ) (hG : ∀ q k, (∀ j, key r j ≠ k) → G q k = 0) :
    ∑ j : Fin 512, (if key r j = l then ∑ q, G q (key r j) else 0) = ∑ q, G q l := by
  rw [← sum_window r (fun k => if k = l then ∑ q, G q k else 0)]
  · rw [Finset.sum_ite_eq' Finset.univ l (fun k => ∑ q, G q k), if_pos (Finset.mem_univ _)]
  · intro k hk
    split
    · exact Finset.sum_eq_zero fun q _ => hG q k hk
    · rfl

theorem sum_posn (f : Fin 8192 → ℝ) : ∑ r ∈ Finset.range 128, ∑ q, f (posn r q) = ∑ i, f i := by
  rw [Finset.sum_range]
  exact Reals.sum_rows (N := 128) (n := 64) rfl (fun r q => posn r.val q) (fun r q => posn_val r.isLt q) f

/-- The gradient of the keys. -/
theorem gK_eq (h : Fin 8) (l : Fin 8192) (d : Fin 128) :
    gK (heads X) Y (tables R) h l d = ∑ i, dS X Y R h i l * (Real.sqrt 128)⁻¹ * hQ (heads X) h i d := by
  rw [← sum_posn]
  refine Finset.sum_congr rfl fun r hr => ?_
  rw [← key_sum r l (fun q k => dS X Y R h (posn r q) k * (Real.sqrt 128)⁻¹ * hQ (heads X) h (posn r q) d)
    (fun q k hk => by rw [dS_off X Y R (Finset.mem_range.1 hr) h q hk, zero_mul, zero_mul])]
  unfold rK
  simp only [D_eq X Y R (Finset.mem_range.1 hr)]

/-- The gradient of the values. -/
theorem gV_eq (h : Fin 8) (l : Fin 8192) (d : Fin 128) :
    gV (heads X) Y (tables R) h l d = ∑ i, hC Y h i d * AttnRefIdeal.Val.P X R h i l := by
  rw [← sum_posn]
  refine Finset.sum_congr rfl fun r hr => ?_
  rw [← key_sum r l (fun q k => hC Y h (posn r q) d * AttnRefIdeal.Val.P X R h (posn r q) k)
    (fun q k hk => by rw [P_off X R (Finset.mem_range.1 hr) h q hk, mul_zero])]
  unfold rV
  simp only [P_eq X R (Finset.mem_range.1 hr), mul_comm]

/-- The place of the table where the gradient of a score is collected. -/
def at_ (h : Fin 8) (a : Fin 15) (b : Fin 31) (r : ℕ) (q : Fin 64) (j : Fin 8) (k : Fin 64) : ℝ :=
  if (shift r).val + j.val = a.val ∧ dc q k = b then D (heads X) Y (tables R) h r q ⟨64 * j.val + k.val, by omega⟩ else 0

theorem gE_inner (h : Fin 8) (a : Fin 15) (q : Fin 64) (k : Fin 64) :
    (∑ d : Fin 8, ∑ j : Fin 8, gE (heads X) Y (tables R) h d q ⟨64 * j.val + k.val, by omega⟩ * (if a.val = d.val + j.val then 1 else 0 : ℝ))
      = ∑ r ∈ Finset.range 128, ∑ j : Fin 8, if (shift r).val + j.val = a.val then D (heads X) Y (tables R) h r q ⟨64 * j.val + k.val, by omega⟩ else 0 := by
  unfold gE rDe
  simp only [Finset.sum_mul]
  rw [Finset.sum_comm, Finset.sum_comm (s := Finset.range 128)]
  refine Finset.sum_congr rfl fun j _ => ?_
  rw [Finset.sum_comm]
  refine Finset.sum_congr rfl fun r _ => ?_
  simp only [ite_mul, zero_mul]
  rw [Finset.sum_ite_eq' Finset.univ (shift r), if_pos (Finset.mem_univ _)]
  by_cases e : (shift r).val + j.val = a.val
  · rw [if_pos e, if_pos e.symm, mul_one]
  · rw [if_neg e, if_neg (fun e' => e e'.symm), mul_zero]

/-- The sum the kernel's host lines take. -/
theorem gE_sum (h : Fin 8) (a : Fin 15) (b : Fin 31) :
    (∑ q : Fin 64, ∑ k : Fin 64, (∑ d : Fin 8, ∑ j : Fin 8, gE (heads X) Y (tables R) h d q ⟨64 * j.val + k.val, by omega⟩ * (if a.val = d.val + j.val then 1 else 0 : ℝ)) * (if dc q k = b then 1 else 0 : ℝ))
      = ∑ r ∈ Finset.range 128, ∑ q, ∑ j, ∑ k, at_ X Y R h a b r q j k := by
  simp only [gE_inner, Finset.sum_mul]
  rw [Finset.sum_comm (s := Finset.range 128)]
  refine Finset.sum_congr rfl fun q _ => ?_
  rw [Finset.sum_comm]
  refine Finset.sum_congr rfl fun r _ => ?_
  rw [Finset.sum_comm]
  refine Finset.sum_congr rfl fun j _ => Finset.sum_congr rfl fun k _ => ?_
  unfold at_
  by_cases e : (shift r).val + j.val = a.val <;> by_cases e' : dc q k = b <;> simp [e, e']

theorem sum_tiles (f : Fin 512 → ℝ) : ∑ j : Fin 8, ∑ k : Fin 64, f ⟨64 * j.val + k.val, by omega⟩ = ∑ j, f j :=
  Reals.sum_rows (N := 8) (n := 64) rfl (fun j k => ⟨64 * j.val + k.val, by omega⟩) (fun _ _ => rfl) f

/-- The gradient of the bias table. -/
theorem gE_eq (h : Fin 8) (a : Fin 15) (b : Fin 31) :
    (∑ i, ∑ k, if dr i k = a ∧ dc (col i) (col k) = b then dS X Y R h i k else 0)
      = ∑ r ∈ Finset.range 128, ∑ q, ∑ j, ∑ k, at_ X Y R h a b r q j k := by
  rw [← sum_posn]
  refine Finset.sum_congr rfl fun r hr => Finset.sum_congr rfl fun q _ => ?_
  have hr' := Finset.mem_range.1 hr
  rw [sum_window r _ (fun k hk => by rw [dS_off X Y R hr' h q hk, ite_self]), ← sum_tiles]
  refine Finset.sum_congr rfl fun j _ => Finset.sum_congr rfl fun k _ => ?_
  unfold at_
  rw [D_eq X Y R hr']
  have e1 : col (posn r q) = q := Fin.ext (by unfold col; dsimp only; rw [posn_val hr']; omega)
  have e2 : col (key r ⟨64 * j.val + k.val, by omega⟩) = k := Fin.ext (by unfold col key; dsimp only; omega)
  have e3 : (dr (posn r q) (key r ⟨64 * j.val + k.val, by omega⟩) = a) ↔ ((shift r).val + j.val = a.val) := by
    rw [Fin.ext_iff]
    unfold dr row shift
    dsimp only
    rw [posn_val hr']
    unfold key AttnMath.start
    dsimp only
    omega
  rw [e1, e2]
  exact if_congr (and_congr e3 Iff.rfl) rfl rfl

end Link

end Cert.AttnLink

end
-- ==== Proof.AttnClaim.lean ====
/-
  The attention's backward kernel and the derivative of `reference.py`'s attention leave the same four results, where the
  arguments are finite.
-/
module

public import proofs.«01_k».proof.Defs
public import proofs.«01_k».proof.Proof.AttnLink
public import proofs.«01_k».proof.Proof.Gen.Pre_attn_finite
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.AttnIdeal.Final (arr_qkv arr_y arr_e)

/-- An array whose absolute value is below infinity everywhere is a real number everywhere. -/
theorem attn_real {x : FVec Ideal ⟨2, ![8192, 3072]⟩ .bf16} {y : FVec Ideal ⟨2, ![8192, 2048]⟩ .bf16} {b : FVec Ideal ⟨3, ![8, 15, 31]⟩ .f32}
    (h : (Pre_attn_finite.fn (F := Ideal) x y b).1 = (fun _ => 1#1) ∧ (Pre_attn_finite.fn (F := Ideal) x y b).2.1 = (fun _ => 1#1)
      ∧ (Pre_attn_finite.fn (F := Ideal) x y b).2.2 = (fun _ => 1#1)) :
    (∀ l d, x (ix2 l d) = ((x (ix2 l d)).toReal : EReal)) ∧ (∀ l d, y (ix2 l d) = ((y (ix2 l d)).toReal : EReal))
      ∧ (∀ i p k, b (ix3 i p k) = ((b (ix3 i p k)).toReal : EReal)) := by
  obtain ⟨h0, h1, h2⟩ := h
  exact ⟨fun p d => Reals.eq_coe (Reals.finite_of_lt (congrFun h0 (ix2 p d))),
    fun p d => Reals.eq_coe (Reals.finite_of_lt (congrFun h1 (ix2 p d))),
    fun i p k => Reals.eq_coe (Reals.finite_of_lt (congrFun h2 (ix3 i p k)))⟩

/-- The reference is host code alone: it declares no semaphore. -/
theorem attnRef_frame : quiescent_AttnRefIdeal := fun m g _ => (θ_run _ _ _).mono
  (fun r h => ⟨fun c => (h c).2.2.2.2, sem_eq_zero_of_no_sems (by decide) r.2⟩) (AttnRefIdeal.Value.run m g)

theorem attn_preserves : preserves_Attn_AttnIdeal :=
  ⟨IdealRules.named_const.statement AttnIdeal.κ "s" .f32 0x3DB504F3#32 (((Real.sqrt 128)⁻¹ : ℝ) : EReal) rfl,
    IdealRules.named_const.statement AttnIdeal.κ "mask" .f32 0xF149F2CA#32 ⊥ rfl⟩

theorem attn_algebraic : algebraic_AttnIdeal_AttnRefIdeal_pre_attn_finite := by
  intro m g m' g' hpre hargs
  refine ⟨_, _, _, _, AttnIdeal.Final.run_blocks m g, (θ_run _ _ _).mono (fun r h c => ?_) (AttnRefIdeal.Value.run m' g')⟩
  obtain ⟨h0, h1, h2, h3, ha⟩ := h c
  obtain ⟨hx, hy, hb⟩ := attn_real (hpre c)
  obtain ⟨e0, e1, e2⟩ := hargs c
  have e0 : StableHlo.launchContents m' c (Proc.tc.devRef AttnRefIdeal.main_arg0) = m ((c.tc : Thread AttnIdeal.nD AttnIdeal.τ).loc AttnIdeal.main_arg0) := e0
  have e1 : StableHlo.launchContents m' c (Proc.tc.devRef AttnRefIdeal.main_arg1) = m ((c.tc : Thread AttnIdeal.nD AttnIdeal.τ).loc AttnIdeal.main_arg1) := e1
  have e2 : StableHlo.launchContents m' c (Proc.tc.devRef AttnRefIdeal.main_arg2) = m ((c.tc : Thread AttnIdeal.nD AttnIdeal.τ).loc AttnIdeal.main_arg2) := e2
  have az := arr_qkv m c hx
  have ay := arr_y m c hy
  have ae := arr_e m c hb
  refine ⟨h0.trans ?_, h1.trans ?_, h2.trans ?_, h3.trans ?_, ha⟩
  · rw [AttnRefIdeal.Read.val_main_v143_eq, e0, e1, e2]
    refine Eq.trans (funext fun i => ?_) (AttnIdeal.Final.final5 m c az ay ae).symm
    exact (congrArg _ (eq_ix3 i)).trans ((AttnRefIdeal.Val.v143 hx hy hb (i 0) (i 1) (i 2)).trans (Reals.congr (AttnLink.gQ_eq _ _ _ _ _ _).symm))
  · rw [AttnRefIdeal.Read.val_main_v145_eq, e0, e1, e2]
    refine Eq.trans (funext fun i => ?_) (AttnIdeal.Final.final6 m c az ay ae).symm
    exact (congrArg _ (eq_ix3 i)).trans ((AttnRefIdeal.Val.v145 hx hy hb (i 0) (i 1) (i 2)).trans (Reals.congr (AttnLink.gK_eq _ _ _ _ _ _).symm))
  · rw [AttnRefIdeal.Read.val_main_v147_eq, e0, e1, e2]
    refine Eq.trans (funext fun i => ?_) (AttnIdeal.Final.final7 m c az ay ae).symm
    exact (congrArg _ (eq_ix3 i)).trans ((AttnRefIdeal.Val.v147 hx hy hb (i 0) (i 1) (i 2)).trans (Reals.congr (AttnLink.gV_eq _ _ _ _ _ _).symm))
  · rw [AttnRefIdeal.Read.val_main_v141_eq, e0, e1, e2]
    refine funext fun i => ?_
    refine (congrArg _ (eq_ix3 i)).trans ((AttnRefIdeal.Val.v141 hx hy hb (i 0) (i 1) (i 2)).trans ?_)
    refine Eq.trans (Reals.congr ?_) ((AttnIdeal.Final.finalE m c az ay ae (i 0) (i 1) (i 2)).symm.trans (congrArg _ (eq_ix3 i)).symm)
    exact (AttnLink.gE_eq _ _ _ _ _ _).trans (AttnLink.gE_sum _ _ _ _ _ _).symm

end Cert.Proof

end
-- ==== Proof.NormGrad.lean ====
/-
  The gradient through a norm of 8192 rows of 2048, as real numbers, from the cotangent `H` of the normed rows, and its
  gain's gradient as a sum over 16 blocks of 512 rows that a buffer carries from one block to the next.
-/
module

public import proofs.«01_k».proof.Proof.Norm

@[expose] public section

noncomputable section

namespace Cert.NormGrad

/-- The norm's gradient of the rows. -/
def dxs (H X : Fin 8192 → Fin 2048 → ℝ) (G : Fin 2048 → ℝ) (p : Fin 8192) (d : Fin 2048) : ℝ :=
  Norm.dx 2048 (X p) (fun k => H p k * G k) d

/-- The share of a block of rows in the gain's gradient. -/
def part (H X : Fin 8192 → Fin 2048 → ℝ) (d : Fin 2048) (n : ℕ) : ℝ :=
  ∑ p : Fin 512, if h : 512 * n + p.val < 8192 then H ⟨512 * n + p.val, h⟩ d * (X ⟨512 * n + p.val, h⟩ d * Norm.r 2048 (X ⟨512 * n + p.val, h⟩)) else 0

theorem sum_part (H X : Fin 8192 → Fin 2048 → ℝ) (d : Fin 2048) :
    ∑ n ∈ Finset.range 16, part H X d n = ∑ p, H p d * (X p d * Norm.r 2048 (X p)) := by
  rw [Finset.sum_range, ← Reals.sum_rows (N := 16) (n := 512) (by norm_num)
    (fun t p => ⟨512 * t.val + p.val, by omega⟩) (fun _ _ => rfl) fun p => H p d * (X p d * Norm.r 2048 (X p))]
  exact Finset.sum_congr rfl fun t _ => Finset.sum_congr rfl fun p _ => dif_pos _

/-- A buffer that gets a share at each `K`-th point, the first time by a plain store, and is left alone at the others,
holds the sum of the shares so far. -/
theorem carried {N K : ℕ} (hK : 0 < K) (o : ∀ n, n < N → EReal) (f : ℕ → ℝ)
    (idle : ∀ n (hn : n < N), ¬K ∣ n + 1 → o n hn = o (n - 1) (Nat.lt_of_le_of_lt (Nat.sub_le _ _) hn))
    (first : ∀ n (hn : n < N), K ∣ n + 1 → n < K → o n hn = (f (n / K) : EReal))
    (next : ∀ n (hn : n < N), K ∣ n + 1 → ¬n < K →
      o n hn = o (n - 1) (Nat.lt_of_le_of_lt (Nat.sub_le _ _) hn) + (f (n / K) : EReal))
    (n : ℕ) : ∀ hn : n < N, K ≤ n + 1 → o n hn = ((∑ i ∈ Finset.range ((n + 1) / K), f i : ℝ) : EReal) := by
  induction n with
  | zero =>
    intro hn h
    have hd : K ∣ 0 + 1 := by rw [Nat.le_antisymm h hK]
    rw [first 0 hn hd hK, Nat.succ_div, if_pos hd, Nat.zero_div, Finset.sum_range_one]
  | succ n ih =>
    intro hn h
    rw [Nat.succ_div]
    by_cases hd : K ∣ n + 1 + 1
    · rw [if_pos hd, Finset.sum_range_succ]
      by_cases h2 : n + 1 < K
      · rw [first _ hn hd h2, Nat.div_eq_of_lt h2, Finset.sum_range_zero, zero_add]
      · rw [next _ hn hd h2, ← Reals.add]
        exact congrArg (· + _) (ih (Nat.lt_of_succ_lt hn) (Nat.le_of_not_lt h2))
    · rw [if_neg hd, idle _ hn hd]
      refine ih (Nat.lt_of_succ_lt hn) (Nat.lt_succ_iff.mp (lt_of_le_of_ne h fun e => hd (dvd_of_eq e)))

end Cert.NormGrad

end
-- ==== Proof.DhKernel.lean ====
/-
  What the gradient through the feed-forward's input products and its norm leaves in its three results, as real numbers,
  when its arguments but the residual's cotangent are real numbers: for each block of 512 rows the kernel adds up both
  products over 11 blocks of columns, takes the norm's gradient at the last and adds the residual's cotangent; the gain's
  gradient is added up over the 16 blocks of rows.
-/
module

public import proofs.«01_k».proof.Proof.NormGrad
public import proofs.«01_k».proof.Proof.Gen.DhIdeal.Value
public import Idealize.ShloMosaic.Lib.Pipeline.ValueKit
public import Idealize.ShloMosaic.Lib.Pointwise
public import Idealize.ShloMosaic.Lib.Pipeline.ReadBack
public import Idealize.ShloMosaic.Lib.StableHlo.RunRead

@[expose] public section

set_option maxRecDepth 16384

noncomputable section

namespace Cert.DhIdeal.Value

open Cert.DhIdeal Cert.DhIdeal.Gen Idealize.ShloMosaic Idealize.ShloMosaic.TcCoe Idealize.SL.Sem
open Idealize.ShloMosaic.Pipeline (Dat)
open Cert.NormGrad (dxs part sum_part)

theorem eq_row0 {n : ℕ} (j : (⟨2, ![1, n]⟩ : Shape).Idx) : j = ix2 0 (j 1) :=
  (eq_ix2 j).trans (congrArg (fun a => ix2 a (j 1)) (Subsingleton.elim (α := Fin 1) (j 0) 0))

section Body

variable {a x e : Vec Ideal S512x2048 .f32} {g : Vec Ideal S1x2048 .f32}
  {A X : Fin 512 → Fin 2048 → ℝ} {G : Fin 2048 → ℝ}
  (ha : ∀ p d, a (ix2 p d) = (A p d : EReal)) (hx : ∀ p d, x (ix2 p d) = (X p d : EReal))
  (hg : ∀ d, g (ix2 0 d) = (G d : EReal))

include hx in
theorem pay_r (p : Fin 512) : k0_pay5 x (ix2 p 0) = ((Norm.r 2048 (X p) : ℝ) : EReal) := by
  pointwise [k0_pay5]
  simp only [hx, Reals.mul, Reals.sum, Reals.lit_2048, Reals.lit_eps, Reals.div (b := 2048) (by norm_num), Reals.add]
  exact Reals.rsqrt (Norm.ms_pos (by norm_num) (X p))

include ha hx in
/-- The block's share of the gain's gradient. -/
theorem pay_dg (d : Fin 2048) :
    k0_pay6 a x (ix2 0 d) = ((∑ p, A p d * (X p d * Norm.r 2048 (X p)) : ℝ) : EReal) := by
  pointwise [k0_pay6]
  simp only [pay_r hx, ha, hx, Reals.mul, Reals.sum]

include ha hx hg in
/-- The row result of the body. -/
theorem pay_dx (p : Fin 512) (d : Fin 2048) :
    k0_pay7 a x g e (ix2 p d)
      = e (ix2 p d) + ((Norm.dx 2048 (X p) (fun k => A p k * G k) d : ℝ) : EReal) := by
  pointwise [k0_pay7]
  simp only [pay_r hx, ha, hx, hg, Reals.lit_2048, Reals.mul, Reals.sum, Reals.div (b := 2048) (by norm_num),
    Reals.sub, Norm.dx]

end Body

/-- One step's product, added to what the accumulator held. -/
theorem pay2_apply {v : Vec Ideal S512x2048 .f32} {b : Vec Ideal S1x512x512 .bf16} {w : Vec Ideal S1x512x2048 .bf16}
    {B : Fin 512 → Fin 512 → ℝ} {Q : Fin 512 → Fin 2048 → ℝ}
    (hb : ∀ p k, b (ix3 0 p k) = (B p k : EReal)) (hw : ∀ k d, w (ix3 0 k d) = (Q k d : EReal)) (p : Fin 512) (d : Fin 2048) :
    k0_pay2 v b w (ix2 p d) = v (ix2 p d) + ((∑ k, B p k * Q k d : ℝ) : EReal) := by
  pointwise [k0_pay2]
  simp only [hb, hw, Reals.mul, Reals.sum]

theorem pay3_apply {v : Vec Ideal S512x2048 .f32} {b : Vec Ideal S1x512x512 .bf16} {w : Vec Ideal S1x512x2048 .bf16}
    {B : Fin 512 → Fin 512 → ℝ} {Q : Fin 512 → Fin 2048 → ℝ}
    (hb : ∀ p k, b (ix3 0 p k) = (B p k : EReal)) (hw : ∀ k d, w (ix3 0 k d) = (Q k d : EReal)) (p : Fin 512) (d : Fin 2048) :
    k0_pay3 v b w (ix2 p d) = v (ix2 p d) + ((∑ k, B p k * Q k d : ℝ) : EReal) := by
  pointwise [k0_pay3]
  simp only [hb, hw, Reals.mul, Reals.sum]

theorem pay1_apply (p : Fin 512) (d : Fin 2048) : k0_pay1 (F := Ideal) (ix2 p d) = 0 := by
  pointwise [k0_pay1]

variable (m : (ℓ : Loc nD τ sig) → Buf (Elt Ideal) ℓ)

theorem idx : ∀ t : Fin cfg0.N, win0_0.index t = ![0, t.val / 11, t.val % 11] ∧ win0_1.index t = ![0, t.val % 11, 0]
    ∧ win0_2.index t = ![1, t.val / 11, t.val % 11] ∧ win0_3.index t = ![1, t.val % 11, 0]
    ∧ win0_4.index t = ![t.val / 11, 0] ∧ win0_5.index t = ![0, 0] ∧ win0_6.index t = ![t.val / 11, 0]
    ∧ win0_7.index t = ![t.val / 11, 0] ∧ win0_8.index t = ![t.val / 11, 0] ∧ win0_9.index t = ![0, 0] :=
  (by decide +kernel : ∀ t : Fin grid0.N, _)

section Arrays

variable (c : Dev nD) {D0 D1 : Fin 8192 → Fin 5632 → ℝ} {Wg Wu : Fin 2048 → Fin 5632 → ℝ}
  {X : Fin 8192 → Fin 2048 → ℝ} {G : Fin 2048 → ℝ}
  (h0 : ∀ p k, (m ((c : Thread nD τ).loc main_arg0) : FVec Ideal S2x8192x5632 .bf16) (ix3 0 p k) = (D0 p k : EReal))
  (h1 : ∀ p k, (m ((c : Thread nD τ).loc main_arg0) : FVec Ideal S2x8192x5632 .bf16) (ix3 1 p k) = (D1 p k : EReal))
  (hwg : ∀ d k, (m ((c : Thread nD τ).loc main_arg1) : FVec Ideal S2048x5632 .f32) (ix2 d k) = (Wg d k : EReal))
  (hwu : ∀ d k, (m ((c : Thread nD τ).loc main_arg2) : FVec Ideal S2048x5632 .f32) (ix2 d k) = (Wu d k : EReal))
  (hx : ∀ p d, (m ((c : Thread nD τ).loc main_arg3) : FVec Ideal S8192x2048 .f32) (ix2 p d) = (X p d : EReal))
  (hg : ∀ d, (m ((c : Thread nD τ).loc main_arg4) : FVec Ideal S2048 .f32) (ix1 d) = (G d : EReal))

/-- The array's row that row `p` of point `t`'s block is. -/
abbrev row (t : Fin cfg0.N) (p : Fin 512) : Fin 8192 :=
  ⟨512 * (t.val / 11) + p.val, by have := t.isLt; have hN : cfg0.N = 176 := N_0; omega⟩

/-- The array's column that column `k` of point `t`'s block is. -/
abbrev col (t : Fin cfg0.N) (k : Fin 512) : Fin 5632 := ⟨512 * (t.val % 11) + k.val, by omega⟩

include h0 in
theorem blk_0 (t : Fin cfg0.N) (p : Fin 512) (k : Fin 512) :
    (iblk m c 0 t : Vec Ideal S1x512x512 .bf16) (ix3 0 p k) = (D0 (row t p) (col t k) : EReal) := by
  rw [← h0]
  blk_ext [iblk, V, idx t]

include h1 in
theorem blk_2 (t : Fin cfg0.N) (p : Fin 512) (k : Fin 512) :
    (iblk m c 2 t : Vec Ideal S1x512x512 .bf16) (ix3 0 p k) = (D1 (row t p) (col t k) : EReal) := by
  rw [← h1]
  blk_ext [iblk, V, idx t]

include hx in
theorem blk_4 (t : Fin cfg0.N) (p : Fin 512) (d : Fin 2048) :
    (iblk m c 4 t : Vec Ideal S512x2048 .f32) (ix2 p d) = (X (row t p) d : EReal) := by
  rw [← hx]
  blk_ext [iblk, V, idx t]

include hg in
theorem blk_5 (t : Fin cfg0.N) (d : Fin 2048) :
    (iblk m c 5 t : Vec Ideal S1x2048 .f32) (ix2 0 d) = (G d : EReal) := by
  rw [← hg]
  blk_ext! [iblk, V, idx t]

/-- The residual's cotangent, any extended real. -/
def res (p : Fin 8192) (d : Fin 2048) : EReal := (m ((c : Thread nD τ).loc main_arg5) : FVec Ideal S8192x2048 .f32) (ix2 p d)

theorem blk_6 (t : Fin cfg0.N) (p : Fin 512) (d : Fin 2048) :
    (iblk m c 6 t : Vec Ideal S512x2048 .f32) (ix2 p d)
      = res m c (row t p) d := by
  unfold res
  blk_ext [iblk, V, idx t]

/-- The stacked weights as the kernel finds them. -/
theorem V_v5 : V m c main_v5 = (truncf .bf16 (concatenate S2x5632x2048 0
    [⟨S1x5632x2048, broadcastInDim S1x5632x2048 ![1, 2] bcast_S5632x2048_S1x5632x2048_1_2
        (transpose S5632x2048 [1, 0] (m ((c : Thread nD τ).loc main_arg1) : FVec Ideal S2048x5632 .f32) transposes_S2048x5632_S5632x2048_1_0)⟩,
      ⟨S1x5632x2048, broadcastInDim S1x5632x2048 ![1, 2] bcast_S5632x2048_S1x5632x2048_1_2
        (transpose S5632x2048 [1, 0] (m ((c : Thread nD τ).loc main_arg2) : FVec Ideal S2048x5632 .f32) transposes_S2048x5632_S5632x2048_1_0)⟩]
    concatenates_S1x5632x2048_S1x5632x2048_S2x5632x2048_d0 : FVec Ideal S2x5632x2048 .f32) bitsLt_bf16_f32) := by
  after_reads_simp
  rfl

theorem wt0 (k : Fin 5632) (d : Fin 2048) : (V m c main_v5 : FVec Ideal S2x5632x2048 .bf16) (ix3 0 k d)
    = (m ((c : Thread nD τ).loc main_arg1) : FVec Ideal S2048x5632 .f32) (ix2 d k) := by
  rw [V_v5]
  pointwise []

theorem wt1 (k : Fin 5632) (d : Fin 2048) : (V m c main_v5 : FVec Ideal S2x5632x2048 .bf16) (ix3 1 k d)
    = (m ((c : Thread nD τ).loc main_arg2) : FVec Ideal S2048x5632 .f32) (ix2 d k) := by
  rw [V_v5]
  pointwise []

include hwg in
theorem blk_1 (t : Fin cfg0.N) (k : Fin 512) (d : Fin 2048) :
    (iblk m c 1 t : Vec Ideal S1x512x2048 .bf16) (ix3 0 k d) = (Wg d (col t k) : EReal) := by
  rw [← hwg, ← wt0 m c]
  blk_ext [iblk, idx t]

include hwu in
theorem blk_3 (t : Fin cfg0.N) (k : Fin 512) (d : Fin 2048) :
    (iblk m c 3 t : Vec Ideal S1x512x2048 .bf16) (ix3 0 k d) = (Wu d (col t k) : EReal) := by
  rw [← hwu, ← wt1 m c]
  blk_ext [iblk, idx t]

/-- The cotangent of the norm's result: both products over the feed-forward's columns. -/
def H (D0 D1 : Fin 8192 → Fin 5632 → ℝ) (Wg Wu : Fin 2048 → Fin 5632 → ℝ) (p : Fin 8192) (d : Fin 2048) : ℝ :=
  (∑ k, D0 p k * Wg d k) + ∑ k, D1 p k * Wu d k

/-- The share of one point in it. -/
def step (D0 D1 : Fin 8192 → Fin 5632 → ℝ) (Wg Wu : Fin 2048 → Fin 5632 → ℝ) (t : Fin cfg0.N) (p : Fin 512) (d : Fin 2048) : ℝ :=
  (∑ k, D0 (row t p) (col t k) * Wg d (col t k)) + ∑ k, D1 (row t p) (col t k) * Wu d (col t k)

/-- The points of one block of rows add up to the whole cotangent. -/
theorem sum_step (D0 D1 : Fin 8192 → Fin 5632 → ℝ) (Wg Wu : Fin 2048 → Fin 5632 → ℝ) (t : Fin cfg0.N) (u : Fin 11 → Fin cfg0.N)
    (hu : ∀ s, (u s).val = 11 * (t.val / 11) + s.val) (p : Fin 512) (d : Fin 2048) :
    ∑ s, step D0 D1 Wg Wu (u s) p d = H D0 D1 Wg Wu (row t p) d := by
  have hr : ∀ s, row (u s) p = row t p := fun s => Fin.ext (by
    show 512 * ((u s).val / 11) + _ = 512 * (t.val / 11) + _
    have := hu s; have := s.isLt; omega)
  have hc : ∀ (s : Fin 11) (k : Fin 512), (col (u s) k).val = 512 * s.val + k.val := fun s k => by
    show 512 * ((u s).val % 11) + _ = _
    have := hu s; have := s.isLt; omega
  unfold step H
  rw [Finset.sum_add_distrib]
  congr 1
  · rw [← Reals.sum_rows (N := 11) (n := 512) (by norm_num) (fun s k => col (u s) k) hc fun k => D0 (row t p) k * Wg d k]
    exact Finset.sum_congr rfl fun s _ => Finset.sum_congr rfl fun k _ => by rw [hr]
  · rw [← Reals.sum_rows (N := 11) (n := 512) (by norm_num) (fun s k => col (u s) k) hc fun k => D1 (row t p) k * Wu d k]
    exact Finset.sum_congr rfl fun s _ => Finset.sum_congr rfl fun k _ => by rw [hr]

theorem acc_A (t : Fin cfg0.N) (h : t.val % 11 = 0) : (outsAt0 m c t.val t.isLt).2.2.2
    = k0_pay3 (k0_pay2 k0_pay1 (iblk m c 0 t) (iblk m c 1 t)) (iblk m c 2 t) (iblk m c 3 t) := by
  rw [outsAt0_A m c t h (by omega)]; frame_out; try rw [read_unread_whole]

theorem acc_step (t : Fin cfg0.N) (h : ¬t.val % 11 = 0) : (outsAt0 m c t.val t.isLt).2.2.2
    = k0_pay3 (k0_pay2 (outsAt0 m c (t.val - 1) (Nat.lt_of_le_of_lt (Nat.sub_le _ _) t.isLt)).2.2.2 (iblk m c 0 t) (iblk m c 1 t))
        (iblk m c 2 t) (iblk m c 3 t) := by
  by_cases h1 : t.val % 11 = 10
  · by_cases h2 : t.val < 11
    · rw [outsAt0_C m c t h h1 h2 (by omega)]; frame_out; try rw [read_unread_whole]
    · rw [outsAt0_D m c t h h1 h2 (by omega)]; frame_out; try rw [read_unread_whole]
  · rw [outsAt0_B m c t h h1]; frame_out; try rw [read_unread_whole]

theorem out7 (t : Fin cfg0.N) (h1 : t.val % 11 = 10) : (outsAt0 m c t.val t.isLt).1
    = k0_pay7 (outsAt0 m c t.val t.isLt).2.2.2 (iblk m c 4 t) (iblk m c 5 t) (iblk m c 6 t) := by
  have h : ¬t.val % 11 = 0 := by omega
  rw [acc_step m c t h]
  by_cases h2 : t.val < 11
  · rw [outsAt0_C m c t h h1 h2 (by omega)]; frame_out; try rw [read_unread_whole]
  · rw [outsAt0_D m c t h h1 h2 (by omega)]; frame_out; try rw [read_unread_whole]

theorem out8 (t : Fin cfg0.N) (h1 : t.val % 11 = 10) : (outsAt0 m c t.val t.isLt).2.1
    = k0_pay8 (outsAt0 m c t.val t.isLt).2.2.2 (iblk m c 4 t) (iblk m c 5 t) (iblk m c 6 t) := by
  have h : ¬t.val % 11 = 0 := by omega
  rw [acc_step m c t h]
  by_cases h2 : t.val < 11
  · rw [outsAt0_C m c t h h1 h2 (by omega)]; frame_out; try rw [read_unread_whole]
  · rw [outsAt0_D m c t h h1 h2 (by omega)]; frame_out; try rw [read_unread_whole]

theorem out9_idle (t : Fin cfg0.N) (h1 : ¬t.val % 11 = 10) : (outsAt0 m c t.val t.isLt).2.2.1
    = (outsAt0 m c (t.val - 1) (Nat.lt_of_le_of_lt (Nat.sub_le _ _) t.isLt)).2.2.1 := by
  by_cases h : t.val % 11 = 0
  · rw [outsAt0_A m c t h h1]; rfl
  · rw [outsAt0_B m c t h h1]; rfl

theorem out9_first (t : Fin cfg0.N) (h1 : t.val % 11 = 10) (h2 : t.val < 11) : (outsAt0 m c t.val t.isLt).2.2.1
    = k0_pay6 (outsAt0 m c t.val t.isLt).2.2.2 (iblk m c 4 t) := by
  have h : ¬t.val % 11 = 0 := by omega
  rw [acc_step m c t h, outsAt0_C m c t h h1 h2 (by omega)]; frame_out; try rw [read_unread_whole]

theorem out9_next (t : Fin cfg0.N) (h1 : t.val % 11 = 10) (h2 : ¬t.val < 11) : (outsAt0 m c t.val t.isLt).2.2.1
    = k0_pay4 (k0_pay6 (outsAt0 m c t.val t.isLt).2.2.2 (iblk m c 4 t))
        (outsAt0 m c (t.val - 1) (Nat.lt_of_le_of_lt (Nat.sub_le _ _) t.isLt)).2.2.1 := by
  have h : ¬t.val % 11 = 0 := by omega
  rw [acc_step m c t h, outsAt0_D m c t h h1 h2 (by omega)]; frame_out; try rw [read_unread_whole]

include h0 h1 hwg hwu in
/-- The accumulator at the last point of a block of rows. -/
theorem acc (t : Fin cfg0.N) (ht : t.val % 11 = 10) (p : Fin 512) (d : Fin 2048) :
    (outsAt0 m c t.val t.isLt).2.2.2 (ix2 p d) = ((H D0 D1 Wg Wu (row t p) d : ℝ) : EReal) := by
  have key := Pipeline.eq_sum_fin_of_reset_step_apply_of_flush (N := cfg0.N) (M := EReal)
    (fun n h (i : Fin 512 × Fin 2048) => (outsAt0 m c n h).2.2.2 (ix2 i.1 i.2)) 11 0
    (fun t i => ((step D0 D1 Wg Wu t i.1 i.2 : ℝ) : EReal))
    (fun t h i => by
      show (outsAt0 m c t.val t.isLt).2.2.2 (ix2 i.1 i.2) = _
      rw [acc_A m c t h, pay3_apply (blk_2 m c h1 t) (blk_3 m c hwu t), pay2_apply (blk_0 m c h0 t) (blk_1 m c hwg t),
        pay1_apply, add_assoc, Reals.add]
      rfl)
    (fun t h i => by
      show (outsAt0 m c t.val t.isLt).2.2.2 (ix2 i.1 i.2) = (outsAt0 m c (t.val - 1) _).2.2.2 (ix2 i.1 i.2) + _
      rw [acc_step m c t h, pay3_apply (blk_2 m c h1 t) (blk_3 m c hwu t), pay2_apply (blk_0 m c h0 t) (blk_1 m c hwg t),
        add_assoc, Reals.add]
      rfl)
    t ht (p, d)
  refine key.trans ?_
  rw [Pi.zero_apply, zero_add, Reals.sum]
  exact Reals.congr (sum_step D0 D1 Wg Wu t _ (fun _ => rfl) p d)

include h0 h1 hwg hwu hx hg in
theorem row7 (t : Fin cfg0.N) (ht : t.val % 11 = 10) (p : Fin 512) (d : Fin 2048) : (outsAt0 m c t.val t.isLt).1 (ix2 p d)
    = res m c (row t p) d
      + ((dxs (H D0 D1 Wg Wu) X G (row t p) d : ℝ) : EReal) := by
  rw [out7 m c t ht, pay_dx (acc m c h0 h1 hwg hwu t ht) (blk_4 m c hx t) (blk_5 m c hg t), blk_6]
  rfl

include h0 h1 hwg hwu hx hg in
theorem row8 (t : Fin cfg0.N) (ht : t.val % 11 = 10) (p : Fin 512) (d : Fin 2048) : (outsAt0 m c t.val t.isLt).2.1 (ix2 p d)
    = res m c (row t p) d
      + ((dxs (H D0 D1 Wg Wu) X G (row t p) d : ℝ) : EReal) := by
  rw [out8 m c t ht]
  refine Eq.trans ?_ ((pay_dx (e := iblk m c 6 t) (acc m c h0 h1 hwg hwu t ht) (blk_4 m c hx t) (blk_5 m c hg t) p d).trans (congrArg (· + _) (blk_6 m c t p d)))
  pointwise [k0_pay8]

include h0 h1 hwg hwu hx hg in
theorem result7 : (dats m 0 c).arrAt 7 (cfgs 0).N
    = fun i : S8192x2048.Idx => res m c (i 0) (i 1)
      + ((dxs (H D0 D1 Wg Wu) X G (i 0) (i 1) : ℝ) : EReal) := by
  refine (dats m 0 c).arrAt_eq_of_covers 7 _ (by decide +kernel) fun t hf y => ?_
  have ht : t.val % 11 = 10 := (flush0_7 t).mp hf
  blk_simp
  rw [after0_7]
  refine (congrArg _ (eq_ix2 y)).trans ((row7 m c h0 h1 hwg hwu hx hg t ht (y 0) (y 1)).trans ?_)
  have e0 : (win0_7.blk t).view.emb y 0 = row t (y 0) := Fin.ext (by blk_simp [idx t]; show _ = 512 * (t.val / 11) + _; omega)
  have e1 : (win0_7.blk t).view.emb y 1 = y 1 := Fin.ext (by blk_simp [idx t])
  rw [e0, e1]

include h0 h1 hwg hwu hx hg in
theorem result8 : (dats m 0 c).arrAt 8 (cfgs 0).N
    = fun i : S8192x2048.Idx => res m c (i 0) (i 1)
      + ((dxs (H D0 D1 Wg Wu) X G (i 0) (i 1) : ℝ) : EReal) := by
  refine (dats m 0 c).arrAt_eq_of_covers 8 _ (by decide +kernel) fun t hf y => ?_
  have ht : t.val % 11 = 10 := (flush0_8 t).mp hf
  blk_simp
  rw [after0_8]
  refine (congrArg _ (eq_ix2 y)).trans ((row8 m c h0 h1 hwg hwu hx hg t ht (y 0) (y 1)).trans ?_)
  have e0 : (win0_8.blk t).view.emb y 0 = row t (y 0) := Fin.ext (by blk_simp [idx t]; show _ = 512 * (t.val / 11) + _; omega)
  have e1 : (win0_8.blk t).view.emb y 1 = y 1 := Fin.ext (by blk_simp [idx t])
  rw [e0, e1]

/-- The grid's last point. -/
abbrev last : Fin cfg0.N := ⟨175, lt_of_lt_of_eq (by norm_num) N_0.symm⟩

theorem part_eq (H X : Fin 8192 → Fin 2048 → ℝ) (d : Fin 2048) (t : Fin cfg0.N) :
    part H X d (t.val / 11) = ∑ p, H (row t p) d * (X (row t p) d * Norm.r 2048 (X (row t p))) :=
  Finset.sum_congr rfl fun p _ => dif_pos (row t p).isLt

include h0 h1 hwg hwu hx in
/-- The share that the last point of a block of rows adds to the gain's gradient. -/
theorem share (t : Fin cfg0.N) (ht : t.val % 11 = 10) (d : Fin 2048) :
    k0_pay6 (outsAt0 m c t.val t.isLt).2.2.2 (iblk m c 4 t) (ix2 0 d) = ((part (H D0 D1 Wg Wu) X d (t.val / 11) : ℝ) : EReal) :=
  (pay_dg (acc m c h0 h1 hwg hwu t ht) (blk_4 m c hx t) d).trans (Reals.congr (part_eq (H D0 D1 Wg Wu) X d t).symm)

include h0 h1 hwg hwu hx in
/-- The gain's gradient after a point: the blocks of rows that are finished. -/
theorem out9 (d : Fin 2048) (n : ℕ) (hn : n < cfg0.N) (h : 11 ≤ n + 1) : (outsAt0 m c n hn).2.2.1 (ix2 0 d)
    = ((∑ i ∈ Finset.range ((n + 1) / 11), part (H D0 D1 Wg Wu) X d i : ℝ) : EReal) := by
  refine NormGrad.carried (by norm_num) (fun n hn => (outsAt0 m c n hn).2.2.1 (ix2 0 d)) _ (fun n hn hd => ?_)
    (fun n hn hd h2 => ?_) (fun n hn hd h2 => ?_) n hn h
  · exact congrFun (out9_idle m c ⟨n, hn⟩ (by show ¬n % 11 = 10; omega)) _
  · have ht : n % 11 = 10 := by omega
    exact (congrFun (out9_first m c ⟨n, hn⟩ ht h2) _).trans (share m c h0 h1 hwg hwu hx ⟨n, hn⟩ ht d)
  · have ht : n % 11 = 10 := by omega
    refine (congrFun (out9_next m c ⟨n, hn⟩ ht h2) _).trans ?_
    pointwise [k0_pay4]
    exact congrArg (_ + ·) (share m c h0 h1 hwg hwu hx ⟨n, hn⟩ ht d)

include h0 h1 hwg hwu hx in
theorem result9 : (dats m 0 c).arrAt 9 (cfgs 0).N = fun i : S1x2048.Idx =>
    ((∑ p, H D0 D1 Wg Wu p (i 1) * (X p (i 1) * Norm.r 2048 (X p)) : ℝ) : EReal) := by
  have hN : cfg0.N = 176 := N_0
  refine (dats m 0 c).arrAt_eq_of_after_last 9 last (by decide +kernel) _ fun j => ?_
  blk_simp
  rw [after0_9]
  obtain ⟨d, rfl⟩ : ∃ d, j = ix2 0 d := ⟨j 1, eq_row0 j⟩
  have e : (last.val + 1) / 11 = 16 := by norm_num
  have h := out9 m c h0 h1 hwg hwu hx d last.val last.isLt (by norm_num)
  rw [e, sum_part] at h
  exact h

end Arrays

end Cert.DhIdeal.Value

end
-- ==== Proof.DhRef.lean ====
/-
  The gradient of `reference.py`'s norm and the two products behind it, with the residual's cotangent, as real numbers
  where the arguments are real numbers.
-/
module

public import proofs.«01_k».proof.Proof.DhKernel
public import proofs.«01_k».proof.Proof.Gen.DhRefIdeal.Run
public import proofs.«01_k».proof.Proof.Gen.DhRefIdeal.Read
public import Idealize.ShloMosaic.Lib.Pointwise

@[expose] public section

set_option maxRecDepth 16384

noncomputable section

namespace Cert.DhRefIdeal.Read

open Cert.DhRefIdeal Cert.DhRefIdeal.Gen Idealize.ShloMosaic
open Cert.DhIdeal.Value (H)
open Cert.NormGrad (dxs)

variable {d : (⟨S2x8192x5632, .bf16⟩ : BufTy).Contents (Elt Ideal)} {wg wu : (⟨S2048x5632, .f32⟩ : BufTy).Contents (Elt Ideal)}
  {x e : (⟨S8192x2048, .f32⟩ : BufTy).Contents (Elt Ideal)} {g : (⟨S2048, .f32⟩ : BufTy).Contents (Elt Ideal)}
  {D0 D1 : Fin 8192 → Fin 5632 → ℝ} {Wg Wu : Fin 2048 → Fin 5632 → ℝ} {X : Fin 8192 → Fin 2048 → ℝ} {G : Fin 2048 → ℝ}
  (h0 : ∀ p k, d (ix3 0 p k) = (D0 p k : EReal)) (h1 : ∀ p k, d (ix3 1 p k) = (D1 p k : EReal))
  (hwg : ∀ i k, wg (ix2 i k) = (Wg i k : EReal)) (hwu : ∀ i k, wu (ix2 i k) = (Wu i k : EReal))
  (hx : ∀ p i, x (ix2 p i) = (X p i : EReal)) (hg : ∀ i, g (ix1 i) = (G i : EReal))

include hx in
theorem v7 (p : Fin 8192) : val_main_v7 (F := Ideal) x (ix2 p 0) = ((Norm.ms 2048 (X p) : ℝ) : EReal) := by
  pointwise [val_main_v7, val_main_v6, val_main_v5, val_main_v4, val_main_v3, val_main_v2, val_main_v1, val_main_cst,
    val_main_cst_0, val_main_cst_1]
  simp only [hx, Reals.mul, Reals.sum, Reals.lit_2048, Reals.lit_eps, Reals.div (b := 2048) (by norm_num), Reals.add, Norm.ms]

include hx in
theorem v8 (p : Fin 8192) : val_main_v8 (F := Ideal) x (ix2 p 0) = ((Norm.r 2048 (X p) : ℝ) : EReal) := by
  pointwise [val_main_v8]
  rw [v7 hx]
  exact Reals.rsqrt (Norm.ms_pos (by norm_num) (X p))

include hx in
theorem v11 (p : Fin 8192) :
    val_main_v11 (F := Ideal) x (ix2 p 0) = ((-(1 / 2) * (Norm.r 2048 (X p) / Norm.ms 2048 (X p)) : ℝ) : EReal) := by
  pointwise [val_main_v11, val_main_v10, val_main_v9, val_main_cst_2]
  rw [v8 hx, v7 hx, Reals.div (Norm.ms_pos (by norm_num) _).ne', Reals.lit_neg_half, Reals.mul]

include h0 h1 hwg hwu in
theorem v25 (p : Fin 8192) (i : Fin 2048) :
    val_main_v25 (F := Ideal) d wg wu (ix2 p i) = ((H D0 D1 Wg Wu p i : ℝ) : EReal) := by
  pointwise [val_main_v25, val_main_v24, val_main_v23, val_main_v22, val_main_v21, val_main_v20, val_main_v19, val_main_v0]
  simp only [h0, h1, hwg, hwu, Reals.mul, Reals.sum, Reals.add]
  exact Reals.congr (add_comm _ _)

include h0 h1 hwg hwu hg in
theorem v30 (p : Fin 8192) (i : Fin 2048) :
    val_main_v30 (F := Ideal) d wg wu g (ix2 p i) = ((H D0 D1 Wg Wu p i * G i : ℝ) : EReal) := by
  pointwise [val_main_v30, val_main_v29, val_main_v14]
  rw [v25 h0 h1 hwg hwu, hg, Reals.mul]

include h0 h1 hwg hwu hx hg in
theorem v42 (p : Fin 8192) (i : Fin 2048) : val_main_v42 (F := Ideal) d wg wu x g (ix2 p i)
    = (((∑ k, X p k * (H D0 D1 Wg Wu p k * G k)) * (-(1 / 2) * (Norm.r 2048 (X p) / Norm.ms 2048 (X p))) / 2048 : ℝ) : EReal) := by
  pointwise [val_main_v42, val_main_v41, val_main_v40, val_main_v39, val_main_v38, val_main_v34, val_main_v33,
    val_main_v32, val_main_cst_5, val_main_cst_6, val_main_cst_7]
  simp only [Fin.sum_univ_one, Fin.isValue, v11 hx, v30 h0 h1 hwg hwu hg, hx, Reals.mul, Reals.sum, Reals.lit_2048, Reals.div (b := 2048) (by norm_num)]

include h0 h1 hwg hwu hx hg in
/-- The gradient of the rows. -/
theorem v46 (p : Fin 8192) (i : Fin 2048) : val_main_v46 (F := Ideal) d wg wu x g e (ix2 p i)
    = e (ix2 p i) + ((dxs (H D0 D1 Wg Wu) X G p i : ℝ) : EReal) := by
  pointwise [val_main_v46, val_main_v45, val_main_v44, val_main_v43, val_main_v37, val_main_v36, val_main_v35]
  simp only [v42 h0 h1 hwg hwu hx hg, v30 h0 h1 hwg hwu hg, v8 hx, hx, Reals.mul]
  rw [add_assoc, add_assoc, Reals.add, Reals.add, ← add_assoc]
  exact congrArg (e (ix2 p i) + ·) (Reals.congr (Norm.dx_eq (by norm_num) (X p) (fun k => H D0 D1 Wg Wu p k * G k) i))

include h0 h1 hwg hwu hx in
/-- The gradient of the gain. -/
theorem v48 (i : Fin 2048) : val_main_v48 (F := Ideal) d wg wu x (ix2 0 i)
    = ((∑ p, H D0 D1 Wg Wu p i * (X p i * Norm.r 2048 (X p)) : ℝ) : EReal) := by
  pointwise [val_main_v48, val_main_v31, val_main_v28, val_main_v27, val_main_v26, val_main_v13, val_main_v12,
    val_main_cst_3, val_main_cst_4]
  simp only [Fin.sum_univ_one, v25 h0 h1 hwg hwu, v8 hx, hx, Reals.mul, Reals.sum]
  refine Reals.congr (Finset.sum_congr rfl fun p _ => ?_)
  ring

end Cert.DhRefIdeal.Read

end
-- ==== Proof.DhClaim.lean ====
/-
  The kernel of the gradient through the feed-forward's input products and its norm, and the gradient of `reference.py`'s
  lines, leave the same three results where the arguments but the residual's cotangent are finite.
-/
module

public import proofs.«01_k».proof.Defs
public import proofs.«01_k».proof.Proof.DhRef
public import proofs.«01_k».proof.Proof.Gen.Pre_dh_finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Arrays whose absolute values are below infinity everywhere are real numbers everywhere. -/
theorem dh_real {d : FVec Ideal ⟨3, ![2, 8192, 5632]⟩ .bf16} {wg wu : FVec Ideal ⟨2, ![2048, 5632]⟩ .f32}
    {x e : FVec Ideal ⟨2, ![8192, 2048]⟩ .f32} {g : FVec Ideal ⟨1, ![2048]⟩ .f32}
    (h : (Pre_dh_finite.fn (F := Ideal) d wg wu x g e).1 = (fun _ => 1#1) ∧ (Pre_dh_finite.fn (F := Ideal) d wg wu x g e).2.1 = (fun _ => 1#1)
      ∧ (Pre_dh_finite.fn (F := Ideal) d wg wu x g e).2.2.1 = (fun _ => 1#1) ∧ (Pre_dh_finite.fn (F := Ideal) d wg wu x g e).2.2.2.1 = (fun _ => 1#1)
      ∧ (Pre_dh_finite.fn (F := Ideal) d wg wu x g e).2.2.2.2 = (fun _ => 1#1)) :
    (∀ b p k, d (ix3 b p k) = ((d (ix3 b p k)).toReal : EReal)) ∧ (∀ i k, wg (ix2 i k) = ((wg (ix2 i k)).toReal : EReal))
      ∧ (∀ i k, wu (ix2 i k) = ((wu (ix2 i k)).toReal : EReal)) ∧ (∀ p i, x (ix2 p i) = ((x (ix2 p i)).toReal : EReal))
      ∧ (∀ i, g (ix1 i) = ((g (ix1 i)).toReal : EReal)) := by
  obtain ⟨h0, h1, h2, h3, h4⟩ := h
  refine ⟨fun b p k => Reals.eq_coe (Reals.finite_of_lt ?_), fun i k => Reals.eq_coe (Reals.finite_of_lt ?_),
    fun i k => Reals.eq_coe (Reals.finite_of_lt ?_), fun p i => Reals.eq_coe (Reals.finite_of_lt ?_),
    fun i => Reals.eq_coe (Reals.finite_of_lt ?_)⟩
  · exact congrFun h0 (ix3 b p k)
  · exact congrFun h1 (ix2 i k)
  · exact congrFun h2 (ix2 i k)
  · exact congrFun h3 (ix2 p i)
  · exact congrFun h4 (ix1 i)

theorem dhRef_frame : quiescent_DhRefIdeal := fun m g _ =>
  (θ_run _ _ _).mono (fun r h => ⟨fun c => (h c).2.2.2, sem_eq_zero_of_no_sems (by decide) r.2⟩) (DhRefIdeal.Value.run m g)

theorem dh_algebraic : algebraic_DhIdeal_DhRefIdeal_pre_dh_finite := by
  intro m g m' g' hpre hargs
  refine ⟨_, _, _, DhIdeal.Value.run_blocks m g, (θ_run _ _ _).mono (fun r h c => ?_) (DhRefIdeal.Value.run m' g')⟩
  obtain ⟨h0, h1, h2, ha⟩ := h c
  obtain ⟨hd, hwg, hwu, hx, hg⟩ := dh_real (hpre c)
  obtain ⟨e0, e1, e2, e3, e4, e5⟩ := hargs c
  refine ⟨h0.trans ?_, h1.trans ?_, h2.trans ?_, ha⟩
  · rw [DhRefIdeal.Read.val_main_v46_eq, e0, e1, e2, e3, e4, e5]
    refine Eq.trans (funext fun i => ?_) (DhIdeal.Value.result7 m c (hd 0) (hd 1) hwg hwu hx hg).symm
    refine (congrArg _ (eq_ix2 i)).trans ?_
    exact DhRefIdeal.Read.v46 (hd 0) (hd 1) hwg hwu hx hg (i 0) (i 1)
  · rw [DhRefIdeal.Read.val_main_v47_eq, e0, e1, e2, e3, e4, e5]
    refine Eq.trans (funext fun i => ?_) (DhIdeal.Value.result8 m c (hd 0) (hd 1) hwg hwu hx hg).symm
    refine (congrArg _ (eq_ix2 i)).trans ?_
    exact DhRefIdeal.Read.v46 (hd 0) (hd 1) hwg hwu hx hg (i 0) (i 1)
  · rw [DhRefIdeal.Read.val_main_v48_eq, e0, e1, e2, e3]
    refine Eq.trans (funext fun i => ?_) (DhIdeal.Value.result9 m c (hd 0) (hd 1) hwg hwu hx).symm
    refine (congrArg _ (DhIdeal.Value.eq_row0 i)).trans ?_
    exact DhRefIdeal.Read.v48 (hd 0) (hd 1) hwg hwu hx (i 1)

end Cert.Proof

end
-- ==== Proof.DmKernel.lean ====
/-
  What the gradient through the mixers' input product and its norm leaves in its three results, as real numbers, when its
  arguments but the residual's cotangent are real numbers. What the body computes of a block is what the feed-forward's
  call computes; here one product is added up, over 9 blocks of columns.
-/
module

public import proofs.«01_k».proof.Proof.DhKernel
public import proofs.«01_k».proof.Proof.Gen.DmIdeal.Value

@[expose] public section

set_option maxRecDepth 16384

noncomputable section

namespace Cert.DmIdeal.Value

open Cert.DmIdeal Cert.DmIdeal.Gen Idealize.ShloMosaic Idealize.ShloMosaic.TcCoe Idealize.SL.Sem
open Idealize.ShloMosaic.Pipeline (Dat)
open Cert.NormGrad (dxs part sum_part)

variable (m : (ℓ : Loc nD τ sig) → Buf (Elt Ideal) ℓ)

theorem idx : ∀ t : Fin cfg0.N, win0_0.index t = ![0, t.val / 9, t.val % 9] ∧ win0_1.index t = ![0, t.val % 9, 0]
    ∧ win0_2.index t = ![t.val / 9, 0] ∧ win0_3.index t = ![0, 0] ∧ win0_4.index t = ![t.val / 9, 0]
    ∧ win0_5.index t = ![t.val / 9, 0] ∧ win0_6.index t = ![t.val / 9, 0] ∧ win0_7.index t = ![0, 0] :=
  (by decide +kernel : ∀ t : Fin grid0.N, _)

variable (c : Dev nD) {D : Fin 8192 → Fin 4608 → ℝ} {W : Fin 2048 → Fin 4608 → ℝ} {X : Fin 8192 → Fin 2048 → ℝ} {G : Fin 2048 → ℝ}
  (hd : ∀ p k, (m ((c : Thread nD τ).loc main_arg0) : FVec Ideal S8192x4608 .bf16) (ix2 p k) = (D p k : EReal))
  (hw : ∀ d k, (m ((c : Thread nD τ).loc main_arg1) : FVec Ideal S2048x4608 .f32) (ix2 d k) = (W d k : EReal))
  (hx : ∀ p d, (m ((c : Thread nD τ).loc main_arg2) : FVec Ideal S8192x2048 .f32) (ix2 p d) = (X p d : EReal))
  (hg : ∀ d, (m ((c : Thread nD τ).loc main_arg3) : FVec Ideal S2048 .f32) (ix1 d) = (G d : EReal))

/-- The array's row that row `p` of point `t`'s block is. -/
abbrev row (t : Fin cfg0.N) (p : Fin 512) : Fin 8192 :=
  ⟨512 * (t.val / 9) + p.val, by have := t.isLt; have hN : cfg0.N = 144 := N_0; omega⟩

/-- The array's column that column `k` of point `t`'s block is. -/
abbrev col (t : Fin cfg0.N) (k : Fin 512) : Fin 4608 := ⟨512 * (t.val % 9) + k.val, by omega⟩

/-- The cotangent and the weights as the kernel finds them. -/
theorem V_v0 : V m c main_v0 = (broadcastInDim S1x8192x4608 ![1, 2] bcast_S8192x4608_S1x8192x4608_1_2
    (m ((c : Thread nD τ).loc main_arg0) : FVec Ideal S8192x4608 .bf16) : FVec Ideal S1x8192x4608 .bf16) := by
  after_reads_simp

theorem V_v3 : V m c main_v3 = (truncf .bf16 (broadcastInDim S1x4608x2048 ![1, 2] bcast_S4608x2048_S1x4608x2048_1_2
    (transpose S4608x2048 [1, 0] (m ((c : Thread nD τ).loc main_arg1) : FVec Ideal S2048x4608 .f32) transposes_S2048x4608_S4608x2048_1_0)
    : FVec Ideal S1x4608x2048 .f32) bitsLt_bf16_f32) := by
  after_reads_simp

theorem v0 (p : Fin 8192) (k : Fin 4608) : (V m c main_v0 : FVec Ideal S1x8192x4608 .bf16) (ix3 0 p k)
    = (m ((c : Thread nD τ).loc main_arg0) : FVec Ideal S8192x4608 .bf16) (ix2 p k) := by
  rw [V_v0]
  pointwise []

theorem v3 (k : Fin 4608) (d : Fin 2048) : (V m c main_v3 : FVec Ideal S1x4608x2048 .bf16) (ix3 0 k d)
    = (m ((c : Thread nD τ).loc main_arg1) : FVec Ideal S2048x4608 .f32) (ix2 d k) := by
  rw [V_v3]
  pointwise []

include hd in
theorem blk_0 (t : Fin cfg0.N) (p k : Fin 512) :
    (iblk m c 0 t : Vec Ideal S1x512x512 .bf16) (ix3 0 p k) = (D (row t p) (col t k) : EReal) := by
  rw [← hd, ← v0 m c]
  blk_ext [iblk, idx t]

include hw in
theorem blk_1 (t : Fin cfg0.N) (k : Fin 512) (d : Fin 2048) :
    (iblk m c 1 t : Vec Ideal S1x512x2048 .bf16) (ix3 0 k d) = (W d (col t k) : EReal) := by
  rw [← hw, ← v3 m c]
  blk_ext [iblk, idx t]

include hx in
theorem blk_2 (t : Fin cfg0.N) (p : Fin 512) (d : Fin 2048) :
    (iblk m c 2 t : Vec Ideal S512x2048 .f32) (ix2 p d) = (X (row t p) d : EReal) := by
  rw [← hx]
  blk_ext [iblk, V, idx t]

include hg in
theorem blk_3 (t : Fin cfg0.N) (d : Fin 2048) : (iblk m c 3 t : Vec Ideal S1x2048 .f32) (ix2 0 d) = (G d : EReal) := by
  rw [← hg]
  blk_ext! [iblk, V, idx t]

/-- The residual's cotangent, any extended real. -/
def res (p : Fin 8192) (d : Fin 2048) : EReal := (m ((c : Thread nD τ).loc main_arg4) : FVec Ideal S8192x2048 .f32) (ix2 p d)

theorem blk_4 (t : Fin cfg0.N) (p : Fin 512) (d : Fin 2048) :
    (iblk m c 4 t : Vec Ideal S512x2048 .f32) (ix2 p d) = res m c (row t p) d := by
  unfold res
  blk_ext [iblk, V, idx t]

/-- The cotangent of the norm's result: the product over the mixers' input columns. -/
def H (D : Fin 8192 → Fin 4608 → ℝ) (W : Fin 2048 → Fin 4608 → ℝ) (p : Fin 8192) (d : Fin 2048) : ℝ := ∑ k, D p k * W d k

/-- The share of one point in it. -/
def step (D : Fin 8192 → Fin 4608 → ℝ) (W : Fin 2048 → Fin 4608 → ℝ) (t : Fin cfg0.N) (p : Fin 512) (d : Fin 2048) : ℝ :=
  ∑ k, D (row t p) (col t k) * W d (col t k)

/-- The points of one block of rows add up to the whole cotangent. -/
theorem sum_step (D : Fin 8192 → Fin 4608 → ℝ) (W : Fin 2048 → Fin 4608 → ℝ) (t : Fin cfg0.N) (u : Fin 9 → Fin cfg0.N)
    (hu : ∀ s, (u s).val = 9 * (t.val / 9) + s.val) (p : Fin 512) (d : Fin 2048) :
    ∑ s, step D W (u s) p d = H D W (row t p) d := by
  have hr : ∀ s, row (u s) p = row t p := fun s => Fin.ext (by
    show 512 * ((u s).val / 9) + _ = 512 * (t.val / 9) + _
    have := hu s; have := s.isLt; omega)
  unfold step H
  rw [← Reals.sum_rows (N := 9) (n := 512) (by norm_num) (fun s k => col (u s) k) (fun s k => by
    show 512 * ((u s).val % 9) + _ = _
    have := hu s; have := s.isLt; omega) fun k => D (row t p) k * W d k]
  exact Finset.sum_congr rfl fun s _ => Finset.sum_congr rfl fun k _ => by rw [hr]

theorem acc_A (t : Fin cfg0.N) (h : t.val % 9 = 0) :
    (outsAt0 m c t.val t.isLt).2.2.2 = k0_pay2 k0_pay1 (iblk m c 0 t) (iblk m c 1 t) := by
  rw [outsAt0_A m c t h (by omega)]; frame_out; try rw [read_unread_whole]

theorem acc_step (t : Fin cfg0.N) (h : ¬t.val % 9 = 0) : (outsAt0 m c t.val t.isLt).2.2.2
    = k0_pay2 (outsAt0 m c (t.val - 1) (Nat.lt_of_le_of_lt (Nat.sub_le _ _) t.isLt)).2.2.2 (iblk m c 0 t) (iblk m c 1 t) := by
  by_cases h1 : t.val % 9 = 8
  · by_cases h2 : t.val < 9
    · rw [outsAt0_C m c t h h1 h2 (by omega)]; frame_out; try rw [read_unread_whole]
    · rw [outsAt0_D m c t h h1 h2 (by omega)]; frame_out; try rw [read_unread_whole]
  · rw [outsAt0_B m c t h h1]; frame_out; try rw [read_unread_whole]

/-- What the last point of a block of rows leaves in the two row results. -/
theorem out56 (t : Fin cfg0.N) (h1 : t.val % 9 = 8) :
    (outsAt0 m c t.val t.isLt).1 = k0_pay6 (outsAt0 m c t.val t.isLt).2.2.2 (iblk m c 2 t) (iblk m c 3 t) (iblk m c 4 t)
    ∧ (outsAt0 m c t.val t.isLt).2.1 = k0_pay7 (outsAt0 m c t.val t.isLt).2.2.2 (iblk m c 2 t) (iblk m c 3 t) (iblk m c 4 t) := by
  have h : ¬t.val % 9 = 0 := by omega
  rw [acc_step m c t h]
  by_cases h2 : t.val < 9
  · rw [outsAt0_C m c t h h1 h2 (by omega)]; constructor <;> frame_out <;> try rw [read_unread_whole]
  · rw [outsAt0_D m c t h h1 h2 (by omega)]; constructor <;> frame_out <;> try rw [read_unread_whole]

theorem out7_idle (t : Fin cfg0.N) (h1 : ¬t.val % 9 = 8) : (outsAt0 m c t.val t.isLt).2.2.1
    = (outsAt0 m c (t.val - 1) (Nat.lt_of_le_of_lt (Nat.sub_le _ _) t.isLt)).2.2.1 := by
  by_cases h : t.val % 9 = 0
  · rw [outsAt0_A m c t h h1]; rfl
  · rw [outsAt0_B m c t h h1]; rfl

theorem out7_first (t : Fin cfg0.N) (h1 : t.val % 9 = 8) (h2 : t.val < 9) :
    (outsAt0 m c t.val t.isLt).2.2.1 = k0_pay5 (outsAt0 m c t.val t.isLt).2.2.2 (iblk m c 2 t) := by
  have h : ¬t.val % 9 = 0 := by omega
  rw [acc_step m c t h, outsAt0_C m c t h h1 h2 (by omega)]; frame_out; try rw [read_unread_whole]

theorem out7_next (t : Fin cfg0.N) (h1 : t.val % 9 = 8) (h2 : ¬t.val < 9) : (outsAt0 m c t.val t.isLt).2.2.1
    = k0_pay3 (k0_pay5 (outsAt0 m c t.val t.isLt).2.2.2 (iblk m c 2 t))
        (outsAt0 m c (t.val - 1) (Nat.lt_of_le_of_lt (Nat.sub_le _ _) t.isLt)).2.2.1 := by
  have h : ¬t.val % 9 = 0 := by omega
  rw [acc_step m c t h, outsAt0_D m c t h h1 h2 (by omega)]; frame_out; try rw [read_unread_whole]

include hd hw in
/-- The accumulator at the last point of a block of rows. -/
theorem acc (t : Fin cfg0.N) (ht : t.val % 9 = 8) (p : Fin 512) (d : Fin 2048) :
    (outsAt0 m c t.val t.isLt).2.2.2 (ix2 p d) = ((H D W (row t p) d : ℝ) : EReal) := by
  have key := Pipeline.eq_sum_fin_of_reset_step_apply_of_flush (N := cfg0.N) (M := EReal)
    (fun n h (i : Fin 512 × Fin 2048) => (outsAt0 m c n h).2.2.2 (ix2 i.1 i.2)) 9 0
    (fun t i => ((step D W t i.1 i.2 : ℝ) : EReal))
    (fun t h i => by
      show (outsAt0 m c t.val t.isLt).2.2.2 (ix2 i.1 i.2) = _
      rw [acc_A m c t h]
      refine (DhIdeal.Value.pay2_apply (blk_0 m c hd t) (blk_1 m c hw t) i.1 i.2).trans ?_
      exact congrArg (· + _) (DhIdeal.Value.pay1_apply i.1 i.2))
    (fun t h i => by
      show (outsAt0 m c t.val t.isLt).2.2.2 (ix2 i.1 i.2) = (outsAt0 m c (t.val - 1) _).2.2.2 (ix2 i.1 i.2) + _
      rw [acc_step m c t h]
      exact DhIdeal.Value.pay2_apply (blk_0 m c hd t) (blk_1 m c hw t) i.1 i.2)
    t ht (p, d)
  refine key.trans ?_
  rw [Pi.zero_apply, zero_add, Reals.sum]
  exact Reals.congr (sum_step D W t _ (fun _ => rfl) p d)

include hd hw hx hg in
/-- Both row results at the last point of a block of rows. -/
theorem rows (t : Fin cfg0.N) (ht : t.val % 9 = 8) (p : Fin 512) (d : Fin 2048) :
    (outsAt0 m c t.val t.isLt).1 (ix2 p d) = res m c (row t p) d + ((dxs (H D W) X G (row t p) d : ℝ) : EReal)
    ∧ (outsAt0 m c t.val t.isLt).2.1 (ix2 p d) = res m c (row t p) d + ((dxs (H D W) X G (row t p) d : ℝ) : EReal) := by
  have h : k0_pay6 (outsAt0 m c t.val t.isLt).2.2.2 (iblk m c 2 t) (iblk m c 3 t) (iblk m c 4 t) (ix2 p d)
      = res m c (row t p) d + ((dxs (H D W) X G (row t p) d : ℝ) : EReal) :=
    (DhIdeal.Value.pay_dx (acc m c hd hw t ht) (blk_2 m c hx t) (blk_3 m c hg t) p d).trans (congrArg (· + _) (blk_4 m c t p d))
  rw [(out56 m c t ht).1, (out56 m c t ht).2]
  refine ⟨h, Eq.trans ?_ h⟩
  pointwise [k0_pay7]

include hd hw hx hg in
theorem result5 : (dats m 0 c).arrAt 5 (cfgs 0).N
    = fun i : S8192x2048.Idx => res m c (i 0) (i 1) + ((dxs (H D W) X G (i 0) (i 1) : ℝ) : EReal) := by
  refine (dats m 0 c).arrAt_eq_of_covers 5 _ (by decide +kernel) fun t hf y => ?_
  have ht : t.val % 9 = 8 := (flush0_5 t).mp hf
  blk_simp
  rw [after0_5]
  refine (congrArg _ (eq_ix2 y)).trans ((rows m c hd hw hx hg t ht (y 0) (y 1)).1.trans ?_)
  have e0 : (win0_5.blk t).view.emb y 0 = row t (y 0) := Fin.ext (by blk_simp [idx t]; show _ = 512 * (t.val / 9) + _; omega)
  have e1 : (win0_5.blk t).view.emb y 1 = y 1 := Fin.ext (by blk_simp [idx t])
  rw [e0, e1]

include hd hw hx hg in
theorem result6 : (dats m 0 c).arrAt 6 (cfgs 0).N
    = fun i : S8192x2048.Idx => res m c (i 0) (i 1) + ((dxs (H D W) X G (i 0) (i 1) : ℝ) : EReal) := by
  refine (dats m 0 c).arrAt_eq_of_covers 6 _ (by decide +kernel) fun t hf y => ?_
  have ht : t.val % 9 = 8 := (flush0_6 t).mp hf
  blk_simp
  rw [after0_6]
  refine (congrArg _ (eq_ix2 y)).trans ((rows m c hd hw hx hg t ht (y 0) (y 1)).2.trans ?_)
  have e0 : (win0_6.blk t).view.emb y 0 = row t (y 0) := Fin.ext (by blk_simp [idx t]; show _ = 512 * (t.val / 9) + _; omega)
  have e1 : (win0_6.blk t).view.emb y 1 = y 1 := Fin.ext (by blk_simp [idx t])
  rw [e0, e1]

theorem part_eq (H X : Fin 8192 → Fin 2048 → ℝ) (d : Fin 2048) (t : Fin cfg0.N) :
    part H X d (t.val / 9) = ∑ p, H (row t p) d * (X (row t p) d * Norm.r 2048 (X (row t p))) :=
  Finset.sum_congr rfl fun p _ => dif_pos (row t p).isLt

/-- The grid's last point. -/
abbrev last : Fin cfg0.N := ⟨143, lt_of_lt_of_eq (by norm_num) N_0.symm⟩

include hd hw hx in
/-- The share that the last point of a block of rows adds to the gain's gradient. -/
theorem share (t : Fin cfg0.N) (ht : t.val % 9 = 8) (d : Fin 2048) :
    k0_pay5 (outsAt0 m c t.val t.isLt).2.2.2 (iblk m c 2 t) (ix2 0 d) = ((part (H D W) X d (t.val / 9) : ℝ) : EReal) :=
  (DhIdeal.Value.pay_dg (acc m c hd hw t ht) (blk_2 m c hx t) d).trans
    (Reals.congr (part_eq (H D W) X d t).symm)

include hd hw hx in
/-- The gain's gradient after the last point. -/
theorem result7 : (dats m 0 c).arrAt 7 (cfgs 0).N = fun i : S1x2048.Idx =>
    ((∑ p, H D W p (i 1) * (X p (i 1) * Norm.r 2048 (X p)) : ℝ) : EReal) := by
  have hN : cfg0.N = 144 := N_0
  refine (dats m 0 c).arrAt_eq_of_after_last 7 last (by decide +kernel) _ fun j => ?_
  blk_simp
  rw [after0_7]
  obtain ⟨d, rfl⟩ : ∃ d, j = ix2 0 d := ⟨j 1, DhIdeal.Value.eq_row0 j⟩
  refine Eq.trans ?_ (Reals.congr (sum_part (H D W) X d))
  refine NormGrad.carried (K := 9) (by norm_num) (fun n hn => (outsAt0 m c n hn).2.2.1 (ix2 0 d)) (part (H D W) X d) (fun n hn hd => ?_)
    (fun n hn hk h2 => ?_) (fun n hn hk h2 => ?_) last.val last.isLt (by norm_num)
  · exact congrFun (out7_idle m c ⟨n, hn⟩ (by show ¬n % 9 = 8; omega)) _
  · have ht : n % 9 = 8 := by omega
    exact (congrFun (out7_first m c ⟨n, hn⟩ ht h2) _).trans (share m c hd hw hx ⟨n, hn⟩ ht d)
  · have ht : n % 9 = 8 := by omega
    refine (congrFun (out7_next m c ⟨n, hn⟩ ht h2) _).trans ?_
    pointwise [k0_pay3]
    exact congrArg (_ + ·) (share m c hd hw hx ⟨n, hn⟩ ht d)

end Cert.DmIdeal.Value

end
-- ==== Proof.DmClaim.lean ====
/-
  The gradient of `reference.py`'s norm and the mixers' input product behind it, with the residual's cotangent, as real
  numbers, and the claim that the kernel leaves the same three results where the arguments but the residual's cotangent
  are finite.
-/
module

public import proofs.«01_k».proof.Defs
public import proofs.«01_k».proof.Proof.DmKernel
public import proofs.«01_k».proof.Proof.DhRef
public import proofs.«01_k».proof.Proof.Gen.DmRefIdeal.Run
public import proofs.«01_k».proof.Proof.Gen.DmRefIdeal.Read
public import proofs.«01_k».proof.Proof.Gen.Pre_dhm_finite
public import Idealize.ShloMosaic.Adequacy
public import Idealize.ShloMosaic.Init

@[expose] public section

set_option maxRecDepth 16384

noncomputable section

namespace Cert.DmRefIdeal.Read

open Cert.DmRefIdeal Cert.DmRefIdeal.Gen Idealize.ShloMosaic
open Cert.DmIdeal.Value (H)
open Cert.NormGrad (dxs)

variable {d : (⟨S8192x4608, .bf16⟩ : BufTy).Contents (Elt Ideal)} {w : (⟨S2048x4608, .f32⟩ : BufTy).Contents (Elt Ideal)}
  {x e : (⟨S8192x2048, .f32⟩ : BufTy).Contents (Elt Ideal)} {g : (⟨S2048, .f32⟩ : BufTy).Contents (Elt Ideal)}
  {D : Fin 8192 → Fin 4608 → ℝ} {W : Fin 2048 → Fin 4608 → ℝ} {X : Fin 8192 → Fin 2048 → ℝ} {G : Fin 2048 → ℝ}
  (hd : ∀ p k, d (ix2 p k) = (D p k : EReal)) (hw : ∀ i k, w (ix2 i k) = (W i k : EReal))
  (hx : ∀ p i, x (ix2 p i) = (X p i : EReal)) (hg : ∀ i, g (ix1 i) = (G i : EReal))

include hx in
theorem v7 (p : Fin 8192) : val_main_v7 (F := Ideal) x (ix2 p 0) = ((Norm.r 2048 (X p) : ℝ) : EReal) :=
  DhRefIdeal.Read.v8 hx p

include hx in
theorem v10 (p : Fin 8192) :
    val_main_v10 (F := Ideal) x (ix2 p 0) = ((-(1 / 2) * (Norm.r 2048 (X p) / Norm.ms 2048 (X p)) : ℝ) : EReal) :=
  DhRefIdeal.Read.v11 hx p

include hd hw in
theorem v18 (p : Fin 8192) (i : Fin 2048) : val_main_v18 (F := Ideal) d w (ix2 p i) = ((H D W p i : ℝ) : EReal) := by
  pointwise [val_main_v18, val_main_v17]
  simp only [hd, hw, Reals.mul, Reals.sum]
  rfl

include hd hw hg in
theorem v23 (p : Fin 8192) (i : Fin 2048) : val_main_v23 (F := Ideal) d w g (ix2 p i) = ((H D W p i * G i : ℝ) : EReal) := by
  pointwise [val_main_v23, val_main_v22, val_main_v13]
  rw [v18 hd hw, hg, Reals.mul]

include hd hw hx hg in
theorem v35 (p : Fin 8192) (i : Fin 2048) : val_main_v35 (F := Ideal) d w x g (ix2 p i)
    = (((∑ k, X p k * (H D W p k * G k)) * (-(1 / 2) * (Norm.r 2048 (X p) / Norm.ms 2048 (X p))) / 2048 : ℝ) : EReal) := by
  pointwise [val_main_v35, val_main_v34, val_main_v33, val_main_v32, val_main_v31, val_main_v27, val_main_v26,
    val_main_v25, val_main_cst_5, val_main_cst_6, val_main_cst_7]
  simp only [Fin.sum_univ_one, Fin.isValue, v10 hx, v23 hd hw hg, hx, Reals.mul, Reals.sum, Reals.lit_2048, Reals.div (b := 2048) (by norm_num)]

include hd hw hx hg in
/-- The gradient of the rows. -/
theorem v39 (p : Fin 8192) (i : Fin 2048) : val_main_v39 (F := Ideal) d w x g e (ix2 p i)
    = e (ix2 p i) + ((dxs (H D W) X G p i : ℝ) : EReal) := by
  pointwise [val_main_v39, val_main_v38, val_main_v37, val_main_v36, val_main_v30, val_main_v29, val_main_v28]
  simp only [v35 hd hw hx hg, v23 hd hw hg, v7 hx, hx, Reals.mul]
  rw [add_assoc, add_assoc, Reals.add, Reals.add, ← add_assoc]
  exact congrArg (e (ix2 p i) + ·) (Reals.congr (Norm.dx_eq (by norm_num) (X p) (fun k => H D W p k * G k) i))

include hd hw hx in
/-- The gradient of the gain. -/
theorem v41 (i : Fin 2048) : val_main_v41 (F := Ideal) d w x (ix2 0 i)
    = ((∑ p, H D W p i * (X p i * Norm.r 2048 (X p)) : ℝ) : EReal) := by
  pointwise [val_main_v41, val_main_v24, val_main_v21, val_main_v20, val_main_v19, val_main_v12, val_main_v11,
    val_main_cst_3, val_main_cst_4]
  simp only [Fin.sum_univ_one, v18 hd hw, v7 hx, hx, Reals.mul, Reals.sum]
  refine Reals.congr (Finset.sum_congr rfl fun p _ => ?_)
  ring

end Cert.DmRefIdeal.Read

namespace Cert.Proof

open Idealize.ShloMosaic Idealize.ShloMosaic.TcCoe Idealize.SL.Sem

/-- Arrays whose absolute values are below infinity everywhere are real numbers everywhere. -/
theorem dm_real {d : FVec Ideal ⟨2, ![8192, 4608]⟩ .bf16} {w : FVec Ideal ⟨2, ![2048, 4608]⟩ .f32}
    {x e : FVec Ideal ⟨2, ![8192, 2048]⟩ .f32} {g : FVec Ideal ⟨1, ![2048]⟩ .f32}
    (h : (Pre_dhm_finite.fn (F := Ideal) d w x g e).1 = (fun _ => 1#1) ∧ (Pre_dhm_finite.fn (F := Ideal) d w x g e).2.1 = (fun _ => 1#1)
      ∧ (Pre_dhm_finite.fn (F := Ideal) d w x g e).2.2.1 = (fun _ => 1#1) ∧ (Pre_dhm_finite.fn (F := Ideal) d w x g e).2.2.2 = (fun _ => 1#1)) :
    (∀ p k, d (ix2 p k) = ((d (ix2 p k)).toReal : EReal)) ∧ (∀ i k, w (ix2 i k) = ((w (ix2 i k)).toReal : EReal))
      ∧ (∀ p i, x (ix2 p i) = ((x (ix2 p i)).toReal : EReal)) ∧ (∀ i, g (ix1 i) = ((g (ix1 i)).toReal : EReal)) := by
  obtain ⟨h0, h1, h2, h3⟩ := h
  refine ⟨fun p k => Reals.eq_coe (Reals.finite_of_lt ?_), fun i k => Reals.eq_coe (Reals.finite_of_lt ?_),
    fun p i => Reals.eq_coe (Reals.finite_of_lt ?_), fun i => Reals.eq_coe (Reals.finite_of_lt ?_)⟩
  · exact congrFun h0 (ix2 p k)
  · exact congrFun h1 (ix2 i k)
  · exact congrFun h2 (ix2 p i)
  · exact congrFun h3 (ix1 i)

theorem dmRef_frame : quiescent_DmRefIdeal := fun m g _ =>
  (θ_run _ _ _).mono (fun r h => ⟨fun c => (h c).2.2.2, sem_eq_zero_of_no_sems (by decide) r.2⟩) (DmRefIdeal.Value.run m g)

theorem dm_algebraic : algebraic_DmIdeal_DmRefIdeal_pre_dhm_finite := by
  intro m g m' g' hpre hargs
  refine ⟨_, _, _, DmIdeal.Value.run_blocks m g, (θ_run _ _ _).mono (fun r h c => ?_) (DmRefIdeal.Value.run m' g')⟩
  obtain ⟨h0, h1, h2, ha⟩ := h c
  obtain ⟨hd, hw, hx, hg⟩ := dm_real (hpre c)
  obtain ⟨e0, e1, e2, e3, e4⟩ := hargs c
  refine ⟨h0.trans ?_, h1.trans ?_, h2.trans ?_, ha⟩
  · rw [DmRefIdeal.Read.val_main_v39_eq, e0, e1, e2, e3, e4]
    refine Eq.trans (funext fun i => ?_) (DmIdeal.Value.result5 m c hd hw hx hg).symm
    exact (congrArg _ (eq_ix2 i)).trans (DmRefIdeal.Read.v39 hd hw hx hg (i 0) (i 1))
  · rw [DmRefIdeal.Read.val_main_v40_eq, e0, e1, e2, e3, e4]
    refine Eq.trans (funext fun i => ?_) (DmIdeal.Value.result6 m c hd hw hx hg).symm
    exact (congrArg _ (eq_ix2 i)).trans (DmRefIdeal.Read.v39 hd hw hx hg (i 0) (i 1))
  · rw [DmRefIdeal.Read.val_main_v41_eq, e0, e1, e2]
    refine Eq.trans (funext fun i => ?_) (DmIdeal.Value.result7 m c hd hw hx).symm
    exact (congrArg _ (DhIdeal.Value.eq_row0 i)).trans (DmRefIdeal.Read.v41 hd hw hx (i 1))

end Cert.Proof

end
-- ==== Proof.Silu.lean ====
/-
  The logistic function and the derivative of `x · σ(x)` on real numbers.
-/
module

public import proofs.«01_k».proof.Proof.Reals

@[expose] public section

noncomputable section

namespace Cert.Silu

open Idealize.ShloMosaic

/-- The logistic function. -/
def lgs (x : ℝ) : ℝ := 1 / (1 + Real.exp (-x))

/-- The derivative of `x · σ(x)`. -/
def dsilu (x : ℝ) : ℝ := lgs x * (1 + x * (1 - lgs x))

theorem one_add_exp (x : ℝ) : 1 + Real.exp (-x) ≠ 0 := (add_pos one_pos (Real.exp_pos _)).ne'

/-- One over one plus the exponential of the negative, as the host spells it. -/
theorem quotient (x : ℝ) : Ideal.div 1 (1 + Ideal.exp (-(x : EReal))) = ((lgs x : ℝ) : EReal) := by
  rw [← EReal.coe_neg]
  change Ideal.div ((1 : ℝ) : EReal) (((1 : ℝ) : EReal) + ((Real.exp (-x) : ℝ) : EReal)) = _
  rw [Reals.add, Reals.div (one_add_exp x)]
  rfl

theorem logistic (x : ℝ) : Ideal.logistic (x : EReal) = ((lgs x : ℝ) : EReal) := quotient x

end Cert.Silu

end
-- ==== Proof.GateKernel.lean ====
/-
  What the feed-forward's gate products and the gradient through the gate leave, as real numbers when the arguments are
  real numbers. The forward call saves, beside the activation, the two factors the gradient of the product of the hidden
  units is multiplied by; the backward call multiplies both saved factors by that gradient.
-/
module

public import proofs.«01_k».proof.Proof.Silu
public import proofs.«01_k».proof.Proof.Gen.GateIdeal.Frame
public import Idealize.ShloMosaic.Lib.Pipeline.ValueKit
public import Idealize.ShloMosaic.Lib.Pointwise
public import Idealize.ShloMosaic.Lib.StableHlo.RunRead

@[expose] public section

set_option maxRecDepth 16384

noncomputable section

namespace Cert.GateIdeal.Value

open Cert.GateIdeal Cert.GateIdeal.Gen Idealize.ShloMosaic Idealize.ShloMosaic.TcCoe Idealize.SL.Sem
open Idealize.ShloMosaic.Pipeline (Dat)
open Cert.Silu

section Body

variable {h x : Vec Ideal S1024x2048 .bf16} {wg wu : Vec Ideal S1x512x2048 .bf16} {wd : Vec Ideal S512x2048 .bf16}
  {q : Vec Ideal S1x1024x512 .bf16}
  {A X : Fin 1024 → Fin 2048 → ℝ} {Wg Wu Wd : Fin 512 → Fin 2048 → ℝ} {Q : Fin 1024 → Fin 512 → ℝ}
  (hh : ∀ p d, h (ix2 p d) = (A p d : EReal)) (hx : ∀ p d, x (ix2 p d) = (X p d : EReal))
  (hg : ∀ k d, wg (ix3 0 k d) = (Wg k d : EReal)) (hu : ∀ k d, wu (ix3 0 k d) = (Wu k d : EReal))
  (hd : ∀ k d, wd (ix2 k d) = (Wd k d : EReal)) (hq : ∀ p k, q (ix3 0 p k) = (Q p k : EReal))

include hh hg in
theorem pay_gate (p : Fin 1024) (k : Fin 512) : k0_pay1 h wg (ix2 p k) = ((∑ d, A p d * Wg k d : ℝ) : EReal) := by
  pointwise [k0_pay1]
  simp only [hh, hg, Reals.mul, Reals.sum]

include hh hu in
theorem pay_up (p : Fin 1024) (k : Fin 512) : k0_pay2 h wu (ix2 p k) = ((∑ d, A p d * Wu k d : ℝ) : EReal) := by
  pointwise [k0_pay2]
  simp only [hh, hu, Reals.mul, Reals.sum]

include hh hg in
theorem pay_sig (p : Fin 1024) (k : Fin 512) : k0_pay3 h wg (ix2 p k) = ((lgs (∑ d, A p d * Wg k d) : ℝ) : EReal) := by
  rw [← Silu.logistic, ← pay_gate hh hg]
  rfl

include hh hg hu in
/-- The factor of the gate's gradient. -/
theorem pay_p (p : Fin 1024) (k : Fin 512) : k0_pay6 h wg wu (ix3 0 p k)
    = (((∑ d, A p d * Wu k d) * dsilu (∑ d, A p d * Wg k d) : ℝ) : EReal) := by
  pointwise [k0_pay6]
  rw [pay_gate hh hg, pay_sig hh hg, pay_up hh hu, ← EReal.coe_one]
  simp only [Reals.mul, Reals.add, Reals.sub, dsilu]

include hh hg in
/-- The factor of the other product's gradient. -/
theorem pay_q (p : Fin 1024) (k : Fin 512) : k0_pay7 h wg (ix3 0 p k)
    = (((∑ d, A p d * Wg k d) * lgs (∑ d, A p d * Wg k d) : ℝ) : EReal) := by
  pointwise [k0_pay7, k0_pay4]
  rw [pay_gate hh hg, pay_sig hh hg, Reals.mul]

include hx hd in
theorem pay_da (p : Fin 1024) (k : Fin 512) : k1_pay1 x wd (ix2 p k) = (((∑ d, X p d * Wd k d) * (1 / 2) : ℝ) : EReal) := by
  pointwise [k1_pay1]
  simp only [hx, hd, Reals.mul, Reals.sum, Reals.lit_half]

include hx hd hq in
theorem pay_d0 (p : Fin 1024) (k : Fin 512) :
    k1_pay2 x wd q (ix3 0 p k) = (((∑ d, X p d * Wd k d) * (1 / 2) * Q p k : ℝ) : EReal) := by
  pointwise [k1_pay2]
  rw [pay_da hx hd, hq, Reals.mul]

include hx hd hq in
theorem pay_d1 (p : Fin 1024) (k : Fin 512) :
    k1_pay3 x wd q (ix3 0 p k) = (((∑ d, X p d * Wd k d) * (1 / 2) * Q p k : ℝ) : EReal) := by
  pointwise [k1_pay3]
  rw [pay_da hx hd, hq, Reals.mul]

end Body

theorem ld_rows (x : Vec Ideal S1024x2048 .bf16) (p : Fin 1024) (d : Fin 2048) : View.ld x r0_0 (ix2 p d) = x (ix2 p d) := by
  unfold View.ld; congr 1; funext a; apply Fin.ext; fin_cases a <;> simp [Rect.emb]

theorem ld_stack (x : Vec Ideal S1x512x2048 .bf16) (k : Fin 512) (d : Fin 2048) : View.ld x r0_1 (ix3 0 k d) = x (ix3 0 k d) := by
  unfold View.ld; congr 1; funext a; apply Fin.ext; fin_cases a <;> simp [Rect.emb]

theorem ld_down (x : Vec Ideal S512x2048 .bf16) (k : Fin 512) (d : Fin 2048) : View.ld x r1_1 (ix2 k d) = x (ix2 k d) := by
  unfold View.ld; congr 1; funext a; apply Fin.ext; fin_cases a <;> simp [Rect.emb]

theorem emb0 (p : Fin 1024) (k : Fin 512) : r0_3.emb (ix3 0 p k) = ix3 0 p k := by
  funext a; apply Fin.ext; refine (LoadRect.idx_apply _ _ a).trans ?_; fin_cases a <;> simp

theorem emb1 (p : Fin 1024) (k : Fin 512) : r0_4.emb (ix3 0 p k) = ix3 1 p k := by
  funext a; apply Fin.ext; refine (LoadRect.idx_apply _ _ a).trans ?_; fin_cases a <;> simp

theorem not_mem1 (p : Fin 1024) (k : Fin 512) : (ix3 0 p k : S2x1024x512.Idx) ∉ r0_4.set := fun hm => by
  have := ((Rect.mem_set_unit.mp hm) 0).1
  exact absurd this (Nat.not_succ_le_zero 0)

section Canon

variable (a b : Vec Ideal S1x1024x512 .bf16)

/-- Two stores, one under the other. -/
abbrev two : Vec Ideal S2x1024x512 .bf16 := View.canon [⟨r0_4, a⟩, ⟨r0_3, b⟩]

theorem two0 (p : Fin 1024) (k : Fin 512) : two a b (ix3 0 p k) = b (ix3 0 p k) :=
  (View.canon_cons_of_not_mem ⟨r0_4, a⟩ _ (not_mem1 p k)).trans
    ((congrArg (View.canon [⟨r0_3, b⟩]) (emb0 p k).symm).trans (View.canon_cons_emb r0_3 b [] (ix3 0 p k)))

theorem two1 (p : Fin 1024) (k : Fin 512) : two a b (ix3 1 p k) = a (ix3 0 p k) :=
  (congrArg (two a b) (emb1 p k).symm).trans (View.canon_cons_emb r0_4 a _ (ix3 0 p k))

end Canon

theorem ld_half0 (x : Vec Ideal S2x1024x512 .bf16) (p : Fin 1024) (k : Fin 512) : View.ld x r1_2 (ix3 0 p k) = x (ix3 0 p k) :=
  congrArg x (emb0 p k)

theorem ld_half1 (x : Vec Ideal S2x1024x512 .bf16) (p : Fin 1024) (k : Fin 512) : View.ld x r1_3 (ix3 0 p k) = x (ix3 1 p k) :=
  congrArg x (emb1 p k)

theorem idx0 : ∀ t : Fin cfg0.N, win0_0.index t = ![t.val / 11, 0] ∧ win0_1.index t = ![0, t.val % 11, 0]
    ∧ win0_2.index t = ![1, t.val % 11, 0] ∧ win0_4.index t = ![0, t.val / 11, t.val % 11] :=
  (by decide +kernel : ∀ t : Fin grid0.N, _)

theorem idx1 : ∀ t : Fin cfg1.N, win1_0.index t = ![t.val / 11, 0] ∧ win1_1.index t = ![t.val % 11, 0]
    ∧ win1_2.index t = ![0, t.val / 11, t.val % 11] ∧ win1_3.index t = ![0, t.val / 11, t.val % 11] :=
  (by decide +kernel : ∀ t : Fin grid1.N, _)

/-- The array's row that row `p` of a point's block is. -/
abbrev row (t : Fin cfg0.N) (p : Fin 1024) : Fin 8192 :=
  ⟨1024 * (t.val / 11) + p.val, by have := t.isLt; have hN : cfg0.N = 88 := N_0; omega⟩

/-- The array's column that column `k` of a point's block is. -/
abbrev col (t : Fin cfg0.N) (k : Fin 512) : Fin 5632 := ⟨512 * (t.val % 11) + k.val, by omega⟩

section Arrays

variable (m : (ℓ : Loc nD τ sig) → Buf (Elt Ideal) ℓ) (ρ : Dev nD → PrngReg) (c : Dev nD)
  {A X : Fin 8192 → Fin 2048 → ℝ} {Wg Wu : Fin 2048 → Fin 5632 → ℝ} {Wd : Fin 5632 → Fin 2048 → ℝ}
  (hh : ∀ p d, (m ((c : Thread nD τ).loc main_arg0) : FVec Ideal S8192x2048 .bf16) (ix2 p d) = (A p d : EReal))
  (hg : ∀ d k, (m ((c : Thread nD τ).loc main_arg1) : FVec Ideal S2048x5632 .f32) (ix2 d k) = (Wg d k : EReal))
  (hu : ∀ d k, (m ((c : Thread nD τ).loc main_arg2) : FVec Ideal S2048x5632 .f32) (ix2 d k) = (Wu d k : EReal))
  (hd : ∀ k d, (m ((c : Thread nD τ).loc main_arg3) : FVec Ideal S5632x2048 .f32) (ix2 k d) = (Wd k d : EReal))
  (hx : ∀ p d, (m ((c : Thread nD τ).loc main_arg4) : FVec Ideal S8192x2048 .bf16) (ix2 p d) = (X p d : EReal))

/-- The stacked weights as the forward call finds them. -/
theorem V1_v5 : V1 m ρ c main_v5 = (truncf .bf16 (concatenate S2x5632x2048 0
    [⟨S1x5632x2048, broadcastInDim S1x5632x2048 ![1, 2] bcast_S5632x2048_S1x5632x2048_1_2
        (transpose S5632x2048 [1, 0] (m ((c : Thread nD τ).loc main_arg1) : FVec Ideal S2048x5632 .f32) transposes_S2048x5632_S5632x2048_1_0)⟩,
      ⟨S1x5632x2048, broadcastInDim S1x5632x2048 ![1, 2] bcast_S5632x2048_S1x5632x2048_1_2
        (transpose S5632x2048 [1, 0] (m ((c : Thread nD τ).loc main_arg2) : FVec Ideal S2048x5632 .f32) transposes_S2048x5632_S5632x2048_1_0)⟩]
    concatenates_S1x5632x2048_S1x5632x2048_S2x5632x2048_d0 : FVec Ideal S2x5632x2048 .f32) bitsLt_bf16_f32) := by
  unfold V1 W1
  after_reads_simp
  rfl

theorem wt0 (k : Fin 5632) (d : Fin 2048) : (V1 m ρ c main_v5 : FVec Ideal S2x5632x2048 .bf16) (ix3 0 k d)
    = (m ((c : Thread nD τ).loc main_arg1) : FVec Ideal S2048x5632 .f32) (ix2 d k) := by
  rw [V1_v5]
  pointwise []

theorem wt1 (k : Fin 5632) (d : Fin 2048) : (V1 m ρ c main_v5 : FVec Ideal S2x5632x2048 .bf16) (ix3 1 k d)
    = (m ((c : Thread nD τ).loc main_arg2) : FVec Ideal S2048x5632 .f32) (ix2 d k) := by
  rw [V1_v5]
  pointwise []

theorem V1_arg0 : V1 m ρ c main_arg0 = m ((c : Thread nD τ).loc main_arg0) := W1_args m ρ c main_arg0 (by decide)

/-- The weights of the last product as the backward call finds them. -/
theorem V3_v7 : V3 m ρ c main_v7
    = (truncf .bf16 (m ((c : Thread nD τ).loc main_arg3) : FVec Ideal S5632x2048 .f32) bitsLt_bf16_f32 : FVec Ideal S5632x2048 .bf16) := by
  rw [← W2_args m ρ c main_arg3 (by decide)]
  unfold V3 W3
  after_reads_simp

theorem V3_arg4 : V3 m ρ c main_arg4 = m ((c : Thread nD τ).loc main_arg4) := W3_args m ρ c main_arg4 (by decide)

/-- The saved factors as the backward call finds them. -/
theorem V3_v6 : V3 m ρ c main_v6_1 = (dat0 (V1 m ρ) c).arrAt 4 cfg0.N :=
  (W3_of m ρ c main_v6_1 (by decide)).trans (W2_arr m ρ c 4)

include hh in
theorem blk0_0 (t : Fin cfg0.N) (p : Fin 1024) (d : Fin 2048) :
    (iblk0 (V1 m ρ) c 0 t : Vec Ideal S1024x2048 .bf16) (ix2 p d) = (A (row t p) d : EReal) := by
  rw [← hh, ← V1_arg0 m ρ c]
  blk_ext [iblk0, idx0 t]

include hg in
theorem blk0_1 (t : Fin cfg0.N) (k : Fin 512) (d : Fin 2048) :
    (iblk0 (V1 m ρ) c 1 t : Vec Ideal S1x512x2048 .bf16) (ix3 0 k d) = (Wg d (col t k) : EReal) := by
  rw [← hg, ← wt0 m ρ c]
  blk_ext [iblk0, idx0 t]

include hu in
theorem blk0_2 (t : Fin cfg0.N) (k : Fin 512) (d : Fin 2048) :
    (iblk0 (V1 m ρ) c 2 t : Vec Ideal S1x512x2048 .bf16) (ix3 0 k d) = (Wu d (col t k) : EReal) := by
  rw [← hu, ← wt1 m ρ c]
  blk_ext [iblk0, idx0 t]

include hx in
theorem blk1_0 (t : Fin cfg1.N) (p : Fin 1024) (d : Fin 2048) :
    (iblk1 (V3 m ρ) c 0 t : Vec Ideal S1024x2048 .bf16) (ix2 p d) = (X (row t p) d : EReal) := by
  rw [← hx, ← V3_arg4 m ρ c]
  blk_ext [iblk1, idx1 t]

include hd in
theorem blk1_1 (t : Fin cfg1.N) (k : Fin 512) (d : Fin 2048) :
    (iblk1 (V3 m ρ) c 1 t : Vec Ideal S512x2048 .bf16) (ix2 k d) = (Wd (col t k) d : EReal) := by
  have e : (V3 m ρ c main_v7 : FVec Ideal S5632x2048 .bf16) (ix2 (col t k) d) = (Wd (col t k) d : EReal) := by
    rw [V3_v7, ← hd]; rfl
  rw [← e]
  blk_ext [iblk1, idx1 t]

/-- The gate's and the other product. -/
def gate (A : Fin 8192 → Fin 2048 → ℝ) (W : Fin 2048 → Fin 5632 → ℝ) (p : Fin 8192) (k : Fin 5632) : ℝ := ∑ d, A p d * W d k

/-- The cotangent of the hidden units. -/
def da (X : Fin 8192 → Fin 2048 → ℝ) (Wd : Fin 5632 → Fin 2048 → ℝ) (p : Fin 8192) (k : Fin 5632) : ℝ := (∑ d, X p d * Wd k d) * (1 / 2)

/-- The two saved factors. -/
def fac (A : Fin 8192 → Fin 2048 → ℝ) (Wg Wu : Fin 2048 → Fin 5632 → ℝ) (b : Fin 2) (p : Fin 8192) (k : Fin 5632) : ℝ :=
  if b = 0 then gate A Wu p k * dsilu (gate A Wg p k) else gate A Wg p k * lgs (gate A Wg p k)

include hh hg hu in
theorem out0 (t : Fin cfg0.N) (b : Fin 2) (p : Fin 1024) (k : Fin 512) :
    out0_4 (iblk0 (V1 m ρ) c 0 t) (iblk0 (V1 m ρ) c 1 t) (iblk0 (V1 m ρ) c 2 t) (ix3 b p k)
      = ((fac A Wg Wu b (row t p) (col t k) : ℝ) : EReal) := by
  have e0 := fun p d => (ld_rows _ p d).trans (blk0_0 m ρ c hh t p d)
  have e1 := fun k d => (ld_stack _ k d).trans (blk0_1 m ρ c hg t k d)
  have e2 := fun k d => (ld_stack _ k d).trans (blk0_2 m ρ c hu t k d)
  match b with
  | 0 => exact (two0 _ _ p k).trans (pay_p e0 e1 e2 p k)
  | 1 => exact (two1 _ _ p k).trans (pay_q e0 e1 p k)

include hh hg hu in
/-- The array of the saved factors after the forward call. -/
theorem saved : (dat0 (V1 m ρ) c).arrAt 4 cfg0.N
    = fun i : S2x8192x5632.Idx => ((fac A Wg Wu (i 0) (i 1) (i 2) : ℝ) : EReal) := by
  refine (dat0 (V1 m ρ) c).arrAt_eq_of_covers 4 _ (by decide +kernel) fun t hf y => ?_
  blk_simp
  rw [after0_4]
  refine (congrArg _ (eq_ix3 y)).trans ((out0 m ρ c hh hg hu t (y 0) (y 1) (y 2)).trans ?_)
  have e0 : (win0_4.blk t).view.emb y 0 = y 0 := Fin.ext (by blk_simp [idx0 t])
  have e1 : (win0_4.blk t).view.emb y 1 = row t (y 1) := Fin.ext (by blk_simp [idx0 t]; show _ = 1024 * (t.val / 11) + _; omega)
  have e2 : (win0_4.blk t).view.emb y 2 = col t (y 2) := Fin.ext (by blk_simp [idx0 t]; show _ = 512 * (t.val % 11) + _; omega)
  rw [e0, e1, e2]

include hh hg hu in
theorem blk1_2 (t : Fin cfg1.N) (b : Fin 2) (p : Fin 1024) (k : Fin 512) :
    (iblk1 (V3 m ρ) c 2 t : Vec Ideal S2x1024x512 .bf16) (ix3 b p k) = ((fac A Wg Wu b (row t p) (col t k) : ℝ) : EReal) := by
  have e : (V3 m ρ c main_v6_1 : FVec Ideal S2x8192x5632 .bf16) (ix3 b (row t p) (col t k))
      = ((fac A Wg Wu b (row t p) (col t k) : ℝ) : EReal) := by
    rw [V3_v6, saved m ρ c hh hg hu]; rfl
  rw [← e]
  blk_ext [iblk1, idx1 t]

include hh hg hu hd hx in
theorem out1 (t : Fin cfg1.N) (b : Fin 2) (p : Fin 1024) (k : Fin 512) :
    out1_3 (iblk1 (V3 m ρ) c 0 t) (iblk1 (V3 m ρ) c 1 t) (iblk1 (V3 m ρ) c 2 t) (ix3 b p k)
      = ((da X Wd (row t p) (col t k) * fac A Wg Wu b (row t p) (col t k) : ℝ) : EReal) := by
  have e0 := fun p d => (ld_rows _ p d).trans (blk1_0 m ρ c hx t p d)
  have e1 := fun k d => (ld_down _ k d).trans (blk1_1 m ρ c hd t k d)
  match b with
  | 0 => exact (two0 _ _ p k).trans (pay_d0 e0 e1 (fun p k => (ld_half0 _ p k).trans (blk1_2 m ρ c hh hg hu t 0 p k)) p k)
  | 1 => exact (two1 _ _ p k).trans (pay_d1 e0 e1 (fun p k => (ld_half1 _ p k).trans (blk1_2 m ρ c hh hg hu t 1 p k)) p k)

include hh hg hu hd hx in
/-- The result: the gradients of both products. -/
theorem result : (dat1 (V3 m ρ) c).arrAt 3 cfg1.N
    = fun i : S2x8192x5632.Idx => ((da X Wd (i 1) (i 2) * fac A Wg Wu (i 0) (i 1) (i 2) : ℝ) : EReal) := by
  refine (dat1 (V3 m ρ) c).arrAt_eq_of_covers 3 _ (by decide +kernel) fun t hf y => ?_
  blk_simp
  rw [after1_3]
  refine (congrArg _ (eq_ix3 y)).trans ((out1 m ρ c hh hg hu hd hx t (y 0) (y 1) (y 2)).trans ?_)
  have e0 : (win1_3.blk t).view.emb y 0 = y 0 := Fin.ext (by blk_simp [idx1 t])
  have e1 : (win1_3.blk t).view.emb y 1 = row t (y 1) := Fin.ext (by blk_simp [idx1 t]; show _ = 1024 * (t.val / 11) + _; omega)
  have e2 : (win1_3.blk t).view.emb y 2 = col t (y 2) := Fin.ext (by blk_simp [idx1 t]; show _ = 512 * (t.val % 11) + _; omega)
  rw [e0, e1, e2]

end Arrays

end Cert.GateIdeal.Value

end
-- ==== Proof.GateRef.lean ====
/-
  The gradient of `reference.py`'s feed-forward at its two gate products, as real numbers where the arguments are real
  numbers.
-/
module

public import proofs.«01_k».proof.Proof.GateKernel
public import proofs.«01_k».proof.Proof.Gen.GateRefIdeal.Run
public import proofs.«01_k».proof.Proof.Gen.GateRefIdeal.Read
public import Idealize.ShloMosaic.Lib.Pointwise

@[expose] public section

set_option maxRecDepth 16384

noncomputable section

namespace Cert.GateRefIdeal.Read

open Cert.GateRefIdeal Cert.GateRefIdeal.Gen Idealize.ShloMosaic
open Cert.GateIdeal.Value (gate da fac)
open Cert.Silu

variable {h x : (⟨S8192x2048, .bf16⟩ : BufTy).Contents (Elt Ideal)} {wg wu : (⟨S2048x5632, .f32⟩ : BufTy).Contents (Elt Ideal)}
  {wd : (⟨S5632x2048, .f32⟩ : BufTy).Contents (Elt Ideal)}
  {A X : Fin 8192 → Fin 2048 → ℝ} {Wg Wu : Fin 2048 → Fin 5632 → ℝ} {Wd : Fin 5632 → Fin 2048 → ℝ}
  (hh : ∀ p d, h (ix2 p d) = (A p d : EReal)) (hg : ∀ d k, wg (ix2 d k) = (Wg d k : EReal))
  (hu : ∀ d k, wu (ix2 d k) = (Wu d k : EReal)) (hd : ∀ k d, wd (ix2 k d) = (Wd k d : EReal))
  (hx : ∀ p d, x (ix2 p d) = (X p d : EReal))

include hh hg in
theorem v1 (p : Fin 8192) (k : Fin 5632) : val_main_v1 (F := Ideal) h wg (ix2 p k) = ((gate A Wg p k : ℝ) : EReal) := by
  pointwise [val_main_v1, val_main_v0]
  simp only [hh, hg, Reals.mul, Reals.sum, gate]

include hh hu in
theorem v2 (p : Fin 8192) (k : Fin 5632) : val_main_v2 (F := Ideal) h wu (ix2 p k) = ((gate A Wu p k : ℝ) : EReal) := by
  pointwise [val_main_v2, val_main_v0]
  simp only [hh, hu, Reals.mul, Reals.sum, gate]

include hh hg in
theorem sigma (p : Fin 8192) (k : Fin 5632) :
    val_main_v3_2 (F := Ideal) h wg (ix2 p k) = ((lgs (gate A Wg p k) : ℝ) : EReal) := by
  pointwise [val_main_v3_2, val_main_call0_v4, val_main_call0_cst_0, val_main_call0_v3, val_main_call0_v2,
    val_main_call0_cst, val_main_call0_v1, val_main_call0_v0]
  rw [v1 hh hg]
  exact Silu.quotient _

include hh hg in
theorem sigma' (p : Fin 8192) (k : Fin 5632) : val_main_v3_1 (F := Ideal) h wg (ix2 p k)
    = ((lgs (gate A Wg p k) * (1 - lgs (gate A Wg p k)) : ℝ) : EReal) := by
  pointwise [val_main_v3_1, val_main_call0_v7, val_main_call0_v6, val_main_call0_cst_1]
  rw [sigma hh hg, ← EReal.coe_one, Reals.sub, Reals.mul]

include hd hx in
theorem v11 (p : Fin 8192) (k : Fin 5632) :
    val_main_v11 (F := Ideal) wd x (ix2 p k) = ((da X Wd p k : ℝ) : EReal) := by
  pointwise [val_main_v11, val_main_v10, val_main_v9, val_main_v8, val_main_cst_0]
  simp only [hx, hd, Reals.lit_half, Reals.mul, Reals.sum]
  refine Reals.congr ?_
  rw [da, Finset.sum_mul]
  exact Finset.sum_congr rfl fun d _ => by ring

include hh hg hu hd hx in
theorem v18_0 (p : Fin 8192) (k : Fin 5632) : val_main_v18 (F := Ideal) h wg wu wd x (ix3 0 p k)
    = ((da X Wd p k * fac A Wg Wu 0 p k : ℝ) : EReal) := by
  pointwise [val_main_v18, val_main_v17, val_main_v15, val_main_v14, val_main_call1_v2, val_main_call1_v1,
    val_main_call1_v0, val_main_v13]
  rw [v1 hh hg, v2 hh hu, sigma hh hg, sigma' hh hg, v11 hd hx]
  simp only [Reals.mul, Reals.add]
  refine Reals.congr ?_
  rw [fac, if_pos rfl, dsilu]
  ring

include hh hg hd hx in
theorem v18_1 (p : Fin 8192) (k : Fin 5632) : val_main_v18 (F := Ideal) h wg wu wd x (ix3 1 p k)
    = ((da X Wd p k * fac A Wg Wu 1 p k : ℝ) : EReal) := by
  pointwise [val_main_v18, val_main_v17, val_main_v16, val_main_v12, val_main_v3_0]
  rw [v1 hh hg, sigma hh hg, v11 hd hx]
  simp only [Reals.mul]
  refine Reals.congr ?_
  rw [fac, if_neg (by decide)]
  ring

include hh hg hu hd hx in
/-- Both halves of the result. -/
theorem v18 (b : Fin 2) (p : Fin 8192) (k : Fin 5632) : val_main_v18 (F := Ideal) h wg wu wd x (ix3 b p k)
    = ((da X Wd p k * fac A Wg Wu b p k : ℝ) : EReal) :=
  match b with
  | 0 => v18_0 hh hg hu hd hx p k
  | 1 => v18_1 hh hg hd hx p k

end Cert.GateRefIdeal.Read

end
-- ==== Proof.GateRun.lean ====
/-
  The run of the feed-forward's gate products and the gradient through the gate: every execution ends, with the result
  at what the second call's pipeline leaves and the arguments unchanged.
-/
module

public import proofs.«01_k».proof.Proof.Gen.GateIdeal.Frame

@[expose] public section

set_option maxRecDepth 16384

noncomputable section

namespace Cert.GateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

/-- The propositions the launch speaks in. -/
abbrev World (F : FTy → Type) : Type := sProp (MT nD τ sig Unit (Elt F) ℕ (UR sig nD τ) ℕ)

-- the launch's implicit arguments are found by unfolding plain definitions
set_option backward.isDefEq.respectTransparency.types false in
/-- After every execution each unscoped array is at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) := by
  let cells := Pipeline.cells cfgs cellOf_inj
  let toks := Pipeline.launchToks cfgs cellOf_inj
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := initOf cells toks) (hu₀ := ?own)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩) (hinit := ?start)
    (QY := fun c s => ∀ b ∈ Pipeline.ucRefs τ sig, s.mem (((c : Thread nD τ)).1, b) = W4 m ρ c b)
    (hfin := fun c s' => ?stop) (hQ := fun s h _ => h)
  case own =>
    iintro Hu; imodintro
    isplitl [Hu]
    · iapply (show (ownU (initOf cells toks) : World F) ⊢ BI.own (emb₁ (initOf cells toks)) from .rfl)
      iexact Hu
    iapply (show (BI.emp : World F) ⊢ bigSep Finset.univ (fun _ : Dev nD => (BI.emp : World F)) from by rw [BI.bigSep_emp_const])
    iempintro
  case start =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case stop =>
    iintro ⟨⟨Hh, -⟩, HSI⟩
    unfold StableHlo.held
    imodintro
    iapply (pointsTo_read_all (Pipeline.ucRefs τ sig) (fun b => (((c : Thread nD τ)).1, b)) (W4 m ρ c) s')
    isplitl [Hh] <;> iassumption

/-- The result and the arguments after every execution. -/
theorem run_result : θ_run defs (onTc (τ := τ) (main (F := F))) ⟨m, fun _ => 0, ρ⟩ (fun r => ∀ c : Dev nD,
      r.2.mem ((c.tc : Thread nD τ).loc main_v8) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v8 (by decide))).trans (W4_arr m ρ c 3),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run_all m ρ)

end Cert.GateIdeal.Gen

end
-- ==== Proof.GateClaim.lean ====
/-
  The feed-forward's gate products followed by the gradient through the gate, and the gradient of `reference.py`'s lines,
  leave the same result where the arguments are finite.
-/
module

public import proofs.«01_k».proof.Defs
public import proofs.«01_k».proof.Proof.GateRef
public import proofs.«01_k».proof.Proof.GateRun
public import proofs.«01_k».proof.Proof.Gen.Pre_ffn_finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Arrays whose absolute values are below infinity everywhere are real numbers everywhere. -/
theorem gate_real {h : FVec Ideal ⟨2, ![8192, 2048]⟩ .bf16} {wg wu : FVec Ideal ⟨2, ![2048, 5632]⟩ .f32}
    {wd : FVec Ideal ⟨2, ![5632, 2048]⟩ .f32} {x : FVec Ideal ⟨2, ![8192, 2048]⟩ .bf16}
    (hp : (Pre_ffn_finite.fn (F := Ideal) h wg wu wd x).1 = (fun _ => 1#1) ∧ (Pre_ffn_finite.fn (F := Ideal) h wg wu wd x).2.1 = (fun _ => 1#1)
      ∧ (Pre_ffn_finite.fn (F := Ideal) h wg wu wd x).2.2.1 = (fun _ => 1#1) ∧ (Pre_ffn_finite.fn (F := Ideal) h wg wu wd x).2.2.2.1 = (fun _ => 1#1)
      ∧ (Pre_ffn_finite.fn (F := Ideal) h wg wu wd x).2.2.2.2 = (fun _ => 1#1)) :
    (∀ p d, h (ix2 p d) = ((h (ix2 p d)).toReal : EReal)) ∧ (∀ d k, wg (ix2 d k) = ((wg (ix2 d k)).toReal : EReal))
      ∧ (∀ d k, wu (ix2 d k) = ((wu (ix2 d k)).toReal : EReal)) ∧ (∀ k d, wd (ix2 k d) = ((wd (ix2 k d)).toReal : EReal))
      ∧ (∀ p d, x (ix2 p d) = ((x (ix2 p d)).toReal : EReal)) := by
  obtain ⟨h0, h1, h2, h3, h4⟩ := hp
  refine ⟨fun p d => Reals.eq_coe (Reals.finite_of_lt ?_), fun d k => Reals.eq_coe (Reals.finite_of_lt ?_),
    fun d k => Reals.eq_coe (Reals.finite_of_lt ?_), fun k d => Reals.eq_coe (Reals.finite_of_lt ?_),
    fun p d => Reals.eq_coe (Reals.finite_of_lt ?_)⟩
  · exact congrFun h0 (ix2 p d)
  · exact congrFun h1 (ix2 d k)
  · exact congrFun h2 (ix2 d k)
  · exact congrFun h3 (ix2 k d)
  · exact congrFun h4 (ix2 p d)

theorem gateRef_frame : quiescent_GateRefIdeal := fun m g _ =>
  (θ_run _ _ _).mono (fun r h => ⟨fun c => (h c).2, sem_eq_zero_of_no_sems (by decide) r.2⟩) (GateRefIdeal.Value.run m g)

theorem gate_algebraic : algebraic_GateIdeal_GateRefIdeal_pre_ffn_finite := by
  intro m g m' g' hpre hargs
  refine ⟨_, GateIdeal.Gen.run_result m g, (θ_run _ _ _).mono (fun r h c => ?_) (GateRefIdeal.Value.run m' g')⟩
  obtain ⟨h0, ha⟩ := h c
  obtain ⟨hh, hg, hu, hd, hx⟩ := gate_real (hpre c)
  obtain ⟨e0, e1, e2, e3, e4⟩ := hargs c
  refine ⟨h0.trans ?_, ha⟩
  rw [GateRefIdeal.Read.val_main_v18_eq, e0, e1, e2, e3, e4]
  refine Eq.trans (funext fun i => ?_) (GateIdeal.Value.result m g c hh hg hu hd hx).symm
  refine (congrArg _ (eq_ix3 i)).trans ?_
  exact GateRefIdeal.Read.v18 hh hg hu hd hx (i 0) (i 1) (i 2)

end Cert.Proof

end
-- ==== Proof.PoolMath.lean ====
/-
  A mean over the positions at most a half-width away, as real numbers: the window, its number of positions, the mean less
  the value itself, and the gradients; how a sum over a tile with its two halos is a sum over the sequence; and the
  kernel's integer comparisons as statements about numbers.
-/
module

public import proofs.«01_k».proof.Proof.Reals

@[expose] public section

noncomputable section

namespace Cert.PoolMath

open Idealize.ShloMosaic

/-- Position `s` is in the window of half-width `r` round `t`. -/
def win (r t s : ℕ) : Prop := t - r ≤ s ∧ s < min 8192 (t + r)

instance (r t s : ℕ) : Decidable (win r t s) := by unfold win; infer_instance

/-- How many positions the window has. -/
def cnt (r t : ℕ) : ℝ := ((min 8192 (t + r) - (t - r) : ℕ) : ℝ)

theorem cnt_pos {r t : ℕ} (hr : 1 ≤ r) (ht : t < 8192) : 1 ≤ cnt r t := by
  unfold cnt; exact_mod_cast (by omega : 1 ≤ min 8192 (t + r) - (t - r))

/-- The half-width of a group. -/
def rad (g : Fin 4) : ℕ := 2 ^ g.val

theorem rad_pos (g : Fin 4) : 1 ≤ rad g := Nat.one_le_two_pow
theorem rad_le (g : Fin 4) : rad g ≤ 8 := by revert g; decide

section Values

variable (P D : Fin 4 → Fin 8192 → Fin 128 → ℝ) (W : Fin 4 → Fin 128 → Fin 128 → ℝ) (S : Fin 4 → Fin 128 → ℝ)

/-- The window's mean less the value itself. -/
def dif (g : Fin 4) (t : Fin 8192) (c : Fin 128) : ℝ := (∑ s : Fin 8192, if win (rad g) t s then P g s c else 0) / cnt (rad g) t - P g t c
/-- The gradient of the scale. -/
def dsc (g : Fin 4) (d : Fin 128) : ℝ := ∑ t, D g t d * ∑ c, dif P g t c * W g c d
/-- The gradient of the matrix. -/
def dw (g : Fin 4) (c d : Fin 128) : ℝ := ∑ t, dif P g t c * (D g t d * S g d)
/-- The cotangent of `dif`. -/
def dd (g : Fin 4) (t : Fin 8192) (c : Fin 128) : ℝ := ∑ d, (D g t d * S g d) * W g c d
/-- The cotangent of the window's sum. -/
def dq (g : Fin 4) (t : Fin 8192) (c : Fin 128) : ℝ := dd D W S g t c / cnt (rad g) t
/-- The gradient of the values. -/
def dz (g : Fin 4) (t : Fin 8192) (c : Fin 128) : ℝ := (∑ s : Fin 8192, if win (rad g) s t then dd D W S g s c / cnt (rad g) s else 0) - dd D W S g t c

end Values

/-- A sum over the extended tile's rows that keeps the rows `p` is a sum over the positions `q` where the two name the same
rows. -/
theorem transfer (T : ℕ) (p : Fin 512 → Prop) (q : Fin 8192 → Prop) [DecidablePred p] [DecidablePred q] (h : Fin 512 → EReal) (z : Fin 8192 → EReal)
    (hp : ∀ b, p b → ∃ s : Fin 8192, s.val + 128 = 256 * T + b.val ∧ q s) (hq : ∀ s, q s → ∃ b : Fin 512, s.val + 128 = 256 * T + b.val ∧ p b)
    (hh : ∀ b s, s.val + 128 = 256 * T + b.val → p b → h b = z s) :
    ∑ b, ((if p b then (1 : ℝ) else 0 : ℝ) : EReal) * h b = ∑ s, if q s then z s else 0 := by
  have l : ∀ b, ((if p b then (1 : ℝ) else 0 : ℝ) : EReal) * h b = ∑ s : Fin 8192, if s.val + 128 = 256 * T + b.val ∧ p b then z s else 0 := by
    intro b
    by_cases hb : p b
    · obtain ⟨s, e, _⟩ := hp b hb
      rw [if_pos hb, EReal.coe_one, one_mul, hh b s e hb]
      symm
      rw [Finset.sum_eq_single s (fun s' _ hne => ?_) fun hn => absurd (Finset.mem_univ _) hn, if_pos ⟨e, hb⟩]
      exact if_neg fun hs => hne (Fin.ext (by have := hs.1; omega))
    · rw [if_neg hb, EReal.coe_zero, zero_mul]
      exact (Finset.sum_eq_zero fun s _ => if_neg fun hs => hb hs.2).symm
  have r : ∀ s, (if q s then z s else 0) = ∑ b : Fin 512, if s.val + 128 = 256 * T + b.val ∧ p b then z s else 0 := by
    intro s
    by_cases hs : q s
    · obtain ⟨b, e, hb⟩ := hq s hs
      rw [if_pos hs]
      symm
      rw [Finset.sum_eq_single b (fun b' _ hne => ?_) fun hn => absurd (Finset.mem_univ _) hn, if_pos ⟨e, hb⟩]
      exact if_neg fun hs => hne (Fin.ext (by have := hs.1; omega))
    · rw [if_neg hs]
      refine (Finset.sum_eq_zero fun b _ => if_neg fun hb => ?_).symm
      obtain ⟨s', e, h'⟩ := hp b hb.2
      exact hs ((Fin.ext (by have := hb.1; omega) : s' = s) ▸ h')
  rw [Finset.sum_congr rfl fun b _ => l b, Finset.sum_comm]
  exact Finset.sum_congr rfl fun s _ => (r s).symm

/-- The word of an integer. -/
abbrev wd (n : ℤ) : BitVec 32 := BitVec.ofInt 32 n

/-- An integer far from the words' bounds. -/
def Small (n : ℤ) : Prop := -100000 ≤ n ∧ n ≤ 100000

theorem toInt_wd {n : ℤ} (h : Small n) : (wd n).toInt = n := by
  rw [BitVec.toInt_ofInt, Int.bmod_eq_of_le] <;> (unfold Small at h; norm_num; omega)

theorem add_wd (m n : ℤ) : IntOp.addi (wd m) (wd n) = wd (m + n) := (BitVec.ofInt_add m n).symm
theorem sub_wd (m n : ℤ) : IntOp.subi (wd m) (wd n) = wd (m - n) := by
  show wd m - wd n = _
  apply BitVec.eq_of_toInt_eq; simp [BitVec.toInt_sub, BitVec.toInt_ofInt]
theorem mul_wd (m n : ℤ) : IntOp.muli (wd m) (wd n) = wd (m * n) := (BitVec.ofInt_mul m n).symm
theorem nat_wd (n : ℕ) : BitVec.ofNat 32 n = wd n := (BitVec.ofInt_natCast 32 n).symm

theorem max_wd {m n : ℤ} (hm : Small m) (hn : Small n) : IntOp.maxsi (wd m) (wd n) = wd (max m n) := by
  unfold IntOp.maxsi
  simp only [BitVec.slt, toInt_wd hm, toInt_wd hn, decide_eq_true_eq]
  split
  · rw [max_eq_left (by omega)]
  · rw [max_eq_right (by omega)]
theorem min_wd {m n : ℤ} (hm : Small m) (hn : Small n) : IntOp.minsi (wd m) (wd n) = wd (min m n) := by
  unfold IntOp.minsi
  simp only [BitVec.slt, toInt_wd hm, toInt_wd hn, decide_eq_true_eq]
  split
  · rw [min_eq_left (by omega)]
  · rw [min_eq_right (by omega)]
theorem sge_wd {m n : ℤ} (hm : Small m) (hn : Small n) : IntOp.cmpi .sge (wd m) (wd n) = if n ≤ m then 1#1 else 0#1 := by
  unfold IntOp.cmpi
  simp only [BitVec.sle, toInt_wd hm, toInt_wd hn]
  by_cases h : n ≤ m <;> simp [h]
theorem slt_wd {m n : ℤ} (hm : Small m) (hn : Small n) : IntOp.cmpi .slt (wd m) (wd n) = if m < n then 1#1 else 0#1 := by
  unfold IntOp.cmpi
  simp only [BitVec.slt, toInt_wd hm, toInt_wd hn]
  by_cases h : m < n <;> simp [h]

theorem and_if (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The comparison with the window's two ends, as a zero or a one. -/
theorem band_wd {t s : ℤ} {r : ℕ} (ht : Small t) (hs : Small s) (ht' : -600 ≤ t ∧ t ≤ 9000) (hr : r ≤ 8) :
    (FloatOps.sitofp .f32 (BitVec.setWidth 32 (IntOp.andi (IntOp.cmpi .sge (wd s) (IntOp.maxsi (IntOp.subi (wd t) (wd r)) 0#32))
      (IntOp.cmpi .slt (wd s) (IntOp.minsi (IntOp.addi (wd t) (wd r)) 8192#32)))) : Ideal .f32)
      = ((if max (t - r) 0 ≤ s ∧ s < min (t + r) 8192 then (1 : ℝ) else 0 : ℝ) : EReal) := by
  have s1 : Small (t - r) := by unfold Small; omega
  have s2 : Small (t + r) := by unfold Small; omega
  have s3 : Small (max (t - r) 0) := by unfold Small; omega
  have s4 : Small (min (t + r) 8192) := by unfold Small; omega
  rw [sub_wd, add_wd, show (0#32) = wd 0 from rfl, show (8192#32) = wd 8192 from rfl, max_wd s1 (by unfold Small; omega), min_wd s2 (by unfold Small; omega),
    sge_wd hs s3, slt_wd hs s4, and_if]
  show (((BitVec.toInt _ : ℤ) : ℝ) : EReal) = _
  by_cases h : max (t - r) 0 ≤ s ∧ s < min (t + r) 8192
  · rw [if_pos h, if_pos h]; norm_num
  · rw [if_neg h, if_neg h]; norm_num

/-- The number of positions computed from the window's two ends. -/
theorem cnt_wd {t : ℤ} {r : ℕ} (ht' : -600 ≤ t ∧ t ≤ 9000) (hr : r ≤ 8) :
    (FloatOps.sitofp .f32 (IntOp.subi (IntOp.minsi (IntOp.addi (wd t) (wd r)) 8192#32) (IntOp.maxsi (IntOp.subi (wd t) (wd r)) 0#32)) : Ideal .f32)
      = (((min (t + r) 8192 - max (t - r) 0 : ℤ) : ℝ) : EReal) := by
  have s1 : Small (t - r) := by unfold Small; omega
  have s2 : Small (t + r) := by unfold Small; omega
  rw [sub_wd, add_wd, show (0#32) = wd 0 from rfl, show (8192#32) = wd 8192 from rfl, max_wd s1 (by unfold Small; omega), min_wd s2 (by unfold Small; omega),
    sub_wd]
  show (((BitVec.toInt _ : ℤ) : ℝ) : EReal) = _
  rw [toInt_wd (by unfold Small; omega)]

/-- Inside the sequence it is the number of positions. -/
theorem cnt_int {t r : ℕ} (hr : 1 ≤ r) (ht : t < 8192) : ((min ((t : ℤ) + r) 8192 - max ((t : ℤ) - r) 0 : ℤ) : ℝ) = cnt r t := by
  unfold cnt
  have : (min ((t : ℤ) + r) 8192 - max ((t : ℤ) - r) 0 : ℤ) = ((min 8192 (t + r) - (t - r) : ℕ) : ℤ) := by omega
  rw [this]; norm_cast

theorem win_int {t s r : ℕ} (ht : t < 8192) : (max ((t : ℤ) - r) 0 ≤ s ∧ (s : ℤ) < min (t + r) 8192) ↔ win r t s := by
  unfold win; omega

theorem coe_max (a b : ℝ) : max (a : EReal) (b : EReal) = ((max a b : ℝ) : EReal) := (EReal.coe_strictMono.monotone.map_max).symm

end Cert.PoolMath
-- ==== Proof.PoolTile.lean ====
/-
  One group's part of the pooling's backward kernel on one tile of 256 positions with a halo of 128 on each side, as real
  numbers: the window's mean less the value, its cotangent, and the gradients.
-/
module

public import proofs.«01_k».proof.Proof.Gen.PoolIdeal.Skeleton
public import proofs.«01_k».proof.Proof.PoolMath
public import Idealize.ShloMosaic.Lib.Pointwise

@[expose] public section

set_option maxRecDepth 16384

noncomputable section

namespace Cert.PoolIdeal.Value

open Cert.PoolIdeal Cert.PoolIdeal.Gen Idealize.ShloMosaic Idealize.ShloMosaic.TcCoe
open Cert.PoolMath (wd rad rad_le rad_pos win dif transfer mul_wd add_wd sub_wd nat_wd band_wd cnt_wd cnt_int cnt_pos win_int)

/-- The positions of a tile's rows, along a column, and of the extended tile's rows, along a row. -/
def rowPos (a : BitVec 32) : IVec S256x512 32 := addi (broadcast S256x512 (Scalar.muli a 256#32)) (iota .tc S256x512 32 [0] iota_S256x512_d0_w32)
@[inherit_doc rowPos]
def extPos (a : BitVec 32) : IVec S256x512 32 :=
  addi (broadcast S256x512 (Scalar.subi (Scalar.muli a 256#32) 128#32)) (iota .tc S256x512 32 [1] iota_S256x512_d1_w32)
/-- The same as columns. -/
def rowCol (a : BitVec 32) : IVec S256x1 32 := addi (broadcast S256x1 (Scalar.muli a 256#32)) (iota .tc S256x1 32 [0] iota_S256x1_d0_w32)
@[inherit_doc rowCol]
def extCol (a : BitVec 32) : IVec S512x1 32 :=
  addi (broadcast S512x1 (Scalar.subi (Scalar.muli a 256#32) 128#32)) (iota .tc S512x1 32 [0] iota_S512x1_d0_w32)

/-- The window of half-width `r` round `t` as zeros and ones. -/
def band (r : BitVec 32) (t s : IVec S256x512 32) : FVec Ideal S256x512 .bf16 :=
  truncf .bf16 (sitofp .f32 (extui 32 (andi (cmpi .sge s (maxsi (subi t (broadcast S256x512 r)) (broadcast S256x512 0#32)))
    (cmpi .slt s (minsi (addi t (broadcast S256x512 r)) (broadcast S256x512 8192#32)))) natLt_1_32) : FVec Ideal S256x512 .f32) bitsLt_bf16_f32

/-- How many positions the window round `t` has. -/
def cnt (S : Shape) (r : BitVec 32) (t : IVec S 32) : FVec Ideal S .f32 :=
  sitofp .f32 (subi (minsi (addi t (broadcast S r)) (broadcast S 8192#32)) (maxsi (subi t (broadcast S r)) (broadcast S 0#32)))

variable (a r : BitVec 32) (o : ℕ) (hs : S512x512.Slices ![0, o] S512x128) (x y : FVec Ideal S512x512 .bf16) (q : Vec Ideal S256x128 .bf16)
  (sc : Vec Ideal S1x128 .f32) (w : Vec Ideal S1x128x128 .bf16) (e : Vec Ideal S256x128 .bf16)

/-- The window's mean less the value itself. -/
def tDif : FVec Ideal S256x128 .bf16 :=
  truncf .bf16 (subf (divf (matmul dot_S256x512_S512x128_S256x128_1_0_0_1_n_n none (band r (rowPos a) (extPos a))
    (extractStridedSlice S512x128 ![0, o] x hs) (constant S256x128 .f32 0x00000000#32) : FVec Ideal S256x128 .f32)
    (broadcastTo S256x128 (cnt S256x1 r (rowCol a)) broadcasts_S256x1_S256x128)) (extf .f32 q bitsLt_bf16_f32)) bitsLt_bf16_f32

/-- The cotangent of that, on the extended tile. -/
def tDd : FVec Ideal S512x128 .f32 :=
  matmul (φ₂ := .bf16) dot_S512x128_S128x128_S512x128_1_1_0_0_n_n none
    (truncf .bf16 (mulf (extf .f32 (extractStridedSlice S512x128 ![0, o] y hs) bitsLt_bf16_f32)
      (broadcastTo S512x128 (k0_pay10 sc) broadcasts_S1x128_S512x128) : FVec Ideal S512x128 .f32) bitsLt_bf16_f32)
    (shapeCast S128x128 w shapeCasts_S1x128x128_S128x128) (constant S512x128 .f32 0x00000000#32)

/-- The same over the number of positions, zero outside the sequence. -/
def tQ : FVec Ideal S512x128 .f32 :=
  select (broadcastTo S512x128 (shapeCast S512x1 (andi (cmpi .sge (extCol a) (broadcast S512x1 0#32)) (cmpi .slt (extCol a) (broadcast S512x1 8192#32))) shapeCasts_S512x1_S512x1) broadcasts_S512x1_S512x128)
    (divf (tDd o hs y sc w) (broadcastTo S512x128 (maximumf (cnt S512x1 r (extCol a)) (broadcast S512x1 (Scalar.ofBits .f32 0x3F800000#32))) broadcasts_S512x1_S512x128))
    (broadcast S512x128 (Scalar.ofBits .f32 0x00000000#32))

/-- The gradient of the values. -/
def tDz : FVec Ideal S256x128 .bf16 :=
  truncf .bf16 (subf (addf
    (matmul dot_S256x512_S512x128_S256x128_1_0_0_1_n_n none (band r (extPos a) (rowPos a)) (truncf .bf16 (tQ a r o hs y sc w) bitsLt_bf16_f32) (constant S256x128 .f32 0x00000000#32))
    (matmul dot_S256x512_S512x128_S256x128_1_0_0_1_n_n none (band r (extPos a) (rowPos a))
      (truncf .bf16 (subf (tQ a r o hs y sc w) (extf .f32 (truncf .bf16 (tQ a r o hs y sc w) bitsLt_bf16_f32) bitsLt_bf16_f32)) bitsLt_bf16_f32) (constant S256x128 .f32 0x00000000#32)) : FVec Ideal S256x128 .f32)
    (extractStridedSlice S256x128 ![128, 0] (tDd o hs y sc w) slices_S512x128_o128_0_S256x128)) bitsLt_bf16_f32

variable {a r : BitVec 32} {o : ℕ} {hs : S512x512.Slices ![0, o] S512x128} {x y : FVec Ideal S512x512 .bf16} {q e : Vec Ideal S256x128 .bf16}
  {sc : Vec Ideal S1x128 .f32} {w : Vec Ideal S1x128x128 .bf16}
  {T : Fin 32} {g : Fin 4} {P D : Fin 4 → Fin 8192 → Fin 128 → ℝ} {W : Fin 4 → Fin 128 → Fin 128 → ℝ} {S : Fin 4 → Fin 128 → ℝ}
  (ha : a = wd T.val) (hr : r = wd (rad g))
  (hx : ∀ (b : Fin 512) (s : Fin 8192) (j : Fin 128) (k : Fin 512), s.val + 128 = 256 * T.val + b.val → k.val = o + j.val → x (ix2 b k) = (P g s j : EReal))
  (hy : ∀ (b : Fin 512) (s : Fin 8192) (j : Fin 128) (k : Fin 512), s.val + 128 = 256 * T.val + b.val → k.val = o + j.val → y (ix2 b k) = (D g s j : EReal))
  (hq : ∀ (i : Fin 256) (s : Fin 8192) (j : Fin 128), s.val = 256 * T.val + i.val → q (ix2 i j) = (P g s j : EReal))
  (he : ∀ (i : Fin 256) (s : Fin 8192) (j : Fin 128), s.val = 256 * T.val + i.val → e (ix2 i j) = (D g s j : EReal))
  (hw : ∀ c d, w (ix3 0 c d) = (W g c d : EReal)) (hsc : ∀ d, sc (ix2 0 d) = (S g d : EReal))

/-- The position of a tile's row. -/
abbrev pos (T : Fin 32) (i : Fin 256) : Fin 8192 := ⟨256 * T.val + i.val, by omega⟩

include ha in
theorem rowPos_at (i : Fin 256) (j : Fin 512) : rowPos a (ix2 i j) = wd ((pos T i).val : ℤ) := by
  refine Eq.trans (b := IntOp.addi (Scalar.muli a 256#32) (BitVec.ofNat 32 i.val)) (by pointwise [rowPos]) ?_
  rw [ha, nat_wd i.val]
  refine (congrArg (IntOp.addi · _) (mul_wd _ 256)).trans ((add_wd _ _).trans ?_)
  congr 1; push_cast; ring
include ha in
theorem rowCol_at (i : Fin 256) : rowCol a (ix2 i 0) = wd ((pos T i).val : ℤ) := by
  refine Eq.trans (b := IntOp.addi (Scalar.muli a 256#32) (BitVec.ofNat 32 i.val)) (by pointwise [rowCol]) ?_
  rw [ha, nat_wd i.val]
  refine (congrArg (IntOp.addi · _) (mul_wd _ 256)).trans ((add_wd _ _).trans ?_)
  congr 1; push_cast; ring
include ha in
theorem extPos_at (i : Fin 256) (j : Fin 512) : extPos a (ix2 i j) = wd (256 * (T.val : ℤ) + j.val - 128) := by
  refine Eq.trans (b := IntOp.addi (Scalar.subi (Scalar.muli a 256#32) 128#32) (BitVec.ofNat 32 j.val)) (by pointwise [extPos]) ?_
  rw [ha, nat_wd j.val]
  refine (congrArg (fun z => IntOp.addi (IntOp.subi z _) _) (mul_wd _ 256)).trans ((congrArg (IntOp.addi · _) (sub_wd _ 128)).trans ((add_wd _ _).trans ?_))
  congr 1; ring
include ha in
theorem extCol_at (j : Fin 512) : extCol a (ix2 j 0) = wd (256 * (T.val : ℤ) + j.val - 128) := by
  refine Eq.trans (b := IntOp.addi (Scalar.subi (Scalar.muli a 256#32) 128#32) (BitVec.ofNat 32 j.val)) (by pointwise [extCol]) ?_
  rw [ha, nat_wd j.val]
  refine (congrArg (fun z => IntOp.addi (IntOp.subi z _) _) (mul_wd _ 256)).trans ((congrArg (IntOp.addi · _) (sub_wd _ 128)).trans ((add_wd _ _).trans ?_))
  congr 1; ring

include hr in
theorem band_at (t s : IVec S256x512 32) (i : Fin 256) (j : Fin 512) {t' s' : ℤ} (ht : t (ix2 i j) = wd t') (hs : s (ix2 i j) = wd s')
    (h1 : -600 ≤ t' ∧ t' ≤ 9000) (h2 : -600 ≤ s' ∧ s' ≤ 9000) :
    band r t s (ix2 i j) = ((if max (t' - rad g) 0 ≤ s' ∧ s' < min (t' + rad g) 8192 then (1 : ℝ) else 0 : ℝ) : EReal) := by
  refine Eq.trans ?_ (band_wd (by unfold PoolMath.Small; omega) (by unfold PoolMath.Small; omega) h1 (rad_le g))
  rw [← ht, ← hs, ← hr]
  pointwise [band]

include ha hr hx hq in
theorem t_dif (i : Fin 256) (j : Fin 128) : tDif a r o hs x q (ix2 i j) = ((dif P g (pos T i) j : ℝ) : EReal) := by
  have hg := rad_le g
  have hc : cnt S256x1 r (rowCol a) (ix2 i 0) = ((PoolMath.cnt (rad g) (pos T i).val : ℝ) : EReal) := by
    refine Eq.trans ?_ (congrArg (fun z : ℝ => (z : EReal)) (cnt_int (rad_pos g) (pos T i).isLt))
    refine Eq.trans ?_ (cnt_wd (by omega) hg)
    rw [← rowCol_at ha, ← hr]
    pointwise [cnt]
  have h0 : (PoolMath.cnt (rad g) (pos T i).val : ℝ) ≠ 0 := (lt_of_lt_of_le one_pos (cnt_pos (rad_pos g) (pos T i).isLt)).ne'
  have hS : ∑ b : Fin 512, band r (rowPos a) (extPos a) (ix2 i b) * x (ix2 b ⟨o + j.val, by have := hs.2 1; simpa using lt_of_lt_of_le (Nat.add_lt_add_left j.isLt o) this⟩)
      = ((∑ s : Fin 8192, if win (rad g) (pos T i) s then P g s j else 0 : ℝ) : EReal) := by
    rw [← Reals.sum]
    refine Eq.trans (Finset.sum_congr rfl fun b _ => congrArg (· * _) (band_at hr _ _ i b (rowPos_at ha i b) (extPos_at ha i b) (by omega) (by omega))) ?_
    refine (transfer T.val _ (fun s => win (rad g) (pos T i) s) _ (fun s => (P g s j : EReal)) (fun b hb => ?_) (fun s hs => ?_) fun b s e _ => hx b s j _ e rfl).trans ?_
    · refine ⟨⟨256 * T.val + b.val - 128, by omega⟩, by show _ - 128 + 128 = _; omega, ?_⟩
      refine (win_int (pos T i).isLt).mp ?_
      push_cast at hb ⊢; omega
    · obtain ⟨u, v⟩ : 256 * T.val + i.val - rad g ≤ s.val ∧ s.val < min 8192 (256 * T.val + i.val + rad g) := hs
      refine ⟨⟨s.val + 128 - 256 * T.val, by omega⟩, by show _ = _ + (_ - _); omega, ?_⟩
      push_cast; omega
    · exact Finset.sum_congr rfl fun s _ => by split <;> simp
  refine Eq.trans (b := Ideal.div _ (cnt S256x1 r (rowCol a) (ix2 i 0)) - q (ix2 i j)) (by pointwise [tDif]; rfl) ?_
  rw [hc, hq i (pos T i) j rfl]
  refine (congrArg (fun z => Ideal.div z _ - _) hS).trans ?_
  rw [Reals.div h0, Reals.sub]
  rfl

variable {acc : Vec Ideal S1x128x128 .f32} {accs : Vec Ideal S1x128 .f32}

/-- The gradient of the scale, added to `accs`, and the gradient of the matrix, added to `acc`. -/
abbrev tDsc (a r : BitVec 32) (o : ℕ) (hs : S512x512.Slices ![0, o] S512x128) (x : FVec Ideal S512x512 .bf16) (q : Vec Ideal S256x128 .bf16)
    (w : Vec Ideal S1x128x128 .bf16) (e : Vec Ideal S256x128 .bf16) (accs : Vec Ideal S1x128 .f32) : FVec Ideal S1x128 .f32 := k0_pay13 (tDif a r o hs x q) w e accs
@[inherit_doc tDsc]
abbrev tDw (a r : BitVec 32) (o : ℕ) (hs : S512x512.Slices ![0, o] S512x128) (x : FVec Ideal S512x512 .bf16) (q : Vec Ideal S256x128 .bf16)
    (sc : Vec Ideal S1x128 .f32) (e : Vec Ideal S256x128 .bf16) (acc : Vec Ideal S1x128x128 .f32) : FVec Ideal S1x128x128 .f32 :=
  k0_pay14 (k0_pay10 sc) (tDif a r o hs x q) e acc

/-- The tile's parts of the two parameter gradients. -/
def pDsc (P D : Fin 4 → Fin 8192 → Fin 128 → ℝ) (W : Fin 4 → Fin 128 → Fin 128 → ℝ) (g : Fin 4) (d : Fin 128) (T : Fin 32) : ℝ :=
  ∑ i, D g (pos T i) d * ∑ c, dif P g (pos T i) c * W g c d
@[inherit_doc pDsc]
def pDw (P D : Fin 4 → Fin 8192 → Fin 128 → ℝ) (S : Fin 4 → Fin 128 → ℝ) (g : Fin 4) (c d : Fin 128) (T : Fin 32) : ℝ :=
  ∑ i, dif P g (pos T i) c * (D g (pos T i) d * S g d)

include ha hr hx hq he hw in
theorem t_dsc (d : Fin 128) : tDsc a r o hs x q w e accs (ix2 0 d) = accs (ix2 0 d) + ((pDsc P D W g d T : ℝ) : EReal) := by
  pointwise [k0_pay13, k0_pay12]
  simp only [t_dif ha hr hx hq, fun i j => he i (pos T i) j rfl, hw, Reals.mul, Reals.sum]
  rfl

include ha hr hx hq he hsc in
theorem t_dw (c d : Fin 128) : tDw a r o hs x q sc e acc (ix3 0 c d) = acc (ix3 0 c d) + ((pDw P D S g c d T : ℝ) : EReal) := by
  pointwise [k0_pay14, k0_pay12, k0_pay10]
  simp only [t_dif ha hr hx hq, fun i j => he i (pos T i) j rfl, hsc, Reals.mul, Reals.sum]
  rfl

include hy hw hsc in
theorem t_dd (b : Fin 512) (s : Fin 8192) (j : Fin 128) (hb : s.val + 128 = 256 * T.val + b.val) :
    tDd o hs y sc w (ix2 b j) = ((PoolMath.dd D W S g s j : ℝ) : EReal) := by
  pointwise [tDd, k0_pay10]
  simp only [fun d => hy b s d ⟨o + d.val, by have := hs.2 1; simpa using lt_of_lt_of_le (Nat.add_lt_add_left d.isLt o) this⟩ hb rfl, hsc, hw, Reals.mul, Reals.sum]
  rfl

include ha hr hy hw hsc in
theorem t_q (b : Fin 512) (j : Fin 128) : tQ a r o hs y sc w (ix2 b j)
    = if h : 128 ≤ 256 * T.val + b.val ∧ 256 * T.val + b.val < 8320
      then ((PoolMath.dd D W S g ⟨256 * T.val + b.val - 128, by omega⟩ j / PoolMath.cnt (rad g) (256 * T.val + b.val - 128) : ℝ) : EReal) else 0 := by
  have hg := rad_le g
  have hc : cnt S512x1 r (extCol a) (ix2 b 0) = (((min ((256 * (T.val : ℤ) + b.val - 128) + rad g) 8192 - max ((256 * (T.val : ℤ) + b.val - 128) - rad g) 0 : ℤ) : ℝ) : EReal) := by
    refine Eq.trans ?_ (cnt_wd (by omega) hg)
    rw [← extCol_at ha, ← hr]
    pointwise [cnt]
  refine Eq.trans (b := Scalar.select (IntOp.andi (IntOp.cmpi .sge (extCol a (ix2 b 0)) 0#32) (IntOp.cmpi .slt (extCol a (ix2 b 0)) 8192#32))
      (Ideal.div (tDd o hs y sc w (ix2 b j)) (max (cnt S512x1 r (extCol a) (ix2 b 0)) 1)) 0) (by pointwise [tQ]) ?_
  have s1 : PoolMath.Small (256 * (T.val : ℤ) + b.val - 128) := by unfold PoolMath.Small; omega
  rw [hc, extCol_at ha, show (0#32) = wd 0 from rfl, show (8192#32) = wd 8192 from rfl, PoolMath.sge_wd s1 (by unfold PoolMath.Small; omega),
    PoolMath.slt_wd s1 (by unfold PoolMath.Small; omega), PoolMath.and_if]
  by_cases h : 128 ≤ 256 * T.val + b.val ∧ 256 * T.val + b.val < 8320
  · have h' : (0 : ℤ) ≤ 256 * (T.val : ℤ) + b.val - 128 ∧ 256 * (T.val : ℤ) + b.val - 128 < 8192 := by omega
    rw [dif_pos h, if_pos h']
    have e1 : (256 * (T.val : ℤ) + b.val - 128) = ((256 * T.val + b.val - 128 : ℕ) : ℤ) := by omega
    have c1 := cnt_pos (r := rad g) (t := 256 * T.val + b.val - 128) (rad_pos g) (by omega)
    rw [e1, cnt_int (rad_pos g) (by omega), ← EReal.coe_one, PoolMath.coe_max, max_eq_left c1,
      t_dd hy hw hsc b ⟨256 * T.val + b.val - 128, by omega⟩ j (by show _ - 128 + 128 = _; omega), Reals.div (by linarith)]
    rfl
  · have h' : ¬ ((0 : ℤ) ≤ 256 * (T.val : ℤ) + b.val - 128 ∧ 256 * (T.val : ℤ) + b.val - 128 < 8192) := by omega
    rw [dif_neg h, if_neg h']
    rfl

include ha hr hy hw hsc in
theorem t_dz (i : Fin 256) (j : Fin 128) : tDz a r o hs y sc w (ix2 i j) = ((PoolMath.dz D W S g (pos T i) j : ℝ) : EReal) := by
  have hg := rad_le g
  have hp := pos T i |>.isLt
  have hB := fun b : Fin 512 => band_at (r := r) (g := g) hr (extPos a) (rowPos a) i b (extPos_at ha i b) (rowPos_at ha i b) (by omega) (by omega)
  have hQ := t_q (o := o) (hs := hs) ha hr hy hw hsc
  have h1 : ∑ b : Fin 512, band r (extPos a) (rowPos a) (ix2 i b) * tQ a r o hs y sc w (ix2 b j)
      = ((∑ s : Fin 8192, if win (rad g) s (pos T i) then PoolMath.dd D W S g s j / PoolMath.cnt (rad g) s else 0 : ℝ) : EReal) := by
    rw [← Reals.sum]
    have e : ∀ b : Fin 512, band r (extPos a) (rowPos a) (ix2 i b) * tQ a r o hs y sc w (ix2 b j)
        = ((if (128 ≤ 256 * T.val + b.val ∧ 256 * T.val + b.val < 8320) ∧ max ((256 * (T.val : ℤ) + b.val - 128) - rad g) 0 ≤ ((pos T i).val : ℤ) ∧ ((pos T i).val : ℤ) < min ((256 * (T.val : ℤ) + b.val - 128) + rad g) 8192 then (1 : ℝ) else 0 : ℝ) : EReal)
          * tQ a r o hs y sc w (ix2 b j) := by
      intro b
      by_cases hb : 128 ≤ 256 * T.val + b.val ∧ 256 * T.val + b.val < 8320
      · simp only [hB, hb, and_self, true_and]
      · rw [hQ b j, dif_neg hb, mul_zero, mul_zero]
    rw [Finset.sum_congr rfl fun b _ => e b]
    refine (transfer T.val _ (fun s => win (rad g) s (pos T i)) _ (fun s => ((PoolMath.dd D W S g s j / PoolMath.cnt (rad g) s : ℝ) : EReal)) (fun b hb => ?_) (fun s hs => ?_) fun b s e' hb => ?_).trans ?_
    · obtain ⟨hb, u, v⟩ := hb
      refine ⟨⟨256 * T.val + b.val - 128, by omega⟩, by show _ - 128 + 128 = _; omega, ?_⟩
      show _ - _ ≤ 256 * T.val + i.val ∧ 256 * T.val + i.val < _
      have u' : max ((256 * (T.val : ℤ) + b.val - 128) - rad g) 0 ≤ ((256 * T.val + i.val : ℕ) : ℤ) := u
      have v' : ((256 * T.val + i.val : ℕ) : ℤ) < min ((256 * (T.val : ℤ) + b.val - 128) + rad g) 8192 := v
      push_cast at u' v'
      dsimp only
      omega
    · obtain ⟨u, v⟩ : s.val - rad g ≤ 256 * T.val + i.val ∧ 256 * T.val + i.val < min 8192 (s.val + rad g) := hs
      refine ⟨⟨s.val + 128 - 256 * T.val, by omega⟩, by show _ = _ + (_ - _); omega, ?_⟩
      push_cast; omega
    · rw [hQ b j, dif_pos hb.1]
      have : s = ⟨256 * T.val + b.val - 128, by omega⟩ := Fin.ext (by show s.val = _ - _; omega)
      rw [this]
    · exact Finset.sum_congr rfl fun s _ => by split <;> simp
  have h2 : ∀ b : Fin 512, tQ a r o hs y sc w (ix2 b j) - tQ a r o hs y sc w (ix2 b j) = 0 := by
    intro b
    rw [hQ b j]
    split
    · rw [Reals.sub, sub_self, EReal.coe_zero]
    · exact sub_zero 0
  have h3 : tDd o hs y sc w (ix2 ⟨128 + i.val, by omega⟩ j) = ((PoolMath.dd D W S g (pos T i) j : ℝ) : EReal) :=
    t_dd hy hw hsc _ (pos T i) j (by show (256 * T.val + i.val) + 128 = 256 * T.val + (128 + i.val); omega)
  refine Eq.trans (b := ∑ b : Fin 512, band r (extPos a) (rowPos a) (ix2 i b) * tQ a r o hs y sc w (ix2 b j)
    + ∑ b : Fin 512, band r (extPos a) (rowPos a) (ix2 i b) * (tQ a r o hs y sc w (ix2 b j) - tQ a r o hs y sc w (ix2 b j))
    - tDd o hs y sc w (ix2 ⟨128 + i.val, by omega⟩ j)) (by pointwise [tDz]) ?_
  have h4 : ∑ b : Fin 512, band r (extPos a) (rowPos a) (ix2 i b) * (tQ a r o hs y sc w (ix2 b j) - tQ a r o hs y sc w (ix2 b j)) = 0 :=
    Finset.sum_eq_zero fun b _ => by rw [h2 b, mul_zero]
  rw [h4, h1, h3, add_zero, Reals.sub]
  rfl

end Cert.PoolIdeal.Value
-- ==== Proof.PoolKernel.lean ====
/-
  What the pooling's backward kernel leaves in its three results, as real numbers, when its arguments are real numbers: the
  blocks each of the 32 grid points reads, the four groups' tiles of the row result, and the two parameter gradients as
  sums over the grid.
-/
module

public import proofs.«01_k».proof.Proof.PoolTile
public import proofs.«01_k».proof.Proof.Gen.PoolIdeal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.PoolIdeal.Value

open Cert.PoolIdeal Cert.PoolIdeal.Gen Idealize.ShloMosaic Idealize.ShloMosaic.TcCoe Idealize.SL.Sem
open Idealize.ShloMosaic.Pipeline (Dat)
open Cert.PoolMath (wd rad)

variable (m : (ℓ : Loc nD τ sig) → Buf (Elt Ideal) ℓ)

theorem idx : ∀ t : Fin cfg0.N, win0_0.index t = ![2 * t.val - 1, 2] ∧ win0_1.index t = ![t.val, 2] ∧ win0_2.index t = ![min (2 * t.val + 2) 63, 2]
    ∧ win0_3.index t = ![2 * t.val - 1, 1] ∧ win0_4.index t = ![t.val, 1] ∧ win0_5.index t = ![min (2 * t.val + 2) 63, 1]
    ∧ win0_6.index t = ![0, 0, 0] ∧ win0_7.index t = ![0, 0]
    ∧ win0_8.index t = ![t.val, 0] ∧ win0_9.index t = ![0, 0, 0] ∧ win0_10.index t = ![0, 0] :=
  (by decide +kernel : ∀ t : Fin grid0.N, _)

theorem coords (t : Fin cfg0.N) : BitVec.ofNat 32 ((grid0.coords t) 0).val = wd t.val := by
  revert t; decide +kernel

/-- A grid point's number. -/
abbrev num (t : Fin cfg0.N) : Fin 32 := ⟨t.val, lt_of_lt_of_eq t.isLt N_0⟩

/-- The groups' columns of the values, of the cotangent and of the scale. -/
def gP (Z : Fin 8192 → Fin 1536 → ℝ) (g : Fin 4) (t : Fin 8192) (j : Fin 128) : ℝ := Z t ⟨1024 + (128 * g.val + j.val), by omega⟩
@[inherit_doc gP]
def gD (Y : Fin 8192 → Fin 2048 → ℝ) (g : Fin 4) (t : Fin 8192) (j : Fin 128) : ℝ := Y t ⟨512 + (128 * g.val + j.val), by omega⟩
@[inherit_doc gP]
def gS (S : Fin 512 → ℝ) (g : Fin 4) (j : Fin 128) : ℝ := S ⟨128 * g.val + j.val, by omega⟩

section Arrays

variable (c : Dev nD) {Z : Fin 8192 → Fin 1536 → ℝ} {Y : Fin 8192 → Fin 2048 → ℝ} {W : Fin 4 → Fin 128 → Fin 128 → ℝ} {S : Fin 512 → ℝ}
  (hz : ∀ p d, (m ((c : Thread nD τ).loc main_arg0) : FVec Ideal S8192x1536 .bf16) (ix2 p d) = (Z p d : EReal))
  (hy : ∀ p d, (m ((c : Thread nD τ).loc main_arg1) : FVec Ideal S8192x2048 .bf16) (ix2 p d) = (Y p d : EReal))
  (hw : ∀ h p k, (m ((c : Thread nD τ).loc main_arg2) : FVec Ideal S4x128x128 .f32) (ix3 h p k) = (W h p k : EReal))
  (hs : ∀ d, (m ((c : Thread nD τ).loc main_arg3) : FVec Ideal S512 .f32) (ix1 d) = (S d : EReal))

/-- The extended tiles at point `t`. -/
abbrev tx (t : Fin cfg0.N) : FVec Ideal S512x512 .bf16 :=
  k0_pay4 (iblk m c 0 t : Vec Ideal S128x512 .bf16) (iblk m c 1 t : Vec Ideal S256x512 .bf16) (iblk m c 2 t : Vec Ideal S128x512 .bf16)
@[inherit_doc tx]
abbrev ty (t : Fin cfg0.N) : FVec Ideal S512x512 .bf16 :=
  k0_pay5 (iblk m c 3 t : Vec Ideal S128x512 .bf16) (iblk m c 4 t : Vec Ideal S256x512 .bf16) (iblk m c 5 t : Vec Ideal S128x512 .bf16)

variable (t : Fin cfg0.N) (g : Fin 4) {o k : ℕ} (ho : o = 128 * g.val) (hk : k = g.val)

include hz ho in
theorem blk_x (b : Fin 512) (s : Fin 8192) (j : Fin 128) (l : Fin 512) (hb : s.val + 128 = 256 * (num t).val + b.val) (hl : l.val = o + j.val) :
    tx m c t (ix2 b l) = (gP Z g s j : EReal) := by
  have ht : t.val < 32 := lt_of_lt_of_eq t.isLt N_0
  replace hb : s.val + 128 = 256 * t.val + b.val := hb
  have hs := s.isLt
  rw [gP, ← hz]
  unfold tx
  pointwise [k0_pay4]
  split
  · blk_ext [iblk, V, idx t]
  split
  · blk_ext [iblk, V, idx t]
  · blk_ext [iblk, V, idx t]

include hy ho in
theorem blk_y (b : Fin 512) (s : Fin 8192) (j : Fin 128) (l : Fin 512) (hb : s.val + 128 = 256 * (num t).val + b.val) (hl : l.val = o + j.val) :
    ty m c t (ix2 b l) = (gD Y g s j : EReal) := by
  have ht : t.val < 32 := lt_of_lt_of_eq t.isLt N_0
  replace hb : s.val + 128 = 256 * t.val + b.val := hb
  have hs := s.isLt
  rw [gD, ← hy]
  unfold ty
  pointwise [k0_pay5]
  split
  · blk_ext [iblk, V, idx t]
  split
  · blk_ext [iblk, V, idx t]
  · blk_ext [iblk, V, idx t]

include hz ho in
theorem blk_q (inb) (i : Fin 256) (s : Fin 8192) (j : Fin 128) (h : s.val = 256 * (num t).val + i.val) :
    View.ld (iblk m c 1 t : Vec Ideal S256x512 .bf16) (Rect.unit ![0, o] ![256, 128] inb) (ix2 i j) = (gP Z g s j : EReal) := by
  subst ho
  replace h : s.val = 256 * t.val + i.val := h
  refine (View.ld_unit_apply_of _ _ _ _ _ (ix2 i ⟨128 * g.val + j.val, by omega⟩) fun a => ?_).trans ?_
  · fin_cases a
    · show i.val = 0 + i.val; omega
    · rfl
  · rw [gP, ← hz]
    blk_ext [iblk, V, idx t]

include hy ho in
theorem blk_e (inb) (i : Fin 256) (s : Fin 8192) (j : Fin 128) (h : s.val = 256 * (num t).val + i.val) :
    View.ld (iblk m c 4 t : Vec Ideal S256x512 .bf16) (Rect.unit ![0, o] ![256, 128] inb) (ix2 i j) = (gD Y g s j : EReal) := by
  subst ho
  replace h : s.val = 256 * t.val + i.val := h
  refine (View.ld_unit_apply_of _ _ _ _ _ (ix2 i ⟨128 * g.val + j.val, by omega⟩) fun a => ?_).trans ?_
  · fin_cases a
    · show i.val = 0 + i.val; omega
    · rfl
  · rw [gD, ← hy]
    blk_ext [iblk, V, idx t]

include hw hk in
theorem blk_w (inb) (p q : Fin 128) :
    View.ld (iblk m c 6 t : Vec Ideal S4x128x128 .bf16) (Rect.unit ![k, 0, 0] ![1, 128, 128] inb) (ix3 0 p q) = (W g p q : EReal) := by
  subst hk
  refine (View.ld_unit_apply_of _ _ _ _ _ (ix3 g p q) fun a => ?_).trans ?_
  · fin_cases a
    · rfl
    · show p.val = 0 + p.val; omega
    · show q.val = 0 + q.val; omega
  · rw [← hw]
    blk_ext! [iblk, V, idx t]

include hs ho in
theorem blk_s (inb) (d : Fin 128) :
    View.ld (iblk m c 7 t : Vec Ideal S1x512 .f32) (Rect.unit ![0, o] ![1, 128] inb) (ix2 0 d) = (gS S g d : EReal) := by
  subst ho
  refine (View.ld_unit_apply_of _ _ _ _ _ (ix2 0 ⟨128 * g.val + d.val, by omega⟩) fun a => ?_).trans ?_
  · fin_cases a <;> rfl
  · rw [gS, ← hs]
    blk_ext! [iblk, V, idx t]

end Arrays

end Cert.PoolIdeal.Value
-- ==== Proof.PoolOut.lean ====
/-
  What each grid point of the pooling's backward kernel leaves in its three result blocks: the four groups' tiles of the row
  result, and the running sums of the gradients of the matrices and of the scale.
-/
module

public import proofs.«01_k».proof.Proof.PoolKernel

@[expose] public section

set_option maxRecDepth 16384

noncomputable section

namespace Cert.PoolIdeal.Value

open Cert.PoolIdeal Cert.PoolIdeal.Gen Idealize.ShloMosaic Idealize.ShloMosaic.TcCoe Idealize.SL.Sem
open Idealize.ShloMosaic.Pipeline (Dat)
open Cert.PoolMath (wd rad)

variable (m : (ℓ : Loc nD τ sig) → Buf (Elt Ideal) ℓ)

/-- The group a column belongs to, and its number in the group. -/
def hd (j : Fin 512) : Fin 4 := ⟨j.val / 128, by omega⟩
@[inherit_doc hd]
def col (j : Fin 512) : Fin 128 := ⟨j.val % 128, by omega⟩

theorem at_group {α : Type} (f : Fin 4 → Fin 8192 → Fin 128 → α) {t : Fin 8192} {b' : Fin 128} {b : Fin 512} {g : Fin 4} {o : ℕ} (ho : o = 128 * g.val)
    (h1 : b.val = o + b'.val) : f g t b' = f (hd b) t (col b) := by
  have e : hd b = g := Fin.ext (by show b.val / 128 = _; omega)
  have e' : col b = b' := Fin.ext (by show b.val % 128 = _; omega)
  rw [e, e']

section Arrays

variable (c : Dev nD) {Z : Fin 8192 → Fin 1536 → ℝ} {Y : Fin 8192 → Fin 2048 → ℝ} {W : Fin 4 → Fin 128 → Fin 128 → ℝ} {S : Fin 512 → ℝ}
  (hz : ∀ p d, (m ((c : Thread nD τ).loc main_arg0) : FVec Ideal S8192x1536 .bf16) (ix2 p d) = (Z p d : EReal))
  (hy : ∀ p d, (m ((c : Thread nD τ).loc main_arg1) : FVec Ideal S8192x2048 .bf16) (ix2 p d) = (Y p d : EReal))
  (hw : ∀ h p k, (m ((c : Thread nD τ).loc main_arg2) : FVec Ideal S4x128x128 .f32) (ix3 h p k) = (W h p k : EReal))
  (hs : ∀ d, (m ((c : Thread nD τ).loc main_arg3) : FVec Ideal S512 .f32) (ix1 d) = (S d : EReal))

/-- The group's parts of the blocks at point `t`. -/
abbrev tq (t : Fin cfg0.N) (o : ℕ) (inb : ∀ a, (![0, o] : Fin S256x512.rank → ℕ) a + (![256, 128] : Fin S256x512.rank → ℕ) a ≤ S256x512.size a) : Vec Ideal S256x128 .bf16 :=
  View.ld (iblk m c 1 t : Vec Ideal S256x512 .bf16) (Rect.unit ![0, o] ![256, 128] inb)
@[inherit_doc tq]
abbrev te (t : Fin cfg0.N) (o : ℕ) (inb : ∀ a, (![0, o] : Fin S256x512.rank → ℕ) a + (![256, 128] : Fin S256x512.rank → ℕ) a ≤ S256x512.size a) : Vec Ideal S256x128 .bf16 :=
  View.ld (iblk m c 4 t : Vec Ideal S256x512 .bf16) (Rect.unit ![0, o] ![256, 128] inb)
@[inherit_doc tq]
abbrev tw (t : Fin cfg0.N) (k : ℕ) (inb : ∀ a, (![k, 0, 0] : Fin S4x128x128.rank → ℕ) a + (![1, 128, 128] : Fin S4x128x128.rank → ℕ) a ≤ S4x128x128.size a) : Vec Ideal S1x128x128 .bf16 :=
  View.ld (iblk m c 6 t : Vec Ideal S4x128x128 .bf16) (Rect.unit ![k, 0, 0] ![1, 128, 128] inb)
@[inherit_doc tq]
abbrev ts (t : Fin cfg0.N) (o : ℕ) (inb : ∀ a, (![0, o] : Fin S1x512.rank → ℕ) a + (![1, 128] : Fin S1x512.rank → ℕ) a ≤ S1x512.size a) : Vec Ideal S1x128 .f32 :=
  View.ld (iblk m c 7 t : Vec Ideal S1x512 .f32) (Rect.unit ![0, o] ![1, 128] inb)
/-- The point's number as a word. -/
abbrev tn (t : Fin cfg0.N) : BitVec 32 := BitVec.ofNat 32 ((grid0.coords t) 0).val

variable (t : Fin cfg0.N) (g : Fin 4) {o k : ℕ} (ho : o = 128 * g.val) (hk : k = g.val) {r : BitVec 32} (hr : r = wd (rad g))

include hy hw hs ho hk hr in
theorem piece_dz (hsl i l) (x : S256x128.Idx) (y : S256x512.Idx) (h0 : (y 0).val = (x 0).val) (h1 : (y 1).val = o + (x 1).val) :
    tDz (tn t) r o hsl (ty m c t) (ts m c t o i) (tw m c t k l) x
      = ((PoolMath.dz (gD Y) W (gS S) (hd (y 1)) (pos (num t) (y 0)) (col (y 1)) : ℝ) : EReal) := by
  refine (congrArg _ (eq_ix2 x)).trans ?_
  rw [show y 0 = x 0 from Fin.ext h0]
  refine Eq.trans ?_ (Reals.congr (at_group (PoolMath.dz (gD Y) W (gS S)) ho h1))
  exact t_dz (T := num t) (coords t) hr (blk_y m c hy t g ho) (blk_w m c hw t g hk l) (blk_s m c hs t g ho i) (x 0) (x 1)

theorem ix3_of (x : S1x128x128.Idx) : x = ix3 0 (x 1) (x 2) :=
  (eq_ix3 x).trans (congrArg (fun a => ix3 a (x 1) (x 2)) (Subsingleton.elim (α := Fin 1) (x 0) 0))

include hz hy hs ho hk hr in
theorem piece_dw (hsl i j l) (A : Vec Ideal S4x128x128 .f32) (x : S1x128x128.Idx) (y : S4x128x128.Idx) (h0 : (y 0).val = k + (x 0).val)
    (h1 : (y 1).val = (x 1).val) (h2 : (y 2).val = (x 2).val) :
    tDw (tn t) r o hsl (tx m c t) (tq m c t o j) (ts m c t o i) (te m c t o j) (View.ld A (Rect.unit ![k, 0, 0] ![1, 128, 128] l)) x
      = A y + ((pDw (gP Z) (gD Y) (gS S) (y 0) (y 1) (y 2) (num t) : ℝ) : EReal) := by
  have e0 : y 0 = g := Fin.ext (by have : (x 0).val < 1 := (x 0).isLt; show (y 0).val = _; omega)
  rw [e0, show y 1 = x 1 from Fin.ext h1, show y 2 = x 2 from Fin.ext h2]
  refine (congrArg _ (ix3_of x)).trans ?_
  refine (t_dw (T := num t) (coords t) hr (blk_x m c hz t g ho) (blk_q m c hz t g ho j) (blk_e m c hy t g ho j) (blk_s m c hs t g ho i) (x 1) (x 2)).trans ?_
  refine congrArg (· + _) (View.ld_unit_apply_of _ _ _ _ _ y fun a => ?_)
  fin_cases a
  · show (y 0).val = k + 0; rw [e0, hk]; rfl
  · show (y 1).val = 0 + (x 1).val; omega
  · show (y 2).val = 0 + (x 2).val; omega

include hz hy hw ho hk hr in
theorem piece_ds (hsl i j l) (A : Vec Ideal S1x512 .f32) (x : S1x128.Idx) (y : S1x512.Idx) (h1 : (y 1).val = o + (x 1).val) :
    tDsc (tn t) r o hsl (tx m c t) (tq m c t o j) (tw m c t k l) (te m c t o j) (View.ld A (Rect.unit ![0, o] ![1, 128] i)) x
      = A y + ((pDsc (gP Z) (gD Y) W (hd (y 1)) (col (y 1)) (num t) : ℝ) : EReal) := by
  refine (congrArg _ ((eq_ix2 x).trans (congrArg (fun a => ix2 a (x 1)) (Subsingleton.elim (α := Fin 1) (x 0) 0)))).trans ?_
  refine (t_dsc (T := num t) (coords t) hr (blk_x m c hz t g ho) (blk_q m c hz t g ho j) (blk_e m c hy t g ho j) (blk_w m c hw t g hk l) (x 1)).trans ?_
  refine congrArg₂ (· + ·) ?_ (Reals.congr (at_group (fun g _ d => pDsc (gP Z) (gD Y) W g d (num t)) (t := 0) ho h1))
  refine (View.ld_unit_apply_of _ _ _ _ _ y fun a => ?_)
  fin_cases a
  · have : (y 0).val < 1 := (y 0).isLt; show (y 0).val = 0; omega
  · exact h1

theorem r0 : (1#32) = wd (rad 0) := by decide
theorem r1 : (2#32) = wd (rad 1) := by decide
theorem r2 : (4#32) = wd (rad 2) := by decide
theorem r3 : (8#32) = wd (rad 3) := by decide

include hy hw hs in
theorem out8 (y : S256x512.Idx) : (outsAt0 m c t.val t.isLt).1 y
    = ((PoolMath.dz (gD Y) W (gS S) (hd (y 1)) (pos (num t) (y 0)) (col (y 1)) : ℝ) : EReal) := by
  by_cases h0 : t.val % 32 = 0
  · rw [outsAt0_A m c t h0]; frame_out
    canon_tiles x e
    · exact piece_dz m c hy hw hs t 3 rfl rfl r3 _ _ _ x y e0 e1
    · exact piece_dz m c hy hw hs t 2 rfl rfl r2 _ _ _ x y e0 e1
    · exact piece_dz m c hy hw hs t 1 rfl rfl r1 _ _ _ x y e0 e1
    · exact piece_dz m c hy hw hs t 0 rfl rfl r0 _ _ _ x y e0 (by omega)
  · rw [outsAt0_B m c t h0]; frame_out
    canon_tiles x e
    · exact piece_dz m c hy hw hs t 3 rfl rfl r3 _ _ _ x y e0 e1
    · exact piece_dz m c hy hw hs t 2 rfl rfl r2 _ _ _ x y e0 e1
    · exact piece_dz m c hy hw hs t 1 rfl rfl r1 _ _ _ x y e0 e1
    · exact piece_dz m c hy hw hs t 0 rfl rfl r0 _ _ _ x y e0 (by omega)

include hz hy hs in
theorem out9_B (h0 : ¬ t.val % 32 = 0) (y : S4x128x128.Idx) : (outsAt0 m c t.val t.isLt).2.1 y
    = (outsAt0 m c (t.val - 1) (Nat.lt_of_le_of_lt (Nat.sub_le _ _) t.isLt)).2.1 y + ((pDw (gP Z) (gD Y) (gS S) (y 0) (y 1) (y 2) (num t) : ℝ) : EReal) := by
  rw [outsAt0_B m c t h0]; frame_out
  canon_tiles x e
  · exact piece_dw m c hz hy hs t 3 rfl rfl r3 _ _ _ _ _ x y e0 e1 e2
  · exact piece_dw m c hz hy hs t 2 rfl rfl r2 _ _ _ _ _ x y e0 e1 e2
  · exact piece_dw m c hz hy hs t 1 rfl rfl r1 _ _ _ _ _ x y e0 e1 e2
  · exact piece_dw m c hz hy hs t 0 rfl rfl r0 _ _ _ _ _ x y (by omega) e1 e2

include hz hy hw in
theorem out10_B (h0 : ¬ t.val % 32 = 0) (y : S1x512.Idx) : (outsAt0 m c t.val t.isLt).2.2 y
    = (outsAt0 m c (t.val - 1) (Nat.lt_of_le_of_lt (Nat.sub_le _ _) t.isLt)).2.2 y + ((pDsc (gP Z) (gD Y) W (hd (y 1)) (col (y 1)) (num t) : ℝ) : EReal) := by
  rw [outsAt0_B m c t h0]; frame_out
  canon_tiles x e
  · exact piece_ds m c hz hy hw t 3 rfl rfl r3 _ _ _ _ _ x y e1
  · exact piece_ds m c hz hy hw t 2 rfl rfl r2 _ _ _ _ _ x y e1
  · exact piece_ds m c hz hy hw t 1 rfl rfl r1 _ _ _ _ _ x y e1
  · exact piece_ds m c hz hy hw t 0 rfl rfl r0 _ _ _ _ _ x y (by omega)

theorem zero9 (y : S4x128x128.Idx) : k0_pay2 (F := Ideal) y = 0 := by pointwise [k0_pay2]
theorem zero10 (y : S1x512.Idx) : k0_pay3 (F := Ideal) y = 0 := by pointwise [k0_pay3]

/-- Stores that hold the index hide the earlier ones. -/
theorem over_fill {S : Shape} {e : EltTy} (L' : List (View.Piece (Elt Ideal) S e)) (y : S.Idx) :
    ∀ L : List (View.Piece (Elt Ideal) S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      exact (View.canon_cons_emb p.1 p.2 (L ++ L') x).trans (View.canon_cons_emb p.1 p.2 L x).symm
    · obtain ⟨q, hq, hy⟩ := h
      have hq : q ∈ L := (List.mem_cons.mp hq).resolve_left (by rintro rfl; exact hm hy)
      rw [List.cons_append, View.canon_cons_of_not_mem p _ hm, View.canon_cons_of_not_mem p _ hm]
      exact over_fill L' y L ⟨q, hq, hy⟩

include hz hy hs in
theorem out9_A (h0 : t.val % 32 = 0) (y : S4x128x128.Idx) : (outsAt0 m c t.val t.isLt).2.1 y
    = 0 + ((pDw (gP Z) (gD Y) (gS S) (y 0) (y 1) (y 2) (num t) : ℝ) : EReal) := by
  rw [outsAt0_A m c t h0, ← zero9 y]; frame_open
  simp (disch := decide) only [↓ View.readCov_skip, ↓ View.readCov_cons_toLoadRect, ↓ View.readCov_fill]
  frame_out
  refine (over_fill [_] y [_, _, _, _] (View.cover_of_tiled_head _ _ _ (by rfl) y)).trans ?_
  canon_tiles x e
  · exact piece_dw m c hz hy hs t 3 rfl rfl r3 _ _ _ _ _ x y e0 e1 e2
  · exact piece_dw m c hz hy hs t 2 rfl rfl r2 _ _ _ _ _ x y e0 e1 e2
  · exact piece_dw m c hz hy hs t 1 rfl rfl r1 _ _ _ _ _ x y e0 e1 e2
  · exact piece_dw m c hz hy hs t 0 rfl rfl r0 _ _ _ _ _ x y (by omega) e1 e2

include hz hy hw in
theorem out10_A (h0 : t.val % 32 = 0) (y : S1x512.Idx) : (outsAt0 m c t.val t.isLt).2.2 y
    = 0 + ((pDsc (gP Z) (gD Y) W (hd (y 1)) (col (y 1)) (num t) : ℝ) : EReal) := by
  rw [outsAt0_A m c t h0, ← zero10 y]; frame_open
  simp (disch := decide) only [↓ View.readCov_skip, ↓ View.readCov_cons_toLoadRect, ↓ View.readCov_fill]
  frame_out
  refine (over_fill [_] y [_, _, _, _] (View.cover_of_tiled_head _ _ _ (by rfl) y)).trans ?_
  canon_tiles x e
  · exact piece_ds m c hz hy hw t 3 rfl rfl r3 _ _ _ _ _ x y e1
  · exact piece_ds m c hz hy hw t 2 rfl rfl r2 _ _ _ _ _ x y e1
  · exact piece_ds m c hz hy hw t 1 rfl rfl r1 _ _ _ _ _ x y e1
  · exact piece_ds m c hz hy hw t 0 rfl rfl r0 _ _ _ _ _ x y (by omega)

end Arrays

end Cert.PoolIdeal.Value
-- ==== Proof.PoolFinal.lean ====
/-
  The three result arrays of the pooling's backward kernel, as real numbers: the row result at every position and column,
  the two parameter gradients as sums over the sequence.
-/
module

public import proofs.«01_k».proof.Proof.PoolOut

@[expose] public section

set_option maxRecDepth 16384

noncomputable section

namespace Cert.PoolIdeal.Value

open Cert.PoolIdeal Cert.PoolIdeal.Gen Idealize.ShloMosaic Idealize.ShloMosaic.TcCoe Idealize.SL.Sem
open Idealize.ShloMosaic.Pipeline (Dat)

variable (m : (ℓ : Loc nD τ sig) → Buf (Elt Ideal) ℓ)

/-- The sum over the grid's points is the sum over the 32 tiles. -/
theorem sum_points (f : Fin 32 → ℝ) : ∑ t : Fin cfg0.N, ((f (num t) : ℝ) : EReal) = ((∑ n, f n : ℝ) : EReal) := by
  rw [Reals.sum]
  exact Reals.congr (Fintype.sum_equiv (finCongr N_0) _ _ fun _ => rfl)

/-- The tiles' rows are the sequence. -/
theorem sum_tiles (f : Fin 8192 → ℝ) : ∑ T, ∑ i, f (pos T i) = ∑ t, f t := by
  exact Reals.sum_rows (by norm_num) pos (fun _ _ => rfl) f

variable (c : Dev nD) {Z : Fin 8192 → Fin 1536 → ℝ} {Y : Fin 8192 → Fin 2048 → ℝ} {W : Fin 4 → Fin 128 → Fin 128 → ℝ} {S : Fin 512 → ℝ}
  (hz : ∀ p d, (m ((c : Thread nD τ).loc main_arg0) : FVec Ideal S8192x1536 .bf16) (ix2 p d) = (Z p d : EReal))
  (hy : ∀ p d, (m ((c : Thread nD τ).loc main_arg1) : FVec Ideal S8192x2048 .bf16) (ix2 p d) = (Y p d : EReal))
  (hw : ∀ h p k, (m ((c : Thread nD τ).loc main_arg2) : FVec Ideal S4x128x128 .f32) (ix3 h p k) = (W h p k : EReal))
  (hs : ∀ d, (m ((c : Thread nD τ).loc main_arg3) : FVec Ideal S512 .f32) (ix1 d) = (S d : EReal))

include hy hw hs in
theorem result8 : (dats m 0 c).arrAt 8 (cfgs 0).N
    = fun i : S8192x512.Idx => ((PoolMath.dz (gD Y) W (gS S) (hd (i 1)) (i 0) (col (i 1)) : ℝ) : EReal) := by
  refine (dats m 0 c).arrAt_eq_of_covers 8 _ (by decide +kernel) fun t _ y => ?_
  have e0 : ((win0_8.blk t).view.emb y : S8192x512.Idx) 0 = pos (num t) (y 0) := by
    apply Fin.ext; blk_simp [idx t]; show _ = 256 * t.val + _; omega
  have e1 : ((win0_8.blk t).view.emb y : S8192x512.Idx) 1 = y 1 := by
    apply Fin.ext; blk_simp [idx t]
  blk_simp
  rw [after0_8]
  refine (out8 m c hy hw hs t y).trans (Reals.congr ?_)
  rw [e0, e1]

include hz hy hs in
theorem result9 : (dats m 0 c).arrAt 9 (cfgs 0).N
    = fun i : S4x128x128.Idx => ((PoolMath.dw (gP Z) (gD Y) (gS S) (i 0) (i 1) (i 2) : ℝ) : EReal) := by
  refine (dats m 0 c).arrAt_eq_of_covers 9 _ (by decide +kernel) fun t hf y => ?_
  have hN : cfg0.N = 32 := N_0
  have hl : t.val + 1 = cfg0.N := by have := (flush0_9 t).mp hf; have := t.isLt; omega
  have he : ((win0_9.blk t).view.emb y : S4x128x128.Idx) = y := by blk_ext [idx t]
  blk_simp
  rw [after0_9]
  refine (Pipeline.eq_sum_fin_of_reset_step_apply_last (N := cfg0.N) (M := EReal) (fun n h => (outsAt0 m c n h).2.1) 32 (fun _ => 0)
    (fun t y => ((pDw (gP Z) (gD Y) (gS S) (y 0) (y 1) (y 2) (num t) : ℝ) : EReal)) (fun t h y => out9_A m c hz hy hs t h y)
    (fun t h y => out9_B m c hz hy hs t h y) hN.le t hl y).trans ?_
  rw [zero_add, sum_points (pDw (gP Z) (gD Y) (gS S) (y 0) (y 1) (y 2)), he]
  exact Reals.congr (sum_tiles fun t => PoolMath.dif (gP Z) (y 0) t (y 1) * (gD Y (y 0) t (y 2) * gS S (y 0) (y 2)))

include hz hy hw in
theorem result10 : (dats m 0 c).arrAt 10 (cfgs 0).N
    = fun i : S1x512.Idx => ((PoolMath.dsc (gP Z) (gD Y) W (hd (i 1)) (col (i 1)) : ℝ) : EReal) := by
  refine (dats m 0 c).arrAt_eq_of_covers 10 _ (by decide +kernel) fun t hf y => ?_
  have hN : cfg0.N = 32 := N_0
  have hl : t.val + 1 = cfg0.N := by have := (flush0_10 t).mp hf; have := t.isLt; omega
  have he : ((win0_10.blk t).view.emb y : S1x512.Idx) = y := by blk_ext [idx t]
  blk_simp
  rw [after0_10]
  refine (Pipeline.eq_sum_fin_of_reset_step_apply_last (N := cfg0.N) (M := EReal) (fun n h => (outsAt0 m c n h).2.2) 32 (fun _ => 0)
    (fun t y => ((pDsc (gP Z) (gD Y) W (hd (y 1)) (col (y 1)) (num t) : ℝ) : EReal)) (fun t h y => out10_A m c hz hy hw t h y)
    (fun t h y => out10_B m c hz hy hw t h y) hN.le t hl y).trans ?_
  rw [zero_add, sum_points (pDsc (gP Z) (gD Y) W (hd (y 1)) (col (y 1))), he]
  exact Reals.congr (sum_tiles fun t => gD Y (hd (y 1)) t (col (y 1)) * ∑ c, PoolMath.dif (gP Z) (hd (y 1)) t c * W (hd (y 1)) c (col (y 1)))

end Cert.PoolIdeal.Value
-- ==== Proof.PoolRefOps.lean ====
/-
  What the reference of the windowed mean is made of: running sums from either end, rows looked up at given positions, and
  rows added at given positions.
-/
module

public import proofs.«01_k».proof.Proof.Gen.PoolRefIdeal
public import proofs.«01_k».proof.Proof.Gen.PoolRefIdeal.Run
public import proofs.«01_k».proof.Proof.Gen.PoolRefIdeal.Read
public import proofs.«01_k».proof.Proof.PoolMath
public import Idealize.ShloMosaic.Lib.Pointwise
public import Idealize.ShloMosaic.Lib.Routing.OpsPair

@[expose] public section

set_option maxRecDepth 16384

noncomputable section

namespace Cert.PoolRefIdeal.Val

open Idealize.ShloMosaic Idealize.ShloMosaic.TcCoe
open Cert.PoolRefIdeal Cert.PoolRefIdeal.Gen Cert.PoolRefIdeal.Read Cert

/-- Adding the terms of a list one after the other is adding their sum. -/
theorem foldl_sum {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- A sum over windows is the sum over a window's places, of the elements inside the array. -/
theorem window_add {φ : FTy} {s t u : Shape} (window strides lo hi : Fin s.rank → ℕ) (x : FVec Ideal s φ) (v : FVec Ideal u φ)
    (h : s.ReduceWindows window strides lo hi t) (hu : 0 < u.numel) (j : t.Idx) (hv : v (Shape.Idx.first hu) = 0) :
    (Host.reduceWindowAdd window strides lo hi x v h hu j : EReal)
      = ∑ w : Shape.Idx ⟨s.rank, window⟩, if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else (0 : EReal) := by
  rw [← Equiv.sum_comp (Shape.rowMajor ⟨s.rank, window⟩).symm, Fin.sum_univ_def, ← zero_add (List.sum _), ← foldl_sum]
  unfold Host.reduceWindowAdd
  show Ideal.hostReduceWindowAdd window strides lo hi h x (v (Shape.Idx.first hu)) j = _
  unfold Ideal.hostReduceWindowAdd Host.reduceWindow
  rw [hv]
  refine congrArg (fun F => List.foldl F (0 : EReal) _) (funext fun r => funext fun n => congrArg (fun z => r + z) ?_)
  by_cases hin : ∀ a, lo a ≤ (j (a.cast h.1.symm)).val * strides a + (Shape.rowMajor ⟨s.rank, window⟩ |>.symm n a).val
      ∧ (j (a.cast h.1.symm)).val * strides a + (Shape.rowMajor ⟨s.rank, window⟩ |>.symm n a).val - lo a < s.size a
  · refine (dif_pos hin).trans ?_
    rw [dif_pos hin]
  · refine (dif_neg hin).trans ?_
    rw [dif_neg hin]

/-- The window of a running sum: all positions, one place on every other axis. -/
abbrev Wd : Shape := ⟨4, ![1, 8192, 1, 1]⟩

theorem sum_window (f : Wd.Idx → EReal) : ∑ w, f w = ∑ k : Fin 8192, f (ix4 0 k 0 0) := by
  symm
  refine Fintype.sum_bijective (fun k : Fin 8192 => (ix4 0 k 0 0 : Wd.Idx)) ⟨fun a b e => congrFun e 1, fun j => ⟨j 1, ?_⟩⟩ _ _ fun _ => rfl
  funext a
  match a with
  | ⟨0, _⟩ => exact Subsingleton.elim (α := Fin 1) _ _
  | ⟨1, _⟩ => rfl
  | ⟨2, _⟩ => exact Subsingleton.elim (α := Fin 1) _ _
  | ⟨3, _⟩ => exact Subsingleton.elim (α := Fin 1) _ _

variable {x : FVec Ideal S1x8192x4x128 .f32} {X : Fin 8192 → Fin 4 → Fin 128 → ℝ} (hx : ∀ s g c, x (ix4 0 s g c) = (X s g c : EReal))
  {v : FVec Ideal S_ .f32} (hv : ∀ i, v i = 0)

include hx hv in
/-- The sum of the rows up to a position. -/
theorem run_up (t : Fin 8192) (g : Fin 4) (c : Fin 128) :
    Host.reduceWindowAdd ![1, 8192, 1, 1] ![1, 1, 1, 1] ![0, 8191, 0, 0] ![0, 0, 0, 0] x v reduceWindows_S1x8192x4x128_S1x8192x4x128_w1s1p0_0_w8192s1p8191_0_w1s1p0_0_w1s1p0_0 h_S_ (ix4 0 t g c)
      = ((∑ s : Fin 8192, (if s.val ≤ t.val then X s g c else 0) : ℝ) : EReal) := by
  let p : Wd.Idx → Fin 4 → ℕ := fun w a => (ix4 0 t g c : S1x8192x4x128.Idx) a * (![1, 1, 1, 1] : Fin 4 → ℕ) a + (w a).val
  let f : Wd.Idx → EReal := fun w => if hin : ∀ a : Fin 4, (![0, 8191, 0, 0] : Fin 4 → ℕ) a ≤ p w a ∧ p w a - (![0, 8191, 0, 0] : Fin 4 → ℕ) a < S1x8192x4x128.size a
    then x (fun a => ⟨p w a - (![0, 8191, 0, 0] : Fin 4 → ℕ) a, (hin a).2⟩) else 0
  have e : Host.reduceWindowAdd ![1, 8192, 1, 1] ![1, 1, 1, 1] ![0, 8191, 0, 0] ![0, 0, 0, 0] x v reduceWindows_S1x8192x4x128_S1x8192x4x128_w1s1p0_0_w8192s1p8191_0_w1s1p0_0_w1s1p0_0 h_S_ (ix4 0 t g c)
      = ∑ k : Fin 8192, f (ix4 0 k 0 0) :=
    (window_add _ _ _ _ x v _ _ _ (hv _)).trans (sum_window f)
  rw [e, ← Reals.sum]
  have l : ∀ k : Fin 8192, f (ix4 0 k 0 0) = ∑ s : Fin 8192, if s.val + 8191 = t.val + k.val then (X s g c : EReal) else 0 := by
    intro k
    by_cases hk : 8191 ≤ t.val + k.val
    · let s : Fin 8192 := ⟨t.val + k.val - 8191, by omega⟩
      rw [Finset.sum_eq_single s (fun s' _ hne => if_neg fun hs => hne (Fin.ext (by show _ = t.val + k.val - 8191; omega))) fun hn => absurd (Finset.mem_univ _) hn,
        if_pos (by show t.val + k.val - 8191 + 8191 = _; omega), ← hx]
      have hin : ∀ a : Fin 4, (![0, 8191, 0, 0] : Fin 4 → ℕ) a ≤ p (ix4 0 k 0 0) a ∧ p (ix4 0 k 0 0) a - (![0, 8191, 0, 0] : Fin 4 → ℕ) a < S1x8192x4x128.size a := by
        intro a
        match a with
        | ⟨0, _⟩ => exact ⟨Nat.zero_le _, by show 0 * 1 + 0 - 0 < 1; omega⟩
        | ⟨1, _⟩ => exact ⟨by show 8191 ≤ t.val * 1 + k.val; omega, by show t.val * 1 + k.val - 8191 < 8192; omega⟩
        | ⟨2, _⟩ => exact ⟨Nat.zero_le _, by show g.val * 1 + 0 - 0 < 4; omega⟩
        | ⟨3, _⟩ => exact ⟨Nat.zero_le _, by show c.val * 1 + 0 - 0 < 128; omega⟩
      refine (dif_pos hin).trans (congrArg x (funext fun a => Fin.ext ?_))
      match a with
      | ⟨0, _⟩ => show 0 * 1 + 0 - 0 = 0; omega
      | ⟨1, _⟩ => show t.val * 1 + k.val - 8191 = t.val + k.val - 8191; omega
      | ⟨2, _⟩ => show g.val * 1 + 0 - 0 = g.val; omega
      | ⟨3, _⟩ => show c.val * 1 + 0 - 0 = c.val; omega
    · rw [Finset.sum_eq_zero fun s _ => if_neg (by omega)]
      refine dif_neg fun hin => hk ?_
      have : 8191 ≤ t.val * 1 + k.val := (hin 1).1
      omega
  rw [Finset.sum_congr rfl fun k _ => l k, Finset.sum_comm]
  refine Finset.sum_congr rfl fun s _ => ?_
  by_cases hs : s.val ≤ t.val
  · rw [if_pos hs, Finset.sum_eq_single (⟨s.val + 8191 - t.val, by omega⟩ : Fin 8192)
      (fun k _ hne => if_neg fun hk => hne (Fin.ext (by show _ = s.val + 8191 - t.val; omega))) fun hn => absurd (Finset.mem_univ _) hn]
    exact if_pos (by show _ = t.val + (s.val + 8191 - t.val); omega)
  · rw [if_neg hs]
    exact Finset.sum_eq_zero fun k _ => if_neg (by omega)

include hx hv in
/-- The sum of the rows from a position on. -/
theorem run_down (t : Fin 8192) (g : Fin 4) (c : Fin 128) :
    Host.reduceWindowAdd ![1, 8192, 1, 1] ![1, 1, 1, 1] ![0, 0, 0, 0] ![0, 8191, 0, 0] x v reduceWindows_S1x8192x4x128_S1x8192x4x128_w1s1p0_0_w8192s1p0_8191_w1s1p0_0_w1s1p0_0 h_S_ (ix4 0 t g c)
      = ((∑ s : Fin 8192, (if t.val ≤ s.val then X s g c else 0) : ℝ) : EReal) := by
  let p : Wd.Idx → Fin 4 → ℕ := fun w a => (ix4 0 t g c : S1x8192x4x128.Idx) a * (![1, 1, 1, 1] : Fin 4 → ℕ) a + (w a).val
  let f : Wd.Idx → EReal := fun w => if hin : ∀ a : Fin 4, (![0, 0, 0, 0] : Fin 4 → ℕ) a ≤ p w a ∧ p w a - (![0, 0, 0, 0] : Fin 4 → ℕ) a < S1x8192x4x128.size a
    then x (fun a => ⟨p w a - (![0, 0, 0, 0] : Fin 4 → ℕ) a, (hin a).2⟩) else 0
  have e : Host.reduceWindowAdd ![1, 8192, 1, 1] ![1, 1, 1, 1] ![0, 0, 0, 0] ![0, 8191, 0, 0] x v reduceWindows_S1x8192x4x128_S1x8192x4x128_w1s1p0_0_w8192s1p0_8191_w1s1p0_0_w1s1p0_0 h_S_ (ix4 0 t g c)
      = ∑ k : Fin 8192, f (ix4 0 k 0 0) :=
    (window_add _ _ _ _ x v _ _ _ (hv _)).trans (sum_window f)
  rw [e, ← Reals.sum]
  have l : ∀ k : Fin 8192, f (ix4 0 k 0 0) = ∑ s : Fin 8192, if s.val = t.val + k.val then (X s g c : EReal) else 0 := by
    intro k
    by_cases hk : t.val + k.val < 8192
    · let s : Fin 8192 := ⟨t.val + k.val, hk⟩
      rw [Finset.sum_eq_single s (fun s' _ hne => if_neg fun hs => hne (Fin.ext hs)) fun hn => absurd (Finset.mem_univ _) hn, if_pos rfl, ← hx]
      have hin : ∀ a : Fin 4, (![0, 0, 0, 0] : Fin 4 → ℕ) a ≤ p (ix4 0 k 0 0) a ∧ p (ix4 0 k 0 0) a - (![0, 0, 0, 0] : Fin 4 → ℕ) a < S1x8192x4x128.size a := by
        intro a
        match a with
        | ⟨0, _⟩ => exact ⟨Nat.zero_le _, by show 0 * 1 + 0 - 0 < 1; omega⟩
        | ⟨1, _⟩ => exact ⟨Nat.zero_le _, by show t.val * 1 + k.val - 0 < 8192; omega⟩
        | ⟨2, _⟩ => exact ⟨Nat.zero_le _, by show g.val * 1 + 0 - 0 < 4; omega⟩
        | ⟨3, _⟩ => exact ⟨Nat.zero_le _, by show c.val * 1 + 0 - 0 < 128; omega⟩
      refine (dif_pos hin).trans (congrArg x (funext fun a => Fin.ext ?_))
      match a with
      | ⟨0, _⟩ => show 0 * 1 + 0 - 0 = 0; omega
      | ⟨1, _⟩ => show t.val * 1 + k.val - 0 = t.val + k.val; omega
      | ⟨2, _⟩ => show g.val * 1 + 0 - 0 = g.val; omega
      | ⟨3, _⟩ => show c.val * 1 + 0 - 0 = c.val; omega
    · rw [Finset.sum_eq_zero fun s _ => if_neg (by omega)]
      refine dif_neg fun hin => hk ?_
      have : t.val * 1 + k.val - 0 < 8192 := (hin 1).2
      omega
  rw [Finset.sum_congr rfl fun k _ => l k, Finset.sum_comm]
  refine Finset.sum_congr rfl fun s _ => ?_
  by_cases hs : t.val ≤ s.val
  · rw [if_pos hs, Finset.sum_eq_single (⟨s.val - t.val, by omega⟩ : Fin 8192)
      (fun k _ hne => if_neg fun hk => hne (Fin.ext (by show _ = s.val - t.val; omega))) fun hn => absurd (Finset.mem_univ _) hn]
    exact if_pos (by show _ = t.val + (s.val - t.val); omega)
  · rw [if_neg hs]
    exact Finset.sum_eq_zero fun k _ => if_neg (by omega)

abbrev G := gather_S1x8193x4x128_S8192x2_S1x8192x128_02_12_n_n_12_1_111128
abbrev D := scatter_S1x8193x4x128_S8192x2_S1x8192x128_02_12_12_1

theorem toInt_small {n : ℕ} (h : n < 8193) : (BitVec.ofNat 32 n).toInt = n := by
  rw [PoolMath.nat_wd, PoolMath.toInt_wd (by unfold PoolMath.Small; omega)]

theorem G_si (t : Fin 8192) (c : Fin 128) (q : Fin 2) : G.siIdx (ix3 0 t c) q = ix2 t q := by
  funext b; refine Fin.ext ?_
  match b with
  | ⟨0, _⟩ => rfl
  | ⟨1, _⟩ => rfl

theorem D_si (t : Fin 8192) (c : Fin 128) (q : Fin 2) : D.siIdx (ix3 0 t c) q = ix2 t q := by
  funext b; refine Fin.ext ?_
  match b with
  | ⟨0, _⟩ => rfl
  | ⟨1, _⟩ => rfl

variable (idx : IVec S8192x2 32)

/-- The row that two words name. -/
theorem gather_at (y : FVec Ideal S1x8193x4x128 .f32) (t : Fin 8192) (c : Fin 128) (A : Fin 8193) (B : Fin 4)
    (h0 : idx (ix2 t 0) = BitVec.ofNat 32 A.val) (h1 : idx (ix2 t 1) = BitVec.ofNat 32 B.val) :
    Host.gather G y idx (ix3 0 t c) = y (ix4 0 A B c) := by
  have s0 : G.start (ix3 0 t c) idx 0 = 0 := by
    unfold GatherDims.start
    rw [dif_neg (show (0 : Fin 4) ∉ G.startIndexMap by decide)]
  have s3 : G.start (ix3 0 t c) idx 3 = 0 := by
    unfold GatherDims.start
    rw [dif_neg (show (3 : Fin 4) ∉ G.startIndexMap by decide)]
  have s1 : G.start (ix3 0 t c) idx 1 = A.val := by
    unfold GatherDims.start
    rw [dif_pos (show (1 : Fin 4) ∈ G.startIndexMap by decide)]
    have := congrArg (fun z => min (idx z).toInt.toNat 8192) (G_si t c 0)
    refine Eq.trans (this : _) ?_
    rw [h0, toInt_small (by omega)]
    have := A.isLt
    omega
  have s2 : G.start (ix3 0 t c) idx 2 = B.val := by
    unfold GatherDims.start
    rw [dif_pos (show (2 : Fin 4) ∈ G.startIndexMap by decide)]
    have := congrArg (fun z => min (idx z).toInt.toNat 3) (G_si t c 1)
    refine Eq.trans (this : _) ?_
    rw [h1, toInt_small (by omega)]
    have := B.isLt
    omega
  have b : ∀ a, G.batchCoord (ix3 0 t c) a = 0 := fun a => GatherDims.batchCoord_eq_zero _ _ _ List.not_mem_nil
  have o0 : G.offCoord (ix3 0 t c) 0 = 0 := rfl
  have o1 : G.offCoord (ix3 0 t c) 1 = 0 := rfl
  have o2 : G.offCoord (ix3 0 t c) 2 = 0 := rfl
  have o3 : G.offCoord (ix3 0 t c) 3 = c.val := rfl
  refine congrArg y (funext fun a => Fin.ext ?_)
  show G.start _ idx a + G.batchCoord (ix3 0 t c) a + G.offCoord (ix3 0 t c) a = _
  rw [b]
  match a with
  | ⟨0, _⟩ => exact congrArg₂ (fun y z => y + 0 + z) s0 o0
  | ⟨1, _⟩ => exact congrArg₂ (fun y z => y + 0 + z) s1 o1
  | ⟨2, _⟩ => exact congrArg₂ (fun y z => y + 0 + z) s2 o2
  | ⟨3, _⟩ => exact (congrArg₂ (fun y z => y + 0 + z) s3 o3).trans (by show 0 + 0 + c.val = c.val; omega)

/-- Where a row lands that two words place. -/
theorem lands (t : Fin 8192) (c d : Fin 128) (A a : Fin 8193) (B b : Fin 4)
    (h0 : idx (ix2 t 0) = BitVec.ofNat 32 A.val) (h1 : idx (ix2 t 1) = BitVec.ofNat 32 B.val) :
    D.resultIdx? (ix3 0 t c) idx = some (ix4 0 a b d) ↔ A = a ∧ B = b ∧ c = d := by
  have s0 : D.start (ix3 0 t c) idx 0 = 0 := by
    unfold ScatterDims.start
    rw [dif_neg (show (0 : Fin 4) ∉ D.scatterDimsToOperandDims by decide)]
  have s3 : D.start (ix3 0 t c) idx 3 = 0 := by
    unfold ScatterDims.start
    rw [dif_neg (show (3 : Fin 4) ∉ D.scatterDimsToOperandDims by decide)]
  have s1 : D.start (ix3 0 t c) idx 1 = A.val := by
    unfold ScatterDims.start
    rw [dif_pos (show (1 : Fin 4) ∈ D.scatterDimsToOperandDims by decide)]
    have := congrArg (fun z => (idx z).toInt) (D_si t c 0)
    refine Eq.trans (this : _) ?_
    rw [h0, toInt_small (by omega)]
  have s2 : D.start (ix3 0 t c) idx 2 = B.val := by
    unfold ScatterDims.start
    rw [dif_pos (show (2 : Fin 4) ∈ D.scatterDimsToOperandDims by decide)]
    have := congrArg (fun z => (idx z).toInt) (D_si t c 1)
    refine Eq.trans (this : _) ?_
    rw [h1, toInt_small (by omega)]
  have w0 : D.window (ix3 0 t c) 0 = 0 := rfl
  have w1 : D.window (ix3 0 t c) 1 = 0 := rfl
  have w2 : D.window (ix3 0 t c) 2 = 0 := rfl
  have w3 : D.window (ix3 0 t c) 3 = c.val := rfl
  refine (Routing.resultIdx?_eq_some D (ix3 0 t c) idx (ix4 0 a b d)).trans ⟨fun q => ?_, ?_⟩
  · have q1 := q 1; have q2 := q 2; have q3 := q 3
    rw [s1, w1] at q1; rw [s2, w2] at q2; rw [s3, w3] at q3
    refine ⟨Fin.ext ?_, Fin.ext ?_, Fin.ext ?_⟩
    · have : ((A.val : Int) + (0 : ℕ)) = a.val := q1
      omega
    · have : ((B.val : Int) + (0 : ℕ)) = b.val := q2
      omega
    · have : ((0 : Int) + c.val) = d.val := q3
      omega
  · rintro ⟨rfl, rfl, rfl⟩ e
    match e with
    | ⟨0, _⟩ => exact congrArg₂ (fun (y : Int) (z : ℕ) => y + (z : Int)) s0 w0
    | ⟨1, _⟩ => exact (congrArg₂ (fun (y : Int) (z : ℕ) => y + (z : Int)) s1 w1).trans (by show (A.val : Int) + (0 : ℕ) = A.val; omega)
    | ⟨2, _⟩ => exact (congrArg₂ (fun (y : Int) (z : ℕ) => y + (z : Int)) s2 w2).trans (by show (B.val : Int) + (0 : ℕ) = B.val; omega)
    | ⟨3, _⟩ => exact (congrArg₂ (fun (y : Int) (z : ℕ) => y + (z : Int)) s3 w3).trans (by show (0 : Int) + c.val = c.val; omega)

/-- What rows added to a zero array leave at a place. -/
theorem collect_at {y : FVec Ideal S1x8193x4x128 .f32} (hy : ∀ i, y i = 0) {u : FVec Ideal S1x8192x128 .f32} {U : Fin 8192 → Fin 128 → ℝ}
    (hu : ∀ t c, u (ix3 0 t c) = (U t c : EReal)) {A : Fin 8192 → Fin 8193} {B : Fin 4} (h0 : ∀ t, idx (ix2 t 0) = BitVec.ofNat 32 (A t).val)
    (h1 : ∀ t, idx (ix2 t 1) = BitVec.ofNat 32 B.val) (a : Fin 8193) (b : Fin 4) (c : Fin 128) :
    Host.scatterAdd D y idx u (ix4 0 a b c) = ((∑ t, (if A t = a ∧ B = b then U t c else 0) : ℝ) : EReal) := by
  show y (ix4 0 a b c) + ∑ j ∈ Finset.univ.filter (fun j => D.resultIdx? j idx = some (ix4 0 a b c)), u j = _
  rw [hy, zero_add, Finset.sum_filter]
  simp only [← Reals.sum]
  symm
  refine Finset.sum_of_injOn (fun t : Fin 8192 => (ix3 0 t c : S1x8192x128.Idx)) ?_ (fun _ _ => Finset.mem_coe.mpr (Finset.mem_univ _)) ?_ ?_
  · intro p _ q _ e
    exact congrFun e 1
  · intro j _ hj
    have ej : j = ix3 0 (j 1) (j 2) := (eq_ix3 j).trans (congrArg (fun a => ix3 a (j 1) (j 2)) (Subsingleton.elim (α := Fin 1) _ _))
    rw [if_neg]
    intro hl
    replace hl := (lands idx (j 1) (j 2) c _ a _ b (h0 (j 1)) (h1 (j 1))).mp ((congrArg (fun z => D.resultIdx? z idx) ej).symm.trans hl)
    have e : (ix3 0 (j 1) c : S1x8192x128.Idx) = j := by rw [← hl.2.2]; exact ej.symm
    rw [Finset.coe_univ, Set.image_univ] at hj
    exact hj (Set.mem_range.mpr ⟨(j 1 : Fin 8192), e⟩)
  · intro t _
    have hl := lands idx t c c _ a _ b (h0 t) (h1 t)
    refine Eq.trans ?_ (if_congr hl.symm (hu t c).symm rfl)
    by_cases hp : A t = a ∧ B = b
    · rw [if_pos hp, if_pos ⟨hp.1, hp.2, rfl⟩]
    · rw [if_neg hp, if_neg fun q => hp ⟨q.1, q.2.1⟩]; rfl

end Cert.PoolRefIdeal.Val

end
-- ==== Proof.PoolRefIdx.lean ====
/-
  The two ends of a position's window in the reference of the windowed mean, as the words the reference computes; how
  differences of running sums are sums over a window.
-/
module

public import proofs.«01_k».proof.Proof.PoolRefOps
public import proofs.«01_k».proof.Proof.PoolOut

@[expose] public section

set_option maxRecDepth 16384

noncomputable section

namespace Cert.PoolRefIdeal.Val

open Idealize.ShloMosaic Idealize.ShloMosaic.TcCoe
open Cert.PoolRefIdeal Cert.PoolRefIdeal.Gen Cert.PoolRefIdeal.Read Cert
open Cert.PoolMath (wd nat_wd sub_wd add_wd max_wd min_wd slt_wd rad rad_le rad_pos win cnt)

/-- The first position of a window, and the one after its last. -/
def lo (r : ℕ) (t : Fin 8192) : Fin 8193 := ⟨t.val - r, by omega⟩
@[inherit_doc lo]
def hi (r : ℕ) (t : Fin 8192) : Fin 8193 := ⟨min 8192 (t.val + r), by omega⟩

section Words

variable (t : Fin 8192) {r : ℕ} (hr : r ≤ 8)

include hr

theorem lo_word : IntOp.minsi 8192#32 (IntOp.maxsi 0#32 (IntOp.subi (BitVec.ofNat 32 t.val) (BitVec.ofNat 32 r))) = BitVec.ofNat 32 (lo r t).val := by
  have ht := t.isLt
  rw [nat_wd t.val, nat_wd r, nat_wd (lo r t).val, sub_wd, show (0#32) = wd 0 from rfl, show (8192#32) = wd 8192 from rfl,
    max_wd (by unfold PoolMath.Small; omega) (by unfold PoolMath.Small; omega), min_wd (by unfold PoolMath.Small; omega) (by unfold PoolMath.Small; omega)]
  exact congrArg wd (by show _ = ((t.val - r : ℕ) : ℤ); omega)

theorem hi_word : IntOp.minsi 8192#32 (IntOp.maxsi 0#32 (IntOp.addi (BitVec.ofNat 32 t.val) (BitVec.ofNat 32 r))) = BitVec.ofNat 32 (hi r t).val := by
  have ht := t.isLt
  rw [nat_wd t.val, nat_wd r, nat_wd (hi r t).val, add_wd, show (0#32) = wd 0 from rfl, show (8192#32) = wd 8192 from rfl,
    max_wd (by unfold PoolMath.Small; omega) (by unfold PoolMath.Small; omega), min_wd (by unfold PoolMath.Small; omega) (by unfold PoolMath.Small; omega)]
  exact congrArg wd (by show _ = ((min 8192 (t.val + r) : ℕ) : ℤ); omega)

omit hr in
/-- A row number is not negative: it is not counted from the end. -/
theorem from_start {w : BitVec 32} {n : Fin 8193} (h : w = BitVec.ofNat 32 n.val) :
    Scalar.select (IntOp.cmpi .slt w 0#32) (IntOp.addi w 8193#32) w = BitVec.ofNat 32 n.val := by
  have hn := n.isLt
  rw [h, nat_wd n.val, show (0#32) = wd 0 from rfl, slt_wd (by unfold PoolMath.Small; omega) (by unfold PoolMath.Small; omega), if_neg (by omega)]
  rfl

theorem count : (FloatOps.sitofp .f32 (IntOp.subi (BitVec.ofNat 32 (hi r t).val) (BitVec.ofNat 32 (lo r t).val)) : Ideal .f32) = ((cnt r t.val : ℝ) : EReal) := by
  have ht := t.isLt
  rw [nat_wd (hi r t).val, nat_wd (lo r t).val, sub_wd]
  show (((BitVec.toInt _ : ℤ) : ℝ) : EReal) = _
  have h1 : (hi r t).val = min 8192 (t.val + r) := rfl
  have h2 : (lo r t).val = t.val - r := rfl
  rw [PoolMath.toInt_wd (by unfold PoolMath.Small; omega)]
  refine Reals.congr ?_
  unfold cnt
  have : ((hi r t).val - (lo r t).val : ℤ) = ((min 8192 (t.val + r) - (t.val - r) : ℕ) : ℤ) := by omega
  rw [this]; norm_cast

end Words

section Indices

variable (t : Fin 8192)

theorem v14 : val_main_v14 (F := Ideal) (ix1 t) = BitVec.ofNat 32 (lo (rad 0) t).val := lo_word t (rad_le 0)
theorem v17 : val_main_v17 (F := Ideal) (ix1 t) = BitVec.ofNat 32 (hi (rad 0) t).val := hi_word t (rad_le 0)
theorem v51 : val_main_v51 (F := Ideal) (ix1 t) = BitVec.ofNat 32 (lo (rad 1) t).val := lo_word t (rad_le 1)
theorem v54 : val_main_v54 (F := Ideal) (ix1 t) = BitVec.ofNat 32 (hi (rad 1) t).val := hi_word t (rad_le 1)
theorem v88 : val_main_v88 (F := Ideal) (ix1 t) = BitVec.ofNat 32 (lo (rad 2) t).val := lo_word t (rad_le 2)
theorem v91 : val_main_v91 (F := Ideal) (ix1 t) = BitVec.ofNat 32 (hi (rad 2) t).val := hi_word t (rad_le 2)
theorem v125 : val_main_v125 (F := Ideal) (ix1 t) = BitVec.ofNat 32 (lo (rad 3) t).val := lo_word t (rad_le 3)
theorem v128 : val_main_v128 (F := Ideal) (ix1 t) = BitVec.ofNat 32 (hi (rad 3) t).val := hi_word t (rad_le 3)

theorem v19 : val_main_v19 (F := Ideal) (ix1 t) = ((cnt (rad 0) t.val : ℝ) : EReal) := by
  pointwise [val_main_v19, val_main_v18]; rw [v14, v17]; exact count t (rad_le 0)
theorem v56 : val_main_v56 (F := Ideal) (ix1 t) = ((cnt (rad 1) t.val : ℝ) : EReal) := by
  pointwise [val_main_v56, val_main_v55]; rw [v51, v54]; exact count t (rad_le 1)
theorem v93 : val_main_v93 (F := Ideal) (ix1 t) = ((cnt (rad 2) t.val : ℝ) : EReal) := by
  pointwise [val_main_v93, val_main_v92]; rw [v88, v91]; exact count t (rad_le 2)
theorem v130 : val_main_v130 (F := Ideal) (ix1 t) = ((cnt (rad 3) t.val : ℝ) : EReal) := by
  pointwise [val_main_v130, val_main_v129]; rw [v125, v128]; exact count t (rad_le 3)

/-- A row number and a group beside each other name that row of that group. -/
def Names (idx : IVec S8192x2 32) (f : Fin 8192 → Fin 8193) (g : Fin 4) : Prop :=
  ∀ t, idx (ix2 t 0) = BitVec.ofNat 32 (f t).val ∧ idx (ix2 t 1) = BitVec.ofNat 32 g.val

theorem v29 : Names (val_main_v29 (F := Ideal)) (hi (rad 0)) 0 := fun t => ⟨by
  pointwise [val_main_v29, val_main_v27, val_main_v24, val_main_v21, val_main_v20, val_main_c_6, val_main_v23, val_main_v22, val_main_c_7]
  exact from_start (v17 t), by
  pointwise [val_main_v29, val_main_v28, val_main_v26]
  rfl⟩
theorem v40 : Names (val_main_v40 (F := Ideal)) (lo (rad 0)) 0 := fun t => ⟨by
  pointwise [val_main_v40, val_main_v38, val_main_v35, val_main_v32, val_main_v31, val_main_c_9, val_main_v34, val_main_v33, val_main_c_10]
  exact from_start (v14 t), by
  pointwise [val_main_v40, val_main_v39, val_main_v37]
  rfl⟩
theorem v66 : Names (val_main_v66 (F := Ideal)) (hi (rad 1)) 1 := fun t => ⟨by
  pointwise [val_main_v66, val_main_v64, val_main_v61, val_main_v58, val_main_v57, val_main_c_18, val_main_v60, val_main_v59, val_main_c_19]
  exact from_start (v54 t), by
  pointwise [val_main_v66, val_main_v65, val_main_v63]
  rfl⟩
theorem v77 : Names (val_main_v77 (F := Ideal)) (lo (rad 1)) 1 := fun t => ⟨by
  pointwise [val_main_v77, val_main_v75, val_main_v72, val_main_v69, val_main_v68, val_main_c_21, val_main_v71, val_main_v70, val_main_c_22]
  exact from_start (v51 t), by
  pointwise [val_main_v77, val_main_v76, val_main_v74]
  rfl⟩
theorem v103 : Names (val_main_v103 (F := Ideal)) (hi (rad 2)) 2 := fun t => ⟨by
  pointwise [val_main_v103, val_main_v101, val_main_v98, val_main_v95, val_main_v94, val_main_c_30, val_main_v97, val_main_v96, val_main_c_31]
  exact from_start (v91 t), by
  pointwise [val_main_v103, val_main_v102, val_main_v100]
  rfl⟩
theorem v114 : Names (val_main_v114 (F := Ideal)) (lo (rad 2)) 2 := fun t => ⟨by
  pointwise [val_main_v114, val_main_v112, val_main_v109, val_main_v106, val_main_v105, val_main_c_33, val_main_v108, val_main_v107, val_main_c_34]
  exact from_start (v88 t), by
  pointwise [val_main_v114, val_main_v113, val_main_v111]
  rfl⟩
theorem v140 : Names (val_main_v140 (F := Ideal)) (hi (rad 3)) 3 := fun t => ⟨by
  pointwise [val_main_v140, val_main_v138, val_main_v135, val_main_v132, val_main_v131, val_main_c_42, val_main_v134, val_main_v133, val_main_c_43]
  exact from_start (v128 t), by
  pointwise [val_main_v140, val_main_v139, val_main_v137]
  rfl⟩
theorem v151 : Names (val_main_v151 (F := Ideal)) (lo (rad 3)) 3 := fun t => ⟨by
  pointwise [val_main_v151, val_main_v149, val_main_v146, val_main_v143, val_main_v142, val_main_c_45, val_main_v145, val_main_v144, val_main_c_46]
  exact from_start (v125 t), by
  pointwise [val_main_v151, val_main_v150, val_main_v148]
  rfl⟩

end Indices

section Sums

/-- Between two running sums lies the sum over the window. -/
theorem between {r : ℕ} (hr : 1 ≤ r) (t : Fin 8192) (f : Fin 8192 → ℝ) :
    (∑ s : Fin 8192, if s.val < (hi r t).val then f s else 0) - (∑ s : Fin 8192, if s.val < (lo r t).val then f s else 0)
      = ∑ s : Fin 8192, if win r t.val s.val then f s else 0 := by
  rw [← Finset.sum_sub_distrib]
  refine Finset.sum_congr rfl fun s _ => ?_
  have ht := t.isLt
  have h1 : (hi r t).val = min 8192 (t.val + r) := rfl
  have h2 : (lo r t).val = t.val - r := rfl
  have hw : win r t.val s.val ↔ t.val - r ≤ s.val ∧ s.val < min 8192 (t.val + r) := Iff.rfl
  rw [h1, h2]
  by_cases a : s.val < min 8192 (t.val + r)
  · by_cases b : s.val < t.val - r
    · rw [if_pos a, if_pos b, if_neg (fun h => by have := hw.mp h; omega), sub_self]
    · rw [if_pos a, if_neg b, if_pos (hw.mpr ⟨by omega, a⟩), sub_zero]
  · rw [if_neg a, if_neg (by omega), if_neg (fun h => by have := hw.mp h; omega), sub_zero]

/-- What lands after a position, added up from there on. -/
theorem tail (A : Fin 8192 → Fin 8193) (u : Fin 8192 → ℝ) (t : Fin 8192) :
    (∑ s : Fin 8192, if t.val ≤ s.val then (∑ q, if A q = (⟨1 + s.val, by omega⟩ : Fin 8193) then u q else 0) else 0)
      = ∑ q, if t.val < (A q).val then u q else 0 := by
  have l : ∀ s : Fin 8192, (if t.val ≤ s.val then (∑ q, if A q = (⟨1 + s.val, by omega⟩ : Fin 8193) then u q else 0) else 0)
      = ∑ q, if t.val ≤ s.val ∧ A q = (⟨1 + s.val, by omega⟩ : Fin 8193) then u q else 0 := by
    intro s
    by_cases h : t.val ≤ s.val
    · rw [if_pos h]; exact Finset.sum_congr rfl fun q _ => if_congr (by simp [h]) rfl rfl
    · rw [if_neg h]; exact (Finset.sum_eq_zero fun q _ => if_neg fun e => h e.1).symm
  rw [Finset.sum_congr rfl fun s _ => l s, Finset.sum_comm]
  refine Finset.sum_congr rfl fun q _ => ?_
  have hA := (A q).isLt
  by_cases h : t.val < (A q).val
  · rw [if_pos h]
    refine (Finset.sum_eq_single (⟨(A q).val - 1, by omega⟩ : Fin 8192) (fun s _ hne => if_neg fun e => hne (Fin.ext ?_)) fun hn => absurd (Finset.mem_univ _) hn).trans
      (if_pos ⟨?_, Fin.ext ?_⟩)
    · have := congrArg Fin.val e.2
      show s.val = (A q).val - 1
      simp only at this; omega
    · show t.val ≤ (A q).val - 1; omega
    · show (A q).val = 1 + ((A q).val - 1); omega
  · rw [if_neg h]
    refine Finset.sum_eq_zero fun s _ => if_neg fun e => h ?_
    have := congrArg Fin.val e.2
    simp only at this; omega

end Sums

end Cert.PoolRefIdeal.Val

end
-- ==== Proof.PoolRefVal.lean ====
/-
  The gradients of `reference.py`'s windowed mean, as real numbers, when the arguments are real numbers.
-/
module

public import proofs.«01_k».proof.Proof.PoolRefIdx

@[expose] public section

set_option maxRecDepth 16384

noncomputable section

namespace Cert.PoolRefIdeal.Val

open Idealize.ShloMosaic Idealize.ShloMosaic.TcCoe
open Cert.PoolRefIdeal Cert.PoolRefIdeal.Gen Cert.PoolRefIdeal.Read Cert
open Cert.PoolMath (rad rad_le rad_pos win cnt cnt_pos dif dd)
open Cert.PoolIdeal.Value (gP gD gS hd col)

variable {z : (⟨S8192x1536, .bf16⟩ : BufTy).Contents (Elt Ideal)} {y : (⟨S8192x2048, .bf16⟩ : BufTy).Contents (Elt Ideal)}
  {w : (⟨S4x128x128, .f32⟩ : BufTy).Contents (Elt Ideal)} {s : (⟨S512, .f32⟩ : BufTy).Contents (Elt Ideal)}
  {Z : Fin 8192 → Fin 1536 → ℝ} {Y : Fin 8192 → Fin 2048 → ℝ} {W : Fin 4 → Fin 128 → Fin 128 → ℝ} {S : Fin 512 → ℝ}
  (hz : ∀ p d, z (ix2 p d) = (Z p d : EReal)) (hy : ∀ p d, y (ix2 p d) = (Y p d : EReal))
  (hw : ∀ g c d, w (ix3 g c d) = (W g c d : EReal)) (hs : ∀ d, s (ix1 d) = (S d : EReal))
  (t : Fin 8192) (g : Fin 4) (c d : Fin 128)

section Mean

include hz

theorem v6 : val_main_v6 (F := Ideal) z (ix4 0 t g c) = ((gP Z g t c : ℝ) : EReal) := by
  pointwise [val_main_v6, val_main_v2, val_main_v1, val_main_v0]
  rw [hz]
  exact Reals.congr (congrArg (Z t) (Fin.ext (by show 1024 + (g.val * 128 + c.val) = 1024 + (128 * g.val + c.val); omega)))

theorem v8 : val_main_v8 (F := Ideal) z (ix4 0 t g c) = ((∑ q : Fin 8192, (if q.val ≤ t.val then gP Z g q c else 0) : ℝ) : EReal) :=
  run_up (X := fun q g c => gP Z g q c) (fun q g c => v6 hz q g c) (fun _ => Ideal.ofBits_zero_f32) t g c

/-- The running sum before a position. -/
theorem v9 (A : Fin 8193) : val_main_v9 (F := Ideal) z (ix4 0 A g c) = ((∑ q : Fin 8192, (if q.val < A.val then gP Z g q c else 0) : ℝ) : EReal) := by
  pointwise [val_main_v9, val_main_v7, val_main_cst_0, val_main_cst]
  by_cases h : A.val < 1
  · rw [dif_pos h, ← EReal.coe_zero]
    exact Reals.congr (Finset.sum_eq_zero fun q _ => if_neg (by omega)).symm
  · rw [dif_neg h, v8 hz]
    exact Reals.congr (Finset.sum_congr rfl fun q _ => if_congr (by simp only; omega) rfl rfl)

/-- The mean over a window. -/
theorem mean {ih il : IVec S8192x2 32} (hh : Names ih (hi (rad g)) g) (hl : Names il (lo (rad g)) g) :
    Ideal.div (Host.gather G (val_main_v9 (F := Ideal) z) ih (ix3 0 t c) - Host.gather G (val_main_v9 (F := Ideal) z) il (ix3 0 t c)) ((cnt (rad g) t.val : ℝ) : EReal)
      - ((gP Z g t c : ℝ) : EReal) = ((dif (gP Z) g t c : ℝ) : EReal) := by
  rw [gather_at ih _ t c _ g (hh t).1 (hh t).2, gather_at il _ t c _ g (hl t).1 (hl t).2, v9 hz, v9 hz, Reals.sub,
    Reals.div (by have := cnt_pos (rad_pos g) t.isLt; linarith), Reals.sub, between (rad_pos g) t (fun q => gP Z g q c)]
  rfl

theorem v48 : val_main_v48 (F := Ideal) z (ix3 0 t c) = ((dif (gP Z) 0 t c : ℝ) : EReal) := by
  pointwise [val_main_v48, val_main_v47, val_main_v46, val_main_v45, val_main_v44, val_main_v43, val_main_v42]
  rw [v19, v6 hz]
  exact mean hz t 0 c v29 v40
theorem v85 : val_main_v85 (F := Ideal) z (ix3 0 t c) = ((dif (gP Z) 1 t c : ℝ) : EReal) := by
  pointwise [val_main_v85, val_main_v84, val_main_v83, val_main_v82, val_main_v81, val_main_v80, val_main_v79]
  rw [v56, v6 hz]
  exact mean hz t 1 c v66 v77
theorem v122 : val_main_v122 (F := Ideal) z (ix3 0 t c) = ((dif (gP Z) 2 t c : ℝ) : EReal) := by
  pointwise [val_main_v122, val_main_v121, val_main_v120, val_main_v119, val_main_v118, val_main_v117, val_main_v116]
  rw [v93, v6 hz]
  exact mean hz t 2 c v103 v114
theorem v159 : val_main_v159 (F := Ideal) z (ix3 0 t c) = ((dif (gP Z) 3 t c : ℝ) : EReal) := by
  pointwise [val_main_v159, val_main_v158, val_main_v157, val_main_v156, val_main_v155, val_main_v154, val_main_v153]
  rw [v130, v6 hz]
  exact mean hz t 3 c v140 v151

theorem v164 (b : Fin 1) : val_main_v164 (F := Ideal) z (ix4 b t g c) = ((dif (gP Z) g t c : ℝ) : EReal) := by
  rw [Subsingleton.elim b 0]
  pointwise [val_main_v164, val_main_v160, val_main_v161, val_main_v162, val_main_v163]
  rw [v48 hz, v85 hz, v122 hz, v159 hz]
  match g with
  | ⟨0, _⟩ => rfl
  | ⟨1, _⟩ => rfl
  | ⟨2, _⟩ => rfl
  | ⟨3, _⟩ => rfl

include hw in
theorem v166 : val_main_v166 (F := Ideal) z w (ix4 0 t g d) = ((∑ c, dif (gP Z) g t c * W g c d : ℝ) : EReal) := by
  pointwise [val_main_v166, val_main_v165]
  rw [← Reals.sum]
  refine Finset.sum_congr rfl fun c _ => ?_
  rw [hw, v164 hz, Reals.mul, mul_comm]

end Mean

include hy in
theorem v172 : val_main_v172 (F := Ideal) y (ix4 0 t g c) = ((gD Y g t c : ℝ) : EReal) := by
  pointwise [val_main_v172, val_main_v5, val_main_v4, val_main_v3]
  rw [hy]
  exact Reals.congr (congrArg (Y t) (Fin.ext (by show 512 + (g.val * 128 + c.val) = 512 + (128 * g.val + c.val); omega)))

include hy hs in
theorem v177 : val_main_v177 (F := Ideal) y s (ix4 0 t g c) = ((gD Y g t c * gS S g c : ℝ) : EReal) := by
  pointwise [val_main_v177, val_main_v176, val_main_v168, val_main_v167]
  rw [v172 hy, hs, Reals.mul]
  exact Reals.congr (congrArg (fun j => gD Y g t c * S j) (Fin.ext (by show g.val * 128 + c.val = 128 * g.val + c.val; omega)))

include hz hy hw in
theorem v174 : val_main_v174 (F := Ideal) z y w (ix3 0 g d) = ((PoolMath.dsc (gP Z) (gD Y) W g d : ℝ) : EReal) := by
  pointwise [val_main_v174, val_main_cst_48, val_main_v173]
  unfold PoolMath.dsc
  rw [← Reals.sum]
  refine Finset.sum_congr rfl fun t _ => ?_
  rw [v166 hz hw, v172 hy, Reals.mul, mul_comm]

/-- A sum over axes of length one. -/
theorem sum_one (x : FVec Ideal S1x1x4x128 .f32) :
    Ideal.hostReduceAdd reducesTo_S1x1x4x128_S4x128_d0_1 x 0 (ix2 g d) = x (ix4 0 0 g d) := by
  refine (zero_add _).trans ((Finset.sum_filter_eq_sum_of_fiber _ (fun _ : Unit => ix4 0 0 g d) (fun _ _ _ => rfl) (fun i => ⟨fun e => ⟨(), ?_⟩, ?_⟩) x).trans (Fintype.sum_unique _))
  · have e0 := congrFun e 0; have e1 := congrFun e 1
    refine funext fun a => ?_
    match a with
    | ⟨0, _⟩ => exact (Subsingleton.elim (α := Fin 1) _ _)
    | ⟨1, _⟩ => exact (Subsingleton.elim (α := Fin 1) _ _)
    | ⟨2, _⟩ => exact e0.symm
    | ⟨3, _⟩ => exact e1.symm
  · rintro ⟨k, rfl⟩
    refine funext fun b => ?_
    match b with
    | ⟨0, _⟩ => rfl
    | ⟨1, _⟩ => rfl

include hz hy hw in
theorem v250 (j : Fin 512) : val_main_v250 (F := Ideal) z y w (ix2 0 j) = ((PoolMath.dsc (gP Z) (gD Y) W (hd j) (col j) : ℝ) : EReal) := by
  pointwise [val_main_v250, val_main_v179, val_main_v178, val_main_cst_49]
  rw [sum_one]
  pointwise [val_main_v175]
  exact v174 hz hy hw _ _

include hz hy hs in
theorem v184 : val_main_v184 (F := Ideal) z y s (ix3 g c d) = ((PoolMath.dw (gP Z) (gD Y) (gS S) g c d : ℝ) : EReal) := by
  pointwise [val_main_v184, val_main_v183, val_main_v180]
  rw [Fin.sum_univ_one]
  unfold PoolMath.dw
  rw [← Reals.sum]
  refine Finset.sum_congr rfl fun t _ => ?_
  rw [v177 hy hs, v164 hz, Reals.mul, mul_comm]

section Values

include hy hw hs

theorem v182 : val_main_v182 (F := Ideal) y w s (ix4 0 t g c) = ((dd (gD Y) W (gS S) g t c : ℝ) : EReal) := by
  pointwise [val_main_v182, val_main_v181, val_main_v180]
  unfold dd
  rw [← Reals.sum]
  refine Finset.sum_congr rfl fun d _ => ?_
  rw [v177 hy hs, hw, Reals.mul]

theorem v233 : val_main_v233 (F := Ideal) y w s (ix4 0 t g c) = ((-dd (gD Y) W (gS S) g t c : ℝ) : EReal) := by
  pointwise [val_main_v233, val_main_v232, val_main_v231, val_main_v230, val_main_v186, val_main_v185, val_main_cst_59,
    val_main_v220, val_main_v219, val_main_v218, val_main_v217, val_main_v188, val_main_v187, val_main_cst_56,
    val_main_v207, val_main_v206, val_main_v205, val_main_v204, val_main_v190, val_main_v189, val_main_cst_53,
    val_main_v195, val_main_v194, val_main_v193, val_main_v192, val_main_v191, val_main_cst_50]
  simp only [v182 hy hw hs, Reals.neg]
  match g with
  | ⟨0, _⟩ => simp
  | ⟨1, _⟩ => simp
  | ⟨2, _⟩ => simp
  | ⟨3, _⟩ => simp

theorem v197 : val_main_v197 (F := Ideal) y w s (ix3 0 t c) = ((PoolMath.dq (gD Y) W (gS S) 3 t c : ℝ) : EReal) := by
  pointwise [val_main_v197, val_main_v196, val_main_v154, val_main_v192, val_main_v191]
  rw [v130, v182 hy hw hs, Reals.div (by have := cnt_pos (rad_pos 3) t.isLt; linarith)]
  rfl
theorem v200 (A : Fin 8193) : val_main_v200 (F := Ideal) y w s (ix4 0 A g c)
    = ((∑ t, (if lo (rad 3) t = A ∧ 3 = g then -PoolMath.dq (gD Y) W (gS S) 3 t c else 0) : ℝ) : EReal) :=
  collect_at (U := fun t c => -PoolMath.dq (gD Y) W (gS S) 3 t c) _ (fun _ => Ideal.ofBits_zero_f32)
    (fun t c => by pointwise [val_main_v198]; rw [v197 hy hw hs, Reals.neg]) (fun t => (v151 t).1) (fun t => (v151 t).2) A g c
theorem v202 (A : Fin 8193) : val_main_v202 (F := Ideal) y w s (ix4 0 A g c)
    = ((∑ t, (if hi (rad 3) t = A ∧ 3 = g then PoolMath.dq (gD Y) W (gS S) 3 t c else 0) : ℝ) : EReal) :=
  collect_at (U := fun t c => PoolMath.dq (gD Y) W (gS S) 3 t c) _ (fun _ => Ideal.ofBits_zero_f32)
    (fun t c => v197 hy hw hs t c) (fun t => (v140 t).1) (fun t => (v140 t).2) A g c

theorem v209 : val_main_v209 (F := Ideal) y w s (ix3 0 t c) = ((PoolMath.dq (gD Y) W (gS S) 2 t c : ℝ) : EReal) := by
  pointwise [val_main_v209, val_main_v208, val_main_v117, val_main_v190, val_main_v189]
  rw [v93, v182 hy hw hs, Reals.div (by have := cnt_pos (rad_pos 2) t.isLt; linarith)]
  rfl
theorem v212 (A : Fin 8193) : val_main_v212 (F := Ideal) y w s (ix4 0 A g c)
    = ((∑ t, (if lo (rad 2) t = A ∧ 2 = g then -PoolMath.dq (gD Y) W (gS S) 2 t c else 0) : ℝ) : EReal) :=
  collect_at (U := fun t c => -PoolMath.dq (gD Y) W (gS S) 2 t c) _ (fun _ => Ideal.ofBits_zero_f32)
    (fun t c => by pointwise [val_main_v210]; rw [v209 hy hw hs, Reals.neg]) (fun t => (v114 t).1) (fun t => (v114 t).2) A g c
theorem v215 (A : Fin 8193) : val_main_v215 (F := Ideal) y w s (ix4 0 A g c)
    = ((∑ t, (if hi (rad 2) t = A ∧ 2 = g then PoolMath.dq (gD Y) W (gS S) 2 t c else 0) : ℝ) : EReal) :=
  collect_at (U := fun t c => PoolMath.dq (gD Y) W (gS S) 2 t c) _ (fun _ => Ideal.ofBits_zero_f32)
    (fun t c => v209 hy hw hs t c) (fun t => (v103 t).1) (fun t => (v103 t).2) A g c

theorem v222 : val_main_v222 (F := Ideal) y w s (ix3 0 t c) = ((PoolMath.dq (gD Y) W (gS S) 1 t c : ℝ) : EReal) := by
  pointwise [val_main_v222, val_main_v221, val_main_v80, val_main_v188, val_main_v187]
  rw [v56, v182 hy hw hs, Reals.div (by have := cnt_pos (rad_pos 1) t.isLt; linarith)]
  rfl
theorem v225 (A : Fin 8193) : val_main_v225 (F := Ideal) y w s (ix4 0 A g c)
    = ((∑ t, (if lo (rad 1) t = A ∧ 1 = g then -PoolMath.dq (gD Y) W (gS S) 1 t c else 0) : ℝ) : EReal) :=
  collect_at (U := fun t c => -PoolMath.dq (gD Y) W (gS S) 1 t c) _ (fun _ => Ideal.ofBits_zero_f32)
    (fun t c => by pointwise [val_main_v223]; rw [v222 hy hw hs, Reals.neg]) (fun t => (v77 t).1) (fun t => (v77 t).2) A g c
theorem v228 (A : Fin 8193) : val_main_v228 (F := Ideal) y w s (ix4 0 A g c)
    = ((∑ t, (if hi (rad 1) t = A ∧ 1 = g then PoolMath.dq (gD Y) W (gS S) 1 t c else 0) : ℝ) : EReal) :=
  collect_at (U := fun t c => PoolMath.dq (gD Y) W (gS S) 1 t c) _ (fun _ => Ideal.ofBits_zero_f32)
    (fun t c => v222 hy hw hs t c) (fun t => (v66 t).1) (fun t => (v66 t).2) A g c

theorem v235 : val_main_v235 (F := Ideal) y w s (ix3 0 t c) = ((PoolMath.dq (gD Y) W (gS S) 0 t c : ℝ) : EReal) := by
  pointwise [val_main_v235, val_main_v234, val_main_v43, val_main_v186, val_main_v185]
  rw [v19, v182 hy hw hs, Reals.div (by have := cnt_pos (rad_pos 0) t.isLt; linarith)]
  rfl
theorem v238 (A : Fin 8193) : val_main_v238 (F := Ideal) y w s (ix4 0 A g c)
    = ((∑ t, (if lo (rad 0) t = A ∧ 0 = g then -PoolMath.dq (gD Y) W (gS S) 0 t c else 0) : ℝ) : EReal) :=
  collect_at (U := fun t c => -PoolMath.dq (gD Y) W (gS S) 0 t c) _ (fun _ => Ideal.ofBits_zero_f32)
    (fun t c => by pointwise [val_main_v236]; rw [v235 hy hw hs, Reals.neg]) (fun t => (v40 t).1) (fun t => (v40 t).2) A g c
theorem v241 (A : Fin 8193) : val_main_v241 (F := Ideal) y w s (ix4 0 A g c)
    = ((∑ t, (if hi (rad 0) t = A ∧ 0 = g then PoolMath.dq (gD Y) W (gS S) 0 t c else 0) : ℝ) : EReal) :=
  collect_at (U := fun t c => PoolMath.dq (gD Y) W (gS S) 0 t c) _ (fun _ => Ideal.ofBits_zero_f32)
    (fun t c => v235 hy hw hs t c) (fun t => (v29 t).1) (fun t => (v29 t).2) A g c

/-- What all groups' additions leave at a row. -/
theorem v242 (A : Fin 8193) : val_main_v242 (F := Ideal) y w s (ix4 0 A g c)
    = (((∑ t, if hi (rad g) t = A then PoolMath.dq (gD Y) W (gS S) g t c else 0) - (∑ t, if lo (rad g) t = A then PoolMath.dq (gD Y) W (gS S) g t c else 0) : ℝ) : EReal) := by
  pointwise [val_main_v242, val_main_v239, val_main_v229, val_main_v226, val_main_v216, val_main_v213, val_main_v203]
  rw [v200 hy hw hs, v202 hy hw hs, v212 hy hw hs, v215 hy hw hs, v225 hy hw hs, v228 hy hw hs, v238 hy hw hs, v241 hy hw hs]
  simp only [Reals.add]
  refine Reals.congr ?_
  have n : ∀ f : Fin 8192 → ℝ, (∑ t, if lo (rad g) t = A then -f t else 0) = -∑ t, if lo (rad g) t = A then f t else 0 := by
    intro f; rw [← Finset.sum_neg_distrib]; exact Finset.sum_congr rfl fun t _ => by split <;> simp
  rw [sub_eq_add_neg, ← n]
  match g with
  | ⟨0, _⟩ => simp [add_comm]
  | ⟨1, _⟩ => simp [add_comm]
  | ⟨2, _⟩ => simp [add_comm]
  | ⟨3, _⟩ => simp [add_comm]

theorem v245 : val_main_v245 (F := Ideal) y w s (ix4 0 t g c)
    = ((∑ q : Fin 8192, (if win (rad g) q.val t.val then PoolMath.dq (gD Y) W (gS S) g q c else 0) : ℝ) : EReal) := by
  refine (run_down (X := fun (p : Fin 8192) g c => (∑ t, if hi (rad g) t = (⟨1 + p.val, by omega⟩ : Fin 8193) then PoolMath.dq (gD Y) W (gS S) g t c else 0)
      - (∑ t, if lo (rad g) t = (⟨1 + p.val, by omega⟩ : Fin 8193) then PoolMath.dq (gD Y) W (gS S) g t c else 0))
    (fun p g c => by pointwise [val_main_v244]; exact v242 hy hw hs g c _) (fun _ => Ideal.ofBits_zero_f32) t g c).trans (Reals.congr ?_)
  have e : ∀ p : Fin 8192, ∀ a b : ℝ, (if t.val ≤ p.val then a - b else 0) = (if t.val ≤ p.val then a else 0) - (if t.val ≤ p.val then b else 0) := by
    intro p a b; split <;> simp
  rw [Finset.sum_congr rfl fun p _ => e p _ _, Finset.sum_sub_distrib, tail, tail, ← Finset.sum_sub_distrib]
  refine Finset.sum_congr rfl fun p _ => ?_
  have ht := t.isLt
  have hp := p.isLt
  have hW : win (rad g) p.val t.val ↔ p.val - rad g ≤ t.val ∧ t.val < min 8192 (p.val + rad g) := Iff.rfl
  have h1 : (hi (rad g) p).val = min 8192 (p.val + rad g) := rfl
  have h2 : (lo (rad g) p).val = p.val - rad g := rfl
  rw [h1, h2]
  by_cases a : t.val < min 8192 (p.val + rad g)
  · by_cases b : t.val < p.val - rad g
    · rw [if_pos a, if_pos b, if_neg (fun h => by have := hW.mp h; omega), sub_self]
    · rw [if_pos a, if_neg b, if_pos (hW.mpr ⟨by omega, a⟩), sub_zero]
  · rw [if_neg a, if_neg (by omega), if_neg (fun h => by have := hW.mp h; omega), sub_zero]

theorem v249 (j : Fin 512) : val_main_v249 (F := Ideal) y w s (ix2 t j) = ((PoolMath.dz (gD Y) W (gS S) (hd j) t (col j) : ℝ) : EReal) := by
  pointwise [val_main_v249, val_main_v248, val_main_v247, val_main_v246]
  rw [v233 hy hw hs, v245 hy hw hs, Reals.add]
  exact Reals.congr (neg_add_eq_sub _ _)

end Values

end Cert.PoolRefIdeal.Val

end
-- ==== Proof.PoolClaim.lean ====
/-
  The windowed mean's backward kernel and the derivative of `reference.py`'s windowed mean leave the same three results,
  where the arguments are finite.
-/
module

public import proofs.«01_k».proof.Defs
public import proofs.«01_k».proof.Proof.PoolFinal
public import proofs.«01_k».proof.Proof.PoolRefVal
public import proofs.«01_k».proof.Proof.Gen.Pre_pool_finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- An array whose absolute value is below infinity everywhere is a real number everywhere. -/
theorem pool_real {z : FVec Ideal ⟨2, ![8192, 1536]⟩ .bf16} {y : FVec Ideal ⟨2, ![8192, 2048]⟩ .bf16}
    {w : FVec Ideal ⟨3, ![4, 128, 128]⟩ .f32} {s : FVec Ideal ⟨1, ![512]⟩ .f32}
    (h : (Pre_pool_finite.fn (F := Ideal) z y w s).1 = (fun _ => 1#1) ∧ (Pre_pool_finite.fn (F := Ideal) z y w s).2.1 = (fun _ => 1#1)
      ∧ (Pre_pool_finite.fn (F := Ideal) z y w s).2.2.1 = (fun _ => 1#1) ∧ (Pre_pool_finite.fn (F := Ideal) z y w s).2.2.2 = (fun _ => 1#1)) :
    (∀ p d, z (ix2 p d) = ((z (ix2 p d)).toReal : EReal)) ∧ (∀ p d, y (ix2 p d) = ((y (ix2 p d)).toReal : EReal))
      ∧ (∀ g c d, w (ix3 g c d) = ((w (ix3 g c d)).toReal : EReal)) ∧ (∀ d, s (ix1 d) = ((s (ix1 d)).toReal : EReal)) := by
  obtain ⟨h0, h1, h2, h3⟩ := h
  exact ⟨fun p d => Reals.eq_coe (Reals.finite_of_lt (congrFun h0 (ix2 p d))),
    fun p d => Reals.eq_coe (Reals.finite_of_lt (congrFun h1 (ix2 p d))),
    fun g c d => Reals.eq_coe (Reals.finite_of_lt (congrFun h2 (ix3 g c d))),
    fun d => Reals.eq_coe (Reals.finite_of_lt (congrFun h3 (ix1 d)))⟩

/-- The reference is host code alone: it declares no semaphore. -/
theorem poolRef_frame : quiescent_PoolRefIdeal := fun m g _ => (θ_run _ _ _).mono
  (fun r h => ⟨fun c => (h c).2.2.2, sem_eq_zero_of_no_sems (by decide) r.2⟩) (PoolRefIdeal.Value.run m g)

theorem pool_algebraic : algebraic_PoolIdeal_PoolRefIdeal_pre_pool_finite := by
  intro m g m' g' hpre hargs
  refine ⟨_, _, _, PoolIdeal.Value.run_blocks m g, (θ_run _ _ _).mono (fun r h c => ?_) (PoolRefIdeal.Value.run m' g')⟩
  obtain ⟨h0, h1, h2, ha⟩ := h c
  obtain ⟨hz, hy, hw, hs⟩ := pool_real (hpre c)
  obtain ⟨a0, a1, a2, a3⟩ := hargs c
  have e0 : StableHlo.launchContents m' c (Proc.devRef .tc PoolRefIdeal.main_arg0) = m (c.tc.loc PoolIdeal.main_arg0) := a0
  have e1 : StableHlo.launchContents m' c (Proc.devRef .tc PoolRefIdeal.main_arg1) = m (c.tc.loc PoolIdeal.main_arg1) := a1
  have e2 : StableHlo.launchContents m' c (Proc.devRef .tc PoolRefIdeal.main_arg2) = m (c.tc.loc PoolIdeal.main_arg2) := a2
  have e3 : StableHlo.launchContents m' c (Proc.devRef .tc PoolRefIdeal.main_arg3) = m (c.tc.loc PoolIdeal.main_arg3) := a3
  refine ⟨h0.trans ?_, h1.trans ?_, h2.trans ?_, ha⟩
  · rw [PoolRefIdeal.Read.val_main_v249_eq, e1, e2, e3]
    refine Eq.trans (funext fun i => ?_) (PoolIdeal.Value.result8 m c hy hw hs).symm
    rw [eq_ix2 i]
    exact PoolRefIdeal.Val.v249 hy hw hs (i 0) (i 1)
  · rw [PoolRefIdeal.Read.val_main_v184_eq, e0, e1, e3]
    refine Eq.trans (funext fun i => ?_) (PoolIdeal.Value.result9 m c hz hy hs).symm
    rw [eq_ix3 i]
    exact PoolRefIdeal.Val.v184 hz hy hs (i 0) (i 1) (i 2)
  · rw [PoolRefIdeal.Read.val_main_v250_eq, e0, e1, e2]
    refine Eq.trans (funext fun i => ?_) (PoolIdeal.Value.result10 m c hz hy hw).symm
    have : i = ix2 0 (i 1) := (eq_ix2 i).trans (congrArg (fun a => ix2 a (i 1)) (Subsingleton.elim (α := Fin 1) _ _))
    rw [this]
    exact PoolRefIdeal.Val.v250 hz hy hw (i 1)

end Cert.Proof

end
-- ==== Proof.AttnFRow.lean ====
/-
  What a step of the attention's forward kernel leaves in its block, as functions of the blocks it reads: sixteen rows,
  each the probabilities of its window of keys times the window's values.
-/
module

public import proofs.«01_k».proof.Proof.Gen.AttnFIdeal.Value
public import proofs.«01_k».proof.Proof.AttnAcc

@[expose] public section

set_option maxRecDepth 16384

noncomputable section

namespace Cert.AttnFIdeal.Row

open Idealize.ShloMosaic Idealize.ShloMosaic.TcCoe Idealize.ShloMosaic.Tactic
open Cert.AttnFIdeal Cert.AttnFIdeal.Gen Cert
open Cert.AttnIdeal.Body (inb1 inb2 inbQ inbT qTile keyTile eTile sTile pTile)
open Cert.AttnIdeal.Row (key place shift prR)

variable {F : FTy → Type} [FloatOps F] [Named F]

/-- A tile read back from the sixteen written: the one written there. -/
theorem readCov_tiles {κ : Kind} {sp : Space} {e : EltTy} (v : View sig κ sp S16x64x512 e) (P : Fin 16 → Vec F S1x64x512 e) (n : Fin 16) :
    v.readCov (View.tilePieces (s := S16x64x512) S1x64x512.size (fun n : Fin 16 => ![n.val, 0, 0]) inbT P 16 (Nat.le_refl _)) (Rect.unit (s := S16x64x512) ![n.val, 0, 0] S1x64x512.size (inbT n)).toLoadRect = P n := by
  suffices key : ∀ (j : ℕ) (hj : j ≤ 16), n.val < j → v.readCov (View.tilePieces (s := S16x64x512) S1x64x512.size (fun n : Fin 16 => ![n.val, 0, 0]) inbT P j hj) (Rect.unit (s := S16x64x512) ![n.val, 0, 0] S1x64x512.size (inbT n)).toLoadRect = P n from
    key 16 (Nat.le_refl _) n.isLt
  have hd : ∀ a b : Fin 16, a ≠ b → LoadRect.disj (Rect.unit (s := S16x64x512) ![a.val, 0, 0] S1x64x512.size (inbT a)) (Rect.unit (s := S16x64x512) ![b.val, 0, 0] S1x64x512.size (inbT b)).toLoadRect = true := by
    decide +kernel
  intro j
  induction j with
  | zero => intro hj h; exact absurd h (Nat.not_lt_zero _)
  | succ j ih =>
    intro hj h
    rw [View.tilePieces_succ]
    rcases Nat.lt_or_ge n.val j with e | e
    · rw [View.readCov_skip]
      · exact ih _ e
      · exact hd ⟨j, hj⟩ n (fun q => e.ne' (congrArg Fin.val q))
    · obtain rfl : n = ⟨j, hj⟩ := Fin.ext (by dsimp only; omega)
      exact View.readCov_cons_toLoadRect v _ _ _

/-- The row of the result: the probabilities of the row times its window of values. -/
def oPay (i : grid0.Coords) (x0 : Vec F S1x1024x128 .bf16) (x1 x2 : Vec F S1x8192x128 .bf16) (x3 : Vec F S1x8x64x512 .f32) (n : Fin 16) : Vec F S1x64x128 .bf16 :=
  shapeCast S1x64x128 (truncf .bf16 (matmul dot_S64x512_S512x128_S64x128_1_0_0_1_n_n none
    (shapeCast S64x512 (pTile i x0 x1 x3 n) shapeCasts_S1x64x512_S64x512) (keyTile i n x2) (constant S64x128 .f32 0#32)) bitsLt_bf16_f32) shapeCasts_S64x128_S1x64x128

section Run

variable (c : Dev nD) (i : grid0.Coords) (arg2 : Memref sig .tc .vmem S1x1024x128 .bf16) (harg2 : arg2.IsWhole) (arg3 : Memref sig .tc .vmem S1x8192x128 .bf16) (harg3 : arg3.IsWhole)
  (arg4 : Memref sig .tc .vmem S1x8192x128 .bf16) (harg4 : arg4.IsWhole) (arg5 : Memref sig .tc .vmem S1x8x64x512 .f32) (harg5 : arg5.IsWhole)
  (arg6 : Memref sig .tc .vmem S1x1024x128 .bf16) (harg6 : arg6.IsWhole) (arg7 : Memref sig .tc .vmem S16x64x512 .f32) (harg7 : arg7.IsWhole) (arg8 : Memref sig .tc .vmem S16x64x512 .bf16) (harg8 : arg8.IsWhole)
variable (x0 : Vec F S1x1024x128 .bf16) (x1 x2 : Vec F S1x8192x128 .bf16) (x3 : Vec F S1x8x64x512 .f32)

/-! The tiles as the run reads them, through the buffers. -/

def rq (n : Fin 16) : Vec F S64x128 .bf16 := shapeCast S64x128 (View.readAt (Elt F) arg2.view (Rect.unit (s := S1x1024x128) ![0, 64 * n.val, 0] S1x64x128.size (inbQ n)).toLoadRect (harg2.unread x0)) shapeCasts_S1x64x128_S64x128
def rk (n : Fin 16) : Vec F S512x128 .bf16 := shapeCast S512x128 (View.readAt (Elt F) arg3.view (Rect.unit (s := S1x8192x128) (AttnIdeal.k0_off1 i (BitVec.ofNat 32 n.val)) S1x512x128.size (inb1 i n)).toLoadRect (harg3.unread x1)) shapeCasts_S1x512x128_S512x128
def re (n : Fin 16) : Vec F S1x1x64x512 .f32 := View.readAt (Elt F) arg5.view (Rect.unit (s := S1x8x64x512) (AttnIdeal.k0_off2 i (BitVec.ofNat 32 n.val)) S1x1x64x512.size (inb2 i n)).toLoadRect (harg5.unread x3)

theorem rq_eq (n : Fin 16) : rq arg2 harg2 x0 n = qTile x0 n := congrArg (fun z => shapeCast S64x128 z shapeCasts_S1x64x128_S64x128) (funext fun y => harg2.readAt_unread x0 _ y)
theorem rk_eq (n : Fin 16) : rk i arg3 harg3 x1 n = keyTile i n x1 := congrArg (fun z => shapeCast S512x128 z shapeCasts_S1x512x128_S512x128) (funext fun y => harg3.readAt_unread x1 _ y)
theorem re_eq (n : Fin 16) : re i arg5 harg5 x3 n = eTile i x3 n := by
  unfold re eTile; exact funext fun y => harg5.readAt_unread x3 _ y

def rs (n : Fin 16) : Vec F S1x64x512 .f32 :=
  shapeCast S1x64x512 (matmul dot_S64x128_S512x128_S64x512_1_1_0_0_n_n none (rq arg2 harg2 x0 n) (rk i arg3 harg3 x1 n) (constant S64x512 .f32 0#32)) shapeCasts_S64x512_S1x64x512
theorem rs_eq (n : Fin 16) : rs i arg2 harg2 arg3 harg3 x0 x1 n = sTile i x0 x1 n := by
  unfold rs sTile; rw [rq_eq, rk_eq]; rfl

abbrev tilesOf {e : EltTy} (P : Fin 16 → Vec F S1x64x512 e) : List (View.Piece (Elt F) S16x64x512 e) :=
  View.tilePieces (s := S16x64x512) S1x64x512.size (fun n : Fin 16 => ![n.val, 0, 0]) inbT P 16 (Nat.le_refl _)
abbrev tileRect (n : Fin 16) : LoadRect S16x64x512 := (Rect.unit (s := S16x64x512) ![n.val, 0, 0] S1x64x512.size (inbT n)).toLoadRect

def rp (n : Fin 16) : Vec F S1x64x512 .bf16 :=
  AttnIdeal.Gen.k0_pay50 AttnIdeal.Gen.k0_pay4 (shapeCast S64x512 (arg7.view.readCov (tilesOf (rs i arg2 harg2 arg3 harg3 x0 x1)) (tileRect n)) shapeCasts_S1x64x512_S64x512) (re i arg5 harg5 x3 n)
theorem rp_eq (n : Fin 16) : rp i arg2 harg2 arg3 harg3 arg5 harg5 arg7 x0 x1 x3 n = pTile i x0 x1 x3 n := by
  unfold rp pTile; rw [readCov_tiles, rs_eq, re_eq]

def roPay (n : Fin 16) : Vec F S1x64x128 .bf16 :=
  shapeCast S1x64x128 (truncf .bf16 (matmul dot_S64x512_S512x128_S64x128_1_0_0_1_n_n none
    (shapeCast S64x512 (arg8.view.readCov (tilesOf (rp i arg2 harg2 arg3 harg3 arg5 harg5 arg7 x0 x1 x3)) (tileRect n)) shapeCasts_S1x64x512_S64x512)
    (rk i arg4 harg4 x2 n) (constant S64x128 .f32 0#32)) bitsLt_bf16_f32) shapeCasts_S64x128_S1x64x128
theorem roPay_eq : roPay i arg2 harg2 arg3 harg3 arg4 harg4 arg5 harg5 arg7 arg8 x0 x1 x2 x3 = oPay i x0 x1 x2 x3 := by
  funext n; unfold roPay oPay; rw [readCov_tiles, rp_eq, rk_eq]

/-- The pieces of the block: one per row. -/
theorem run_o : (kernelRun0_A c i arg2 harg2 arg3 harg3 arg4 harg4 arg5 harg5 arg6 harg6 arg7 harg7 arg8 harg8 x0 x1 x2 x3).1
    = View.tilePieces (s := S1x1024x128) S1x64x128.size (fun n : Fin 16 => ![0, 64 * n.val, 0]) inbQ (oPay i x0 x1 x2 x3) 16 (Nat.le_refl _) := by
  rw [← roPay_eq i arg2 harg2 arg3 harg3 arg4 harg4 arg5 harg5 arg7 arg8 x0 x1 x2 x3]
  sl_kernel_rfl

end Run

section Real

variable (c : Dev nD) (i : grid0.Coords) (arg2 : Memref sig .tc .vmem S1x1024x128 .bf16) (harg2 : arg2.IsWhole) (arg3 : Memref sig .tc .vmem S1x8192x128 .bf16) (harg3 : arg3.IsWhole)
  (arg4 : Memref sig .tc .vmem S1x8192x128 .bf16) (harg4 : arg4.IsWhole) (arg5 : Memref sig .tc .vmem S1x8x64x512 .f32) (harg5 : arg5.IsWhole)
  (arg6 : Memref sig .tc .vmem S1x1024x128 .bf16) (harg6 : arg6.IsWhole) (arg7 : Memref sig .tc .vmem S16x64x512 .f32) (harg7 : arg7.IsWhole) (arg8 : Memref sig .tc .vmem S16x64x512 .bf16) (harg8 : arg8.IsWhole)
variable {x0 : Vec Ideal S1x1024x128 .bf16} {x1 x2 : Vec Ideal S1x8192x128 .bf16} {x3 : Vec Ideal S1x8x64x512 .f32}
variable {Q : Fin 1024 → Fin 128 → ℝ} {K V : Fin 8192 → Fin 128 → ℝ} {E : Fin 8 → Fin 64 → Fin 512 → ℝ}
variable (h0 : ∀ l d, x0 (ix3 0 l d) = (Q l d : EReal)) (h1 : ∀ l d, x1 (ix3 0 l d) = (K l d : EReal)) (h2 : ∀ l d, x2 (ix3 0 l d) = (V l d : EReal))
  (h3 : ∀ a q j, x3 (ix4 0 a q j) = (E a q j : EReal))

include h0 h1 h2 h3 in
theorem oPay_apply (n : Fin 16) (q : Fin 64) (d : Fin 128) :
    oPay i x0 x1 x2 x3 n (ix3 0 q d) = ((∑ j, prR i n Q K E q j * V (key (16 * (i 1).val + n.val) j) d : ℝ) : EReal) := by
  have hp := AttnIdeal.Row.pTile_apply i n h0 h1 h3
  have hk := AttnIdeal.Row.keyTile_apply i n x2
  pointwise [oPay]
  simp only [hp, hk, h2, Reals.mul, Reals.sum]

include h0 h1 h2 h3 in
theorem out_apply (n : Fin 16) (q : Fin 64) (d : Fin 128) :
    out0_A_4 c i arg2 harg2 arg3 harg3 arg4 harg4 arg5 harg5 arg6 harg6 arg7 harg7 arg8 harg8 x0 x1 x2 x3 (ix3 0 (place n q) d)
      = ((∑ j, prR i n Q K E q j * V (key (16 * (i 1).val + n.val) j) d : ℝ) : EReal) := by
  unfold out0_A_4
  rw [run_o]
  refine (View.read_tilePieces VO0_4 _ S1x64x128.size _ inbQ _ 16 (Nat.le_refl _) _ n n.isLt (ix3 0 q d) (fun b => match b with | 0 => rfl | 1 => rfl | 2 => (Nat.zero_add _).symm) 1 ?_).trans (oPay_apply i h0 h1 h2 h3 n q d)
  intro n' hn'
  have : n'.val ≠ n.val := fun e => hn' (Fin.ext e)
  show 64 * n.val + q.val < 64 * n'.val ∨ 64 * n'.val + 64 ≤ 64 * n.val + q.val
  omega

end Real

end Cert.AttnFIdeal.Row

end
-- ==== Proof.AttnFOut.lean ====
/-
  The result of the attention's forward kernel as real numbers, from the arguments; and that it is the sum over all keys
  that `reference.py` takes.
-/
module

public import proofs.«01_k».proof.Proof.AttnFRow
public import proofs.«01_k».proof.Proof.AttnLink

@[expose] public section

set_option maxRecDepth 16384

noncomputable section

namespace Cert.AttnFIdeal.Out

open Idealize.ShloMosaic Idealize.ShloMosaic.TcCoe Idealize.SL.Sem
open Cert.AttnFIdeal Cert.AttnFIdeal.Gen Cert
open Cert.AttnIdeal.Row (key place shift prR)
open Cert.AttnIdeal.Final (posn hQ hK hV P heads tables ix3_0 at3)
open Idealize.ShloMosaic.Pipeline (Dat)

theorem idx : ∀ t : Fin cfg0.N, win0_0.index t = ![t.val / 8, t.val % 8, 0] ∧ win0_1.index t = ![8 + t.val / 8, 0, 0] ∧ win0_2.index t = ![16 + t.val / 8, 0, 0]
    ∧ win0_3.index t = ![t.val / 8, 0, 0, 0] ∧ win0_4.index t = ![t.val / 8, t.val % 8, 0] :=
  (by decide +kernel : ∀ t : Fin grid0.N, _)

theorem coord (t : Fin cfg0.N) : (grid0.coords t 1).val = t.val % 8 := by
  have e1 : (grid0.coords t 1).val = t.val / 1 % 8 := Pipeline.Grid.coords_val t 1 (by decide) rfl
  rw [e1, Nat.div_one]

theorem lt64 (t : Fin cfg0.N) : t.val < 64 := lt_of_lt_of_eq t.isLt N_0

/-- The head of a step. -/
abbrev hd (t : Fin cfg0.N) : Fin 8 := ⟨t.val / 8, by have := lt64 t; omega⟩

/-- Position `l` of the block of a step. -/
def inStep (t : Fin cfg0.N) (l : Fin 1024) : Fin 8192 := ⟨1024 * (t.val % 8) + l.val, by omega⟩

theorem inStep_place (t : Fin cfg0.N) (n : Fin 16) (q : Fin 64) : inStep t (place n q) = posn (16 * (t.val % 8) + n.val) q :=
  Fin.ext (by unfold inStep place posn; dsimp only; omega)

section Rows

variable (Z : Fin 24 → Fin 8192 → Fin 128 → ℝ) (E : Fin 8 → Fin 8 → Fin 64 → Fin 512 → ℝ)

/-- Row `r` of head `h` of the result. -/
def rO (h : Fin 8) (r : ℕ) (q : Fin 64) (d : Fin 128) : ℝ := ∑ j, P Z E h r q j * hV Z h (key r j) d
/-- The result over the whole array. -/
def gO (h : Fin 8) (l : Fin 8192) (d : Fin 128) : ℝ := rO Z E h (l.val / 64) ⟨l.val % 64, Nat.mod_lt _ (by decide)⟩ d

end Rows

section Arrays

variable (m : (ℓ : Loc nD τ sig) → Buf (Elt Ideal) ℓ) (c : Dev nD)
variable {Z : Fin 24 → Fin 8192 → Fin 128 → ℝ} {E : Fin 8 → Fin 8 → Fin 64 → Fin 512 → ℝ}
variable (hz : ∀ g l d, (V m c main_v1 : FVec Ideal S24x8192x128 .bf16) (ix3 g l d) = (Z g l d : EReal))
  (he : ∀ h a q j, (V m c main_v46 : FVec Ideal S8x8x64x512 .f32) (ix4 h a q j) = (E h a q j : EReal))
variable (t : Fin cfg0.N)

include hz in
theorem blk0 (l : Fin 1024) (d : Fin 128) : (iblk m c 0 t : Vec Ideal S1x1024x128 .bf16) (ix3 0 l d) = (hQ Z (hd t) (inStep t l) d : EReal) := by
  rw [hQ, ← hz]
  blk_ext! [iblk, V, idx t]
  all_goals (try unfold inStep); (try dsimp only); (try omega)
include hz in
theorem blk1 (l : Fin 8192) (d : Fin 128) : (iblk m c 1 t : Vec Ideal S1x8192x128 .bf16) (ix3 0 l d) = (hK Z (hd t) l d : EReal) := by
  rw [hK, ← hz]
  blk_ext! [iblk, V, idx t]
include hz in
theorem blk2 (l : Fin 8192) (d : Fin 128) : (iblk m c 2 t : Vec Ideal S1x8192x128 .bf16) (ix3 0 l d) = (hV Z (hd t) l d : EReal) := by
  rw [hV, ← hz]
  blk_ext! [iblk, V, idx t]
include he in
theorem blk3 (a : Fin 8) (q : Fin 64) (j : Fin 512) : (iblk m c 3 t : Vec Ideal S1x8x64x512 .f32) (ix4 0 a q j) = (E (hd t) a q j : EReal) := by
  rw [← he]
  blk_ext! [iblk, V, idx t]

theorem P_of (n : Fin 16) (q : Fin 64) (j : Fin 512) :
    prR (grid0.coords t) n (fun l => hQ Z (hd t) (inStep t l)) (hK Z (hd t)) (E (hd t)) q j = P Z E (hd t) (16 * (t.val % 8) + n.val) q j := by
  have e : ((grid0.coords t : AttnIdeal.grid0.Coords) 1).val = t.val % 8 := coord t
  unfold prR P
  simp only [e, inStep_place]

include hz he in
theorem step (n : Fin 16) (q : Fin 64) (d : Fin 128) :
    outsAt0 m c t (ix3 0 (place n q) d) = ((rO Z E (hd t) (16 * (t.val % 8) + n.val) q d : ℝ) : EReal) := by
  unfold outsAt0
  refine (Row.out_apply c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (blk0 m c hz t) (blk1 m c hz t) (blk2 m c hz t) (blk3 m c he t) n q d).trans (Reals.congr ?_)
  simp only [P_of, coord, rO]

include hz he in
theorem outs_apply (l : Fin 1024) (d : Fin 128) : outsAt0 m c t (ix3 0 l d) = ((gO Z E (hd t) (inStep t l) d : ℝ) : EReal) := by
  have e : l = place ⟨l.val / 64, by omega⟩ ⟨l.val % 64, Nat.mod_lt _ (by decide)⟩ := Fin.ext (by unfold place; dsimp only; omega)
  have e1 : (inStep t l).val / 64 = 16 * (t.val % 8) + l.val / 64 := by unfold inStep; dsimp only; omega
  have e2 : (⟨(inStep t l).val % 64, Nat.mod_lt _ (by decide)⟩ : Fin 64) = ⟨l.val % 64, Nat.mod_lt _ (by decide)⟩ := Fin.ext (by unfold inStep; dsimp only; omega)
  rw [gO, e1, e2]
  exact (congrArg (fun z => outsAt0 m c t (ix3 0 z d)) e).trans (step m c hz he t _ _ d)

include hz he in
theorem final4 : (dats m 0 c).arrAt 4 cfg0.N = fun i : S8x8192x128.Idx => ((gO Z E (i 0) (i 1) (i 2) : ℝ) : EReal) := by
  refine (dats m 0 c).arrAt_eq_of_covers 4 _ (by decide +kernel) fun t _ y => ?_
  blk_simp
  rw [after0_4]
  refine ((congrArg (outsAt0 m c t) (ix3_0 y)).trans (outs_apply m c hz he t (y 1) (y 2))).trans (Reals.congr (at3 (gO Z E) ?_ ?_ ?_))
  · blk_simp [idx t]; (try have : (y 0).val < 1 := (y 0).isLt); (try unfold hd); (try dsimp only); (try omega)
  · blk_simp [idx t]; unfold inStep; (try dsimp only); omega
  · blk_simp [idx t]; (try omega)

theorem V_v1 : V m c main_v1 = transpose S24x8192x128 [1, 0, 2] (shapeCast S8192x24x128 (m ((c : Thread nD τ).loc main_arg0) : FVec Ideal S8192x3072 .bf16) shapeCasts_S8192x3072_S8192x24x128) transposes_S8192x24x128_S24x8192x128_1_0_2 := by
  after_reads_simp
  rfl
theorem V_v46 : V m c main_v46 = shapeCast S8x8x64x512 (AttnIdeal.Host.spread (m ((c : Thread nD τ).loc main_arg1))) shapeCasts_S8x8x64x8x64_S8x8x64x512 := by
  after_reads_simp
  rfl

variable {X : Fin 8192 → Fin 3072 → ℝ} {R : Fin 8 → Fin 15 → Fin 31 → ℝ}
  (hx : ∀ l d, (m ((c : Thread nD τ).loc main_arg0) : FVec Ideal S8192x3072 .bf16) (ix2 l d) = (X l d : EReal))
  (hr : ∀ h a b, (m ((c : Thread nD τ).loc main_arg1) : FVec Ideal S8x15x31 .f32) (ix3 h a b) = (R h a b : EReal))

include hx in
theorem arr_qkv (g : Fin 24) (l : Fin 8192) (d : Fin 128) : (V m c main_v1 : FVec Ideal S24x8192x128 .bf16) (ix3 g l d) = (heads X g l d : EReal) := by
  rw [V_v1, heads, ← hx]
  pointwise []
  exact congrArg (fun z => (m ((c : Thread nD τ).loc main_arg0) : FVec Ideal S8192x3072 .bf16) (ix2 l z)) (Fin.ext (by dsimp only; omega))
include hr in
theorem arr_e (h a : Fin 8) (q : Fin 64) (j : Fin 512) : (V m c main_v46 : FVec Ideal S8x8x64x512 .f32) (ix4 h a q j) = (tables R h a q j : EReal) := by
  rw [V_v46, tables, ← AttnIdeal.Host.spread_apply hr h a q ⟨j.val / 64, by omega⟩]
  pointwise []

end Arrays

/-- The sum over the window is the sum over all keys. -/
theorem gO_eq (X : Fin 8192 → Fin 3072 → ℝ) (R : Fin 8 → Fin 15 → Fin 31 → ℝ) (h : Fin 8) (l : Fin 8192) (d : Fin 128) :
    gO (heads X) (tables R) h l d = ∑ k, hV (heads X) h k d * AttnRefIdeal.Val.P X R h l k := by
  have hr : l.val / 64 < 128 := by omega
  have e : l = posn (l.val / 64) ⟨l.val % 64, Nat.mod_lt _ (by decide)⟩ := Fin.ext (by rw [AttnLink.posn_val hr]; dsimp only; omega)
  have g : ∑ k, hV (heads X) h k d * AttnRefIdeal.Val.P X R h (posn (l.val / 64) ⟨l.val % 64, Nat.mod_lt _ (by decide)⟩) k = gO (heads X) (tables R) h l d := by
    rw [AttnLink.sum_window _ _ (fun k hk => by rw [AttnLink.P_off X R hr h _ hk, mul_zero])]
    unfold gO rO
    exact Finset.sum_congr rfl fun j _ => by rw [AttnLink.P_eq X R hr, mul_comm]
  rw [← g, ← e]

end Cert.AttnFIdeal.Out

end
-- ==== Proof.AttnFRefVal.lean ====
/-
  `reference.py`'s attention at an index, over the real numbers. Its lines up to the scores are those the derivative starts
  from, so what is known of them there holds here.
-/
module

public import proofs.«01_k».proof.Proof.Gen.AttnFRefIdeal.Read
public import proofs.«01_k».proof.Proof.AttnRefGrad

@[expose] public section

set_option maxRecDepth 16384

noncomputable section

namespace Cert.AttnFRefIdeal.Val

open Idealize.ShloMosaic Idealize.ShloMosaic.TcCoe
open Cert.AttnFRefIdeal Cert.AttnFRefIdeal.Gen Cert.AttnFRefIdeal.Read Cert
open Cert.AttnIdeal.Final (hQ hK hV heads)
open Cert.AttnRefIdeal.Val (near near_some S P)

variable {x0 : FVec Ideal S8192x3072 .bf16} {x1 : FVec Ideal S8x15x31 .f32}
  {X : Fin 8192 → Fin 3072 → ℝ} {R : Fin 8 → Fin 15 → Fin 31 → ℝ}
  (hx : ∀ l d, x0 (ix2 l d) = (X l d : EReal)) (hr : ∀ h a b, x1 (ix3 h a b) = (R h a b : EReal))

theorem v4_eq : val_main_v4 (F := Ideal) x0 = AttnRefIdeal.Read.val_main_v4 (F := Ideal) x0 := rfl
theorem v83_eq : val_main_v83 (F := Ideal) x0 x1 = AttnRefIdeal.Read.val_main_v86_0 (F := Ideal) x0 x1 := rfl
theorem v86_eq : val_main_v86 (F := Ideal) x0 x1 = AttnRefIdeal.Read.val_main_v94 (F := Ideal) x0 x1 := rfl

section Max

variable {h : Fin 8} {i : Fin 8192} {r : ℝ} (hm : val_main_v86 (F := Ideal) x0 x1 (ix2 h i) = (r : EReal))

include hx hr hm in
theorem v90 (k : Fin 8192) : val_main_v90 (F := Ideal) x0 x1 (ix3 h i k) = (Soft.ex (near i) (S X R h i) r k : EReal) := by
  have e : val_main_v83 (F := Ideal) x0 x1 (ix3 h i k) = Soft.score (near i) (S X R h i) k := by
    rw [v83_eq]; exact AttnRefIdeal.Val.v86_0 hx hr h i k
  pointwise [val_main_v90, val_main_v89, val_main_v88, val_main_v87]
  rw [e, hm]
  exact Soft.exp_score _ _ _ _

end Max

include hx hr in
/-- The probabilities. -/
theorem v94 (h : Fin 8) (i k : Fin 8192) : val_main_v94 (F := Ideal) x0 x1 (ix3 h i k) = (P X R h i k : EReal) := by
  obtain ⟨r, hm⟩ : ∃ r : ℝ, val_main_v86 (F := Ideal) x0 x1 (ix2 h i) = (r : EReal) := by
    rw [v86_eq]; exact AttnRefIdeal.Val.v94 hx hr h i
  have e := v90 hx hr hm
  pointwise [val_main_v94, val_main_v93, val_main_v92, val_main_v91, val_main_cst_24]
  simp only [e, Reals.sum]
  rw [Reals.div AttnRefIdeal.Val.sum_ne, Soft.soft_shift]
  rfl

include hx hr in
/-- The result. -/
theorem v98 (h : Fin 8) (l : Fin 8192) (d : Fin 128) :
    val_main_v98 (F := Ideal) x0 x1 (ix3 h l d) = ((∑ k, hV (heads X) h k d * P X R h l k : ℝ) : EReal) := by
  have e := v94 hx hr
  have e' : ∀ k, val_main_v4 (F := Ideal) x0 (ix3 k h d) = (hV (heads X) h k d : EReal) := fun k => by
    rw [v4_eq]; exact AttnRefIdeal.Val.v4 hx k h d
  pointwise [val_main_v98, val_main_v97, val_main_v96, val_main_v95]
  simp only [e, e', Reals.mul, Reals.sum]

end Cert.AttnFRefIdeal.Val

end
-- ==== Proof.AttnFClaim.lean ====
/-
  The attention's forward kernel and `reference.py`'s attention leave the same result, where the arguments are finite.
-/
module

public import proofs.«01_k».proof.Defs
public import proofs.«01_k».proof.Proof.AttnFOut
public import proofs.«01_k».proof.Proof.AttnFRefVal
public import proofs.«01_k».proof.Proof.Gen.Pre_attnf_finite
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.AttnFIdeal.Out (arr_qkv arr_e)

/-- An array whose absolute value is below infinity everywhere is a real number everywhere. -/
theorem attnf_real {x : FVec Ideal ⟨2, ![8192, 3072]⟩ .bf16} {b : FVec Ideal ⟨3, ![8, 15, 31]⟩ .f32}
    (h : (Pre_attnf_finite.fn (F := Ideal) x b).1 = (fun _ => 1#1) ∧ (Pre_attnf_finite.fn (F := Ideal) x b).2 = (fun _ => 1#1)) :
    (∀ l d, x (ix2 l d) = ((x (ix2 l d)).toReal : EReal)) ∧ (∀ i p k, b (ix3 i p k) = ((b (ix3 i p k)).toReal : EReal)) :=
  ⟨fun p d => Reals.eq_coe (Reals.finite_of_lt (congrFun h.1 (ix2 p d))),
    fun i p k => Reals.eq_coe (Reals.finite_of_lt (congrFun h.2 (ix3 i p k)))⟩

/-- The reference is host code alone: it declares no semaphore. -/
theorem attnfRef_frame : quiescent_AttnFRefIdeal := fun m g _ => (θ_run _ _ _).mono
  (fun r h => ⟨fun c => (h c).2, sem_eq_zero_of_no_sems (by decide) r.2⟩) (AttnFRefIdeal.Value.run m g)

theorem attnf_preserves : preserves_AttnF_AttnFIdeal :=
  ⟨IdealRules.named_const.statement AttnFIdeal.κ "s" .f32 0x3DB504F3#32 (((Real.sqrt 128)⁻¹ : ℝ) : EReal) rfl,
    IdealRules.named_const.statement AttnFIdeal.κ "mask" .f32 0xF149F2CA#32 ⊥ rfl⟩

theorem attnf_algebraic : algebraic_AttnFIdeal_AttnFRefIdeal_pre_attnf_finite := by
  intro m g m' g' hpre hargs
  refine ⟨_, AttnFIdeal.Value.run_blocks m g, (θ_run _ _ _).mono (fun r h c => ?_) (AttnFRefIdeal.Value.run m' g')⟩
  obtain ⟨h0, ha⟩ := h c
  obtain ⟨hx, hb⟩ := attnf_real (hpre c)
  obtain ⟨e0, e1⟩ := hargs c
  refine ⟨h0.trans ?_, ha⟩
  rw [AttnFRefIdeal.Read.val_main_v98_eq, e0, e1]
  refine Eq.trans (funext fun i => ?_) (AttnFIdeal.Out.final4 m c (arr_qkv m c hx) (arr_e m c hb)).symm
  exact (congrArg _ (eq_ix3 i)).trans ((AttnFRefIdeal.Val.v98 hx hb (i 0) (i 1) (i 2)).trans (Reals.congr (AttnFIdeal.Out.gO_eq _ _ _ _ _).symm))

end Cert.Proof

end
-- ==== Proof.RowRms.lean ====
/-
  The root-mean-square norm of a row of extended real numbers. The kernels and the reference write it in the same way, so
  nothing need be known of the row.
-/
module

public import Idealize.ShloMosaic.Lib.Pointwise

@[expose] public section

noncomputable section

namespace Cert.RowRms

open Idealize.ShloMosaic

/-- One over the root of the mean square plus a small constant; `N` is the row's length. -/
def factor {n : ℕ} (N : EReal) (x : Fin n → EReal) : EReal :=
  Ideal.rsqrt (Ideal.div (∑ k, x k * x k) N + Ideal.ofBits .f32 0x358637BD#32)

/-- A row of 2048, normed and times the gains. -/
def normed (x g : Fin 2048 → EReal) (d : Fin 2048) : EReal := x d * factor (Ideal.ofBits .f32 0x45000000#32) x * g d

end Cert.RowRms

end
-- ==== Proof.SgFOut.lean ====
/-
  The spatial gating's forward kernel: what the body computes for one head, and its result array. All
  four heads run the same operations; each grid point works on one window of 128 positions.
-/
module

public import proofs.«01_k».proof.Proof.SgFinal
public import proofs.«01_k».proof.Proof.RowRms
public import proofs.«01_k».proof.Proof.Gen.SgFIdeal.Value
public import Idealize.ShloMosaic.Lib.Pipeline.ValueKit
public import Idealize.ShloMosaic.Lib.Pointwise

@[expose] public section

set_option maxRecDepth 16384

noncomputable section

namespace Cert.SgFIdeal.Value

open Cert.SgFIdeal Cert.SgFIdeal.Gen Idealize.ShloMosaic Idealize.ShloMosaic.TcCoe Idealize.SL.Sem
open Cert.SgIdeal.Value (hd col wnd pos at_head at_window)
open Idealize.ShloMosaic.Pipeline (Dat)

section Math

/-- The gate's nonlinearity. -/
def gel (x : EReal) : EReal := Ideal.ofBits .f32 0x3F000000#32 * x * (1 + Ideal.erf (x * ((Gelu.c : ℝ) : EReal)))

/-- The mixed half of one window and head with its bias, from its values, gains, mixing matrix and biases. -/
def mix (v : Fin 128 → Fin 128 → EReal) (g : Fin 128 → EReal) (w : Fin 128 → Fin 128 → EReal) (b : Fin 128 → EReal) (p d : Fin 128) : EReal :=
  (∑ k, w p k * (gel (v k d) * RowRms.factor (Ideal.ofBits .f32 0x43000000#32) (fun j => gel (v k j)) * g d)) + b p

/-- Window `t` and head `h` of the gated half, of the other half, and the head's gains. -/
def wU (Z : Fin 8192 → Fin 1536 → EReal) (t : Fin 64) (h : Fin 4) (p d : Fin 128) : EReal :=
  Z ⟨128 * t.val + p.val, by omega⟩ ⟨128 * h.val + d.val, by omega⟩
@[inherit_doc wU]
def wV (Z : Fin 8192 → Fin 1536 → EReal) (t : Fin 64) (h : Fin 4) (p d : Fin 128) : EReal :=
  Z ⟨128 * t.val + p.val, by omega⟩ ⟨512 + (128 * h.val + d.val), by omega⟩
@[inherit_doc wU]
def wG (G : Fin 512 → EReal) (h : Fin 4) (d : Fin 128) : EReal := G ⟨128 * h.val + d.val, by omega⟩

/-- The gated half in window `t` for head `h`. -/
def gated (Z : Fin 8192 → Fin 1536 → EReal) (G : Fin 512 → EReal) (W : Fin 4 → Fin 128 → Fin 128 → EReal) (B : Fin 4 → Fin 128 → EReal)
    (t : Fin 64) (h : Fin 4) (p d : Fin 128) : EReal :=
  gel (wU Z t h p d) * mix (wV Z t h) (wG G h) (W h) (B h) p d

end Math

section Tile

variable (u v : Vec Ideal S128x128 .bf16) (g : Vec Ideal S1x128 .f32) (w : Vec Ideal S1x128x128 .bf16) (b : Vec Ideal S1x128x128 .f32)

/-- One head's tile of the result. -/
def tile : FVec Ideal S128x128 .bf16 := k0_pay8 (k0_pay7 v g w b) u

theorem named_c : (Named.named κ "inv_sqrt2" 0x3F3504F3#32 : Ideal .f32) = ((Gelu.c : ℝ) : EReal) := rfl

variable {u v g w b} {U V : Fin 128 → Fin 128 → EReal} {G : Fin 128 → EReal} {W : Fin 128 → Fin 128 → EReal} {B : Fin 128 → EReal}
  (hu : ∀ p d, u (ix2 p d) = U p d) (hv : ∀ p d, v (ix2 p d) = V p d) (hg : ∀ d, g (ix2 0 d) = G d)
  (hw : ∀ p k, w (ix3 0 p k) = W p k) (hb : ∀ p d, b (ix3 0 p d) = B p)

include hv hg hw hb in
/-- The mixed half with its bias. -/
theorem mixed (p d : Fin 128) : k0_pay7 v g w b (ix2 p d) = mix V G W B p d := by
  have er : ∀ x : EReal, (FloatOps.erf x : Ideal .f32) = Ideal.erf x := fun _ => rfl
  pointwise [k0_pay7]
  simp only [hv, hg, hw, hb, named_c, er]
  rfl

include hu hv hg hw hb in
/-- The tile of the result. -/
theorem tile_apply (p d : Fin 128) : tile u v g w b (ix2 p d) = gel (U p d) * mix V G W B p d := by
  unfold tile
  pointwise [k0_pay8]
  simp only [hu, mixed hv hg hw hb, named_c]
  rfl

end Tile

section Arrays

variable (m : (ℓ : Loc nD τ sig) → Buf (Elt Ideal) ℓ)

theorem idx : ∀ t : Fin cfg0.N, win0_0.index t = ![t.val, 0] ∧ win0_1.index t = ![t.val, 1] ∧ win0_2.index t = ![0, 0, 0]
    ∧ win0_3.index t = ![0, 0, 0] ∧ win0_4.index t = ![0, 0] ∧ win0_5.index t = ![t.val, 0] :=
  (by decide +kernel : ∀ t : Fin grid0.N, _)

variable (c : Dev nD) {Z : Fin 8192 → Fin 1536 → EReal} {G : Fin 512 → EReal} {W : Fin 4 → Fin 128 → Fin 128 → EReal} {B : Fin 4 → Fin 128 → EReal}
  (hz : ∀ p d, (m ((c : Thread nD τ).loc main_arg0) : FVec Ideal S8192x1536 .bf16) (ix2 p d) = Z p d)
  (hg : ∀ d, (m ((c : Thread nD τ).loc main_arg1) : FVec Ideal S512 .f32) (ix1 d) = G d)
  (hw : ∀ h p k, (m ((c : Thread nD τ).loc main_arg2) : FVec Ideal S4x128x128 .f32) (ix3 h p k) = W h p k)
  (hb : ∀ h p, (m ((c : Thread nD τ).loc main_arg3) : FVec Ideal S4x128 .f32) (ix2 h p) = B h p)

/-- A grid point's number. -/
abbrev num (t : Fin cfg0.N) : Fin 64 := ⟨t.val, lt_of_lt_of_eq t.isLt N_0⟩

variable (t : Fin cfg0.N) (h : Fin 4) {o k : ℕ} (ho : o = 128 * h.val) (hk : k = h.val)

include hz ho in
theorem blk_u (inb) (p d : Fin 128) : View.ld (iblk m c 0 t : Vec Ideal S128x512 .bf16) (Rect.unit ![0, o] ![128, 128] inb) (ix2 p d)
    = wU Z (num t) h p d := by
  subst ho
  refine (View.ld_unit_apply_of _ _ _ _ _ (ix2 p ⟨128 * h.val + d.val, by omega⟩) fun a => ?_).trans ?_
  · fin_cases a
    · show p.val = 0 + p.val; omega
    · rfl
  · rw [wU, ← hz]
    blk_ext [iblk, V, idx t]

include hz ho in
theorem blk_v (inb) (p d : Fin 128) : View.ld (iblk m c 1 t : Vec Ideal S128x512 .bf16) (Rect.unit ![0, o] ![128, 128] inb) (ix2 p d)
    = wV Z (num t) h p d := by
  subst ho
  refine (View.ld_unit_apply_of _ _ _ _ _ (ix2 p ⟨128 * h.val + d.val, by omega⟩) fun a => ?_).trans ?_
  · fin_cases a
    · show p.val = 0 + p.val; omega
    · rfl
  · rw [wV, ← hz]
    blk_ext [iblk, V, idx t]

include hg ho in
theorem blk_g (inb) (d : Fin 128) : View.ld (iblk m c 4 t : Vec Ideal S1x512 .f32) (Rect.unit ![0, o] ![1, 128] inb) (ix2 0 d)
    = wG G h d := by
  subst ho
  refine (View.ld_unit_apply_of _ _ _ _ _ (ix2 0 ⟨128 * h.val + d.val, by omega⟩) fun a => ?_).trans ?_
  · fin_cases a <;> rfl
  · rw [wG, ← hg]
    blk_ext! [iblk, V, idx t]

include hw hk in
theorem blk_w (inb) (p q : Fin 128) :
    View.ld (iblk m c 2 t : Vec Ideal S4x128x128 .bf16) (Rect.unit ![k, 0, 0] ![1, 128, 128] inb) (ix3 0 p q) = W h p q := by
  subst hk
  refine (View.ld_unit_apply_of _ _ _ _ _ (ix3 h p q) fun a => ?_).trans ?_
  · fin_cases a
    · rfl
    · show p.val = 0 + p.val; omega
    · show q.val = 0 + q.val; omega
  · rw [← hw]
    blk_ext! [iblk, V, idx t]

include hb hk in
theorem blk_b (inb) (p q : Fin 128) :
    View.ld (iblk m c 3 t : Vec Ideal S4x128x128 .f32) (Rect.unit ![k, 0, 0] ![1, 128, 128] inb) (ix3 0 p q) = B h p := by
  subst hk
  refine (View.ld_unit_apply_of _ _ _ _ _ (ix3 h p q) fun a => ?_).trans ?_
  · fin_cases a
    · rfl
    · show p.val = 0 + p.val; omega
    · show q.val = 0 + q.val; omega
  · rw [← hb]
    blk_ext! [iblk, V, idx t]

include hz hg hw hb ho hk in
theorem piece (i i' j l l') (x : S128x128.Idx) (y : S128x512.Idx) (h0 : (y 0).val = (x 0).val) (h1 : (y 1).val = o + (x 1).val) :
    tile (View.ld (iblk m c 0 t : Vec Ideal S128x512 .bf16) (Rect.unit ![0, o] ![128, 128] i))
      (View.ld (iblk m c 1 t : Vec Ideal S128x512 .bf16) (Rect.unit ![0, o] ![128, 128] i'))
      (View.ld (iblk m c 4 t : Vec Ideal S1x512 .f32) (Rect.unit ![0, o] ![1, 128] j))
      (View.ld (iblk m c 2 t : Vec Ideal S4x128x128 .bf16) (Rect.unit ![k, 0, 0] ![1, 128, 128] l))
      (View.ld (iblk m c 3 t : Vec Ideal S4x128x128 .f32) (Rect.unit ![k, 0, 0] ![1, 128, 128] l')) x
      = gated Z G W B (num t) (hd (y 1)) (y 0) (col (y 1)) := by
  refine (congrArg _ (eq_ix2 x)).trans ?_
  refine Eq.trans ?_ (at_head (gated Z G W B (num t)) ho h0 h1)
  exact tile_apply (blk_u m c hz t h ho i) (blk_v m c hz t h ho i') (blk_g m c hg t h ho j) (blk_w m c hw t h hk l)
    (blk_b m c hb t h hk l') (x 0) (x 1)

include hz hg hw hb in
theorem out5 (y : S128x512.Idx) : out0_5 (iblk m c 0 t) (iblk m c 1 t) (iblk m c 2 t) (iblk m c 3 t) (iblk m c 4 t) y
    = gated Z G W B (num t) (hd (y 1)) (y 0) (col (y 1)) := by
  unfold out0_5
  canon_tiles x e
  · exact piece m c hz hg hw hb t 3 rfl rfl _ _ _ _ _ x y e0 e1
  · exact piece m c hz hg hw hb t 2 rfl rfl _ _ _ _ _ x y e0 e1
  · exact piece m c hz hg hw hb t 1 rfl rfl _ _ _ _ _ x y e0 e1
  · exact piece m c hz hg hw hb t 0 rfl rfl _ _ _ _ _ x y e0 (by omega)

include hz hg hw hb in
/-- The result array. -/
theorem final5 : (dats m 0 c).arrAt 5 cfg0.N
    = fun i : S8192x512.Idx => gated Z G W B (wnd (i 0)) (hd (i 1)) (pos (i 0)) (col (i 1)) := by
  refine (dats m 0 c).arrAt_eq_of_covers 5 _ (by decide +kernel) fun t _ y => ?_
  blk_simp
  rw [after0_5]
  refine (out5 m c hz hg hw hb t y).trans (at_window (gated Z G W B) ?_ ?_)
  · blk_simp [idx t]; show _ = 128 * t.val + _; omega
  · blk_simp [idx t]

end Arrays

end Cert.SgFIdeal.Value

end
-- ==== Proof.SgFClaim.lean ====
/-
  The spatial gating's forward kernel and `reference.py`'s spatial gating leave the same result, for all arguments: both
  compute the same expression, the kernel window by window and head by head.
-/
module

public import proofs.«01_k».proof.Defs
public import proofs.«01_k».proof.Proof.SgFOut
public import proofs.«01_k».proof.Proof.SgRefVal
public import proofs.«01_k».proof.Proof.Gen.SgFRefIdeal.Read
public import Idealize.ShloMosaic.Adequacy
public import Idealize.ShloMosaic.Init

@[expose] public section

set_option maxRecDepth 16384

noncomputable section

namespace Cert.SgFRefIdeal.Read

open Cert.SgFRefIdeal Cert.SgFRefIdeal.Gen Idealize.ShloMosaic
open Cert.SgIdeal.Value (wnd pos hd col)
open Cert.SgFIdeal.Value (gated gel mix wU wV wG)

variable {z : FVec Ideal S8192x1536 .bf16} {g : FVec Ideal S512 .f32} {w : FVec Ideal S4x128x128 .f32} {b : FVec Ideal S4x128 .f32}
  {Z : Fin 8192 → Fin 1536 → EReal} {G : Fin 512 → EReal} {W : Fin 4 → Fin 128 → Fin 128 → EReal} {B : Fin 4 → Fin 128 → EReal}
  (hz : ∀ p d, z (ix2 p d) = Z p d) (hg : ∀ d, g (ix1 d) = G d) (hw : ∀ h p k, w (ix3 h p k) = W h p k) (hb : ∀ h p, b (ix2 h p) = B h p)

/-- One over the root of two, as the reference's lines write it. -/
theorem v6 : val_main_v6 (F := Ideal) ix0 = ((Gelu.c : ℝ) : EReal) := by
  pointwise [val_main_v6, val_main_cst_0]
  rw [Reals.lit_two]
  exact Reals.rsqrt two_pos

theorem v15 : val_main_v15 (F := Ideal) ix0 = ((Gelu.c : ℝ) : EReal) := v6

section Flat

variable {t : Fin 64} {p : Fin 128} {h : Fin 4} {d : Fin 128} {q : Fin 8192} {j : Fin 512}
  (hq : q.val = 128 * t.val + p.val) (hj : j.val = 128 * h.val + d.val)

include hz hq hj in
theorem v12 : val_main_v12 (F := Ideal) z (ix3 0 q j) = gel (wU Z t h p d) := by
  pointwise [val_main_v12, val_main_v11, val_main_v10, val_main_cst_1, val_main_v9, val_main_v8, val_main_v7, val_main_v5, val_main_v4,
    val_main_cst, val_main_v2, val_main_v1, val_main_v0]
  rw [v6, hz]
  exact congrArg gel (congrArg₂ Z (Fin.ext hq) (Fin.ext (by simpa using hj)))

include hz hq hj in
theorem v21 : val_main_v21 (F := Ideal) z (ix3 0 q j) = gel (wV Z t h p d) := by
  pointwise [val_main_v21, val_main_v20, val_main_v19, val_main_cst_4, val_main_v18, val_main_v17, val_main_v16, val_main_v14, val_main_v13,
    val_main_cst_2, val_main_v3, val_main_v1, val_main_v0]
  rw [v15, hz]
  exact congrArg gel (congrArg₂ Z (Fin.ext hq) (Fin.ext (by simp only; omega)))

end Flat

variable (t : Fin 64) (p k : Fin 128) (h : Fin 4) (d : Fin 128)

include hz in
theorem v22 : val_main_v22 (F := Ideal) z (ix5 0 t p h d) = gel (wV Z t h p d) := by
  pointwise [val_main_v22]
  exact v21 hz (by simp only; omega) (by simp only; omega)

include hz in
theorem v31 : val_main_v31 (F := Ideal) z (ix5 0 t p h 0)
    = RowRms.factor (Ideal.ofBits .f32 0x43000000#32) (fun j => gel (wV Z t h p j)) := by
  pointwise [val_main_v31, val_main_v30, val_main_v29, val_main_v28, val_main_v27, val_main_v26, val_main_v25, val_main_v24, val_main_cst_5,
    val_main_cst_6, val_main_cst_7]
  simp only [v22 hz]
  rfl

include hg in
theorem v23 : val_main_v23 (F := Ideal) g (ix2 h d) = wG G h d := by
  pointwise [val_main_v23]
  rw [hg]
  exact congrArg G (Fin.ext (by simp only; omega))

include hz hg hw hb in
theorem v42 : val_main_v42 (F := Ideal) z g w b (ix5 0 t p h d) = mix (wV Z t h) (wG G h) (W h) (B h) p d := by
  pointwise [val_main_v42, val_main_v41, val_main_v40, val_main_v39, val_main_v38, val_main_v37]
  rw [hb]
  refine congrArg (· + _) (Finset.sum_congr rfl fun k _ => ?_)
  pointwise [val_main_v36, val_main_v35, val_main_v34, val_main_v33, val_main_v32]
  rw [v22 hz, v31 hz, v23 hg, hw, mul_comm]

include hz hg hw hb in
/-- The reference's result. -/
theorem v46 (q : Fin 8192) (j : Fin 512) : val_main_v46 (F := Ideal) z g w b (ix2 q j) = gated Z G W B (wnd q) (hd j) (pos q) (col j) := by
  have hq := SgRefIdeal.Read.split_row q
  have hj := SgRefIdeal.Read.split_col j
  pointwise [val_main_v46, val_main_v45, val_main_v44, val_main_v43]
  exact congrArg₂ (· * ·) (v12 hz hq hj) (v42 hz hg hw hb (wnd q) (pos q) (hd j) (col j))

end Cert.SgFRefIdeal.Read

namespace Cert.Proof

open Idealize.ShloMosaic Idealize.ShloMosaic.TcCoe Idealize.SL.Sem

/-- The reference is host code alone: it declares no semaphore. -/
theorem sgfRef_frame : quiescent_SgFRefIdeal := fun m g _ => (θ_run _ _ _).mono
  (fun r h => ⟨fun c => (h c).2, sem_eq_zero_of_no_sems (by decide) r.2⟩) (SgFRefIdeal.Value.run m g)

theorem sgf_preserves : preserves_SgF_SgFIdeal :=
  IdealRules.named_const.statement SgFIdeal.κ "inv_sqrt2" .f32 0x3F3504F3#32 (((Real.sqrt 2)⁻¹ : ℝ) : EReal) rfl

theorem sgf_algebraic : algebraic_SgFIdeal_SgFRefIdeal := by
  intro m g m' g' _ hargs
  refine ⟨_, SgFIdeal.Value.run_blocks m g, (θ_run _ _ _).mono (fun r h c => ?_) (SgFRefIdeal.Value.run m' g')⟩
  obtain ⟨h0, ha⟩ := h c
  obtain ⟨e0, e1, e2, e3⟩ := hargs c
  refine ⟨h0.trans ?_, ha⟩
  rw [SgFRefIdeal.Read.val_main_v46_eq, e0, e1, e2, e3]
  refine Eq.trans (funext fun i => ?_) (SgFIdeal.Value.final5 m c (fun _ _ => rfl) (fun _ => rfl) (fun _ _ _ => rfl) (fun _ _ => rfl)).symm
  rw [eq_ix2 i]
  exact SgFRefIdeal.Read.v46 (fun _ _ => rfl) (fun _ => rfl) (fun _ _ _ => rfl) (fun _ _ => rfl) (i 0) (i 1)

end Cert.Proof

end
-- ==== Proof.PoolFOut.lean ====
/-
  The pooling's forward kernel: what the body computes for one group of columns, on real numbers, and its result array. The
  window's mean less the value is the tile the backward kernel also forms, so what is known of it there is used here.
-/
module

public import proofs.«01_k».proof.Proof.PoolOut
public import proofs.«01_k».proof.Proof.Gen.PoolFIdeal.Value
public import Idealize.ShloMosaic.Lib.Pipeline.ValueKit
public import Idealize.ShloMosaic.Lib.Pointwise

@[expose] public section

set_option maxRecDepth 16384

noncomputable section

namespace Cert.PoolFIdeal.Value

open Cert.PoolFIdeal Cert.PoolFIdeal.Gen Idealize.ShloMosaic Idealize.ShloMosaic.TcCoe Idealize.SL.Sem
open Idealize.ShloMosaic.Pipeline (Dat)
open Cert.PoolMath (wd rad dif)
open Cert.PoolIdeal.Value (tDif t_dif gP hd col pos at_group r0 r1 r2 r3)

section Tile

/-- A group's tile of the result from its differences, its matrix and its scale. -/
def mixTile (x : FVec Ideal S256x128 .bf16) (w : Vec Ideal S1x128x128 .bf16) (s : Vec Ideal S1x128 .f32) : FVec Ideal S256x128 .bf16 :=
  truncf .bf16 (mulf (matmul (φ₂ := .bf16) dot_S256x128_S128x128_S256x128_1_0_0_1_n_n none x (shapeCast S128x128 w shapeCasts_S1x128x128_S128x128)
    (constant S256x128 .f32 0x00000000#32) : FVec Ideal S256x128 .f32)
    (broadcastTo S256x128 (shapeCast S1x128 s shapeCasts_S1x128_S1x128) broadcasts_S1x128_S256x128)) bitsLt_bf16_f32

theorem mix_apply {x : FVec Ideal S256x128 .bf16} {w : Vec Ideal S1x128x128 .bf16} {s : Vec Ideal S1x128 .f32} {D : Fin 128 → ℝ}
    {W : Fin 128 → Fin 128 → EReal} {S : Fin 128 → EReal} (p : Fin 256) (d : Fin 128) (hx : ∀ c, x (ix2 p c) = (D c : EReal))
    (hw : ∀ c d, w (ix3 0 c d) = W c d) (hs : ∀ d, s (ix2 0 d) = S d) :
    mixTile x w s (ix2 p d) = (∑ c, (D c : EReal) * W c d) * S d := by
  pointwise [mixTile]
  simp only [hx, hw, hs]

end Tile

variable (m : (ℓ : Loc nD τ sig) → Buf (Elt Ideal) ℓ)

theorem idx : ∀ t : Fin cfg0.N, win0_0.index t = ![2 * t.val - 1, 2] ∧ win0_1.index t = ![t.val, 2] ∧ win0_2.index t = ![min (2 * t.val + 2) 63, 2]
    ∧ win0_3.index t = ![0, 0, 0] ∧ win0_4.index t = ![0, 0] ∧ win0_5.index t = ![t.val, 0] :=
  (by decide +kernel : ∀ t : Fin grid0.N, _)

theorem coords (t : Fin cfg0.N) : BitVec.ofNat 32 ((grid0.coords t) 0).val = wd t.val := by
  revert t; decide +kernel

/-- A grid point's number. -/
abbrev num (t : Fin cfg0.N) : Fin 32 := ⟨t.val, lt_of_lt_of_eq t.isLt N_0⟩

/-- The group's columns of the scale. -/
def scaleOf (S : Fin 512 → EReal) (g : Fin 4) (d : Fin 128) : EReal := S ⟨128 * g.val + d.val, by omega⟩

/-- The pooled half at a position, for a group's column. The values are real numbers; the matrices and the scale may be any
    extended real numbers. -/
def mixed (Z : Fin 8192 → Fin 1536 → ℝ) (W : Fin 4 → Fin 128 → Fin 128 → EReal) (S : Fin 512 → EReal) (g : Fin 4) (t : Fin 8192) (d : Fin 128) : EReal :=
  (∑ c, (dif (gP Z) g t c : EReal) * W g c d) * scaleOf S g d

section Arrays

variable (c : Dev nD) {Z : Fin 8192 → Fin 1536 → ℝ} {W : Fin 4 → Fin 128 → Fin 128 → EReal} {S : Fin 512 → EReal}
  (hz : ∀ p d, (m ((c : Thread nD τ).loc main_arg0) : FVec Ideal S8192x1536 .bf16) (ix2 p d) = (Z p d : EReal))
  (hw : ∀ h p k, (m ((c : Thread nD τ).loc main_arg1) : FVec Ideal S4x128x128 .f32) (ix3 h p k) = W h p k)
  (hs : ∀ d, (m ((c : Thread nD τ).loc main_arg2) : FVec Ideal S512 .f32) (ix1 d) = S d)

/-- The extended tile at point `t`. -/
abbrev tx (t : Fin cfg0.N) : FVec Ideal S512x512 .bf16 :=
  k0_pay2 (iblk m c 0 t : Vec Ideal S128x512 .bf16) (iblk m c 1 t : Vec Ideal S256x512 .bf16) (iblk m c 2 t : Vec Ideal S128x512 .bf16)

variable (t : Fin cfg0.N) (g : Fin 4) {o k : ℕ} (ho : o = 128 * g.val) (hk : k = g.val)

include hz ho in
theorem blk_x (b : Fin 512) (s : Fin 8192) (j : Fin 128) (l : Fin 512) (hb : s.val + 128 = 256 * (num t).val + b.val) (hl : l.val = o + j.val) :
    tx m c t (ix2 b l) = (gP Z g s j : EReal) := by
  have ht : t.val < 32 := lt_of_lt_of_eq t.isLt N_0
  replace hb : s.val + 128 = 256 * t.val + b.val := hb
  have hs := s.isLt
  rw [gP, ← hz]
  unfold tx
  pointwise [k0_pay2]
  split
  · blk_ext [iblk, V, idx t]
  split
  · blk_ext [iblk, V, idx t]
  · blk_ext [iblk, V, idx t]

include hz ho in
theorem blk_q (inb) (i : Fin 256) (s : Fin 8192) (j : Fin 128) (h : s.val = 256 * (num t).val + i.val) :
    View.ld (iblk m c 1 t : Vec Ideal S256x512 .bf16) (Rect.unit ![0, o] ![256, 128] inb) (ix2 i j) = (gP Z g s j : EReal) := by
  subst ho
  replace h : s.val = 256 * t.val + i.val := h
  refine (View.ld_unit_apply_of _ _ _ _ _ (ix2 i ⟨128 * g.val + j.val, by omega⟩) fun a => ?_).trans ?_
  · fin_cases a
    · show i.val = 0 + i.val; omega
    · rfl
  · rw [gP, ← hz]
    blk_ext [iblk, V, idx t]

include hw hk in
theorem blk_w (inb) (p q : Fin 128) :
    View.ld (iblk m c 3 t : Vec Ideal S4x128x128 .bf16) (Rect.unit ![k, 0, 0] ![1, 128, 128] inb) (ix3 0 p q) = W g p q := by
  subst hk
  refine (View.ld_unit_apply_of _ _ _ _ _ (ix3 g p q) fun a => ?_).trans ?_
  · fin_cases a
    · rfl
    · show p.val = 0 + p.val; omega
    · show q.val = 0 + q.val; omega
  · rw [← hw]
    blk_ext! [iblk, V, idx t]

include hs ho in
theorem blk_s (inb) (d : Fin 128) :
    View.ld (iblk m c 4 t : Vec Ideal S1x512 .f32) (Rect.unit ![0, o] ![1, 128] inb) (ix2 0 d) = scaleOf S g d := by
  subst ho
  refine (View.ld_unit_apply_of _ _ _ _ _ (ix2 0 ⟨128 * g.val + d.val, by omega⟩) fun a => ?_).trans ?_
  · fin_cases a <;> rfl
  · rw [scaleOf, ← hs]
    blk_ext! [iblk, V, idx t]

include hz hw hs ho hk in
/-- One group's piece of the result block. -/
theorem piece {r : BitVec 32} (hr : r = wd (rad g)) (hsl i j l) (x : S256x128.Idx) (y : S256x512.Idx) (h0 : (y 0).val = (x 0).val)
    (h1 : (y 1).val = o + (x 1).val) :
    mixTile (tDif (BitVec.ofNat 32 ((grid0.coords t) 0).val) r o hsl (tx m c t)
        (View.ld (iblk m c 1 t : Vec Ideal S256x512 .bf16) (Rect.unit ![0, o] ![256, 128] i)))
      (View.ld (iblk m c 3 t : Vec Ideal S4x128x128 .bf16) (Rect.unit ![k, 0, 0] ![1, 128, 128] l))
      (View.ld (iblk m c 4 t : Vec Ideal S1x512 .f32) (Rect.unit ![0, o] ![1, 128] j)) x
      = mixed Z W S (hd (y 1)) (pos (num t) (y 0)) (col (y 1)) := by
  refine (congrArg _ (eq_ix2 x)).trans ?_
  rw [show y 0 = x 0 from Fin.ext h0]
  refine Eq.trans ?_ (at_group (mixed Z W S) ho h1)
  exact mix_apply (x 0) (x 1) (fun d => t_dif (T := num t) (coords t) hr (blk_x m c hz t g ho) (blk_q m c hz t g ho i) (x 0) d)
    (blk_w m c hw t g hk l) (blk_s m c hs t g ho j)

include hz hw hs in
theorem out5 (y : S256x512.Idx) : out0_5 (grid0.coords t) (iblk m c 0 t) (iblk m c 1 t) (iblk m c 2 t) (iblk m c 3 t) (iblk m c 4 t) y
    = mixed Z W S (hd (y 1)) (pos (num t) (y 0)) (col (y 1)) := by
  have e : k0_pay14 (grid0.coords t) (iblk m c 0 t : Vec Ideal S128x512 .bf16) (iblk m c 1 t) (iblk m c 2 t) (iblk m c 3 t) (iblk m c 4 t) = tx m c t := by
    unfold k0_pay14
    exact congr (congr (congrArg k0_pay2 (View.ld_unit_zero (by funext a; fin_cases a <;> rfl) _ _)) (View.ld_unit_zero (by funext a; fin_cases a <;> rfl) _ _))
      (View.ld_unit_zero (by funext a; fin_cases a <;> rfl) _ _)
  unfold out0_5
  rw [e]
  canon_tiles x e
  · exact piece m c hz hw hs t 3 rfl rfl r3 _ _ _ _ x y e0 e1
  · exact piece m c hz hw hs t 2 rfl rfl r2 _ _ _ _ x y e0 e1
  · exact piece m c hz hw hs t 1 rfl rfl r1 _ _ _ _ x y e0 e1
  · exact piece m c hz hw hs t 0 rfl rfl r0 _ _ _ _ x y e0 (by omega)

include hz hw hs in
/-- The result array. -/
theorem final5 : (dats m 0 c).arrAt 5 cfg0.N
    = fun i : S8192x512.Idx => mixed Z W S (hd (i 1)) (i 0) (col (i 1)) := by
  refine (dats m 0 c).arrAt_eq_of_covers 5 _ (by decide +kernel) fun t _ y => ?_
  have e0 : ((win0_5.blk t).view.emb y : S8192x512.Idx) 0 = pos (num t) (y 0) := by
    apply Fin.ext; blk_simp [idx t]; show _ = 256 * t.val + _; omega
  have e1 : ((win0_5.blk t).view.emb y : S8192x512.Idx) 1 = y 1 := by
    apply Fin.ext; blk_simp [idx t]
  blk_simp
  rw [after0_5]
  refine (out5 m c hz hw hs t y).trans ?_
  rw [e0, e1]

end Arrays

end Cert.PoolFIdeal.Value

end
-- ==== Proof.PoolFClaim.lean ====
/-
  The pooling's forward kernel and `reference.py`'s multi-scale pooling leave the same result, where the pooled
  values are finite. The reference's lines are those its derivative starts from, so what is known of them there holds here.
-/
module

public import proofs.«01_k».proof.Defs
public import proofs.«01_k».proof.Proof.PoolFOut
public import proofs.«01_k».proof.Proof.PoolRefVal
public import proofs.«01_k».proof.Proof.Gen.PoolFRefIdeal.Read
public import proofs.«01_k».proof.Proof.Gen.Pre_poolf_finite
public import Idealize.ShloMosaic.Adequacy
public import Idealize.ShloMosaic.Init

@[expose] public section

set_option maxRecDepth 16384

noncomputable section

namespace Cert.PoolFRefIdeal.Read

open Cert.PoolFRefIdeal Cert.PoolFRefIdeal.Gen Idealize.ShloMosaic
open Cert.PoolMath (dif)
open Cert.PoolIdeal.Value (gP hd col)
open Cert.PoolFIdeal.Value (mixed)

variable {z : FVec Ideal S8192x1536 .bf16} {w : FVec Ideal S4x128x128 .f32} {s : FVec Ideal S512 .f32}

theorem v162_eq : val_main_v162 (F := Ideal) z w = PoolRefIdeal.Read.val_main_v166 (F := Ideal) z w := rfl

variable {Z : Fin 8192 → Fin 1536 → ℝ} {W : Fin 4 → Fin 128 → Fin 128 → EReal} {S : Fin 512 → EReal}
  (hz : ∀ p d, z (ix2 p d) = (Z p d : EReal)) (hw : ∀ h p k, w (ix3 h p k) = W h p k) (hs : ∀ d, s (ix1 d) = S d)

include hz hw in
theorem v162 (q : Fin 8192) (g : Fin 4) (d : Fin 128) :
    val_main_v162 (F := Ideal) z w (ix4 0 q g d) = ∑ c, (dif (gP Z) g q c : EReal) * W g c d := by
  refine (congrFun v162_eq _).trans ?_
  pointwise [PoolRefIdeal.Read.val_main_v166, PoolRefIdeal.Read.val_main_v165]
  refine Finset.sum_congr rfl fun c _ => ?_
  rw [hw, PoolRefIdeal.Val.v164 hz, mul_comm]

include hz hw hs in
/-- The reference's result. -/
theorem v169 (q : Fin 8192) (j : Fin 512) : val_main_v169 (F := Ideal) z w s (ix2 q j) = mixed Z W S (hd j) q (col j) := by
  pointwise [val_main_v169, val_main_v168, val_main_v167, val_main_v166, val_main_v165, val_main_v164, val_main_v163]
  refine congrArg₂ (· * ·) (v162 hz hw q (hd j) (col j)) ((hs _).trans ?_)
  exact congrArg S (Fin.ext (by show _ = 128 * (j.val / 128) + j.val % 128; omega))

end Cert.PoolFRefIdeal.Read

namespace Cert.Proof

open Idealize.ShloMosaic Idealize.ShloMosaic.TcCoe Idealize.SL.Sem

/-- The reference is host code alone: it declares no semaphore. -/
theorem poolfRef_frame : quiescent_PoolFRefIdeal := fun m g _ => (θ_run _ _ _).mono
  (fun r h => ⟨fun c => (h c).2, sem_eq_zero_of_no_sems (by decide) r.2⟩) (PoolFRefIdeal.Value.run m g)

theorem poolf_algebraic : algebraic_PoolFIdeal_PoolFRefIdeal_pre_poolf_finite := by
  intro m g m' g' hpre hargs
  refine ⟨_, PoolFIdeal.Value.run_blocks m g, (θ_run _ _ _).mono (fun r h c => ?_) (PoolFRefIdeal.Value.run m' g')⟩
  obtain ⟨h0, ha⟩ := h c
  have hz : ∀ p d, (m (c.tc.loc PoolFIdeal.main_arg0) : FVec Ideal ⟨2, ![8192, 1536]⟩ .bf16) (ix2 p d) = _ := fun p d =>
    Reals.eq_coe (Reals.finite_of_lt (congrFun (hpre c) (ix2 p d)))
  obtain ⟨a0, a1, a2⟩ := hargs c
  have e0 : StableHlo.launchContents m' c (Proc.devRef .tc PoolFRefIdeal.main_arg0) = m (c.tc.loc PoolFIdeal.main_arg0) := a0
  have e1 : StableHlo.launchContents m' c (Proc.devRef .tc PoolFRefIdeal.main_arg1) = m (c.tc.loc PoolFIdeal.main_arg1) := a1
  have e2 : StableHlo.launchContents m' c (Proc.devRef .tc PoolFRefIdeal.main_arg2) = m (c.tc.loc PoolFIdeal.main_arg2) := a2
  refine ⟨h0.trans ?_, ha⟩
  rw [PoolFRefIdeal.Read.val_main_v169_eq, e0, e1, e2]
  refine Eq.trans (funext fun i => ?_) (PoolFIdeal.Value.final5 m c hz (fun _ _ _ => rfl) (fun _ => rfl)).symm
  rw [eq_ix2 i]
  exact PoolFRefIdeal.Read.v169 hz (fun _ _ _ => rfl) (fun _ => rfl) (i 0) (i 1)

end Cert.Proof

end
-- ==== Proof.ActClaim.lean ====
/-
  The feed-forward's forward kernel and `reference.py`'s lines leave the same activation, for all arguments: both compute
  the same expression of a row and a column, the kernel on tiles of 1024 by 512.
-/
module

public import proofs.«01_k».proof.Defs
public import proofs.«01_k».proof.Proof.Gen.ActIdeal.Value
public import proofs.«01_k».proof.Proof.Gen.ActRefIdeal.Read
public import Idealize.ShloMosaic.Lib.Pipeline.ValueKit
public import Idealize.ShloMosaic.Lib.Pointwise
public import Idealize.ShloMosaic.Lib.StableHlo.RunRead
public import Idealize.ShloMosaic.Adequacy
public import Idealize.ShloMosaic.Init

@[expose] public section

set_option maxRecDepth 16384

noncomputable section

namespace Cert.ActIdeal.Value

open Cert.ActIdeal Cert.ActIdeal.Gen Idealize.ShloMosaic Idealize.ShloMosaic.TcCoe Idealize.SL.Sem
open Idealize.ShloMosaic.Pipeline (Dat)

/-- The activation of a row, from one column of each of the two weights. -/
def act (a g u : Fin 2048 → EReal) : EReal := (∑ d, a d * g d) * Ideal.logistic (∑ d, a d * g d) * ∑ d, a d * u d

section Body

variable {h : Vec Ideal S1024x2048 .bf16} {wg wu : Vec Ideal S1x512x2048 .bf16}
  {A : Fin 1024 → Fin 2048 → EReal} {Wg Wu : Fin 512 → Fin 2048 → EReal}
  (hh : ∀ p d, h (ix2 p d) = A p d) (hg : ∀ k d, wg (ix3 0 k d) = Wg k d) (hu : ∀ k d, wu (ix3 0 k d) = Wu k d)

include hh hg in
theorem pay_gate (p : Fin 1024) (k : Fin 512) : k0_pay1 h wg (ix2 p k) = ∑ d, A p d * Wg k d := by
  pointwise [k0_pay1]
  simp only [hh, hg]

include hh hu in
theorem pay_up (p : Fin 1024) (k : Fin 512) : k0_pay2 h wu (ix2 p k) = ∑ d, A p d * Wu k d := by
  pointwise [k0_pay2]
  simp only [hh, hu]

include hh hg hu in
theorem pay_act (p : Fin 1024) (k : Fin 512) : k0_pay5 h wg wu (ix2 p k) = act (A p) (Wg k) (Wu k) := by
  unfold act
  rw [← pay_gate hh hg, ← pay_up hh hu]
  rfl

end Body

variable (m : (ℓ : Loc nD τ sig) → Buf (Elt Ideal) ℓ) (c : Dev nD)
  {A : Fin 8192 → Fin 2048 → EReal} {Wg Wu : Fin 2048 → Fin 5632 → EReal}
  (hh : ∀ p d, (m ((c : Thread nD τ).loc main_arg0) : FVec Ideal S8192x2048 .bf16) (ix2 p d) = A p d)
  (hg : ∀ d k, (m ((c : Thread nD τ).loc main_arg1) : FVec Ideal S2048x5632 .f32) (ix2 d k) = Wg d k)
  (hu : ∀ d k, (m ((c : Thread nD τ).loc main_arg2) : FVec Ideal S2048x5632 .f32) (ix2 d k) = Wu d k)

theorem idx : ∀ t : Fin cfg0.N, win0_0.index t = ![t.val / 11, 0] ∧ win0_1.index t = ![0, t.val % 11, 0]
    ∧ win0_2.index t = ![1, t.val % 11, 0] ∧ win0_3.index t = ![t.val / 11, t.val % 11] :=
  (by decide +kernel : ∀ t : Fin grid0.N, _)

/-- The array's row and column that row `p` and column `k` of a point's block are. -/
abbrev row (t : Fin cfg0.N) (p : Fin 1024) : Fin 8192 :=
  ⟨1024 * (t.val / 11) + p.val, by have := t.isLt; have hN : cfg0.N = 88 := N_0; omega⟩
@[inherit_doc row]
abbrev col (t : Fin cfg0.N) (k : Fin 512) : Fin 5632 := ⟨512 * (t.val % 11) + k.val, by omega⟩

/-- The stacked weights as the kernel finds them. -/
theorem V_v5 : V m c main_v5 = (truncf .bf16 (concatenate S2x5632x2048 0
    [⟨S1x5632x2048, broadcastInDim S1x5632x2048 ![1, 2] bcast_S5632x2048_S1x5632x2048_1_2
        (transpose S5632x2048 [1, 0] (m ((c : Thread nD τ).loc main_arg1) : FVec Ideal S2048x5632 .f32) transposes_S2048x5632_S5632x2048_1_0)⟩,
      ⟨S1x5632x2048, broadcastInDim S1x5632x2048 ![1, 2] bcast_S5632x2048_S1x5632x2048_1_2
        (transpose S5632x2048 [1, 0] (m ((c : Thread nD τ).loc main_arg2) : FVec Ideal S2048x5632 .f32) transposes_S2048x5632_S5632x2048_1_0)⟩]
    concatenates_S1x5632x2048_S1x5632x2048_S2x5632x2048_d0 : FVec Ideal S2x5632x2048 .f32) bitsLt_bf16_f32) := by
  after_reads_simp
  rfl

theorem wt0 (k : Fin 5632) (d : Fin 2048) : (V m c main_v5 : FVec Ideal S2x5632x2048 .bf16) (ix3 0 k d)
    = (m ((c : Thread nD τ).loc main_arg1) : FVec Ideal S2048x5632 .f32) (ix2 d k) := by
  rw [V_v5]
  pointwise []

theorem wt1 (k : Fin 5632) (d : Fin 2048) : (V m c main_v5 : FVec Ideal S2x5632x2048 .bf16) (ix3 1 k d)
    = (m ((c : Thread nD τ).loc main_arg2) : FVec Ideal S2048x5632 .f32) (ix2 d k) := by
  rw [V_v5]
  pointwise []

include hh in
theorem blk_0 (t : Fin cfg0.N) (p : Fin 1024) (d : Fin 2048) : (iblk m c 0 t : Vec Ideal S1024x2048 .bf16) (ix2 p d) = A (row t p) d := by
  rw [← hh]
  blk_ext [iblk, V, idx t]

include hg in
theorem blk_1 (t : Fin cfg0.N) (k : Fin 512) (d : Fin 2048) : (iblk m c 1 t : Vec Ideal S1x512x2048 .bf16) (ix3 0 k d) = Wg d (col t k) := by
  rw [← hg, ← wt0 m c]
  blk_ext [iblk, idx t]

include hu in
theorem blk_2 (t : Fin cfg0.N) (k : Fin 512) (d : Fin 2048) : (iblk m c 2 t : Vec Ideal S1x512x2048 .bf16) (ix3 0 k d) = Wu d (col t k) := by
  rw [← hu, ← wt1 m c]
  blk_ext [iblk, idx t]

include hh hg hu in
theorem out3 (t : Fin cfg0.N) (y : S1024x512.Idx) : out0_3 (iblk m c 0 t) (iblk m c 1 t) (iblk m c 2 t) y
    = act (A (row t (y 0))) (fun d => Wg d (col t (y 1))) (fun d => Wu d (col t (y 1))) := by
  have z : (![0, 0] : Fin 2 → ℕ) = fun _ => 0 := by funext a; fin_cases a <;> rfl
  have z' : (![0, 0, 0] : Fin 3 → ℕ) = fun _ => 0 := by funext a; fin_cases a <;> rfl
  unfold out0_3
  refine (congrFun (View.canon_cons_unit_zero z _ _ _) y).trans ?_
  refine (congrFun (congr (congrArg₂ k0_pay5 (View.ld_unit_zero z _ _) (View.ld_unit_zero z' _ _)) (View.ld_unit_zero z' _ _)) y).trans ?_
  refine (congrArg _ (eq_ix2 y)).trans ?_
  exact pay_act (blk_0 m c hh t) (blk_1 m c hg t) (blk_2 m c hu t) (y 0) (y 1)

include hh hg hu in
theorem result3 : (dats m 0 c).arrAt 3 cfg0.N
    = fun i : S8192x5632.Idx => act (A (i 0)) (fun d => Wg d (i 1)) (fun d => Wu d (i 1)) := by
  refine (dats m 0 c).arrAt_eq_of_covers 3 _ (by decide +kernel) fun t _ y => ?_
  have e0 : (win0_3.blk t).view.emb y 0 = row t (y 0) := Fin.ext (by blk_simp [idx t]; show _ = 1024 * (t.val / 11) + _; omega)
  have e1 : (win0_3.blk t).view.emb y 1 = col t (y 1) := Fin.ext (by blk_simp [idx t]; show _ = 512 * (t.val % 11) + _; omega)
  blk_simp
  rw [after0_3]
  refine (out3 m c hh hg hu t y).trans ?_
  rw [e0, e1]

end Cert.ActIdeal.Value

namespace Cert.ActRefIdeal.Read

open Cert.ActRefIdeal Cert.ActRefIdeal.Gen Idealize.ShloMosaic
open Cert.ActIdeal.Value (act)

variable (h : FVec Ideal S8192x2048 .bf16) (wg wu : FVec Ideal S2048x5632 .f32) (p : Fin 8192) (k : Fin 5632)

theorem v1 : val_main_v1 (F := Ideal) h wg (ix2 p k) = ∑ d, h (ix2 p d) * wg (ix2 d k) := by
  pointwise [val_main_v1, val_main_v0]

theorem v3 : val_main_v3 (F := Ideal) h wu (ix2 p k) = ∑ d, h (ix2 p d) * wu (ix2 d k) := by
  pointwise [val_main_v3, val_main_v0]

/-- The reference's result. -/
theorem v5 : val_main_v5 (F := Ideal) h wg wu (ix2 p k) = act (fun d => h (ix2 p d)) (fun d => wg (ix2 d k)) (fun d => wu (ix2 d k)) := by
  pointwise [val_main_v5, val_main_v4, val_main_v2, val_main_call0_v5, val_main_call0_v4, val_main_call0_cst_0, val_main_call0_v3,
    val_main_call0_v2, val_main_call0_cst, val_main_call0_v1, val_main_call0_v0]
  rw [v1, v3]
  rfl

end Cert.ActRefIdeal.Read

namespace Cert.Proof

open Idealize.ShloMosaic Idealize.ShloMosaic.TcCoe Idealize.SL.Sem

/-- The reference is host code alone: it declares no semaphore. -/
theorem guRef_frame : quiescent_ActRefIdeal := fun m g _ => (θ_run _ _ _).mono
  (fun r h => ⟨fun c => (h c).2, sem_eq_zero_of_no_sems (by decide) r.2⟩) (ActRefIdeal.Value.run m g)

theorem gu_algebraic : algebraic_ActIdeal_ActRefIdeal := by
  intro m g m' g' _ hargs
  refine ⟨_, (θ_run _ _ _).mono (fun r h c => ⟨(h c).1, (h c).2.2⟩) (ActIdeal.Value.run_blocks m g),
    (θ_run _ _ _).mono (fun r h c => ?_) (ActRefIdeal.Value.run m' g')⟩
  obtain ⟨h0, ha⟩ := h c
  obtain ⟨e0, e1, e2⟩ := hargs c
  refine ⟨h0.trans ?_, ha⟩
  rw [ActRefIdeal.Read.val_main_v5_eq, e0, e1, e2]
  refine Eq.trans (funext fun i => ?_) (ActIdeal.Value.result3 m c (fun _ _ => rfl) (fun _ _ => rfl) (fun _ _ => rfl)).symm
  rw [eq_ix2 i]
  exact ActRefIdeal.Read.v5 _ _ _ (i 0) (i 1)

end Cert.Proof

end
-- ==== Proof.RmsClaim.lean ====
/-
  The norm's forward kernel and `reference.py`'s norm leave the same result, for all arguments: both compute the same
  expression of a row, the kernel for 512 rows at each point.
-/
module

public import proofs.«01_k».proof.Defs
public import proofs.«01_k».proof.Proof.RowRms
public import proofs.«01_k».proof.Proof.Gen.RmsIdeal.Value
public import proofs.«01_k».proof.Proof.Gen.RmsRefIdeal.Read
public import Idealize.ShloMosaic.Lib.Pipeline.ValueKit
public import Idealize.ShloMosaic.Lib.Pointwise
public import Idealize.ShloMosaic.Lib.StableHlo.RunRead
public import Idealize.ShloMosaic.Adequacy
public import Idealize.ShloMosaic.Init

@[expose] public section

set_option maxRecDepth 16384

noncomputable section

namespace Cert.RmsIdeal.Value

open Cert.RmsIdeal Cert.RmsIdeal.Gen Idealize.ShloMosaic Idealize.ShloMosaic.TcCoe Idealize.SL.Sem
open Idealize.ShloMosaic.Pipeline (Dat)
open Cert.RowRms (normed)

theorem pay {x : Vec Ideal S512x2048 .f32} {g : Vec Ideal S1x2048 .f32} {X : Fin 512 → Fin 2048 → EReal} {G : Fin 2048 → EReal}
    (hx : ∀ p d, x (ix2 p d) = X p d) (hg : ∀ d, g (ix2 0 d) = G d) (p : Fin 512) (d : Fin 2048) :
    k0_pay1 x g (ix2 p d) = normed (X p) G d := by
  pointwise [k0_pay1]
  simp only [hx, hg]
  rfl

variable (m : (ℓ : Loc nD τ sig) → Buf (Elt Ideal) ℓ) (c : Dev nD) {X : Fin 8192 → Fin 2048 → EReal} {G : Fin 2048 → EReal}
  (hx : ∀ p d, (m ((c : Thread nD τ).loc main_arg0) : FVec Ideal S8192x2048 .f32) (ix2 p d) = X p d)
  (hg : ∀ d, (m ((c : Thread nD τ).loc main_arg1) : FVec Ideal S2048 .f32) (ix1 d) = G d)

theorem idx : ∀ t : Fin cfg0.N, win0_0.index t = ![t.val, 0] ∧ win0_1.index t = ![0, 0] ∧ win0_2.index t = ![t.val, 0] :=
  (by decide +kernel : ∀ t : Fin grid0.N, _)

/-- The array's row that row `p` of point `t`'s block is. -/
abbrev row (t : Fin cfg0.N) (p : Fin 512) : Fin 8192 := ⟨512 * t.val + p.val, by have := t.isLt; have hN : cfg0.N = 16 := N_0; omega⟩

include hx in
theorem blk_0 (t : Fin cfg0.N) (p : Fin 512) (d : Fin 2048) : (iblk m c 0 t : Vec Ideal S512x2048 .f32) (ix2 p d) = X (row t p) d := by
  rw [← hx]
  blk_ext [iblk, V, idx t]

include hg in
theorem blk_1 (t : Fin cfg0.N) (d : Fin 2048) : (iblk m c 1 t : Vec Ideal S1x2048 .f32) (ix2 0 d) = G d := by
  rw [← hg]
  blk_ext! [iblk, V, idx t]

include hx hg in
theorem out2 (t : Fin cfg0.N) (y : S512x2048.Idx) : out0_2 (iblk m c 0 t) (iblk m c 1 t) y = normed (X (row t (y 0))) G (y 1) := by
  have z : (![0, 0] : Fin 2 → ℕ) = fun _ => 0 := by funext a; fin_cases a <;> rfl
  unfold out0_2
  refine (congrFun (View.canon_cons_unit_zero z _ _ _) y).trans ?_
  refine (congrFun (congrArg₂ k0_pay1 (View.ld_unit_zero z _ _) (View.ld_unit_zero z _ _)) y).trans ?_
  refine (congrArg _ (eq_ix2 y)).trans ?_
  exact pay (blk_0 m c hx t) (blk_1 m c hg t) (y 0) (y 1)

include hx hg in
theorem result2 : (dats m 0 c).arrAt 2 cfg0.N = fun i : S8192x2048.Idx => normed (X (i 0)) G (i 1) := by
  refine (dats m 0 c).arrAt_eq_of_covers 2 _ (by decide +kernel) fun t _ y => ?_
  have e0 : (win0_2.blk t).view.emb y 0 = row t (y 0) := Fin.ext (by blk_simp [idx t]; show _ = 512 * t.val + _; omega)
  have e1 : (win0_2.blk t).view.emb y 1 = y 1 := Fin.ext (by blk_simp [idx t])
  blk_simp
  rw [after0_2]
  refine (out2 m c hx hg t y).trans ?_
  rw [e0, e1]

end Cert.RmsIdeal.Value

namespace Cert.RmsRefIdeal.Read

open Cert.RmsRefIdeal Cert.RmsRefIdeal.Gen Idealize.ShloMosaic
open Cert.RowRms (normed)

/-- The reference's result. -/
theorem v13 (x : FVec Ideal S8192x2048 .f32) (g : FVec Ideal S2048 .f32) (p : Fin 8192) (d : Fin 2048) :
    val_main_v13 (F := Ideal) x g (ix2 p d) = normed (fun k => x (ix2 p k)) (fun k => g (ix1 k)) d := by
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]
  rfl

end Cert.RmsRefIdeal.Read

namespace Cert.Proof

open Idealize.ShloMosaic Idealize.ShloMosaic.TcCoe Idealize.SL.Sem

/-- The reference is host code alone: it declares no semaphore. -/
theorem rmsRef_frame : quiescent_RmsRefIdeal := fun m g _ => (θ_run _ _ _).mono
  (fun r h => ⟨fun c => (h c).2, sem_eq_zero_of_no_sems (by decide) r.2⟩) (RmsRefIdeal.Value.run m g)

theorem rms_algebraic : algebraic_RmsIdeal_RmsRefIdeal := by
  intro m g m' g' _ hargs
  refine ⟨_, RmsIdeal.Value.run_blocks m g, (θ_run _ _ _).mono (fun r h c => ?_) (RmsRefIdeal.Value.run m' g')⟩
  obtain ⟨h0, ha⟩ := h c
  obtain ⟨e0, e1⟩ := hargs c
  refine ⟨h0.trans ?_, ha⟩
  rw [RmsRefIdeal.Read.val_main_v13_eq, e0, e1]
  refine Eq.trans (funext fun i => ?_) (RmsIdeal.Value.result2 m c (fun _ _ => rfl) (fun _ => rfl)).symm
  rw [eq_ix2 i]
  exact RmsRefIdeal.Read.v13 _ _ (i 0) (i 1)

end Cert.Proof

end
-- ==== Proof.ResClaim.lean ====
/-
  The feed-forward's output product with the residual and the next norm, and `reference.py`'s lines, leave the same two
  results, for all arguments. The kernel adds the product up over four blocks of 1408 columns for each block of 512 rows;
  addition of extended real numbers is associative and commutative, so the blocks add up to the whole product.
-/
module

public import proofs.«01_k».proof.Defs
public import proofs.«01_k».proof.Proof.RowRms
public import proofs.«01_k».proof.Proof.Gen.ResIdeal.Value
public import proofs.«01_k».proof.Proof.Gen.ResRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Adequacy
public import Idealize.ShloMosaic.Init
public import Mathlib.Logic.Equiv.Fin.Basic

@[expose] public section

set_option maxRecDepth 16384

noncomputable section

namespace Cert.ResIdeal.Value

open Cert.ResIdeal Cert.ResIdeal.Gen Idealize.ShloMosaic Idealize.ShloMosaic.TcCoe Idealize.SL.Sem
open Idealize.ShloMosaic.Pipeline (Dat)
open Cert.RowRms (normed)

/-- The residual plus half the product. -/
def mixed (x h : EReal) : EReal := x + Ideal.ofBits .f32 0x3F000000#32 * h

section Body

variable {x v : Vec Ideal S512x2048 .f32} {g : Vec Ideal S1x2048 .f32} {a : Vec Ideal S512x1408 .bf16} {w : Vec Ideal S1408x2048 .bf16}
  {X H : Fin 512 → Fin 2048 → EReal} {G : Fin 2048 → EReal} {A : Fin 512 → Fin 1408 → EReal} {W : Fin 1408 → Fin 2048 → EReal}
  (hx : ∀ p d, x (ix2 p d) = X p d) (hv : ∀ p d, v (ix2 p d) = H p d) (hg : ∀ d, g (ix2 0 d) = G d)
  (ha : ∀ p k, a (ix2 p k) = A p k) (hw : ∀ k d, w (ix2 k d) = W k d)

theorem pay1_apply (p : Fin 512) (d : Fin 2048) : k0_pay1 (F := Ideal) (ix2 p d) = 0 := by
  pointwise [k0_pay1]

include ha hw in
/-- One step's product, added to what the accumulator held. -/
theorem pay2_apply (p : Fin 512) (d : Fin 2048) : k0_pay2 v a w (ix2 p d) = v (ix2 p d) + ∑ k, A p k * W k d := by
  pointwise [k0_pay2]
  simp only [ha, hw]

include hx hv in
theorem pay3_apply (p : Fin 512) (d : Fin 2048) : k0_pay3 x v (ix2 p d) = mixed (X p d) (H p d) := by
  pointwise [k0_pay3]
  simp only [hx, hv]
  rfl

include hx hv hg in
theorem pay4_apply (p : Fin 512) (d : Fin 2048) : k0_pay4 x v g (ix2 p d) = normed (fun k => mixed (X p k) (H p k)) G d := by
  pointwise [k0_pay4]
  simp only [pay3_apply hx hv, hg]
  rfl

end Body

variable (m : (ℓ : Loc nD τ sig) → Buf (Elt Ideal) ℓ)

theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![t.val / 4, 0]
    ∧ win0_5.index t = ![t.val / 4, 0] :=
  (by decide +kernel : ∀ t : Fin grid0.N, _)

section Arrays

variable (c : Dev nD) {A : Fin 8192 → Fin 5632 → EReal} {W : Fin 5632 → Fin 2048 → EReal} {X : Fin 8192 → Fin 2048 → EReal}
  {G : Fin 2048 → EReal}
  (ha : ∀ p k, (m ((c : Thread nD τ).loc main_arg0) : FVec Ideal S8192x5632 .bf16) (ix2 p k) = A p k)
  (hw : ∀ k d, (m ((c : Thread nD τ).loc main_arg1) : FVec Ideal S5632x2048 .f32) (ix2 k d) = W k d)
  (hx : ∀ p d, (m ((c : Thread nD τ).loc main_arg2) : FVec Ideal S8192x2048 .f32) (ix2 p d) = X p d)
  (hg : ∀ d, (m ((c : Thread nD τ).loc main_arg3) : FVec Ideal S2048 .f32) (ix1 d) = G d)

/-- The array's row that row `p` of point `t`'s block is. -/
abbrev row (t : Fin cfg0.N) (p : Fin 512) : Fin 8192 :=
  ⟨512 * (t.val / 4) + p.val, by have := t.isLt; have hN : cfg0.N = 64 := N_0; omega⟩

/-- The column of the product's left factor that column `k` of point `t`'s block is. -/
abbrev col (t : Fin cfg0.N) (k : Fin 1408) : Fin 5632 := ⟨1408 * (t.val % 4) + k.val, by omega⟩

include ha in
theorem blk_0 (t : Fin cfg0.N) (p : Fin 512) (k : Fin 1408) : (iblk m c 0 t : Vec Ideal S512x1408 .bf16) (ix2 p k) = A (row t p) (col t k) := by
  rw [← ha]
  blk_ext [iblk, V, idx t]

include hw in
theorem blk_1 (t : Fin cfg0.N) (k : Fin 1408) (d : Fin 2048) : (iblk m c 1 t : Vec Ideal S1408x2048 .bf16) (ix2 k d) = W (col t k) d := by
  rw [← hw]
  blk_ext! [iblk, V, idx t]

include hx in
theorem blk_2 (t : Fin cfg0.N) (p : Fin 512) (d : Fin 2048) : (iblk m c 2 t : Vec Ideal S512x2048 .f32) (ix2 p d) = X (row t p) d := by
  rw [← hx]
  blk_ext [iblk, V, idx t]

include hg in
theorem blk_3 (t : Fin cfg0.N) (d : Fin 2048) : (iblk m c 3 t : Vec Ideal S1x2048 .f32) (ix2 0 d) = G d := by
  rw [← hg]
  blk_ext! [iblk, V, idx t]

/-- The whole product. -/
def prod (A : Fin 8192 → Fin 5632 → EReal) (W : Fin 5632 → Fin 2048 → EReal) (p : Fin 8192) (d : Fin 2048) : EReal := ∑ k, A p k * W k d

/-- The share of one point in it. -/
def step (A : Fin 8192 → Fin 5632 → EReal) (W : Fin 5632 → Fin 2048 → EReal) (t : Fin cfg0.N) (p : Fin 512) (d : Fin 2048) : EReal :=
  ∑ k, A (row t p) (col t k) * W (col t k) d

/-- The points of one block of rows add up to the whole product. -/
theorem sum_step (A : Fin 8192 → Fin 5632 → EReal) (W : Fin 5632 → Fin 2048 → EReal) (t : Fin cfg0.N) (u : Fin 4 → Fin cfg0.N)
    (hu : ∀ s, (u s).val = 4 * (t.val / 4) + s.val) (p : Fin 512) (d : Fin 2048) :
    ∑ s, step A W (u s) p d = prod A W (row t p) d := by
  have hr : ∀ s, row (u s) p = row t p := fun s => Fin.ext (by
    show 512 * ((u s).val / 4) + _ = 512 * (t.val / 4) + _
    have := hu s; have := s.isLt; omega)
  unfold step prod
  rw [← Fintype.sum_prod_type']
  refine Fintype.sum_equiv (finProdFinEquiv (m := 4) (n := 1408)) _ _ fun q => ?_
  have hc : col (u q.1) q.2 = finProdFinEquiv q := Fin.ext (by
    rw [finProdFinEquiv_apply_val]
    show 1408 * ((u q.1).val % 4) + _ = _
    have := hu q.1; have := q.1.isLt; omega)
  rw [hr, hc]

theorem acc_A (t : Fin cfg0.N) (h : t.val % 4 = 0) :
    (outsAt0 m c t.val t.isLt).2.2 = k0_pay2 k0_pay1 (iblk m c 0 t) (iblk m c 1 t) := by
  rw [outsAt0_A m c t h (by omega)]; frame_out; try rw [read_unread_whole]

theorem acc_step (t : Fin cfg0.N) (h : ¬t.val % 4 = 0) : (outsAt0 m c t.val t.isLt).2.2
    = k0_pay2 (outsAt0 m c (t.val - 1) (Nat.lt_of_le_of_lt (Nat.sub_le _ _) t.isLt)).2.2 (iblk m c 0 t) (iblk m c 1 t) := by
  by_cases h1 : t.val % 4 = 3
  · rw [outsAt0_C m c t h h1]; frame_out; try rw [read_unread_whole]
  · rw [outsAt0_B m c t h h1]; frame_out; try rw [read_unread_whole]

theorem out4 (t : Fin cfg0.N) (h1 : t.val % 4 = 3) :
    (outsAt0 m c t.val t.isLt).1 = k0_pay3 (iblk m c 2 t) (outsAt0 m c t.val t.isLt).2.2 := by
  have h : ¬t.val % 4 = 0 := by omega
  rw [acc_step m c t h, outsAt0_C m c t h h1]; frame_out; try rw [read_unread_whole]

theorem out5 (t : Fin cfg0.N) (h1 : t.val % 4 = 3) :
    (outsAt0 m c t.val t.isLt).2.1 = k0_pay4 (iblk m c 2 t) (outsAt0 m c t.val t.isLt).2.2 (iblk m c 3 t) := by
  have h : ¬t.val % 4 = 0 := by omega
  rw [acc_step m c t h, outsAt0_C m c t h h1]; frame_out; try rw [read_unread_whole]

include ha hw in
/-- The accumulator at the last point of a block of rows. -/
theorem acc (t : Fin cfg0.N) (ht : t.val % 4 = 3) (p : Fin 512) (d : Fin 2048) :
    (outsAt0 m c t.val t.isLt).2.2 (ix2 p d) = prod A W (row t p) d := by
  have key := Pipeline.eq_sum_fin_of_reset_step_apply_of_flush (N := cfg0.N) (M := EReal)
    (fun n h (i : Fin 512 × Fin 2048) => (outsAt0 m c n h).2.2 (ix2 i.1 i.2)) 4 0 (fun t i => step A W t i.1 i.2)
    (fun t h i => by
      show (outsAt0 m c t.val t.isLt).2.2 (ix2 i.1 i.2) = _
      rw [acc_A m c t h, pay2_apply (blk_0 m c ha t) (blk_1 m c hw t), pay1_apply]
      rfl)
    (fun t h i => by
      show (outsAt0 m c t.val t.isLt).2.2 (ix2 i.1 i.2) = (outsAt0 m c (t.val - 1) _).2.2 (ix2 i.1 i.2) + _
      rw [acc_step m c t h, pay2_apply (blk_0 m c ha t) (blk_1 m c hw t)]
      rfl)
    t ht (p, d)
  refine key.trans ?_
  rw [Pi.zero_apply, zero_add]
  exact sum_step A W t _ (fun _ => rfl) p d

include ha hw hx in
theorem result4 : (dats m 0 c).arrAt 4 (cfgs 0).N = fun i : S8192x2048.Idx => mixed (X (i 0) (i 1)) (prod A W (i 0) (i 1)) := by
  refine (dats m 0 c).arrAt_eq_of_covers 4 _ (by decide +kernel) fun t hf y => ?_
  have ht : t.val % 4 = 3 := (flush0_4 t).mp hf
  have e0 : (win0_4.blk t).view.emb y 0 = row t (y 0) := Fin.ext (by blk_simp [idx t]; show _ = 512 * (t.val / 4) + _; omega)
  have e1 : (win0_4.blk t).view.emb y 1 = y 1 := Fin.ext (by blk_simp [idx t])
  blk_simp
  rw [after0_4, out4 m c t ht]
  refine (congrArg _ (eq_ix2 y)).trans ((pay3_apply (blk_2 m c hx t) (acc m c ha hw t ht) (y 0) (y 1)).trans ?_)
  rw [e0, e1]

include ha hw hx hg in
theorem result5 : (dats m 0 c).arrAt 5 (cfgs 0).N
    = fun i : S8192x2048.Idx => normed (fun d => mixed (X (i 0) d) (prod A W (i 0) d)) G (i 1) := by
  refine (dats m 0 c).arrAt_eq_of_covers 5 _ (by decide +kernel) fun t hf y => ?_
  have ht : t.val % 4 = 3 := (flush0_5 t).mp hf
  have e0 : (win0_5.blk t).view.emb y 0 = row t (y 0) := Fin.ext (by blk_simp [idx t]; show _ = 512 * (t.val / 4) + _; omega)
  have e1 : (win0_5.blk t).view.emb y 1 = y 1 := Fin.ext (by blk_simp [idx t])
  blk_simp
  rw [after0_5, out5 m c t ht]
  refine (congrArg _ (eq_ix2 y)).trans ((pay4_apply (blk_2 m c hx t) (acc m c ha hw t ht) (blk_3 m c hg t) (y 0) (y 1)).trans ?_)
  rw [e0, e1]

end Arrays

end Cert.ResIdeal.Value

namespace Cert.ResRefIdeal.Read

open Cert.ResRefIdeal Cert.ResRefIdeal.Gen Idealize.ShloMosaic
open Cert.RowRms (normed)
open Cert.ResIdeal.Value (mixed prod)

variable (a : FVec Ideal S8192x5632 .bf16) (w : FVec Ideal S5632x2048 .f32) (x : FVec Ideal S8192x2048 .f32) (g : FVec Ideal S2048 .f32)
  (p : Fin 8192) (d : Fin 2048)

/-- The reference's first result. -/
theorem v4 : val_main_v4 (F := Ideal) a w x (ix2 p d)
    = mixed (x (ix2 p d)) (prod (fun p k => a (ix2 p k)) (fun k d => w (ix2 k d)) p d) := by
  pointwise [val_main_v4, val_main_v3, val_main_v2, val_main_cst, val_main_v1, val_main_v0]
  rfl

/-- The reference's second result. -/
theorem v18 : val_main_v18 (F := Ideal) a w x g (ix2 p d)
    = normed (fun d => mixed (x (ix2 p d)) (prod (fun p k => a (ix2 p k)) (fun k d => w (ix2 k d)) p d)) (fun d => g (ix1 d)) d := by
  pointwise [val_main_v18, val_main_v17, val_main_v16, val_main_v15, val_main_v14, val_main_v13, val_main_v12, val_main_v11,
    val_main_v10, val_main_v9, val_main_v8, val_main_v7, val_main_v6, val_main_v5, val_main_cst_0, val_main_cst_1, val_main_cst_2]
  simp only [v4]
  rfl

end Cert.ResRefIdeal.Read

namespace Cert.Proof

open Idealize.ShloMosaic Idealize.ShloMosaic.TcCoe Idealize.SL.Sem

/-- The reference is host code alone: it declares no semaphore. -/
theorem resRef_frame : quiescent_ResRefIdeal := fun m g _ => (θ_run _ _ _).mono
  (fun r h => ⟨fun c => (h c).2.2, sem_eq_zero_of_no_sems (by decide) r.2⟩) (ResRefIdeal.Value.run m g)

theorem res_algebraic : algebraic_ResIdeal_ResRefIdeal := by
  intro m g m' g' _ hargs
  refine ⟨_, _, ResIdeal.Value.run_blocks m g, (θ_run _ _ _).mono (fun r h c => ?_) (ResRefIdeal.Value.run m' g')⟩
  obtain ⟨h0, h1, ha⟩ := h c
  obtain ⟨e0, e1, e2, e3⟩ := hargs c
  refine ⟨h0.trans ?_, h1.trans ?_, ha⟩
  · rw [ResRefIdeal.Read.val_main_v4_eq, e0, e1, e2]
    refine Eq.trans (funext fun i => ?_) (ResIdeal.Value.result4 m c (fun _ _ => rfl) (fun _ _ => rfl) (fun _ _ => rfl)).symm
    rw [eq_ix2 i]
    exact ResRefIdeal.Read.v4 _ _ _ (i 0) (i 1)
  · rw [ResRefIdeal.Read.val_main_v18_eq, e0, e1, e2, e3]
    refine Eq.trans (funext fun i => ?_)
      (ResIdeal.Value.result5 m c (fun _ _ => rfl) (fun _ _ => rfl) (fun _ _ => rfl) (fun _ => rfl)).symm
    rw [eq_ix2 i]
    exact ResRefIdeal.Read.v18 _ _ _ _ (i 0) (i 1)

end Cert.Proof

end
-- ==== Proof.MixClaim.lean ====
/-
  The mixers' output product with the residual and the next norm, and `reference.py`'s lines, leave the same two results,
  for all arguments. The kernel adds the product up over two blocks of 1024 columns for each block of 512 rows.
-/
module

public import proofs.«01_k».proof.Defs
public import proofs.«01_k».proof.Proof.RowRms
public import proofs.«01_k».proof.Proof.Gen.MixIdeal.Value
public import proofs.«01_k».proof.Proof.Gen.MixRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Adequacy
public import Idealize.ShloMosaic.Init
public import Mathlib.Algebra.BigOperators.Fin

@[expose] public section

set_option maxRecDepth 16384

noncomputable section

namespace Cert.MixIdeal.Value

open Cert.MixIdeal Cert.MixIdeal.Gen Idealize.ShloMosaic Idealize.ShloMosaic.TcCoe Idealize.SL.Sem
open Idealize.ShloMosaic.Pipeline (Dat)
open Cert.RowRms (normed)

section Body

variable {x v : Vec Ideal S512x2048 .f32} {g : Vec Ideal S1x2048 .f32} {X H : Fin 512 → Fin 2048 → EReal} {G : Fin 2048 → EReal}
  (hx : ∀ p d, x (ix2 p d) = X p d) (hv : ∀ p d, v (ix2 p d) = H p d) (hg : ∀ d, g (ix2 0 d) = G d)

theorem pay1_apply (p : Fin 512) (d : Fin 2048) : k0_pay1 (F := Ideal) (ix2 p d) = 0 := by
  pointwise [k0_pay1]

/-- One step's product, added to what the accumulator held. -/
theorem pay2_apply (a : Vec Ideal S512x1024 .bf16) (w : Vec Ideal S1024x2048 .bf16) (p : Fin 512) (d : Fin 2048) :
    k0_pay2 v a w (ix2 p d) = v (ix2 p d) + ∑ k, a (ix2 p k) * w (ix2 k d) := by
  pointwise [k0_pay2]

include hx hv in
theorem pay3_apply (p : Fin 512) (d : Fin 2048) : k0_pay3 x v (ix2 p d) = X p d + H p d := by
  pointwise [k0_pay3]
  rw [hx, hv]

include hx hv hg in
theorem pay4_apply (p : Fin 512) (d : Fin 2048) : k0_pay4 x v g (ix2 p d) = normed (fun k => X p k + H p k) G d := by
  pointwise [k0_pay4]
  simp only [pay3_apply hx hv, hg]
  rfl

end Body

variable (m : (ℓ : Loc nD τ sig) → Buf (Elt Ideal) ℓ)

theorem idx : ∀ t : Fin cfg0.N, win0_0.index t = ![t.val / 2, t.val % 2] ∧ win0_1.index t = ![t.val % 2, 0]
    ∧ win0_2.index t = ![t.val / 2, 0] ∧ win0_3.index t = ![0, 0] ∧ win0_4.index t = ![t.val / 2, 0]
    ∧ win0_5.index t = ![t.val / 2, 0] :=
  (by decide +kernel : ∀ t : Fin grid0.N, _)

section Arrays

variable (c : Dev nD)

/-- The array's row that row `p` of point `t`'s block is. -/
abbrev row (t : Fin cfg0.N) (p : Fin 512) : Fin 8192 :=
  ⟨512 * (t.val / 2) + p.val, by have := t.isLt; have hN : cfg0.N = 32 := N_0; omega⟩

/-- The column of the product's left factor that column `k` of point `t`'s block is. -/
abbrev col (t : Fin cfg0.N) (k : Fin 1024) : Fin 2048 := ⟨1024 * (t.val % 2) + k.val, by omega⟩

/-- The mixed rows, the weights, the residual and the next norm's gain. -/
abbrev A (p : Fin 8192) (k : Fin 2048) : EReal := (m ((c : Thread nD τ).loc main_arg0) : FVec Ideal S8192x2048 .bf16) (ix2 p k)
abbrev W (k d : Fin 2048) : EReal := (m ((c : Thread nD τ).loc main_arg1) : FVec Ideal S2048x2048 .f32) (ix2 k d)
abbrev X (p : Fin 8192) (d : Fin 2048) : EReal := (m ((c : Thread nD τ).loc main_arg2) : FVec Ideal S8192x2048 .f32) (ix2 p d)
abbrev G (d : Fin 2048) : EReal := (m ((c : Thread nD τ).loc main_arg3) : FVec Ideal S2048 .f32) (ix1 d)

/-- The product, and the residual with it. -/
def prod (p : Fin 8192) (d : Fin 2048) : EReal := ∑ k, A m c p k * W m c k d
def sum (p : Fin 8192) (d : Fin 2048) : EReal := X m c p d + prod m c p d

theorem blk_0 (t : Fin cfg0.N) (p : Fin 512) (k : Fin 1024) :
    (iblk m c 0 t : Vec Ideal S512x1024 .bf16) (ix2 p k) = A m c (row t p) (col t k) := by
  blk_ext [iblk, V, idx t]

theorem blk_1 (t : Fin cfg0.N) (k : Fin 1024) (d : Fin 2048) :
    (iblk m c 1 t : Vec Ideal S1024x2048 .bf16) (ix2 k d) = W m c (col t k) d := by
  blk_ext! [iblk, V, idx t]

theorem blk_2 (t : Fin cfg0.N) (p : Fin 512) (d : Fin 2048) :
    (iblk m c 2 t : Vec Ideal S512x2048 .f32) (ix2 p d) = X m c (row t p) d := by
  blk_ext [iblk, V, idx t]

theorem blk_3 (t : Fin cfg0.N) (d : Fin 2048) : (iblk m c 3 t : Vec Ideal S1x2048 .f32) (ix2 0 d) = G m c d := by
  blk_ext! [iblk, V, idx t]

theorem acc_A (t : Fin cfg0.N) (h : t.val % 2 = 0) :
    (outsAt0 m c t.val t.isLt).2.2 = k0_pay2 k0_pay1 (iblk m c 0 t) (iblk m c 1 t) := by
  rw [outsAt0_A m c t h (by omega)]; frame_out; try rw [read_unread_whole]

theorem acc_B (t : Fin cfg0.N) (h : t.val % 2 = 1) : (outsAt0 m c t.val t.isLt).2.2
    = k0_pay2 (outsAt0 m c (t.val - 1) (Nat.lt_of_le_of_lt (Nat.sub_le _ _) t.isLt)).2.2 (iblk m c 0 t) (iblk m c 1 t) := by
  rw [outsAt0_B m c t (by omega) h]; frame_out; try rw [read_unread_whole]

theorem out4 (t : Fin cfg0.N) (h : t.val % 2 = 1) :
    (outsAt0 m c t.val t.isLt).1 = k0_pay3 (iblk m c 2 t) (outsAt0 m c t.val t.isLt).2.2 := by
  rw [acc_B m c t h, outsAt0_B m c t (by omega) h]; frame_out; try rw [read_unread_whole]

theorem out5 (t : Fin cfg0.N) (h : t.val % 2 = 1) :
    (outsAt0 m c t.val t.isLt).2.1 = k0_pay4 (iblk m c 2 t) (outsAt0 m c t.val t.isLt).2.2 (iblk m c 3 t) := by
  rw [acc_B m c t h, outsAt0_B m c t (by omega) h]; frame_out; try rw [read_unread_whole]

/-- The accumulator at the second point of a block of rows. -/
theorem acc (t : Fin cfg0.N) (h : t.val % 2 = 1) (p : Fin 512) (d : Fin 2048) :
    (outsAt0 m c t.val t.isLt).2.2 (ix2 p d) = prod m c (row t p) d := by
  obtain ⟨s, hs⟩ : ∃ s : Fin cfg0.N, s.val = t.val - 1 := ⟨⟨t.val - 1, Nat.lt_of_le_of_lt (Nat.sub_le _ _) t.isLt⟩, rfl⟩
  have e := acc_A m c s (by omega)
  simp only [hs] at e
  rw [acc_B m c t h, pay2_apply, e, pay2_apply, pay1_apply, zero_add]
  have hr : row s p = row t p := Fin.ext (by show 512 * (s.val / 2) + _ = 512 * (t.val / 2) + _; omega)
  have c0 : ∀ k, col s k = Fin.castAdd 1024 k := fun k => Fin.ext (by show 1024 * (s.val % 2) + k.val = k.val; omega)
  have c1 : ∀ k, col t k = Fin.natAdd 1024 k := fun k => Fin.ext (by show 1024 * (t.val % 2) + k.val = 1024 + k.val; omega)
  simp only [blk_0, blk_1, hr, c0, c1]
  exact (Fin.sum_univ_add (a := 1024) (b := 1024) fun k => A m c (row t p) k * W m c k d).symm

theorem result4 : (dats m 0 c).arrAt 4 (cfgs 0).N = fun i : S8192x2048.Idx => sum m c (i 0) (i 1) := by
  refine (dats m 0 c).arrAt_eq_of_covers 4 _ (by decide +kernel) fun t hf y => ?_
  have ht : t.val % 2 = 1 := (flush0_4 t).mp hf
  have e0 : (win0_4.blk t).view.emb y 0 = row t (y 0) := Fin.ext (by blk_simp [idx t]; show _ = 512 * (t.val / 2) + _; omega)
  have e1 : (win0_4.blk t).view.emb y 1 = y 1 := Fin.ext (by blk_simp [idx t])
  blk_simp
  rw [after0_4, out4 m c t ht]
  refine (congrArg _ (eq_ix2 y)).trans ((pay3_apply (blk_2 m c t) (acc m c t ht) (y 0) (y 1)).trans ?_)
  rw [e0, e1]
  rfl

theorem result5 : (dats m 0 c).arrAt 5 (cfgs 0).N = fun i : S8192x2048.Idx => normed (sum m c (i 0)) (G m c) (i 1) := by
  refine (dats m 0 c).arrAt_eq_of_covers 5 _ (by decide +kernel) fun t hf y => ?_
  have ht : t.val % 2 = 1 := (flush0_5 t).mp hf
  have e0 : (win0_5.blk t).view.emb y 0 = row t (y 0) := Fin.ext (by blk_simp [idx t]; show _ = 512 * (t.val / 2) + _; omega)
  have e1 : (win0_5.blk t).view.emb y 1 = y 1 := Fin.ext (by blk_simp [idx t])
  blk_simp
  rw [after0_5, out5 m c t ht]
  refine (congrArg _ (eq_ix2 y)).trans ((pay4_apply (blk_2 m c t) (acc m c t ht) (blk_3 m c t) (y 0) (y 1)).trans ?_)
  rw [e0, e1]
  rfl

end Arrays

end Cert.MixIdeal.Value

namespace Cert.MixRefIdeal.Read

open Cert.MixRefIdeal Cert.MixRefIdeal.Gen Idealize.ShloMosaic
open Cert.RowRms (normed)

variable (a : FVec Ideal S8192x2048 .bf16) (w : FVec Ideal S2048x2048 .f32) (x : FVec Ideal S8192x2048 .f32) (g : FVec Ideal S2048 .f32)
  (p : Fin 8192) (d : Fin 2048)

/-- The reference's first result. -/
theorem v2 : val_main_v2 (F := Ideal) a w x (ix2 p d) = x (ix2 p d) + ∑ k, a (ix2 p k) * w (ix2 k d) := by
  pointwise [val_main_v2, val_main_v1, val_main_v0]

/-- The reference's second result. -/
theorem v16 : val_main_v16 (F := Ideal) a w x g (ix2 p d)
    = normed (fun d => x (ix2 p d) + ∑ k, a (ix2 p k) * w (ix2 k d)) (fun d => g (ix1 d)) d := by
  pointwise [val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
  simp only [v2]
  rfl

end Cert.MixRefIdeal.Read

namespace Cert.Proof

open Idealize.ShloMosaic Idealize.ShloMosaic.TcCoe Idealize.SL.Sem

/-- The reference is host code alone: it declares no semaphore. -/
theorem mixRef_frame : quiescent_MixRefIdeal := fun m g _ => (θ_run _ _ _).mono
  (fun r h => ⟨fun c => (h c).2.2, sem_eq_zero_of_no_sems (by decide) r.2⟩) (MixRefIdeal.Value.run m g)

theorem mix_algebraic : algebraic_MixIdeal_MixRefIdeal := by
  intro m g m' g' _ hargs
  refine ⟨_, _, MixIdeal.Value.run_blocks m g, (θ_run _ _ _).mono (fun r h c => ?_) (MixRefIdeal.Value.run m' g')⟩
  obtain ⟨h0, h1, ha⟩ := h c
  obtain ⟨e0, e1, e2, e3⟩ := hargs c
  refine ⟨h0.trans ?_, h1.trans ?_, ha⟩
  · rw [MixRefIdeal.Read.val_main_v2_eq, e0, e1, e2]
    refine Eq.trans (funext fun i => ?_) (MixIdeal.Value.result4 m c).symm
    rw [eq_ix2 i]
    exact MixRefIdeal.Read.v2 _ _ _ (i 0) (i 1)
  · rw [MixRefIdeal.Read.val_main_v16_eq, e0, e1, e2, e3]
    refine Eq.trans (funext fun i => ?_) (MixIdeal.Value.result5 m c).symm
    rw [eq_ix2 i]
    exact MixRefIdeal.Read.v16 _ _ _ _ (i 0) (i 1)

end Cert.Proof

end
-- ==== Proof.DyClaim.lean ====
/-
  The product with the transposed output weights (the mixers' cotangent) and the derivative of `mix @ w_out` leave the same
  result, for all arguments: both are the sum over the columns of a row of `dy` and a row of the weights, the kernel's on
  tiles of 1024 by 512.
-/
module

public import proofs.«01_k».proof.Defs
public import proofs.«01_k».proof.Proof.Gen.DyIdeal.Value
public import proofs.«01_k».proof.Proof.Gen.DyRefIdeal.Read
public import Idealize.ShloMosaic.Lib.Pipeline.ValueKit
public import Idealize.ShloMosaic.Lib.Pointwise
public import Idealize.ShloMosaic.Lib.StableHlo.RunRead
public import Idealize.ShloMosaic.Adequacy
public import Idealize.ShloMosaic.Init

@[expose] public section

set_option maxRecDepth 16384

noncomputable section

namespace Cert.DyIdeal.Value

open Cert.DyIdeal Cert.DyIdeal.Gen Idealize.ShloMosaic Idealize.ShloMosaic.TcCoe Idealize.SL.Sem
open Idealize.ShloMosaic.Pipeline (Dat)

/-- The product with the transpose. -/
def prodT {a b : ℕ} (d : Fin a → Fin 2048 → EReal) (w : Fin b → Fin 2048 → EReal) (p : Fin a) (k : Fin b) : EReal := ∑ q, d p q * w k q

theorem pay {d : Vec Ideal S1024x2048 .bf16} {w : Vec Ideal S512x2048 .bf16} {A : Fin 1024 → Fin 2048 → EReal} {W : Fin 512 → Fin 2048 → EReal}
    (hd : ∀ p q, d (ix2 p q) = A p q) (hw : ∀ k q, w (ix2 k q) = W k q) (p : Fin 1024) (k : Fin 512) :
    k0_pay1 d w (ix2 p k) = prodT A W p k := by
  pointwise [k0_pay1]
  simp only [hd, hw]
  rfl

variable (m : (ℓ : Loc nD τ sig) → Buf (Elt Ideal) ℓ) (c : Dev nD) {A : Fin 8192 → Fin 2048 → EReal} {W : Fin 2048 → Fin 2048 → EReal}
  (hd : ∀ p q, (m ((c : Thread nD τ).loc main_arg0) : FVec Ideal S8192x2048 .bf16) (ix2 p q) = A p q)
  (hw : ∀ k q, (m ((c : Thread nD τ).loc main_arg1) : FVec Ideal S2048x2048 .f32) (ix2 k q) = W k q)

theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- The array's row and column that row `p` and column `k` of a point's block are. -/
abbrev row (t : Fin cfg0.N) (p : Fin 1024) : Fin 8192 :=
  ⟨1024 * (t.val / 4) + p.val, by have := t.isLt; have hN : cfg0.N = 32 := N_0; omega⟩
@[inherit_doc row]
abbrev col (t : Fin cfg0.N) (k : Fin 512) : Fin 2048 := ⟨512 * (t.val % 4) + k.val, by omega⟩

include hd in
theorem blk_0 (t : Fin cfg0.N) (p : Fin 1024) (q : Fin 2048) : (iblk m c 0 t : Vec Ideal S1024x2048 .bf16) (ix2 p q) = A (row t p) q := by
  rw [← hd]
  blk_ext [iblk, V, idx t]

include hw in
theorem blk_1 (t : Fin cfg0.N) (k : Fin 512) (q : Fin 2048) : (iblk m c 1 t : Vec Ideal S512x2048 .bf16) (ix2 k q) = W (col t k) q := by
  rw [← hw]
  blk_ext! [iblk, V, idx t]

include hd hw in
theorem out2 (t : Fin cfg0.N) (y : S1024x512.Idx) : out0_2 (iblk m c 0 t) (iblk m c 1 t) y = prodT A W (row t (y 0)) (col t (y 1)) := by
  have z : (![0, 0] : Fin 2 → ℕ) = fun _ => 0 := by funext a; fin_cases a <;> rfl
  unfold out0_2
  refine (congrFun (View.canon_cons_unit_zero z _ _ _) y).trans ?_
  refine (congrFun (congrArg₂ k0_pay1 (View.ld_unit_zero z _ _) (View.ld_unit_zero z _ _)) y).trans ?_
  refine (congrArg _ (eq_ix2 y)).trans ?_
  exact pay (blk_0 m c hd t) (blk_1 m c hw t) (y 0) (y 1)

include hd hw in
theorem result2 : (dats m 0 c).arrAt 2 cfg0.N = fun i : S8192x2048.Idx => prodT A W (i 0) (i 1) := by
  refine (dats m 0 c).arrAt_eq_of_covers 2 _ (by decide +kernel) fun t _ y => ?_
  have e0 : (win0_2.blk t).view.emb y 0 = row t (y 0) := Fin.ext (by blk_simp [idx t]; show _ = 1024 * (t.val / 4) + _; omega)
  have e1 : (win0_2.blk t).view.emb y 1 = col t (y 1) := Fin.ext (by blk_simp [idx t]; show _ = 512 * (t.val % 4) + _; omega)
  blk_simp
  rw [after0_2]
  refine (out2 m c hd hw t y).trans ?_
  rw [e0, e1]

end Cert.DyIdeal.Value

namespace Cert.DyRefIdeal.Read

open Cert.DyRefIdeal Cert.DyRefIdeal.Gen Idealize.ShloMosaic
open Cert.DyIdeal.Value (prodT)

/-- The reference's result. -/
theorem v4 (d : FVec Ideal S8192x2048 .bf16) (w : FVec Ideal S2048x2048 .f32) (p : Fin 8192) (k : Fin 2048) :
    val_main_v4 (F := Ideal) d w (ix2 p k) = prodT (fun p q => d (ix2 p q)) (fun k q => w (ix2 k q)) p k := by
  pointwise [val_main_v4, val_main_v3, val_main_v2]
  rfl

end Cert.DyRefIdeal.Read

namespace Cert.Proof

open Idealize.ShloMosaic Idealize.ShloMosaic.TcCoe Idealize.SL.Sem

/-- The reference is host code alone: it declares no semaphore. -/
theorem ntRef_frame : quiescent_DyRefIdeal := fun m g _ => (θ_run _ _ _).mono
  (fun r h => ⟨fun c => (h c).2, sem_eq_zero_of_no_sems (by decide) r.2⟩) (DyRefIdeal.Value.run m g)

theorem nt_algebraic : algebraic_DyIdeal_DyRefIdeal := by
  intro m g m' g' _ hargs
  refine ⟨_, DyIdeal.Value.run_blocks m g, (θ_run _ _ _).mono (fun r h c => ?_) (DyRefIdeal.Value.run m' g')⟩
  obtain ⟨h0, ha⟩ := h c
  obtain ⟨e0, e1⟩ := hargs c
  refine ⟨h0.trans ?_, ha⟩
  rw [DyRefIdeal.Read.val_main_v4_eq, e0, e1]
  refine Eq.trans (funext fun i => ?_) (DyIdeal.Value.result2 m c (fun _ _ => rfl) (fun _ _ => rfl)).symm
  rw [eq_ix2 i]
  exact DyRefIdeal.Read.v4 _ _ (i 0) (i 1)

end Cert.Proof

end
-- ==== Proof.DwClaim.lean ====
/-
  The weights' gradient of the feed-forward's two input products and the derivative of `h @ w_gate` and `h @ w_up` leave the
  same result, for all arguments. The kernel adds the product over the rows up in four blocks of 2048 rows for each block
  of 512 columns; addition of extended real numbers is associative and commutative, so the blocks add up to the whole.
-/
module

public import proofs.«01_k».proof.Defs
public import proofs.«01_k».proof.Proof.Gen.DwIdeal.Value
public import proofs.«01_k».proof.Proof.Gen.DwRefIdeal.Read
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.StableHlo.RunRead
public import Idealize.ShloMosaic.Adequacy
public import Idealize.ShloMosaic.Init
public import Mathlib.Logic.Equiv.Fin.Basic

@[expose] public section

set_option maxRecDepth 16384

noncomputable section

namespace Cert.DwIdeal.Value

open Cert.DwIdeal Cert.DwIdeal.Gen Idealize.ShloMosaic Idealize.ShloMosaic.TcCoe Idealize.SL.Sem
open Idealize.ShloMosaic.Pipeline (Dat)

section Body

variable {v : Vec Ideal S512x2048 .f32} {a : Vec Ideal S1x2048x512 .bf16} {b : Vec Ideal S2048x2048 .bf16}
  {H : Fin 512 → Fin 2048 → EReal} {A : Fin 2048 → Fin 512 → EReal} {B : Fin 2048 → Fin 2048 → EReal}
  (hv : ∀ k d, v (ix2 k d) = H k d) (ha : ∀ p k, a (ix3 0 p k) = A p k) (hb : ∀ p d, b (ix2 p d) = B p d)

theorem pay1_apply (k : Fin 512) (d : Fin 2048) : k0_pay1 (F := Ideal) (ix2 k d) = 0 := by
  pointwise [k0_pay1]

include ha hb in
/-- One step's product, added to what the accumulator held. -/
theorem pay2_apply (k : Fin 512) (d : Fin 2048) : k0_pay2 v a b (ix2 k d) = v (ix2 k d) + ∑ p, A p k * B p d := by
  pointwise [k0_pay2]
  simp only [ha, hb]

include hv in
theorem pay3_apply (k : Fin 512) (d : Fin 2048) : k0_pay3 v (ix3 0 k d) = H k d := by
  pointwise [k0_pay3]
  exact hv k d

end Body

variable (m : (ℓ : Loc nD τ sig) → Buf (Elt Ideal) ℓ)

theorem idx : ∀ t : Fin cfg0.N, win0_0.index t = ![t.val / 44, t.val % 4, t.val / 4 % 11] ∧ win0_1.index t = ![t.val % 4, 0]
    ∧ win0_2.index t = ![t.val / 44, t.val / 4 % 11, 0] :=
  (by decide +kernel : ∀ t : Fin grid0.N, _)

section Arrays

variable (c : Dev nD) {A : Fin 2 → Fin 8192 → Fin 5632 → EReal} {B : Fin 8192 → Fin 2048 → EReal}
  (ha : ∀ g p k, (m ((c : Thread nD τ).loc main_arg0) : FVec Ideal S2x8192x5632 .bf16) (ix3 g p k) = A g p k)
  (hb : ∀ p d, (m ((c : Thread nD τ).loc main_arg1) : FVec Ideal S8192x2048 .bf16) (ix2 p d) = B p d)

/-- Which of the two weights a point works on. -/
abbrev mat (t : Fin cfg0.N) : Fin 2 := ⟨t.val / 44, by have := t.isLt; have hN : cfg0.N = 88 := N_0; omega⟩

/-- The array's row that row `p` of point `t`'s block is. -/
abbrev row (t : Fin cfg0.N) (p : Fin 2048) : Fin 8192 := ⟨2048 * (t.val % 4) + p.val, by omega⟩

/-- The array's column that column `k` of point `t`'s block is. -/
abbrev col (t : Fin cfg0.N) (k : Fin 512) : Fin 5632 := ⟨512 * (t.val / 4 % 11) + k.val, by omega⟩

include ha in
theorem blk_0 (t : Fin cfg0.N) (p : Fin 2048) (k : Fin 512) :
    (iblk m c 0 t : Vec Ideal S1x2048x512 .bf16) (ix3 0 p k) = A (mat t) (row t p) (col t k) := by
  rw [← ha]
  blk_ext [iblk, V, idx t]

include hb in
theorem blk_1 (t : Fin cfg0.N) (p : Fin 2048) (d : Fin 2048) : (iblk m c 1 t : Vec Ideal S2048x2048 .bf16) (ix2 p d) = B (row t p) d := by
  rw [← hb]
  blk_ext [iblk, V, idx t]

/-- The whole product over the rows. -/
def prod (A : Fin 8192 → Fin 5632 → EReal) (B : Fin 8192 → Fin 2048 → EReal) (k : Fin 5632) (d : Fin 2048) : EReal := ∑ p, A p k * B p d

/-- The share of one point in it. -/
def step (A : Fin 2 → Fin 8192 → Fin 5632 → EReal) (B : Fin 8192 → Fin 2048 → EReal) (t : Fin cfg0.N) (k : Fin 512) (d : Fin 2048) : EReal :=
  ∑ p, A (mat t) (row t p) (col t k) * B (row t p) d

/-- The points of one block of columns add up to the whole product. -/
theorem sum_step (A : Fin 2 → Fin 8192 → Fin 5632 → EReal) (B : Fin 8192 → Fin 2048 → EReal) (t : Fin cfg0.N) (u : Fin 4 → Fin cfg0.N)
    (hu : ∀ s, (u s).val = 4 * (t.val / 4) + s.val) (k : Fin 512) (d : Fin 2048) :
    ∑ s, step A B (u s) k d = prod (A (mat t)) B (col t k) d := by
  have hm : ∀ s, mat (u s) = mat t := fun s => Fin.ext (by
    show (u s).val / 44 = t.val / 44
    have := hu s; have := s.isLt; omega)
  have hc : ∀ s, col (u s) k = col t k := fun s => Fin.ext (by
    show 512 * ((u s).val / 4 % 11) + _ = 512 * (t.val / 4 % 11) + _
    have := hu s; have := s.isLt; omega)
  unfold step prod
  rw [← Fintype.sum_prod_type']
  refine Fintype.sum_equiv (finProdFinEquiv (m := 4) (n := 2048)) _ _ fun q => ?_
  have hr : row (u q.1) q.2 = finProdFinEquiv q := Fin.ext (by
    rw [finProdFinEquiv_apply_val]
    show 2048 * ((u q.1).val % 4) + _ = _
    have := hu q.1; have := q.1.isLt; omega)
  rw [hm, hc, hr]

theorem acc_A (t : Fin cfg0.N) (h : t.val % 4 = 0) :
    (outsAt0 m c t.val t.isLt).2 = k0_pay2 k0_pay1 (iblk m c 0 t) (iblk m c 1 t) := by
  rw [outsAt0_A m c t h (by omega)]; frame_out; try rw [read_unread_whole]

theorem acc_step (t : Fin cfg0.N) (h : ¬t.val % 4 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 4 = 3
  · rw [outsAt0_C m c t h h1]; frame_out; try rw [read_unread_whole]
  · rw [outsAt0_B m c t h h1]; frame_out; try rw [read_unread_whole]

theorem out2 (t : Fin cfg0.N) (h1 : t.val % 4 = 3) : (outsAt0 m c t.val t.isLt).1 = k0_pay3 (outsAt0 m c t.val t.isLt).2 := by
  have h : ¬t.val % 4 = 0 := by omega
  rw [acc_step m c t h, outsAt0_C m c t h h1]; frame_out; try rw [read_unread_whole]

include ha hb in
/-- The accumulator at the last point of a block of columns. -/
theorem acc (t : Fin cfg0.N) (ht : t.val % 4 = 3) (k : Fin 512) (d : Fin 2048) :
    (outsAt0 m c t.val t.isLt).2 (ix2 k d) = prod (A (mat t)) B (col t k) d := by
  have key := Pipeline.eq_sum_fin_of_reset_step_apply_of_flush (N := cfg0.N) (M := EReal)
    (fun n h (i : Fin 512 × Fin 2048) => (outsAt0 m c n h).2 (ix2 i.1 i.2)) 4 0 (fun t i => step A B t i.1 i.2)
    (fun t h i => by
      show (outsAt0 m c t.val t.isLt).2 (ix2 i.1 i.2) = _
      rw [acc_A m c t h, pay2_apply (blk_0 m c ha t) (blk_1 m c hb t), pay1_apply]
      rfl)
    (fun t h i => by
      show (outsAt0 m c t.val t.isLt).2 (ix2 i.1 i.2) = (outsAt0 m c (t.val - 1) _).2 (ix2 i.1 i.2) + _
      rw [acc_step m c t h, pay2_apply (blk_0 m c ha t) (blk_1 m c hb t)]
      rfl)
    t ht (k, d)
  refine key.trans ?_
  rw [Pi.zero_apply, zero_add]
  exact sum_step A B t _ (fun _ => rfl) k d

include ha hb in
theorem result2 : (dats m 0 c).arrAt 2 (cfgs 0).N = fun i : S2x5632x2048.Idx => prod (A (i 0)) B (i 1) (i 2) := by
  refine (dats m 0 c).arrAt_eq_of_covers 2 _ (by decide +kernel) fun t hf y => ?_
  have ht : t.val % 4 = 3 := (flush0_2 t).mp hf
  have e0 : (win0_2.blk t).view.emb y 0 = mat t := Fin.ext (by blk_simp [idx t])
  have e1 : (win0_2.blk t).view.emb y 1 = col t (y 1) := Fin.ext (by blk_simp [idx t]; show _ = 512 * (t.val / 4 % 11) + _; omega)
  have e2 : (win0_2.blk t).view.emb y 2 = y 2 := Fin.ext (by blk_simp [idx t])
  blk_simp
  rw [after0_2, out2 m c t ht]
  refine (congrArg _ ((eq_ix3 y).trans (congrArg (fun z : Fin 1 => ix3 z (y 1) (y 2)) (Subsingleton.elim _ 0)))).trans
    ((pay3_apply (acc m c ha hb t ht) (y 1) (y 2)).trans ?_)
  rw [e0, e1, e2]

end Arrays

end Cert.DwIdeal.Value

namespace Cert.DwRefIdeal.Read

open Cert.DwRefIdeal Cert.DwRefIdeal.Gen Idealize.ShloMosaic
open Cert.DwIdeal.Value (prod)

variable (a : FVec Ideal S2x8192x5632 .bf16) (h : FVec Ideal S8192x2048 .bf16)

/-- The reference's result. -/
theorem v18 (g : Fin 2) (k : Fin 5632) (d : Fin 2048) :
    val_main_v18 (F := Ideal) a h (ix3 g k d) = prod (fun p k => a (ix3 g p k)) (fun p d => h (ix2 p d)) k d := by
  fin_cases g
  · show val_main_v18 (F := Ideal) a h (ix3 0 k d) = _
    pointwise [val_main_v18, val_main_v17, val_main_v15, val_main_v13, val_main_v12, val_main_v11, val_main_v6, val_main_v5,
      val_main_v2, val_main_v1]
    rfl
  · show val_main_v18 (F := Ideal) a h (ix3 1 k d) = _
    pointwise [val_main_v18, val_main_v17, val_main_v16, val_main_v14, val_main_v10, val_main_v9, val_main_v8, val_main_v7,
      val_main_v2, val_main_v1]
    rfl

end Cert.DwRefIdeal.Read

namespace Cert.Proof

open Idealize.ShloMosaic Idealize.ShloMosaic.TcCoe Idealize.SL.Sem

/-- The reference is host code alone: it declares no semaphore. -/
theorem tnRef_frame : quiescent_DwRefIdeal := fun m g _ => (θ_run _ _ _).mono
  (fun r h => ⟨fun c => (h c).2, sem_eq_zero_of_no_sems (by decide) r.2⟩) (DwRefIdeal.Value.run m g)

theorem tn_algebraic : algebraic_DwIdeal_DwRefIdeal := by
  intro m g m' g' _ hargs
  refine ⟨_, DwIdeal.Value.run_blocks m g, (θ_run _ _ _).mono (fun r h c => ?_) (DwRefIdeal.Value.run m' g')⟩
  obtain ⟨h0, ha⟩ := h c
  obtain ⟨e0, e1⟩ := hargs c
  refine ⟨h0.trans ?_, ha⟩
  rw [DwRefIdeal.Read.val_main_v18_eq, e0, e1]
  refine Eq.trans (funext fun i => ?_) (DwIdeal.Value.result2 m c (fun _ _ _ => rfl) (fun _ _ => rfl)).symm
  rw [eq_ix3 i]
  exact DwRefIdeal.Read.v18 _ _ (i 0) (i 1) (i 2)

end Cert.Proof

end
-- ==== Proof.ZpBody.lean ====
/-
  The product of the forward attention's projections as a pipeline of 72 steps (8 blocks of rows, 9 blocks of columns each).
  The first three steps of a block of rows store a block of the plain columns, the other six a block of the attention's
  heads. The buffer of the plain columns is idle through those six steps and its last block is written back after them: it
  still holds what the third step stored. What every buffer holds after a step, the body at a step, the run, and its frame.
-/
module

public import proofs.«01_k».proof.Proof.Gen.ZpIdeal
public import proofs.«01_k».proof.Proof.Gen.ZpIdeal.Skeleton
public import proofs.«01_k».proof.Proof.Gen.ZpIdeal.Points
public import proofs.«01_k».proof.Proof.Gen.ZpIdeal.Frame
public import Idealize.ShloMosaic.Lib.Claim
public import Idealize.ShloMosaic.Lib.Pipeline.TableIdle

@[expose] public section

set_option maxRecDepth 16384

noncomputable section

namespace Cert.ZpIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ZpIdeal.Gen
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### What the body stores -/

abbrev rRows : Rect S1024x2048 := Rect.unit (s := S1024x2048) ![0, 0] S1024x2048.size inb_S1024x2048_S1024x2048_0_0
abbrev rWeights : Rect S512x2048 := Rect.unit (s := S512x2048) ![0, 0] S512x2048.size inb_S512x2048_S512x2048_0_0
abbrev rPlain : Rect S1024x512 := Rect.unit (s := S1024x512) ![0, 0] S1024x512.size inb_S1024x512_S1024x512_0_0
abbrev rHead0 : Rect S4x1024x128 := Rect.unit (s := S4x1024x128) ![0, 0, 0] S1x1024x128.size inb_S4x1024x128_S1x1024x128_0_0_0
abbrev rHead1 : Rect S4x1024x128 := Rect.unit (s := S4x1024x128) ![1, 0, 0] S1x1024x128.size inb_S4x1024x128_S1x1024x128_1_0_0
abbrev rHead2 : Rect S4x1024x128 := Rect.unit (s := S4x1024x128) ![2, 0, 0] S1x1024x128.size inb_S4x1024x128_S1x1024x128_2_0_0
abbrev rHead3 : Rect S4x1024x128 := Rect.unit (s := S4x1024x128) ![3, 0, 0] S1x1024x128.size inb_S4x1024x128_S1x1024x128_3_0_0

/-- The block of the plain columns. -/
def plain (x0 : Vec F S1024x2048 .bf16) (x1 : Vec F S512x2048 .bf16) : Vec F S1024x512 .bf16 :=
  View.canon [⟨rPlain, k0_pay1 (View.ld x0 rRows) (View.ld x1 rWeights)⟩]

theorem plain_cover (p : Vec F S1024x512 .bf16) (y : S1024x512.Idx) :
    ∃ pc ∈ ([⟨rPlain, p⟩] : List (View.Piece (Elt F) S1024x512 .bf16)), y ∈ pc.1.set :=
  View.cover_of_tiled [⟨rPlain, p⟩] S1024x512.size (by rfl) y

/-- The block of four heads. -/
def heads (x0 : Vec F S1024x2048 .bf16) (x1 : Vec F S512x2048 .bf16) : Vec F S4x1024x128 .bf16 :=
  View.canon [⟨rHead3, k0_pay5 (View.ld x0 rRows) (View.ld x1 rWeights)⟩, ⟨rHead2, k0_pay4 (View.ld x0 rRows) (View.ld x1 rWeights)⟩,
    ⟨rHead1, k0_pay3 (View.ld x0 rRows) (View.ld x1 rWeights)⟩, ⟨rHead0, k0_pay2 (View.ld x0 rRows) (View.ld x1 rWeights)⟩]

theorem heads_cover (p0 p1 p2 p3 : Vec F S1x1024x128 .bf16) (y : S4x1024x128.Idx) :
    ∃ pc ∈ ([⟨rHead3, p3⟩, ⟨rHead2, p2⟩, ⟨rHead1, p1⟩, ⟨rHead0, p0⟩] : List (View.Piece (Elt F) S4x1024x128 .bf16)), y ∈ pc.1.set :=
  View.cover_of_tiled [⟨rHead3, p3⟩, ⟨rHead2, p2⟩, ⟨rHead1, p1⟩, ⟨rHead0, p0⟩] S1x1024x128.size (by rfl) y

/-- The body where it stores the plain columns. -/
theorem kernel_plain (c : Dev nD) (E : Set ℕ) (i : grid0.Coords) (arg2 : Memref sig .tc .vmem S1024x2048 .bf16) (harg2 : arg2.IsWhole)
  (arg3 : Memref sig .tc .vmem S512x2048 .bf16) (harg3 : arg3.IsWhole) (arg4 : Memref sig .tc .vmem S1024x512 .bf16) (harg4 : arg4.IsWhole)
  (arg5 : Memref sig .tc .vmem S4x1024x128 .bf16) (harg5 : arg5.IsWhole) (x0 : Vec F S1024x2048 .bf16) (x1 : Vec F S512x2048 .bf16)
  (K : PUnit → sProp 𝕄)
    (h1 : k0_cond1 i = 1#1) (h2 : ¬ k0_cond2 i = 1#1) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (plain x0 x1)) -∗ K ⟨⟩))
      ⊢ wp frame (wpE (defs₀ (F := F)) Variants.none c none) E (cc0_z_proj i arg2 harg2 arg3 harg3 arg4 harg4 arg5 harg5) K := by
  simp only [cc0_z_proj_eq_skeleton]; unfold cc0_z_proj_skel
  unfold owns
  iintro ⟨⟨%f0, %hf0, H0⟩, ⟨%f1, %hf1, H1⟩, ⟨%d2, %f2, -, H2⟩, Hk⟩
  subst hf0; subst hf1
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (plain_cover _)

/-- The body where it stores four heads. -/
theorem kernel_heads (c : Dev nD) (E : Set ℕ) (i : grid0.Coords) (arg2 : Memref sig .tc .vmem S1024x2048 .bf16) (harg2 : arg2.IsWhole)
  (arg3 : Memref sig .tc .vmem S512x2048 .bf16) (harg3 : arg3.IsWhole) (arg4 : Memref sig .tc .vmem S1024x512 .bf16) (harg4 : arg4.IsWhole)
  (arg5 : Memref sig .tc .vmem S4x1024x128 .bf16) (harg5 : arg5.IsWhole) (x0 : Vec F S1024x2048 .bf16) (x1 : Vec F S512x2048 .bf16)
  (K : PUnit → sProp 𝕄)
    (h1 : ¬ k0_cond1 i = 1#1) (h2 : k0_cond2 i = 1#1) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (heads x0 x1)) -∗ K ⟨⟩))
      ⊢ wp frame (wpE (defs₀ (F := F)) Variants.none c none) E (cc0_z_proj i arg2 harg2 arg3 harg3 arg4 harg4 arg5 harg5) K := by
  simp only [cc0_z_proj_eq_skeleton]; unfold cc0_z_proj_skel
  unfold owns
  iintro ⟨⟨%f0, %hf0, H0⟩, ⟨%f1, %hf1, H1⟩, ⟨%d3, %f3, -, H3⟩, Hk⟩
  subst hf0; subst hf1
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  exact View.read_writes_eq_canon _ _ _ (heads_cover _ _ _ _)

/-! ### The schedule -/

theorem cond1_iff : ∀ t : Fin cfg0.N, k0_cond1 (grid0.coords t) = 1#1 ↔ t.val % 9 < 3 := (by decide +kernel : ∀ t : Fin grid0.N, _)
theorem cond2_iff : ∀ t : Fin cfg0.N, k0_cond2 (grid0.coords t) = 1#1 ↔ ¬ t.val % 9 < 3 := (by decide +kernel : ∀ t : Fin grid0.N, _)
/-- Where the block of the plain columns is written back, and the block of heads. -/
theorem flush_2 : ∀ t : Fin cfg0.N, (cfg0.win 2).flush t = decide (t.val % 9 < 2 ∨ t.val % 9 = 8) := (by decide +kernel : ∀ t : Fin grid0.N, win0_2.flush t = _)
theorem flush_3 : ∀ t : Fin cfg0.N, (cfg0.win 3).flush t = decide (¬ t.val % 9 < 3) := (by decide +kernel : ∀ t : Fin grid0.N, win0_3.flush t = _)

theorem idle_2 (t : Fin cfg0.N) : cfg0.idle 2 (cfg0.grid.coords t) = !decide (t.val % 9 < 3) := by
  show (!(k0_cond1 (grid0.coords t) == 1#1)) = _
  by_cases h : t.val % 9 < 3
  · rw [(cond1_iff t).mpr h, decide_eq_true h]; rfl
  · rw [decide_eq_false h, beq_eq_false_iff_ne.mpr fun e => h ((cond1_iff t).mp e)]
theorem idle_3 (t : Fin cfg0.N) : cfg0.idle 3 (cfg0.grid.coords t) = decide (t.val % 9 < 3) := by
  show (!(k0_cond2 (grid0.coords t) == 1#1)) = _
  by_cases h : t.val % 9 < 3
  · rw [decide_eq_true h, beq_eq_false_iff_ne.mpr fun e => (cond2_iff t).mp e h]; rfl
  · rw [(cond2_iff t).mpr h, decide_eq_false h]; rfl

/-- The buffer of the plain columns holds nothing stored at the first three steps of a block of rows. -/
theorem fresh_2 (t : Fin cfg0.N) : cfg0.fresh 2 t.val = decide (t.val % 9 < 3) :=
  cfg0.fresh_tab 2 (fun n => decide (n % 9 < 3)) rfl (fun t => by
    rw [flush_2, idle_2, Bool.eq_iff_iff]; simp only [Bool.or_eq_true, Bool.and_eq_true, Bool.not_eq_true', decide_eq_true_eq, decide_eq_false_iff_not]; omega) t.val t.isLt.le

/-- The last step of `t`'s block of rows, up to `t`, that stored plain columns. -/
def last (t : Fin cfg0.N) : Fin cfg0.N := ⟨t.val - t.val % 9 + min (t.val % 9) 2, by have := t.isLt; omega⟩

theorem last_self (t : Fin cfg0.N) (h : t.val % 9 < 3) : last t = t := Fin.ext (by show t.val - t.val % 9 + min (t.val % 9) 2 = t.val; omega)
theorem last_pred (t : Fin cfg0.N) (h : ¬ t.val % 9 < 3) : last t = last ⟨t.val - 1, by omega⟩ :=
  Fin.ext (by show t.val - t.val % 9 + min (t.val % 9) 2 = (t.val - 1) - (t.val - 1) % 9 + min ((t.val - 1) % 9) 2; omega)

/-! ### What every buffer holds after a step -/

/-- The plain columns' block at a step. -/
def plainAt (c : Dev nD) (t : Fin cfg0.N) : Vec F S1024x512 .bf16 := plain (iblk m c 0 (last t)) (iblk m c 1 (last t))
def headsAt (c : Dev nD) (t : Fin cfg0.N) : Vec F S4x1024x128 .bf16 := heads (iblk m c 0 t) (iblk m c 1 t)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => plainAt m c t
    | ⟨3, _⟩ => headsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = plainAt m c t := by dsimp only [dats]
theorem after_3 (c : Dev nD) (t : Fin cfg0.N) : (dats m 0 c).after 3 t = headsAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- Through the steps that store heads the plain columns' buffer holds what the third step stored. -/
theorem before_2 (c : Dev nD) (t : Fin cfg0.N) (h : ¬ t.val % 9 < 3) (d) : (dats m 0 c).before 2 t d = plainAt m c t := by
  rw [(dats m 0 c).before_out_traj 2 rfl (fun _ _ => rfl) (fun t ht hi hf => by
    rw [fresh_2, decide_eq_false_iff_not] at hf
    rw [after_2, after_2]; unfold plainAt; rw [last_pred t hf]) t.val t rfl d, fresh_2, decide_eq_false h, if_neg Bool.false_ne_true, after_2]
  unfold plainAt; rw [last_pred t h]

/-! ### The body at a step -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem leaves_2 (c : Dev nD) (t : Fin cfg0.N) (h : t.val % 9 < 3) :
    (dats m 0 c).leavesExact 2 t = owns (c : Thread nD τ) (st0_2 t) fullShare (plain (iblk m c 0 t) (iblk m c 1 t)) := by
  unfold Dat.leavesExact
  rw [idle_2, decide_eq_true h, after_2, plainAt, last_self t h]; rfl

/-- At a step that stores heads the plain columns' buffer is left as found, also where it is written back. -/
theorem leaves_2_idle (c : Dev nD) (t : Fin cfg0.N) (h : ¬ t.val % 9 < 3) (d) :
    (owns (c : Thread nD τ) (st0_2 t) fullShare ((dats m 0 c).before 2 t d) : sProp 𝕄) ⊢ (dats m 0 c).leavesExact 2 t := by
  unfold Dat.leavesExact
  rw [idle_2, decide_eq_false h]
  cases hf : (cfg0.win 2).flush t
  · show _ ⊢ iprop(∃ d, owns (c : Thread nD τ) (st0_2 t) fullShare ((dats m 0 c).before 2 t d))
    iintro H; iexists d; iexact H
  · rw [before_2 m c t h, after_2]; exact .rfl

theorem leaves_3 (c : Dev nD) (t : Fin cfg0.N) (h : ¬ t.val % 9 < 3) :
    (dats m 0 c).leavesExact 3 t = owns (c : Thread nD τ) (st0_3 t) fullShare (heads (iblk m c 0 t) (iblk m c 1 t)) := by
  unfold Dat.leavesExact
  rw [idle_3, decide_eq_false h, after_3, headsAt]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl, after_0,
    show (dats m 0 c).leavesExact 1 t = owns (c : Thread nD τ) (st0_1 t) fullShare ((dats m 0 c).after 1 t) from rfl, after_1]
  by_cases h : t.val % 9 < 3
  · rw [leaves_2 m c t h, Dat.leavesExact_idle (dats m 0 c) 3 t ((idle_3 t).trans (decide_eq_true h)) ((flush_3 t).trans (decide_eq_false (not_not_intro h)))]
    iintro ⟨HΦ, Ho, ⟨%d0, H0⟩, ⟨%d1, H1⟩, ⟨%d2, H2⟩, ⟨%d3, H3⟩⟩
    iapply (kernel_plain c Set.univ (grid0.coords t) _ _ _ _ _ _ _ _ (iblk m c 0 t) (iblk m c 1 t) _ ((cond1_iff t).mpr h) (fun e => (cond2_iff t).mp e h))
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    iexists _; iexact H3
  · rw [leaves_3 m c t h]
    iintro ⟨HΦ, Ho, ⟨%d0, H0⟩, ⟨%d1, H1⟩, ⟨%d2, H2⟩, ⟨%d3, H3⟩⟩
    iapply (kernel_heads c Set.univ (grid0.coords t) _ _ _ _ _ _ _ _ (iblk m c 0 t) (iblk m c 1 t) _ (fun e => h ((cond1_iff t).mp e)) ((cond2_iff t).mpr h))
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iapply (leaves_2_idle m c t h d2); iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.ZpIdeal.Body

end
-- ==== Proof.ZpBits.lean ====
module

public import proofs.«01_k».proof.Proof.Gen.Zp
public import proofs.«01_k».proof.Proof.ZpBody

/-! The program as printed and the program read over the extended reals are one program at the machine's numbers: the
frame of the second is the frame of the first. -/

@[expose] public section

set_option maxRecDepth 16384

noncomputable section

namespace Cert.Zp.Body

open Idealize.ShloMosaic Idealize.ShloMosaic.TcCoe Idealize.SL.Sem

variable {F : FTy → Type} [FloatOps F]

variable (m : (ℓ : Loc nD τ sig) → Buf (Elt F) ℓ) (ρ : Dev nD → PrngReg)

theorem run_eq (Q) : θ_run (Cert.ZpIdeal.defs (F := F)) (onTc (τ := τ) (Cert.ZpIdeal.main (F := F))) ⟨m, fun _ => 0, ρ⟩ Q
    = θ_run (defs (F := F)) (onTc (τ := τ) (main (F := F))) ⟨m, fun _ => 0, ρ⟩ Q := by sl_kernel_rfl

/-- The frame: every run ends, leaves the arguments as they were and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (run_eq m ρ _).mp (Cert.ZpIdeal.Body.frame (F := F) m ρ)

end Cert.Zp.Body
-- ==== Proof.ZpClaim.lean ====
/-
  The forward attention's input product and `h @ w_in` leave the same two results, for all arguments: the plain columns as
  they stand and the other columns head by head. The kernel multiplies 1024 rows by 512 columns at a time.
-/
module

public import proofs.«01_k».proof.Defs
public import proofs.«01_k».proof.Proof.ZpBody
public import proofs.«01_k».proof.Proof.Gen.ZpRefIdeal.Read
public import Idealize.ShloMosaic.Lib.Pipeline.ValueKit
public import Idealize.ShloMosaic.Lib.Pointwise
public import Idealize.ShloMosaic.Lib.StableHlo.RunRead
public import Idealize.ShloMosaic.Adequacy
public import Idealize.ShloMosaic.Init

@[expose] public section

set_option maxRecDepth 16384

noncomputable section

namespace Cert.ZpIdeal.Final

open Cert.ZpIdeal Cert.ZpIdeal.Gen Cert.ZpIdeal.Body Idealize.ShloMosaic Idealize.ShloMosaic.TcCoe Idealize.SL.Sem
open Idealize.ShloMosaic.Pipeline (Dat)

/-! ### A step's blocks -/

section Step

variable {x0 : Vec Ideal S1024x2048 .bf16} {x1 : Vec Ideal S512x2048 .bf16} {X : Fin 1024 → Fin 2048 → EReal} {Y : Fin 2048 → Fin 512 → EReal}
  (h0 : ∀ p d, x0 (ix2 p d) = X p d) (h1 : ∀ d k, x1 (ix2 k d) = Y d k)

include h0 h1 in
/-- The step's product. -/
theorem pay1_apply (p : Fin 1024) (k : Fin 512) : k0_pay1 x0 x1 (ix2 p k) = ∑ d, X p d * Y d k := by
  pointwise [k0_pay1]
  simp only [h0, h1]

theorem ld_rows (x : Vec Ideal S1024x2048 .bf16) : View.ld x rRows = x := View.ld_unit_zero (by funext a; fin_cases a <;> rfl) _ _
theorem ld_weights (x : Vec Ideal S512x2048 .bf16) : View.ld x rWeights = x := View.ld_unit_zero (by funext a; fin_cases a <;> rfl) _ _

include h0 h1 in
theorem plain_apply (y : S1024x512.Idx) : plain x0 x1 y = ∑ d, X (y 0) d * Y d (y 1) := by
  unfold plain
  rw [ld_rows, ld_weights]
  refine (congrFun (View.canon_cons_unit_zero (by funext a; fin_cases a <;> rfl) _ _ _) y).trans ?_
  exact (congrArg _ (eq_ix2 y)).trans (pay1_apply h0 h1 (y 0) (y 1))

/-- The step's column that entry `d` of head `n` of its four is. -/
abbrev at4 (n : Fin 4) (d : Fin 128) : Fin 512 := ⟨128 * n.val + d.val, by omega⟩

theorem pay2_apply (p : Fin 1024) (d : Fin 128) : k0_pay2 x0 x1 (ix3 0 p d) = k0_pay1 x0 x1 (ix2 p (at4 0 d)) := by
  unfold k0_pay2; generalize k0_pay1 x0 x1 = z; pointwise
  exact congrArg (fun k => z (ix2 p k)) (Fin.ext (show _ = 128 * 0 + d.val by dsimp only; omega))
theorem pay3_apply (p : Fin 1024) (d : Fin 128) : k0_pay3 x0 x1 (ix3 0 p d) = k0_pay1 x0 x1 (ix2 p (at4 1 d)) := by
  unfold k0_pay3; generalize k0_pay1 x0 x1 = z; pointwise
  exact congrArg (fun k => z (ix2 p k)) (Fin.ext (show _ = 128 * 1 + d.val by dsimp only))
theorem pay4_apply (p : Fin 1024) (d : Fin 128) : k0_pay4 x0 x1 (ix3 0 p d) = k0_pay1 x0 x1 (ix2 p (at4 2 d)) := by
  unfold k0_pay4; generalize k0_pay1 x0 x1 = z; pointwise
  exact congrArg (fun k => z (ix2 p k)) (Fin.ext (show _ = 128 * 2 + d.val by dsimp only))
theorem pay5_apply (p : Fin 1024) (d : Fin 128) : k0_pay5 x0 x1 (ix3 0 p d) = k0_pay1 x0 x1 (ix2 p (at4 3 d)) := by
  unfold k0_pay5; generalize k0_pay1 x0 x1 = z; pointwise
  exact congrArg (fun k => z (ix2 p k)) (Fin.ext (show _ = 128 * 3 + d.val by dsimp only))

/-- One head's piece, at an index of the block of four. -/
theorem piece {w : Vec Ideal S1x1024x128 .bf16} {z : Vec Ideal S1024x512 .bf16} (n : Fin 4)
    (hw : ∀ p d, w (ix3 0 p d) = z (ix2 p (at4 n d))) (x : S1x1024x128.Idx) (y : S4x1024x128.Idx)
    (e0 : (y 0).val = n.val) (e1 : (y 1).val = (x 1).val) (e2 : (y 2).val = (x 2).val) : w x = z (ix2 (y 1) (at4 (y 0) (y 2))) := by
  rw [show y 0 = n from Fin.ext e0, show y 1 = x 1 from Fin.ext e1, show y 2 = x 2 from Fin.ext e2]
  exact (congrArg w ((eq_ix3 x).trans (congrArg (fun z : Fin 1 => ix3 z (x 1) (x 2)) (Subsingleton.elim _ 0)))).trans (hw (x 1) (x 2))

include h0 h1 in
theorem heads_apply (y : S4x1024x128.Idx) : heads x0 x1 y = ∑ d, X (y 1) d * Y d (at4 (y 0) (y 2)) := by
  refine Eq.trans ?_ (pay1_apply h0 h1 (y 1) (at4 (y 0) (y 2)))
  unfold heads
  rw [ld_rows, ld_weights]
  canon_tiles x e
  · exact piece 3 pay5_apply x y (by have := (x 0).isLt; simp at *; omega) (by simp at *; omega) (by simp at *; omega)
  · exact piece 2 pay4_apply x y (by have := (x 0).isLt; simp at *; omega) (by simp at *; omega) (by simp at *; omega)
  · exact piece 1 pay3_apply x y (by have := (x 0).isLt; simp at *; omega) (by simp at *; omega) (by simp at *; omega)
  · exact piece 0 pay2_apply x y (by have := (x 0).isLt; simp at *; omega) (by simp at *; omega) (by simp at *; omega)

end Step

/-! ### The arrays -/

variable (m : (ℓ : Loc nD τ sig) → Buf (Elt Ideal) ℓ) (c : Dev nD) {H : Fin 8192 → Fin 2048 → EReal} {W : Fin 2048 → Fin 4608 → EReal}
  (hh : ∀ p d, (m ((c : Thread nD τ).loc main_arg0) : FVec Ideal S8192x2048 .bf16) (ix2 p d) = H p d)
  (hw : ∀ d k, (m ((c : Thread nD τ).loc main_arg1) : FVec Ideal S2048x4608 .f32) (ix2 d k) = W d k)

theorem idx : ∀ t : Fin cfg0.N, win0_0.index t = ![t.val / 9, 0] ∧ win0_1.index t = ![t.val % 9, 0]
    ∧ win0_2.index t = ![t.val / 9, min (t.val % 9) 2] ∧ win0_3.index t = ![t.val % 9 - 3, t.val / 9, 0] :=
  (by decide +kernel : ∀ t : Fin grid0.N, _)

/-- The array's row that row `p` of point `t`'s block is. -/
abbrev row (t : Fin cfg0.N) (p : Fin 1024) : Fin 8192 := ⟨1024 * (t.val / 9) + p.val, by have := t.isLt; have hN : cfg0.N = 72 := N_0; omega⟩

/-- The product's column that column `k` of point `t`'s block is. -/
abbrev col (t : Fin cfg0.N) (k : Fin 512) : Fin 4608 := ⟨512 * (t.val % 9) + k.val, by omega⟩

include hh in
theorem blk_0 (t : Fin cfg0.N) (p : Fin 1024) (d : Fin 2048) : (iblk m c 0 t : Vec Ideal S1024x2048 .bf16) (ix2 p d) = H (row t p) d := by
  rw [← hh]
  blk_ext [iblk, V, idx t]

/-- The weights as the kernel is given them: transposed. -/
theorem V_v1 (k : Fin 4608) (d : Fin 2048) : (V m c main_v1 : FVec Ideal S4608x2048 .bf16) (ix2 k d)
    = (m ((c : Thread nD τ).loc main_arg1) : FVec Ideal S2048x4608 .f32) (ix2 d k) := by
  have e : (V m c main_v1 : FVec Ideal S4608x2048 .bf16) = (truncf .bf16 (transpose S4608x2048 [1, 0]
      (m ((c : Thread nD τ).loc main_arg1) : FVec Ideal S2048x4608 .f32) transposes_S2048x4608_S4608x2048_1_0 : FVec Ideal S4608x2048 .f32)
      bitsLt_bf16_f32 : FVec Ideal S4608x2048 .bf16) := by
    after_reads_simp
  rw [e]
  pointwise

include hw in
theorem blk_1 (t : Fin cfg0.N) (d : Fin 2048) (k : Fin 512) : (iblk m c 1 t : Vec Ideal S512x2048 .bf16) (ix2 k d) = W d (col t k) := by
  rw [← hw, ← V_v1 m c]
  blk_ext [iblk, idx t]

/-- The whole product. -/
def prod (H : Fin 8192 → Fin 2048 → EReal) (W : Fin 2048 → Fin 4608 → EReal) (p : Fin 8192) (k : Fin 4608) : EReal := ∑ d, H p d * W d k

/-- The product's column that entry `d` of head `n` is. -/
abbrev head (n : Fin 24) (d : Fin 128) : Fin 4608 := ⟨1536 + 128 * n.val + d.val, by omega⟩

include hh hw in
/-- The array of the plain columns. -/
theorem result2 : (dats m 0 c).arrAt 2 cfg0.N = fun i : S8192x1536.Idx => prod H W (i 0) ⟨(i 1).val, (i 1).isLt.trans (by decide)⟩ := by
  refine (dats m 0 c).arrAt_eq_of_covers 2 _ (by decide +kernel) fun t _ y => ?_
  have l0 : (last t).val / 9 = t.val / 9 := by show (t.val - t.val % 9 + min (t.val % 9) 2) / 9 = _; omega
  have l1 : (last t).val % 9 = min (t.val % 9) 2 := by show (t.val - t.val % 9 + min (t.val % 9) 2) % 9 = _; omega
  have e0 : (win0_2.blk t).view.emb y 0 = row (last t) (y 0) := Fin.ext (by
    blk_simp [idx t]; show _ = 1024 * ((last t).val / 9) + _; rw [l0]; omega)
  have e1 : win0_2.index t 1 * 512 + (y 1).val = (col (last t) (y 1)).val := by
    rw [(idx t).2.2.1]; show min (t.val % 9) 2 * 512 + _ = 512 * ((last t).val % 9) + _; rw [l1]; omega
  blk_simp
  rw [after_2, plainAt]
  refine (plain_apply (blk_0 m c hh (last t)) (blk_1 m c hw (last t)) y).trans ?_
  exact (congrArg₂ (prod H W) e0 (Fin.ext e1)).symm

include hh hw in
/-- The array of the heads. -/
theorem result3 : (dats m 0 c).arrAt 3 cfg0.N = fun i : S24x8192x128.Idx => prod H W (i 1) (head (i 0) (i 2)) := by
  refine (dats m 0 c).arrAt_eq_of_covers 3 _ (by decide +kernel) fun t hf y => ?_
  have ht : ¬ t.val % 9 < 3 := of_decide_eq_true ((flush_3 t).symm.trans hf)
  have e0 : ((win0_3.blk t).view.emb y 0).val = 4 * (t.val % 9 - 3) + (y 0).val := by blk_simp [idx t]; omega
  have e1 : (win0_3.blk t).view.emb y 1 = row t (y 1) := Fin.ext (by blk_simp [idx t]; show _ = 1024 * (t.val / 9) + _; omega)
  have e2 : (win0_3.blk t).view.emb y 2 = y 2 := Fin.ext (by blk_simp [idx t])
  have e : head ((win0_3.blk t).view.emb y 0) ((win0_3.blk t).view.emb y 2) = col t (at4 (y 0) (y 2)) := Fin.ext (by
    show 1536 + 128 * ((win0_3.blk t).view.emb y 0).val + ((win0_3.blk t).view.emb y 2).val = 512 * (t.val % 9) + (128 * (y 0).val + (y 2).val)
    rw [e0, e2]; omega)
  blk_simp
  rw [after_3, headsAt]
  refine (heads_apply (blk_0 m c hh t) (blk_1 m c hw t) y).trans ?_
  exact (congrArg₂ (prod H W) e1 e).symm

/-- Every run ends with the two arrays of the kernel call and the arguments as launched. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v2_0) = (dats m 0 c).arrAt 2 (cfgs 0).N
      ∧ r.2.mem ((c : Thread nD τ).loc main_v2_1) = (dats m 0 c).arrAt 3 (cfgs 0).N
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun _ h c => ⟨(h c).1 2, (h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.ZpIdeal.Final

namespace Cert.ZpRefIdeal.Read

open Cert.ZpRefIdeal Cert.ZpRefIdeal.Gen Idealize.ShloMosaic
open Cert.ZpIdeal.Final (prod head)

variable (h : FVec Ideal S8192x2048 .bf16) (w : FVec Ideal S2048x4608 .f32)

/-- The reference's results. -/
theorem v2 (p : Fin 8192) (k : Fin 4608) :
    val_main_v2 (F := Ideal) h w (ix2 p k) = prod (fun p d => h (ix2 p d)) (fun d k => w (ix2 d k)) p k := by
  pointwise [val_main_v2, val_main_v1, val_main_v0]
  rfl

theorem v3 (p : Fin 8192) (k : Fin 1536) : val_main_v3 (F := Ideal) h w (ix2 p k)
    = prod (fun p d => h (ix2 p d)) (fun d k => w (ix2 d k)) p ⟨k.val, k.isLt.trans (by decide)⟩ := by
  rw [← v2]
  unfold val_main_v3
  generalize val_main_v2 (F := Ideal) h w = z
  pointwise

theorem v6 (n : Fin 24) (p : Fin 8192) (d : Fin 128) : val_main_v6 (F := Ideal) h w (ix3 n p d)
    = prod (fun p d => h (ix2 p d)) (fun d k => w (ix2 d k)) p (head n d) := by
  rw [← v2]
  unfold val_main_v6 val_main_v5 val_main_v4
  generalize val_main_v2 (F := Ideal) h w = z
  pointwise
  exact congrArg (fun k => z (ix2 p k)) (Fin.ext (show _ = 1536 + 128 * n.val + d.val by dsimp only; omega))

end Cert.ZpRefIdeal.Read

namespace Cert.Proof

open Idealize.ShloMosaic Idealize.ShloMosaic.TcCoe Idealize.SL.Sem

/-- The reference is host code alone: it declares no semaphore. -/
theorem zpRef_frame : quiescent_ZpRefIdeal := fun m g _ => (θ_run _ _ _).mono
  (fun r h => ⟨fun c => (h c).2.2, sem_eq_zero_of_no_sems (by decide) r.2⟩) (ZpRefIdeal.Value.run m g)

theorem zp_algebraic : algebraic_ZpIdeal_ZpRefIdeal := by
  intro m g m' g' _ hargs
  refine ⟨_, _, ZpIdeal.Final.run_blocks m g, (θ_run _ _ _).mono (fun r h c => ?_) (ZpRefIdeal.Value.run m' g')⟩
  obtain ⟨h0, h1, ha⟩ := h c
  obtain ⟨e0, e1⟩ := hargs c
  refine ⟨h0.trans ?_, h1.trans ?_, ha⟩
  · rw [ZpRefIdeal.Read.val_main_v3_eq, e0, e1]
    refine Eq.trans (funext fun i => ?_) (ZpIdeal.Final.result2 m c (fun _ _ => rfl) (fun _ _ => rfl)).symm
    rw [eq_ix2 i]
    exact ZpRefIdeal.Read.v3 _ _ (i 0) (i 1)
  · rw [ZpRefIdeal.Read.val_main_v6_eq, e0, e1]
    refine Eq.trans (funext fun i => ?_) (ZpIdeal.Final.result3 m c (fun _ _ => rfl) (fun _ _ => rfl)).symm
    rw [eq_ix3 i]
    exact ZpRefIdeal.Read.v6 _ _ (i 0) (i 1) (i 2)

end Cert.Proof

end
-- ==== Proof.AdamClaim.lean ====
/-
  The optimiser's step on one weight and `reference.py`'s AdamW lines leave the same three results (the change, the two
  moments), for all arguments: both compute the same expression of an entry, the kernel on blocks of 256 of the 8192 rows
  that the weight's first two axes are laid out in.
-/
module

public import proofs.«01_k».proof.Defs
public import proofs.«01_k».proof.Proof.Gen.AdamIdeal.Value
public import proofs.«01_k».proof.Proof.Gen.AdamRefIdeal.Read
public import Idealize.ShloMosaic.Lib.Pipeline.ValueKit
public import Idealize.ShloMosaic.Lib.Pointwise
public import Idealize.ShloMosaic.Lib.StableHlo.RunRead
public import Idealize.ShloMosaic.Adequacy
public import Idealize.ShloMosaic.Init

@[expose] public section

set_option maxRecDepth 16384

noncomputable section

namespace Cert.AdamIdeal.Value

open Cert.AdamIdeal Cert.AdamIdeal.Gen Idealize.ShloMosaic Idealize.ShloMosaic.TcCoe Idealize.SL.Sem
open Idealize.ShloMosaic.Pipeline (Dat)

/-- The first moment. -/
def mean (g m : EReal) : EReal := Ideal.ofBits .f32 0x3F666666#32 * m + Ideal.ofBits .f32 0x3DCCCCCD#32 * g

/-- The second moment. -/
def square (g v : EReal) : EReal := Ideal.ofBits .f32 0x3F7FBE77#32 * v + Ideal.ofBits .f32 0x3A83126F#32 * (g * g)

/-- The change of the weight. -/
def change (w g m v : EReal) : EReal := Ideal.ofBits .f32 0xBA83126F#32 *
  (Ideal.div (Ideal.div (mean g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

section Body

variable (w g m v : Vec Ideal S256x704 .f32) (y : S256x704.Idx)

theorem pay_mean : k0_pay2 g m y = mean (g y) (m y) := by
  pointwise [k0_pay2, k0_pay1]
  rfl

theorem pay_square : k0_pay3 g v y = square (g y) (v y) := by
  pointwise [k0_pay3, k0_pay1]
  rfl

theorem pay_change : k0_pay4 g m v w y = change (w y) (g y) (m y) (v y) := by
  pointwise [k0_pay4]
  rw [pay_mean, pay_square]
  rfl

end Body

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The array's row that row `p` of point `t`'s block is. -/
abbrev row (t : Fin cfg0.N) (p : Fin 256) : Fin 8192 := ⟨256 * t.val + p.val, by have := t.isLt; have hN : cfg0.N = 32 := N_0; omega⟩

/-- A weight's array in its 8192 rows. -/
abbrev rows (a : FVec Ideal S4x2048x704 .f32) : FVec Ideal S8192x704 .f32 := shapeCast S8192x704 a shapeCasts_S4x2048x704_S8192x704

/-- An index of the rows from its two coordinates. -/
theorem emb_eq {p : Fin 8192} {d : Fin 704} (i : S8192x704.Idx) (h0 : (i 0).val = p.val) (h1 : (i 1).val = d.val) : i = ix2 p d := by
  rw [eq_ix2 i]
  exact congrArg₂ ix2 (Fin.ext h0) (Fin.ext h1)

theorem blk_0 (t : Fin cfg0.N) (y : S256x704.Idx) : (iblk m c 0 t : Vec Ideal S256x704 .f32) y
    = rows (m ((c : Thread nD τ).loc main_arg0)) (ix2 (row t (y 0)) (y 1)) := by
  blk_ext! [iblk, V, idx t]

theorem blk_1 (t : Fin cfg0.N) (y : S256x704.Idx) : (iblk m c 1 t : Vec Ideal S256x704 .f32) y
    = rows (m ((c : Thread nD τ).loc main_arg1)) (ix2 (row t (y 0)) (y 1)) := by
  blk_ext! [iblk, V, idx t]

theorem blk_2 (t : Fin cfg0.N) (y : S256x704.Idx) : (iblk m c 2 t : Vec Ideal S256x704 .f32) y
    = rows (m ((c : Thread nD τ).loc main_arg2)) (ix2 (row t (y 0)) (y 1)) := by
  blk_ext! [iblk, V, idx t]

theorem blk_3 (t : Fin cfg0.N) (y : S256x704.Idx) : (iblk m c 3 t : Vec Ideal S256x704 .f32) y
    = rows (m ((c : Thread nD τ).loc main_arg3)) (ix2 (row t (y 0)) (y 1)) := by
  blk_ext! [iblk, V, idx t]

theorem out4 (t : Fin cfg0.N) (y : S256x704.Idx) : out0_4 (iblk m c 0 t) (iblk m c 1 t) (iblk m c 2 t) (iblk m c 3 t) y
    = change (rows (m ((c : Thread nD τ).loc main_arg0)) (ix2 (row t (y 0)) (y 1))) (rows (m ((c : Thread nD τ).loc main_arg1)) (ix2 (row t (y 0)) (y 1))) (rows (m ((c : Thread nD τ).loc main_arg2)) (ix2 (row t (y 0)) (y 1))) (rows (m ((c : Thread nD τ).loc main_arg3)) (ix2 (row t (y 0)) (y 1))) := by
  have z : (![0, 0] : Fin 2 → ℕ) = fun _ => 0 := by funext a; fin_cases a <;> rfl
  unfold out0_4
  refine (congrFun (View.canon_cons_unit_zero z _ _ _) y).trans ?_
  refine (congrFun (congr (congr (congrArg₂ k0_pay4 (View.ld_unit_zero z _ _) (View.ld_unit_zero z _ _)) (View.ld_unit_zero z _ _)) (View.ld_unit_zero z _ _)) y).trans ?_
  rw [pay_change, blk_0, blk_1, blk_2, blk_3]

theorem result4 : (dats m 0 c).arrAt 4 cfg0.N = fun i : S8192x704.Idx => change (rows (m ((c : Thread nD τ).loc main_arg0)) i) (rows (m ((c : Thread nD τ).loc main_arg1)) i) (rows (m ((c : Thread nD τ).loc main_arg2)) i) (rows (m ((c : Thread nD τ).loc main_arg3)) i) := by
  refine (dats m 0 c).arrAt_eq_of_covers 4 _ (by decide +kernel) fun t _ y => ?_
  have e : (win0_4.blk t).view.emb y = ix2 (row t (y 0)) (y 1) := emb_eq _ (by blk_simp [idx t]; show _ = 256 * t.val + _; omega) (by blk_simp [idx t])
  blk_simp
  rw [after0_4]
  refine (out4 m c t y).trans ?_
  rw [e]
  rfl

theorem out5 (t : Fin cfg0.N) (y : S256x704.Idx) : out0_5 (iblk m c 0 t) (iblk m c 1 t) (iblk m c 2 t) (iblk m c 3 t) y
    = mean (rows (m ((c : Thread nD τ).loc main_arg1)) (ix2 (row t (y 0)) (y 1))) (rows (m ((c : Thread nD τ).loc main_arg2)) (ix2 (row t (y 0)) (y 1))) := by
  have z : (![0, 0] : Fin 2 → ℕ) = fun _ => 0 := by funext a; fin_cases a <;> rfl
  unfold out0_5
  refine (congrFun (View.canon_cons_unit_zero z _ _ _) y).trans ?_
  refine (congrFun (congrArg₂ k0_pay2 (View.ld_unit_zero z _ _) (View.ld_unit_zero z _ _)) y).trans ?_
  rw [pay_mean, blk_1, blk_2]

theorem result5 : (dats m 0 c).arrAt 5 cfg0.N = fun i : S8192x704.Idx => mean (rows (m ((c : Thread nD τ).loc main_arg1)) i) (rows (m ((c : Thread nD τ).loc main_arg2)) i) := by
  refine (dats m 0 c).arrAt_eq_of_covers 5 _ (by decide +kernel) fun t _ y => ?_
  have e : (win0_5.blk t).view.emb y = ix2 (row t (y 0)) (y 1) := emb_eq _ (by blk_simp [idx t]; show _ = 256 * t.val + _; omega) (by blk_simp [idx t])
  blk_simp
  rw [after0_5]
  refine (out5 m c t y).trans ?_
  rw [e]
  rfl

theorem out6 (t : Fin cfg0.N) (y : S256x704.Idx) : out0_6 (iblk m c 0 t) (iblk m c 1 t) (iblk m c 2 t) (iblk m c 3 t) y
    = square (rows (m ((c : Thread nD τ).loc main_arg1)) (ix2 (row t (y 0)) (y 1))) (rows (m ((c : Thread nD τ).loc main_arg3)) (ix2 (row t (y 0)) (y 1))) := by
  have z : (![0, 0] : Fin 2 → ℕ) = fun _ => 0 := by funext a; fin_cases a <;> rfl
  unfold out0_6
  refine (congrFun (View.canon_cons_unit_zero z _ _ _) y).trans ?_
  refine (congrFun (congrArg₂ k0_pay3 (View.ld_unit_zero z _ _) (View.ld_unit_zero z _ _)) y).trans ?_
  rw [pay_square, blk_1, blk_3]

theorem result6 : (dats m 0 c).arrAt 6 cfg0.N = fun i : S8192x704.Idx => square (rows (m ((c : Thread nD τ).loc main_arg1)) i) (rows (m ((c : Thread nD τ).loc main_arg3)) i) := by
  refine (dats m 0 c).arrAt_eq_of_covers 6 _ (by decide +kernel) fun t _ y => ?_
  have e : (win0_6.blk t).view.emb y = ix2 (row t (y 0)) (y 1) := emb_eq _ (by blk_simp [idx t]; show _ = 256 * t.val + _; omega) (by blk_simp [idx t])
  blk_simp
  rw [after0_6]
  refine (out6 m c t y).trans ?_
  rw [e]
  rfl

end Cert.AdamIdeal.Value

namespace Cert.AdamRefIdeal.Read

open Cert.AdamRefIdeal Cert.AdamRefIdeal.Gen Idealize.ShloMosaic
open Cert.AdamIdeal.Value (change mean square rows)

variable (w g m v : FVec Ideal S4x2048x704 .f32) (j : S4x2048x704.Idx) (i : S8192x704.Idx)

theorem v4 : val_main_v4 (F := Ideal) g m j = mean (g j) (m j) := by
  pointwise [val_main_v4, val_main_v3, val_main_v2, val_main_v1, val_main_v0, val_main_cst, val_main_cst_0]
  rfl

theorem v10 : val_main_v10 (F := Ideal) g v j = square (g j) (v j) := by
  pointwise [val_main_v10, val_main_v9, val_main_v8, val_main_v7, val_main_v6, val_main_v5, val_main_cst_1, val_main_cst_2]
  rfl

theorem v23 : val_main_v23 (F := Ideal) w g m v j = change (w j) (g j) (m j) (v j) := by
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]
  rw [v4, v10]
  rfl

/-- The reference's first result. -/
theorem v24 : val_main_v24 (F := Ideal) w g m v i = change (rows w i) (rows g i) (rows m i) (rows v i) := v23 w g m v _

/-- The reference's second result. -/
theorem v25 : val_main_v25 (F := Ideal) g m i = mean (rows g i) (rows m i) := v4 g m _

/-- The reference's third result. -/
theorem v26 : val_main_v26 (F := Ideal) g v i = square (rows g i) (rows v i) := v10 g v _

end Cert.AdamRefIdeal.Read

namespace Cert.Proof

open Idealize.ShloMosaic Idealize.ShloMosaic.TcCoe Idealize.SL.Sem

/-- The reference is host code alone: it declares no semaphore. -/
theorem adamRef_frame : quiescent_AdamRefIdeal := fun m g _ => (θ_run _ _ _).mono
  (fun r h => ⟨fun c => (h c).2.2.2, sem_eq_zero_of_no_sems (by decide) r.2⟩) (AdamRefIdeal.Value.run m g)

theorem adam_algebraic : algebraic_AdamIdeal_AdamRefIdeal := by
  intro m g m' g' _ hargs
  refine ⟨_, _, _, AdamIdeal.Value.run_blocks m g, (θ_run _ _ _).mono (fun r h c => ?_) (AdamRefIdeal.Value.run m' g')⟩
  obtain ⟨h0, h1, h2, ha⟩ := h c
  obtain ⟨e0, e1, e2, e3⟩ := hargs c
  refine ⟨h0.trans ?_, h1.trans ?_, h2.trans ?_, ha⟩
  · rw [AdamRefIdeal.Read.val_main_v24_eq, e0, e1, e2, e3]
    exact Eq.trans (funext fun i => AdamRefIdeal.Read.v24 _ _ _ _ i) (AdamIdeal.Value.result4 m c).symm
  · rw [AdamRefIdeal.Read.val_main_v25_eq, e1, e2]
    exact Eq.trans (funext fun i => AdamRefIdeal.Read.v25 _ _ i) (AdamIdeal.Value.result5 m c).symm
  · rw [AdamRefIdeal.Read.val_main_v26_eq, e1, e3]
    exact Eq.trans (funext fun i => AdamRefIdeal.Read.v26 _ _ i) (AdamIdeal.Value.result6 m c).symm

end Cert.Proof

end
-- ==== Proof.SumClaim.lean ====
/-
  The sum of the devices' packed small gradients and the plain sum over the axis of the devices leave the same result, for
  all arguments; the kernel takes 1120 of the 4480 rows at a time.
-/
module

public import proofs.«01_k».proof.Defs
public import proofs.«01_k».proof.Proof.Gen.SumIdeal.Value
public import proofs.«01_k».proof.Proof.Gen.SumRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Adequacy
public import Idealize.ShloMosaic.Init

@[expose] public section

set_option maxRecDepth 16384

noncomputable section

namespace Cert.SumIdeal.Value

open Cert.SumIdeal Cert.SumIdeal.Gen Idealize.ShloMosaic Idealize.ShloMosaic.TcCoe Idealize.SL.Sem
open Idealize.ShloMosaic.Pipeline (Dat)

/-- A point's block of the sum. -/
theorem pay {x : Vec Ideal S1x8x1120x128 .f32} {X : Fin 8 → Fin 1120 → Fin 128 → EReal} (hx : ∀ k p d, x (ix4 0 k p d) = X k p d)
    (p : Fin 1120) (d : Fin 128) : out0_1 x (ix3 0 p d) = ∑ k, X k p d := by
  have z : (![0, 0, 0] : Fin 3 → ℕ) = fun _ => 0 := by funext a; fin_cases a <;> rfl
  unfold out0_1
  refine (congrFun (View.canon_cons_unit_zero z _ _ _) _).trans ?_
  simp only [View.ld_unit]
  pointwise [k0_pay1, k0_pay2]
  rw [Fin.sum_univ_eight]
  simp only [← hx]

variable (m : (ℓ : Loc nD τ sig) → Buf (Elt Ideal) ℓ) (c : Dev nD) {X : Fin 8 → Fin 4480 → Fin 128 → EReal}
  (hx : ∀ k p d, (m ((c : Thread nD τ).loc main_arg0) : FVec Ideal S1x8x4480x128 .f32) (ix4 0 k p d) = X k p d)

theorem idx : ∀ t : Fin cfg0.N, win0_0.index t = ![0, 0, t.val, 0] ∧ win0_1.index t = ![0, t.val, 0] :=
  (by decide +kernel : ∀ t : Fin grid0.N, _)

/-- The array's row that row `p` of point `t`'s block is. -/
abbrev row (t : Fin cfg0.N) (p : Fin 1120) : Fin 4480 := ⟨1120 * t.val + p.val, by have := t.isLt; have hN : cfg0.N = 4 := N_0; omega⟩

include hx in
theorem blk_0 (t : Fin cfg0.N) (k : Fin 8) (p : Fin 1120) (d : Fin 128) :
    (iblk m c 0 t : Vec Ideal S1x8x1120x128 .f32) (ix4 0 k p d) = X k (row t p) d := by
  rw [← hx]
  blk_ext [iblk, V, idx t]

/-- The axis of length one has one index. -/
theorem ix_one {a b : ℕ} (y : (⟨3, ![1, a, b]⟩ : Shape).Idx) : y = ix3 0 (y 1) (y 2) :=
  (eq_ix3 y).trans (congrArg (fun z : Fin 1 => ix3 z (y 1) (y 2)) (Subsingleton.elim _ 0))

include hx in
theorem result1 : (dats m 0 c).arrAt 1 cfg0.N = fun i : S1x4480x128.Idx => ∑ k, X k (i 1) (i 2) := by
  refine (dats m 0 c).arrAt_eq_of_covers 1 _ (by decide +kernel) fun t _ y => ?_
  have e1 : (win0_1.blk t).view.emb y 1 = row t (y 1) := Fin.ext (by blk_simp [idx t]; show _ = 1120 * t.val + _; omega)
  have e2 : (win0_1.blk t).view.emb y 2 = y 2 := Fin.ext (by blk_simp [idx t])
  blk_simp
  rw [after0_1]
  refine (congrArg _ (ix_one y)).trans ((pay (blk_0 m c hx t) (y 1) (y 2)).trans ?_)
  rw [e1, e2]

end Cert.SumIdeal.Value

namespace Cert.SumRefIdeal.Read

open Cert.SumRefIdeal Cert.SumRefIdeal.Gen Idealize.ShloMosaic

/-- The reference's result. -/
theorem v0 (x : FVec Ideal S1x8x4480x128 .f32) (p : Fin 4480) (d : Fin 128) :
    val_main_v0 (F := Ideal) x (ix3 0 p d) = ∑ k, x (ix4 0 k p d) := by
  pointwise [val_main_v0, val_main_cst]

end Cert.SumRefIdeal.Read

namespace Cert.Proof

open Idealize.ShloMosaic Idealize.ShloMosaic.TcCoe Idealize.SL.Sem

/-- The reference is host code alone: it declares no semaphore. -/
theorem sumdRef_frame : quiescent_SumRefIdeal := fun m g _ => (θ_run _ _ _).mono
  (fun r h => ⟨fun c => (h c).2, sem_eq_zero_of_no_sems (by decide) r.2⟩) (SumRefIdeal.Value.run m g)

theorem sumd_algebraic : algebraic_SumIdeal_SumRefIdeal := by
  intro m g m' g' _ hargs
  refine ⟨_, SumIdeal.Value.run_blocks m g, (θ_run _ _ _).mono (fun r h c => ?_) (SumRefIdeal.Value.run m' g')⟩
  obtain ⟨h0, ha⟩ := h c
  refine ⟨h0.trans ?_, ha⟩
  rw [SumRefIdeal.Read.val_main_v0_eq, hargs c]
  refine Eq.trans (funext fun i => ?_) (SumIdeal.Value.result1 m c (fun _ _ _ => rfl)).symm
  rw [SumIdeal.Value.ix_one i]
  exact SumRefIdeal.Read.v0 _ (i 1) (i 2)

end Cert.Proof

end
-- ==== Proof.SumIntoClaim.lean ====
/-
  The sum of the devices' parts of one weight's gradient, transposed and written at layer 1 of the array of the weights' gradients,
  and the plain sum, transposed and put between the array's other layers, leave the same result, for all arguments. The kernel
  writes 256 of the layer's 2048 rows at a time and no block of the layers 0, 2 and 3, which keep what the array held.
-/
module

public import proofs.«01_k».proof.Defs
public import proofs.«01_k».proof.Proof.Gen.SumIntoIdeal.Value
public import proofs.«01_k».proof.Proof.Gen.SumIntoRefIdeal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Adequacy
public import Idealize.ShloMosaic.Init

@[expose] public section

set_option maxRecDepth 16384

noncomputable section

namespace Cert.SumIntoIdeal.Value

open Cert.SumIntoIdeal Cert.SumIntoIdeal.Gen Idealize.ShloMosaic Idealize.ShloMosaic.TcCoe Idealize.SL.Sem
open Idealize.ShloMosaic.Pipeline (Dat)

/-- A point's block of the sum. -/
theorem pay {x0 x1 x2 x3 x4 x5 x6 x7 : Vec Ideal S1x1x704x256 .bf16} {X : Fin 8 → Fin 704 → Fin 256 → EReal}
    (h0 : ∀ d p, x0 (ix4 0 0 d p) = X 0 d p) (h1 : ∀ d p, x1 (ix4 0 0 d p) = X 1 d p) (h2 : ∀ d p, x2 (ix4 0 0 d p) = X 2 d p)
    (h3 : ∀ d p, x3 (ix4 0 0 d p) = X 3 d p) (h4 : ∀ d p, x4 (ix4 0 0 d p) = X 4 d p) (h5 : ∀ d p, x5 (ix4 0 0 d p) = X 5 d p)
    (h6 : ∀ d p, x6 (ix4 0 0 d p) = X 6 d p) (h7 : ∀ d p, x7 (ix4 0 0 d p) = X 7 d p) (p : Fin 256) (d : Fin 704) :
    k0_pay1 (k0_pay2 x0 x1 x2 x3 x4 x5 x6) x7 (ix3 0 p d) = ∑ k, X k d p := by
  pointwise [k0_pay1, k0_pay2]
  rw [Fin.sum_univ_eight, ← h0, ← h1, ← h2, ← h3, ← h4, ← h5, ← h6, ← h7]

variable (m : (ℓ : Loc nD τ sig) → Buf (Elt Ideal) ℓ) (c : Dev nD) {X : Fin 8 → Fin 704 → Fin 2048 → EReal}
  (hx : ∀ k d p, (m ((c : Thread nD τ).loc main_arg0) : FVec Ideal S1x8x704x2048 .bf16) (ix4 0 k d p) = X k d p)

theorem idx : ∀ t : Fin cfg0.N, win0_0.index t = ![0, 0, 0, t.val] ∧ win0_1.index t = ![1, t.val, 0] :=
  (by decide +kernel : ∀ t : Fin grid0.N, _)

/-- The layer's row that row `p` of point `t`'s block is. -/
abbrev row (t : Fin cfg0.N) (p : Fin 256) : Fin 2048 := ⟨256 * t.val + p.val, by have := t.isLt; have hN : cfg0.N = 8 := N_0; omega⟩

include hx in
theorem blk_0 (t : Fin cfg0.N) (k : Fin 8) (d : Fin 704) (p : Fin 256) :
    (iblk m c 0 t : Vec Ideal S1x8x704x256 .bf16) (ix4 0 k d p) = X k d (row t p) := by
  rw [← hx]
  blk_ext [iblk, V, idx t]

/-- One device's part, as a point reads it. -/
def part (x : Vec Ideal S1x8x704x256 .bf16) (k : Fin 8) : Vec Ideal S1x1x704x256 .bf16 :=
  View.ld x (Rect.unit (s := S1x8x704x256) ![0, k.val, 0, 0] S1x1x704x256.size (fun a => by have := k.isLt; fin_cases a <;> simp <;> omega))

theorem part_apply (x : Vec Ideal S1x8x704x256 .bf16) (k : Fin 8) (d : Fin 704) (p : Fin 256) :
    part x k (ix4 0 0 d p) = x (ix4 0 k d p) :=
  View.ld_unit_apply_of x _ _ _ _ _ fun a => by fin_cases a <;> simp

/-- The axis of length one has one index. -/
theorem ix_one {a b : ℕ} (y : (⟨3, ![1, a, b]⟩ : Shape).Idx) : y = ix3 0 (y 1) (y 2) :=
  (eq_ix3 y).trans (congrArg (fun z : Fin 1 => ix3 z (y 1) (y 2)) (Subsingleton.elim _ 0))

include hx in
theorem out (t : Fin cfg0.N) (p : Fin 256) (d : Fin 704) : outsAt0 m c t (ix3 0 p d) = ∑ k, X k d (row t p) := by
  have e : outsAt0 m c t = (fun x => k0_pay1 (k0_pay2 (part x 0) (part x 1) (part x 2) (part x 3) (part x 4) (part x 5) (part x 6)) (part x 7))
      (iblk m c 0 t : Vec Ideal S1x8x704x256 .bf16) := by
    unfold outsAt0
    frame_out
    rfl
  have h (k : Fin 8) (d : Fin 704) (p : Fin 256) := (part_apply (iblk m c 0 t) k d p).trans (blk_0 m c hx t k d p)
  rw [e]
  exact (pay (X := fun k d p => X k d (row t p)) (h 0) (h 1) (h 2) (h 3) (h 4) (h 5) (h 6) (h 7) p d)

/-- What the result array holds before the launch: a copy of the array given. -/
theorem V_v0 : V m c main_v0 = m ((c : Thread nD τ).loc main_arg1) := by
  after_reads_simp
  rfl

include hx in
theorem result1 : (dats m 0 c).arrAt 1 cfg0.N = fun i : S4x2048x704.Idx => if (i 0).val = 1 then ∑ k, X k (i 2) (i 1)
    else (m ((c : Thread nD τ).loc main_arg1) : FVec Ideal S4x2048x704 .f32) i := by
  refine (dats m 0 c).arrAt_eq_of_coversWhere_of_agree 1 _ (fun b => b 0 = 1) (by decide +kernel) (fun t _ y => ?_) fun j hj => ?_
  · have e1 : (win0_1.blk t).view.emb y 1 = row t (y 1) := Fin.ext (by blk_simp [idx t]; show _ = 256 * t.val + _; omega)
    have e2 : (win0_1.blk t).view.emb y 2 = y 2 := Fin.ext (by blk_simp [idx t])
    blk_simp
    rw [after0_1]
    refine (congrArg _ (ix_one y)).trans ((out m c hx t (y 1) (y 2)).trans ?_)
    refine Eq.trans ?_ (if_pos (by blk_simp [idx t])).symm
    rw [e1, e2]
  · have e0 : ((win0_1.arr.view.emb j) 0).val ≠ 1 := by
      blk_simp [Pipeline.Window.cell_apply] at hj ⊢
      rwa [Nat.div_one] at hj
    rw [if_neg e0]
    exact congrFun (V_v0 m c) _

end Cert.SumIntoIdeal.Value

namespace Cert.SumIntoRefIdeal.Read

open Cert.SumIntoRefIdeal Cert.SumIntoRefIdeal.Gen Idealize.ShloMosaic

/-- The reference's result. -/
theorem v5 (x : FVec Ideal S1x8x704x2048 .bf16) (g : FVec Ideal S4x2048x704 .f32) (l : Fin 4) (p : Fin 2048) (d : Fin 704) :
    val_main_v5 (F := Ideal) x g (ix3 l p d) = if l.val = 1 then ∑ k, x (ix4 0 k d p) else g (ix3 l p d) := by
  have e3 : val_main_v3 (F := Ideal) x (ix3 0 p d) = ∑ k, x (ix4 0 k d p) := by
    pointwise [val_main_v3, val_main_v2, val_main_v1, val_main_cst]
  fin_cases l
  · pointwise [val_main_v5, val_main_v0]
  · pointwise [val_main_v5]
    exact e3
  · pointwise [val_main_v5, val_main_v4]
  · pointwise [val_main_v5, val_main_v4]

end Cert.SumIntoRefIdeal.Read

namespace Cert.Proof

open Idealize.ShloMosaic Idealize.ShloMosaic.TcCoe Idealize.SL.Sem

/-- The reference is host code alone: it declares no semaphore. -/
theorem sintoRef_frame : quiescent_SumIntoRefIdeal := fun m g _ => (θ_run _ _ _).mono
  (fun r h => ⟨fun c => (h c).2, sem_eq_zero_of_no_sems (by decide) r.2⟩) (SumIntoRefIdeal.Value.run m g)

theorem sinto_algebraic : algebraic_SumIntoIdeal_SumIntoRefIdeal := by
  intro m g m' g' _ hargs
  refine ⟨_, SumIntoIdeal.Value.run_blocks m g, (θ_run _ _ _).mono (fun r h c => ?_) (SumIntoRefIdeal.Value.run m' g')⟩
  obtain ⟨h0, ha⟩ := h c
  refine ⟨h0.trans ?_, ha⟩
  rw [SumIntoRefIdeal.Read.val_main_v5_eq, (hargs c).1, (hargs c).2]
  refine Eq.trans (funext fun i => ?_) (SumIntoIdeal.Value.result1 m c (fun _ _ _ => rfl)).symm
  rw [eq_ix3 i]
  exact SumIntoRefIdeal.Read.v5 _ _ (i 0) (i 1) (i 2)

end Cert.Proof

end
-- ==== Proof.lean ====
/-
  The certificate: the side conditions of every program, the frames, and the claims about values, each proved in the
  module of its call.
-/
module

public import proofs.«01_k».proof.Defs
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.LossClaim
public import proofs.«01_k».proof.Proof.Gen.Sg
public import proofs.«01_k».proof.Proof.Gen.Sg.Frame
public import proofs.«01_k».proof.Proof.Gen.SgIdeal
public import proofs.«01_k».proof.Proof.Gen.SgIdeal.Frame
public import proofs.«01_k».proof.Proof.Gen.SgIdeal.Value
public import proofs.«01_k».proof.Proof.Gen.SgRefIdeal
public import proofs.«01_k».proof.Proof.Gen.SgRefIdeal.Run
public import proofs.«01_k».proof.Proof.Gen.SgRefIdeal.Read
public import proofs.«01_k».proof.Proof.Gen.Pre_sg_finite
public import proofs.«01_k».proof.Proof.SgClaim
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.AttnBits
public import proofs.«01_k».proof.Proof.AttnClaim
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.DhRefIdeal.Read
public import proofs.«01_k».proof.Proof.Gen.Pre_dh_finite
public import proofs.«01_k».proof.Proof.DhClaim
public import proofs.«01_k».proof.Proof.Gen.Dm
public import proofs.«01_k».proof.Proof.Gen.Dm.Frame
public import proofs.«01_k».proof.Proof.Gen.DmIdeal
public import proofs.«01_k».proof.Proof.Gen.DmIdeal.Frame
public import proofs.«01_k».proof.Proof.Gen.DmIdeal.Value
public import proofs.«01_k».proof.Proof.Gen.DmRefIdeal
public import proofs.«01_k».proof.Proof.Gen.DmRefIdeal.Run
public import proofs.«01_k».proof.Proof.Gen.DmRefIdeal.Read
public import proofs.«01_k».proof.Proof.Gen.Pre_dhm_finite
public import proofs.«01_k».proof.Proof.DmClaim
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateRefIdeal
public import proofs.«01_k».proof.Proof.Gen.GateRefIdeal.Run
public import proofs.«01_k».proof.Proof.Gen.GateRefIdeal.Read
public import proofs.«01_k».proof.Proof.Gen.Pre_ffn_finite
public import proofs.«01_k».proof.Proof.GateClaim
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Pre_pool_finite
public import proofs.«01_k».proof.Proof.PoolClaim
public import proofs.«01_k».proof.Proof.Gen.AttnF
public import proofs.«01_k».proof.Proof.Gen.AttnF.Frame
public import proofs.«01_k».proof.Proof.Gen.AttnFIdeal
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.Gen.AttnFRefIdeal.Read
public import proofs.«01_k».proof.Proof.Gen.Pre_attnf_finite
public import proofs.«01_k».proof.Proof.AttnFClaim
public import proofs.«01_k».proof.Proof.Gen.SgF
public import proofs.«01_k».proof.Proof.Gen.SgF.Frame
public import proofs.«01_k».proof.Proof.Gen.SgFIdeal
public import proofs.«01_k».proof.Proof.Gen.SgFIdeal.Frame
public import proofs.«01_k».proof.Proof.Gen.SgFIdeal.Value
public import proofs.«01_k».proof.Proof.Gen.SgFRefIdeal
public import proofs.«01_k».proof.Proof.Gen.SgFRefIdeal.Run
public import proofs.«01_k».proof.Proof.Gen.SgFRefIdeal.Read
public import proofs.«01_k».proof.Proof.SgFClaim
public import proofs.«01_k».proof.Proof.Gen.PoolF
public import proofs.«01_k».proof.Proof.Gen.PoolF.Frame
public import proofs.«01_k».proof.Proof.Gen.PoolFIdeal
public import proofs.«01_k».proof.Proof.Gen.PoolFIdeal.Frame
public import proofs.«01_k».proof.Proof.Gen.PoolFIdeal.Value
public import proofs.«01_k».proof.Proof.Gen.PoolFRefIdeal
public import proofs.«01_k».proof.Proof.Gen.PoolFRefIdeal.Run
public import proofs.«01_k».proof.Proof.Gen.PoolFRefIdeal.Read
public import proofs.«01_k».proof.Proof.Gen.Pre_poolf_finite
public import proofs.«01_k».proof.Proof.PoolFClaim
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.ActRefIdeal.Read
public import proofs.«01_k».proof.Proof.ActClaim
public import proofs.«01_k».proof.Proof.Gen.Rms
public import proofs.«01_k».proof.Proof.Gen.Rms.Frame
public import proofs.«01_k».proof.Proof.Gen.RmsIdeal
public import proofs.«01_k».proof.Proof.Gen.RmsIdeal.Frame
public import proofs.«01_k».proof.Proof.Gen.RmsIdeal.Value
public import proofs.«01_k».proof.Proof.Gen.RmsRefIdeal
public import proofs.«01_k».proof.Proof.Gen.RmsRefIdeal.Run
public import proofs.«01_k».proof.Proof.Gen.RmsRefIdeal.Read
public import proofs.«01_k».proof.Proof.RmsClaim
public import proofs.«01_k».proof.Proof.Gen.Res
public import proofs.«01_k».proof.Proof.Gen.Res.Frame
public import proofs.«01_k».proof.Proof.Gen.ResIdeal
public import proofs.«01_k».proof.Proof.Gen.ResIdeal.Frame
public import proofs.«01_k».proof.Proof.Gen.ResIdeal.Value
public import proofs.«01_k».proof.Proof.Gen.ResRefIdeal
public import proofs.«01_k».proof.Proof.Gen.ResRefIdeal.Run
public import proofs.«01_k».proof.Proof.Gen.ResRefIdeal.Read
public import proofs.«01_k».proof.Proof.ResClaim
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.MixClaim
public import proofs.«01_k».proof.Proof.Gen.Dy
public import proofs.«01_k».proof.Proof.Gen.Dy.Frame
public import proofs.«01_k».proof.Proof.Gen.DyIdeal
public import proofs.«01_k».proof.Proof.Gen.DyIdeal.Frame
public import proofs.«01_k».proof.Proof.Gen.DyIdeal.Value
public import proofs.«01_k».proof.Proof.Gen.DyRefIdeal
public import proofs.«01_k».proof.Proof.Gen.DyRefIdeal.Run
public import proofs.«01_k».proof.Proof.Gen.DyRefIdeal.Read
public import proofs.«01_k».proof.Proof.DyClaim
public import proofs.«01_k».proof.Proof.Gen.Dw
public import proofs.«01_k».proof.Proof.Gen.Dw.Frame
public import proofs.«01_k».proof.Proof.Gen.DwIdeal
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Run
public import proofs.«01_k».proof.Proof.Gen.DwRefIdeal.Read
public import proofs.«01_k».proof.Proof.DwClaim
public import proofs.«01_k».proof.Proof.Gen.Zp
public import proofs.«01_k».proof.Proof.Gen.Zp.Frame
public import proofs.«01_k».proof.Proof.Gen.ZpIdeal
public import proofs.«01_k».proof.Proof.Gen.ZpIdeal.Frame
public import proofs.«01_k».proof.Proof.Gen.ZpIdeal.Skeleton
public import proofs.«01_k».proof.Proof.Gen.ZpIdeal.Launch
public import proofs.«01_k».proof.Proof.Gen.ZpIdeal.Points
public import proofs.«01_k».proof.Proof.Gen.ZpRefIdeal
public import proofs.«01_k».proof.Proof.Gen.ZpRefIdeal.Run
public import proofs.«01_k».proof.Proof.Gen.ZpRefIdeal.Read
public import proofs.«01_k».proof.Proof.ZpBits
public import proofs.«01_k».proof.Proof.ZpClaim
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.AdamClaim
public import proofs.«01_k».proof.Proof.Gen.Sum
public import proofs.«01_k».proof.Proof.Gen.Sum.Frame
public import proofs.«01_k».proof.Proof.Gen.SumIdeal
public import proofs.«01_k».proof.Proof.Gen.SumIdeal.Frame
public import proofs.«01_k».proof.Proof.Gen.SumIdeal.Value
public import proofs.«01_k».proof.Proof.Gen.SumRefIdeal
public import proofs.«01_k».proof.Proof.Gen.SumRefIdeal.Run
public import proofs.«01_k».proof.Proof.Gen.SumRefIdeal.Read
public import proofs.«01_k».proof.Proof.SumClaim
public import proofs.«01_k».proof.Proof.Gen.SumInto
public import proofs.«01_k».proof.Proof.Gen.SumInto.Frame
public import proofs.«01_k».proof.Proof.Gen.SumIntoIdeal
public import proofs.«01_k».proof.Proof.Gen.SumIntoIdeal.Frame
public import proofs.«01_k».proof.Proof.Gen.SumIntoIdeal.Value
public import proofs.«01_k».proof.Proof.Gen.SumIntoRefIdeal
public import proofs.«01_k».proof.Proof.Gen.SumIntoRefIdeal.Run
public import proofs.«01_k».proof.Proof.Gen.SumIntoRefIdeal.Read
public import proofs.«01_k».proof.Proof.SumIntoClaim
public import Idealize.ShloMosaic.Adequacy
public import Idealize.ShloMosaic.Init

@[expose] public section

noncomputable section

namespace Cert.Proof

open Idealize.ShloMosaic Idealize.SL.Sem Cert.Loss

/-- The reference is host code alone: it declares no semaphore. -/
theorem lossRef_frame : quiescent_LossRefIdeal := fun m g _ => (θ_run _ _ _).mono
  (fun r h => ⟨fun c => (h c).2.2.2.2, sem_eq_zero_of_no_sems (by decide) r.2⟩) (LossRefIdeal.Value.run m g)

theorem claim : Cert.Claim := ⟨Cert.Loss.Gen.facts,
  Cert.LossIdeal.Gen.facts,
  Cert.LossRefIdeal.Gen.facts,
  Cert.Sg.Gen.facts,
  Cert.SgIdeal.Gen.facts,
  Cert.SgRefIdeal.Gen.facts,
  Cert.Attn.Gen.facts,
  Cert.AttnIdeal.Gen.facts,
  Cert.AttnRefIdeal.Gen.facts,
  Cert.Dh.Gen.facts,
  Cert.DhIdeal.Gen.facts,
  Cert.DhRefIdeal.Gen.facts,
  Cert.Dm.Gen.facts,
  Cert.DmIdeal.Gen.facts,
  Cert.DmRefIdeal.Gen.facts,
  Cert.Gate.Gen.facts,
  Cert.GateIdeal.Gen.facts,
  Cert.GateRefIdeal.Gen.facts,
  Cert.Pool.Gen.facts,
  Cert.PoolIdeal.Gen.facts,
  Cert.PoolRefIdeal.Gen.facts,
  Cert.AttnF.Gen.facts,
  Cert.AttnFIdeal.Gen.facts,
  Cert.AttnFRefIdeal.Gen.facts,
  Cert.SgF.Gen.facts,
  Cert.SgFIdeal.Gen.facts,
  Cert.SgFRefIdeal.Gen.facts,
  Cert.PoolF.Gen.facts,
  Cert.PoolFIdeal.Gen.facts,
  Cert.PoolFRefIdeal.Gen.facts,
  Cert.Act.Gen.facts,
  Cert.ActIdeal.Gen.facts,
  Cert.ActRefIdeal.Gen.facts,
  Cert.Rms.Gen.facts,
  Cert.RmsIdeal.Gen.facts,
  Cert.RmsRefIdeal.Gen.facts,
  Cert.Res.Gen.facts,
  Cert.ResIdeal.Gen.facts,
  Cert.ResRefIdeal.Gen.facts,
  Cert.Mix.Gen.facts,
  Cert.MixIdeal.Gen.facts,
  Cert.MixRefIdeal.Gen.facts,
  Cert.Dy.Gen.facts,
  Cert.DyIdeal.Gen.facts,
  Cert.DyRefIdeal.Gen.facts,
  Cert.Dw.Gen.facts,
  Cert.DwIdeal.Gen.facts,
  Cert.DwRefIdeal.Gen.facts,
  Cert.Zp.Gen.facts,
  Cert.ZpIdeal.Gen.facts,
  Cert.ZpRefIdeal.Gen.facts,
  Cert.Adam.Gen.facts,
  Cert.AdamIdeal.Gen.facts,
  Cert.AdamRefIdeal.Gen.facts,
  Cert.Sum.Gen.facts,
  Cert.SumIdeal.Gen.facts,
  Cert.SumRefIdeal.Gen.facts,
  Cert.SumInto.Gen.facts,
  Cert.SumIntoIdeal.Gen.facts,
  Cert.SumIntoRefIdeal.Gen.facts,
  Cert.Pre_loss_finite.Gen.facts,
  Cert.Pre_sg_finite.Gen.facts,
  Cert.Pre_attn_finite.Gen.facts,
  Cert.Pre_dh_finite.Gen.facts,
  Cert.Pre_dhm_finite.Gen.facts,
  Cert.Pre_ffn_finite.Gen.facts,
  Cert.Pre_pool_finite.Gen.facts,
  Cert.Pre_attnf_finite.Gen.facts,
  Cert.Pre_poolf_finite.Gen.facts,
  fun m g _ => Cert.Loss.Gen.frame m g,
  fun m g _ => Cert.LossIdeal.Gen.frame m g,
  fun m g _ => Cert.LossIdeal.Gen.frame m g,
  fun m g _ => lossRef_frame m g trivial,
  fun m g _ => lossRef_frame m g trivial,
  fun m g _ => Cert.Sg.Gen.frame m g,
  fun m g _ => Cert.SgIdeal.Gen.frame m g,
  fun m g _ => Cert.SgIdeal.Gen.frame m g,
  fun m g _ => sgRef_frame m g trivial,
  fun m g _ => sgRef_frame m g trivial,
  fun m g _ => Cert.Attn.Body.frame m g,
  fun m g _ => Cert.AttnIdeal.Body.frame m g,
  fun m g _ => Cert.AttnIdeal.Body.frame m g,
  fun m g _ => attnRef_frame m g trivial,
  fun m g _ => attnRef_frame m g trivial,
  fun m g _ => Cert.Dh.Gen.frame m g,
  fun m g _ => Cert.DhIdeal.Gen.frame m g,
  fun m g _ => Cert.DhIdeal.Gen.frame m g,
  fun m g _ => dhRef_frame m g trivial,
  fun m g _ => dhRef_frame m g trivial,
  fun m g _ => Cert.Dm.Gen.frame m g,
  fun m g _ => Cert.DmIdeal.Gen.frame m g,
  fun m g _ => Cert.DmIdeal.Gen.frame m g,
  fun m g _ => dmRef_frame m g trivial,
  fun m g _ => dmRef_frame m g trivial,
  fun m g _ => Cert.Gate.Gen.frame m g,
  fun m g _ => Cert.GateIdeal.Gen.frame m g,
  fun m g _ => Cert.GateIdeal.Gen.frame m g,
  fun m g _ => gateRef_frame m g trivial,
  fun m g _ => gateRef_frame m g trivial,
  fun m g _ => Cert.Pool.Gen.frame m g,
  fun m g _ => Cert.PoolIdeal.Gen.frame m g,
  fun m g _ => Cert.PoolIdeal.Gen.frame m g,
  fun m g _ => poolRef_frame m g trivial,
  fun m g _ => poolRef_frame m g trivial,
  fun m g _ => Cert.AttnF.Gen.frame m g,
  fun m g _ => Cert.AttnFIdeal.Gen.frame m g,
  fun m g _ => Cert.AttnFIdeal.Gen.frame m g,
  fun m g _ => attnfRef_frame m g trivial,
  fun m g _ => attnfRef_frame m g trivial,
  fun m g _ => Cert.SgF.Gen.frame m g,
  fun m g _ => Cert.SgFIdeal.Gen.frame m g,
  fun m g _ => sgfRef_frame m g trivial,
  fun m g _ => Cert.PoolF.Gen.frame m g,
  fun m g _ => Cert.PoolFIdeal.Gen.frame m g,
  fun m g _ => Cert.PoolFIdeal.Gen.frame m g,
  fun m g _ => poolfRef_frame m g trivial,
  fun m g _ => poolfRef_frame m g trivial,
  fun m g _ => Cert.Act.Gen.frame m g,
  fun m g _ => Cert.ActIdeal.Gen.frame m g,
  fun m g _ => guRef_frame m g trivial,
  fun m g _ => Cert.Rms.Gen.frame m g,
  fun m g _ => Cert.RmsIdeal.Gen.frame m g,
  fun m g _ => rmsRef_frame m g trivial,
  fun m g _ => Cert.Res.Gen.frame m g,
  fun m g _ => Cert.ResIdeal.Gen.frame m g,
  fun m g _ => resRef_frame m g trivial,
  fun m g _ => Cert.Mix.Gen.frame m g,
  fun m g _ => Cert.MixIdeal.Gen.frame m g,
  fun m g _ => mixRef_frame m g trivial,
  fun m g _ => Cert.Dy.Gen.frame m g,
  fun m g _ => Cert.DyIdeal.Gen.frame m g,
  fun m g _ => ntRef_frame m g trivial,
  fun m g _ => Cert.Dw.Gen.frame m g,
  fun m g _ => Cert.DwIdeal.Gen.frame m g,
  fun m g _ => tnRef_frame m g trivial,
  fun m g _ => Cert.Zp.Body.frame m g,
  fun m g _ => Cert.ZpIdeal.Body.frame m g,
  fun m g _ => zpRef_frame m g trivial,
  fun m g _ => Cert.Adam.Gen.frame m g,
  fun m g _ => Cert.AdamIdeal.Gen.frame m g,
  fun m g _ => adamRef_frame m g trivial,
  fun m g _ => Cert.Sum.Gen.frame m g,
  fun m g _ => Cert.SumIdeal.Gen.frame m g,
  fun m g _ => sumdRef_frame m g trivial,
  fun m g _ => Cert.SumInto.Gen.frame m g,
  fun m g _ => Cert.SumIntoIdeal.Gen.frame m g,
  fun m g _ => sintoRef_frame m g trivial,
  trivial,
  loss_algebraic,
  sg_preserves,
  sg_algebraic,
  attn_preserves,
  attn_algebraic,
  trivial,
  dh_algebraic,
  trivial,
  dm_algebraic,
  trivial,
  gate_algebraic,
  trivial,
  pool_algebraic,
  attnf_preserves,
  attnf_algebraic,
  sgf_preserves,
  sgf_algebraic,
  trivial,
  poolf_algebraic,
  trivial,
  gu_algebraic,
  trivial,
  rms_algebraic,
  trivial,
  res_algebraic,
  trivial,
  mix_algebraic,
  trivial,
  nt_algebraic,
  trivial,
  tn_algebraic,
  trivial,
  zp_algebraic,
  trivial,
  adam_algebraic,
  trivial,
  sumd_algebraic,
  trivial,
  sinto_algebraic⟩

end Cert.Proof

end
